-- ==== Defs.lean ====
def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetIdeal_finite_forget [hPre_finite_forget : Cert.Pre_finite_forget.Facts] (m : (ℓ : Loc Cert.ForgetIdeal.nD Cert.ForgetIdeal.τ Cert.ForgetIdeal.sig) → Buf (Elt Ideal) ℓ) : Prop :=
  ∀ c : Dev Cert.ForgetIdeal.nD,
    (Cert.Pre_finite_forget.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2))).1 = (fun _ => 1#1)
    ∧ (Cert.Pre_finite_forget.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2))).2.1 = (fun _ => 1#1)
    ∧ (Cert.Pre_finite_forget.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2))).2.2 = (fun _ => 1#1)

def Pre_ForgetRefIdeal (m : (ℓ : Loc Cert.ForgetRefIdeal.nD Cert.ForgetRefIdeal.τ Cert.ForgetRefIdeal.sig) → Buf (Elt Ideal) ℓ) : Prop :=
  True

def Pre_ForgetRefIdeal_finite_forget [hPre_finite_forget : Cert.Pre_finite_forget.Facts] (m : (ℓ : Loc Cert.ForgetRefIdeal.nD Cert.ForgetRefIdeal.τ Cert.ForgetRefIdeal.sig) → Buf (Elt Ideal) ℓ) : Prop :=
  ∀ c : Dev Cert.ForgetRefIdeal.nD,
    (Cert.Pre_finite_forget.fn (F := Ideal) (m ((c.tc : Thread Cert.ForgetRefIdeal.nD Cert.ForgetRefIdeal.τ).loc Cert.ForgetRefIdeal.main_arg0)) (m ((c.tc : Thread Cert.ForgetRefIdeal.nD Cert.ForgetRefIdeal.τ).loc Cert.ForgetRefIdeal.main_arg1)) (m ((c.tc : Thread Cert.ForgetRefIdeal.nD Cert.ForgetRefIdeal.τ).loc Cert.ForgetRefIdeal.main_arg2))).1 = (fun _ => 1#1)
    ∧ (Cert.Pre_finite_forget.fn (F := Ideal) (m ((c.tc : Thread Cert.ForgetRefIdeal.nD Cert.ForgetRefIdeal.τ).loc Cert.ForgetRefIdeal.main_arg0)) (m ((c.tc : Thread Cert.ForgetRefIdeal.nD Cert.ForgetRefIdeal.τ).loc Cert.ForgetRefIdeal.main_arg1)) (m ((c.tc : Thread Cert.ForgetRefIdeal.nD Cert.ForgetRefIdeal.τ).loc Cert.ForgetRefIdeal.main_arg2))).2.1 = (fun _ => 1#1)
    ∧ (Cert.Pre_finite_forget.fn (F := Ideal) (m ((c.tc : Thread Cert.ForgetRefIdeal.nD Cert.ForgetRefIdeal.τ).loc Cert.ForgetRefIdeal.main_arg0)) (m ((c.tc : Thread Cert.ForgetRefIdeal.nD Cert.ForgetRefIdeal.τ).loc Cert.ForgetRefIdeal.main_arg1)) (m ((c.tc : Thread Cert.ForgetRefIdeal.nD Cert.ForgetRefIdeal.τ).loc Cert.ForgetRefIdeal.main_arg2))).2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_inb [hPre_finite_inb : Cert.Pre_finite_inb.Facts] (m : (ℓ : Loc Cert.InProjIdeal.nD Cert.InProjIdeal.τ Cert.InProjIdeal.sig) → Buf (Elt Ideal) ℓ) : Prop :=
  ∀ c : Dev Cert.InProjIdeal.nD,
    (Cert.Pre_finite_inb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_finite_inb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.1 = (fun _ => 1#1)
    ∧ (Cert.Pre_finite_inb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.1 = (fun _ => 1#1)
    ∧ (Cert.Pre_finite_inb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2.1 = (fun _ => 1#1)
    ∧ (Cert.Pre_finite_inb.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_inb [hPre_finite_inb : Cert.Pre_finite_inb.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_inb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_finite_inb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.1 = (fun _ => 1#1)
    ∧ (Cert.Pre_finite_inb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.1 = (fun _ => 1#1)
    ∧ (Cert.Pre_finite_inb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2.1 = (fun _ => 1#1)
    ∧ (Cert.Pre_finite_inb.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffnb [hPre_finite_ffnb : Cert.Pre_finite_ffnb.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffnb.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite_ffnb.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite_ffnb.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite_ffnb.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite_ffnb.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_finite_ffnb.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffnb [hPre_finite_ffnb : Cert.Pre_finite_ffnb.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffnb.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).1 = (fun _ => 1#1)
    ∧ (Cert.Pre_finite_ffnb.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.1 = (fun _ => 1#1)
    ∧ (Cert.Pre_finite_ffnb.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.1 = (fun _ => 1#1)
    ∧ (Cert.Pre_finite_ffnb.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.1 = (fun _ => 1#1)
    ∧ (Cert.Pre_finite_ffnb.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.1 = (fun _ => 1#1)
    ∧ (Cert.Pre_finite_ffnb.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffnf [hPre_finite_ffnf : Cert.Pre_finite_ffnf.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffnf.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))).1 = (fun _ => 1#1)
    ∧ (Cert.Pre_finite_ffnf.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))).2.1 = (fun _ => 1#1)
    ∧ (Cert.Pre_finite_ffnf.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))).2.2.1 = (fun _ => 1#1)
    ∧ (Cert.Pre_finite_ffnf.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))).2.2.2.1 = (fun _ => 1#1)
    ∧ (Cert.Pre_finite_ffnf.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))).2.2.2.2.1 = (fun _ => 1#1)
    ∧ (Cert.Pre_finite_ffnf.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))).2.2.2.2.2.1 = (fun _ => 1#1)
    ∧ (Cert.Pre_finite_ffnf.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))).2.2.2.2.2.2 = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffnf [hPre_finite_ffnf : Cert.Pre_finite_ffnf.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffnf.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))).1 = (fun _ => 1#1)
    ∧ (Cert.Pre_finite_ffnf.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))).2.1 = (fun _ => 1#1)
    ∧ (Cert.Pre_finite_ffnf.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))).2.2.1 = (fun _ => 1#1)
    ∧ (Cert.Pre_finite_ffnf.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))).2.2.2.1 = (fun _ => 1#1)
    ∧ (Cert.Pre_finite_ffnf.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))).2.2.2.2.1 = (fun _ => 1#1)
    ∧ (Cert.Pre_finite_ffnf.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))).2.2.2.2.2.1 = (fun _ => 1#1)
    ∧ (Cert.Pre_finite_ffnf.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))).2.2.2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnf [hPre_finite_attnf : Cert.Pre_finite_attnf.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnf.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_finite_attnf.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnf [hPre_finite_attnf : Cert.Pre_finite_attnf.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnf.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_finite_attnf.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_Cumul (m : (ℓ : Loc Cert.Cumul.nD Cert.Cumul.τ Cert.Cumul.sig) → Buf (Elt Bits) ℓ) : Prop :=
  True

def Pre_CumulIdeal (m : (ℓ : Loc Cert.CumulIdeal.nD Cert.CumulIdeal.τ Cert.CumulIdeal.sig) → Buf (Elt Ideal) ℓ) : Prop :=
  True

def Pre_CumulIdeal_finite_cum [hPre_finite_cum : Cert.Pre_finite_cum.Facts] (m : (ℓ : Loc Cert.CumulIdeal.nD Cert.CumulIdeal.τ Cert.CumulIdeal.sig) → Buf (Elt Ideal) ℓ) : Prop :=
  ∀ c : Dev Cert.CumulIdeal.nD,
    (Cert.Pre_finite_cum.fn (F := Ideal) (m ((c.tc : Thread Cert.CumulIdeal.nD Cert.CumulIdeal.τ).loc Cert.CumulIdeal.main_arg0)) (m ((c.tc : Thread Cert.CumulIdeal.nD Cert.CumulIdeal.τ).loc Cert.CumulIdeal.main_arg1))).1 = (fun _ => 1#1)
    ∧ (Cert.Pre_finite_cum.fn (F := Ideal) (m ((c.tc : Thread Cert.CumulIdeal.nD Cert.CumulIdeal.τ).loc Cert.CumulIdeal.main_arg0)) (m ((c.tc : Thread Cert.CumulIdeal.nD Cert.CumulIdeal.τ).loc Cert.CumulIdeal.main_arg1))).2 = (fun _ => 1#1)

def Pre_CumulRefIdeal (m : (ℓ : Loc Cert.CumulRefIdeal.nD Cert.CumulRefIdeal.τ Cert.CumulRefIdeal.sig) → Buf (Elt Ideal) ℓ) : Prop :=
  True

def Pre_CumulRefIdeal_finite_cum [hPre_finite_cum : Cert.Pre_finite_cum.Facts] (m : (ℓ : Loc Cert.CumulRefIdeal.nD Cert.CumulRefIdeal.τ Cert.CumulRefIdeal.sig) → Buf (Elt Ideal) ℓ) : Prop :=
  ∀ c : Dev Cert.CumulRefIdeal.nD,
    (Cert.Pre_finite_cum.fn (F := Ideal) (m ((c.tc : Thread Cert.CumulRefIdeal.nD Cert.CumulRefIdeal.τ).loc Cert.CumulRefIdeal.main_arg0)) (m ((c.tc : Thread Cert.CumulRefIdeal.nD Cert.CumulRefIdeal.τ).loc Cert.CumulRefIdeal.main_arg1))).1 = (fun _ => 1#1)
    ∧ (Cert.Pre_finite_cum.fn (F := Ideal) (m ((c.tc : Thread Cert.CumulRefIdeal.nD Cert.CumulRefIdeal.τ).loc Cert.CumulRefIdeal.main_arg0)) (m ((c.tc : Thread Cert.CumulRefIdeal.nD Cert.CumulRefIdeal.τ).loc Cert.CumulRefIdeal.main_arg1))).2 = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdIdeal_finite_inf [hPre_finite_inf : Cert.Pre_finite_inf.Facts] (m : (ℓ : Loc Cert.InFwdIdeal.nD Cert.InFwdIdeal.τ Cert.InFwdIdeal.sig) → Buf (Elt Ideal) ℓ) : Prop :=
  ∀ c : Dev Cert.InFwdIdeal.nD,
    (Cert.Pre_finite_inf.fn (F := Ideal) (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)) (m ((c.tc : Thread Cert.InFwdIdeal.nD Cert.InFwdIdeal.τ).loc Cert.InFwdIdeal.main_arg2))).1 = (fun _ => 1#1)
    ∧ (Cert.Pre_finite_inf.fn (F := Ideal) (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)) (m ((c.tc : Thread Cert.InFwdIdeal.nD Cert.InFwdIdeal.τ).loc Cert.InFwdIdeal.main_arg2))).2.1 = (fun _ => 1#1)
    ∧ (Cert.Pre_finite_inf.fn (F := Ideal) (m ((c.tc : Thread Cert.InFwdIdeal.nD Cert.InFwdIdeal.τ).loc Cert.InFwdIdeal.main_arg0)) (m ((c.tc : Thread Cert.InFwdIdeal.nD Cert.InFwdIdeal.τ).loc Cert.InFwdIdeal.main_arg1)) (m ((c.tc : Thread Cert.InFwdIdeal.nD Cert.InFwdIdeal.τ).loc Cert.InFwdIdeal.main_arg2))).2.2 = (fun _ => 1#1)

def Pre_InFwdRefIdeal (m : (ℓ : Loc Cert.InFwdRefIdeal.nD Cert.InFwdRefIdeal.τ Cert.InFwdRefIdeal.sig) → Buf (Elt Ideal) ℓ) : Prop :=
  True

def Pre_InFwdRefIdeal_finite_inf [hPre_finite_inf : Cert.Pre_finite_inf.Facts] (m : (ℓ : Loc Cert.InFwdRefIdeal.nD Cert.InFwdRefIdeal.τ Cert.InFwdRefIdeal.sig) → Buf (Elt Ideal) ℓ) : Prop :=
  ∀ c : Dev Cert.InFwdRefIdeal.nD,
    (Cert.Pre_finite_inf.fn (F := Ideal) (m ((c.tc : Thread Cert.InFwdRefIdeal.nD Cert.InFwdRefIdeal.τ).loc Cert.InFwdRefIdeal.main_arg0)) (m ((c.tc : Thread Cert.InFwdRefIdeal.nD Cert.InFwdRefIdeal.τ).loc Cert.InFwdRefIdeal.main_arg1)) (m ((c.tc : Thread Cert.InFwdRefIdeal.nD Cert.InFwdRefIdeal.τ).loc Cert.InFwdRefIdeal.main_arg2))).1 = (fun _ => 1#1)
    ∧ (Cert.Pre_finite_inf.fn (F := Ideal) (m ((c.tc : Thread Cert.InFwdRefIdeal.nD Cert.InFwdRefIdeal.τ).loc Cert.InFwdRefIdeal.main_arg0)) (m ((c.tc : Thread Cert.InFwdRefIdeal.nD Cert.InFwdRefIdeal.τ).loc Cert.InFwdRefIdeal.main_arg1)) (m ((c.tc : Thread Cert.InFwdRefIdeal.nD Cert.InFwdRefIdeal.τ).loc Cert.InFwdRefIdeal.main_arg2))).2.1 = (fun _ => 1#1)
    ∧ (Cert.Pre_finite_inf.fn (F := Ideal) (m ((c.tc : Thread Cert.InFwdRefIdeal.nD Cert.InFwdRefIdeal.τ).loc Cert.InFwdRefIdeal.main_arg0)) (m ((c.tc : Thread Cert.InFwdRefIdeal.nD Cert.InFwdRefIdeal.τ).loc Cert.InFwdRefIdeal.main_arg1)) (m ((c.tc : Thread Cert.InFwdRefIdeal.nD Cert.InFwdRefIdeal.τ).loc Cert.InFwdRefIdeal.main_arg2))).2.2 = (fun _ => 1#1)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetIdeal_pre_finite_forget [hForgetIdeal : Cert.ForgetIdeal.Facts] [hPre_finite_forget : Cert.Pre_finite_forget.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal_finite_forget m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2))
      ∧ r.2.sem = fun _ => 0)

def quiescent_ForgetRefIdeal_pre_finite_forget [hForgetRefIdeal : Cert.ForgetRefIdeal.Facts] [hPre_finite_forget : Cert.Pre_finite_forget.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal_finite_forget m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite_inb [hInProjIdeal : Cert.InProjIdeal.Facts] [hPre_finite_inb : Cert.Pre_finite_inb.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_inb m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite_inb [hInProjRefIdeal : Cert.InProjRefIdeal.Facts] [hPre_finite_inb : Cert.Pre_finite_inb.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_inb m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffnb [hFfnBwdIdeal : Cert.FfnBwdIdeal.Facts] [hPre_finite_ffnb : Cert.Pre_finite_ffnb.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffnb m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffnb [hFfnBwdRefIdeal : Cert.FfnBwdRefIdeal.Facts] [hPre_finite_ffnb : Cert.Pre_finite_ffnb.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffnb m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdIdeal_pre_finite_ffnf [hFfnFwdIdeal : Cert.FfnFwdIdeal.Facts] [hPre_finite_ffnf : Cert.Pre_finite_ffnf.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffnf m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_FfnFwdRefIdeal_pre_finite_ffnf [hFfnFwdRefIdeal : Cert.FfnFwdRefIdeal.Facts] [hPre_finite_ffnf : Cert.Pre_finite_ffnf.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffnf m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_attnf [hAttnFwdIdeal : Cert.AttnFwdIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnf m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_attnf [hAttnFwdRefIdeal : Cert.AttnFwdRefIdeal.Facts] [hPre_finite_attnf : Cert.Pre_finite_attnf.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnf m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_Cumul [hCumul : Cert.Cumul.Facts] : Prop :=
  ∀ (m : (ℓ : Loc Cert.Cumul.nD Cert.Cumul.τ Cert.Cumul.sig) → Buf (Elt Bits) ℓ) (g : Dev Cert.Cumul.nD → PrngReg), Pre_Cumul m →
    θ_run (Cert.Cumul.defs (F := Bits)) (onTc (τ := Cert.Cumul.τ) (Cert.Cumul.main (F := Bits))) ⟨m, fun _ => 0, g⟩ (fun r => (∀ c : Dev Cert.Cumul.nD,
      r.2.mem ((c.tc : Thread Cert.Cumul.nD Cert.Cumul.τ).loc Cert.Cumul.main_arg0) = m ((c.tc : Thread Cert.Cumul.nD Cert.Cumul.τ).loc Cert.Cumul.main_arg0)
      ∧ r.2.mem ((c.tc : Thread Cert.Cumul.nD Cert.Cumul.τ).loc Cert.Cumul.main_arg1) = m ((c.tc : Thread Cert.Cumul.nD Cert.Cumul.τ).loc Cert.Cumul.main_arg1))
      ∧ r.2.sem = fun _ => 0)

def quiescent_CumulIdeal [hCumulIdeal : Cert.CumulIdeal.Facts] : Prop :=
  ∀ (m : (ℓ : Loc Cert.CumulIdeal.nD Cert.CumulIdeal.τ Cert.CumulIdeal.sig) → Buf (Elt Ideal) ℓ) (g : Dev Cert.CumulIdeal.nD → PrngReg), Pre_CumulIdeal m →
    θ_run (Cert.CumulIdeal.defs (F := Ideal)) (onTc (τ := Cert.CumulIdeal.τ) (Cert.CumulIdeal.main (F := Ideal))) ⟨m, fun _ => 0, g⟩ (fun r => (∀ c : Dev Cert.CumulIdeal.nD,
      r.2.mem ((c.tc : Thread Cert.CumulIdeal.nD Cert.CumulIdeal.τ).loc Cert.CumulIdeal.main_arg0) = m ((c.tc : Thread Cert.CumulIdeal.nD Cert.CumulIdeal.τ).loc Cert.CumulIdeal.main_arg0)
      ∧ r.2.mem ((c.tc : Thread Cert.CumulIdeal.nD Cert.CumulIdeal.τ).loc Cert.CumulIdeal.main_arg1) = m ((c.tc : Thread Cert.CumulIdeal.nD Cert.CumulIdeal.τ).loc Cert.CumulIdeal.main_arg1))
      ∧ r.2.sem = fun _ => 0)

def quiescent_CumulIdeal_pre_finite_cum [hCumulIdeal : Cert.CumulIdeal.Facts] [hPre_finite_cum : Cert.Pre_finite_cum.Facts] : Prop :=
  ∀ (m : (ℓ : Loc Cert.CumulIdeal.nD Cert.CumulIdeal.τ Cert.CumulIdeal.sig) → Buf (Elt Ideal) ℓ) (g : Dev Cert.CumulIdeal.nD → PrngReg), Pre_CumulIdeal_finite_cum m →
    θ_run (Cert.CumulIdeal.defs (F := Ideal)) (onTc (τ := Cert.CumulIdeal.τ) (Cert.CumulIdeal.main (F := Ideal))) ⟨m, fun _ => 0, g⟩ (fun r => (∀ c : Dev Cert.CumulIdeal.nD,
      r.2.mem ((c.tc : Thread Cert.CumulIdeal.nD Cert.CumulIdeal.τ).loc Cert.CumulIdeal.main_arg0) = m ((c.tc : Thread Cert.CumulIdeal.nD Cert.CumulIdeal.τ).loc Cert.CumulIdeal.main_arg0)
      ∧ r.2.mem ((c.tc : Thread Cert.CumulIdeal.nD Cert.CumulIdeal.τ).loc Cert.CumulIdeal.main_arg1) = m ((c.tc : Thread Cert.CumulIdeal.nD Cert.CumulIdeal.τ).loc Cert.CumulIdeal.main_arg1))
      ∧ r.2.sem = fun _ => 0)

def quiescent_CumulRefIdeal [hCumulRefIdeal : Cert.CumulRefIdeal.Facts] : Prop :=
  ∀ (m : (ℓ : Loc Cert.CumulRefIdeal.nD Cert.CumulRefIdeal.τ Cert.CumulRefIdeal.sig) → Buf (Elt Ideal) ℓ) (g : Dev Cert.CumulRefIdeal.nD → PrngReg), Pre_CumulRefIdeal m →
    θ_run (Cert.CumulRefIdeal.defs (F := Ideal)) (onTc (τ := Cert.CumulRefIdeal.τ) (Cert.CumulRefIdeal.main (F := Ideal))) ⟨m, fun _ => 0, g⟩ (fun r => (∀ c : Dev Cert.CumulRefIdeal.nD,
      r.2.mem ((c.tc : Thread Cert.CumulRefIdeal.nD Cert.CumulRefIdeal.τ).loc Cert.CumulRefIdeal.main_arg0) = m ((c.tc : Thread Cert.CumulRefIdeal.nD Cert.CumulRefIdeal.τ).loc Cert.CumulRefIdeal.main_arg0)
      ∧ r.2.mem ((c.tc : Thread Cert.CumulRefIdeal.nD Cert.CumulRefIdeal.τ).loc Cert.CumulRefIdeal.main_arg1) = m ((c.tc : Thread Cert.CumulRefIdeal.nD Cert.CumulRefIdeal.τ).loc Cert.CumulRefIdeal.main_arg1))
      ∧ r.2.sem = fun _ => 0)

def quiescent_CumulRefIdeal_pre_finite_cum [hCumulRefIdeal : Cert.CumulRefIdeal.Facts] [hPre_finite_cum : Cert.Pre_finite_cum.Facts] : Prop :=
  ∀ (m : (ℓ : Loc Cert.CumulRefIdeal.nD Cert.CumulRefIdeal.τ Cert.CumulRefIdeal.sig) → Buf (Elt Ideal) ℓ) (g : Dev Cert.CumulRefIdeal.nD → PrngReg), Pre_CumulRefIdeal_finite_cum m →
    θ_run (Cert.CumulRefIdeal.defs (F := Ideal)) (onTc (τ := Cert.CumulRefIdeal.τ) (Cert.CumulRefIdeal.main (F := Ideal))) ⟨m, fun _ => 0, g⟩ (fun r => (∀ c : Dev Cert.CumulRefIdeal.nD,
      r.2.mem ((c.tc : Thread Cert.CumulRefIdeal.nD Cert.CumulRefIdeal.τ).loc Cert.CumulRefIdeal.main_arg0) = m ((c.tc : Thread Cert.CumulRefIdeal.nD Cert.CumulRefIdeal.τ).loc Cert.CumulRefIdeal.main_arg0)
      ∧ r.2.mem ((c.tc : Thread Cert.CumulRefIdeal.nD Cert.CumulRefIdeal.τ).loc Cert.CumulRefIdeal.main_arg1) = m ((c.tc : Thread Cert.CumulRefIdeal.nD Cert.CumulRefIdeal.τ).loc Cert.CumulRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdIdeal_pre_finite_inf [hInFwdIdeal : Cert.InFwdIdeal.Facts] [hPre_finite_inf : Cert.Pre_finite_inf.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal_finite_inf m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_InFwdRefIdeal_pre_finite_inf [hInFwdRefIdeal : Cert.InFwdRefIdeal.Facts] [hPre_finite_inf : Cert.Pre_finite_inf.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal_finite_inf m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def preserves_Forget_ForgetIdeal : Prop :=
  True

def algebraic_ForgetIdeal_ForgetRefIdeal_pre_finite_forget [hForgetIdeal : Cert.ForgetIdeal.Facts] [hForgetRefIdeal : Cert.ForgetRefIdeal.Facts] [hPre_finite_forget : Cert.Pre_finite_forget.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal_finite_forget m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v9_0)) (v1 : (c : Dev Cert.ForgetIdeal.nD) → Buf (Elt Ideal) ((c.tc : Thread Cert.ForgetIdeal.nD Cert.ForgetIdeal.τ).loc Cert.ForgetIdeal.main_v9_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v9_0) = v0 c
          ∧ r.2.mem ((c.tc : Thread Cert.ForgetIdeal.nD Cert.ForgetIdeal.τ).loc Cert.ForgetIdeal.main_v9_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v16) = v0 c
          ∧ r.2.mem ((c.tc : Thread Cert.ForgetRefIdeal.nD Cert.ForgetRefIdeal.τ).loc Cert.ForgetRefIdeal.main_v17) = v1 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v49_0)) (v1 : (c : Dev Cert.AttnIdeal.nD) → Buf (Elt Ideal) ((c.tc : Thread Cert.AttnIdeal.nD Cert.AttnIdeal.τ).loc Cert.AttnIdeal.main_v49_1)) (v2 : (c : Dev Cert.AttnIdeal.nD) → Buf (Elt Ideal) ((c.tc : Thread Cert.AttnIdeal.nD Cert.AttnIdeal.τ).loc Cert.AttnIdeal.main_v49_2)) (v3 : (c : Dev Cert.AttnIdeal.nD) → Buf (Elt Ideal) ((c.tc : Thread Cert.AttnIdeal.nD Cert.AttnIdeal.τ).loc Cert.AttnIdeal.main_v49_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v49_0) = v0 c
          ∧ r.2.mem ((c.tc : Thread Cert.AttnIdeal.nD Cert.AttnIdeal.τ).loc Cert.AttnIdeal.main_v49_1) = v1 c
          ∧ r.2.mem ((c.tc : Thread Cert.AttnIdeal.nD Cert.AttnIdeal.τ).loc Cert.AttnIdeal.main_v49_2) = v2 c
          ∧ r.2.mem ((c.tc : Thread Cert.AttnIdeal.nD Cert.AttnIdeal.τ).loc Cert.AttnIdeal.main_v49_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v95) = v0 c
          ∧ r.2.mem ((c.tc : Thread Cert.AttnRefIdeal.nD Cert.AttnRefIdeal.τ).loc Cert.AttnRefIdeal.main_v97) = v1 c
          ∧ r.2.mem ((c.tc : Thread Cert.AttnRefIdeal.nD Cert.AttnRefIdeal.τ).loc Cert.AttnRefIdeal.main_v99) = v2 c
          ∧ r.2.mem ((c.tc : Thread Cert.AttnRefIdeal.nD Cert.AttnRefIdeal.τ).loc Cert.AttnRefIdeal.main_v101) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_InProj_InProjIdeal : Prop :=
  True

def algebraic_InProjIdeal_InProjRefIdeal_pre_finite_inb [hInProjIdeal : Cert.InProjIdeal.Facts] [hInProjRefIdeal : Cert.InProjRefIdeal.Facts] [hPre_finite_inb : Cert.Pre_finite_inb.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_inb m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v28_0)) (v1 : (c : Dev Cert.InProjIdeal.nD) → Buf (Elt Ideal) ((c.tc : Thread Cert.InProjIdeal.nD Cert.InProjIdeal.τ).loc Cert.InProjIdeal.main_v28_1)) (v2 : (c : Dev Cert.InProjIdeal.nD) → Buf (Elt Ideal) ((c.tc : Thread Cert.InProjIdeal.nD Cert.InProjIdeal.τ).loc Cert.InProjIdeal.main_v28_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v28_0) = v0 c
          ∧ r.2.mem ((c.tc : Thread Cert.InProjIdeal.nD Cert.InProjIdeal.τ).loc Cert.InProjIdeal.main_v28_1) = v1 c
          ∧ r.2.mem ((c.tc : Thread Cert.InProjIdeal.nD Cert.InProjIdeal.τ).loc Cert.InProjIdeal.main_v28_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v43) = v0 c
          ∧ r.2.mem ((c.tc : Thread Cert.InProjRefIdeal.nD Cert.InProjRefIdeal.τ).loc Cert.InProjRefIdeal.main_v44) = v1 c
          ∧ r.2.mem ((c.tc : Thread Cert.InProjRefIdeal.nD Cert.InProjRefIdeal.τ).loc Cert.InProjRefIdeal.main_v47) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_FfnBwd_FfnBwdIdeal : Prop :=
  True

def algebraic_FfnBwdIdeal_FfnBwdRefIdeal_pre_finite_ffnb [hFfnBwdIdeal : Cert.FfnBwdIdeal.Facts] [hFfnBwdRefIdeal : Cert.FfnBwdRefIdeal.Facts] [hPre_finite_ffnb : Cert.Pre_finite_ffnb.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffnb m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v47_0)) (v1 : (c : Dev Cert.FfnBwdIdeal.nD) → Buf (Elt Ideal) ((c.tc : Thread Cert.FfnBwdIdeal.nD Cert.FfnBwdIdeal.τ).loc Cert.FfnBwdIdeal.main_v47_1)) (v2 : (c : Dev Cert.FfnBwdIdeal.nD) → Buf (Elt Ideal) ((c.tc : Thread Cert.FfnBwdIdeal.nD Cert.FfnBwdIdeal.τ).loc Cert.FfnBwdIdeal.main_v47_2)) (v3 : (c : Dev Cert.FfnBwdIdeal.nD) → Buf (Elt Ideal) ((c.tc : Thread Cert.FfnBwdIdeal.nD Cert.FfnBwdIdeal.τ).loc Cert.FfnBwdIdeal.main_v47_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v47_0) = v0 c
          ∧ r.2.mem ((c.tc : Thread Cert.FfnBwdIdeal.nD Cert.FfnBwdIdeal.τ).loc Cert.FfnBwdIdeal.main_v47_1) = v1 c
          ∧ r.2.mem ((c.tc : Thread Cert.FfnBwdIdeal.nD Cert.FfnBwdIdeal.τ).loc Cert.FfnBwdIdeal.main_v47_2) = v2 c
          ∧ r.2.mem ((c.tc : Thread Cert.FfnBwdIdeal.nD Cert.FfnBwdIdeal.τ).loc Cert.FfnBwdIdeal.main_v47_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v107) = v0 c
          ∧ r.2.mem ((c.tc : Thread Cert.FfnBwdRefIdeal.nD Cert.FfnBwdRefIdeal.τ).loc Cert.FfnBwdRefIdeal.main_v109) = v1 c
          ∧ r.2.mem ((c.tc : Thread Cert.FfnBwdRefIdeal.nD Cert.FfnBwdRefIdeal.τ).loc Cert.FfnBwdRefIdeal.main_v110) = v2 c
          ∧ r.2.mem ((c.tc : Thread Cert.FfnBwdRefIdeal.nD Cert.FfnBwdRefIdeal.τ).loc Cert.FfnBwdRefIdeal.main_v111) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_FfnFwd_FfnFwdIdeal : Prop :=
  True

def algebraic_FfnFwdIdeal_FfnFwdRefIdeal_pre_finite_ffnf [hFfnFwdIdeal : Cert.FfnFwdIdeal.Facts] [hFfnFwdRefIdeal : Cert.FfnFwdRefIdeal.Facts] [hPre_finite_ffnf : Cert.Pre_finite_ffnf.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffnf m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v7_0)) (v1 : (c : Dev Cert.FfnFwdIdeal.nD) → Buf (Elt Ideal) ((c.tc : Thread Cert.FfnFwdIdeal.nD Cert.FfnFwdIdeal.τ).loc Cert.FfnFwdIdeal.main_v7_1)) (v2 : (c : Dev Cert.FfnFwdIdeal.nD) → Buf (Elt Ideal) ((c.tc : Thread Cert.FfnFwdIdeal.nD Cert.FfnFwdIdeal.τ).loc Cert.FfnFwdIdeal.main_v7_2)) (v3 : (c : Dev Cert.FfnFwdIdeal.nD) → Buf (Elt Ideal) ((c.tc : Thread Cert.FfnFwdIdeal.nD Cert.FfnFwdIdeal.τ).loc Cert.FfnFwdIdeal.main_v7_3)) (v4 : (c : Dev Cert.FfnFwdIdeal.nD) → Buf (Elt Ideal) ((c.tc : Thread Cert.FfnFwdIdeal.nD Cert.FfnFwdIdeal.τ).loc Cert.FfnFwdIdeal.main_v7_4)) (v5 : (c : Dev Cert.FfnFwdIdeal.nD) → Buf (Elt Ideal) ((c.tc : Thread Cert.FfnFwdIdeal.nD Cert.FfnFwdIdeal.τ).loc Cert.FfnFwdIdeal.main_v7_5)) (v6 : (c : Dev Cert.FfnFwdIdeal.nD) → Buf (Elt Ideal) ((c.tc : Thread Cert.FfnFwdIdeal.nD Cert.FfnFwdIdeal.τ).loc Cert.FfnFwdIdeal.main_v7_6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v7_0) = v0 c
          ∧ r.2.mem ((c.tc : Thread Cert.FfnFwdIdeal.nD Cert.FfnFwdIdeal.τ).loc Cert.FfnFwdIdeal.main_v7_1) = v1 c
          ∧ r.2.mem ((c.tc : Thread Cert.FfnFwdIdeal.nD Cert.FfnFwdIdeal.τ).loc Cert.FfnFwdIdeal.main_v7_2) = v2 c
          ∧ r.2.mem ((c.tc : Thread Cert.FfnFwdIdeal.nD Cert.FfnFwdIdeal.τ).loc Cert.FfnFwdIdeal.main_v7_3) = v3 c
          ∧ r.2.mem ((c.tc : Thread Cert.FfnFwdIdeal.nD Cert.FfnFwdIdeal.τ).loc Cert.FfnFwdIdeal.main_v7_4) = v4 c
          ∧ r.2.mem ((c.tc : Thread Cert.FfnFwdIdeal.nD Cert.FfnFwdIdeal.τ).loc Cert.FfnFwdIdeal.main_v7_5) = v5 c
          ∧ r.2.mem ((c.tc : Thread Cert.FfnFwdIdeal.nD Cert.FfnFwdIdeal.τ).loc Cert.FfnFwdIdeal.main_v7_6) = v6 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v95) = v0 c
          ∧ r.2.mem ((c.tc : Thread Cert.FfnFwdRefIdeal.nD Cert.FfnFwdRefIdeal.τ).loc Cert.FfnFwdRefIdeal.main_v97) = v1 c
          ∧ r.2.mem ((c.tc : Thread Cert.FfnFwdRefIdeal.nD Cert.FfnFwdRefIdeal.τ).loc Cert.FfnFwdRefIdeal.main_v99) = v2 c
          ∧ r.2.mem ((c.tc : Thread Cert.FfnFwdRefIdeal.nD Cert.FfnFwdRefIdeal.τ).loc Cert.FfnFwdRefIdeal.main_v101) = v3 c
          ∧ r.2.mem ((c.tc : Thread Cert.FfnFwdRefIdeal.nD Cert.FfnFwdRefIdeal.τ).loc Cert.FfnFwdRefIdeal.main_v102) = v4 c
          ∧ r.2.mem ((c.tc : Thread Cert.FfnFwdRefIdeal.nD Cert.FfnFwdRefIdeal.τ).loc Cert.FfnFwdRefIdeal.main_v103) = v5 c
          ∧ r.2.mem ((c.tc : Thread Cert.FfnFwdRefIdeal.nD Cert.FfnFwdRefIdeal.τ).loc Cert.FfnFwdRefIdeal.main_v105) = v6 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_AttnFwd_AttnFwdIdeal : Prop :=
  IdealRules.named_const.Statement Cert.AttnFwdIdeal.κ "mask" .f32 0xF149F2CA#32 ⊥

def algebraic_AttnFwdIdeal_AttnFwdRefIdeal_pre_finite_attnf [hAttnFwdIdeal : Cert.AttnFwdIdeal.Facts] [hAttnFwdRefIdeal : Cert.AttnFwdRefIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnf m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v12_0)) (v1 : (c : Dev Cert.AttnFwdIdeal.nD) → Buf (Elt Ideal) ((c.tc : Thread Cert.AttnFwdIdeal.nD Cert.AttnFwdIdeal.τ).loc Cert.AttnFwdIdeal.main_v12_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v12_0) = v0 c
          ∧ r.2.mem ((c.tc : Thread Cert.AttnFwdIdeal.nD Cert.AttnFwdIdeal.τ).loc Cert.AttnFwdIdeal.main_v12_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v67) = v0 c
          ∧ r.2.mem ((c.tc : Thread Cert.AttnFwdRefIdeal.nD Cert.AttnFwdRefIdeal.τ).loc Cert.AttnFwdRefIdeal.main_v68) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_Cumul_CumulIdeal : Prop :=
  True

def algebraic_CumulIdeal_CumulRefIdeal_pre_finite_cum [hCumulIdeal : Cert.CumulIdeal.Facts] [hCumulRefIdeal : Cert.CumulRefIdeal.Facts] [hPre_finite_cum : Cert.Pre_finite_cum.Facts] : Prop :=
  ∀ (m : (ℓ : Loc Cert.CumulIdeal.nD Cert.CumulIdeal.τ Cert.CumulIdeal.sig) → Buf (Elt Ideal) ℓ) (g : Dev Cert.CumulIdeal.nD → PrngReg)
    (m' : (ℓ : Loc Cert.CumulRefIdeal.nD Cert.CumulRefIdeal.τ Cert.CumulRefIdeal.sig) → Buf (Elt Ideal) ℓ) (g' : Dev Cert.CumulRefIdeal.nD → PrngReg), Pre_CumulIdeal_finite_cum m →
    (∀ c : Dev Cert.CumulIdeal.nD,
      m' ((c.tc : Thread Cert.CumulRefIdeal.nD Cert.CumulRefIdeal.τ).loc Cert.CumulRefIdeal.main_arg0) = m ((c.tc : Thread Cert.CumulIdeal.nD Cert.CumulIdeal.τ).loc Cert.CumulIdeal.main_arg0)
      ∧ m' ((c.tc : Thread Cert.CumulRefIdeal.nD Cert.CumulRefIdeal.τ).loc Cert.CumulRefIdeal.main_arg1) = m ((c.tc : Thread Cert.CumulIdeal.nD Cert.CumulIdeal.τ).loc Cert.CumulIdeal.main_arg1)) →
    ∃ (v0 : (c : Dev Cert.CumulIdeal.nD) → Buf (Elt Ideal) ((c.tc : Thread Cert.CumulIdeal.nD Cert.CumulIdeal.τ).loc Cert.CumulIdeal.main_v3)),
      θ_run (Cert.CumulIdeal.defs (F := Ideal)) (onTc (τ := Cert.CumulIdeal.τ) (Cert.CumulIdeal.main (F := Ideal))) ⟨m, fun _ => 0, g⟩ (fun r => ∀ c : Dev Cert.CumulIdeal.nD,
          r.2.mem ((c.tc : Thread Cert.CumulIdeal.nD Cert.CumulIdeal.τ).loc Cert.CumulIdeal.main_v3) = v0 c
          ∧ r.2.mem ((c.tc : Thread Cert.CumulIdeal.nD Cert.CumulIdeal.τ).loc Cert.CumulIdeal.main_arg0) = m ((c.tc : Thread Cert.CumulIdeal.nD Cert.CumulIdeal.τ).loc Cert.CumulIdeal.main_arg0)
          ∧ r.2.mem ((c.tc : Thread Cert.CumulIdeal.nD Cert.CumulIdeal.τ).loc Cert.CumulIdeal.main_arg1) = m ((c.tc : Thread Cert.CumulIdeal.nD Cert.CumulIdeal.τ).loc Cert.CumulIdeal.main_arg1))
      ∧ θ_run (Cert.CumulRefIdeal.defs (F := Ideal)) (onTc (τ := Cert.CumulRefIdeal.τ) (Cert.CumulRefIdeal.main (F := Ideal))) ⟨m', fun _ => 0, g'⟩ (fun r => ∀ c : Dev Cert.CumulRefIdeal.nD,
          r.2.mem ((c.tc : Thread Cert.CumulRefIdeal.nD Cert.CumulRefIdeal.τ).loc Cert.CumulRefIdeal.main_v8) = v0 c
          ∧ r.2.mem ((c.tc : Thread Cert.CumulRefIdeal.nD Cert.CumulRefIdeal.τ).loc Cert.CumulRefIdeal.main_arg0) = m' ((c.tc : Thread Cert.CumulRefIdeal.nD Cert.CumulRefIdeal.τ).loc Cert.CumulRefIdeal.main_arg0)
          ∧ r.2.mem ((c.tc : Thread Cert.CumulRefIdeal.nD Cert.CumulRefIdeal.τ).loc Cert.CumulRefIdeal.main_arg1) = m' ((c.tc : Thread Cert.CumulRefIdeal.nD Cert.CumulRefIdeal.τ).loc Cert.CumulRefIdeal.main_arg1))

def preserves_InFwd_InFwdIdeal : Prop :=
  True

def algebraic_InFwdIdeal_InFwdRefIdeal_pre_finite_inf [hInFwdIdeal : Cert.InFwdIdeal.Facts] [hInFwdRefIdeal : Cert.InFwdRefIdeal.Facts] [hPre_finite_inf : Cert.Pre_finite_inf.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal_finite_inf m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v8_0)) (v1 : (c : Dev Cert.InFwdIdeal.nD) → Buf (Elt Ideal) ((c.tc : Thread Cert.InFwdIdeal.nD Cert.InFwdIdeal.τ).loc Cert.InFwdIdeal.main_v8_1)) (v2 : (c : Dev Cert.InFwdIdeal.nD) → Buf (Elt Ideal) ((c.tc : Thread Cert.InFwdIdeal.nD Cert.InFwdIdeal.τ).loc Cert.InFwdIdeal.main_v8_2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v8_0) = v0 c
          ∧ r.2.mem ((c.tc : Thread Cert.InFwdIdeal.nD Cert.InFwdIdeal.τ).loc Cert.InFwdIdeal.main_v8_1) = v1 c
          ∧ r.2.mem ((c.tc : Thread Cert.InFwdIdeal.nD Cert.InFwdIdeal.τ).loc Cert.InFwdIdeal.main_v8_2) = v2 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v19) = v0 c
          ∧ r.2.mem ((c.tc : Thread Cert.InFwdRefIdeal.nD Cert.InFwdRefIdeal.τ).loc Cert.InFwdRefIdeal.main_v21) = v1 c
          ∧ r.2.mem ((c.tc : Thread Cert.InFwdRefIdeal.nD Cert.InFwdRefIdeal.τ).loc Cert.InFwdRefIdeal.main_v23) = v2 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def Claim : Prop :=
  ∃ (hForget : Cert.Forget.Facts) (hForgetIdeal : Cert.ForgetIdeal.Facts) (hForgetRefIdeal : Cert.ForgetRefIdeal.Facts) (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hAttnFwd : Cert.AttnFwd.Facts) (hAttnFwdIdeal : Cert.AttnFwdIdeal.Facts) (hAttnFwdRefIdeal : Cert.AttnFwdRefIdeal.Facts) (hCumul : Cert.Cumul.Facts) (hCumulIdeal : Cert.CumulIdeal.Facts) (hCumulRefIdeal : Cert.CumulRefIdeal.Facts) (hInFwd : Cert.InFwd.Facts) (hInFwdIdeal : Cert.InFwdIdeal.Facts) (hInFwdRefIdeal : Cert.InFwdRefIdeal.Facts) (hPre_finite_forget : Cert.Pre_finite_forget.Facts) (hPre_finite_attn : Cert.Pre_finite_attn.Facts) (hPre_finite_inb : Cert.Pre_finite_inb.Facts) (hPre_finite_ffnb : Cert.Pre_finite_ffnb.Facts) (hPre_finite_ffnf : Cert.Pre_finite_ffnf.Facts) (hPre_finite_attnf : Cert.Pre_finite_attnf.Facts) (hPre_finite_cum : Cert.Pre_finite_cum.Facts) (hPre_finite_inf : Cert.Pre_finite_inf.Facts),
    quiescent_Forget (hForget := hForget)
    ∧ quiescent_ForgetIdeal (hForgetIdeal := hForgetIdeal)
    ∧ quiescent_ForgetIdeal_pre_finite_forget (hForgetIdeal := hForgetIdeal) (hPre_finite_forget := hPre_finite_forget)
    ∧ quiescent_ForgetRefIdeal (hForgetRefIdeal := hForgetRefIdeal)
    ∧ quiescent_ForgetRefIdeal_pre_finite_forget (hForgetRefIdeal := hForgetRefIdeal) (hPre_finite_forget := hPre_finite_forget)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_InProj (hInProj := hInProj)
    ∧ quiescent_InProjIdeal (hInProjIdeal := hInProjIdeal)
    ∧ quiescent_InProjIdeal_pre_finite_inb (hInProjIdeal := hInProjIdeal) (hPre_finite_inb := hPre_finite_inb)
    ∧ quiescent_InProjRefIdeal (hInProjRefIdeal := hInProjRefIdeal)
    ∧ quiescent_InProjRefIdeal_pre_finite_inb (hInProjRefIdeal := hInProjRefIdeal) (hPre_finite_inb := hPre_finite_inb)
    ∧ quiescent_FfnBwd (hFfnBwd := hFfnBwd)
    ∧ quiescent_FfnBwdIdeal (hFfnBwdIdeal := hFfnBwdIdeal)
    ∧ quiescent_FfnBwdIdeal_pre_finite_ffnb (hFfnBwdIdeal := hFfnBwdIdeal) (hPre_finite_ffnb := hPre_finite_ffnb)
    ∧ quiescent_FfnBwdRefIdeal (hFfnBwdRefIdeal := hFfnBwdRefIdeal)
    ∧ quiescent_FfnBwdRefIdeal_pre_finite_ffnb (hFfnBwdRefIdeal := hFfnBwdRefIdeal) (hPre_finite_ffnb := hPre_finite_ffnb)
    ∧ quiescent_FfnFwd (hFfnFwd := hFfnFwd)
    ∧ quiescent_FfnFwdIdeal (hFfnFwdIdeal := hFfnFwdIdeal)
    ∧ quiescent_FfnFwdIdeal_pre_finite_ffnf (hFfnFwdIdeal := hFfnFwdIdeal) (hPre_finite_ffnf := hPre_finite_ffnf)
    ∧ quiescent_FfnFwdRefIdeal (hFfnFwdRefIdeal := hFfnFwdRefIdeal)
    ∧ quiescent_FfnFwdRefIdeal_pre_finite_ffnf (hFfnFwdRefIdeal := hFfnFwdRefIdeal) (hPre_finite_ffnf := hPre_finite_ffnf)
    ∧ quiescent_AttnFwd (hAttnFwd := hAttnFwd)
    ∧ quiescent_AttnFwdIdeal (hAttnFwdIdeal := hAttnFwdIdeal)
    ∧ quiescent_AttnFwdIdeal_pre_finite_attnf (hAttnFwdIdeal := hAttnFwdIdeal) (hPre_finite_attnf := hPre_finite_attnf)
    ∧ quiescent_AttnFwdRefIdeal (hAttnFwdRefIdeal := hAttnFwdRefIdeal)
    ∧ quiescent_AttnFwdRefIdeal_pre_finite_attnf (hAttnFwdRefIdeal := hAttnFwdRefIdeal) (hPre_finite_attnf := hPre_finite_attnf)
    ∧ quiescent_Cumul (hCumul := hCumul)
    ∧ quiescent_CumulIdeal (hCumulIdeal := hCumulIdeal)
    ∧ quiescent_CumulIdeal_pre_finite_cum (hCumulIdeal := hCumulIdeal) (hPre_finite_cum := hPre_finite_cum)
    ∧ quiescent_CumulRefIdeal (hCumulRefIdeal := hCumulRefIdeal)
    ∧ quiescent_CumulRefIdeal_pre_finite_cum (hCumulRefIdeal := hCumulRefIdeal) (hPre_finite_cum := hPre_finite_cum)
    ∧ quiescent_InFwd (hInFwd := hInFwd)
    ∧ quiescent_InFwdIdeal (hInFwdIdeal := hInFwdIdeal)
    ∧ quiescent_InFwdIdeal_pre_finite_inf (hInFwdIdeal := hInFwdIdeal) (hPre_finite_inf := hPre_finite_inf)
    ∧ quiescent_InFwdRefIdeal (hInFwdRefIdeal := hInFwdRefIdeal)
    ∧ quiescent_InFwdRefIdeal_pre_finite_inf (hInFwdRefIdeal := hInFwdRefIdeal) (hPre_finite_inf := hPre_finite_inf)
    ∧ preserves_Forget_ForgetIdeal
    ∧ algebraic_ForgetIdeal_ForgetRefIdeal_pre_finite_forget (hForgetIdeal := hForgetIdeal) (hForgetRefIdeal := hForgetRefIdeal) (hPre_finite_forget := hPre_finite_forget)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_InProj_InProjIdeal
    ∧ algebraic_InProjIdeal_InProjRefIdeal_pre_finite_inb (hInProjIdeal := hInProjIdeal) (hInProjRefIdeal := hInProjRefIdeal) (hPre_finite_inb := hPre_finite_inb)
    ∧ preserves_FfnBwd_FfnBwdIdeal
    ∧ algebraic_FfnBwdIdeal_FfnBwdRefIdeal_pre_finite_ffnb (hFfnBwdIdeal := hFfnBwdIdeal) (hFfnBwdRefIdeal := hFfnBwdRefIdeal) (hPre_finite_ffnb := hPre_finite_ffnb)
    ∧ preserves_FfnFwd_FfnFwdIdeal
    ∧ algebraic_FfnFwdIdeal_FfnFwdRefIdeal_pre_finite_ffnf (hFfnFwdIdeal := hFfnFwdIdeal) (hFfnFwdRefIdeal := hFfnFwdRefIdeal) (hPre_finite_ffnf := hPre_finite_ffnf)
    ∧ preserves_AttnFwd_AttnFwdIdeal
    ∧ algebraic_AttnFwdIdeal_AttnFwdRefIdeal_pre_finite_attnf (hAttnFwdIdeal := hAttnFwdIdeal) (hAttnFwdRefIdeal := hAttnFwdRefIdeal) (hPre_finite_attnf := hPre_finite_attnf)
    ∧ preserves_Cumul_CumulIdeal
    ∧ algebraic_CumulIdeal_CumulRefIdeal_pre_finite_cum (hCumulIdeal := hCumulIdeal) (hCumulRefIdeal := hCumulRefIdeal) (hPre_finite_cum := hPre_finite_cum)
    ∧ preserves_InFwd_InFwdIdeal
    ∧ algebraic_InFwdIdeal_InFwdRefIdeal_pre_finite_inf (hInFwdIdeal := hInFwdIdeal) (hInFwdRefIdeal := hInFwdRefIdeal) (hPre_finite_inf := hPre_finite_inf)
-- ==== Pre_finite_attn.lean ====
abbrev S4x2048x5128 : Shape := ⟨3, ![4, 2048, 5128]⟩
abbrev S4x2048x8 : Shape := ⟨3, ![4, 2048, 8]⟩
abbrev S4x2048x512 : Shape := ⟨3, ![4, 2048, 512]⟩
abbrev S_ : Shape := ⟨0, ![]⟩

class Facts : Prop where
  bcast_S_S4x2048x5128 : S_.BroadcastsInDim S4x2048x5128 (![] : Fin 0 → Fin S4x2048x5128.rank)
  bcast_S_S4x2048x8 : S_.BroadcastsInDim S4x2048x8 (![] : Fin 0 → Fin S4x2048x8.rank)
  bcast_S_S4x2048x512 : S_.BroadcastsInDim S4x2048x512 (![] : Fin 0 → Fin S4x2048x512.rank)

variable [Facts]

def fn {F : FTy → Type} [FloatOps F] (main_arg0 : FVec F S4x2048x5128 .f32) (main_arg1 : FVec F S4x2048x8 .f32) (main_arg2 : FVec F S4x2048x512 .f32) : IVec S4x2048x5128 1 × IVec S4x2048x8 1 × IVec S4x2048x512 1 :=
  let main_v0 : FVec F S4x2048x5128 .f32 := Host.absf main_arg0
  let main_cst : FVec F S_ .f32 := constant S_ .f32 0x7F800000#32
  let main_v1 : FVec F S4x2048x5128 .f32 := broadcastInDim S4x2048x5128 ![] bcast_S_S4x2048x5128 main_cst
  let main_v2 : IVec S4x2048x5128 1 := cmpf .olt main_v0 main_v1
  let main_v3 : FVec F S4x2048x8 .f32 := Host.absf main_arg1
  let main_cst_0 : FVec F S_ .f32 := constant S_ .f32 0x7F800000#32
  let main_v4 : FVec F S4x2048x8 .f32 := broadcastInDim S4x2048x8 ![] bcast_S_S4x2048x8 main_cst_0
  let main_v5 : IVec S4x2048x8 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  (main_v2, main_v5, main_v8)
-- ==== Pre_finite_attnf.lean ====
abbrev S4x2048x5128 : Shape := ⟨3, ![4, 2048, 5128]⟩
abbrev S4x2048x8 : Shape := ⟨3, ![4, 2048, 8]⟩
abbrev S_ : Shape := ⟨0, ![]⟩

class Facts : Prop where
  bcast_S_S4x2048x5128 : S_.BroadcastsInDim S4x2048x5128 (![] : Fin 0 → Fin S4x2048x5128.rank)
  bcast_S_S4x2048x8 : S_.BroadcastsInDim S4x2048x8 (![] : Fin 0 → Fin S4x2048x8.rank)

variable [Facts]

def fn {F : FTy → Type} [FloatOps F] (main_arg0 : FVec F S4x2048x5128 .f32) (main_arg1 : FVec F S4x2048x8 .f32) : IVec S4x2048x5128 1 × IVec S4x2048x8 1 :=
  let main_v0 : FVec F S4x2048x5128 .f32 := Host.absf main_arg0
  let main_cst : FVec F S_ .f32 := constant S_ .f32 0x7F800000#32
  let main_v1 : FVec F S4x2048x5128 .f32 := broadcastInDim S4x2048x5128 ![] bcast_S_S4x2048x5128 main_cst
  let main_v2 : IVec S4x2048x5128 1 := cmpf .olt main_v0 main_v1
  let main_v3 : FVec F S4x2048x8 .f32 := Host.absf main_arg1
  let main_cst_0 : FVec F S_ .f32 := constant S_ .f32 0x7F800000#32
  let main_v4 : FVec F S4x2048x8 .f32 := broadcastInDim S4x2048x8 ![] bcast_S_S4x2048x8 main_cst_0
  let main_v5 : IVec S4x2048x8 1 := cmpf .olt main_v3 main_v4
  (main_v2, main_v5)
-- ==== Pre_finite_cum.lean ====
abbrev S4x2048x8 : Shape := ⟨3, ![4, 2048, 8]⟩
abbrev S1x8 : Shape := ⟨2, ![1, 8]⟩
abbrev S_ : Shape := ⟨0, ![]⟩

class Facts : Prop where
  bcast_S_S4x2048x8 : S_.BroadcastsInDim S4x2048x8 (![] : Fin 0 → Fin S4x2048x8.rank)
  bcast_S_S1x8 : S_.BroadcastsInDim S1x8 (![] : Fin 0 → Fin S1x8.rank)

variable [Facts]

def fn {F : FTy → Type} [FloatOps F] (main_arg0 : FVec F S4x2048x8 .f32) (main_arg1 : FVec F S1x8 .f32) : IVec S4x2048x8 1 × IVec S1x8 1 :=
  let main_v0 : FVec F S4x2048x8 .f32 := Host.absf main_arg0
  let main_cst : FVec F S_ .f32 := constant S_ .f32 0x7F800000#32
  let main_v1 : FVec F S4x2048x8 .f32 := broadcastInDim S4x2048x8 ![] bcast_S_S4x2048x8 main_cst
  let main_v2 : IVec S4x2048x8 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  (main_v2, main_v5)
-- ==== Pre_finite_ffnb.lean ====
abbrev S4x2048x1024 : Shape := ⟨3, ![4, 2048, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S4x2048x1024 .f32) (main_arg1 : FVec F S4x2048x1024 .f32) (main_arg2 : FVec F S1x1024 .f32) (main_arg3 : FVec F S1024x5632 .f32) (main_arg4 : FVec F S3x5632 .f32) (main_arg5 : FVec F S2816x1024 .f32) : IVec S4x2048x1024 1 × IVec S4x2048x1024 1 × IVec S1x1024 1 × IVec S1024x5632 1 × IVec S3x5632 1 × IVec S2816x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S3x5632 .f32 := Host.absf main_arg4
  let main_cst_3 : FVec F S_ .f32 := constant S_ .f32 0x7F800000#32
  let main_v13 : FVec F S3x5632 .f32 := broadcastInDim S3x5632 ![] bcast_S_S3x5632 main_cst_3
  let main_v14 : IVec S3x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite_ffnf.lean ====
abbrev S4x2048x1024 : Shape := ⟨3, ![4, 2048, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S1024 .f32) (main_v2 : IVec S4x2048x1024 1) (main_v5 : IVec S4x2048x1024 1) (main_v8 : IVec S1x1024 1) (main_v11 : IVec S1024x5632 1) (main_v14 : IVec S3x5632 1) (main_v17 : IVec S2816x1024 1) : IVec S4x2048x1024 1 × IVec S4x2048x1024 1 × IVec S1x1024 1 × IVec S1024x5632 1 × IVec S3x5632 1 × IVec S2816x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S4x2048x1024 .f32) (main_arg1 : FVec F S4x2048x1024 .f32) (main_arg2 : FVec F S1x1024 .f32) (main_arg3 : FVec F S1024x5632 .f32) (main_arg4 : FVec F S3x5632 .f32) (main_arg5 : FVec F S2816x1024 .f32) (main_arg6 : FVec F S1024 .f32) : IVec S4x2048x1024 1 × IVec S4x2048x1024 1 × IVec S1x1024 1 × IVec S1024x5632 1 × IVec S3x5632 1 × IVec S2816x1024 1 × IVec S1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S3x5632 .f32 := Host.absf main_arg4
  let main_cst_3 : FVec F S_ .f32 := constant S_ .f32 0x7F800000#32
  let main_v13 : FVec F S3x5632 .f32 := broadcastInDim S3x5632 ![] bcast_S_S3x5632 main_cst_3
  let main_v14 : IVec S3x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Pre_finite_forget.lean ====
abbrev S4x8x2048 : Shape := ⟨3, ![4, 8, 2048]⟩
abbrev S4x2048x8 : Shape := ⟨3, ![4, 2048, 8]⟩
abbrev S1x8 : Shape := ⟨2, ![1, 8]⟩
abbrev S_ : Shape := ⟨0, ![]⟩

class Facts : Prop where
  bcast_S_S4x8x2048 : S_.BroadcastsInDim S4x8x2048 (![] : Fin 0 → Fin S4x8x2048.rank)
  bcast_S_S4x2048x8 : S_.BroadcastsInDim S4x2048x8 (![] : Fin 0 → Fin S4x2048x8.rank)
  bcast_S_S1x8 : S_.BroadcastsInDim S1x8 (![] : Fin 0 → Fin S1x8.rank)

variable [Facts]

def fn {F : FTy → Type} [FloatOps F] (main_arg0 : FVec F S4x8x2048 .f32) (main_arg1 : FVec F S4x2048x8 .f32) (main_arg2 : FVec F S1x8 .f32) : IVec S4x8x2048 1 × IVec S4x2048x8 1 × IVec S1x8 1 :=
  let main_v0 : FVec F S4x8x2048 .f32 := Host.absf main_arg0
  let main_cst : FVec F S_ .f32 := constant S_ .f32 0x7F800000#32
  let main_v1 : FVec F S4x8x2048 .f32 := broadcastInDim S4x8x2048 ![] bcast_S_S4x8x2048 main_cst
  let main_v2 : IVec S4x8x2048 1 := cmpf .olt main_v0 main_v1
  let main_v3 : FVec F S4x2048x8 .f32 := Host.absf main_arg1
  let main_cst_0 : FVec F S_ .f32 := constant S_ .f32 0x7F800000#32
  let main_v4 : FVec F S4x2048x8 .f32 := broadcastInDim S4x2048x8 ![] bcast_S_S4x2048x8 main_cst_0
  let main_v5 : IVec S4x2048x8 1 := cmpf .olt main_v3 main_v4
  let main_v6 : FVec F S1x8 .f32 := Host.absf main_arg2
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Pre_finite_inb.lean ====
abbrev S4x2048x1024 : Shape := ⟨3, ![4, 2048, 1024]⟩
abbrev S4x2048x5128 : Shape := ⟨3, ![4, 2048, 5128]⟩
abbrev S1x1024 : Shape := ⟨2, ![1, 1024]⟩
abbrev S1024x5128 : Shape := ⟨2, ![1024, 5128]⟩
abbrev S_ : Shape := ⟨0, ![]⟩

class Facts : Prop where
  bcast_S_S4x2048x1024 : S_.BroadcastsInDim S4x2048x1024 (![] : Fin 0 → Fin S4x2048x1024.rank)
  bcast_S_S4x2048x5128 : S_.BroadcastsInDim S4x2048x5128 (![] : Fin 0 → Fin S4x2048x5128.rank)
  bcast_S_S1x1024 : S_.BroadcastsInDim S1x1024 (![] : Fin 0 → Fin S1x1024.rank)
  bcast_S_S1024x5128 : S_.BroadcastsInDim S1024x5128 (![] : Fin 0 → Fin S1024x5128.rank)

variable [Facts]

def fn {F : FTy → Type} [FloatOps F] (main_arg0 : FVec F S4x2048x1024 .f32) (main_arg1 : FVec F S4x2048x5128 .f32) (main_arg2 : FVec F S4x2048x1024 .f32) (main_arg3 : FVec F S1x1024 .f32) (main_arg4 : FVec F S1024x5128 .f32) : IVec S4x2048x1024 1 × IVec S4x2048x5128 1 × IVec S4x2048x1024 1 × IVec S1x1024 1 × IVec S1024x5128 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x5128 .f32 := Host.absf main_arg1
  let main_cst_0 : FVec F S_ .f32 := constant S_ .f32 0x7F800000#32
  let main_v4 : FVec F S4x2048x5128 .f32 := broadcastInDim S4x2048x5128 ![] bcast_S_S4x2048x5128 main_cst_0
  let main_v5 : IVec S4x2048x5128 1 := cmpf .olt main_v3 main_v4
  let main_v6 : FVec F S4x2048x1024 .f32 := Host.absf main_arg2
  let main_cst_1 : FVec F S_ .f32 := constant S_ .f32 0x7F800000#32
  let main_v7 : FVec F S4x2048x1024 .f32 := broadcastInDim S4x2048x1024 ![] bcast_S_S4x2048x1024 main_cst_1
  let main_v8 : IVec S4x2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x5128 .f32 := Host.absf main_arg4
  let main_cst_3 : FVec F S_ .f32 := constant S_ .f32 0x7F800000#32
  let main_v13 : FVec F S1024x5128 .f32 := broadcastInDim S1024x5128 ![] bcast_S_S1024x5128 main_cst_3
  let main_v14 : IVec S1024x5128 1 := cmpf .olt main_v12 main_v13
  (main_v2, main_v5, main_v8, main_v11, main_v14)
-- ==== Pre_finite_inf.lean ====
abbrev S4x2048x1024 : Shape := ⟨3, ![4, 2048, 1024]⟩
abbrev S1x1024 : Shape := ⟨2, ![1, 1024]⟩
abbrev S1024x5128 : Shape := ⟨2, ![1024, 5128]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1024x5128 : S_.BroadcastsInDim S1024x5128 (![] : Fin 0 → Fin S1024x5128.rank)

variable [Facts]

def fn {F : FTy → Type} [FloatOps F] (main_arg0 : FVec F S4x2048x1024 .f32) (main_arg1 : FVec F S1x1024 .f32) (main_arg2 : FVec F S1024x5128 .f32) : IVec S4x2048x1024 1 × IVec S1x1024 1 × IVec S1024x5128 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5128 .f32 := Host.absf main_arg2
  let main_cst_1 : FVec F S_ .f32 := constant S_ .f32 0x7F800000#32
  let main_v7 : FVec F S1024x5128 .f32 := broadcastInDim S1024x5128 ![] bcast_S_S1024x5128 main_cst_1
  let main_v8 : IVec S1024x5128 1 := cmpf .olt main_v6 main_v7
  (main_v2, main_v5, main_v8)
-- ==== Forget.lean ====
abbrev S4x8x2048 : Shape := ⟨3, ![4, 8, 2048]⟩
abbrev S4x2048x8 : Shape := ⟨3, ![4, 2048, 8]⟩
abbrev S1x8 : Shape := ⟨2, ![1, 8]⟩
abbrev S4x4x2x2048 : Shape := ⟨4, ![4, 4, 2, 2048]⟩
abbrev S_ : Shape := ⟨0, ![]⟩
abbrev S4x4x8x2048 : Shape := ⟨4, ![4, 4, 8, 2048]⟩
abbrev S8192x8 : Shape := ⟨2, ![8192, 8]⟩
abbrev S8192x128 : Shape := ⟨2, ![8192, 128]⟩
abbrev S1x128 : Shape := ⟨2, ![1, 128]⟩
abbrev S4x2048x4x2 : Shape := ⟨4, ![4, 2048, 4, 2]⟩
abbrev S8x128 : Shape := ⟨2, ![8, 128]⟩
abbrev S2048x128 : Shape := ⟨2, ![2048, 128]⟩
abbrev S256x256 : Shape := ⟨2, ![256, 256]⟩
abbrev S256x128 : Shape := ⟨2, ![256, 128]⟩
abbrev S128 : Shape := ⟨1, ![128]⟩

abbrev nBuf : Space → Nat
  | .hbm => 22
  | .vmem => 8
  | .smem => 0
  | _ => 0

abbrev bufTy : (tb : Table) → Fin (tcTables nBuf tb) → BufTy
  | .hbm, ⟨0, _⟩ => ⟨S4x8x2048, .f32⟩
  | .hbm, ⟨1, _⟩ => ⟨S4x2048x8, .f32⟩
  | .hbm, ⟨2, _⟩ => ⟨S1x8, .f32⟩
  | .hbm, ⟨3, _⟩ => ⟨S4x4x2x2048, .f32⟩
  | .hbm, ⟨4, _⟩ => ⟨S_, .i32⟩
  | .hbm, ⟨5, _⟩ => ⟨S_, .f32⟩
  | .hbm, ⟨6, _⟩ => ⟨S4x4x8x2048, .f32⟩
  | .hbm, ⟨7, _⟩ => ⟨S8192x8, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S4x4x2x2048, .f32⟩
  | .hbm, ⟨15, _⟩ => ⟨S4x2048x4x2, .f32⟩
  | .hbm, ⟨16, _⟩ => ⟨S8192x8, .f32⟩
  | .hbm, ⟨17, _⟩ => ⟨S_, .i32⟩
  | .hbm, ⟨18, _⟩ => ⟨S_, .f32⟩
  | .hbm, ⟨19, _⟩ => ⟨S8192x128, .f32⟩
  | .hbm, ⟨20, _⟩ => ⟨S8192x128, .bf16⟩
  | .hbm, ⟨21, _⟩ => ⟨S8x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | .local _ .vmem, ⟨7, _⟩ => ⟨S8x128, .f32⟩
  | _, _ => ⟨S4x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ForgetRefIdeal.lean ====
abbrev S4x8x2048 : Shape := ⟨3, ![4, 8, 2048]⟩
abbrev S4x2048x8 : Shape := ⟨3, ![4, 2048, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S8192x8 : Shape := ⟨2, ![8192, 8]⟩
abbrev S8192x128 : Shape := ⟨2, ![8192, 128]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S4x8x2048, .f32⟩
  | .hbm, ⟨1, _⟩ => ⟨S4x2048x8, .f32⟩
  | .hbm, ⟨2, _⟩ => ⟨S1x8, .f32⟩
  | .hbm, ⟨3, _⟩ => ⟨S8, .f32⟩
  | .hbm, ⟨4, _⟩ => ⟨S1x1x8, .f32⟩
  | .hbm, ⟨5, _⟩ => ⟨S4x2048x8, .f32⟩
  | .hbm, ⟨6, _⟩ => ⟨S4x2048x8, .f32⟩
  | .hbm, ⟨7, _⟩ => ⟨S4x2048x8, .f32⟩
  | .hbm, ⟨8, _⟩ => ⟨S_, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S4x2048x8, .f32⟩
  | .hbm, ⟨13, _⟩ => ⟨S4x2048x8, .i1⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S_, .f32⟩
  | .hbm, ⟨23, _⟩ => ⟨S4x2048x8, .f32⟩
  | .hbm, ⟨24, _⟩ => ⟨S4x2048x8, .i1⟩
  | .hbm, ⟨25, _⟩ => ⟨S_, .f32⟩
  | .hbm, ⟨26, _⟩ => ⟨S4x2048x8, .f32⟩
  | .hbm, ⟨27, _⟩ => ⟨S4x2048x8, .f32⟩
  | .hbm, ⟨28, _⟩ => ⟨S_, .f32⟩
  | .hbm, ⟨29, _⟩ => ⟨S4x2048x8, .f32⟩
  | .hbm, ⟨30, _⟩ => ⟨S4x2048x8, .i1⟩
  | .hbm, ⟨31, _⟩ => ⟨S_, .f32⟩
  | .hbm, ⟨32, _⟩ => ⟨S4x2048x8, .f32⟩
  | .hbm, ⟨33, _⟩ => ⟨S4x2048x8, .f32⟩
  | .hbm, ⟨34, _⟩ => ⟨S4x2048x8, .f32⟩
  | .hbm, ⟨35, _⟩ => ⟨S4x2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x2048x8, .f32⟩
  | .hbm, ⟨44, _⟩ => ⟨S4x2048x8, .i1⟩
  | .hbm, ⟨45, _⟩ => ⟨S_, .f32⟩
  | .hbm, ⟨46, _⟩ => ⟨S4x2048x8, .f32⟩
  | .hbm, ⟨47, _⟩ => ⟨S4x2048x8, .f32⟩
  | .hbm, ⟨48, _⟩ => ⟨S4x2048x8, .f32⟩
  | .hbm, ⟨49, _⟩ => ⟨S4x2048x8, .f32⟩
  | .hbm, ⟨50, _⟩ => ⟨S4x2048x8, .f32⟩
  | .hbm, ⟨51, _⟩ => ⟨S_, .f32⟩
  | .hbm, ⟨52, _⟩ => ⟨S4x2048x8, .f32⟩
  | .hbm, ⟨53, _⟩ => ⟨S4x2048x8, .f32⟩
  | .hbm, ⟨54, _⟩ => ⟨S4x2048x8, .f32⟩
  | .hbm, ⟨55, _⟩ => ⟨S_, .f32⟩
  | .hbm, ⟨56, _⟩ => ⟨S_, .f32⟩
  | .hbm, ⟨57, _⟩ => ⟨S4x2048x8, .f32⟩
  | .hbm, ⟨58, _⟩ => ⟨S4x8x2048, .f32⟩
  | .hbm, ⟨59, _⟩ => ⟨S4x2048x8, .f32⟩
  | .hbm, ⟨60, _⟩ => ⟨S_, .f32⟩
  | .hbm, ⟨61, _⟩ => ⟨S_, .f32⟩
  | .hbm, ⟨62, _⟩ => ⟨S4x2048x8, .f32⟩
  | .hbm, ⟨63, _⟩ => ⟨S4x2048x8, .f32⟩
  | .hbm, ⟨64, _⟩ => ⟨S4x2048x8, .f32⟩
  | .hbm, ⟨65, _⟩ => ⟨S4x2048x8, .f32⟩
  | .hbm, ⟨66, _⟩ => ⟨S_, .f32⟩
  | .hbm, ⟨67, _⟩ => ⟨S8, .f32⟩
  | .hbm, ⟨68, _⟩ => ⟨S1x1x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S8192x8, .f32⟩
  | .hbm, ⟨73, _⟩ => ⟨S_, .i32⟩
  | .hbm, ⟨74, _⟩ => ⟨S_, .f32⟩
  | .hbm, ⟨75, _⟩ => ⟨S8192x128, .f32⟩
  | .hbm, ⟨76, _⟩ => ⟨S8192x128, .bf16⟩
  | .hbm, ⟨77, _⟩ => ⟨S_, .i32⟩
  | .hbm, ⟨78, _⟩ => ⟨S_, .f32⟩
  | .hbm, ⟨79, _⟩ => ⟨S8x128, .f32⟩
  | _, _ => ⟨S4x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_c : Ref sig .tc := ⟨.hbm, 73, rfl⟩
abbrev main_call4_v0 : Ref sig .tc := ⟨.hbm, 74, rfl⟩
abbrev main_v15 : Ref sig .tc := ⟨.hbm, 75, rfl⟩
abbrev main_v16 : Ref sig .tc := ⟨.hbm, 76, rfl⟩
abbrev main_c_1 : Ref sig .tc := ⟨.hbm, 77, rfl⟩
abbrev main_call5_v0 : Ref sig .tc := ⟨.hbm, 78, rfl⟩
abbrev main_v17 : Ref sig .tc := ⟨.hbm, 79, rfl⟩

abbrev nD : Nat := 1
abbrev τ : Topo := Topo.v7x

variable {F : FTy → Type} [FloatOps F]
-- ==== Attn.lean ====
abbrev S4x2048x5128 : Shape := ⟨3, ![4, 2048, 5128]⟩
abbrev S4x2048x8 : Shape := ⟨3, ![4, 2048, 8]⟩
abbrev S4x2048x512 : Shape := ⟨3, ![4, 2048, 512]⟩
abbrev S4x2048x3072 : Shape := ⟨3, ![4, 2048, 3072]⟩
abbrev S4x2048x2048 : Shape := ⟨3, ![4, 2048, 2048]⟩
abbrev S4x2048x5120 : Shape := ⟨3, ![4, 2048, 5120]⟩
abbrev S8192x5120 : Shape := ⟨2, ![8192, 5120]⟩
abbrev S_ : Shape := ⟨0, ![]⟩
abbrev S8192x8 : Shape := ⟨2, ![8192, 8]⟩
abbrev S8192x128 : Shape := ⟨2, ![8192, 128]⟩
abbrev S4x2048x4x2 : Shape := ⟨4, ![4, 2048, 4, 2]⟩
abbrev S4x4x2x2048 : Shape := ⟨4, ![4, 4, 2, 2048]⟩
abbrev S4x4x8x2048 : Shape := ⟨4, ![4, 4, 8, 2048]⟩
abbrev S4x8x2048 : Shape := ⟨3, ![4, 8, 2048]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8192x512 : Shape := ⟨2, ![8192, 512]⟩
abbrev S2048x128 : Shape := ⟨2, ![2048, 128]⟩
abbrev S1x1x8x2048 : Shape := ⟨4, ![1, 1, 8, 2048]⟩
abbrev S8x2048 : Shape := ⟨2, ![8, 2048]⟩
abbrev S256x256 : Shape := ⟨2, ![256, 256]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S1x1x1x256 : Shape := ⟨4, ![1, 1, 1, 256]⟩
abbrev S1x256 : Shape := ⟨2, ![1, 256]⟩
abbrev S256x512 : Shape := ⟨2, ![256, 512]⟩
abbrev S512x128 : Shape := ⟨2, ![512, 128]⟩
abbrev S1x1x1x512 : Shape := ⟨4, ![1, 1, 1, 512]⟩
abbrev S1x512 : Shape := ⟨2, ![1, 512]⟩
abbrev S512 : Shape := ⟨1, ![512]⟩
abbrev S256x768 : Shape := ⟨2, ![256, 768]⟩
abbrev S768x128 : Shape := ⟨2, ![768, 128]⟩
abbrev S1x1x1x768 : Shape := ⟨4, ![1, 1, 1, 768]⟩
abbrev S1x768 : Shape := ⟨2, ![1, 768]⟩
abbrev S768 : Shape := ⟨1, ![768]⟩
abbrev S256x1024 : Shape := ⟨2, ![256, 1024]⟩
abbrev S1024x128 : Shape := ⟨2, ![1024, 128]⟩
abbrev S1x1x1x1024 : Shape := ⟨4, ![1, 1, 1, 1024]⟩
abbrev S1x1024 : Shape := ⟨2, ![1, 1024]⟩
abbrev S1024 : Shape := ⟨1, ![1024]⟩
abbrev S256x1280 : Shape := ⟨2, ![256, 1280]⟩
abbrev S1280x128 : Shape := ⟨2, ![1280, 128]⟩
abbrev S1x1x1x1280 : Shape := ⟨4, ![1, 1, 1, 1280]⟩
abbrev S1x1280 : Shape := ⟨2, ![1, 1280]⟩
abbrev S1280 : Shape := ⟨1, ![1280]⟩
abbrev S256x1536 : Shape := ⟨2, ![256, 1536]⟩
abbrev S1536x128 : Shape := ⟨2, ![1536, 128]⟩
abbrev S1x1x1x1536 : Shape := ⟨4, ![1, 1, 1, 1536]⟩
abbrev S1x1536 : Shape := ⟨2, ![1, 1536]⟩
abbrev S1536 : Shape := ⟨1, ![1536]⟩
abbrev S256x1792 : Shape := ⟨2, ![256, 1792]⟩
abbrev S1792x128 : Shape := ⟨2, ![1792, 128]⟩
abbrev S1x1x1x1792 : Shape := ⟨4, ![1, 1, 1, 1792]⟩
abbrev S1x1792 : Shape := ⟨2, ![1, 1792]⟩
abbrev S1792 : Shape := ⟨1, ![1792]⟩
abbrev S256x2048 : Shape := ⟨2, ![256, 2048]⟩
abbrev S1x1x1x2048 : Shape := ⟨4, ![1, 1, 1, 2048]⟩

abbrev nBuf : Space → Nat
  | .hbm => 71
  | .vmem => 24
  | .smem => 0
  | _ => 0

abbrev bufTy : (tb : Table) → Fin (tcTables nBuf tb) → BufTy
  | .hbm, ⟨0, _⟩ => ⟨S4x2048x5128, .f32⟩
  | .hbm, ⟨1, _⟩ => ⟨S4x2048x8, .f32⟩
  | .hbm, ⟨2, _⟩ => ⟨S4x2048x512, .f32⟩
  | .hbm, ⟨3, _⟩ => ⟨S4x2048x3072, .f32⟩
  | .hbm, ⟨4, _⟩ => ⟨S4x2048x2048, .f32⟩
  | .hbm, ⟨5, _⟩ => ⟨S4x2048x5120, .f32⟩
  | .hbm, ⟨6, _⟩ => ⟨S8192x5120, .f32⟩
  | .hbm, ⟨7, _⟩ => ⟨S8192x5120, .bf16⟩
  | .hbm, ⟨8, _⟩ => ⟨S_, .f32⟩
  | .hbm, ⟨9, _⟩ => ⟨S_, .f32⟩
  | .hbm, ⟨10, _⟩ => ⟨S4x2048x8, .f32⟩
  | .hbm, ⟨11, _⟩ => ⟨S8192x8, .f32⟩
  | .hbm, ⟨12, _⟩ => ⟨S_, .i32⟩
  | .hbm, ⟨13, _⟩ => ⟨S_, .f32⟩
  | .hbm, ⟨14, _⟩ => ⟨S8192x128, .f32⟩
  | .hbm, ⟨15, _⟩ => ⟨S8192x8, .f32⟩
  | .hbm, ⟨16, _⟩ => ⟨S4x2048x4x2, .f32⟩
  | .hbm, ⟨17, _⟩ => ⟨S4x4x2x2048, .f32⟩
  | .hbm, ⟨18, _⟩ => ⟨S_, .i32⟩
  | .hbm, ⟨19, _⟩ => ⟨S_, .f32⟩
  | .hbm, ⟨20, _⟩ => ⟨S4x4x8x2048, .f32⟩
  | .hbm, ⟨21, _⟩ => ⟨S4x2048x512, .f32⟩
  | .hbm, ⟨22, _⟩ => ⟨S4x2048x512, .f32⟩
  | .hbm, ⟨23, _⟩ => ⟨S4x2048x512, .f32⟩
  | .hbm, ⟨24, _⟩ => ⟨S4x8x2048, .f32⟩
  | .hbm, ⟨25, _⟩ => ⟨S4x2048x8x64, .f32⟩
  | .hbm, ⟨26, _⟩ => ⟨S4x8x2048x64, .f32⟩
  | .hbm, ⟨27, _⟩ => ⟨S4x2048x8x64, .f32⟩
  | .hbm, ⟨28, _⟩ => ⟨S4x8x2048x64, .f32⟩
  | .hbm, ⟨29, _⟩ => ⟨S_, .f32⟩
  | .hbm, ⟨30, _⟩ => ⟨S4x8x2048x64, .f32⟩
  | .hbm, ⟨31, _⟩ => ⟨S4x8x2048x64, .f32⟩
  | .hbm, ⟨32, _⟩ => ⟨S4x8x2048x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x1x2048, .f32⟩
  | .hbm, ⟨37, _⟩ => ⟨S4x8x2048x2048, .f32⟩
  | .hbm, ⟨38, _⟩ => ⟨S4x8x2048x2048, .f32⟩
  | .hbm, ⟨39, _⟩ => ⟨S2048, .i32⟩
  | .hbm, ⟨40, _⟩ => ⟨S1x2048, .i32⟩
  | .hbm, ⟨41, _⟩ => ⟨S2048x1, .i32⟩
  | .hbm, ⟨42, _⟩ => ⟨S2048x2048, .i32⟩
  | .hbm, ⟨43, _⟩ => ⟨S2048x2048, .i32⟩
  | .hbm, ⟨44, _⟩ => ⟨S2048x2048, .i1⟩
  | .hbm, ⟨45, _⟩ => ⟨S_, .f32⟩
  | .hbm, ⟨46, _⟩ => ⟨S_, .f32⟩
  | .hbm, ⟨47, _⟩ => ⟨S4x8x2048x2048, .i1⟩
  | .hbm, ⟨48, _⟩ => ⟨S4x8x2048x2048, .f32⟩
  | .hbm, ⟨49, _⟩ => ⟨S4x8x2048x2048, .f32⟩
  | .hbm, ⟨50, _⟩ => ⟨S_, .f32⟩
  | .hbm, ⟨51, _⟩ => ⟨S4x8x2048, .f32⟩
  | .hbm, ⟨52, _⟩ => ⟨S4x8x2048x1, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S_, .f32⟩
  | .hbm, ⟨57, _⟩ => ⟨S4x8x2048, .f32⟩
  | .hbm, ⟨58, _⟩ => ⟨S4x8x2048, .f32⟩
  | .hbm, ⟨59, _⟩ => ⟨S4x8x2048, .f32⟩
  | .hbm, ⟨60, _⟩ => ⟨S4x2048x8, .f32⟩
  | .hbm, ⟨61, _⟩ => ⟨S8192x8, .f32⟩
  | .hbm, ⟨62, _⟩ => ⟨S_, .i32⟩
  | .hbm, ⟨63, _⟩ => ⟨S_, .f32⟩
  | .hbm, ⟨64, _⟩ => ⟨S8192x128, .f32⟩
  | .hbm, ⟨65, _⟩ => ⟨S8192x512, .f32⟩
  | .hbm, ⟨66, _⟩ => ⟨S8192x512, .bf16⟩
  | .hbm, ⟨67, _⟩ => ⟨S8192x512, .bf16⟩
  | .hbm, ⟨68, _⟩ => ⟨S8192x512, .bf16⟩
  | .hbm, ⟨69, _⟩ => ⟨S8192x512, .bf16⟩
  | .hbm, ⟨70, _⟩ => ⟨S4x4x8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S1x1x8x2048, .f32⟩
  | .local _ .vmem, ⟨11, _⟩ => ⟨S1x1x8x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x1x8x2048, .f32⟩
  | .local _ .vmem, ⟨21, _⟩ => ⟨S1x1x8x2048, .f32⟩
  | .local _ .vmem, ⟨22, _⟩ => ⟨S2048x128, .f32⟩
  | .local _ .vmem, ⟨23, _⟩ => ⟨S2048x128, .f32⟩
  | _, _ => ⟨S4x2048x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_call0_cst : Ref sig .tc := ⟨.hbm, 8, rfl⟩
abbrev main_call0_call0_v0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_4 : Ref sig .tc := ⟨.hbm, 62, rfl⟩
abbrev main_call4_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_v49_2 : Ref sig .tc := ⟨.hbm, 69, rfl⟩
abbrev main_v49_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnRefIdeal.lean ====
abbrev S4x2048x5128 : Shape := ⟨3, ![4, 2048, 5128]⟩
abbrev S4x2048x8 : Shape := ⟨3, ![4, 2048, 8]⟩
abbrev S4x2048x512 : Shape := ⟨3, ![4, 2048, 512]⟩
abbrev S_ : Shape := ⟨0, ![]⟩
abbrev S4x8x2048 : Shape := ⟨3, ![4, 8, 2048]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x64x2048 : Shape := ⟨4, ![4, 8, 64, 2048]⟩
abbrev S8192x512 : Shape := ⟨2, ![8192, 512]⟩
abbrev S4x4x2x2048 : Shape := ⟨4, ![4, 4, 2, 2048]⟩
abbrev S4x4x8x2048 : Shape := ⟨4, ![4, 4, 8, 2048]⟩

abbrev nBuf : Space → Nat
  | .hbm => 135
  | .vmem => 0
  | .smem => 0
  | _ => 0

abbrev hbmTy0_0 (i : Nat) : BufTy := match i % 128 with
  | 0 => ⟨S4x2048x5128, .f32⟩
  | 1 => ⟨S4x2048x8, .f32⟩
  | 2 => ⟨S4x2048x512, .f32⟩
  | 3 => ⟨S_, .f32⟩
  | 4 => ⟨S_, .f32⟩
  | 5 => ⟨S4x2048x8, .f32⟩
  | 6 => ⟨S4x8x2048, .f32⟩
  | 7 => ⟨S4x2048x512, .f32⟩
  | 8 => ⟨S4x2048x512, .f32⟩
  | 9 => ⟨S4x2048x512, .f32⟩
  | 10 => ⟨S4x2048x8x64, .f32⟩
  | 11 => ⟨S4x8x2048x64, .f32⟩
  | 12 => ⟨S4x2048x8x64, .f32⟩
  | 13 => ⟨S4x8x2048x64, .f32⟩
  | 14 => ⟨S4x2048x8x64, .f32⟩
  | 15 => ⟨S4x8x2048x64, .f32⟩
  | 16 => ⟨S_, .f32⟩
  | 17 => ⟨S4x8x2048x64, .f32⟩
  | 18 => ⟨S4x8x2048x64, .f32⟩
  | 19 => ⟨S4x8x2048x2048, .f32⟩
  | 20 => ⟨S4x8x2048x1, .f32⟩
  | 21 => ⟨S4x8x2048x2048, .f32⟩
  | 22 => ⟨S4x8x2048x2048, .f32⟩
  | 23 => ⟨S4x8x1x2048, .f32⟩
  | 24 => ⟨S4x8x2048x2048, .f32⟩
  | 25 => ⟨S4x8x2048x2048, .f32⟩
  | 26 => ⟨S2048, .i32⟩
  | 27 => ⟨S1x2048, .i32⟩
  | 28 => ⟨S2048x1, .i32⟩
  | 29 => ⟨S2048x2048, .i32⟩
  | 30 => ⟨S2048x2048, .i32⟩
  | 31 => ⟨S2048x2048, .i1⟩
  | 32 => ⟨S_, .f32⟩
  | 33 => ⟨S_, .f32⟩
  | 34 => ⟨S4x8x2048x2048, .i1⟩
  | 35 => ⟨S4x8x2048x2048, .f32⟩
  | 36 => ⟨S4x8x2048x2048, .f32⟩
  | 37 => ⟨S_, .f32⟩
  | 38 => ⟨S4x8x2048x2048, .f32⟩
  | 39 => ⟨S_, .f32⟩
  | 40 => ⟨S4x8x2048, .f32⟩
  | 41 => ⟨S4x8x2048x1, .f32⟩
  | 42 => ⟨S4x8x2048x2048, .f32⟩
  | 43 => ⟨S4x8x2048x2048, .i1⟩
  | 44 => ⟨S4x8x2048x2048, .f32⟩
  | 45 => ⟨S_, .f32⟩
  | 46 => ⟨S4x8x2048, .f32⟩
  | 47 => ⟨S_, .f32⟩
  | 48 => ⟨S4x8x2048, .f32⟩
  | 49 => ⟨S4x8x2048, .f32⟩
  | 50 => ⟨S_, .f32⟩
  | 51 => ⟨S4x8x2048, .f32⟩
  | 52 => ⟨S4x8x2048, .i1⟩
  | 53 => ⟨S_, .f32⟩
  | 54 => ⟨S4x8x2048, .f32⟩
  | 55 => ⟨S4x8x2048, .i1⟩
  | 56 => ⟨S_, .f32⟩
  | 57 => ⟨S4x8x2048, .f32⟩
  | 58 => ⟨S_, .f32⟩
  | 59 => ⟨S4x8x2048, .f32⟩
  | 60 => ⟨S_, .f32⟩
  | 61 => ⟨S4x8x2048, .f32⟩
  | 62 => ⟨S4x8x2048, .f32⟩
  | 63 => ⟨S4x8x2048, .f32⟩
  | 64 => ⟨S4x8x2048x1, .f32⟩
  | 65 => ⟨S4x8x2048x2048, .f32⟩
  | 66 => ⟨S4x8x2048x2048, .f32⟩
  | 67 => ⟨S4x8x2048x2048, .f32⟩
  | 68 => ⟨S_, .f32⟩
  | 69 => ⟨S4x8x2048, .f32⟩
  | 70 => ⟨S4x8x2048x1, .f32⟩
  | 71 => ⟨S4x8x2048x2048, .f32⟩
  | 72 => ⟨S4x8x2048x2048, .f32⟩
  | 73 => ⟨S4x8x2048x1, .f32⟩
  | 74 => ⟨S_, .f32⟩
  | 75 => ⟨S4x8x2048x1, .f32⟩
  | 76 => ⟨S4x8x2048x1, .f32⟩
  | 77 => ⟨S4x8x2048x64, .f32⟩
  | 78 => ⟨S4x2048x8x64, .f32⟩
  | 79 => ⟨S4x2048x512, .f32⟩
  | 80 => ⟨S4x2048x8x64, .f32⟩
  | 81 => ⟨S4x8x2048x64, .f32⟩
  | 82 => ⟨S4x8x64x2048, .f32⟩
  | 83 => ⟨S4x8x2048x64, .f32⟩
  | 84 => ⟨S4x8x2048x2048, .f32⟩
  | 85 => ⟨S4x8x2048x2048, .f32⟩
  | 86 => ⟨S4x8x2048x2048, .f32⟩
  | 87 => ⟨S4x8x2048x2048, .f32⟩
  | 88 => ⟨S_, .f32⟩
  | 89 => ⟨S4x8x2048, .f32⟩
  | 90 => ⟨S4x8x2048x1, .f32⟩
  | 91 => ⟨S4x8x2048x1, .f32⟩
  | 92 => ⟨S4x8x2048x2048, .f32⟩
  | 93 => ⟨S4x8x2048x2048, .f32⟩
  | 94 => ⟨S_, .f32⟩
  | 95 => ⟨S4x8x2048, .f32⟩
  | 96 => ⟨S4x8x2048x2048, .f32⟩
  | 97 => ⟨S4x8x2048x2048, .f32⟩
  | 98 => ⟨S4x8x2048x2048, .f32⟩
  | 99 => ⟨S_, .f32⟩
  | 100 => ⟨S4x8x2048x2048, .f32⟩
  | 101 => ⟨S4x8x2048x2048, .f32⟩
  | 102 => ⟨S4x8x2048x2048, .f32⟩
  | 103 => ⟨S_, .f32⟩
  | 104 => ⟨S4x8x2048, .f32⟩
  | 105 => ⟨S4x8x1x2048, .f32⟩
  | 106 => ⟨S_, .f32⟩
  | 107 => ⟨S4x8x2048, .f32⟩
  | 108 => ⟨S_, .f32⟩
  | 109 => ⟨S4x8x2048, .f32⟩
  | 110 => ⟨S4x8x2048x1, .f32⟩
  | 111 => ⟨S_, .f32⟩
  | 112 => ⟨S4x8x2048, .f32⟩
  | 113 => ⟨S4x8x2048, .f32⟩
  | 114 => ⟨S4x8x2048x64, .f32⟩
  | 115 => ⟨S4x8x2048x64, .f32⟩
  | 116 => ⟨S_, .f32⟩
  | 117 => ⟨S4x8x2048x64, .f32⟩
  | 118 => ⟨S4x8x2048x64, .f32⟩
  | 119 => ⟨S4x2048x8x64, .f32⟩
  | 120 => ⟨S4x2048x512, .f32⟩
  | 121 => ⟨S4x2048x8x64, .f32⟩
  | 122 => ⟨S4x2048x512, .f32⟩
  | 123 => ⟨S4x2048x8x64, .f32⟩
  | 124 => ⟨S4x2048x512, .f32⟩
  | 125 => ⟨S8192x512, .f32⟩
  | 126 => ⟨S8192x512, .bf16⟩
  | 127 => ⟨S8192x512, .f32⟩
  | _ => ⟨S4x2048x5128, .f32⟩

abbrev hbmTy0_1 (i : Nat) : BufTy := match i % 128 with
  | 0 => ⟨S8192x512, .bf16⟩
  | 1 => ⟨S8192x512, .f32⟩
  | 2 => ⟨S8192x512, .bf16⟩
  | 3 => ⟨S4x4x2x2048, .f32⟩
  | 4 => ⟨S_, .i32⟩
  | 5 => ⟨S_, .f32⟩
  | 6 => ⟨S4x4x8x2048, .f32⟩
  | _ => ⟨S4x2048x5128, .f32⟩

abbrev hbmTy (i : Nat) : BufTy := match i / 128 with
  | 0 => hbmTy0_0 i
  | 1 => hbmTy0_1 i
  | _ => ⟨S4x2048x5128, .f32⟩

abbrev bufTy : (tb : Table) → Fin (tcTables nBuf tb) → BufTy
  | .hbm, ⟨i, _⟩ => hbmTy i
  | _, _ => ⟨S4x2048x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_cst : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call1_v0 : Ref sig .tc := ⟨.hbm, 33, rfl⟩
abbrev main_v26_1 : Ref sig .tc := ⟨.hbm, 34, rfl⟩
abbrev main_call1_v2 : Ref sig .tc := ⟨.hbm, 35, rfl⟩
abbrev main_v26_0 : Ref sig .tc := ⟨.hbm, 36, rfl⟩
abbrev main_call1_cst : Ref sig .tc := ⟨.hbm, 37, rfl⟩
abbrev main_v26_2 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call2_cst : Ref sig .tc := ⟨.hbm, 99, rfl⟩
abbrev main_call2_v0 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c : Ref sig .tc := ⟨.hbm, 132, rfl⟩
abbrev main_call3_v0 : Ref sig .tc := ⟨.hbm, 133, rfl⟩
abbrev main_v101 : Ref sig .tc := ⟨.hbm, 134, rfl⟩

abbrev nD : Nat := 1
abbrev τ : Topo := Topo.v7x

variable {F : FTy → Type} [FloatOps F]
-- ==== InProj.lean ====
abbrev S4x2048x1024 : Shape := ⟨3, ![4, 2048, 1024]⟩
abbrev S4x2048x5128 : Shape := ⟨3, ![4, 2048, 5128]⟩
abbrev S1x1024 : Shape := ⟨2, ![1, 1024]⟩
abbrev S1024x5128 : Shape := ⟨2, ![1024, 5128]⟩
abbrev S5128x1024 : Shape := ⟨2, ![5128, 1024]⟩
abbrev S3072x1024 : Shape := ⟨2, ![3072, 1024]⟩
abbrev S2048x1024 : Shape := ⟨2, ![2048, 1024]⟩
abbrev S8x1024 : Shape := ⟨2, ![8, 1024]⟩
abbrev S_ : Shape := ⟨0, ![]⟩
abbrev S120x1024 : Shape := ⟨2, ![120, 1024]⟩
abbrev S5248x1024 : Shape := ⟨2, ![5248, 1024]⟩
abbrev S4x2048x8 : Shape := ⟨3, ![4, 2048, 8]⟩
abbrev S8192x8 : Shape := ⟨2, ![8192, 8]⟩
abbrev S8192x128 : Shape := ⟨2, ![8192, 128]⟩
abbrev S4x2048x1536 : Shape := ⟨3, ![4, 2048, 1536]⟩
abbrev S8192x1536 : Shape := ⟨2, ![8192, 1536]⟩
abbrev S4x2048x512 : Shape := ⟨3, ![4, 2048, 512]⟩
abbrev S8192x512 : Shape := ⟨2, ![8192, 512]⟩
abbrev S4x2048x2048 : Shape := ⟨3, ![4, 2048, 2048]⟩
abbrev S8192x2048 : Shape := ⟨2, ![8192, 2048]⟩
abbrev S8192x1024 : Shape := ⟨2, ![8192, 1024]⟩
abbrev S128x1024 : Shape := ⟨2, ![128, 1024]⟩
abbrev S512x1536 : Shape := ⟨2, ![512, 1536]⟩
abbrev S512x512 : Shape := ⟨2, ![512, 512]⟩
abbrev S512x2048 : Shape := ⟨2, ![512, 2048]⟩
abbrev S512x128 : Shape := ⟨2, ![512, 128]⟩
abbrev S512x1024 : Shape := ⟨2, ![512, 1024]⟩
abbrev S1536x1024 : Shape := ⟨2, ![1536, 1024]⟩
abbrev S512 : Shape := ⟨1, ![512]⟩
abbrev S512x1 : Shape := ⟨2, ![512, 1]⟩
abbrev S1024 : Shape := ⟨1, ![1024]⟩

abbrev nBuf : Space → Nat
  | .hbm => 39
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5128, .f32⟩
  | .hbm, ⟨2, _⟩ => ⟨S4x2048x1024, .f32⟩
  | .hbm, ⟨3, _⟩ => ⟨S1x1024, .f32⟩
  | .hbm, ⟨4, _⟩ => ⟨S1024x5128, .f32⟩
  | .hbm, ⟨5, _⟩ => ⟨S5128x1024, .f32⟩
  | .hbm, ⟨6, _⟩ => ⟨S5128x1024, .bf16⟩
  | .hbm, ⟨7, _⟩ => ⟨S3072x1024, .bf16⟩
  | .hbm, ⟨8, _⟩ => ⟨S2048x1024, .bf16⟩
  | .hbm, ⟨9, _⟩ => ⟨S8x1024, .bf16⟩
  | .hbm, ⟨10, _⟩ => ⟨S_, .bf16⟩
  | .hbm, ⟨11, _⟩ => ⟨S120x1024, .bf16⟩
  | .hbm, ⟨12, _⟩ => ⟨S5248x1024, .bf16⟩
  | .hbm, ⟨13, _⟩ => ⟨S4x2048x8, .f32⟩
  | .hbm, ⟨14, _⟩ => ⟨S8192x8, .f32⟩
  | .hbm, ⟨15, _⟩ => ⟨S_, .i32⟩
  | .hbm, ⟨16, _⟩ => ⟨S_, .f32⟩
  | .hbm, ⟨17, _⟩ => ⟨S8192x128, .f32⟩
  | .hbm, ⟨18, _⟩ => ⟨S8192x128, .bf16⟩
  | .hbm, ⟨19, _⟩ => ⟨S4x2048x1536, .f32⟩
  | .hbm, ⟨20, _⟩ => ⟨S8192x1536, .f32⟩
  | .hbm, ⟨21, _⟩ => ⟨S8192x1536, .bf16⟩
  | .hbm, ⟨22, _⟩ => ⟨S4x2048x512, .f32⟩
  | .hbm, ⟨23, _⟩ => ⟨S8192x512, .f32⟩
  | .hbm, ⟨24, _⟩ => ⟨S8192x512, .bf16⟩
  | .hbm, ⟨25, _⟩ => ⟨S4x2048x512, .f32⟩
  | .hbm, ⟨26, _⟩ => ⟨S8192x512, .f32⟩
  | .hbm, ⟨27, _⟩ => ⟨S8192x512, .bf16⟩
  | .hbm, ⟨28, _⟩ => ⟨S4x2048x512, .f32⟩
  | .hbm, ⟨29, _⟩ => ⟨S8192x512, .f32⟩
  | .hbm, ⟨30, _⟩ => ⟨S8192x512, .bf16⟩
  | .hbm, ⟨31, _⟩ => ⟨S4x2048x2048, .f32⟩
  | .hbm, ⟨32, _⟩ => ⟨S8192x2048, .f32⟩
  | .hbm, ⟨33, _⟩ => ⟨S8192x2048, .bf16⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8x1024, .f32⟩
  | .hbm, ⟨38, _⟩ => ⟨S128x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x128, .bf16⟩
  | .local _ .vmem, ⟨11, _⟩ => ⟨S512x128, .bf16⟩
  | .local _ .vmem, ⟨12, _⟩ => ⟨S5248x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | .local _ .vmem, ⟨21, _⟩ => ⟨S128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5248x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjRefIdeal.lean ====
abbrev S4x2048x1024 : Shape := ⟨3, ![4, 2048, 1024]⟩
abbrev S4x2048x5128 : Shape := ⟨3, ![4, 2048, 5128]⟩
abbrev S1x1024 : Shape := ⟨2, ![1, 1024]⟩
abbrev S1024x5128 : Shape := ⟨2, ![1024, 5128]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S5128x1024 : Shape := ⟨2, ![5128, 1024]⟩
abbrev S8192x1024 : Shape := ⟨2, ![8192, 1024]⟩
abbrev S8x1024 : Shape := ⟨2, ![8, 1024]⟩
abbrev S1024x8 : Shape := ⟨2, ![1024, 8]⟩
abbrev S128x1024 : Shape := ⟨2, ![128, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5128, .f32⟩
  | .hbm, ⟨2, _⟩ => ⟨S4x2048x1024, .f32⟩
  | .hbm, ⟨3, _⟩ => ⟨S1x1024, .f32⟩
  | .hbm, ⟨4, _⟩ => ⟨S1024x5128, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x5128, .f32⟩
  | .hbm, ⟨27, _⟩ => ⟨S5128x1024, .f32⟩
  | .hbm, ⟨28, _⟩ => ⟨S1024x5128, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4x2048x1024, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x1024, .f32⟩
  | .hbm, ⟨44, _⟩ => ⟨S4x2048x1024, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S8192x1024, .f32⟩
  | .hbm, ⟨58, _⟩ => ⟨S_, .i32⟩
  | .hbm, ⟨59, _⟩ => ⟨S_, .f32⟩
  | .hbm, ⟨60, _⟩ => ⟨S8x1024, .f32⟩
  | .hbm, ⟨61, _⟩ => ⟨S1024x8, .f32⟩
  | .hbm, ⟨62, _⟩ => ⟨S8x1024, .f32⟩
  | .hbm, ⟨63, _⟩ => ⟨S_, .i32⟩
  | .hbm, ⟨64, _⟩ => ⟨S_, .f32⟩
  | .hbm, ⟨65, _⟩ => ⟨S128x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_call1_v0 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== FfnBwd.lean ====
abbrev S4x2048x1024 : Shape := ⟨3, ![4, 2048, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S8x5632 : Shape := ⟨2, ![8, 5632]⟩
abbrev S8192x1024 : Shape := ⟨2, ![8192, 1024]⟩
abbrev S8192x5632 : Shape := ⟨2, ![8192, 5632]⟩
abbrev S5632x1024 : Shape := ⟨2, ![5632, 1024]⟩
abbrev S8x1024 : Shape := ⟨2, ![8, 1024]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S256x2816 : Shape := ⟨2, ![256, 2816]⟩
abbrev S1x2816 : Shape := ⟨2, ![1, 2816]⟩
abbrev S8x1 : Shape := ⟨2, ![8, 1]⟩
abbrev S248x2816 : Shape := ⟨2, ![248, 2816]⟩
abbrev S8x2816 : Shape := ⟨2, ![8, 2816]⟩
abbrev S2816 : Shape := ⟨1, ![2816]⟩

abbrev nBuf : Space → Nat
  | .hbm => 63
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1x1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x5632, .f32⟩
  | .hbm, ⟨24, _⟩ => ⟨S_, .f32⟩
  | .hbm, ⟨25, _⟩ => ⟨S4x2x5632, .f32⟩
  | .hbm, ⟨26, _⟩ => ⟨S4x2050x5632, .f32⟩
  | .hbm, ⟨27, _⟩ => ⟨S4x2048x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S_, .i32⟩
  | .hbm, ⟨48, _⟩ => ⟨S_, .f32⟩
  | .hbm, ⟨49, _⟩ => ⟨S8x5632, .f32⟩
  | .hbm, ⟨50, _⟩ => ⟨S8192x1024, .f32⟩
  | .hbm, ⟨51, _⟩ => ⟨S8192x1024, .f32⟩
  | .hbm, ⟨52, _⟩ => ⟨S8192x5632, .f32⟩
  | .hbm, ⟨53, _⟩ => ⟨S8192x5632, .bf16⟩
  | .hbm, ⟨54, _⟩ => ⟨S8192x5632, .f32⟩
  | .hbm, ⟨55, _⟩ => ⟨S8192x5632, .bf16⟩
  | .hbm, ⟨56, _⟩ => ⟨S2816x1024, .bf16⟩
  | .hbm, ⟨57, _⟩ => ⟨S5632x1024, .f32⟩
  | .hbm, ⟨58, _⟩ => ⟨S5632x1024, .bf16⟩
  | .hbm, ⟨59, _⟩ => ⟨S8192x1024, .f32⟩
  | .hbm, ⟨60, _⟩ => ⟨S8192x5632, .bf16⟩
  | .hbm, ⟨61, _⟩ => ⟨S8x5632, .f32⟩
  | .hbm, ⟨62, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S8x5632, .f32⟩
  | .local _ .vmem, ⟨10, _⟩ => ⟨S2816x1024, .bf16⟩
  | .local _ .vmem, ⟨11, _⟩ => ⟨S5632x1024, .bf16⟩
  | .local _ .vmem, ⟨12, _⟩ => ⟨S256x1024, .f32⟩
  | .local _ .vmem, ⟨13, _⟩ => ⟨S256x1024, .f32⟩
  | .local _ .vmem, ⟨14, _⟩ => ⟨S256x5632, .bf16⟩
  | .local _ .vmem, ⟨15, _⟩ => ⟨S256x5632, .bf16⟩
  | .local _ .vmem, ⟨16, _⟩ => ⟨S8x5632, .f32⟩
  | .local _ .vmem, ⟨17, _⟩ => ⟨S8x1024, .f32⟩
  | .local _ .vmem, ⟨18, _⟩ => ⟨S8x5632, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev main_v47_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnBwdRefIdeal.lean ====
abbrev S4x2048x1024 : Shape := ⟨3, ![4, 2048, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x1024 : Shape := ⟨2, ![8192, 1024]⟩
abbrev S8192x5632 : Shape := ⟨2, ![8192, 5632]⟩
abbrev S8x5632 : Shape := ⟨2, ![8, 5632]⟩
abbrev S8x1024 : Shape := ⟨2, ![8, 1024]⟩

abbrev nBuf : Space → Nat
  | .hbm => 160
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S1x1024, .f32⟩
  | 3 => ⟨S1024x5632, .f32⟩
  | 4 => ⟨S3x5632, .f32⟩
  | 5 => ⟨S2816x1024, .f32⟩
  | 6 => ⟨S4x2048x1024, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S_, .f32⟩
  | 14 => ⟨S4x2048x1, .f32⟩
  | 15 => ⟨S4x2048x1, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1024, .f32⟩
  | 22 => ⟨S4x2048x1024, .f32⟩
  | 23 => ⟨S1024, .f32⟩
  | 24 => ⟨S1x1x1024, .f32⟩
  | 25 => ⟨S4x2048x1024, .f32⟩
  | 26 => ⟨S4x2048x1024, .f32⟩
  | 27 => ⟨S4x2048x5632, .f32⟩
  | 28 => ⟨S_, .f32⟩
  | 29 => ⟨S4x2x5632, .f32⟩
  | 30 => ⟨S4x2050x5632, .f32⟩
  | 31 => ⟨S_, .f32⟩
  | 32 => ⟨S4x2x5632, .f32⟩
  | 33 => ⟨S4x2048x5632, .f32⟩
  | 34 => ⟨S1x5632, .f32⟩
  | 35 => ⟨S5632, .f32⟩
  | 36 => ⟨S1x1x5632, .f32⟩
  | 37 => ⟨S4x2048x5632, .f32⟩
  | 38 => ⟨S4x2048x5632, .f32⟩
  | 39 => ⟨S4x2048x5632, .f32⟩
  | 40 => ⟨S1x5632, .f32⟩
  | 41 => ⟨S5632, .f32⟩
  | 42 => ⟨S1x1x5632, .f32⟩
  | 43 => ⟨S4x2048x5632, .f32⟩
  | 44 => ⟨S4x2048x5632, .f32⟩
  | 45 => ⟨S4x2048x5632, .f32⟩
  | 46 => ⟨S4x2048x5632, .f32⟩
  | 47 => ⟨S1x5632, .f32⟩
  | 48 => ⟨S5632, .f32⟩
  | 49 => ⟨S1x1x5632, .f32⟩
  | 50 => ⟨S4x2048x5632, .f32⟩
  | 51 => ⟨S4x2048x5632, .f32⟩
  | 52 => ⟨S4x2048x5632, .f32⟩
  | 53 => ⟨S4x2048x2816, .f32⟩
  | 54 => ⟨S4x2048x2816, .f32⟩
  | 55 => ⟨S4x2048x2816, .f32⟩
  | 56 => ⟨S4x2048x2816, .f32⟩
  | 57 => ⟨S_, .f32⟩
  | 58 => ⟨S4x2048x2816, .f32⟩
  | 59 => ⟨S4x2048x2816, .f32⟩
  | 60 => ⟨S_, .f32⟩
  | 61 => ⟨S4x2048x2816, .f32⟩
  | 62 => ⟨S4x2048x2816, .f32⟩
  | 63 => ⟨S_, .f32⟩
  | 64 => ⟨S4x2048x2816, .f32⟩
  | 65 => ⟨S4x2048x2816, .f32⟩
  | 66 => ⟨S4x2048x2816, .f32⟩
  | 67 => ⟨S4x2048x2816, .f32⟩
  | 68 => ⟨S4x2048x2816, .f32⟩
  | 69 => ⟨S4x2048x1024, .f32⟩
  | 70 => ⟨S4x2048x2816, .f32⟩
  | 71 => ⟨S4x2048x2816, .f32⟩
  | 72 => ⟨S4x2048x2816, .f32⟩
  | 73 => ⟨S4x2048x2816, .f32⟩
  | 74 => ⟨S4x2048x2816, .f32⟩
  | 75 => ⟨S4x2048x2816, .f32⟩
  | 76 => ⟨S4x2048x2816, .f32⟩
  | 77 => ⟨S4x2048x5632, .f32⟩
  | 78 => ⟨S4x2048x5632, .f32⟩
  | 79 => ⟨S_, .f32⟩
  | 80 => ⟨S5632, .f32⟩
  | 81 => ⟨S1x1x5632, .f32⟩
  | 82 => ⟨S4x2048x5632, .f32⟩
  | 83 => ⟨S4x2048x5632, .f32⟩
  | 84 => ⟨S_, .f32⟩
  | 85 => ⟨S5632, .f32⟩
  | 86 => ⟨S1x5632, .f32⟩
  | 87 => ⟨S_, .f32⟩
  | 88 => ⟨S3x5632, .f32⟩
  | 89 => ⟨S_, .f32⟩
  | 90 => ⟨S4x2050x5632, .f32⟩
  | 91 => ⟨S4x2048x5632, .f32⟩
  | 92 => ⟨S_, .f32⟩
  | 93 => ⟨S5632, .f32⟩
  | 94 => ⟨S1x1x5632, .f32⟩
  | 95 => ⟨S4x2048x5632, .f32⟩
  | 96 => ⟨S4x2048x5632, .f32⟩
  | 97 => ⟨S_, .f32⟩
  | 98 => ⟨S5632, .f32⟩
  | 99 => ⟨S1x5632, .f32⟩
  | 100 => ⟨S_, .f32⟩
  | 101 => ⟨S3x5632, .f32⟩
  | 102 => ⟨S3x5632, .f32⟩
  | 103 => ⟨S_, .f32⟩
  | 104 => ⟨S4x2050x5632, .f32⟩
  | 105 => ⟨S4x2050x5632, .f32⟩
  | 106 => ⟨S4x2048x5632, .f32⟩
  | 107 => ⟨S_, .f32⟩
  | 108 => ⟨S5632, .f32⟩
  | 109 => ⟨S1x1x5632, .f32⟩
  | 110 => ⟨S4x2048x5632, .f32⟩
  | 111 => ⟨S4x2048x5632, .f32⟩
  | 112 => ⟨S_, .f32⟩
  | 113 => ⟨S5632, .f32⟩
  | 114 => ⟨S1x5632, .f32⟩
  | 115 => ⟨S_, .f32⟩
  | 116 => ⟨S3x5632, .f32⟩
  | 117 => ⟨S3x5632, .f32⟩
  | 118 => ⟨S_, .f32⟩
  | 119 => ⟨S4x2050x5632, .f32⟩
  | 120 => ⟨S4x2050x5632, .f32⟩
  | 121 => ⟨S4x2x5632, .f32⟩
  | 122 => ⟨S4x2048x5632, .f32⟩
  | 123 => ⟨S4x2048x1024, .f32⟩
  | 124 => ⟨S4x2048x1024, .f32⟩
  | 125 => ⟨S_, .f32⟩
  | 126 => ⟨S1024, .f32⟩
  | 127 => ⟨S1x1x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S1024, .f32⟩
  | 4 => ⟨S1x1024, .f32⟩
  | 5 => ⟨S4x2048x1024, .f32⟩
  | 6 => ⟨S_, .f32⟩
  | 7 => ⟨S4x2048, .f32⟩
  | 8 => ⟨S4x2048x1, .f32⟩
  | 9 => ⟨S4x2048x1024, .f32⟩
  | 10 => ⟨S4x2048x1024, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048, .f32⟩
  | 17 => ⟨S4x2048x1024, .f32⟩
  | 18 => ⟨S4x2048x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S8192x1024, .f32⟩
  | 24 => ⟨S8192x5632, .f32⟩
  | 25 => ⟨S8192x5632, .bf16⟩
  | 26 => ⟨S_, .i32⟩
  | 27 => ⟨S_, .f32⟩
  | 28 => ⟨S8x5632, .f32⟩
  | 29 => ⟨S_, .i32⟩
  | 30 => ⟨S_, .f32⟩
  | 31 => ⟨S8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v43_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v43_1 : Ref sig .tc := ⟨.hbm, 66, rfl⟩
abbrev main_v43_0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_6 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c : Ref sig .tc := ⟨.hbm, 154, rfl⟩
abbrev main_call2_v0 : Ref sig .tc := ⟨.hbm, 155, rfl⟩
abbrev main_v110 : Ref sig .tc := ⟨.hbm, 156, rfl⟩
abbrev main_c_22 : Ref sig .tc := ⟨.hbm, 157, rfl⟩
abbrev main_call3_v0 : Ref sig .tc := ⟨.hbm, 158, rfl⟩
abbrev main_v111 : Ref sig .tc := ⟨.hbm, 159, rfl⟩

abbrev nD : Nat := 1
abbrev τ : Topo := Topo.v7x

variable {F : FTy → Type} [FloatOps F]
-- ==== FfnFwd.lean ====
abbrev S4x2048x1024 : Shape := ⟨3, ![4, 2048, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩
abbrev S8x5632 : Shape := ⟨2, ![8, 5632]⟩
abbrev S8192x1024 : Shape := ⟨2, ![8192, 1024]⟩
abbrev S5632x1024 : Shape := ⟨2, ![5632, 1024]⟩
abbrev S8192x5632 : Shape := ⟨2, ![8192, 5632]⟩
abbrev S8192x2816 : Shape := ⟨2, ![8192, 2816]⟩
abbrev S8x128 : Shape := ⟨2, ![8, 128]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1x2816 : Shape := ⟨2, ![1, 2816]⟩
abbrev S8x1 : Shape := ⟨2, ![8, 1]⟩
abbrev S8x2816 : Shape := ⟨2, ![8, 2816]⟩
abbrev S248x2816 : Shape := ⟨2, ![248, 2816]⟩
abbrev S1 : Shape := ⟨1, ![1]⟩
abbrev S1x1 : Shape := ⟨2, ![1, 1]⟩

abbrev nBuf : Space → Nat
  | .hbm => 23
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1x1024, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S8x5632, .f32⟩
  | .hbm, ⟨10, _⟩ => ⟨S8192x1024, .f32⟩
  | .hbm, ⟨11, _⟩ => ⟨S5632x1024, .f32⟩
  | .hbm, ⟨12, _⟩ => ⟨S5632x1024, .bf16⟩
  | .hbm, ⟨13, _⟩ => ⟨S2816x1024, .bf16⟩
  | .hbm, ⟨14, _⟩ => ⟨S1x1024, .f32⟩
  | .hbm, ⟨15, _⟩ => ⟨S8192x1024, .f32⟩
  | .hbm, ⟨16, _⟩ => ⟨S8192x5632, .bf16⟩
  | .hbm, ⟨17, _⟩ => ⟨S8192x5632, .bf16⟩
  | .hbm, ⟨18, _⟩ => ⟨S8192x2816, .bf16⟩
  | .hbm, ⟨19, _⟩ => ⟨S8192x1024, .bf16⟩
  | .hbm, ⟨20, _⟩ => ⟨S8192x1024, .f32⟩
  | .hbm, ⟨21, _⟩ => ⟨S8x128, .f32⟩
  | .hbm, ⟨22, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S8x5632, .f32⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S8x128, .f32⟩
  | .local _ .vmem, ⟨20, _⟩ => ⟨S8x1024, .f32⟩
  | .local _ .vmem, ⟨21, _⟩ => ⟨S8x5632, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnFwdRefIdeal.lean ====
abbrev S4x2048x1024 : Shape := ⟨3, ![4, 2048, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x5632 : Shape := ⟨2, ![8192, 5632]⟩
abbrev S8192x2816 : Shape := ⟨2, ![8192, 2816]⟩
abbrev S8192x1024 : Shape := ⟨2, ![8192, 1024]⟩
abbrev S8x128 : Shape := ⟨2, ![8, 128]⟩
abbrev S8x1024 : Shape := ⟨2, ![8, 1024]⟩

abbrev nBuf : Space → Nat
  | .hbm => 144
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S1x1024, .f32⟩
  | 3 => ⟨S1024x5632, .f32⟩
  | 4 => ⟨S3x5632, .f32⟩
  | 5 => ⟨S2816x1024, .f32⟩
  | 6 => ⟨S1024, .f32⟩
  | 7 => ⟨S1024, .f32⟩
  | 8 => ⟨S4x2048x1024, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x1024, .f32⟩
  | 20 => ⟨S4x2048x1024, .f32⟩
  | 21 => ⟨S1x1x1024, .f32⟩
  | 22 => ⟨S4x2048x1024, .f32⟩
  | 23 => ⟨S4x2048x1024, .f32⟩
  | 24 => ⟨S4x2048x5632, .f32⟩
  | 25 => ⟨S_, .f32⟩
  | 26 => ⟨S4x2x5632, .f32⟩
  | 27 => ⟨S4x2050x5632, .f32⟩
  | 28 => ⟨S4x2048x5632, .f32⟩
  | 29 => ⟨S1x5632, .f32⟩
  | 30 => ⟨S5632, .f32⟩
  | 31 => ⟨S1x1x5632, .f32⟩
  | 32 => ⟨S4x2048x5632, .f32⟩
  | 33 => ⟨S4x2048x5632, .f32⟩
  | 34 => ⟨S4x2048x5632, .f32⟩
  | 35 => ⟨S1x5632, .f32⟩
  | 36 => ⟨S5632, .f32⟩
  | 37 => ⟨S1x1x5632, .f32⟩
  | 38 => ⟨S4x2048x5632, .f32⟩
  | 39 => ⟨S4x2048x5632, .f32⟩
  | 40 => ⟨S4x2048x5632, .f32⟩
  | 41 => ⟨S4x2048x5632, .f32⟩
  | 42 => ⟨S1x5632, .f32⟩
  | 43 => ⟨S5632, .f32⟩
  | 44 => ⟨S1x1x5632, .f32⟩
  | 45 => ⟨S4x2048x5632, .f32⟩
  | 46 => ⟨S4x2048x5632, .f32⟩
  | 47 => ⟨S4x2048x5632, .f32⟩
  | 48 => ⟨S4x2048x2816, .f32⟩
  | 49 => ⟨S4x2048x2816, .f32⟩
  | 50 => ⟨S4x2048x2816, .f32⟩
  | 51 => ⟨S4x2048x2816, .f32⟩
  | 52 => ⟨S_, .f32⟩
  | 53 => ⟨S4x2048x2816, .f32⟩
  | 54 => ⟨S4x2048x2816, .f32⟩
  | 55 => ⟨S_, .f32⟩
  | 56 => ⟨S4x2048x2816, .f32⟩
  | 57 => ⟨S4x2048x2816, .f32⟩
  | 58 => ⟨S4x2048x2816, .f32⟩
  | 59 => ⟨S4x2048x2816, .f32⟩
  | 60 => ⟨S4x2048x1024, .f32⟩
  | 61 => ⟨S4x2048x1024, .f32⟩
  | 62 => ⟨S4x2048x1024, .f32⟩
  | 63 => ⟨S_, .f32⟩
  | 64 => ⟨S4x2048, .f32⟩
  | 65 => ⟨S4x2048x1, .f32⟩
  | 66 => ⟨S_, .f32⟩
  | 67 => ⟨S4x2048x1, .f32⟩
  | 68 => ⟨S4x2048x1, .f32⟩
  | 69 => ⟨S_, .f32⟩
  | 70 => ⟨S4x2048x1, .f32⟩
  | 71 => ⟨S4x2048x1, .f32⟩
  | 72 => ⟨S4x2048x1, .f32⟩
  | 73 => ⟨S4x2048x1, .f32⟩
  | 74 => ⟨S_, .f32⟩
  | 75 => ⟨S4x2048x1, .f32⟩
  | 76 => ⟨S4x2048x1, .f32⟩
  | 77 => ⟨S4x2048x1024, .f32⟩
  | 78 => ⟨S4x2048x1024, .f32⟩
  | 79 => ⟨S1x1x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S_, .f32⟩
  | 85 => ⟨S4x2048x1024, .f32⟩
  | 86 => ⟨S4x2048x1024, .f32⟩
  | 87 => ⟨S_, .f32⟩
  | 88 => ⟨S4x2048, .f32⟩
  | 89 => ⟨S_, .f32⟩
  | 90 => ⟨S4x2048, .f32⟩
  | 91 => ⟨S4x2048, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4x2048, .f32⟩
  | 100 => ⟨S_, .f32⟩
  | 101 => ⟨S4x2048, .f32⟩
  | 102 => ⟨S4x2048, .f32⟩
  | 103 => ⟨S4x2048x1024, .f32⟩
  | 104 => ⟨S4x2048x1024, .f32⟩
  | 105 => ⟨S4x2048x1024, .f32⟩
  | 106 => ⟨S_, .f32⟩
  | 107 => ⟨S1024, .f32⟩
  | 108 => ⟨S1x1x1024, .f32⟩
  | 109 => ⟨S4x2048x1024, .f32⟩
  | 110 => ⟨S4x2048x1024, .f32⟩
  | 111 => ⟨S_, .f32⟩
  | 112 => ⟨S1024, .f32⟩
  | 113 => ⟨S4x2048x1024, .f32⟩
  | 114 => ⟨S_, .f32⟩
  | 115 => ⟨S4x2048, .f32⟩
  | 116 => ⟨S4x2048x1, .f32⟩
  | 117 => ⟨S4x2048x1024, .f32⟩
  | 118 => ⟨S4x2048x1024, .f32⟩
  | 119 => ⟨S4x2048x1, .f32⟩
  | 120 => ⟨S_, .f32⟩
  | 121 => ⟨S4x2048x1, .f32⟩
  | 122 => ⟨S4x2048x1, .f32⟩
  | 123 => ⟨S_, .f32⟩
  | 124 => ⟨S4x2048, .f32⟩
  | 125 => ⟨S4x2048x1024, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S8192x5632, .f32⟩
  | 3 => ⟨S8192x5632, .bf16⟩
  | 4 => ⟨S8192x5632, .f32⟩
  | 5 => ⟨S8192x5632, .bf16⟩
  | 6 => ⟨S8192x2816, .f32⟩
  | 7 => ⟨S8192x2816, .bf16⟩
  | 8 => ⟨S8192x1024, .f32⟩
  | 9 => ⟨S8192x1024, .bf16⟩
  | 10 => ⟨S8192x1024, .f32⟩
  | 11 => ⟨S8x128, .f32⟩
  | 12 => ⟨S1x1024, .f32⟩
  | 13 => ⟨S_, .i32⟩
  | 14 => ⟨S_, .f32⟩
  | 15 => ⟨S8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_cst_12 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_c : Ref sig .tc := ⟨.hbm, 141, rfl⟩
abbrev main_call1_v0 : Ref sig .tc := ⟨.hbm, 142, rfl⟩
abbrev main_v105 : Ref sig .tc := ⟨.hbm, 143, rfl⟩

abbrev nD : Nat := 1
abbrev τ : Topo := Topo.v7x

variable {F : FTy → Type} [FloatOps F]
-- ==== AttnFwd.lean ====
abbrev S4x2048x5128 : Shape := ⟨3, ![4, 2048, 5128]⟩
abbrev S4x2048x8 : Shape := ⟨3, ![4, 2048, 8]⟩
abbrev S4x2048x3072 : Shape := ⟨3, ![4, 2048, 3072]⟩
abbrev S4x2048x2048 : Shape := ⟨3, ![4, 2048, 2048]⟩
abbrev S4x2048x5120 : Shape := ⟨3, ![4, 2048, 5120]⟩
abbrev S8192x5120 : Shape := ⟨2, ![8192, 5120]⟩
abbrev S_ : Shape := ⟨0, ![]⟩
abbrev S8192x8 : Shape := ⟨2, ![8192, 8]⟩
abbrev S8192x128 : Shape := ⟨2, ![8192, 128]⟩
abbrev S4x2048x4x2 : Shape := ⟨4, ![4, 2048, 4, 2]⟩
abbrev S4x4x2x2048 : Shape := ⟨4, ![4, 4, 2, 2048]⟩
abbrev S4x4x8x2048 : Shape := ⟨4, ![4, 4, 8, 2048]⟩
abbrev S8192x512 : Shape := ⟨2, ![8192, 512]⟩
abbrev S2048x128 : Shape := ⟨2, ![2048, 128]⟩
abbrev S1x1x8x2048 : Shape := ⟨4, ![1, 1, 8, 2048]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S512x1024 : Shape := ⟨2, ![512, 1024]⟩
abbrev S1024x128 : Shape := ⟨2, ![1024, 128]⟩
abbrev S1x1x1x1024 : Shape := ⟨4, ![1, 1, 1, 1024]⟩
abbrev S1x1024 : Shape := ⟨2, ![1, 1024]⟩
abbrev S512x1536 : Shape := ⟨2, ![512, 1536]⟩
abbrev S1536x128 : Shape := ⟨2, ![1536, 128]⟩
abbrev S1x1x1x1536 : Shape := ⟨4, ![1, 1, 1, 1536]⟩
abbrev S1x1536 : Shape := ⟨2, ![1, 1536]⟩
abbrev S512x2048 : Shape := ⟨2, ![512, 2048]⟩
abbrev S1x1x1x2048 : Shape := ⟨4, ![1, 1, 1, 2048]⟩
abbrev S1x2048 : Shape := ⟨2, ![1, 2048]⟩

abbrev nBuf : Space → Nat
  | .hbm => 22
  | .vmem => 14
  | .smem => 0
  | _ => 0

abbrev bufTy : (tb : Table) → Fin (tcTables nBuf tb) → BufTy
  | .hbm, ⟨0, _⟩ => ⟨S4x2048x5128, .f32⟩
  | .hbm, ⟨1, _⟩ => ⟨S4x2048x8, .f32⟩
  | .hbm, ⟨2, _⟩ => ⟨S4x2048x3072, .f32⟩
  | .hbm, ⟨3, _⟩ => ⟨S4x2048x2048, .f32⟩
  | .hbm, ⟨4, _⟩ => ⟨S4x2048x5120, .f32⟩
  | .hbm, ⟨5, _⟩ => ⟨S8192x5120, .f32⟩
  | .hbm, ⟨6, _⟩ => ⟨S8192x5120, .bf16⟩
  | .hbm, ⟨7, _⟩ => ⟨S_, .f32⟩
  | .hbm, ⟨8, _⟩ => ⟨S_, .f32⟩
  | .hbm, ⟨9, _⟩ => ⟨S4x2048x8, .f32⟩
  | .hbm, ⟨10, _⟩ => ⟨S8192x8, .f32⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S8192x8, .f32⟩
  | .hbm, ⟨15, _⟩ => ⟨S4x2048x4x2, .f32⟩
  | .hbm, ⟨16, _⟩ => ⟨S4x4x2x2048, .f32⟩
  | .hbm, ⟨17, _⟩ => ⟨S_, .i32⟩
  | .hbm, ⟨18, _⟩ => ⟨S_, .f32⟩
  | .hbm, ⟨19, _⟩ => ⟨S4x4x8x2048, .f32⟩
  | .hbm, ⟨20, _⟩ => ⟨S8192x512, .bf16⟩
  | .hbm, ⟨21, _⟩ => ⟨S8192x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x1x8x2048, .f32⟩
  | .local _ .vmem, ⟨9, _⟩ => ⟨S1x1x8x2048, .f32⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | _, _ => ⟨S4x2048x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_call0_cst : Ref sig .tc := ⟨.hbm, 7, rfl⟩
abbrev main_call0_call0_v0 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call2_v0 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnFwdIdeal.lean ====
variable {F : FTy → Type} [FloatOps F] [Named F]
def κ : String → Option EReal := fun
  | "mask" => some ⊥
  | _ => none
-- ==== AttnFwdRefIdeal.lean ====
abbrev S4x2048x5128 : Shape := ⟨3, ![4, 2048, 5128]⟩
abbrev S4x2048x8 : Shape := ⟨3, ![4, 2048, 8]⟩
abbrev S_ : Shape := ⟨0, ![]⟩
abbrev S4x8x2048 : Shape := ⟨3, ![4, 8, 2048]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8192x8 : Shape := ⟨2, ![8192, 8]⟩
abbrev S8192x512 : Shape := ⟨2, ![8192, 512]⟩
abbrev S8192x128 : Shape := ⟨2, ![8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x5128, .f32⟩
  | .hbm, ⟨1, _⟩ => ⟨S4x2048x8, .f32⟩
  | .hbm, ⟨2, _⟩ => ⟨S_, .f32⟩
  | .hbm, ⟨3, _⟩ => ⟨S_, .f32⟩
  | .hbm, ⟨4, _⟩ => ⟨S4x2048x8, .f32⟩
  | .hbm, ⟨5, _⟩ => ⟨S4x8x2048, .f32⟩
  | .hbm, ⟨6, _⟩ => ⟨S4x2048x512, .f32⟩
  | .hbm, ⟨7, _⟩ => ⟨S4x2048x512, .f32⟩
  | .hbm, ⟨8, _⟩ => ⟨S4x2048x512, .f32⟩
  | .hbm, ⟨9, _⟩ => ⟨S4x2048x8x64, .f32⟩
  | .hbm, ⟨10, _⟩ => ⟨S4x8x2048x64, .f32⟩
  | .hbm, ⟨11, _⟩ => ⟨S4x2048x8x64, .f32⟩
  | .hbm, ⟨12, _⟩ => ⟨S4x8x2048x64, .f32⟩
  | .hbm, ⟨13, _⟩ => ⟨S_, .f32⟩
  | .hbm, ⟨14, _⟩ => ⟨S4x8x2048x64, .f32⟩
  | .hbm, ⟨15, _⟩ => ⟨S4x8x2048x64, .f32⟩
  | .hbm, ⟨16, _⟩ => ⟨S4x8x2048x2048, .f32⟩
  | .hbm, ⟨17, _⟩ => ⟨S4x8x2048x1, .f32⟩
  | .hbm, ⟨18, _⟩ => ⟨S4x8x2048x2048, .f32⟩
  | .hbm, ⟨19, _⟩ => ⟨S4x8x2048x2048, .f32⟩
  | .hbm, ⟨20, _⟩ => ⟨S4x8x1x2048, .f32⟩
  | .hbm, ⟨21, _⟩ => ⟨S4x8x2048x2048, .f32⟩
  | .hbm, ⟨22, _⟩ => ⟨S4x8x2048x2048, .f32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S4x2048x8, .f32⟩
  | .hbm, ⟨39, _⟩ => ⟨S8192x8, .f32⟩
  | .hbm, ⟨40, _⟩ => ⟨S4x2048x8x64, .f32⟩
  | .hbm, ⟨41, _⟩ => ⟨S4x8x2048x64, .f32⟩
  | .hbm, ⟨42, _⟩ => ⟨S4x2048x8x64, .f32⟩
  | .hbm, ⟨43, _⟩ => ⟨S4x8x2048x64, .f32⟩
  | .hbm, ⟨44, _⟩ => ⟨S4x2048x8x64, .f32⟩
  | .hbm, ⟨45, _⟩ => ⟨S4x8x2048x64, .f32⟩
  | .hbm, ⟨46, _⟩ => ⟨S_, .f32⟩
  | .hbm, ⟨47, _⟩ => ⟨S4x8x2048x64, .f32⟩
  | .hbm, ⟨48, _⟩ => ⟨S4x8x2048x64, .f32⟩
  | .hbm, ⟨49, _⟩ => ⟨S4x8x2048x2048, .f32⟩
  | .hbm, ⟨50, _⟩ => ⟨S4x8x2048x1, .f32⟩
  | .hbm, ⟨51, _⟩ => ⟨S4x8x2048x2048, .f32⟩
  | .hbm, ⟨52, _⟩ => ⟨S4x8x2048x2048, .f32⟩
  | .hbm, ⟨53, _⟩ => ⟨S4x8x1x2048, .f32⟩
  | .hbm, ⟨54, _⟩ => ⟨S4x8x2048x2048, .f32⟩
  | .hbm, ⟨55, _⟩ => ⟨S4x8x2048x2048, .f32⟩
  | .hbm, ⟨56, _⟩ => ⟨S2048, .i32⟩
  | .hbm, ⟨57, _⟩ => ⟨S1x2048, .i32⟩
  | .hbm, ⟨58, _⟩ => ⟨S2048x1, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S_, .f32⟩
  | .hbm, ⟨63, _⟩ => ⟨S_, .f32⟩
  | .hbm, ⟨64, _⟩ => ⟨S4x8x2048x2048, .i1⟩
  | .hbm, ⟨65, _⟩ => ⟨S4x8x2048x2048, .f32⟩
  | .hbm, ⟨66, _⟩ => ⟨S4x8x2048x2048, .f32⟩
  | .hbm, ⟨67, _⟩ => ⟨S_, .f32⟩
  | .hbm, ⟨68, _⟩ => ⟨S4x8x2048, .f32⟩
  | .hbm, ⟨69, _⟩ => ⟨S_, .f32⟩
  | .hbm, ⟨70, _⟩ => ⟨S4x8x2048, .f32⟩
  | .hbm, ⟨71, _⟩ => ⟨S4x8x2048, .f32⟩
  | .hbm, ⟨72, _⟩ => ⟨S4x8x2048x1, .f32⟩
  | .hbm, ⟨73, _⟩ => ⟨S4x8x2048x2048, .f32⟩
  | .hbm, ⟨74, _⟩ => ⟨S4x8x2048x2048, .f32⟩
  | .hbm, ⟨75, _⟩ => ⟨S4x8x2048x2048, .f32⟩
  | .hbm, ⟨76, _⟩ => ⟨S_, .f32⟩
  | .hbm, ⟨77, _⟩ => ⟨S4x8x2048, .f32⟩
  | .hbm, ⟨78, _⟩ => ⟨S4x8x2048x1, .f32⟩
  | .hbm, ⟨79, _⟩ => ⟨S4x8x2048x2048, .f32⟩
  | .hbm, ⟨80, _⟩ => ⟨S4x8x2048x2048, .f32⟩
  | .hbm, ⟨81, _⟩ => ⟨S4x8x2048x64, .f32⟩
  | .hbm, ⟨82, _⟩ => ⟨S4x2048x8x64, .f32⟩
  | .hbm, ⟨83, _⟩ => ⟨S4x2048x512, .f32⟩
  | .hbm, ⟨84, _⟩ => ⟨S8192x512, .f32⟩
  | .hbm, ⟨85, _⟩ => ⟨S8192x512, .bf16⟩
  | .hbm, ⟨86, _⟩ => ⟨S_, .i32⟩
  | .hbm, ⟨87, _⟩ => ⟨S_, .f32⟩
  | .hbm, ⟨88, _⟩ => ⟨S8192x128, .f32⟩
  | _, _ => ⟨S4x2048x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c : Ref sig .tc := ⟨.hbm, 86, rfl⟩
abbrev main_call3_v0 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Cumul.lean ====
abbrev S4x2048x8 : Shape := ⟨3, ![4, 2048, 8]⟩
abbrev S1x8 : Shape := ⟨2, ![1, 8]⟩
abbrev S8192x8 : Shape := ⟨2, ![8192, 8]⟩
abbrev S_ : Shape := ⟨0, ![]⟩
abbrev S8192x128 : Shape := ⟨2, ![8192, 128]⟩
abbrev S1x128 : Shape := ⟨2, ![1, 128]⟩
abbrev S2048x128 : Shape := ⟨2, ![2048, 128]⟩
abbrev S256x256 : Shape := ⟨2, ![256, 256]⟩
abbrev S256x128 : Shape := ⟨2, ![256, 128]⟩
abbrev S128 : Shape := ⟨1, ![128]⟩

abbrev nBuf : Space → Nat
  | .hbm => 10
  | .vmem => 5
  | .smem => 0
  | _ => 0

abbrev bufTy : (tb : Table) → Fin (tcTables nBuf tb) → BufTy
  | .hbm, ⟨0, _⟩ => ⟨S4x2048x8, .f32⟩
  | .hbm, ⟨1, _⟩ => ⟨S1x8, .f32⟩
  | .hbm, ⟨2, _⟩ => ⟨S8192x8, .f32⟩
  | .hbm, ⟨3, _⟩ => ⟨S_, .i32⟩
  | .hbm, ⟨4, _⟩ => ⟨S_, .f32⟩
  | .hbm, ⟨5, _⟩ => ⟨S8192x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | _, _ => ⟨S4x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumulRefIdeal.lean ====
abbrev S4x2048x8 : Shape := ⟨3, ![4, 2048, 8]⟩
abbrev S1x8 : Shape := ⟨2, ![1, 8]⟩
abbrev S_ : Shape := ⟨0, ![]⟩
abbrev S4x2048x128 : Shape := ⟨3, ![4, 2048, 128]⟩
abbrev S1x128 : Shape := ⟨2, ![1, 128]⟩
abbrev S128 : Shape := ⟨1, ![128]⟩
abbrev S1x1x128 : Shape := ⟨3, ![1, 1, 128]⟩
abbrev S8192x128 : Shape := ⟨2, ![8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S4x2048x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S128, .f32⟩
  | .hbm, ⟨9, _⟩ => ⟨S1x1x128, .f32⟩
  | .hbm, ⟨10, _⟩ => ⟨S4x2048x128, .f32⟩
  | .hbm, ⟨11, _⟩ => ⟨S4x2048x128, .f32⟩
  | .hbm, ⟨12, _⟩ => ⟨S4x2048x128, .f32⟩
  | .hbm, ⟨13, _⟩ => ⟨S_, .f32⟩
  | .hbm, ⟨14, _⟩ => ⟨S4x2048x128, .f32⟩
  | .hbm, ⟨15, _⟩ => ⟨S4x2048x128, .f32⟩
  | .hbm, ⟨16, _⟩ => ⟨S4x2048x128, .f32⟩
  | .hbm, ⟨17, _⟩ => ⟨S4x2048x128, .f32⟩
  | .hbm, ⟨18, _⟩ => ⟨S4x2048x128, .i1⟩
  | .hbm, ⟨19, _⟩ => ⟨S4x2048x128, .f32⟩
  | .hbm, ⟨20, _⟩ => ⟨S4x2048x128, .f32⟩
  | .hbm, ⟨21, _⟩ => ⟨S4x2048x128, .f32⟩
  | .hbm, ⟨22, _⟩ => ⟨S4x2048x128, .f32⟩
  | .hbm, ⟨23, _⟩ => ⟨S4x2048x128, .f32⟩
  | .hbm, ⟨24, _⟩ => ⟨S4x2048x128, .f32⟩
  | .hbm, ⟨25, _⟩ => ⟨S4x2048x128, .f32⟩
  | .hbm, ⟨26, _⟩ => ⟨S4x2048x128, .f32⟩
  | .hbm, ⟨27, _⟩ => ⟨S4x2048x128, .f32⟩
  | .hbm, ⟨28, _⟩ => ⟨S_, .f32⟩
  | .hbm, ⟨29, _⟩ => ⟨S_, .f32⟩
  | .hbm, ⟨30, _⟩ => ⟨S4x2048x128, .f32⟩
  | .hbm, ⟨31, _⟩ => ⟨S8192x128, .f32⟩
  | _, _ => ⟨S4x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call2_v0 : Ref sig .tc := ⟨.hbm, 12, rfl⟩
abbrev main_call2_call0_cst : Ref sig .tc := ⟨.hbm, 13, rfl⟩
abbrev main_call2_call0_v0 : Ref sig .tc := ⟨.hbm, 14, rfl⟩
abbrev main_call2_call0_v1 : Ref sig .tc := ⟨.hbm, 15, rfl⟩
abbrev main_call2_call0_v2 : Ref sig .tc := ⟨.hbm, 16, rfl⟩
abbrev main_call2_call0_v3 : Ref sig .tc := ⟨.hbm, 17, rfl⟩
abbrev main_call2_call0_v4 : Ref sig .tc := ⟨.hbm, 18, rfl⟩
abbrev main_call2_call0_v5 : Ref sig .tc := ⟨.hbm, 19, rfl⟩
abbrev main_call2_call0_v6 : Ref sig .tc := ⟨.hbm, 20, rfl⟩
abbrev main_call2_call0_v7 : Ref sig .tc := ⟨.hbm, 21, rfl⟩
abbrev main_call2_call0_v8 : Ref sig .tc := ⟨.hbm, 22, rfl⟩
abbrev main_call2_call0_v9 : Ref sig .tc := ⟨.hbm, 23, rfl⟩
abbrev main_call2_call0_v10 : Ref sig .tc := ⟨.hbm, 24, rfl⟩
abbrev main_call2_call0_v11 : Ref sig .tc := ⟨.hbm, 25, rfl⟩
abbrev main_call2_v1 : Ref sig .tc := ⟨.hbm, 26, rfl⟩
abbrev main_v6 : Ref sig .tc := ⟨.hbm, 27, rfl⟩
abbrev main_call3_call0_cst : Ref sig .tc := ⟨.hbm, 28, rfl⟩
abbrev main_call3_call0_v0 : Ref sig .tc := ⟨.hbm, 29, rfl⟩
abbrev main_v7 : Ref sig .tc := ⟨.hbm, 30, rfl⟩
abbrev main_v8 : Ref sig .tc := ⟨.hbm, 31, rfl⟩

abbrev nD : Nat := 1
abbrev τ : Topo := Topo.v7x

variable {F : FTy → Type} [FloatOps F]
-- ==== InFwd.lean ====
abbrev S4x2048x1024 : Shape := ⟨3, ![4, 2048, 1024]⟩
abbrev S1x1024 : Shape := ⟨2, ![1, 1024]⟩
abbrev S1024x5128 : Shape := ⟨2, ![1024, 5128]⟩
abbrev S5128x1024 : Shape := ⟨2, ![5128, 1024]⟩
abbrev S3072x1024 : Shape := ⟨2, ![3072, 1024]⟩
abbrev S2048x1024 : Shape := ⟨2, ![2048, 1024]⟩
abbrev S8x1024 : Shape := ⟨2, ![8, 1024]⟩
abbrev S_ : Shape := ⟨0, ![]⟩
abbrev S120x1024 : Shape := ⟨2, ![120, 1024]⟩
abbrev S5248x1024 : Shape := ⟨2, ![5248, 1024]⟩
abbrev S8192x1024 : Shape := ⟨2, ![8192, 1024]⟩
abbrev S8192x5120 : Shape := ⟨2, ![8192, 5120]⟩
abbrev S8192x128 : Shape := ⟨2, ![8192, 128]⟩
abbrev S512x1024 : Shape := ⟨2, ![512, 1024]⟩
abbrev S512x5120 : Shape := ⟨2, ![512, 5120]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩

abbrev nBuf : Space → Nat
  | .hbm => 15
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x5128, .f32⟩
  | .hbm, ⟨3, _⟩ => ⟨S5128x1024, .f32⟩
  | .hbm, ⟨4, _⟩ => ⟨S5128x1024, .bf16⟩
  | .hbm, ⟨5, _⟩ => ⟨S3072x1024, .bf16⟩
  | .hbm, ⟨6, _⟩ => ⟨S2048x1024, .bf16⟩
  | .hbm, ⟨7, _⟩ => ⟨S8x1024, .bf16⟩
  | .hbm, ⟨8, _⟩ => ⟨S_, .bf16⟩
  | .hbm, ⟨9, _⟩ => ⟨S120x1024, .bf16⟩
  | .hbm, ⟨10, _⟩ => ⟨S5248x1024, .bf16⟩
  | .hbm, ⟨11, _⟩ => ⟨S8192x1024, .f32⟩
  | .hbm, ⟨12, _⟩ => ⟨S8192x5120, .bf16⟩
  | .hbm, ⟨13, _⟩ => ⟨S8192x128, .f32⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5248x1024, .bf16⟩
  | .local _ .vmem, ⟨4, _⟩ => ⟨S512x5120, .bf16⟩
  | .local _ .vmem, ⟨5, _⟩ => ⟨S512x5120, .bf16⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5248x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InFwdRefIdeal.lean ====
abbrev S4x2048x1024 : Shape := ⟨3, ![4, 2048, 1024]⟩
abbrev S1x1024 : Shape := ⟨2, ![1, 1024]⟩
abbrev S1024x5128 : Shape := ⟨2, ![1024, 5128]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x2048x5128 : Shape := ⟨3, ![4, 2048, 5128]⟩
abbrev S8192x5128 : Shape := ⟨2, ![8192, 5128]⟩
abbrev S8192x3072 : Shape := ⟨2, ![8192, 3072]⟩
abbrev S8192x2048 : Shape := ⟨2, ![8192, 2048]⟩
abbrev S8192x5120 : Shape := ⟨2, ![8192, 5120]⟩
abbrev S8192x8 : Shape := ⟨2, ![8192, 8]⟩
abbrev S8192x128 : Shape := ⟨2, ![8192, 128]⟩
abbrev S8192x1024 : Shape := ⟨2, ![8192, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x5128, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x5128, .f32⟩
  | .hbm, ⟨21, _⟩ => ⟨S8192x5128, .f32⟩
  | .hbm, ⟨22, _⟩ => ⟨S8192x3072, .f32⟩
  | .hbm, ⟨23, _⟩ => ⟨S8192x2048, .f32⟩
  | .hbm, ⟨24, _⟩ => ⟨S8192x5120, .f32⟩
  | .hbm, ⟨25, _⟩ => ⟨S8192x5120, .bf16⟩
  | .hbm, ⟨26, _⟩ => ⟨S8192x8, .f32⟩
  | .hbm, ⟨27, _⟩ => ⟨S_, .i32⟩
  | .hbm, ⟨28, _⟩ => ⟨S_, .f32⟩
  | .hbm, ⟨29, _⟩ => ⟨S8192x128, .f32⟩
  | .hbm, ⟨30, _⟩ => ⟨S8192x1024, .f32⟩
  | .hbm, ⟨31, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Reals.lean ====
/- Facts about extended reals and sums that the proofs of all the calls share: finite inputs as real
   numbers, sums and quotients of them, and the logistic function. -/
module

public import Idealize.ShloMosaic.PureOps.Ideal
public import Idealize.ShloMosaic.PureOps.IdealRules
public import Idealize.ShloMosaic.Lib.Pointwise
public import Mathlib.Data.EReal.Operations
public import Mathlib.Analysis.SpecialFunctions.Log.Basic
public import Mathlib.Analysis.SpecialFunctions.Trigonometric.DerivHyp

@[expose] public section

noncomputable section

namespace Cert.Reals

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The bit pattern of plus infinity denotes the top element. -/
theorem inf_f32 : Ideal.ofBits .f32 0x7F800000#32 = (⊤ : EReal) := by simp [Ideal.ofBits, Ideal.ieee]

/-- An extended real whose absolute value is below plus infinity is a real number. -/
theorem eq_coe_of_abs_lt {a : EReal} (h : Ideal.cmp .olt (max a (-a)) ⊤ = 1#1) : a = ((a.toReal : ℝ) : EReal) := by
  have h' : max a (-a) < ⊤ := by
    by_contra hc
    simp only [Ideal.cmp, decide_eq_false hc] at h
    exact absurd h (by decide)
  have h1 : a ≠ ⊤ := (lt_of_le_of_lt (le_max_left _ _) h').ne
  have h2 : a ≠ ⊥ := by
    rintro rfl
    exact absurd (lt_of_le_of_lt (le_max_right _ _) h').ne (by simp)
  exact (EReal.coe_toReal h1 h2).symm

/-- The bit pattern of one half. -/
theorem half_f32 : Ideal.ofBits .f32 0x3F000000#32 = (((1 / 2 : ℝ)) : EReal) := by
  simp [Ideal.ofBits, Ideal.ieee]
  norm_num
  rw [← EReal.coe_mul]
  norm_num

/-- The logistic function written with the hyperbolic tangent is the logistic function. -/
theorem half_tanh (z : ℝ) : 1 / 2 * Real.tanh (1 / 2 * z) + 1 / 2 = (1 + Real.exp (-z))⁻¹ := by
  rw [Real.tanh_eq_sinh_div_cosh, Real.sinh_eq, Real.cosh_eq]
  have h : Real.exp (-z) = Real.exp (-(1 / 2 * z)) * Real.exp (-(1 / 2 * z)) := by
    rw [← Real.exp_add]; ring_nf
  have h1 : Real.exp (1 / 2 * z) * Real.exp (-(1 / 2 * z)) = 1 := by rw [← Real.exp_add]; simp
  have p1 := Real.exp_pos (1 / 2 * z)
  have p2 := Real.exp_pos (-(1 / 2 * z))
  rw [h]
  generalize Real.exp (1 / 2 * z) = a at *
  generalize Real.exp (-(1 / 2 * z)) = b at *
  field_simp
  nlinarith

/-- `0` or `1` as an extended real, from a one-bit word widened and converted. -/
theorem sitofp_bit (p : Bool) : ((((BitVec.setWidth 32 (BitVec.ofBool p)).toInt : ℝ)) : EReal) = if p then 1 else 0 := by
  cases p <;> simp

/-- A left fold that adds `f n` at each step is the initial value plus the sum. -/
theorem foldl_add {N : Nat} (f : Fin N → EReal) (r : EReal) :
    (List.finRange N).foldl (fun r n => r + f n) r = r + ∑ n, f n := by
  have key : ∀ (L : List (Fin N)) (r : EReal), L.foldl (fun r n => r + f n) r = r + (L.map f).sum := by
    intro L
    induction L with
    | nil => intro r; simp
    | cons a L ih => intro r; rw [List.foldl_cons, ih, List.map_cons, List.sum_cons, add_assoc]
  rw [key, ← List.ofFn_eq_map, List.sum_ofFn]

/-- A running sum of a window of the padded array, with the padding value zero, is a plain sum over the window. -/
theorem reduceWindow_zero {s t : Shape} (window strides lo hi : Fin s.rank → Nat) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else 0 := by
  unfold Ideal.hostReduceWindowAdd Host.reduceWindow
  dsimp only
  rw [foldl_add, zero_add, ← Equiv.sum_comp (⟨s.rank, window⟩ : Shape).rowMajor.symm]
  exact Finset.sum_congr rfl fun n _ => by congr

/-- The larger of two reals, read in the extended reals. -/
theorem coe_max (a b : ℝ) : ((max a b : ℝ) : EReal) = max (a : EReal) (b : EReal) := EReal.coe_strictMono.monotone.map_max

/-- The absolute value of a real. -/
theorem absf_coe (z : ℝ) : (FloatOps.absf (F := Ideal) (φ := .f32) ((z : ℝ) : EReal) : EReal) = ((|z| : ℝ) : EReal) := by
  show max (z : EReal) (-(z : EReal)) = _
  rw [← EReal.coe_neg, ← coe_max]; rfl

/-- The logarithm of one plus a positive real. -/
theorem log1p_coe (z : ℝ) (hz : 0 < z) : Ideal.log1p (z : EReal) = ((Real.log (1 + z) : ℝ) : EReal) := by
  unfold Ideal.log1p
  rw [← EReal.coe_one, ← EReal.coe_add, Ideal.log_coe, if_neg (by linarith)]

/-- `log (1 + e^z)` written as `max(z, 0) + log(1 + e^{-|z|})`. -/
theorem softplus (z : ℝ) : max z 0 + Real.log (1 + Real.exp (-|z|)) = Real.log (1 + Real.exp z) := by
  rcases le_total 0 z with h | h
  · rw [max_eq_left h, abs_of_nonneg h]
    conv_lhs => rw [← Real.log_exp z]
    rw [← Real.log_mul (Real.exp_pos _).ne' (by positivity), mul_add, ← Real.exp_add]
    simp [add_comm]
  · rw [max_eq_right h, abs_of_nonpos h]; simp

/-- The derivative of `log (1 + e^z)`. -/
theorem exp_sub_softplus (z : ℝ) : Real.exp (z - Real.log (1 + Real.exp z)) = (1 + Real.exp (-z))⁻¹ := by
  have h := Real.exp_pos z
  rw [Real.exp_sub, Real.exp_log (by positivity), Real.exp_neg]
  field_simp
  ring

/-- Sum of a rank 3 array over its first two axes. -/
theorem reduceAdd_first_two {n0 n1 n2 : Nat} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  refine congrArg (init + ·) ((Finset.sum_filter_eq_sum_of_fiber _ (fun k : Fin n0 × Fin n1 => ix3 k.1 k.2 l)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- A window as long as the middle axis, padded only behind, sums the rows from `r` on. -/
theorem sum_from_row {n0 n1 n2 p : Nat} (h : (⟨3, ![n0, n1, n2]⟩ : Shape).ReduceWindows ![1, n1, 1] ![1, 1, 1] ![0, 0, 0] ![0, p, 0] ⟨3, ![n0, n1, n2]⟩)
    (x : (⟨3, ![n0, n1, n2]⟩ : Shape).Idx → EReal) (i : EReal) (hi : i = 0) (b : Fin n0) (r : Fin n1) (l : Fin n2) :
    Ideal.hostReduceWindowAdd ![1, n1, 1] ![1, 1, 1] ![0, 0, 0] ![0, p, 0] h x i (ix3 b r l)
      = ∑ w : Fin n1, if hw : r.val + w.val < n1 then x (ix3 b ⟨r.val + w.val, hw⟩ l) else 0 := by
  subst hi
  refine (reduceWindow_zero _ _ _ _ h x (ix3 b r l)).trans ((sum_idx3 (n0 := 1) (n1 := n1) (n2 := 1) _).trans ?_)
  simp only [Fin.sum_univ_one]
  refine Finset.sum_congr rfl fun w _ => ?_
  by_cases hw : r.val + w.val < n1
  · rw [dif_pos hw, dif_pos]
    · refine congrArg x ?_
      funext a
      apply Fin.ext
      match a with
      | ⟨0, _⟩ => simp
      | ⟨1, _⟩ => simp
      | ⟨2, _⟩ => simp
    · intro a
      match a with
      | ⟨0, _⟩ => exact ⟨Nat.zero_le _, by have := b.isLt; show b.val * 1 + 0 - 0 < n0; omega⟩
      | ⟨1, _⟩ => exact ⟨Nat.zero_le _, by show r.val * 1 + w.val - 0 < n1; omega⟩
      | ⟨2, _⟩ => exact ⟨Nat.zero_le _, by have := l.isLt; show l.val * 1 + 0 - 0 < n2; omega⟩
  · rw [dif_neg hw, dif_neg]
    intro hin
    have := (hin 1).2
    have : r.val * 1 + w.val - 0 < n1 := this
    omega

/-- Every entry of an array is a real number. -/
def AllReal {S : Shape} (x : S.Idx → EReal) : Prop := ∀ i, x i = (((x i).toReal : ℝ) : EReal)

/-- An array whose entries all have an absolute value below plus infinity holds real numbers. -/
theorem allReal_of_finite {S : Shape} (x : FVec Ideal S .f32) (p : S.Idx → BitVec 1) (hp : p = fun _ => 1#1)
    (hx : ∀ i, p i = Ideal.cmp .olt (max (x i) (-x i)) (Ideal.ofBits .f32 0x7F800000#32)) : AllReal x := by
  intro i
  apply eq_coe_of_abs_lt
  rw [← inf_f32, ← hx i, hp]

/-- A finite sum of reals is a real. -/
theorem real_sum {ι : Type*} (s : Finset ι) (f : ι → EReal) (h : ∀ i ∈ s, f i = (((f i).toReal : ℝ) : EReal)) :
    ∑ i ∈ s, f i = (((∑ i ∈ s, f i).toReal : ℝ) : EReal) := by
  have e : ∑ i ∈ s, f i = ((∑ i ∈ s, (f i).toReal : ℝ) : EReal) := (Finset.sum_congr rfl h).trans (coe_sum s _).symm
  rw [e, EReal.toReal_coe]

/-- An entry of an array of three axes, zero outside it. -/
def rd3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

theorem rd3_eq {a b c : ℕ} {x : (⟨3, ![a, b, c]⟩ : Shape).Idx → EReal} (hx : AllReal x) (i : Fin a) (j : Fin b) (k : Fin c) :
    x (ix3 i j k) = ((rd3 x i j k : ℝ) : EReal) := by
  have e : rd3 x i j k = (x (ix3 i j k)).toReal := dif_pos ⟨i.isLt, j.isLt, k.isLt⟩
  rw [e]
  exact hx _

/-- The same at any index whose coordinates are known. -/
theorem rd3_at {a b c : ℕ} {x : (⟨3, ![a, b, c]⟩ : Shape).Idx → EReal} (hx : AllReal x) (y : (⟨3, ![a, b, c]⟩ : Shape).Idx) (i j k : ℕ)
    (h0 : (y 0 : ℕ) = i) (h1 : (y 1 : ℕ) = j) (h2 : (y 2 : ℕ) = k) : x y = ((rd3 x i j k : ℝ) : EReal) := by
  subst h0 h1 h2
  have e : y = ix3 (y 0) (y 1) (y 2) := funext fun a => match a with | 0 => rfl | 1 => rfl | 2 => rfl
  exact (congrArg x e).trans (rd3_eq hx (y 0) (y 1) (y 2))

theorem rd3_out {a b c : ℕ} (x : (⟨3, ![a, b, c]⟩ : Shape).Idx → EReal) (i j k : ℕ) (h : c ≤ k) : rd3 x i j k = 0 :=
  dif_neg fun q => absurd q.2.2 (by omega)

/-- The running maximum from minus infinity of entries that are real or minus infinity, one of them real, is real. -/
theorem fold_max_real {ι : Type*} [DecidableEq ι] (s : Finset ι) (f : ι → EReal) (h : ∀ i ∈ s, f i ≠ ⊤) (k : ι) (hk : k ∈ s) (hb : f k ≠ ⊥) :
    s.fold max ⊥ f = (((s.fold max ⊥ f).toReal : ℝ) : EReal) := by
  refine (EReal.coe_toReal ?_ ?_).symm
  · have : ∀ t : Finset ι, t ⊆ s → t.fold max ⊥ f ≠ ⊤ := by
      intro t
      induction t using Finset.induction_on with
      | empty => intro _; simp
      | insert a t ha ih =>
        intro ht
        rw [Finset.fold_insert ha]
        have h1 := h a (ht (Finset.mem_insert_self a t))
        have h2 := ih fun x hx => ht (Finset.mem_insert_of_mem hx)
        rcases max_choice (f a) (t.fold max ⊥ f) with e | e <;> rw [e] <;> assumption
    exact this s (Finset.Subset.refl s)
  · intro e
    have : f k ≤ s.fold max ⊥ f := (Finset.le_fold_max _).mpr (Or.inr ⟨k, hk, le_rfl⟩)
    rw [e] at this
    exact hb (le_bot_iff.mp this)

end Cert.Reals

end
-- ==== Proof.Forget.Chunk.lean ====
/- One chunk of 256 rows of the forget gate's gradient: the kernel's unrolled stretches are one function of the
   chunk, and over the reals it extends a suffix sum by 256 rows and multiplies by the gate. -/
module

public import proofs.«01_k».proof.Proof.Gen.ForgetIdeal.Skeleton
public import proofs.«01_k».proof.Proof.Reals
public import Idealize.ShloMosaic.Lib.Pointwise

@[expose] public section

set_option maxRecDepth 16384

noncomputable section

namespace Cert.ForgetProof

open Cert.ForgetIdeal Cert.ForgetIdeal.Gen Idealize.ShloMosaic Idealize.ShloMosaic.TcCoe

section Same
variable {F : FTy → Type} [FloatOps F]
variable (t : FVec F S256x256 .bf16) (c bf a : FVec F S1x128 .f32) (v fl : FVec F S256x128 .f32)

/-! The unrolled stretches of the body, each written as `k0_pay13` (suffix sums of a chunk), `k0_pay14` (the carry),
    `k0_pay31` (the gradient stored) and `k0_pay32` (the bias row). -/

theorem dlf7 : k0_pay6 v = k0_pay13 k0_pay3 k0_pay4 v := rfl
theorem carry7 : k0_pay7 v = k0_pay14 k0_pay4 v := rfl
theorem out7 : k0_pay10 v (k0_pay8 fl bf) = k0_pay31 v fl bf := rfl
theorem row7 : k0_pay11 v (k0_pay8 fl bf) a = k0_pay32 v fl bf a := rfl
theorem out6 : k0_pay17 v (k0_pay15 fl bf) (FloatOps.ofBits .f32 1056964608#32) = k0_pay31 v fl bf := rfl
theorem row6 : k0_pay18 v (k0_pay15 fl bf) (FloatOps.ofBits .f32 1056964608#32) a = k0_pay32 v fl bf a := rfl
theorem dlf5 : k0_pay20 t c v = k0_pay13 t c v := rfl
theorem carry5 : k0_pay21 c v = k0_pay14 c v := rfl
theorem out5 : k0_pay25 v (k0_pay22 fl) (k0_pay23 bf) = k0_pay31 v fl bf := rfl
theorem row5 : k0_pay26 v (k0_pay22 fl) (k0_pay23 bf) a = k0_pay32 v fl bf a := rfl
theorem dlf4 : k0_pay28 t c v = k0_pay13 t c v := rfl
theorem carry4 : k0_pay29 c v = k0_pay14 c v := rfl
theorem dlf3 : k0_pay34 t c v = k0_pay13 t c v := rfl
theorem carry3 : k0_pay35 c (k0_pay33 v) = k0_pay14 c v := rfl
theorem out3 : k0_pay37 v fl bf = k0_pay31 v fl bf := rfl
theorem row3 : k0_pay38 v fl bf a = k0_pay32 v fl bf a := rfl
theorem carry2 : k0_pay45 c (k0_pay39 v) = k0_pay14 c v := rfl
theorem out2 : k0_pay47 t c (k0_pay40 v) (k0_pay43 t v) (k0_pay44 t v) fl bf = k0_pay31 (k0_pay13 t c v) fl bf := rfl
theorem row2 : k0_pay48 t c (k0_pay40 v) (k0_pay43 t v) (k0_pay44 t v) fl bf a = k0_pay32 (k0_pay13 t c v) fl bf a := rfl
theorem carry1 : k0_pay54 c (k0_pay49 v) = k0_pay14 c v := rfl
theorem out1 : k0_pay56 t c (k0_pay50 v) (k0_pay51 v) (k0_pay52 v) (k0_pay53 v) fl bf = k0_pay31 (k0_pay13 t c v) fl bf := rfl
theorem row1 : k0_pay57 t c (k0_pay50 v) (k0_pay51 v) (k0_pay52 v) (k0_pay53 v) fl bf a = k0_pay32 (k0_pay13 t c v) fl bf a := rfl
theorem out0 (w : FVec F S256x128 .f32) : k0_pay59 t c w fl bf = k0_pay31 (k0_pay13 t c w) fl bf := rfl
theorem row0 (w : FVec F S256x128 .f32) : k0_pay1 (k0_pay58 t c w fl bf) (k0_pay60 a) = k0_pay32 (k0_pay13 t c w) fl bf a := rfl

end Same

/-! ## Over the reals -/

/-- The gate's derivative factor: the logistic function of minus the pre-activation. -/
def gate (z : ℝ) : ℝ := 1 / 2 * Real.tanh (1 / 2 * (0 - z)) + 1 / 2

/-- The sum of the rows from `n` on, of 2048. -/
def sfx (x : ℕ → ℕ → ℝ) (n l : ℕ) : ℝ := ∑ i ∈ Finset.Ico n 2048, x i l

/-- The gradient of row `n`, lane `l`: the suffix sum times the gate factor. -/
def grad (x f : ℕ → ℕ → ℝ) (b : ℕ → ℝ) (n l : ℕ) : ℝ := sfx x n l * gate (f n l + b l)

theorem sfx_step (x : ℕ → ℕ → ℝ) (n m l : ℕ) (h : n ≤ m) (hm : m ≤ 2048) :
    (∑ i ∈ Finset.Ico n m, x i l) + sfx x m l = sfx x n l :=
  Finset.sum_Ico_consecutive _ h hm

/-- The triangle of ones at row `r`, column `k`. -/
theorem tri_apply (r k : Fin 256) : k0_pay3 (F := Ideal) (ix2 r k) = if r ≤ k then (1 : EReal) else 0 := by
  pointwise [k0_pay3]
  rw [show IntOp.cmpi .sge (BitVec.ofNat 32 (k : ℕ)) (BitVec.ofNat 32 (r : ℕ)) = BitVec.ofBool (decide (r ≤ k)) from ?_]
  · refine (Cert.Reals.sitofp_bit _).trans ?_
    simp only [decide_eq_true_eq]
  · revert r k; decide +kernel

/-- A sum against the triangle keeps the rows from `r` on. -/
theorem tri_sum (g : Fin 256 → ℝ) (r : Fin 256) :
    ∑ k : Fin 256, k0_pay3 (F := Ideal) (ix2 r k) * (g k : EReal) = ((∑ k : Fin 256, if r ≤ k then g k else 0 : ℝ) : EReal) := by
  rw [Cert.Reals.coe_sum]
  refine Finset.sum_congr rfl fun k _ => ?_
  rw [tri_apply]
  split <;> simp

/-- Summing the rows from `r` on of a chunk of 256, by position. -/
theorem sum_from (g : ℕ → ℝ) (o : ℕ) (r : Fin 256) :
    (∑ k : Fin 256, if r ≤ k then g (o + k) else 0) = ∑ i ∈ Finset.Ico (o + r) (o + 256), g i := by
  rw [Finset.sum_Ico_eq_sum_range, ← Finset.sum_filter]
  refine (Finset.sum_nbij' (fun k => (k : ℕ) - r) (fun i => ⟨(i + r) % 256, Nat.mod_lt _ (by norm_num)⟩) ?_ ?_ ?_ ?_ ?_)
  · intro k hk; have := k.isLt; simp only [Finset.mem_filter, Finset.mem_univ, true_and, Fin.le_def] at hk; simp only [Finset.mem_range]; omega
  · intro i hi; simp only [Finset.mem_range] at hi; simp only [Finset.mem_filter, Finset.mem_univ, true_and, Fin.le_def]; rw [Nat.mod_eq_of_lt (by omega)]; omega
  · intro k hk; have := k.isLt; simp only [Finset.mem_filter, Finset.mem_univ, true_and, Fin.le_def] at hk; ext; simp only; rw [Nat.mod_eq_of_lt (by omega)]; omega
  · intro i hi; simp only [Finset.mem_range] at hi; simp only; rw [Nat.mod_eq_of_lt (by omega)]; omega
  · intro k hk; simp only [Finset.mem_filter, Finset.mem_univ, true_and, Fin.le_def] at hk; congr 1; omega

/-- Summing a whole chunk, by position. -/
theorem sum_chunk (g : ℕ → ℝ) (o : ℕ) : (∑ k : Fin 256, g (o + k)) = ∑ i ∈ Finset.Ico o (o + 256), g i := by
  simpa using sum_from g o 0

/-- A block of 256 rows holds rows `o, o + 1, …` of `x`. -/
def IsRows (x : ℕ → ℕ → ℝ) (o : ℕ) (d : FVec Ideal S256x128 .f32) : Prop :=
  ∀ (r : Fin 256) (l : Fin 128), d (ix2 r l) = ((x (o + r) l : ℝ) : EReal)

/-- A row of 128 lanes holds `y`. -/
def IsLane (y : ℕ → ℝ) (d : FVec Ideal S1x128 .f32) : Prop := ∀ l : Fin 128, d (ix2 0 l) = ((y l : ℝ) : EReal)

variable {x f : ℕ → ℕ → ℝ} {b y : ℕ → ℝ} {o : ℕ}
variable {c bf a : FVec Ideal S1x128 .f32} {d fl : FVec Ideal S256x128 .f32}

/-- The suffix sums within a chunk, given the carry of the rows behind it. -/
theorem IsRows.dlf (hd : IsRows x o d) (ho : o + 256 ≤ 2048) (hc : IsLane (sfx x (o + 256)) c) :
    IsRows (sfx x) o (k0_pay13 (F := Ideal) k0_pay3 c d) := by
  intro r l
  have h : k0_pay13 (F := Ideal) k0_pay3 c d (ix2 r l)
      = (∑ k : Fin 256, k0_pay3 (F := Ideal) (ix2 r k) * (d (ix2 k l) - d (ix2 k l) - (d (ix2 k l) - d (ix2 k l)))
        + ∑ k : Fin 256, k0_pay3 (F := Ideal) (ix2 r k) * (d (ix2 k l) - d (ix2 k l))
        + ∑ k : Fin 256, k0_pay3 (F := Ideal) (ix2 r k) * d (ix2 k l)) + c (ix2 0 l) := by
    pointwise [k0_pay13, k0_pay12]
  have hd' : ∀ k : Fin 256, d (ix2 k l) = ((x (o + k) l : ℝ) : EReal) := fun k => hd k l
  rw [h, hc l]
  simp only [hd', ← EReal.coe_sub, sub_self]
  rw [tri_sum (fun _ => 0), tri_sum]
  simp only [ite_self, Finset.sum_const_zero, EReal.coe_zero, zero_add]
  rw [← EReal.coe_add, sum_from (fun i => x i l), sfx_step x (o + r) (o + 256) l (by omega) ho]

/-- The carry after a chunk. -/
theorem IsRows.carry (hd : IsRows x o d) (ho : o + 256 ≤ 2048) (hc : IsLane (sfx x (o + 256)) c) :
    IsLane (sfx x o) (k0_pay14 (F := Ideal) c d) := by
  intro l
  have h : k0_pay14 (F := Ideal) c d (ix2 0 l) = c (ix2 0 l) + ∑ k : Fin 256, d (ix2 k l) := by
    pointwise [k0_pay14, k0_pay12]
  have hd' : ∀ k : Fin 256, d (ix2 k l) = ((x (o + k) l : ℝ) : EReal) := fun k => hd k l
  rw [h, hc l]
  simp only [hd']
  rw [← Cert.Reals.coe_sum, ← EReal.coe_add, sum_chunk (fun i => x i l), add_comm, sfx_step x o (o + 256) l (by omega) ho]

/-- One entry of the gradient, from the suffix sum and the pre-activation. -/
theorem grad_apply (hd : IsRows (sfx x) o d) (hf : IsRows f o fl) (hb : IsLane b bf) (r : Fin 256) (l : Fin 128) :
    k0_pay30 (F := Ideal) d fl bf (ix2 r l) = ((grad x f b (o + r) l : ℝ) : EReal) := by
  have h : k0_pay30 (F := Ideal) d fl bf (ix2 r l)
      = d (ix2 r l) * (Ideal.ofBits .f32 0x3F000000#32 * Ideal.tanh (Ideal.ofBits .f32 0x3F000000#32 * (0 - (fl (ix2 r l) + bf (ix2 0 l))))
        + Ideal.ofBits .f32 0x3F000000#32) := by
    pointwise [k0_pay30]
  rw [h, hd r l, hf r l, hb l, Cert.Reals.half_f32, ← EReal.coe_zero, ← EReal.coe_add, ← EReal.coe_sub, ← EReal.coe_mul, Ideal.tanh_coe,
    ← EReal.coe_mul, ← EReal.coe_add, ← EReal.coe_mul]
  rfl

/-- The stored piece of the gradient. -/
theorem out_apply (hd : IsRows (sfx x) o d) (hf : IsRows f o fl) (hb : IsLane b bf) (r : Fin 256) (l : Fin 128) :
    k0_pay31 (F := Ideal) d fl bf (ix2 r l) = ((grad x f b (o + r) l : ℝ) : EReal) :=
  Eq.trans (by pointwise [k0_pay31]) (grad_apply hd hf hb r l)

/-- The bias row after a chunk: the chunk's gradients added to it. -/
theorem row_apply (hd : IsRows (sfx x) o d) (hf : IsRows f o fl) (hb : IsLane b bf) (ha : IsLane y a) :
    IsLane (fun l => y l + ∑ i ∈ Finset.Ico o (o + 256), grad x f b i l) (k0_pay32 (F := Ideal) d fl bf a) := by
  intro l
  have h : k0_pay32 (F := Ideal) d fl bf a (ix2 0 l) = a (ix2 0 l) + ∑ k : Fin 256, k0_pay30 (F := Ideal) d fl bf (ix2 k l) := by
    pointwise [k0_pay32]
  have hd' : ∀ k : Fin 256, k0_pay30 (F := Ideal) d fl bf (ix2 k l) = ((grad x f b (o + k) l : ℝ) : EReal) := fun k => grad_apply hd hf hb k l
  rw [h, ha l]
  simp only [hd']
  rw [← Cert.Reals.coe_sum, ← EReal.coe_add, sum_chunk (fun i => grad x f b i l)]

end Cert.ForgetProof

end
-- ==== Proof.Forget.Kernel.lean ====
/- What one grid point of the forget gate's backward kernel leaves in its two output blocks, over the reals. -/
module

public import proofs.«01_k».proof.Proof.Gen.ForgetIdeal.Value
public import proofs.«01_k».proof.Proof.Forget.Chunk
public import Idealize.ShloMosaic.Lib.Pipeline.ValueKit
public import Idealize.ShloMosaic.Lib.WritesUnit
public import Idealize.ShloMosaic.Lib.Pointwise

@[expose] public section

set_option maxRecDepth 16384

noncomputable section

namespace Cert.ForgetProof

open Cert.ForgetIdeal Cert.ForgetIdeal.Gen Idealize.ShloMosaic Idealize.ShloMosaic.TcCoe Idealize.SL.Sem

/-! ## The rows of a block, chunk by chunk -/

section Block
variable {x f : ℕ → ℕ → ℝ} {b y : ℕ → ℝ}

/-- A block of 2048 rows holds `x`. -/
def IsBlock (x : ℕ → ℕ → ℝ) (X : FVec Ideal S2048x128 .f32) : Prop :=
  ∀ (n : Fin 2048) (l : Fin 128), X (ix2 n l) = ((x n l : ℝ) : EReal)

/-- The chunk loaded at row `o`. -/
theorem IsBlock.rows {X : FVec Ideal S2048x128 .f32} (h : IsBlock x X) (o : ℕ)
    (inb : ∀ a : Fin S2048x128.rank, (![o, 0] : Fin 2 → ℕ) a + (![256, 128] : Fin 2 → ℕ) a ≤ S2048x128.size a) :
    IsRows x o (View.ld (Val := Elt Ideal) (e' := .f32) X (Rect.unit (s := S2048x128) ![o, 0] ![256, 128] inb)) := by
  intro r l
  have ho : o + 256 ≤ 2048 := inb 0
  have hr : o + (r : ℕ) < 2048 := by have := r.isLt; omega
  refine (View.ld_unit_apply_of (Val := Elt Ideal) (e := .f32) X _ _ inb (ix2 r l) (ix2 ⟨o + r, hr⟩ l) ?_).trans (h _ _)
  intro a
  match a with
  | 0 => rfl
  | 1 => exact (Nat.zero_add _).symm

/-- No rows lie behind the last chunk. -/
theorem zero_carry : IsLane (sfx x 2048) (k0_pay4 (F := Ideal)) := by
  intro l
  have h : k0_pay4 (F := Ideal) (ix2 0 l) = 0 := by pointwise [k0_pay4]
  rw [h]; simp [sfx]

/-- The gradients summed over the eight chunks are the gradients summed over all the rows. -/
theorem sum_chunks (g : ℕ → ℝ) (y : ℝ) :
    y + ∑ i ∈ Finset.Ico 1792 (1792 + 256), g i + ∑ i ∈ Finset.Ico 1536 (1536 + 256), g i + ∑ i ∈ Finset.Ico 1280 (1280 + 256), g i
      + ∑ i ∈ Finset.Ico 1024 (1024 + 256), g i + ∑ i ∈ Finset.Ico 768 (768 + 256), g i + ∑ i ∈ Finset.Ico 512 (512 + 256), g i
      + ∑ i ∈ Finset.Ico 256 (256 + 256), g i + ∑ i ∈ Finset.Ico 0 (0 + 256), g i = y + ∑ i ∈ Finset.range 2048, g i := by
  have e := fun (a b c : ℕ) (h : a ≤ b) (h' : b ≤ c) => Finset.sum_Ico_consecutive g h h'
  rw [Finset.range_eq_Ico, ← e 0 256 2048 (by norm_num) (by norm_num), ← e 256 512 2048 (by norm_num) (by norm_num),
    ← e 512 768 2048 (by norm_num) (by norm_num), ← e 768 1024 2048 (by norm_num) (by norm_num),
    ← e 1024 1280 2048 (by norm_num) (by norm_num), ← e 1280 1536 2048 (by norm_num) (by norm_num),
    ← e 1536 1792 2048 (by norm_num) (by norm_num)]
  norm_num only
  ring

/-- A piece known row by row, read at an index of the block it is stored in. -/
theorem at_row {P : FVec Ideal S256x128 .bf16} {g : ℕ → ℕ → ℝ} {o : ℕ}
    (p : ∀ (r : Fin 256) (l : Fin 128), P (ix2 r l) = ((g (o + r) l : ℝ) : EReal)) (z : S256x128.Idx) {n l : ℕ}
    (h0 : n = o + (z 0 : ℕ)) (h1 : l = (z 1 : ℕ)) : P z = ((g n l : ℝ) : EReal) := by
  subst h0 h1
  have e : z = ix2 (z 0) (z 1) := funext fun a => match a with | 0 => rfl | 1 => rfl
  exact (congrArg P e).trans (p (z 0) (z 1))

end Block

/-! ## The two output blocks at a grid point -/

variable (m : (ℓ : Loc nD τ sig) → Buf (Elt Ideal) ℓ)
variable {x f : ℕ → ℕ → ℝ} {b y : ℕ → ℝ}

set_option maxHeartbeats 800000 in
/-- The gradient block at a point: row by row the suffix sum of `dF` times the gate factor. -/
theorem block3 (c : Dev nD) (t : Fin cfg0.N) (hx : IsBlock x (iblk m c 0 t)) (hf : IsBlock f (iblk m c 1 t)) (hb : IsLane b (iblk m c 2 t))
    (n : Fin 2048) (l : Fin 128) :
    ((outsAt0 m c t.val t.isLt).1 : FVec Ideal S2048x128 .bf16) (ix2 n l) = ((grad x f b n l : ℝ) : EReal) := by
  have c7 := (hx.rows 1792 inb_S2048x128_S256x128_1792_0).carry (by norm_num) zero_carry
  have c6 := (hx.rows 1536 inb_S2048x128_S256x128_1536_0).carry (by norm_num) c7
  have c5 := (hx.rows 1280 inb_S2048x128_S256x128_1280_0).carry (by norm_num) c6
  have c4 := (hx.rows 1024 inb_S2048x128_S256x128_1024_0).carry (by norm_num) c5
  have c3 := (hx.rows 768 inb_S2048x128_S256x128_768_0).carry (by norm_num) c4
  have c2 := (hx.rows 512 inb_S2048x128_S256x128_512_0).carry (by norm_num) c3
  have c1 := (hx.rows 256 inb_S2048x128_S256x128_256_0).carry (by norm_num) c2
  have p7 := out_apply ((hx.rows 1792 inb_S2048x128_S256x128_1792_0).dlf (by norm_num) zero_carry) (hf.rows 1792 inb_S2048x128_S256x128_1792_0) hb
  have p6 := out_apply ((hx.rows 1536 inb_S2048x128_S256x128_1536_0).dlf (by norm_num) c7) (hf.rows 1536 inb_S2048x128_S256x128_1536_0) hb
  have p5 := out_apply ((hx.rows 1280 inb_S2048x128_S256x128_1280_0).dlf (by norm_num) c6) (hf.rows 1280 inb_S2048x128_S256x128_1280_0) hb
  have p4 := out_apply ((hx.rows 1024 inb_S2048x128_S256x128_1024_0).dlf (by norm_num) c5) (hf.rows 1024 inb_S2048x128_S256x128_1024_0) hb
  have p3 := out_apply ((hx.rows 768 inb_S2048x128_S256x128_768_0).dlf (by norm_num) c4) (hf.rows 768 inb_S2048x128_S256x128_768_0) hb
  have p2 := out_apply ((hx.rows 512 inb_S2048x128_S256x128_512_0).dlf (by norm_num) c3) (hf.rows 512 inb_S2048x128_S256x128_512_0) hb
  have p1 := out_apply ((hx.rows 256 inb_S2048x128_S256x128_256_0).dlf (by norm_num) c2) (hf.rows 256 inb_S2048x128_S256x128_256_0) hb
  have p0 := out_apply ((hx.rows 0 inb_S2048x128_S256x128_0_0).dlf (by norm_num) c1) (hf.rows 0 inb_S2048x128_S256x128_0_0) hb
  by_cases h0 : t.val % 4 = 0
  on_goal 1 => rw [outsAt0_A m c t h0]
  on_goal 2 => rw [outsAt0_B m c t h0]
  all_goals
    frame_out
    simp only [dlf7, carry7, out7, out6, dlf5, carry5, out5, dlf4, carry4, dlf3, carry3, out3, carry2, out2, carry1, out1, out0]
    canon_tiles z hz
    · exact at_row p0 z (hz0.trans (Nat.zero_add _).symm) hz1
    · exact at_row p1 z hz0 hz1
    · exact at_row p2 z hz0 hz1
    · exact at_row p3 z hz0 hz1
    · exact at_row p4 z hz0 hz1
    · exact at_row p5 z hz0 hz1
    · exact at_row p6 z hz0 hz1
    · exact at_row p7 z hz0 hz1

/-- The first row of a bias block, read. -/
theorem lane_of_row {X : FVec Ideal S8x128 .f32} (hX : ∀ l : Fin 128, X (ix2 0 l) = ((y l : ℝ) : EReal)) :
    IsLane y (View.ld (Val := Elt Ideal) (e' := .f32) X (Rect.unit (s := S8x128) ![0, 0] ![1, 128] inb_S8x128_S1x128_0_0)) := by
  intro l
  refine (View.ld_unit_apply_of (Val := Elt Ideal) (e := .f32) X _ _ inb_S8x128_S1x128_0_0 (ix2 0 l) (ix2 0 l) ?_).trans (hX l)
  intro a
  match a with
  | 0 => rfl
  | 1 => exact (Nat.zero_add _).symm

/-- The zero block. -/
theorem zero_block (r : Fin 8) (l : Fin 128) : k0_pay2 (F := Ideal) (ix2 r l) = 0 := by pointwise [k0_pay2]

/-- The zero block, as the only store, read back. -/
theorem read_zero_block (r : Fin 8) (l : Fin 128) :
    View.canon (Val := Elt Ideal) (e := .f32) [⟨Rect.unit (s := S8x128) ![0, 0] ![8, 128] inb_S8x128_S8x128_0_0, k0_pay2 (F := Ideal)⟩] (ix2 r l) = (0 : EReal) := by
  rw [View.canon_cons_unit_lit']
  · exact zero_block r l
  · intro a; match a with
    | 0 => rfl
    | 1 => rfl

/-- A store to the first row, read at the first row. -/
theorem read_row {w : FVec Ideal S1x128 .f32} {L : List (View.Piece (Elt Ideal) S8x128 .f32)} (l : Fin 128) :
    View.canon (Val := Elt Ideal) (e := .f32) (⟨Rect.unit (s := S8x128) ![0, 0] ![1, 128] inb_S8x128_S1x128_0_0, w⟩ :: L) (ix2 0 l) = w (ix2 0 l) := by
  have e : (ix2 0 l : S8x128.Idx) = (Rect.unit (s := S8x128) ![0, 0] ![1, 128] inb_S8x128_S1x128_0_0).emb (ix2 0 l) := by
    funext a; apply Fin.ext; match a with
    | 0 => rfl
    | 1 => show (l : ℕ) = 0 + 1 * l; omega
  rw [e]
  exact View.canon_cons_emb (Rect.unit (s := S8x128) ![0, 0] ![1, 128] inb_S8x128_S1x128_0_0) w L (ix2 0 l)

/-- A store to the first row, read at another row. -/
theorem skip_row {w : FVec Ideal S1x128 .f32} {L : List (View.Piece (Elt Ideal) S8x128 .f32)} {r : Fin 8} (hr : r ≠ 0) (l : Fin 128) :
    View.canon (Val := Elt Ideal) (e := .f32) (⟨Rect.unit (s := S8x128) ![0, 0] ![1, 128] inb_S8x128_S1x128_0_0, w⟩ :: L) (ix2 r l)
      = View.canon L (ix2 r l) := by
  refine View.canon_cons_of_not_mem _ _ ?_
  rw [Rect.mem_set_unit]
  intro h
  have h0 : (r : ℕ) < 0 + 1 := (h 0).2
  exact hr (Fin.ext (by show (r : ℕ) = 0; omega))

set_option maxHeartbeats 1600000 in
/-- The bias block at a point: row 0 holds what was there before (nothing at the first point) plus the gradients summed
    over the rows; the other rows hold zero. -/
theorem block4 (c : Dev nD) (t : Fin cfg0.N) (hx : IsBlock x (iblk m c 0 t)) (hf : IsBlock f (iblk m c 1 t)) (hb : IsLane b (iblk m c 2 t))
    (h00 : t.val % 4 = 0 → ∀ l, y l = 0)
    (hy : ¬ t.val % 4 = 0 → ∀ (r : Fin 8) (l : Fin 128),
      ((outsAt0 m c (t.val - 1) (Nat.lt_of_le_of_lt (Nat.sub_le t.val 1) t.isLt)).2 : FVec Ideal S8x128 .f32) (ix2 r l) = ((if r = 0 then y l else 0 : ℝ) : EReal))
    (r : Fin 8) (l : Fin 128) :
    ((outsAt0 m c t.val t.isLt).2 : FVec Ideal S8x128 .f32) (ix2 r l) = ((if r = 0 then y l + ∑ i ∈ Finset.range 2048, grad x f b i l else 0 : ℝ) : EReal) := by
  have c7 := (hx.rows 1792 inb_S2048x128_S256x128_1792_0).carry (by norm_num) zero_carry
  have c6 := (hx.rows 1536 inb_S2048x128_S256x128_1536_0).carry (by norm_num) c7
  have c5 := (hx.rows 1280 inb_S2048x128_S256x128_1280_0).carry (by norm_num) c6
  have c4 := (hx.rows 1024 inb_S2048x128_S256x128_1024_0).carry (by norm_num) c5
  have c3 := (hx.rows 768 inb_S2048x128_S256x128_768_0).carry (by norm_num) c4
  have c2 := (hx.rows 512 inb_S2048x128_S256x128_512_0).carry (by norm_num) c3
  have c1 := (hx.rows 256 inb_S2048x128_S256x128_256_0).carry (by norm_num) c2
  have tot := fun (A : FVec Ideal S1x128 .f32) (hA : IsLane y A) =>
    row_apply ((hx.rows 0 inb_S2048x128_S256x128_0_0).dlf (by norm_num) c1) (hf.rows 0 inb_S2048x128_S256x128_0_0) hb <|
    row_apply ((hx.rows 256 inb_S2048x128_S256x128_256_0).dlf (by norm_num) c2) (hf.rows 256 inb_S2048x128_S256x128_256_0) hb <|
    row_apply ((hx.rows 512 inb_S2048x128_S256x128_512_0).dlf (by norm_num) c3) (hf.rows 512 inb_S2048x128_S256x128_512_0) hb <|
    row_apply ((hx.rows 768 inb_S2048x128_S256x128_768_0).dlf (by norm_num) c4) (hf.rows 768 inb_S2048x128_S256x128_768_0) hb <|
    row_apply ((hx.rows 1024 inb_S2048x128_S256x128_1024_0).dlf (by norm_num) c5) (hf.rows 1024 inb_S2048x128_S256x128_1024_0) hb <|
    row_apply ((hx.rows 1280 inb_S2048x128_S256x128_1280_0).dlf (by norm_num) c6) (hf.rows 1280 inb_S2048x128_S256x128_1280_0) hb <|
    row_apply ((hx.rows 1536 inb_S2048x128_S256x128_1536_0).dlf (by norm_num) c7) (hf.rows 1536 inb_S2048x128_S256x128_1536_0) hb <|
    row_apply ((hx.rows 1792 inb_S2048x128_S256x128_1792_0).dlf (by norm_num) zero_carry) (hf.rows 1792 inb_S2048x128_S256x128_1792_0) hb hA
  rw [← sum_chunks (fun i => grad x f b i l) (y l)]
  by_cases h0 : t.val % 4 = 0
  · rw [outsAt0_A m c t h0]
    frame_out
    simp only [dlf7, carry7, row7, row6, dlf5, carry5, row5, dlf4, carry4, dlf3, carry3, row3, carry2, row2, carry1, row1, row0, View.readCov_cons_toLoadRect]
    by_cases hr : r = 0
    · subst hr
      rw [if_pos rfl]
      refine (read_row l).trans ?_
      have hA : IsLane y ((ms0_4 t).view.readCov (Val := Elt Ideal)
          [⟨Rect.unit (s := S8x128) ![0, 0] ![8, 128] inb_S8x128_S8x128_0_0, k0_pay2 (F := Ideal)⟩]
          (Rect.unit (s := S8x128) ![0, 0] ![1, 128] inb_S8x128_S1x128_0_0).toLoadRect) := by
        rw [View.readCov_eq_canon_ld]
        · refine lane_of_row fun l' => ?_
          rw [h00 h0 l']
          exact read_zero_block 0 l'
        · exact View.cover_of_tiled_head _ _ _ (by rfl)
      have q := tot _ hA l
      beta_reduce at q
      exact q
    · rw [if_neg hr]
      rw [skip_row hr, skip_row hr, skip_row hr, skip_row hr, skip_row hr, skip_row hr, skip_row hr, skip_row hr]
      exact read_zero_block r l
  · rw [outsAt0_B m c t h0]
    frame_out
    simp only [dlf7, carry7, row7, row6, dlf5, carry5, row5, dlf4, carry4, dlf3, carry3, row3, carry2, row2, carry1, row1, row0, View.readCov_cons_toLoadRect]
    by_cases hr : r = 0
    · subst hr
      rw [if_pos rfl]
      refine (View.read_writes_cons_unit_of_mem _ _ inb_S8x128_S1x128_0_0 _ _ _ (ix2 0 l) rfl ?_).trans ?_
      · intro a
        match a with
        | 0 => rfl
        | 1 => exact (Nat.zero_add _).symm
      · have hA := lane_of_row (y := y) fun l => (hy h0 0 l).trans (by rw [if_pos rfl])
        have q := tot _ hA l
        beta_reduce at q
        exact q
    · rw [if_neg hr]
      have hn : 0 + 1 ≤ (r : ℕ) := by have : (r : ℕ) ≠ 0 := fun h => hr (Fin.ext h); omega
      iterate 8 refine (View.read_writes_cons_unit_of_not_mem _ _ inb_S8x128_S1x128_0_0 _ _ _ rfl 0 (Or.inr hn)).trans ?_
      have := hy h0 r l
      rw [if_neg hr] at this
      exact (congrFun (Memref.IsWhole.read_unread _ _) _).trans this

end Cert.ForgetProof

end
-- ==== Proof.Forget.Blocks.lean ====
/- The real numbers behind the forget gate's arguments, the blocks that the kernel reads of them, and its two results. -/
module

public import proofs.«01_k».proof.Proof.Forget.Kernel
public import Idealize.ShloMosaic.Lib.StableHlo.ReadAt

@[expose] public section

set_option maxRecDepth 16384

noncomputable section

namespace Cert.ForgetProof

open Cert.ForgetIdeal Cert.ForgetIdeal.Gen Idealize.ShloMosaic Idealize.ShloMosaic.TcCoe Idealize.SL.Sem
open Cert.Reals (AllReal)

/-- Sequence `b` of `dF`, rows by heads, zero outside the array. -/
def seqF (x0 : FVec Ideal S4x8x2048 .f32) (b n l : ℕ) : ℝ :=
  if h : b < 4 ∧ n < 2048 ∧ l < 8 then (x0 (ix3 ⟨b, h.1⟩ ⟨l, h.2.2⟩ ⟨n, h.2.1⟩)).toReal else 0

/-- Sequence `b` of the pre-activation, rows by heads, zero outside the array. -/
def seqL (x1 : FVec Ideal S4x2048x8 .f32) (b n l : ℕ) : ℝ :=
  if h : b < 4 ∧ n < 2048 ∧ l < 8 then (x1 (ix3 ⟨b, h.1⟩ ⟨n, h.2.1⟩ ⟨l, h.2.2⟩)).toReal else 0

/-- The bias, zero outside the array. -/
def biasL (x2 : FVec Ideal S1x8 .f32) (l : ℕ) : ℝ :=
  if h : l < 8 then (x2 (ix2 0 ⟨l, h⟩)).toReal else 0

variable (m : (ℓ : Loc nD τ sig) → Buf (Elt Ideal) ℓ)

abbrev arg0 (c : Dev nD) : FVec Ideal S4x8x2048 .f32 := m ((c.tc : Thread nD τ).loc main_arg0)
abbrev arg1 (c : Dev nD) : FVec Ideal S4x2048x8 .f32 := m ((c.tc : Thread nD τ).loc main_arg1)
abbrev arg2 (c : Dev nD) : FVec Ideal S1x8 .f32 := m ((c.tc : Thread nD τ).loc main_arg2)

/-- The integer zero, converted, is the real zero. -/
theorem zero_word : FloatOps.sitofp (F := Ideal) FTy.f32 (0#32) = (((0 : ℝ)) : EReal) := by
  show (((0#32 : BitVec 32).toInt : ℝ) : EReal) = _
  norm_num

/-! ## The padded arrays that the region reads -/

theorem read0 (c : Dev nD) (r : Fin 8192) (l : Fin 128) (h0 : AllReal (arg0 m c)) :
    (V m c main_v8 : FVec Ideal S8192x128 .f32) (ix2 r l) = ((seqF (arg0 m c) (r / 2048) (r % 2048) l : ℝ) : EReal) := by
  unfold V
  simp only [hostOps0, hostOps0_1, hostOps0_2, hostOps0_3, hostOps0_4, hostOps0_5, hostOps0_6, hostOps0_7, List.flatten_cons, List.flatten_nil, List.append_nil, List.cons_append, List.nil_append]
  after_reads_at
  have hr : (r : ℕ) / 2048 < 4 := by have := r.isLt; omega
  have hm : (r : ℕ) % 2048 < 2048 := Nat.mod_lt _ (by norm_num)
  by_cases hl : (l : ℕ) < 8
  · have hc : (r : ℕ) / 2048 < 4 ∧ (l : ℕ) / 2 < 4 ∧ (l : ℕ) % 2 < 2 ∧ (r : ℕ) % 2048 < 2048 := ⟨hr, by omega, by omega, hm⟩
    have e : seqF (arg0 m c) ((r : ℕ) / 2048) ((r : ℕ) % 2048) l = (arg0 m c (ix3 ⟨(r : ℕ) / 2048, hr⟩ ⟨l, hl⟩ ⟨(r : ℕ) % 2048, hm⟩)).toReal :=
      dif_pos ⟨hr, hm, hl⟩
    have key : ∀ (k : ℕ) (hk : k < 8), k = (l : ℕ) → arg0 m c (ix3 ⟨(r : ℕ) / 2048, hr⟩ ⟨k, hk⟩ ⟨(r : ℕ) % 2048, hm⟩)
        = ((seqF (arg0 m c) ((r : ℕ) / 2048) ((r : ℕ) % 2048) l : ℝ) : EReal) := by
      intro k hk e'
      subst e'
      exact (h0 _).trans (congrArg _ e.symm)
    exact (dif_pos hl).trans ((dif_pos hc).trans (key ((l : ℕ) / 2 * 2 + (l : ℕ) % 2) (by omega) (by omega)))
  · have e : seqF (arg0 m c) ((r : ℕ) / 2048) ((r : ℕ) % 2048) l = 0 := dif_neg fun h => hl h.2.2
    exact (dif_neg hl).trans (zero_word.trans (congrArg _ e.symm))

theorem read1 (c : Dev nD) (r : Fin 8192) (l : Fin 128) (h1 : AllReal (arg1 m c)) :
    (V m c main_v3 : FVec Ideal S8192x128 .f32) (ix2 r l) = ((seqL (arg1 m c) (r / 2048) (r % 2048) l : ℝ) : EReal) := by
  unfold V
  simp only [hostOps0, hostOps0_1, hostOps0_2, hostOps0_3, hostOps0_4, hostOps0_5, hostOps0_6, hostOps0_7, List.flatten_cons, List.flatten_nil, List.append_nil, List.cons_append, List.nil_append]
  after_reads_at
  have hr : (r : ℕ) / 2048 < 4 := by have := r.isLt; omega
  have hm : (r : ℕ) % 2048 < 2048 := Nat.mod_lt _ (by norm_num)
  unfold seqL
  by_cases hl : (l : ℕ) < 8
  · rw [dif_pos hl, dif_pos ⟨hr, hm, hl⟩]
    exact h1 _
  · rw [dif_neg hl, dif_neg fun h => hl h.2.2]
    exact zero_word

theorem read2 (c : Dev nD) (l : Fin 128) (h2 : AllReal (arg2 m c)) :
    (V m c main_v4 : FVec Ideal S1x128 .f32) (ix2 0 l) = ((biasL (arg2 m c) l : ℝ) : EReal) := by
  unfold V
  simp only [hostOps0, hostOps0_1, hostOps0_2, hostOps0_3, hostOps0_4, hostOps0_5, hostOps0_6, hostOps0_7, List.flatten_cons, List.flatten_nil, List.append_nil, List.cons_append, List.nil_append]
  after_reads_at
  unfold biasL
  by_cases hl : (l : ℕ) < 8
  · rw [dif_pos hl, dif_pos hl]
    exact h2 _
  · rw [dif_neg hl, dif_neg hl]
    exact zero_word

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])

/-! ## The blocks of a grid point -/

theorem blk0 (c : Dev nD) (t : Fin cfg0.N) (h0 : AllReal (arg0 m c)) : IsBlock (seqF (arg0 m c) t.val) (iblk m c 0 t) := by
  intro n l
  have ht : t.val < 4 := t.isLt
  have hn := n.isLt
  refine Eq.trans ?_ ((read0 m c ⟨2048 * t.val + n, by omega⟩ l h0).trans ?_)
  · blk_simp [iblk]
    blk_ext
    · show win0_0.index t 0 * 2048 + (n : ℕ) = 2048 * t.val + n
      rw [show win0_0.index t 0 = t.val from congrFun (idx0 t) 0]; omega
    · rw [show win0_0.index t 1 = 0 from congrFun (idx0 t) 1]; omega
  · show ((seqF (arg0 m c) ((2048 * t.val + n) / 2048) ((2048 * t.val + n) % 2048) l : ℝ) : EReal) = _
    rw [show (2048 * t.val + (n : ℕ)) / 2048 = t.val by omega, show (2048 * t.val + (n : ℕ)) % 2048 = n by omega]

theorem blk1 (c : Dev nD) (t : Fin cfg0.N) (h1 : AllReal (arg1 m c)) : IsBlock (seqL (arg1 m c) t.val) (iblk m c 1 t) := by
  intro n l
  have ht : t.val < 4 := t.isLt
  have hn := n.isLt
  refine Eq.trans ?_ ((read1 m c ⟨2048 * t.val + n, by omega⟩ l h1).trans ?_)
  · blk_simp [iblk]
    blk_ext
    · show win0_1.index t 0 * 2048 + (n : ℕ) = 2048 * t.val + n
      rw [show win0_1.index t 0 = t.val from congrFun (idx1 t) 0]; omega
    · rw [show win0_1.index t 1 = 0 from congrFun (idx1 t) 1]; omega
  · show ((seqL (arg1 m c) ((2048 * t.val + n) / 2048) ((2048 * t.val + n) % 2048) l : ℝ) : EReal) = _
    rw [show (2048 * t.val + (n : ℕ)) / 2048 = t.val by omega, show (2048 * t.val + (n : ℕ)) % 2048 = n by omega]

theorem blk2 (c : Dev nD) (t : Fin cfg0.N) (h2 : AllReal (arg2 m c)) : IsLane (biasL (arg2 m c)) (iblk m c 2 t) := by
  intro l
  refine Eq.trans ?_ (read2 m c l h2)
  blk_simp [iblk]
  blk_ext
  · show win0_2.index t 0 * 1 + 0 = 0
    rw [show win0_2.index t 0 = 0 from congrFun (idx2 t) 0]
  · rw [show win0_2.index t 1 = 0 from congrFun (idx2 t) 1]; omega

/-! ## The two results -/

/-- The gradient of row `n` of sequence `b`. -/
def gradOf (x0 : FVec Ideal S4x8x2048 .f32) (x1 : FVec Ideal S4x2048x8 .f32) (x2 : FVec Ideal S1x8 .f32) (b n l : ℕ) : ℝ :=
  grad (seqF x0 b) (seqL x1 b) (biasL x2) n l

/-- The gradient of the pre-activation, sequences one after another, padded to 128 lanes. -/
def outL (x0 : FVec Ideal S4x8x2048 .f32) (x1 : FVec Ideal S4x2048x8 .f32) (x2 : FVec Ideal S1x8 .f32) : FVec Ideal S8192x128 .bf16 :=
  fun i => ((gradOf x0 x1 x2 ((i 0 : ℕ) / 2048) ((i 0 : ℕ) % 2048) (i 1 : ℕ) : ℝ) : EReal)

/-- The gradient of the bias in row 0 of a padded block. -/
def outB (x0 : FVec Ideal S4x8x2048 .f32) (x1 : FVec Ideal S4x2048x8 .f32) (x2 : FVec Ideal S1x8 .f32) : FVec Ideal S8x128 .f32 :=
  fun i => ((if (i 0 : ℕ) = 0 then ∑ b ∈ Finset.range 4, ∑ n ∈ Finset.range 2048, gradOf x0 x1 x2 b n (i 1 : ℕ) else 0 : ℝ) : EReal)

variable {m}

/-- The bias block after point `n`: the gradients of the sequences up to `n`. -/
theorem bias_upto (c : Dev nD) (h0 : AllReal (arg0 m c)) (h1 : AllReal (arg1 m c)) (h2 : AllReal (arg2 m c)) :
    ∀ (n : ℕ) (hn : n < cfg0.N) (r : Fin 8) (l : Fin 128), ((outsAt0 m c n hn).2 : FVec Ideal S8x128 .f32) (ix2 r l)
      = ((if r = 0 then ∑ b ∈ Finset.range (n + 1), ∑ i ∈ Finset.range 2048, gradOf (arg0 m c) (arg1 m c) (arg2 m c) b i l else 0 : ℝ) : EReal) := by
  intro n
  induction n with
  | zero =>
    intro hn r l
    have q := block4 m (y := fun _ => 0) c ⟨0, hn⟩ (blk0 m c _ h0) (blk1 m c _ h1) (blk2 m c _ h2) (fun _ _ => rfl)
      (fun h => absurd (Nat.zero_mod 4) h) r l
    have e : (∑ b ∈ Finset.range (0 + 1), ∑ i ∈ Finset.range 2048, gradOf (arg0 m c) (arg1 m c) (arg2 m c) b i l)
        = 0 + ∑ i ∈ Finset.range 2048, gradOf (arg0 m c) (arg1 m c) (arg2 m c) 0 i l := by
      rw [Finset.sum_range_one, zero_add]
    rw [e]
    exact q
  | succ n ih =>
    intro hn r l
    have hn4 : n + 1 < 4 := hn
    have prior : ∀ (k : ℕ) (hk : k < cfg0.N), k = n → ∀ (r : Fin 8) (l : Fin 128), ((outsAt0 m c k hk).2 : FVec Ideal S8x128 .f32) (ix2 r l)
        = ((if r = 0 then ∑ b ∈ Finset.range (n + 1), ∑ i ∈ Finset.range 2048, gradOf (arg0 m c) (arg1 m c) (arg2 m c) b i l else 0 : ℝ) : EReal) := by
      intro k hk e
      subst e
      exact ih hk
    have q := block4 m (y := fun l => ∑ b ∈ Finset.range (n + 1), ∑ i ∈ Finset.range 2048, gradOf (arg0 m c) (arg1 m c) (arg2 m c) b i l)
      c ⟨n + 1, hn⟩ (blk0 m c _ h0) (blk1 m c _ h1) (blk2 m c _ h2)
      (fun h => absurd h (by show ¬ (n + 1) % 4 = 0; omega)) (fun _ => prior _ _ (Nat.add_sub_cancel n 1)) r l
    rw [Finset.sum_range_succ _ (n + 1)]
    exact q

/-- The first result array after the run. -/
theorem final3 (c : Dev nD) (h0 : AllReal (arg0 m c)) (h1 : AllReal (arg1 m c)) (h2 : AllReal (arg2 m c)) :
    (dats m 0 c).arrAt 3 cfg0.N = outL (arg0 m c) (arg1 m c) (arg2 m c) := by
  refine (dats m 0 c).arrAt_eq_of_covers 3 _ (by decide +kernel) fun t hf y => ?_
  blk_simp
  rw [after0_3]
  obtain ⟨n, l, rfl⟩ : ∃ (n : Fin 2048) (l : Fin 128), y = ix2 n l := ⟨y 0, y 1, funext fun a => match a with | 0 => rfl | 1 => rfl⟩
  have ht : t.val < 4 := t.isLt
  have hn := n.isLt
  have e0 : ((win0_3.blk t).view.emb (ix2 n l) 0 : ℕ) = 2048 * t.val + n := by
    blk_simp
    rw [show win0_3.index t 0 = t.val from congrFun (idx3 t) 0]; omega
  have e1 : ((win0_3.blk t).view.emb (ix2 n l) 1 : ℕ) = l := by
    blk_simp
    rw [show win0_3.index t 1 = 0 from congrFun (idx3 t) 1]; omega
  have q := block3 m c t (blk0 m c t h0) (blk1 m c t h1) (blk2 m c t h2) n l
  refine q.trans ?_
  show _ = ((gradOf (arg0 m c) (arg1 m c) (arg2 m c) (((win0_3.blk t).view.emb (ix2 n l) 0 : ℕ) / 2048)
    (((win0_3.blk t).view.emb (ix2 n l) 0 : ℕ) % 2048) ((win0_3.blk t).view.emb (ix2 n l) 1 : ℕ) : ℝ) : EReal)
  rw [e0, e1, show (2048 * t.val + (n : ℕ)) / 2048 = t.val by omega, show (2048 * t.val + (n : ℕ)) % 2048 = n by omega]
  rfl

theorem last4 : ∀ t : Fin cfg0.N, (cfg0.win 4).flush t = true → t.val = 3 :=
  (by decide +kernel : ∀ t : Fin grid0.N, (cfg0.win 4).flush t = true → t.val = 3)

/-- The second result array after the run. -/
theorem final4 (c : Dev nD) (h0 : AllReal (arg0 m c)) (h1 : AllReal (arg1 m c)) (h2 : AllReal (arg2 m c)) :
    (dats m 0 c).arrAt 4 cfg0.N = outB (arg0 m c) (arg1 m c) (arg2 m c) := by
  refine (dats m 0 c).arrAt_eq_of_covers 4 _ (by decide +kernel) fun t hf y => ?_
  blk_simp
  rw [after0_4]
  obtain ⟨r, l, rfl⟩ : ∃ (r : Fin 8) (l : Fin 128), y = ix2 r l := ⟨y 0, y 1, funext fun a => match a with | 0 => rfl | 1 => rfl⟩
  have ht : t.val = 3 := last4 t hf
  have e0 : ((win0_4.blk t).view.emb (ix2 r l) 0 : ℕ) = r := by
    blk_simp
    rw [show win0_4.index t 0 = 0 from congrFun (idx4 t) 0]; omega
  have e1 : ((win0_4.blk t).view.emb (ix2 r l) 1 : ℕ) = l := by
    blk_simp
    rw [show win0_4.index t 1 = 0 from congrFun (idx4 t) 1]; omega
  have q := bias_upto c h0 h1 h2 t.val t.isLt r l
  refine q.trans ?_
  show _ = ((if ((win0_4.blk t).view.emb (ix2 r l) 0 : ℕ) = 0 then ∑ b ∈ Finset.range 4, ∑ n ∈ Finset.range 2048,
    gradOf (arg0 m c) (arg1 m c) (arg2 m c) b n ((win0_4.blk t).view.emb (ix2 r l) 1 : ℕ) else 0 : ℝ) : EReal)
  rw [e0, e1, ht]
  by_cases hr : r = 0
  · rw [if_pos hr, if_pos (show (r : ℕ) = 0 from congrArg Fin.val hr)]
  · rw [if_neg hr, if_neg (show ¬ (r : ℕ) = 0 from fun h => hr (Fin.ext h))]

end Cert.ForgetProof

end
-- ==== Proof.Forget.Reference.lean ====
/- What the reference of the forget gate's gradient computes, read at one index. -/
module

public import proofs.«01_k».proof.Proof.Gen.ForgetRefIdeal.Read
public import proofs.«01_k».proof.Proof.Forget.Blocks

@[expose] public section

set_option maxRecDepth 16384

noncomputable section

namespace Cert.ForgetProof

open Cert.ForgetRefIdeal Cert.ForgetRefIdeal.Read Idealize.ShloMosaic Idealize.ShloMosaic.TcCoe
open Cert.Reals (AllReal)

/-- The pre-activation with its bias. -/
theorem ref_pre (x1 : FVec Ideal S4x2048x8 .f32) (x2 : FVec Ideal S1x8 .f32) (h1 : AllReal x1) (h2 : AllReal x2) (b : Fin 4) (r : Fin 2048) (l : Fin 8) :
    val_main_v3 (F := Ideal) x1 x2 (ix3 b r l) = ((seqL x1 b r l + biasL x2 l : ℝ) : EReal) := by
  have e : val_main_v3 (F := Ideal) x1 x2 (ix3 b r l) = x1 (ix3 b r l) + x2 (ix2 0 l) := by
    pointwise [val_main_v3, val_main_v2, val_main_v1, val_main_v0]
  have e1 : seqL x1 b r l = (x1 (ix3 b r l)).toReal := dif_pos ⟨b.isLt, r.isLt, l.isLt⟩
  have e2 : biasL x2 l = (x2 (ix2 0 l)).toReal := dif_pos l.isLt
  rw [EReal.coe_add]
  exact e.trans (congrArg₂ (· + ·) ((h1 _).trans (congrArg _ e1.symm)) ((h2 _).trans (congrArg _ e2.symm)))

/-- The softplus of the reference. -/
theorem ref_softplus (x1 x2) (b : Fin 4) (r : Fin 2048) (l : Fin 8) (z : ℝ)
    (hz : val_main_v3 (F := Ideal) x1 x2 (ix3 b r l) = (z : EReal)) :
    val_main_call0_v1_0 (F := Ideal) x1 x2 (ix3 b r l) = ((Real.log (1 + Real.exp (-z)) : ℝ) : EReal) := by
  have e : val_main_call0_v1_0 (F := Ideal) x1 x2 (ix3 b r l) = (if -val_main_v3 (F := Ideal) x1 x2 (ix3 b r l) ≠ -val_main_v3 (F := Ideal) x1 x2 (ix3 b r l) then -val_main_v3 (F := Ideal) x1 x2 (ix3 b r l)
    else max (-val_main_v3 (F := Ideal) x1 x2 (ix3 b r l)) 0 +
        Ideal.log1p (Ideal.exp (-FloatOps.absf (F := Ideal) (φ := .f32) (-val_main_v3 (F := Ideal) x1 x2 (ix3 b r l))))) := by
    pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [e, if_neg (not_not.mpr rfl), hz, ← EReal.coe_neg, Cert.Reals.absf_coe, ← EReal.coe_neg, Ideal.exp_coe, Cert.Reals.log1p_coe _ (Real.exp_pos _),
    ← EReal.coe_zero, ← Cert.Reals.coe_max, ← EReal.coe_add, Cert.Reals.softplus]

/-- The derivative of the log-sigmoid in the reference. -/
theorem ref_gate (x1 x2) (b : Fin 4) (r : Fin 2048) (l : Fin 8) (z : ℝ)
    (hz : val_main_v3 (F := Ideal) x1 x2 (ix3 b r l) = (z : EReal)) :
    val_main_v4_1 (F := Ideal) x1 x2 (ix3 b r l) = ((gate z : ℝ) : EReal) := by
  have s := ref_softplus x1 x2 b r l z hz
  have e : val_main_v4_1 (F := Ideal) x1 x2 (ix3 b r l) = Ideal.exp
      ((if -val_main_v3 (F := Ideal) x1 x2 (ix3 b r l) = Ideal.ofBits FTy.f32 2139095040#32 then 0
        else -val_main_v3 (F := Ideal) x1 x2 (ix3 b r l)) -
        if val_main_call0_v1_0 (F := Ideal) x1 x2 (ix3 b r l) = Ideal.ofBits FTy.f32 2139095040#32 then 0
        else val_main_call0_v1_0 (F := Ideal) x1 x2 (ix3 b r l)) := by
    pointwise [val_main_v4_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst, val_main_call0_call0_cst_0, val_main_call0_call0_cst_1, val_main_call0_call0_cst_2, val_main_call0_call0_cst_3, val_main_call0_v0]
  rw [e, s, hz, Cert.Reals.inf_f32, ← EReal.coe_neg, if_neg (EReal.coe_ne_top _), if_neg (EReal.coe_ne_top _), ← EReal.coe_sub, Ideal.exp_coe,
    Cert.Reals.exp_sub_softplus]
  unfold gate
  rw [zero_sub, Cert.Reals.half_tanh]

/-- A sum over the rows counted from `r`, with zero past the end, is the sum of the rows from `r` on. -/
theorem sum_shift (N r : ℕ) (hr : r ≤ N) (g : ℕ → ℝ) (hg : ∀ n, N ≤ n → g n = 0) :
    ∑ w : Fin N, g (r + w) = ∑ n ∈ Finset.Ico r N, g n := by
  rw [Fin.sum_univ_eq_sum_range (fun w => g (r + w)) N, Finset.sum_Ico_eq_sum_range]
  refine (Finset.sum_subset (Finset.range_mono (Nat.sub_le N r)) fun w _ hw => hg _ ?_).symm
  rw [Finset.mem_range] at hw
  omega

/-- The reversed running sum of the reference is a sum over a window reaching to the end. -/
theorem v8_window (x0 : FVec Ideal S4x8x2048 .f32) (j) :
   val_main_v8 (F := Ideal) x0 j = Ideal.hostReduceWindowAdd ![1, 2048, 1] ![1, 1, 1] ![0, 0, 0] ![0, 2047, 0]
      Gen.reduceWindows_S4x2048x8_S4x2048x8_w1s1p0_0_w2048s1p0_2047_w1s1p0_0 (val_main_v7 (F := Ideal) x0) (val_main_call2_call0_v0 (F := Ideal) (Shape.Idx.first Gen.h_S_)) j := by
  unfold val_main_v8
  unfold Host.reduceWindowAdd
  generalize val_main_v7 (F := Ideal) x0 = y
  generalize (val_main_call2_call0_v0 (F := Ideal) (Shape.Idx.first Gen.h_S_)) = z
  rfl
/-- The reversed running sum of the reference is the suffix sum. -/
theorem ref_sfx (x0 : FVec Ideal S4x8x2048 .f32) (h0 : AllReal x0) (b : Fin 4) (r : Fin 2048) (l : Fin 8) :
    val_main_v8 (F := Ideal) x0 (ix3 b r l) = ((sfx (seqF x0 b) r l : ℝ) : EReal) := by
  have z : val_main_call2_call0_v0 (F := Ideal) (Shape.Idx.first Gen.h_S_) = (0 : EReal) := by
    rw [val_main_call2_call0_v0_apply, val_main_call2_call0_cst_apply]; simp [Ideal.ofBits, Ideal.ieee]
  have e : val_main_v8 (F := Ideal) x0 (ix3 b r l)
      = ∑ w : Fin 2048, if hw : r.val + w.val < 2048 then val_main_v7 (F := Ideal) x0 (ix3 b ⟨r.val + w.val, hw⟩ l) else 0 :=
    (v8_window x0 _).trans (Cert.Reals.sum_from_row (n0 := 4) (n1 := 2048) (n2 := 8) (p := 2047) _ _ _ z b r l)
  rw [e]
  unfold sfx
  rw [← sum_shift 2048 r r.isLt.le (fun n => seqF x0 b n l) (fun n hn => dif_neg fun h : (b : ℕ) < 4 ∧ n < 2048 ∧ (l : ℕ) < 8 => absurd h.2.1 (not_lt.mpr hn)), Cert.Reals.coe_sum]
  refine Finset.sum_congr rfl fun w _ => ?_
  by_cases hw : r.val + w.val < 2048
  · have e1 : seqF x0 b (r.val + w.val) l = (x0 (ix3 b l ⟨r.val + w.val, hw⟩)).toReal := dif_pos ⟨b.isLt, hw, l.isLt⟩
    have e2 : val_main_v7 (F := Ideal) x0 (ix3 b ⟨r.val + w.val, hw⟩ l) = x0 (ix3 b l ⟨r.val + w.val, hw⟩) := by
      pointwise [val_main_v7]
    exact (dif_pos hw).trans (e2.trans ((h0 _).trans (congrArg _ e1.symm)))
  · have e1 : seqF x0 b (r.val + w.val) l = 0 := dif_neg fun h => hw h.2.1
    exact (dif_neg hw).trans (by rw [e1, EReal.coe_zero])

/-- One entry of the gradient in the reference. -/
theorem ref_grad (x0 : FVec Ideal S4x8x2048 .f32) (x1 : FVec Ideal S4x2048x8 .f32) (x2 : FVec Ideal S1x8 .f32) (h0 : AllReal x0) (h1 : AllReal x1) (h2 : AllReal x2)
    (b : Fin 4) (r : Fin 2048) (l : Fin 8) :
    val_main_v9 (F := Ideal) x0 x1 x2 (ix3 b r l) = ((gradOf x0 x1 x2 b r l : ℝ) : EReal) := by
  have e : val_main_v9 (F := Ideal) x0 x1 x2 (ix3 b r l) = -(-val_main_v8 (F := Ideal) x0 (ix3 b r l) * val_main_v4_1 (F := Ideal) x1 x2 (ix3 b r l)) := by
    pointwise [val_main_v9, val_main_call3_v1, val_main_call3_v0]
  rw [e, ref_sfx x0 h0, ref_gate x1 x2 b r l _ (ref_pre x1 x2 h1 h2 b r l), ← EReal.coe_neg, ← EReal.coe_mul, ← EReal.coe_neg, neg_mul, neg_neg]
  rfl

/-- Outside the eight heads the gradient is zero. -/
theorem gradOf_pad (x0 : FVec Ideal S4x8x2048 .f32) (x1 : FVec Ideal S4x2048x8 .f32) (x2 : FVec Ideal S1x8 .f32) (b n l : ℕ) (hl : ¬ l < 8) :
    gradOf x0 x1 x2 b n l = 0 := by
  unfold gradOf grad sfx
  have z : ∀ i, seqF x0 b i l = 0 := fun i => dif_neg fun h => hl h.2.2
  rw [Finset.sum_eq_zero fun i _ => z i, zero_mul]

/-- The first result of the reference. -/
theorem ref_out (x0 : FVec Ideal S4x8x2048 .f32) (x1 : FVec Ideal S4x2048x8 .f32) (x2 : FVec Ideal S1x8 .f32) (h0 : AllReal x0) (h1 : AllReal x1) (h2 : AllReal x2) :
    val_main_v16 (F := Ideal) x0 x1 x2 = outL x0 x1 x2 := by
  funext i
  obtain ⟨r, l, rfl⟩ : ∃ (r : Fin 8192) (l : Fin 128), i = ix2 r l := ⟨i 0, i 1, funext fun a => match a with | 0 => rfl | 1 => rfl⟩
  have hr : (r : ℕ) / 2048 < 4 := by have := r.isLt; omega
  have hm : (r : ℕ) % 2048 < 2048 := Nat.mod_lt _ (by norm_num)
  have e : val_main_v16 (F := Ideal) x0 x1 x2 (ix2 r l) = if h : (l : ℕ) < 8 then val_main_v9 (F := Ideal) x0 x1 x2 (ix3 ⟨(r : ℕ) / 2048, hr⟩ ⟨(r : ℕ) % 2048, hm⟩ ⟨l, h⟩)
      else FloatOps.sitofp (F := Ideal) FTy.f32 (0#32) := by
    pointwise [val_main_v16, val_main_v15, val_main_v14, val_main_call4_v0, val_main_c]
  refine e.trans ?_
  by_cases hl : (l : ℕ) < 8
  · exact (dif_pos hl).trans (ref_grad x0 x1 x2 h0 h1 h2 _ _ _)
  · exact (dif_neg hl).trans (zero_word.trans (congrArg _ (gradOf_pad x0 x1 x2 _ _ _ hl).symm))

/-- The summed gradient of the bias in the reference. -/
theorem ref_bias (x0 : FVec Ideal S4x8x2048 .f32) (x1 : FVec Ideal S4x2048x8 .f32) (x2 : FVec Ideal S1x8 .f32) (h0 : AllReal x0) (h1 : AllReal x1) (h2 : AllReal x2) (l : Fin 8) :
    val_main_v13 (F := Ideal) x0 x1 x2 (ix2 0 l) = ((∑ b ∈ Finset.range 4, ∑ n ∈ Finset.range 2048, gradOf x0 x1 x2 b n l : ℝ) : EReal) := by
  have z : val_main_cst (F := Ideal) (Shape.Idx.first Gen.h_S_) = (0 : EReal) := by
    rw [val_main_cst_apply]; simp [Ideal.ofBits, Ideal.ieee]
  have z0 : val_main_cst_0 (F := Ideal) (Shape.Idx.first Gen.h_S_) = (0 : EReal) := by
    rw [val_main_cst_0_apply]; simp [Ideal.ofBits, Ideal.ieee]
  have e10 : val_main_v10 (F := Ideal) x0 x1 x2 (ix1 l) = val_main_cst (F := Ideal) (Shape.Idx.first Gen.h_S_) + ∑ b : Fin 4, ∑ n : Fin 2048, val_main_v9 (F := Ideal) x0 x1 x2 (ix3 b n l) :=
    Cert.Reals.reduceAdd_first_two (n0 := 4) (n1 := 2048) (n2 := 8) _ _ _ l
  have e12 : val_main_v12 (F := Ideal) x0 x1 x2 (ix1 l) = val_main_cst_0 (F := Ideal) (Shape.Idx.first Gen.h_S_) + ∑ b : Fin 1, ∑ n : Fin 1, val_main_v11 (F := Ideal) x0 x1 x2 (ix3 b n l) :=
    Cert.Reals.reduceAdd_first_two (n0 := 1) (n1 := 1) (n2 := 8) _ _ _ l
  have e11 : val_main_v11 (F := Ideal) x0 x1 x2 (ix3 0 0 l) = val_main_v10 (F := Ideal) x0 x1 x2 (ix1 l) := by
    pointwise [val_main_v11]
  have e13 : val_main_v13 (F := Ideal) x0 x1 x2 (ix2 0 l) = val_main_v12 (F := Ideal) x0 x1 x2 (ix1 l) := by
    pointwise [val_main_v13]
  rw [e13, e12, z0, zero_add, Fin.sum_univ_one, Fin.sum_univ_one, e11, e10, z, zero_add, Cert.Reals.coe_sum,
    ← Fin.sum_univ_eq_sum_range (fun b => ((∑ n ∈ Finset.range 2048, gradOf x0 x1 x2 b n l : ℝ) : EReal)) 4]
  refine Finset.sum_congr rfl fun b _ => ?_
  rw [Cert.Reals.coe_sum, ← Fin.sum_univ_eq_sum_range (fun n => ((gradOf x0 x1 x2 b n l : ℝ) : EReal)) 2048]
  exact Finset.sum_congr rfl fun n _ => ref_grad x0 x1 x2 h0 h1 h2 b n l

/-- The second result of the reference. -/
theorem ref_outB (x0 : FVec Ideal S4x8x2048 .f32) (x1 : FVec Ideal S4x2048x8 .f32) (x2 : FVec Ideal S1x8 .f32) (h0 : AllReal x0) (h1 : AllReal x1) (h2 : AllReal x2) :
    val_main_v17 (F := Ideal) x0 x1 x2 = outB x0 x1 x2 := by
  funext i
  obtain ⟨r, l, rfl⟩ : ∃ (r : Fin 8) (l : Fin 128), i = ix2 r l := ⟨i 0, i 1, funext fun a => match a with | 0 => rfl | 1 => rfl⟩
  have e : val_main_v17 (F := Ideal) x0 x1 x2 (ix2 r l) = if h : (r : ℕ) < 1 ∧ (l : ℕ) < 8 then val_main_v13 (F := Ideal) x0 x1 x2 (ix2 ⟨r, h.1⟩ ⟨l, h.2⟩)
      else FloatOps.sitofp (F := Ideal) FTy.f32 (0#32) := by
    pointwise [val_main_v17, val_main_call5_v0, val_main_c_1]
  refine e.trans ?_
  have out : outB x0 x1 x2 (ix2 r l) = ((if (r : ℕ) = 0 then ∑ b ∈ Finset.range 4, ∑ n ∈ Finset.range 2048, gradOf x0 x1 x2 b n l else 0 : ℝ) : EReal) := rfl
  rw [out]
  by_cases hr : (r : ℕ) = 0
  · by_cases hl : (l : ℕ) < 8
    · rw [if_pos hr]
      have h : (r : ℕ) < 1 ∧ (l : ℕ) < 8 := ⟨by omega, hl⟩
      refine (dif_pos h).trans ?_
      rw [show (⟨(r : ℕ), h.1⟩ : Fin 1) = 0 from Subsingleton.elim _ _]
      exact ref_bias x0 x1 x2 h0 h1 h2 ⟨l, hl⟩
    · rw [if_pos hr]
      refine (dif_neg fun h => hl h.2).trans (zero_word.trans (congrArg _ ?_))
      exact (Finset.sum_eq_zero fun b _ => Finset.sum_eq_zero fun n _ => gradOf_pad x0 x1 x2 b n l hl).symm
  · rw [if_neg hr]
    exact (dif_neg fun h => hr (by omega)).trans zero_word

end Cert.ForgetProof

end
-- ==== Proof.Forget.Claim.lean ====
/- The forget gate's gradient: the kernel and the reference end with equal results. -/
module

public import proofs.«01_k».proof.Proof.Forget.Reference
public import proofs.«01_k».proof.Proof.Gen.ForgetRefIdeal.Run
public import proofs.«01_k».proof.Proof.Gen.Pre_finite_forget
public import proofs.«01_k».proof.Defs

@[expose] public section

set_option maxRecDepth 16384

noncomputable section

namespace Cert.ForgetProof

open Idealize.ShloMosaic Idealize.ShloMosaic.TcCoe Idealize.SL.Sem
open Cert.Reals (AllReal allReal_of_finite)

/-- The precondition makes the three arguments arrays of reals. -/
theorem args_real (m : (ℓ : Loc Cert.ForgetIdeal.nD Cert.ForgetIdeal.τ Cert.ForgetIdeal.sig) → Buf (Elt Ideal) ℓ)
    (h : Cert.Pre_ForgetIdeal_finite_forget m) (c : Dev Cert.ForgetIdeal.nD) :
    AllReal (arg0 m c) ∧ AllReal (arg1 m c) ∧ AllReal (arg2 m c) := by
  have q := h c
  exact ⟨allReal_of_finite _ _ q.1 fun i => rfl, allReal_of_finite _ _ q.2.1 fun i => rfl, allReal_of_finite _ _ q.2.2 fun i => rfl⟩

/-- The reference runs, keeps its arguments and ends with every counter at zero: it has no semaphore. -/
theorem frame_ref : Cert.quiescent_ForgetRefIdeal := fun m g _ =>
  (θ_run Cert.ForgetRefIdeal.defs _ _).mono
    (fun r h => ⟨fun c => (h c).2.2, sem_eq_zero_of_no_sems (by decide) r.2⟩)
    (Cert.ForgetRefIdeal.Value.run (F := Ideal) m g)

/-- The value claim. -/
theorem algebraic : Cert.algebraic_ForgetIdeal_ForgetRefIdeal_pre_finite_forget := by
  intro m g m' g' hpre hargs
  refine ⟨fun c => outL (arg0 m c) (arg1 m c) (arg2 m c), fun c => outB (arg0 m c) (arg1 m c) (arg2 m c), ?_, ?_⟩
  · refine (θ_run Cert.ForgetIdeal.defs _ _).mono (fun r h c => ?_) (Cert.ForgetIdeal.Value.run_blocks (F := Ideal) m g)
    obtain ⟨h0, h1, h2⟩ := args_real m hpre c
    exact ⟨(h c).1.trans (final3 c h0 h1 h2), (h c).2.1.trans (final4 c h0 h1 h2), (h c).2.2⟩
  · refine (θ_run Cert.ForgetRefIdeal.defs _ _).mono (fun r h c => ?_) (Cert.ForgetRefIdeal.Value.run (F := Ideal) m' g')
    obtain ⟨h0, h1, h2⟩ := args_real m hpre c
    obtain ⟨e0, e1, e2⟩ := hargs c
    refine ⟨(h c).1.trans ?_, (h c).2.1.trans ?_, (h c).2.2⟩
    · rw [Cert.ForgetRefIdeal.Read.val_main_v16_eq, e0, e1, e2]
      exact ref_out _ _ _ h0 h1 h2
    · rw [Cert.ForgetRefIdeal.Read.val_main_v17_eq, e0, e1, e2]
      exact ref_outB _ _ _ h0 h1 h2

end Cert.ForgetProof

end
-- ==== Proof.Attn.Ops.lean ====
/- One query tile of the attention backward kernel, as a function of the key prefix's length. -/
module

public import proofs.«01_k».proof.Proof.Gen.AttnIdeal.Value
public import Idealize.ShloMosaic.Lib.Pipeline.ValueKit

@[expose] public section

set_option maxRecDepth 16384

noncomputable section

namespace Cert.AttnProof

open Cert.AttnIdeal Cert.AttnIdeal.Gen Idealize.ShloMosaic Idealize.ShloMosaic.TcCoe Idealize.SL.Sem

/-- A table of `a` rows and `b` columns. -/
abbrev S2 (a b : ℕ) : Shape := ⟨2, ![a, b]⟩

/-- The product of a transposed left operand: both contracted on their rows. -/
def tn (M K N : ℕ) : DotDims (S2 M K) (S2 M N) (S2 K N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap _ _ _,
    by simpa [List.finRange] using List.Perm.swap _ _ _, rfl, Nat.two_pos, fun b => by fin_cases b <;> rfl⟩

/-- What the tile's operations ask of the shapes when the tile starts at row `o` and sees `K` keys. -/
structure Sides (o K : ℕ) : Prop where
  iota0 : (S2 256 K).Iotas .tc 32 [0]
  iota1 : (S2 256 K).Iotas .tc 32 [1]
  col : S256x1.Broadcasts (S2 256 K)
  row : (S2 1 K).Broadcasts (S2 256 K)
  red1 : (S2 256 K).Reduces [1] S256
  red0 : (S2 256 K).Reduces [0] ⟨1, ![K]⟩
  cast4 : (⟨4, ![1, 1, 1, K]⟩ : Shape).ShapeCasts (S2 1 K)
  cast1 : (⟨1, ![K]⟩ : Shape).ShapeCasts (S2 1 K)
  uncast4 : (S2 1 K).ShapeCasts ⟨4, ![1, 1, 1, K]⟩
  keys : (S2 K 128).ShapeCasts (S2 K 128)
  inbQ : ∀ a, (![o, 0] : Fin 2 → ℕ) a + S256x128.size a ≤ S2048x128.size a
  inbK : ∀ a, (![0, 0] : Fin 2 → ℕ) a + (S2 K 128).size a ≤ S2048x128.size a
  inbF0 : ∀ a, (![0, 0, 0, 0] : Fin 4 → ℕ) a + (⟨4, ![1, 1, 1, K]⟩ : Shape).size a ≤ S1x1x8x2048.size a
  inbF1 : ∀ a, (![0, 0, 1, 0] : Fin 4 → ℕ) a + (⟨4, ![1, 1, 1, K]⟩ : Shape).size a ≤ S1x1x8x2048.size a

theorem sides0 : Sides 0 256 := ⟨iota_S256x256_d0_w32, iota_S256x256_d1_w32, broadcasts_S256x1_S256x256, broadcasts_S1x256_S256x256, reduces_S256x256_S256, reduces_S256x256_S256_2, shapeCasts_S1x1x1x256_S1x256, shapeCasts_S256_S1x256, shapeCasts_S1x256_S1x1x1x256, shapeCasts_S256x128_S256x128, inb_S2048x128_S256x128_0_0, inb_S2048x128_S256x128_0_0, inb_S1x1x8x2048_S1x1x1x256_0_0_0_0, inb_S1x1x8x2048_S1x1x1x256_0_0_1_0⟩
theorem sides1 : Sides 256 512 := ⟨iota_S256x512_d0_w32, iota_S256x512_d1_w32, broadcasts_S256x1_S256x512, broadcasts_S1x512_S256x512, reduces_S256x512_S256, reduces_S256x512_S512, shapeCasts_S1x1x1x512_S1x512, shapeCasts_S512_S1x512, shapeCasts_S1x512_S1x1x1x512, shapeCasts_S512x128_S512x128, inb_S2048x128_S256x128_256_0, inb_S2048x128_S512x128_0_0, inb_S1x1x8x2048_S1x1x1x512_0_0_0_0, inb_S1x1x8x2048_S1x1x1x512_0_0_1_0⟩
theorem sides2 : Sides 512 768 := ⟨iota_S256x768_d0_w32, iota_S256x768_d1_w32, broadcasts_S256x1_S256x768, broadcasts_S1x768_S256x768, reduces_S256x768_S256, reduces_S256x768_S768, shapeCasts_S1x1x1x768_S1x768, shapeCasts_S768_S1x768, shapeCasts_S1x768_S1x1x1x768, shapeCasts_S768x128_S768x128, inb_S2048x128_S256x128_512_0, inb_S2048x128_S768x128_0_0, inb_S1x1x8x2048_S1x1x1x768_0_0_0_0, inb_S1x1x8x2048_S1x1x1x768_0_0_1_0⟩
theorem sides3 : Sides 768 1024 := ⟨iota_S256x1024_d0_w32, iota_S256x1024_d1_w32, broadcasts_S256x1_S256x1024, broadcasts_S1x1024_S256x1024, reduces_S256x1024_S256, reduces_S256x1024_S1024, shapeCasts_S1x1x1x1024_S1x1024, shapeCasts_S1024_S1x1024, shapeCasts_S1x1024_S1x1x1x1024, shapeCasts_S1024x128_S1024x128, inb_S2048x128_S256x128_768_0, inb_S2048x128_S1024x128_0_0, inb_S1x1x8x2048_S1x1x1x1024_0_0_0_0, inb_S1x1x8x2048_S1x1x1x1024_0_0_1_0⟩
theorem sides4 : Sides 1024 1280 := ⟨iota_S256x1280_d0_w32, iota_S256x1280_d1_w32, broadcasts_S256x1_S256x1280, broadcasts_S1x1280_S256x1280, reduces_S256x1280_S256, reduces_S256x1280_S1280, shapeCasts_S1x1x1x1280_S1x1280, shapeCasts_S1280_S1x1280, shapeCasts_S1x1280_S1x1x1x1280, shapeCasts_S1280x128_S1280x128, inb_S2048x128_S256x128_1024_0, inb_S2048x128_S1280x128_0_0, inb_S1x1x8x2048_S1x1x1x1280_0_0_0_0, inb_S1x1x8x2048_S1x1x1x1280_0_0_1_0⟩
theorem sides5 : Sides 1280 1536 := ⟨iota_S256x1536_d0_w32, iota_S256x1536_d1_w32, broadcasts_S256x1_S256x1536, broadcasts_S1x1536_S256x1536, reduces_S256x1536_S256, reduces_S256x1536_S1536, shapeCasts_S1x1x1x1536_S1x1536, shapeCasts_S1536_S1x1536, shapeCasts_S1x1536_S1x1x1x1536, shapeCasts_S1536x128_S1536x128, inb_S2048x128_S256x128_1280_0, inb_S2048x128_S1536x128_0_0, inb_S1x1x8x2048_S1x1x1x1536_0_0_0_0, inb_S1x1x8x2048_S1x1x1x1536_0_0_1_0⟩
theorem sides6 : Sides 1536 1792 := ⟨iota_S256x1792_d0_w32, iota_S256x1792_d1_w32, broadcasts_S256x1_S256x1792, broadcasts_S1x1792_S256x1792, reduces_S256x1792_S256, reduces_S256x1792_S1792, shapeCasts_S1x1x1x1792_S1x1792, shapeCasts_S1792_S1x1792, shapeCasts_S1x1792_S1x1x1x1792, shapeCasts_S1792x128_S1792x128, inb_S2048x128_S256x128_1536_0, inb_S2048x128_S1792x128_0_0, inb_S1x1x8x2048_S1x1x1x1792_0_0_0_0, inb_S1x1x8x2048_S1x1x1x1792_0_0_1_0⟩
theorem sides7 : Sides 1792 2048 := ⟨iota_S256x2048_d0_w32, iota_S256x2048_d1_w32, broadcasts_S256x1_S256x2048, broadcasts_S1x2048_S256x2048, reduces_S256x2048_S256, reduces_S256x2048_S2048, shapeCasts_S1x1x1x2048_S1x2048, shapeCasts_S2048_S1x2048, shapeCasts_S1x2048_S1x1x1x2048, shapeCasts_S2048x128_S2048x128, inb_S2048x128_S256x128_1792_0, inb_S2048x128_S2048x128_0_0, inb_S1x1x8x2048_S1x1x1x2048_0_0_0_0, inb_S1x1x8x2048_S1x1x1x2048_0_0_1_0⟩

section Def
variable {F : FTy → Type} [FloatOps F]

/-- The lanes from `lo` up to `hi`. -/
def lanes (lo hi : BitVec 32) : IVec S256x128 1 :=
  broadcastTo S256x128 (shapeCast S1x128 (andi (cmpi .sge (iota .tc S1x128 32 [1] iota_S1x128_d1_w32) (broadcast S1x128 lo))
    (cmpi .slt (iota .tc S1x128 32 [1] iota_S1x128_d1_w32) (broadcast S1x128 hi))) shapeCasts_S1x128_S1x128) broadcasts_S1x128_S256x128

/-- The rows of a head: the other lanes are zero. -/
def head (lo hi : BitVec 32) (X : FVec F S256x128 .bf16) : FVec F S256x128 .bf16 :=
  select (lanes lo hi) (shapeCast S256x128 X shapeCasts_S256x128_S256x128) (broadcast S256x128 (Scalar.sitofp .bf16 0#32))

/-- A head's queries, scaled. -/
def headQ (lo hi : BitVec 32) (X : FVec F S256x128 .bf16) : FVec F S256x128 .bf16 :=
  mulf (head lo hi X) (broadcast S256x128 (Scalar.ofBits .bf16 0x3E00#16))

/-- Lane `g` of every row, as a column. -/
def pick (g : BitVec 32) (X : FVec F S256x128 .f32) : FVec F S256x1 .f32 :=
  shapeCast S256x1 (multiReduction .add [1] S256
    (select (broadcastTo S256x128 (shapeCast S1x128 (cmpi .eq (iota .tc S1x128 32 [1] iota_S1x128_d1_w32) (broadcast S1x128 g)) shapeCasts_S1x128_S1x128) broadcasts_S1x128_S256x128)
      (shapeCast S256x128 X shapeCasts_S256x128_S256x128) (broadcast S256x128 (Scalar.ofBits .f32 0x00000000#32)))
    0x00000000#32 reduces_S256x128_S256 (.inl rfl) rfl) shapeCasts_S256_S256x1

variable {o K : ℕ} (h : Sides o K)

/-- The rows from `o` on of a block of 2048. -/
def rowsQ {e : EltTy} (X : Vec F S2048x128 e) : Vec F S256x128 e := View.ld (Val := Elt F) X (Rect.unit (s := S2048x128) ![o, 0] S256x128.size h.inbQ)

/-- The first `K` rows of a block of 2048. -/
def rowsK {e : EltTy} (X : Vec F S2048x128 e) : Vec F (S2 K 128) e := View.ld (Val := Elt F) X (Rect.unit (s := S2048x128) ![0, 0] (S2 K 128).size h.inbK)

/-- The tile's probabilities. -/
def probs (o32 lo hi g : BitVec 32) (q : FVec F S256x128 .bf16) (k : FVec F (S2 K 128) .bf16) (fc lse : FVec F S256x128 .f32)
    (fr : FVec F ⟨4, ![1, 1, 1, K]⟩ .f32) : FVec F (S2 256 K) .f32 :=
  select (cmpi .sle (iota .tc (S2 256 K) 32 [1] h.iota1) (addi (broadcast (S2 256 K) o32) (iota .tc (S2 256 K) 32 [0] h.iota0)))
    (exp (subf (subf (addf (matmul (DotDims.transposedRhs 256 128 K) none (headQ lo hi q) (shapeCast (S2 K 128) k h.keys) (constant (S2 256 K) .f32 0x00000000#32))
        (broadcastTo (S2 256 K) (pick g fc) h.col)) (broadcastTo (S2 256 K) (shapeCast (S2 1 K) fr h.cast4) h.row))
      (broadcastTo (S2 256 K) (pick g lse) h.col)))
    (broadcast (S2 256 K) (Scalar.ofBits .f32 0x00000000#32))

/-- The tile's products of the output gradient with the values. -/
def grads (lo hi : BitVec 32) (d : FVec F S256x128 .bf16) (v : FVec F (S2 K 128) .bf16) : FVec F (S2 256 K) .f32 :=
  matmul (DotDims.transposedRhs 256 128 K) none (head lo hi d) (shapeCast (S2 K 128) v h.keys) (constant (S2 256 K) .f32 0x00000000#32)

/-- The gradient of the scores, from the probabilities and the products. -/
def dscore (p dp : FVec F (S2 256 K) .f32) : FVec F (S2 256 K) .f32 :=
  mulf p (subf dp (broadcastTo (S2 256 K) (shapeCast S256x1 (multiReduction .add [1] S256 (mulf p dp) 0x00000000#32 h.red1 (.inl rfl) rfl) shapeCasts_S256_S256x1) h.col))

/-- The queries' gradient of one head, set into the head's lanes. -/
def setQ (lo hi : BitVec 32) (ds : FVec F (S2 256 K) .f32) (k : FVec F (S2 K 128) .bf16) (z : FVec F S256x128 .f32) : FVec F S256x128 .f32 :=
  select (lanes lo hi) (mulf (matmul (DotDims.plain 256 K 128) none (truncf .bf16 ds bitsLt_bf16_f32) (shapeCast (S2 K 128) k h.keys) (constant S256x128 .f32 0x00000000#32))
    (broadcast S256x128 (Scalar.ofBits .f32 0x3E000000#32))) z

/-- A tile's share of the keys' or values' gradient, added to what was there. -/
def addK (x : FVec F (S2 256 K) .f32) (y : FVec F S256x128 .bf16) (z : FVec F (S2 K 128) .f32) : FVec F (S2 K 128) .f32 :=
  shapeCast (S2 K 128) (addf z (matmul (tn 256 K 128) none (truncf .bf16 x bitsLt_bf16_f32) y (constant (S2 K 128) .f32 0x00000000#32))) h.keys

/-- A tile's column sums, taken off what was there. -/
def subF (x : FVec F (S2 256 K) .f32) (z : FVec F ⟨4, ![1, 1, 1, K]⟩ .f32) : FVec F ⟨4, ![1, 1, 1, K]⟩ .f32 :=
  shapeCast ⟨4, ![1, 1, 1, K]⟩ (subf (shapeCast (S2 1 K) z h.cast4)
    (shapeCast (S2 1 K) (multiReduction .add [0] ⟨1, ![K]⟩ x 0x00000000#32 h.red0 (.inl rfl) rfl) h.cast1)) h.uncast4

end Def

/-- The blocks that a grid point reads, and the lane of its first head. -/
structure Blocks (F : FTy → Type) where
  q : Vec F S2048x128 .bf16
  k : Vec F S2048x128 .bf16
  v : Vec F S2048x128 .bf16
  d : Vec F S2048x128 .bf16
  fc : Vec F S2048x128 .f32
  fr : Vec F S1x1x8x2048 .f32
  lse : Vec F S2048x128 .f32
  g : BitVec 32

section Blocks
variable {F : FTy → Type} [FloatOps F] {o K : ℕ} (h : Sides o K) (b : Blocks F) (o32 : BitVec 32) (k v : FVec F (S2 K 128) .bf16)

/-- The lane of head `e` of the point's group. -/
def Blocks.lane (e : BitVec 32) : BitVec 32 := Scalar.addi (Scalar.muli b.g 2#32) e

def Blocks.p0 : FVec F (S2 256 K) .f32 := probs h o32 0#32 64#32 (b.lane 0#32) (rowsQ h b.q) k (rowsQ h b.fc) (rowsQ h b.lse)
  (View.ld (Val := Elt F) b.fr (Rect.unit (s := S1x1x8x2048) ![0, 0, 0, 0] (⟨4, ![1, 1, 1, K]⟩ : Shape).size h.inbF0))
def Blocks.p1 : FVec F (S2 256 K) .f32 := probs h o32 64#32 128#32 (b.lane 1#32) (rowsQ h b.q) k (rowsQ h b.fc) (rowsQ h b.lse)
  (View.ld (Val := Elt F) b.fr (Rect.unit (s := S1x1x8x2048) ![0, 0, 1, 0] (⟨4, ![1, 1, 1, K]⟩ : Shape).size h.inbF1))
def Blocks.ds0 : FVec F (S2 256 K) .f32 := dscore h (b.p0 h o32 k) (grads h 0#32 64#32 (rowsQ h b.d) v)
def Blocks.ds1 : FVec F (S2 256 K) .f32 := dscore h (b.p1 h o32 k) (grads h 64#32 128#32 (rowsQ h b.d) v)
/-- The tile of the queries' gradient. -/
def Blocks.dq : FVec F S256x128 .bf16 :=
  truncf .bf16 (setQ h 64#32 128#32 (b.ds1 h o32 k v) k (setQ h 0#32 64#32 (b.ds0 h o32 k v) k (broadcast S256x128 (Scalar.ofBits .f32 0x00000000#32)))) bitsLt_bf16_f32
def Blocks.dk0 (z : FVec F (S2 K 128) .f32) : FVec F (S2 K 128) .f32 := addK h (b.ds0 h o32 k v) (headQ 0#32 64#32 (rowsQ h b.q)) z
def Blocks.dk1 (z : FVec F (S2 K 128) .f32) : FVec F (S2 K 128) .f32 := addK h (b.ds1 h o32 k v) (headQ 64#32 128#32 (rowsQ h b.q)) z
def Blocks.dv0 (z : FVec F (S2 K 128) .f32) : FVec F (S2 K 128) .f32 := addK h (b.p0 h o32 k) (head 0#32 64#32 (rowsQ h b.d)) z
def Blocks.dv1 (z : FVec F (S2 K 128) .f32) : FVec F (S2 K 128) .f32 := addK h (b.p1 h o32 k) (head 64#32 128#32 (rowsQ h b.d)) z
def Blocks.df0 (z : FVec F ⟨4, ![1, 1, 1, K]⟩ .f32) : FVec F ⟨4, ![1, 1, 1, K]⟩ .f32 := subF h (b.ds0 h o32 k v) z
def Blocks.df1 (z : FVec F ⟨4, ![1, 1, 1, K]⟩ .f32) : FVec F ⟨4, ![1, 1, 1, K]⟩ .f32 := subF h (b.ds1 h o32 k v) z

end Blocks

end Cert.AttnProof

end
-- ==== Proof.Attn.Run.lean ====
/- What the body leaves in its four output blocks, as a chain of tiles. -/
module

public import proofs.«01_k».proof.Proof.Attn.Ops

@[expose] public section

set_option maxRecDepth 16384

noncomputable section

namespace Cert.AttnProof

open Cert.AttnIdeal Cert.AttnIdeal.Gen Idealize.ShloMosaic Idealize.ShloMosaic.TcCoe Idealize.SL.Sem

section Chain
variable {F : FTy → Type} [FloatOps F]

/-- The pieces written to a table of 2048 rows, and to the row sums. -/
abbrev Pieces (F : FTy → Type) := List (View.Piece (Elt F) S2048x128 .f32)
abbrev PiecesF (F : FTy → Type) := List (View.Piece (Elt F) S1x1x8x2048 .f32)

variable {o K : ℕ}

/-- The first `K` rows as a rectangle, and the first `K` columns of the two rows. -/
abbrev Sides.rectK (h : Sides o K) : Rect S2048x128 := Rect.unit (s := S2048x128) ![0, 0] (S2 K 128).size h.inbK
abbrev Sides.rect0 (h : Sides o K) : Rect S1x1x8x2048 := Rect.unit (s := S1x1x8x2048) ![0, 0, 0, 0] (⟨4, ![1, 1, 1, K]⟩ : Shape).size h.inbF0
abbrev Sides.rect1 (h : Sides o K) : Rect S1x1x8x2048 := Rect.unit (s := S1x1x8x2048) ![0, 0, 1, 0] (⟨4, ![1, 1, 1, K]⟩ : Shape).size h.inbF1

/-- One accumulation: what lies in the rectangle is read, changed, and written back. -/
def put {κ : Kind} {sp : Space} {s : Shape} (V : View sig κ sp s .f32) (r : Rect s) (f : (r.shape.Idx → Elt F .f32) → r.shape.Idx → Elt F .f32)
    (L : List (View.Piece (Elt F) s .f32)) : List (View.Piece (Elt F) s .f32) := ⟨r, f (V.readCov L r.toLoadRect)⟩ :: L

variable (h : Sides o K) (b : Blocks F) (o32 : BitVec 32)

/-- A tile's two accumulations into the keys' gradient. -/
def Blocks.tileK (L : Pieces F) : Pieces F :=
  put (View.whole cc0_scratch0) h.rectK (b.dk1 h o32 (rowsK h b.k) (rowsK h b.v)) (put (View.whole cc0_scratch0) h.rectK (b.dk0 h o32 (rowsK h b.k) (rowsK h b.v)) L)

/-- A tile's two accumulations into the values' gradient. -/
def Blocks.tileV (L : Pieces F) : Pieces F :=
  put (View.whole cc0_scratch1) h.rectK (b.dv1 h o32 (rowsK h b.k)) (put (View.whole cc0_scratch1) h.rectK (b.dv0 h o32 (rowsK h b.k)) L)

/-- A tile's two accumulations into the column sums, given the keys and values it sees. -/
def Blocks.tileF {sp : Space} (V : View sig .tc sp S1x1x8x2048 .f32) (k v : FVec F (S2 K 128) .bf16) (L : PiecesF F) : PiecesF F :=
  put V h.rect1 (b.df1 h o32 k v) (put V h.rect0 (b.df0 h o32 k v) L)

/-- The keys' gradient before the last tile. -/
def Blocks.chainK : Pieces F :=
  b.tileK sides6 1536#32 (b.tileK sides5 1280#32 (b.tileK sides4 1024#32 (b.tileK sides3 768#32 (b.tileK sides2 512#32 (b.tileK sides1 256#32
    (b.tileK sides0 0#32 [⟨Rect.unit (s := S2048x128) ![0, 0] S2048x128.size inb_S2048x128_S2048x128_0_0, k0_pay2⟩]))))))

/-- The values' gradient before the last tile. -/
def Blocks.chainV : Pieces F :=
  b.tileV sides6 1536#32 (b.tileV sides5 1280#32 (b.tileV sides4 1024#32 (b.tileV sides3 768#32 (b.tileV sides2 512#32 (b.tileV sides1 256#32
    (b.tileV sides0 0#32 [⟨Rect.unit (s := S2048x128) ![0, 0] S2048x128.size inb_S2048x128_S2048x128_0_0, k0_pay3⟩]))))))

/-- The column sums after the last tile. -/
def Blocks.chainF {sp : Space} (V : View sig .tc sp S1x1x8x2048 .f32) : PiecesF F :=
  b.tileF sides7 1792#32 V b.k b.v (b.tileF sides6 1536#32 V (rowsK sides6 b.k) (rowsK sides6 b.v) (b.tileF sides5 1280#32 V (rowsK sides5 b.k) (rowsK sides5 b.v)
  (b.tileF sides4 1024#32 V (rowsK sides4 b.k) (rowsK sides4 b.v) (b.tileF sides3 768#32 V (rowsK sides3 b.k) (rowsK sides3 b.v)
  (b.tileF sides2 512#32 V (rowsK sides2 b.k) (rowsK sides2 b.v) (b.tileF sides1 256#32 V (rowsK sides1 b.k) (rowsK sides1 b.v)
  (b.tileF sides0 0#32 V (rowsK sides0 b.k) (rowsK sides0 b.v) [⟨Rect.unit (s := S1x1x8x2048) ![0, 0, 0, 0] S1x1x8x2048.size inb_S1x1x8x2048_S1x1x8x2048_0_0_0_0, k0_pay4⟩])))))))

/-- A tile of the queries' gradient, as it is stored. -/
def Blocks.pieceQ (k v : FVec F (S2 K 128) .bf16) : View.Piece (Elt F) S2048x128 .bf16 :=
  ⟨Rect.unit (s := S2048x128) ![o, 0] S256x128.size h.inbQ, b.dq h o32 k v⟩

/-- The eight tiles of the queries' gradient. -/
def Blocks.chainQ : List (View.Piece (Elt F) S2048x128 .bf16) :=
  [b.pieceQ sides7 1792#32 b.k b.v, b.pieceQ sides6 1536#32 (rowsK sides6 b.k) (rowsK sides6 b.v), b.pieceQ sides5 1280#32 (rowsK sides5 b.k) (rowsK sides5 b.v),
   b.pieceQ sides4 1024#32 (rowsK sides4 b.k) (rowsK sides4 b.v), b.pieceQ sides3 768#32 (rowsK sides3 b.k) (rowsK sides3 b.v),
   b.pieceQ sides2 512#32 (rowsK sides2 b.k) (rowsK sides2 b.v), b.pieceQ sides1 256#32 (rowsK sides1 b.k) (rowsK sides1 b.v),
   b.pieceQ sides0 0#32 (rowsK sides0 b.k) (rowsK sides0 b.v)]

/-! ## The generated terms are these chains -/

variable (m : (ℓ : Loc nD τ sig) → Buf (Elt F) ℓ) (c : Dev nD) (t : Fin cfg0.N)

/-- The blocks of grid point `t`. -/
@[reducible] def blks : Blocks F :=
  ⟨iblk m c 0 t, iblk m c 1 t, iblk m c 2 t, iblk m c 3 t, iblk m c 4 t, iblk m c 5 t, iblk m c 6 t, BitVec.ofNat 32 ((grid0.coords t) 1)⟩

theorem put_step {κ : Kind} {sp : Space} {s : Shape} {V : View sig κ sp s .f32} {r : Rect s} {f : (r.shape.Idx → Elt F .f32) → r.shape.Idx → Elt F .f32}
    {L L' : List (View.Piece (Elt F) s .f32)} {x : r.shape.Idx → Elt F .f32} (hx : x = f (V.readCov L r.toLoadRect)) (hL : L = L') :
    (⟨r, x⟩ :: L : List (View.Piece (Elt F) s .f32)) = put V r f L' := by
  subst hL hx; rfl

set_option maxHeartbeats 1000000 in
theorem out_q : (outsAt0 m c t).1 = View.canon (blks m c t).chainQ := by
  unfold outsAt0; frame_out; delta blks
  generalize iblk m c 0 t = q; generalize iblk m c 1 t = k; generalize iblk m c 2 t = v; generalize iblk m c 3 t = d; generalize iblk m c 4 t = fc; generalize iblk m c 5 t = fr; generalize iblk m c 6 t = lse; generalize BitVec.ofNat 32 ((grid0.coords t) 1) = g; rfl

theorem readCov_congr {κ : Kind} {sp : Space} {s : Shape} {V : View sig κ sp s .f32} {r : LoadRect s}
    {L L' : List (View.Piece (Elt F) s .f32)} (hL : L = L') : V.readCov L r = V.readCov L' r := by
  subst hL; rfl

set_option maxHeartbeats 1000000 in
theorem out_k (z' : (S2 2048 128).Idx → Elt F .f32) (hz : z' = (View.whole cc0_scratch0).readCov (blks m c t).chainK sides7.rectK.toLoadRect) :
    (outsAt0 m c t).2.1 = truncf .bf16 ((blks m c t).dk1 sides7 1792#32 (blks m c t).k (blks m c t).v ((blks m c t).dk0 sides7 1792#32 (blks m c t).k (blks m c t).v z')) bitsLt_bf16_f32 := by
  unfold outsAt0; frame_out
  generalize hL : View.readCov (Val := Elt F) _ _ _ = z
  have e : z = z' := by
    rw [hz]; refine hL.symm.trans (readCov_congr ?_)
    delta blks Blocks.chainK Blocks.tileK
    iterate 14 refine put_step (by generalize View.readCov (Val := Elt F) _ _ _ = z; generalize iblk m c 0 t = q; generalize iblk m c 1 t = k; generalize iblk m c 2 t = v; generalize iblk m c 3 t = d; generalize iblk m c 4 t = fc; generalize iblk m c 5 t = fr; generalize iblk m c 6 t = lse; generalize BitVec.ofNat 32 ((grid0.coords t) 1) = g; rfl) ?_
    rfl
  clear hL hz; subst e; delta blks
  generalize iblk m c 0 t = q; generalize iblk m c 1 t = k; generalize iblk m c 2 t = v; generalize iblk m c 3 t = d; generalize iblk m c 4 t = fc; generalize iblk m c 5 t = fr; generalize iblk m c 6 t = lse; generalize BitVec.ofNat 32 ((grid0.coords t) 1) = g; rfl

set_option maxHeartbeats 1000000 in
theorem out_v (z' : (S2 2048 128).Idx → Elt F .f32) (hz : z' = (View.whole cc0_scratch1).readCov (blks m c t).chainV sides7.rectK.toLoadRect) :
    (outsAt0 m c t).2.2.1 = truncf .bf16 ((blks m c t).dv1 sides7 1792#32 (blks m c t).k  ((blks m c t).dv0 sides7 1792#32 (blks m c t).k  z')) bitsLt_bf16_f32 := by
  unfold outsAt0; frame_out
  generalize hL : View.readCov (Val := Elt F) _ _ _ = z
  have e : z = z' := by
    rw [hz]; refine hL.symm.trans (readCov_congr ?_)
    delta blks Blocks.chainV Blocks.tileV
    iterate 14 refine put_step (by generalize View.readCov (Val := Elt F) _ _ _ = z; generalize iblk m c 0 t = q; generalize iblk m c 1 t = k; generalize iblk m c 2 t = v; generalize iblk m c 3 t = d; generalize iblk m c 4 t = fc; generalize iblk m c 5 t = fr; generalize iblk m c 6 t = lse; generalize BitVec.ofNat 32 ((grid0.coords t) 1) = g; rfl) ?_
    rfl
  clear hL hz; subst e; delta blks
  generalize iblk m c 0 t = q; generalize iblk m c 1 t = k; generalize iblk m c 2 t = v; generalize iblk m c 3 t = d; generalize iblk m c 4 t = fc; generalize iblk m c 5 t = fr; generalize iblk m c 6 t = lse; generalize BitVec.ofNat 32 ((grid0.coords t) 1) = g; rfl

set_option maxHeartbeats 1000000 in
theorem out_f : (outsAt0 m c t).2.2.2 = View.canon ((blks m c t).chainF (ms0_10 t).view) := by
  unfold outsAt0; frame_out
  delta blks Blocks.chainF Blocks.tileF
  refine congrArg View.canon ?_
  iterate 16 refine put_step (by generalize View.readCov (Val := Elt F) _ _ _ = z; generalize iblk m c 0 t = q; generalize iblk m c 1 t = k; generalize iblk m c 2 t = v; generalize iblk m c 3 t = d; generalize iblk m c 4 t = fc; generalize iblk m c 5 t = fr; generalize iblk m c 6 t = lse; generalize BitVec.ofNat 32 ((grid0.coords t) 1) = g; rfl) ?_
  rfl

end Chain

end Cert.AttnProof

end
-- ==== Proof.Attn.Tile.lean ====
/- One query tile over the reals: the scores, the probabilities, their gradient, and what the tile adds to each result. -/
module

public import proofs.«01_k».proof.Proof.Attn.Ops
public import proofs.«01_k».proof.Proof.Reals
public import Idealize.ShloMosaic.Lib.MatmulPlain
public import Idealize.ShloMosaic.Lib.ValueLayout
public import Idealize.ShloMosaic.Lib.ValueLayoutCasts
public import Idealize.ShloMosaic.Lib.Pointwise

@[expose] public section

set_option maxRecDepth 16384

noncomputable section

namespace Cert.AttnProof

open Cert.AttnIdeal Cert.AttnIdeal.Gen Idealize.ShloMosaic Idealize.ShloMosaic.TcCoe

/-- A table holds `x`. -/
def IsMat {a b : ℕ} (x : ℕ → ℕ → ℝ) (X : (S2 a b).Idx → EReal) : Prop := ∀ (i : Fin a) (j : Fin b), X (ix2 i j) = ((x i j : ℝ) : EReal)

/-- The first of the eight rows of a block of row vectors, of `K` columns, holds `x`. -/
def IsRow {K : ℕ} (x : ℕ → ℝ) (X : (⟨4, ![1, 1, 1, K]⟩ : Shape).Idx → EReal) : Prop := ∀ j : Fin K, X (ix4 0 0 0 j) = ((x j : ℝ) : EReal)

/-- `lanes lo hi` are the lanes of head `e` of the two. -/
def IsHead (lo hi : BitVec 32) (e : ℕ) : Prop := ∀ (r : Fin 256) (l : Fin 128), lanes lo hi (ix2 r l) = if (l : ℕ) / 64 = e then 1#1 else 0#1

theorem isHead0 : IsHead 0#32 64#32 0 := by
  intro r l
  have h : lanes 0#32 64#32 (ix2 r l) = IntOp.andi (IntOp.cmpi .sge (BitVec.ofNat 32 (l : ℕ)) 0#32) (IntOp.cmpi .slt (BitVec.ofNat 32 (l : ℕ)) 64#32) := by
    pointwise [lanes]
  rw [h]; clear h; revert l; decide +kernel

theorem isHead1 : IsHead 64#32 128#32 1 := by
  intro r l
  have h : lanes 64#32 128#32 (ix2 r l) = IntOp.andi (IntOp.cmpi .sge (BitVec.ofNat 32 (l : ℕ)) 64#32) (IntOp.cmpi .slt (BitVec.ofNat 32 (l : ℕ)) 128#32) := by
    pointwise [lanes]
  rw [h]; clear h; revert l; decide +kernel

/-- Only the lanes of head `e`. -/
def msk (e : ℕ) (x : ℕ → ℕ → ℝ) (i l : ℕ) : ℝ := if l / 64 = e then x i l else 0

theorem eighth_bf16 : Ideal.ofBits .bf16 0x3E00#16 = ((1 / 8 : ℝ) : EReal) := by
  simp [Ideal.ofBits, Ideal.ieee]
  norm_num
  rw [← EReal.coe_mul]
  norm_num

theorem eighth_f32 : Ideal.ofBits .f32 0x3E000000#32 = ((1 / 8 : ℝ) : EReal) := by
  simp [Ideal.ofBits, Ideal.ieee]
  norm_num
  rw [← EReal.coe_mul]
  norm_num

variable {lo hi : BitVec 32} {e : ℕ} {x y : ℕ → ℕ → ℝ}

theorem isMat_head (hl : IsHead lo hi e) {X : FVec Ideal S256x128 .bf16} (hX : IsMat x X) : IsMat (msk e x) (head lo hi X) := by
  intro r l
  have h : head lo hi X (ix2 r l) = if lanes lo hi (ix2 r l) = 1#1 then X (ix2 r l) else 0 := by
    pointwise [head]
    rw [show (((0#32 : BitVec 32).toInt : ℝ) : EReal) = 0 by simp]
    rfl
  rw [h, hl r l, hX r l, msk]
  by_cases c : (l : ℕ) / 64 = e
  · simp [c]
  · simp [c]

theorem isMat_headQ (hl : IsHead lo hi e) {X : FVec Ideal S256x128 .bf16} (hX : IsMat x X) : IsMat (fun i l => msk e x i l * (1 / 8)) (headQ lo hi X) := by
  intro r l
  have h : headQ lo hi X (ix2 r l) = head lo hi X (ix2 r l) * Ideal.ofBits .bf16 0x3E00#16 := rfl
  rw [h, isMat_head hl hX r l, eighth_bf16, ← EReal.coe_mul]

theorem pick_apply {X : FVec Ideal S256x128 .f32} (hX : IsMat x X) {g : ℕ} (hg : g < 128) (r : Fin 256) :
    pick (BitVec.ofNat 32 g) X (ix2 r 0) = ((x r g : ℝ) : EReal) := by
  have h : pick (BitVec.ofNat 32 g) X (ix2 r 0)
      = ∑ l : Fin 128, if IntOp.cmpi .eq (BitVec.ofNat 32 (l : ℕ)) (BitVec.ofNat 32 g) = 1#1 then X (ix2 r l) else 0 := by
    pointwise [pick]
    rfl
  rw [h, Finset.sum_eq_single (⟨g, hg⟩ : Fin 128)]
  · rw [if_pos (by simp [IntOp.cmpi])]; exact hX r _
  · intro l _ hl
    have hne : (l : ℕ) ≠ g := fun e => hl (Fin.ext e)
    have : BitVec.ofNat 32 (l : ℕ) ≠ BitVec.ofNat 32 g := by
      intro e
      have := congrArg BitVec.toNat e
      simp only [BitVec.toNat_ofNat] at this
      have := l.isLt
      omega
    rw [if_neg]
    simp [IntOp.cmpi, beq_eq_false_iff_ne.mpr this]
  · intro hn; exact absurd (Finset.mem_univ _) hn

/-! ## The products -/

theorem zero_f32 : Ideal.ofBits .f32 0x00000000#32 = (0 : EReal) := by simp [Ideal.ofBits, Ideal.ieee]

theorem sum_coe {n : ℕ} (f : ℕ → ℝ) : (∑ k : Fin n, ((f k : ℝ) : EReal)) = ((∑ k ∈ Finset.range n, f k : ℝ) : EReal) := by
  rw [← Cert.Reals.coe_sum, Fin.sum_univ_eq_sum_range]

theorem cast_self {α : Type} {s : Shape} (X : s.Idx → α) (h : s.ShapeCasts s) : shapeCast s X h = X :=
  funext fun i => shapeCast_apply X h i i rfl

variable {M N K : ℕ} {φ ψ : FTy}

theorem isMat_dotT {X : FVec Ideal (S2 M 128) φ} {Y : FVec Ideal (S2 N 128) ψ} (hX : IsMat x X) (hY : IsMat y Y) :
    IsMat (fun i j => ∑ l ∈ Finset.range 128, x i l * y j l) (matmul (DotDims.transposedRhs M 128 N) none X Y (constant (S2 M N) .f32 0x00000000#32)) := by
  intro i j
  refine (Ideal.matmul_transposedRhs_apply none X Y _ i j).trans ?_
  show Ideal.ofBits .f32 0x00000000#32 + ∑ k : Fin 128, X (ix2 i k) * Y (ix2 j k) = _
  rw [zero_f32, zero_add, ← sum_coe]
  exact Finset.sum_congr rfl fun l _ => by rw [hX i l, hY j l, ← EReal.coe_mul]

theorem isMat_dot {X : FVec Ideal (S2 M K) φ} {Y : FVec Ideal (S2 K N) ψ} (hX : IsMat x X) (hY : IsMat y Y) :
    IsMat (fun i j => ∑ l ∈ Finset.range K, x i l * y l j) (matmul (DotDims.plain M K N) none X Y (constant (S2 M N) .f32 0x00000000#32)) := by
  intro i j
  refine (Ideal.matmul_plain_apply none X Y _ i j).trans ?_
  show Ideal.ofBits .f32 0x00000000#32 + ∑ k : Fin K, X (ix2 i k) * Y (ix2 k j) = _
  rw [zero_f32, zero_add, ← sum_coe]
  exact Finset.sum_congr rfl fun l _ => by rw [hX i l, hY l j, ← EReal.coe_mul]

theorem isMat_tn {X : FVec Ideal (S2 M K) φ} {Y : FVec Ideal (S2 M N) ψ} (hX : IsMat x X) (hY : IsMat y Y) :
    IsMat (fun i j => ∑ l ∈ Finset.range M, x l i * y l j) (matmul (tn M K N) none X Y (constant (S2 K N) .f32 0x00000000#32)) := by
  intro i j
  refine (Ideal.matmul_apply₁_of (tn M K N) (a := 0) rfl (K := M) rfl X Y _ (ix2 i j) (fun k => ix2 k i) (fun k => ix2 k j)
    (fun k => funext fun a => match a with | ⟨0, _⟩ => rfl | ⟨1, _⟩ => rfl) (fun k => funext fun a => match a with | ⟨0, _⟩ => rfl | ⟨1, _⟩ => rfl)).trans ?_
  rw [show (constant (F := Ideal) (S2 K N) .f32 0x00000000#32) (ix2 i j) = 0 from zero_f32, zero_add, ← sum_coe]
  exact Finset.sum_congr rfl fun l _ => by rw [hX l i, hY l j, ← EReal.coe_mul]

/-! ## The tile's steps -/

theorem sle_apply {o i j : ℕ} (hi : o + i < 4096) (hj : j < 4096) :
    IntOp.cmpi .sle (BitVec.ofNat 32 j) (IntOp.addi (BitVec.ofNat 32 o) (BitVec.ofNat 32 i)) = if j ≤ o + i then 1#1 else 0#1 := by
  have h : ∀ n, n < 4096 → (BitVec.ofNat 32 n).toInt = n := by
    intro n hn
    rw [BitVec.toInt_eq_toNat_of_lt (by rw [BitVec.toNat_ofNat]; omega), BitVec.toNat_ofNat, Nat.mod_eq_of_lt (by omega)]
  have ha : IntOp.addi (BitVec.ofNat 32 o) (BitVec.ofNat 32 i) = BitVec.ofNat 32 (o + i) := by
    simp [IntOp.addi, BitVec.ofNat_add]
  rw [ha]
  simp only [IntOp.cmpi, BitVec.sle, h _ hi, h _ hj]
  by_cases c : j ≤ o + i
  · rw [if_pos c, decide_eq_true (by exact_mod_cast c)]; rfl
  · rw [if_neg c, decide_eq_false (by exact_mod_cast c)]; rfl

theorem col_apply {X : FVec Ideal S256x1 .f32} (h : S256x1.Broadcasts (S2 256 K)) (i : Fin 256) (j : Fin K) :
    broadcastTo (S2 256 K) X h (ix2 i j) = X (ix2 i 0) :=
  broadcastTo_apply X h _ _ fun a => match a with | ⟨0, _⟩ => rfl | ⟨1, _⟩ => rfl

theorem rowb_apply {X : FVec Ideal (S2 1 K) .f32} (h : (S2 1 K).Broadcasts (S2 256 K)) (i : Fin 256) (j : Fin K) :
    broadcastTo (S2 256 K) X h (ix2 i j) = X (ix2 0 j) :=
  broadcastTo_apply X h _ _ fun a => match a with
    | ⟨0, _⟩ => rfl
    | ⟨1, _⟩ => by
      show (j : ℕ) = if K = 1 then 0 else (j : ℕ)
      split
      · have := j.isLt; omega
      · rfl

theorem unit_apply {X : FVec Ideal S256 .f32} (h : S256.ShapeCasts S256x1) (i : Fin 256) : shapeCast S256x1 X h (ix2 i 0) = X (ix1 i) :=
  shapeCast_apply X h _ _ (by
    rw [Shape.rowMajor_val_two, Shape.rowMajor_val_one]
    show (i : ℕ) = i * 1 + 0
    omega)

theorem lead_apply {X : FVec Ideal ⟨1, ![K]⟩ .f32} (h : (⟨1, ![K]⟩ : Shape).ShapeCasts (S2 1 K)) (j : Fin K) : shapeCast (S2 1 K) X h (ix2 0 j) = X (ix1 j) :=
  shapeCast_apply X h _ _ (by
    rw [Shape.rowMajor_val_two, Shape.rowMajor_val_one]
    show (j : ℕ) = 0 * K + j
    omega)

theorem row_apply {X : FVec Ideal ⟨4, ![1, 1, 1, K]⟩ .f32} (h : (⟨4, ![1, 1, 1, K]⟩ : Shape).ShapeCasts (S2 1 K)) (j : Fin K) :
    shapeCast (S2 1 K) X h (ix2 0 j) = X (ix4 0 0 0 j) :=
  shapeCast_apply X h _ _ (by
    rw [Shape.rowMajor_val_four, Shape.rowMajor_val_two]
    show ((0 * 1 + 0) * 1 + 0) * K + (j : ℕ) = 0 * K + j
    omega)

theorem unrow_apply {X : FVec Ideal (S2 1 K) .f32} (h : (S2 1 K).ShapeCasts ⟨4, ![1, 1, 1, K]⟩) (j : Fin K) :
    shapeCast ⟨4, ![1, 1, 1, K]⟩ X h (ix4 0 0 0 j) = X (ix2 0 j) :=
  shapeCast_apply X h _ _ (by
    rw [Shape.rowMajor_val_four, Shape.rowMajor_val_two]
    show 0 * K + (j : ℕ) = ((0 * 1 + 0) * 1 + 0) * K + j
    omega)

/-- The probabilities of a tile whose rows start at `o`. -/
def tileP (o e g : ℕ) (q k fc lse : ℕ → ℕ → ℝ) (fr : ℕ → ℝ) (i j : ℕ) : ℝ :=
  if j ≤ o + i then Real.exp ((∑ l ∈ Finset.range 128, msk e q i l * (1 / 8) * k j l) + fc i g - fr j - lse i g) else 0

variable {o : ℕ} (h : Sides o K)

theorem isMat_probs (hl : IsHead lo hi e) {g : ℕ} (hg : g < 128) (hK : K ≤ 2048) (ho : o ≤ 1792) {q k fc lse : ℕ → ℕ → ℝ} {fr : ℕ → ℝ}
    {Q : FVec Ideal S256x128 .bf16} {X : FVec Ideal (S2 K 128) .bf16} {C E : FVec Ideal S256x128 .f32} {R : FVec Ideal ⟨4, ![1, 1, 1, K]⟩ .f32}
    (hQ : IsMat q Q) (hX : IsMat k X) (hC : IsMat fc C) (hE : IsMat lse E) (hR : IsRow fr R) :
    IsMat (tileP o e g q k fc lse fr) (probs h (BitVec.ofNat 32 o) lo hi (BitVec.ofNat 32 g) Q X C E R) := by
  intro i j
  have hh : probs h (BitVec.ofNat 32 o) lo hi (BitVec.ofNat 32 g) Q X C E R (ix2 i j)
      = Scalar.select (IntOp.cmpi .sle (BitVec.ofNat 32 (j : ℕ)) (IntOp.addi (BitVec.ofNat 32 o) (BitVec.ofNat 32 (i : ℕ))))
        (Ideal.exp (matmul (DotDims.transposedRhs 256 128 K) none (headQ lo hi Q) (shapeCast (S2 K 128) X h.keys) (constant (S2 256 K) .f32 0x00000000#32) (ix2 i j)
          + broadcastTo (S2 256 K) (pick (BitVec.ofNat 32 g) C) h.col (ix2 i j) - broadcastTo (S2 256 K) (shapeCast (S2 1 K) R h.cast4) h.row (ix2 i j)
          - broadcastTo (S2 256 K) (pick (BitVec.ofNat 32 g) E) h.col (ix2 i j)))
        (Ideal.ofBits .f32 0x00000000#32) := by
    unfold probs
    pointwise
  have hi' := i.isLt
  have hj' := j.isLt
  rw [hh, cast_self, isMat_dotT (isMat_headQ hl hQ) hX i j, col_apply, col_apply, rowb_apply, row_apply, pick_apply hC hg, pick_apply hE hg, hR j,
    sle_apply (by omega) (by omega), zero_f32, ← EReal.coe_add, ← EReal.coe_sub, ← EReal.coe_sub, Ideal.exp_coe, tileP]
  by_cases c : (j : ℕ) ≤ o + i
  · rw [if_pos c, if_pos c]; rfl
  · rw [if_neg c, if_neg c]; rfl

theorem isMat_grads (hl : IsHead lo hi e) {d v : ℕ → ℕ → ℝ} {D : FVec Ideal S256x128 .bf16} {X : FVec Ideal (S2 K 128) .bf16} (hD : IsMat d D) (hX : IsMat v X) :
    IsMat (fun i j => ∑ l ∈ Finset.range 128, msk e d i l * v j l) (grads h lo hi D X) := by
  unfold grads
  rw [cast_self]
  exact isMat_dotT (isMat_head hl hD) hX

/-- The gradient of the scores of a tile that sees `K` keys. -/
def tileS (K : ℕ) (p dp : ℕ → ℕ → ℝ) (i j : ℕ) : ℝ := p i j * (dp i j - ∑ k ∈ Finset.range K, p i k * dp i k)

theorem isMat_dscore {p dp : ℕ → ℕ → ℝ} {X Y : FVec Ideal (S2 256 K) .f32} (hX : IsMat p X) (hY : IsMat dp Y) :
    IsMat (tileS K p dp) (dscore h X Y) := by
  intro i j
  have hh : dscore h X Y (ix2 i j) = X (ix2 i j) * (Y (ix2 i j)
      - broadcastTo (S2 256 K) (shapeCast S256x1 (multiReduction .add [1] S256 (mulf X Y) 0x00000000#32 h.red1 (.inl rfl) rfl) shapeCasts_S256_S256x1) h.col (ix2 i j)) := rfl
  rw [hh, col_apply, unit_apply]
  show X (ix2 i j) * (Y (ix2 i j) - FloatOps.reduceAdd (F := Ideal) (φ := .f32) [1] h.red1 (mulf X Y) (ix1 i)) = _
  have hs : FloatOps.reduceAdd (F := Ideal) (φ := .f32) [1] h.red1 (mulf X Y) (ix1 i) = ∑ k : Fin K, X (ix2 i k) * Y (ix2 i k) :=
    Ideal.reduceAdd_r2_a1 h.red1 (mulf X Y) (ix1 i)
  rw [hs]
  have hk : ∀ k : Fin K, X (ix2 i k) * Y (ix2 i k) = ((p i k * dp i k : ℝ) : EReal) := fun k => by rw [hX i k, hY i k, EReal.coe_mul]
  simp only [hk]
  rw [sum_coe (fun k => p i k * dp i k), hX i j, hY i j, ← EReal.coe_sub, ← EReal.coe_mul]
  rfl

theorem isMat_setQ (hl : IsHead lo hi e) {s k z : ℕ → ℕ → ℝ} {Y : FVec Ideal (S2 256 K) .f32} {X : FVec Ideal (S2 K 128) .bf16} {Z : FVec Ideal S256x128 .f32}
    (hY : IsMat s Y) (hX : IsMat k X) (hZ : IsMat z Z) :
    IsMat (fun i l => if l / 64 = e then (∑ j ∈ Finset.range K, s i j * k j l) * (1 / 8) else z i l) (setQ h lo hi Y X Z) := by
  intro i l
  have hh : setQ h lo hi Y X Z (ix2 i l) = Scalar.select (lanes lo hi (ix2 i l))
      (matmul (φ₁ := .bf16) (DotDims.plain 256 K 128) none (truncf .bf16 Y bitsLt_bf16_f32) (shapeCast (S2 K 128) X h.keys) (constant S256x128 .f32 0x00000000#32) (ix2 i l)
        * Ideal.ofBits .f32 0x3E000000#32) (Z (ix2 i l)) := rfl
  have hT : IsMat s (truncf (F := Ideal) .bf16 Y bitsLt_bf16_f32) := hY
  rw [hh, cast_self, isMat_dot hT hX i l, eighth_f32, hl i l, hZ i l, ← EReal.coe_mul]
  by_cases c : (l : ℕ) / 64 = e
  · simp only [if_pos c]; rfl
  · simp only [if_neg c]; rfl

theorem isMat_addK {s d z : ℕ → ℕ → ℝ} {X : FVec Ideal (S2 256 K) .f32} {Y : FVec Ideal S256x128 .bf16} {Z : FVec Ideal (S2 K 128) .f32}
    (hX : IsMat s X) (hY : IsMat d Y) (hZ : IsMat z Z) :
    IsMat (fun j l => z j l + ∑ i ∈ Finset.range 256, s i j * d i l) (addK h X Y Z) := by
  unfold addK
  rw [cast_self]
  intro j l
  have hT : IsMat s (truncf (F := Ideal) .bf16 X bitsLt_bf16_f32) := hX
  refine (congrArg₂ (· + ·) (hZ j l) (isMat_tn hT hY j l)).trans ?_
  rw [← EReal.coe_add]

theorem isRow_subF {s : ℕ → ℕ → ℝ} {z : ℕ → ℝ} {X : FVec Ideal (S2 256 K) .f32} {Z : FVec Ideal ⟨4, ![1, 1, 1, K]⟩ .f32} (hX : IsMat s X) (hZ : IsRow z Z) :
    IsRow (fun j => z j - ∑ i ∈ Finset.range 256, s i j) (subF h X Z) := by
  intro j
  unfold subF
  rw [unrow_apply]
  have hs : FloatOps.reduceAdd (F := Ideal) (φ := .f32) [0] h.red0 X (ix1 j) = ∑ i : Fin 256, X (ix2 i j) := Ideal.reduceAdd_r2_a0 h.red0 X (ix1 j)
  have hh : ∀ A B : FVec Ideal (S2 1 K) .f32, subf A B (ix2 0 j) = A (ix2 0 j) - B (ix2 0 j) := fun _ _ => rfl
  have hk : ∀ i : Fin 256, X (ix2 i j) = ((s i j : ℝ) : EReal) := fun i => hX i j
  rw [hh, row_apply, lead_apply]
  show Z (ix4 0 0 0 j) - FloatOps.reduceAdd (F := Ideal) (φ := .f32) [0] h.red0 X (ix1 j) = _
  rw [hs, hZ j]
  simp only [hk]
  rw [sum_coe (fun i => s i j), ← EReal.coe_sub]

end Cert.AttnProof

end
-- ==== Proof.Attn.Point.lean ====
/- What one grid point leaves in its four output blocks, over the reals: the gradients of a pair of heads. -/
module

public import proofs.«01_k».proof.Proof.Attn.Run
public import proofs.«01_k».proof.Proof.Attn.Tile

@[expose] public section

set_option maxRecDepth 16384

noncomputable section

namespace Cert.AttnProof

open Cert.AttnIdeal Cert.AttnIdeal.Gen Idealize.ShloMosaic Idealize.ShloMosaic.TcCoe

/-- The numbers that a grid point's blocks hold; `n` is the pair of heads. -/
structure Nums where
  q : ℕ → ℕ → ℝ
  k : ℕ → ℕ → ℝ
  v : ℕ → ℕ → ℝ
  d : ℕ → ℕ → ℝ
  fc : ℕ → ℕ → ℝ
  fr : ℕ → ℕ → ℝ
  lse : ℕ → ℕ → ℝ
  n : ℕ

/-- The probability of row `i`, key `j`, of head `e` of the pair. -/
def Nums.P (r : Nums) (e i j : ℕ) : ℝ :=
  if j ≤ i then Real.exp ((∑ l ∈ Finset.range 128, msk e r.q i l * (1 / 8) * r.k j l) + r.fc i (r.n * 2 + e) - r.fr e j - r.lse i (r.n * 2 + e)) else 0

/-- The gradient of the probability. -/
def Nums.dP (r : Nums) (e i j : ℕ) : ℝ := ∑ l ∈ Finset.range 128, msk e r.d i l * r.v j l

/-- The gradient of the score. -/
def Nums.dS (r : Nums) (e i j : ℕ) : ℝ := r.P e i j * (r.dP e i j - ∑ k ∈ Finset.range 2048, r.P e i k * r.dP e i k)

/-- The gradients of the queries, keys and values of the pair, and of the cumulative gates by column. -/
def Nums.dq (r : Nums) (i l : ℕ) : ℝ := (∑ j ∈ Finset.range 2048, r.dS (l / 64) i j * r.k j l) * (1 / 8)
def Nums.tk (r : Nums) (e j l i : ℕ) : ℝ := r.dS e i j * (msk e r.q i l * (1 / 8))
def Nums.tv (r : Nums) (e j l i : ℕ) : ℝ := r.P e i j * msk e r.d i l
def Nums.dk (r : Nums) (n j l : ℕ) : ℝ := ∑ i ∈ Finset.range n, (r.tk 0 j l i + r.tk 1 j l i)
def Nums.dv (r : Nums) (n j l : ℕ) : ℝ := ∑ i ∈ Finset.range n, (r.tv 0 j l i + r.tv 1 j l i)
def Nums.df (r : Nums) (n e j : ℕ) : ℝ := if e < 2 then -∑ i ∈ Finset.range n, r.dS e i j else 0

theorem Nums.P_zero (r : Nums) {e i j : ℕ} (h : i < j) : r.P e i j = 0 := if_neg (by omega)
theorem Nums.dS_zero (r : Nums) {e i j : ℕ} (h : i < j) : r.dS e i j = 0 := by rw [Nums.dS, r.P_zero h, zero_mul]

theorem Nums.dv_zero (r : Nums) {n j l : ℕ} (h : n ≤ j) : r.dv n j l = 0 := Finset.sum_eq_zero fun i hi => by
  have := Finset.mem_range.mp hi
  rw [Nums.tv, Nums.tv, r.P_zero (by omega), r.P_zero (by omega), zero_mul, zero_mul, add_zero]
theorem Nums.dk_zero (r : Nums) {n j l : ℕ} (h : n ≤ j) : r.dk n j l = 0 := Finset.sum_eq_zero fun i hi => by
  have := Finset.mem_range.mp hi
  rw [Nums.tk, Nums.tk, r.dS_zero (by omega), r.dS_zero (by omega), zero_mul, zero_mul, add_zero]

/-- A sum over all the keys stops at the tile's prefix. -/
theorem sum_prefix {f : ℕ → ℝ} {K : ℕ} (hK : K ≤ 2048) (h : ∀ k, K ≤ k → f k = 0) : ∑ k ∈ Finset.range K, f k = ∑ k ∈ Finset.range 2048, f k :=
  Finset.sum_subset (Finset.range_mono hK) fun k _ hk => h k (by simpa using hk)

/-- The blocks `b` hold the numbers `r`. -/
structure Holds (b : Blocks Ideal) (r : Nums) : Prop where
  q : IsMat r.q b.q
  k : IsMat r.k b.k
  v : IsMat r.v b.v
  d : IsMat r.d b.d
  fc : IsMat r.fc b.fc
  lse : IsMat r.lse b.lse
  fr : ∀ (e : Fin 8) (j : Fin 2048), b.fr (ix4 0 0 e j) = ((r.fr e j : ℝ) : EReal)
  g : b.g = BitVec.ofNat 32 r.n
  n : r.n < 4

theorem IsMat.congr {a b : ℕ} {x y : ℕ → ℕ → ℝ} {X : (S2 a b).Idx → EReal} (h : IsMat x X) (e : ∀ i j, i < a → j < b → x i j = y i j) : IsMat y X :=
  fun i j => (h i j).trans (congrArg _ (e i j i.isLt j.isLt))

section Tile
variable {o K : ℕ} (h : Sides o K) {b : Blocks Ideal} {r : Nums} (hb : Holds b r) {x : ℕ → ℕ → ℝ}

theorem ofs (h : Sides o K) : o ≤ 1792 := by have := h.inbQ 0; change o + 256 ≤ 2048 at this; omega
theorem len (h : Sides o K) : K ≤ 2048 := by have := h.inbK 0; change 0 + K ≤ 2048 at this; omega

theorem rows_apply {e : EltTy} (X : Vec Ideal S2048x128 e) (i : Fin 256) (l : Fin 128) :
    rowsQ h X (ix2 i l) = X (ix2 ⟨o + i, by have := ofs h; have := i.isLt; omega⟩ l) :=
  View.ld_unit_apply_of (Val := Elt Ideal) X _ _ h.inbQ (ix2 i l) _ fun a => match a with
    | 0 => rfl
    | 1 => (Nat.zero_add _).symm

theorem keys_apply {e : EltTy} (X : Vec Ideal S2048x128 e) (i : Fin K) (l : Fin 128) :
    View.ld (Val := Elt Ideal) X (Rect.unit (s := S2048x128) ![0, 0] (S2 K 128).size h.inbK) (ix2 i l) = X (ix2 ⟨i, by have := len h; have := i.isLt; omega⟩ l) :=
  View.ld_unit_apply_of (Val := Elt Ideal) X _ _ h.inbK (ix2 i l) _ fun a => match a with
    | 0 => (Nat.zero_add _).symm
    | 1 => (Nat.zero_add _).symm

theorem isMat_rowsQ {X : Vec Ideal S2048x128 .bf16} (hX : IsMat x X) : IsMat (fun i l => x (o + i) l) (rowsQ h X) :=
  fun i l => (rows_apply h X i l).trans (hX _ _)

theorem isMat_rowsF {X : Vec Ideal S2048x128 .f32} (hX : IsMat x X) : IsMat (fun i l => x (o + i) l) (rowsQ h X) :=
  fun i l => (rows_apply h X i l).trans (hX _ _)

theorem isMat_rowsK {X : Vec Ideal S2048x128 .bf16} (hX : IsMat x X) : IsMat x (rowsK h X) := fun i l => (keys_apply h X i l).trans (hX _ _)

theorem isMat_ldK {X : Vec Ideal S2048x128 .f32} (hX : IsMat x X) :
    IsMat (a := K) (b := 128) x (View.ld (Val := Elt Ideal) X (Rect.unit (s := S2048x128) ![0, 0] (S2 K 128).size h.inbK)) :=
  fun i l => (keys_apply h X i l).trans (hX _ _)

theorem isRow_ld {e : ℕ} (he : e < 8) (inb : ∀ a, (![0, 0, e, 0] : Fin 4 → ℕ) a + (⟨4, ![1, 1, 1, K]⟩ : Shape).size a ≤ S1x1x8x2048.size a)
    {X : Vec Ideal S1x1x8x2048 .f32} {z : ℕ → ℝ} (hX : ∀ j : Fin 2048, X (ix4 0 0 ⟨e, he⟩ j) = ((z j : ℝ) : EReal)) :
    IsRow (K := K) z (View.ld (Val := Elt Ideal) X (Rect.unit (s := S1x1x8x2048) ![0, 0, e, 0] (⟨4, ![1, 1, 1, K]⟩ : Shape).size inb)) := by
  intro j
  have hk : 0 + K ≤ 2048 := inb 3
  have hj := j.isLt
  refine (View.ld_unit_apply_of (Val := Elt Ideal) X _ _ inb (ix4 0 0 0 j) (ix4 0 0 ⟨e, he⟩ ⟨j, by omega⟩) ?_).trans (hX _)
  intro a
  match a with
  | 0 => rfl
  | 1 => rfl
  | 2 => rfl
  | 3 => exact (Nat.zero_add _).symm

theorem lane_eq (hb : Holds b r) (e : ℕ) : b.lane (BitVec.ofNat 32 e) = BitVec.ofNat 32 (r.n * 2 + e) := by
  unfold Blocks.lane
  rw [hb.g]
  simp [Scalar.addi, Scalar.muli, IntOp.addi, IntOp.muli, BitVec.ofNat_add, BitVec.ofNat_mul]

variable {k v : FVec Ideal (S2 K 128) .bf16} (hk : IsMat r.k k) (hv : IsMat r.v v)
include hb hk

theorem isMat_p0 : IsMat (fun i j => r.P 0 (o + i) j) (b.p0 h (BitVec.ofNat 32 o) k) := by
  have hn := hb.n
  unfold Blocks.p0
  rw [show (0#32 : BitVec 32) = BitVec.ofNat 32 0 from rfl, lane_eq hb 0]
  exact isMat_probs h isHead0 (by omega) (len h) (ofs h) (isMat_rowsQ h hb.q) hk (isMat_rowsF h hb.fc) (isMat_rowsF h hb.lse)
    (isRow_ld (by norm_num) h.inbF0 fun j => hb.fr 0 j)

theorem isMat_p1 : IsMat (fun i j => r.P 1 (o + i) j) (b.p1 h (BitVec.ofNat 32 o) k) := by
  have hn := hb.n
  unfold Blocks.p1
  rw [show (1#32 : BitVec 32) = BitVec.ofNat 32 1 from rfl, lane_eq hb 1]
  exact isMat_probs h isHead1 (by omega) (len h) (ofs h) (isMat_rowsQ h hb.q) hk (isMat_rowsF h hb.fc) (isMat_rowsF h hb.lse)
    (isRow_ld (by norm_num) h.inbF1 fun j => hb.fr 1 j)

omit hb hk in
theorem tileS_eq (hK : o + 256 = K) (h : Sides o K) (e i j : ℕ) (hi : i < 256) :
    tileS K (fun i j => r.P e (o + i) j) (fun i j => r.dP e (o + i) j) i j = r.dS e (o + i) j := by
  unfold tileS Nums.dS
  rw [sum_prefix (len h) fun k hk => by show r.P e (o + i) k * _ = 0; rw [r.P_zero (by omega), zero_mul]]

include hv

theorem isMat_ds0 (hK : o + 256 = K) : IsMat (fun i j => r.dS 0 (o + i) j) (b.ds0 h (BitVec.ofNat 32 o) k v) :=
  (isMat_dscore h (isMat_p0 h hb hk) (isMat_grads h isHead0 (isMat_rowsQ h hb.d) hv)).congr fun i j hi _ => tileS_eq hK h 0 i j hi

theorem isMat_ds1 (hK : o + 256 = K) : IsMat (fun i j => r.dS 1 (o + i) j) (b.ds1 h (BitVec.ofNat 32 o) k v) :=
  (isMat_dscore h (isMat_p1 h hb hk) (isMat_grads h isHead1 (isMat_rowsQ h hb.d) hv)).congr fun i j hi _ => tileS_eq hK h 1 i j hi

/-- A tile of the queries' gradient. -/
theorem isMat_dq (hK : o + 256 = K) : IsMat (fun i l => r.dq (o + i) l) (b.dq h (BitVec.ofNat 32 o) k v) := by
  have hz : IsMat (fun _ _ => 0) (broadcast S256x128 (Scalar.ofBits (F := Ideal) .f32 0x00000000#32)) := fun _ _ => zero_f32
  have hs := isMat_setQ h isHead1 (isMat_ds1 h hb hk hv hK) hk (isMat_setQ h isHead0 (isMat_ds0 h hb hk hv hK) hk hz)
  refine IsMat.congr (X := b.dq h (BitVec.ofNat 32 o) k v) hs fun i l hi hl => ?_
  have hp : ∀ e, ∑ j ∈ Finset.range K, r.dS e (o + i) j * r.k j l = ∑ j ∈ Finset.range 2048, r.dS e (o + i) j * r.k j l := fun e =>
    sum_prefix (len h) fun j hj => by rw [r.dS_zero (by omega), zero_mul]
  simp only [hp, Nums.dq]
  have hc : l / 64 = 0 ∨ l / 64 = 1 := by omega
  rcases hc with c | c <;> simp [c]

end Tile

/-! ## Accumulation -/

/-- Every index is written, and the table reads `A`. -/
def Table (A : ℕ → ℕ → ℝ) (L : Pieces Ideal) : Prop := (∀ y, ∃ p ∈ L, y ∈ p.1.set) ∧ IsMat (a := 2048) (b := 128) A (View.canon L)

section Put
variable {o K : ℕ} (h : Sides o K) {A B : ℕ → ℕ → ℝ} {L : Pieces Ideal}

/-- A whole store, read back. -/
theorem table_one {w : FVec Ideal S2048x128 .f32} (hw : IsMat A w) : Table A [⟨Rect.unit (s := S2048x128) ![0, 0] S2048x128.size inb_S2048x128_S2048x128_0_0, w⟩] := by
  refine ⟨fun y => ⟨_, List.mem_singleton.mpr rfl, (Rect.mem_set_unit (inb := inb_S2048x128_S2048x128_0_0)).mpr fun a => ?_⟩, ?_⟩
  · match a with
    | 0 => exact ⟨Nat.zero_le _, by simpa using (y 0).isLt⟩
    | 1 => exact ⟨Nat.zero_le _, by simpa using (y 1).isLt⟩
  · rw [View.canon_cons_unit_lit']
    · exact hw
    · intro a; match a with
      | 0 => rfl
      | 1 => rfl

/-- One accumulation into the first `K` rows. -/
theorem Table.put {sp : Space} (V : View sig .tc sp S2048x128 .f32) {f : FVec Ideal (S2 K 128) .f32 → FVec Ideal (S2 K 128) .f32} (hL : Table A L)
    (hf : ∀ Z, IsMat A Z → IsMat B (f Z)) (hAB : ∀ j l, K ≤ j → A j l = B j l) : Table B (put V h.rectK f L) := by
  have hK := len h
  refine ⟨fun y => ?_, fun j l => ?_⟩
  · obtain ⟨p, hp, hy⟩ := hL.1 y
    exact ⟨p, List.mem_cons_of_mem _ hp, hy⟩
  · have hr : V.readCov L h.rectK.toLoadRect = View.ld (Val := Elt Ideal) (View.canon L) h.rectK := View.readCov_eq_canon_ld V L h.rectK hL.1
    unfold AttnProof.put
    by_cases hj : (j : ℕ) < K
    · have e : (ix2 j l : S2048x128.Idx) = h.rectK.emb (ix2 ⟨j, hj⟩ l) := by
        funext a; apply Fin.ext; match a with
        | 0 => show (j : ℕ) = 0 + 1 * j; omega
        | 1 => show (l : ℕ) = 0 + 1 * l; omega
      rw [e]
      refine (View.canon_cons_emb h.rectK _ L _).trans ?_
      rw [hr]
      exact hf _ (isMat_ldK h hL.2) ⟨j, hj⟩ l
    · rw [View.canon_cons_of_not_mem]
      · exact (hL.2 j l).trans (congrArg _ (hAB j l (by omega)))
      · rw [Rect.mem_set_unit]
        intro hm
        have h0 : (j : ℕ) < 0 + K := (hm 0).2
        omega

end Put

/-! ## The four blocks -/

section Out
variable {b : Blocks Ideal} {r : Nums} (hb : Holds b r)
include hb

/-- The queries' gradient, tile by tile. -/
theorem canon_q : IsMat (a := 2048) (b := 128) r.dq (View.canon b.chainQ) := by
  have p7 := isMat_dq sides7 hb hb.k hb.v rfl
  have p6 := isMat_dq sides6 hb (isMat_rowsK sides6 hb.k) (isMat_rowsK sides6 hb.v) rfl
  have p5 := isMat_dq sides5 hb (isMat_rowsK sides5 hb.k) (isMat_rowsK sides5 hb.v) rfl
  have p4 := isMat_dq sides4 hb (isMat_rowsK sides4 hb.k) (isMat_rowsK sides4 hb.v) rfl
  have p3 := isMat_dq sides3 hb (isMat_rowsK sides3 hb.k) (isMat_rowsK sides3 hb.v) rfl
  have p2 := isMat_dq sides2 hb (isMat_rowsK sides2 hb.k) (isMat_rowsK sides2 hb.v) rfl
  have p1 := isMat_dq sides1 hb (isMat_rowsK sides1 hb.k) (isMat_rowsK sides1 hb.v) rfl
  have p0 := isMat_dq sides0 hb (isMat_rowsK sides0 hb.k) (isMat_rowsK sides0 hb.v) rfl
  intro i l
  have step : ∀ {o K : ℕ} (h : Sides o K) (k v : FVec Ideal (S2 K 128) .bf16) (_ : IsMat (fun i l => r.dq (o + i) l) (b.dq h (BitVec.ofNat 32 o) k v))
      (L : List (View.Piece (Elt Ideal) S2048x128 .bf16)) (_ : (i : ℕ) < o → View.canon L (ix2 i l) = ((r.dq i l : ℝ) : EReal)) (_ : (i : ℕ) < o + 256),
      View.canon (b.pieceQ h (BitVec.ofNat 32 o) k v :: L) (ix2 i l) = ((r.dq i l : ℝ) : EReal) := by
    intro o K h k v hp L hL hi
    by_cases hj : (i : ℕ) < o
    · rw [View.canon_cons_of_not_mem]
      · exact hL hj
      · unfold Blocks.pieceQ
        rw [Rect.mem_set_unit]
        intro hm
        have h0 : o ≤ (i : ℕ) := (hm 0).1
        omega
    · have e : (ix2 i l : S2048x128.Idx) = (Rect.unit (s := S2048x128) ![o, 0] S256x128.size h.inbQ).emb (ix2 ⟨i - o, by omega⟩ l) := by
        funext a; apply Fin.ext; match a with
        | 0 => show (i : ℕ) = o + 1 * (i - o); omega
        | 1 => show (l : ℕ) = 0 + 1 * l; omega
      rw [e]
      refine (View.canon_cons_emb _ _ L _).trans ((hp _ _).trans ?_)
      show ((r.dq (o + (i - o)) l : ℝ) : EReal) = _
      rw [Nat.add_sub_cancel' (by omega)]
  exact step sides7 _ _ p7 _ (fun h7 => step sides6 _ _ p6 _ (fun h6 => step sides5 _ _ p5 _ (fun h5 => step sides4 _ _ p4 _ (fun h4 =>
    step sides3 _ _ p3 _ (fun h3 => step sides2 _ _ p2 _ (fun h2 => step sides1 _ _ p1 _ (fun h1 => step sides0 _ _ p0 _ (fun h0 => absurd h0 (Nat.not_lt_zero _)) h1) h2) h3) h4) h5) h6) h7) i.isLt

variable {o K : ℕ} (h : Sides o K) (hK : o + 256 = K) {k v : FVec Ideal (S2 K 128) .bf16} (hk : IsMat r.k k) (hv : IsMat r.v v)

omit hb in
theorem acc_step (f g : ℕ → ℝ) (hK : o + 256 = K) : (∑ i ∈ Finset.range o, (f i + g i)) + (∑ i ∈ Finset.range 256, f (o + i)) + (∑ i ∈ Finset.range 256, g (o + i))
    = ∑ i ∈ Finset.range K, (f i + g i) := by
  rw [← hK, Finset.sum_range_add, Finset.sum_add_distrib (s := Finset.range 256)]
  ring

include hk in
/-- A tile's share of the values' gradient. -/
theorem step_v {A : ℕ → ℕ → ℝ} (hA : ∀ j l, A j l = r.dv o j l) {Z : FVec Ideal (S2 K 128) .f32} (hZ : IsMat A Z) (hK : o + 256 = K) :
    IsMat (r.dv K) (b.dv1 h (BitVec.ofNat 32 o) k (b.dv0 h (BitVec.ofNat 32 o) k Z)) := by
  have h1 := isMat_addK h (isMat_p1 h hb hk) (isMat_head isHead1 (isMat_rowsQ h hb.d)) (isMat_addK h (isMat_p0 h hb hk) (isMat_head isHead0 (isMat_rowsQ h hb.d)) hZ)
  refine IsMat.congr (X := b.dv1 h (BitVec.ofNat 32 o) k (b.dv0 h (BitVec.ofNat 32 o) k Z)) h1 fun j l _ _ => ?_
  rw [hA]
  exact acc_step (r.tv 0 j l) (r.tv 1 j l) hK

include hk hv in
/-- A tile's share of the keys' gradient. -/
theorem step_k {A : ℕ → ℕ → ℝ} (hA : ∀ j l, A j l = r.dk o j l) {Z : FVec Ideal (S2 K 128) .f32} (hZ : IsMat A Z) (hK : o + 256 = K) :
    IsMat (r.dk K) (b.dk1 h (BitVec.ofNat 32 o) k v (b.dk0 h (BitVec.ofNat 32 o) k v Z)) := by
  have h1 := isMat_addK h (isMat_ds1 h hb hk hv hK) (isMat_headQ isHead1 (isMat_rowsQ h hb.q))
    (isMat_addK h (isMat_ds0 h hb hk hv hK) (isMat_headQ isHead0 (isMat_rowsQ h hb.q)) hZ)
  refine IsMat.congr (X := b.dk1 h (BitVec.ofNat 32 o) k v (b.dk0 h (BitVec.ofNat 32 o) k v Z)) h1 fun j l _ _ => ?_
  rw [hA]
  exact acc_step (r.tk 0 j l) (r.tk 1 j l) hK

/-- A tile's two accumulations into the values' gradient. -/
theorem tile_v {L : Pieces Ideal} (hL : Table (r.dv o) L) (hK : o + 256 = K) : Table (r.dv K) (b.tileV h (BitVec.ofNat 32 o) L) := by
  have hk := isMat_rowsK h hb.k
  have e0 : ∀ j l, K ≤ j → r.dv o j l = r.dv o j l + ∑ i ∈ Finset.range 256, r.P 0 (o + i) j * msk 0 r.d (o + i) l := fun j l hj => by
    rw [Finset.sum_eq_zero fun i hi => by rw [r.P_zero (by have := Finset.mem_range.mp hi; omega), zero_mul], add_zero]
  refine Table.put h _ (A := fun j l => r.dv o j l + ∑ i ∈ Finset.range 256, r.P 0 (o + i) j * msk 0 r.d (o + i) l)
    (Table.put h _ hL (fun Z hZ => isMat_addK h (isMat_p0 h hb hk) (isMat_head isHead0 (isMat_rowsQ h hb.d)) hZ) e0) (fun Z hZ => ?_) fun j l hj => ?_
  · have h1 := isMat_addK h (isMat_p1 h hb hk) (isMat_head isHead1 (isMat_rowsQ h hb.d)) hZ
    exact IsMat.congr (X := b.dv1 h (BitVec.ofNat 32 o) (rowsK h b.k) Z) h1 fun j l _ _ => acc_step (r.tv 0 j l) (r.tv 1 j l) hK
  · rw [← e0 j l hj]
    rw [r.dv_zero (by omega), r.dv_zero hj]

/-- A tile's two accumulations into the keys' gradient. -/
theorem tile_k {L : Pieces Ideal} (hL : Table (r.dk o) L) (hK : o + 256 = K) : Table (r.dk K) (b.tileK h (BitVec.ofNat 32 o) L) := by
  have hk := isMat_rowsK h hb.k
  have hv := isMat_rowsK h hb.v
  have e0 : ∀ j l, K ≤ j → r.dk o j l = r.dk o j l + ∑ i ∈ Finset.range 256, r.dS 0 (o + i) j * (msk 0 r.q (o + i) l * (1 / 8)) := fun j l hj => by
    rw [Finset.sum_eq_zero fun i hi => by rw [r.dS_zero (by have := Finset.mem_range.mp hi; omega), zero_mul], add_zero]
  refine Table.put h _ (A := fun j l => r.dk o j l + ∑ i ∈ Finset.range 256, r.dS 0 (o + i) j * (msk 0 r.q (o + i) l * (1 / 8)))
    (Table.put h _ hL (fun Z hZ => isMat_addK h (isMat_ds0 h hb hk hv hK) (isMat_headQ isHead0 (isMat_rowsQ h hb.q)) hZ) e0) (fun Z hZ => ?_) fun j l hj => ?_
  · have h1 := isMat_addK h (isMat_ds1 h hb hk hv hK) (isMat_headQ isHead1 (isMat_rowsQ h hb.q)) hZ
    exact IsMat.congr (X := b.dk1 h (BitVec.ofNat 32 o) (rowsK h b.k) (rowsK h b.v) Z) h1 fun j l _ _ => acc_step (r.tk 0 j l) (r.tk 1 j l) hK
  · rw [← e0 j l hj]
    rw [r.dk_zero (by omega), r.dk_zero hj]

/-- The values' gradient before the last tile, and the keys'. -/
theorem chain_v : Table (r.dv 1792) b.chainV :=
  tile_v hb sides6 (tile_v hb sides5 (tile_v hb sides4 (tile_v hb sides3 (tile_v hb sides2 (tile_v hb sides1 (tile_v hb sides0
    (table_one (w := k0_pay3) fun i j => by show Ideal.ofBits .f32 0x00000000#32 = _; rw [zero_f32]; simp [Nums.dv]) rfl) rfl) rfl) rfl) rfl) rfl) rfl

theorem chain_k : Table (r.dk 1792) b.chainK :=
  tile_k hb sides6 (tile_k hb sides5 (tile_k hb sides4 (tile_k hb sides3 (tile_k hb sides2 (tile_k hb sides1 (tile_k hb sides0
    (table_one (w := k0_pay2) fun i j => by show Ideal.ofBits .f32 0x00000000#32 = _; rw [zero_f32]; simp [Nums.dk]) rfl) rfl) rfl) rfl) rfl) rfl) rfl

/-! The column sums. -/

/-- Every index is written, and the two rows read `A`; the six others are zero. -/
def Rows (A : ℕ → ℕ → ℝ) (L : PiecesF Ideal) : Prop :=
  (∀ y, ∃ p ∈ L, y ∈ p.1.set) ∧ ∀ (e : Fin 8) (j : Fin 2048), View.canon L (ix4 0 0 e j) = ((A e j : ℝ) : EReal)

omit hb in
/-- One accumulation into the first `K` columns of row `e`. -/
theorem Rows.put {A B : ℕ → ℕ → ℝ} {L : PiecesF Ideal} {sp : Space} (V : View sig .tc sp S1x1x8x2048 .f32) {n : ℕ} (hn : n < 8)
    (inb : ∀ a, (![0, 0, n, 0] : Fin 4 → ℕ) a + (⟨4, ![1, 1, 1, K]⟩ : Shape).size a ≤ S1x1x8x2048.size a)
    {f : FVec Ideal ⟨4, ![1, 1, 1, K]⟩ .f32 → FVec Ideal ⟨4, ![1, 1, 1, K]⟩ .f32} (hL : Rows A L)
    (hf : ∀ Z, IsRow (A n) Z → IsRow (B n) (f Z)) (hAB : ∀ e j, e ≠ n ∨ K ≤ j → A e j = B e j) :
    Rows B (AttnProof.put V (Rect.unit (s := S1x1x8x2048) ![0, 0, n, 0] (⟨4, ![1, 1, 1, K]⟩ : Shape).size inb) f L) := by
  have hK : 0 + K ≤ 2048 := inb 3
  refine ⟨fun y => ?_, fun e j => ?_⟩
  · obtain ⟨p, hp, hy⟩ := hL.1 y
    exact ⟨p, List.mem_cons_of_mem _ hp, hy⟩
  · have hr : V.readCov L (Rect.unit (s := S1x1x8x2048) ![0, 0, n, 0] (⟨4, ![1, 1, 1, K]⟩ : Shape).size inb).toLoadRect
      = View.ld (Val := Elt Ideal) (View.canon L) (Rect.unit (s := S1x1x8x2048) ![0, 0, n, 0] (⟨4, ![1, 1, 1, K]⟩ : Shape).size inb) :=
      View.readCov_eq_canon_ld V L _ hL.1
    unfold AttnProof.put
    by_cases hj : (e : ℕ) = n ∧ (j : ℕ) < K
    · obtain ⟨h1, h2⟩ := hj
      have e1 : (ix4 0 0 e j : S1x1x8x2048.Idx) = (Rect.unit (s := S1x1x8x2048) ![0, 0, n, 0] (⟨4, ![1, 1, 1, K]⟩ : Shape).size inb).emb (ix4 0 0 0 ⟨j, h2⟩) := by
        funext a; apply Fin.ext; match a with
        | 0 => rfl
        | 1 => rfl
        | 2 => show (e : ℕ) = n + 1 * 0; omega
        | 3 => show (j : ℕ) = 0 + 1 * j; omega
      rw [e1]
      refine (View.canon_cons_emb _ _ L _).trans ?_
      rw [hr, h1]
      exact hf _ (isRow_ld hn inb fun j => hL.2 ⟨n, hn⟩ j) ⟨j, h2⟩
    · rw [View.canon_cons_of_not_mem]
      · exact (hL.2 e j).trans (congrArg _ (hAB e j (by omega)))
      · rw [Rect.mem_set_unit]
        intro hm
        have h0 : n ≤ (e : ℕ) ∧ (e : ℕ) < n + 1 := hm 2
        have h3 : (j : ℕ) < 0 + K := (hm 3).2
        omega

omit hb in
theorem df_zero (r : Nums) {n e j : ℕ} (h : n ≤ j) : r.df n e j = 0 := by
  unfold Nums.df
  rw [Finset.sum_eq_zero fun i hi => r.dS_zero (by have := Finset.mem_range.mp hi; omega), neg_zero, ite_self]

include hk hv in
/-- A tile's two accumulations into the column sums. -/
theorem tile_f {sp : Space} (V : View sig .tc sp S1x1x8x2048 .f32) {L : PiecesF Ideal} (hL : Rows (r.df o) L) (hK : o + 256 = K) :
    Rows (r.df K) (b.tileF h (BitVec.ofNat 32 o) V k v L) := by
  have hs : ∀ e j, -∑ i ∈ Finset.range o, r.dS e i j - ∑ i ∈ Finset.range 256, r.dS e (o + i) j = -∑ i ∈ Finset.range K, r.dS e i j := fun e j => by
    rw [← hK, Finset.sum_range_add]; ring
  refine Rows.put (A := fun e j => if e = 0 then r.df K 0 j else r.df o e j) V (n := 1) (by norm_num) h.inbF1
    (Rows.put V (n := 0) (by norm_num) h.inbF0 hL (fun Z hZ => ?_) fun e j hej => ?_) (fun Z hZ => ?_) fun e j hej => ?_
  · have h0 := isRow_subF h (isMat_ds0 h hb hk hv hK) hZ
    exact fun j => (h0 j).trans (congrArg _ (hs 0 j))
  · by_cases he : e = 0
    · subst he
      rw [if_pos rfl, df_zero r (by omega), df_zero r (by omega)]
    · rw [if_neg he]
  · have h1 := isRow_subF h (isMat_ds1 h hb hk hv hK) hZ
    exact fun j => (h1 j).trans (congrArg _ (hs 1 j))
  · by_cases he : e = 0
    · subst he; rw [if_pos rfl]
    · rw [if_neg he]
      by_cases h1 : e = 1
      · rw [df_zero r (by omega), df_zero r (by omega)]
      · unfold Nums.df; rw [if_neg (by omega), if_neg (by omega)]

omit hb in
/-- The zero store, read back. -/
theorem rows_one : Rows (r.df 0) [⟨Rect.unit (s := S1x1x8x2048) ![0, 0, 0, 0] S1x1x8x2048.size inb_S1x1x8x2048_S1x1x8x2048_0_0_0_0, k0_pay4 (F := Ideal)⟩] := by
  refine ⟨fun y => ⟨_, List.mem_singleton.mpr rfl, (Rect.mem_set_unit (inb := inb_S1x1x8x2048_S1x1x8x2048_0_0_0_0)).mpr fun a => ?_⟩, fun e j => ?_⟩
  · match a with
    | 0 => exact ⟨Nat.zero_le _, by simpa using (y 0).isLt⟩
    | 1 => exact ⟨Nat.zero_le _, by simpa using (y 1).isLt⟩
    | 2 => exact ⟨Nat.zero_le _, by simpa using (y 2).isLt⟩
    | 3 => exact ⟨Nat.zero_le _, by simpa using (y 3).isLt⟩
  · rw [View.canon_cons_unit_lit', df_zero r (Nat.zero_le _)]
    · exact zero_f32
    · intro a; match a with
      | 0 => rfl
      | 1 => rfl
      | 2 => rfl
      | 3 => rfl

/-- The column sums after the last tile. -/
theorem chain_f {sp : Space} (V : View sig .tc sp S1x1x8x2048 .f32) : Rows (r.df 2048) (b.chainF V) :=
  tile_f hb sides7 hb.k hb.v V (tile_f hb sides6 (isMat_rowsK sides6 hb.k) (isMat_rowsK sides6 hb.v) V (tile_f hb sides5 (isMat_rowsK sides5 hb.k) (isMat_rowsK sides5 hb.v) V
  (tile_f hb sides4 (isMat_rowsK sides4 hb.k) (isMat_rowsK sides4 hb.v) V (tile_f hb sides3 (isMat_rowsK sides3 hb.k) (isMat_rowsK sides3 hb.v) V
  (tile_f hb sides2 (isMat_rowsK sides2 hb.k) (isMat_rowsK sides2 hb.v) V (tile_f hb sides1 (isMat_rowsK sides1 hb.k) (isMat_rowsK sides1 hb.v) V
  (tile_f hb sides0 (isMat_rowsK sides0 hb.k) (isMat_rowsK sides0 hb.v) V rows_one rfl) rfl) rfl) rfl) rfl) rfl) rfl) rfl

end Out

/-! ## At a grid point -/

section At
variable (m : (ℓ : Loc nD τ sig) → Buf (Elt Ideal) ℓ) (c : Dev nD) (t : Fin cfg0.N) {r : Nums} (hb : Holds (blks m c t) r)
include hb

theorem at_q : IsMat (a := 2048) (b := 128) r.dq (outsAt0 m c t).1 := by
  rw [out_q m c t]; exact canon_q hb

theorem at_k : IsMat (a := 2048) (b := 128) (r.dk 2048) (outsAt0 m c t).2.1 := by
  rw [out_k m c t _ rfl]
  have hT := chain_k hb
  have hr := View.readCov_eq_canon_ld (View.whole cc0_scratch0) _ sides7.rectK hT.1
  refine step_k (b := blks m c t) hb sides7 hb.k hb.v (A := r.dk 1792) (fun _ _ => rfl) ?_ rfl
  rw [hr]
  exact isMat_ldK sides7 hT.2

theorem at_v : IsMat (a := 2048) (b := 128) (r.dv 2048) (outsAt0 m c t).2.2.1 := by
  rw [out_v m c t _ rfl]
  have hT := chain_v hb
  have hr := View.readCov_eq_canon_ld (View.whole cc0_scratch1) _ sides7.rectK hT.1
  refine step_v (b := blks m c t) hb sides7 hb.k (A := r.dv 1792) (fun _ _ => rfl) ?_ rfl
  rw [hr]
  exact isMat_ldK sides7 hT.2

theorem at_f (e : Fin 8) (j : Fin 2048) : ((outsAt0 m c t).2.2.2 : FVec Ideal S1x1x8x2048 .f32) (ix4 0 0 e j) = ((r.df 2048 e j : ℝ) : EReal) := by
  rw [out_f m c t]; exact (chain_f hb _).2 e j

end At

end Cert.AttnProof

end
-- ==== Proof.Attn.Score.lean ====
/- The scores, their row maximum and the log-sum-exp over the reals: the numbers that both programs read. -/
module

public import proofs.«01_k».proof.Proof.Gen.AttnRefIdeal.Read
public import proofs.«01_k».proof.Proof.Attn.Point

@[expose] public section

set_option maxRecDepth 16384

noncomputable section

namespace Cert.AttnProof

open Cert.AttnRefIdeal Cert.AttnRefIdeal.Gen Cert.AttnRefIdeal.Read Idealize.ShloMosaic Idealize.ShloMosaic.TcCoe
open Cert.Reals (AllReal rd3 rd3_eq rd3_at rd3_out)

variable (x0 : FVec Ideal S4x2048x5128 .f32) (x1 : FVec Ideal S4x2048x8 .f32) (x2 : FVec Ideal S4x2048x512 .f32)

/-- The cumulative gates. -/
def gates : S4x2048x8.Idx → EReal := val_main_v0 (F := Ideal) x1

/-- The score of row `i` and key `j`, before the mask. -/
def score (b h i j : ℕ) : ℝ :=
  (∑ d ∈ Finset.range 64, rd3 x0 b i (1536 + 64 * h + d) * (1 / 8) * rd3 x0 b j (2048 + 64 * h + d)) + rd3 (gates x1) b i h - rd3 (gates x1) b j h

/-- The row's maximum. -/
def top (b h i : ℕ) : ℝ := rd3 (a := 4) (b := 8) (c := 2048) (val_main_v27 (F := Ideal) x0 x1) b h i

/-- The exponential of a masked score below the row's maximum. -/
def expo (b h i j : ℕ) : ℝ := if j ≤ i then Real.exp (score x0 x1 b h i j - top x0 x1 b h i) else 0

/-- The row's sum of exponentials. -/
def total (b h i : ℕ) : ℝ := ∑ j ∈ Finset.range 2048, expo x0 x1 b h i j

/-- The row's log-sum-exp; zero past the eight heads. -/
def logsum (b i h : ℕ) : ℝ := if h < 8 then top x0 x1 b h i + Real.log (total x0 x1 b h i) else 0

/-- The numbers that the pair `n` of heads of sequence `b` has. -/
def numsOf (b n : ℕ) : Nums where
  q i l := rd3 x0 b i (1536 + 128 * n + l)
  k i l := rd3 x0 b i (2048 + 128 * n + l)
  v i l := rd3 x0 b i (2560 + 128 * n + l)
  d i l := rd3 x2 b i (128 * n + l)
  fc i h := rd3 (gates x1) b i h
  fr e j := if e < 2 then rd3 (gates x1) b j (2 * n + e) else 0
  lse i h := logsum x0 x1 b i h
  n := n

variable {x0 x1 x2} (h0 : AllReal x0) (h1 : AllReal x1) (h2 : AllReal x2)

theorem zero_const : Ideal.ofBits .f32 0x00000000#32 = (0 : EReal) := by simp [Ideal.ofBits, Ideal.ieee]
theorem one_const : Ideal.ofBits .f32 0x3F800000#32 = ((1 : ℝ) : EReal) := by
  simp [Ideal.ofBits, Ideal.ieee]
  rw [← EReal.coe_one, ← EReal.coe_mul]
  norm_num
theorem bot_const : Ideal.ofBits .f32 0xFF800000#32 = (⊥ : EReal) := by simp [Ideal.ofBits, Ideal.ieee]

include h1 in
/-- The cumulative gates are real. -/
theorem gates_real : AllReal (gates x1) := by
  intro i
  have z : val_main_call0_call0_v0 (F := Ideal) (Shape.Idx.first Gen.h_S_) = (0 : EReal) := by
    rw [val_main_call0_call0_v0_apply, val_main_call0_call0_cst_apply]; exact zero_const
  have w : gates x1 i = Ideal.hostReduceWindowAdd ![1, 2048, 1] ![1, 1, 1] ![0, 2047, 0] ![0, 0, 0]
      Gen.reduceWindows_S4x2048x8_S4x2048x8_w1s1p0_0_w2048s1p2047_0_w1s1p0_0 x1 (val_main_call0_call0_v0 (F := Ideal) (Shape.Idx.first Gen.h_S_)) i := by
    unfold gates val_main_v0 Host.reduceWindowAdd
    generalize (val_main_call0_call0_v0 (F := Ideal) (Shape.Idx.first Gen.h_S_)) = z
    rfl
  rw [w, z, Cert.Reals.reduceWindow_zero]
  refine Cert.Reals.real_sum _ _ fun k _ => ?_
  split
  · exact h1 _
  · rw [EReal.toReal_zero, EReal.coe_zero]

/-- The split of the 512 columns into heads. -/
theorem split_idx (b : Fin 4) (h : Fin 8) (i : Fin 2048) (d : Fin 64) :
    idx_main_v7 (idx_main_v8 (ix4 b h i d)) = ix3 b i ⟨64 * h + d, by have := h.isLt; have := d.isLt; omega⟩ := by
  have := b.isLt; have := h.isLt; have := i.isLt; have := d.isLt
  funext a
  apply Fin.ext
  match a with
  | ⟨0, _⟩ => show ((((b : ℕ) * 2048 + i) * 8 + h) * 64 + d) / 1048576 = b; omega
  | ⟨1, _⟩ => show ((((b : ℕ) * 2048 + i) * 8 + h) * 64 + d) / 512 % 2048 = i; omega
  | ⟨2, _⟩ => show ((((b : ℕ) * 2048 + i) * 8 + h) * 64 + d) % 512 = 64 * h + d; omega

/-- The queries, keys and values of a head, and the gradient of its output. -/
theorem ref_q (h0 : AllReal x0) (b : Fin 4) (h : Fin 8) (i : Fin 2048) (d : Fin 64) :
    val_main_v8 (F := Ideal) x0 (ix4 b h i d) = ((rd3 x0 b i (1536 + 64 * h + d) : ℝ) : EReal) := by
  have e : val_main_v8 (F := Ideal) x0 (ix4 b h i d) = x0 (idx_main_v2 (idx_main_v7 (idx_main_v8 (ix4 b h i d)))) := by
    rw [val_main_v8_apply, val_main_v7_apply, val_main_v2_apply]
  rw [e, split_idx]
  exact rd3_at h0 _ _ _ _ rfl rfl (Nat.add_assoc _ _ _).symm

theorem ref_k (h0 : AllReal x0) (b : Fin 4) (h : Fin 8) (i : Fin 2048) (d : Fin 64) :
    val_main_v10 (F := Ideal) x0 (ix4 b h i d) = ((rd3 x0 b i (2048 + 64 * h + d) : ℝ) : EReal) := by
  have e : val_main_v10 (F := Ideal) x0 (ix4 b h i d) = x0 (idx_main_v3 (idx_main_v7 (idx_main_v8 (ix4 b h i d)))) := by
    rw [val_main_v10_apply, val_main_v9_apply, val_main_v3_apply]
  rw [e, split_idx]
  exact rd3_at h0 _ _ _ _ rfl rfl (Nat.add_assoc _ _ _).symm

theorem ref_v (h0 : AllReal x0) (b : Fin 4) (h : Fin 8) (i : Fin 2048) (d : Fin 64) :
    val_main_v6 (F := Ideal) x0 (ix4 b h i d) = ((rd3 x0 b i (2560 + 64 * h + d) : ℝ) : EReal) := by
  have e : val_main_v6 (F := Ideal) x0 (ix4 b h i d) = x0 (idx_main_v4 (idx_main_v7 (idx_main_v8 (ix4 b h i d)))) := by
    rw [val_main_v6_apply, val_main_v5_apply, val_main_v4_apply]
  rw [e, split_idx]
  exact rd3_at h0 _ _ _ _ rfl rfl (Nat.add_assoc _ _ _).symm

theorem ref_do (h2 : AllReal x2) (b : Fin 4) (h : Fin 8) (i : Fin 2048) (d : Fin 64) :
    val_main_v59 (F := Ideal) x2 (ix4 b h i d) = ((rd3 x2 b i (64 * h + d) : ℝ) : EReal) := by
  have e : val_main_v59 (F := Ideal) x2 (ix4 b h i d) = x2 (idx_main_v7 (idx_main_v8 (ix4 b h i d))) := by
    rw [val_main_v59_apply, val_main_v58_apply]
  rw [e, split_idx]
  exact rd3_at h2 _ _ _ _ rfl rfl rfl

/-- The scaled queries. -/
theorem ref_qs (h0 : AllReal x0) (b : Fin 4) (h : Fin 8) (i : Fin 2048) (d : Fin 64) :
    val_main_v12 (F := Ideal) x0 (ix4 b h i d) = ((rd3 x0 b i (1536 + 64 * h + d) * (1 / 8) : ℝ) : EReal) := by
  have e : val_main_v12 (F := Ideal) x0 (ix4 b h i d) = val_main_v8 (F := Ideal) x0 (ix4 b h i d) * Ideal.ofBits .f32 0x3E000000#32 := by
    pointwise [val_main_v12, val_main_v11, val_main_cst]
  rw [e, ref_q h0, eighth_f32, ← EReal.coe_mul]

/-- A sum of products of reals over a head's lanes or over the keys. -/
theorem coe_dot {N : ℕ} (f g : Fin N → EReal) (x y : ℕ → ℝ) (hf : ∀ k, f k = ((x k : ℝ) : EReal)) (hg : ∀ k, g k = ((y k : ℝ) : EReal)) :
    ∑ k, f k * g k = ((∑ k ∈ Finset.range N, x k * y k : ℝ) : EReal) := by
  rw [Cert.Reals.coe_sum, ← Fin.sum_univ_eq_sum_range (fun k => ((x k * y k : ℝ) : EReal)) N]
  exact Finset.sum_congr rfl fun k _ => by rw [hf, hg, EReal.coe_mul]

theorem coe_tot {N : ℕ} (f : Fin N → EReal) (x : ℕ → ℝ) (hf : ∀ k, f k = ((x k : ℝ) : EReal)) :
    ∑ k, f k = ((∑ k ∈ Finset.range N, x k : ℝ) : EReal) := by
  rw [Cert.Reals.coe_sum, ← Fin.sum_univ_eq_sum_range (fun k => ((x k : ℝ) : EReal)) N]
  exact Finset.sum_congr rfl fun k _ => hf k

/-- The scores. -/
theorem ref_score (h0 : AllReal x0) (h1 : AllReal x1) (b : Fin 4) (h : Fin 8) (i j : Fin 2048) :
    val_main_v19 (F := Ideal) x0 x1 (ix4 b h i j) = ((score x0 x1 b h i j : ℝ) : EReal) := by
  have e : val_main_v19 (F := Ideal) x0 x1 (ix4 b h i j)
      = val_main_v13 (F := Ideal) x0 (ix4 b h i j) + gates x1 (ix3 b i h) - gates x1 (ix3 b j h) := by
    unfold gates
    pointwise [val_main_v19, val_main_v18, val_main_v17, val_main_v16, val_main_v15, val_main_v14, val_main_v1]
  have d : val_main_v13 (F := Ideal) x0 (ix4 b h i j)
      = ((∑ d ∈ Finset.range 64, rd3 x0 b i (1536 + 64 * h + d) * (1 / 8) * rd3 x0 b j (2048 + 64 * h + d) : ℝ) : EReal) := by
    rw [val_main_v13_apply]
    exact coe_dot _ _ (fun d => rd3 x0 b i (1536 + 64 * h + d) * (1 / 8)) (fun d => rd3 x0 b j (2048 + 64 * h + d))
      (fun k => ref_qs h0 b h i k) (fun k => ref_k h0 b h j k)
  rw [e, d, rd3_eq (gates_real h1), rd3_eq (gates_real h1), ← EReal.coe_add, ← EReal.coe_sub]
  rfl

/-- Whether a key lies at or before the row, as the programs compare it. -/
theorem cmp_le (i j : Fin 2048) : IntOp.cmpi .sle (BitVec.ofNat 32 (j : ℕ)) (BitVec.ofNat 32 (i : ℕ)) = if (j : ℕ) ≤ i then 1#1 else 0#1 := by
  have hi := i.isLt; have hj := j.isLt
  have e : (BitVec.ofNat 32 (j : ℕ)).sle (BitVec.ofNat 32 (i : ℕ)) = decide ((j : ℕ) ≤ i) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr Int.ofNat_le
  unfold IntOp.cmpi
  by_cases h : (j : ℕ) ≤ i <;> simp [h, e]

/-- The masked scores. -/
theorem ref_masked (h0 : AllReal x0) (h1 : AllReal x1) (b : Fin 4) (h : Fin 8) (i j : Fin 2048) :
    val_main_v26_0 (F := Ideal) x0 x1 (ix4 b h i j) = if (j : ℕ) ≤ i then ((score x0 x1 b h i j : ℝ) : EReal) else ⊥ := by
  have e : val_main_v26_0 (F := Ideal) x0 x1 (ix4 b h i j)
      = if IntOp.cmpi .sle (BitVec.ofNat 32 (j : ℕ)) (BitVec.ofNat 32 (i : ℕ)) = 1#1 then val_main_v19 (F := Ideal) x0 x1 (ix4 b h i j) else Ideal.ofBits .f32 0xFF800000#32 := by
    pointwise [val_main_v26_0, val_main_v26_1, val_main_v25, val_main_v24, val_main_v23, val_main_v22, val_main_v21, val_main_v20, val_main_call1_v2, val_main_call1_v0, val_main_cst_0]
    rfl
  rw [e, cmp_le, ref_score h0 h1, bot_const]
  by_cases hj : (j : ℕ) ≤ i
  · rw [if_pos hj, if_pos rfl, if_pos hj]
  · rw [if_neg hj, if_neg hj, if_neg (by decide)]

/-- The rows' maxima are real. -/
theorem top_real (h0 : AllReal x0) (h1 : AllReal x1) : AllReal (val_main_v27 (F := Ideal) x0 x1) := by
  intro y
  obtain ⟨b, h, i, rfl⟩ : ∃ (b : Fin 4) (h : Fin 8) (i : Fin 2048), y = ix3 b h i := ⟨y 0, y 1, y 2, funext fun a => match a with | 0 => rfl | 1 => rfl | 2 => rfl⟩
  have e : val_main_v27 (F := Ideal) x0 x1 (ix3 b h i) = (Finset.univ : Finset (Fin 2048)).fold max ⊥ fun j => val_main_v26_0 (F := Ideal) x0 x1 (ix4 b h i j) := by
    unfold val_main_v27
    rw [Host.reduce_eq_fold_single FloatOps.maximumf _ _ reducesTo_S4x8x2048x2048_S4x8x2048_d3 (by decide) h_S_]
    generalize val_main_v26_0 (F := Ideal) x0 x1 = z
    rw [show val_main_cst_1 (F := Ideal) (Shape.Idx.first h_S_) = (⊥ : EReal) from bot_const]
    refine congrArg (fun f => Finset.fold max (⊥ : EReal) f (Finset.univ : Finset (Fin 2048))) (funext fun j => ?_)
    exact congrArg z (funext fun a => Fin.ext (by match a with | ⟨0, _⟩ => rfl | ⟨1, _⟩ => rfl | ⟨2, _⟩ => rfl | ⟨3, _⟩ => rfl))
  rw [e]
  refine Cert.Reals.fold_max_real _ _ (fun j _ => ?_) i (Finset.mem_univ _) ?_
  · rw [ref_masked h0 h1]; split
    · exact EReal.coe_ne_top _
    · exact bot_ne_top
  · rw [ref_masked h0 h1, if_pos le_rfl]; exact EReal.coe_ne_bot _

theorem ref_top (h0 : AllReal x0) (h1 : AllReal x1) (b : Fin 4) (h : Fin 8) (i : Fin 2048) :
    val_main_v27 (F := Ideal) x0 x1 (ix3 b h i) = ((top x0 x1 b h i : ℝ) : EReal) := rd3_eq (top_real h0 h1) b h i

/-- The exponentials. -/
theorem exp_masked (h0 : AllReal x0) (h1 : AllReal x1) (b : Fin 4) (h : Fin 8) (i j : Fin 2048) :
    Ideal.exp (val_main_v26_0 (F := Ideal) x0 x1 (ix4 b h i j) - val_main_v27 (F := Ideal) x0 x1 (ix3 b h i)) = ((expo x0 x1 b h i j : ℝ) : EReal) := by
  rw [ref_masked h0 h1, ref_top h0 h1]
  unfold expo
  by_cases hj : (j : ℕ) ≤ i
  · rw [if_pos hj, if_pos hj, ← EReal.coe_sub, Ideal.exp_coe]
  · rw [if_neg hj, if_neg hj, EReal.bot_sub, Ideal.exp_bot, EReal.coe_zero]

theorem expo_nonneg (b h i j : ℕ) : 0 ≤ expo x0 x1 b h i j := by
  unfold expo; split
  · exact (Real.exp_pos _).le
  · exact le_rfl

theorem total_pos (b h : ℕ) {i : ℕ} (hi : i < 2048) : 0 < total x0 x1 b h i := by
  refine lt_of_lt_of_le (b := expo x0 x1 b h i i) ?_ (Finset.single_le_sum (f := fun j => expo x0 x1 b h i j) (fun j _ => expo_nonneg b h i j) (Finset.mem_range.mpr hi))
  unfold expo
  rw [if_pos le_rfl]
  exact Real.exp_pos _

end Cert.AttnProof

end
-- ==== Proof.Attn.Blocks.lean ====
/- What the host's lines leave in the kernel's seven operands, and what the kernel reads of them at a grid point. -/
module

public import proofs.«01_k».proof.Proof.Attn.Score
public import Idealize.ShloMosaic.Lib.StableHlo.ReadAt

@[expose] public section

set_option maxRecDepth 16384

noncomputable section

namespace Cert.AttnProof

open Cert.AttnIdeal Cert.AttnIdeal.Gen Idealize.ShloMosaic Idealize.ShloMosaic.TcCoe Idealize.SL.Sem
open Cert.AttnRefIdeal.Read (val_main_v0 val_main_v26_0 val_main_v27)
open Cert.Reals (AllReal rd3 rd3_eq rd3_at rd3_out)

section Host
variable {F : FTy → Type} [FloatOps F] (m : (ℓ : Loc nD τ sig) → Buf (Elt F) ℓ) (c : Dev nD)

abbrev arg0 : FVec F S4x2048x5128 .f32 := m ((c.tc : Thread nD τ).loc main_arg0)
abbrev arg1 : FVec F S4x2048x8 .f32 := m ((c.tc : Thread nD τ).loc main_arg1)
abbrev arg2 : FVec F S4x2048x512 .f32 := m ((c.tc : Thread nD τ).loc main_arg2)

/-- The log-sum-exp as the host computes it. -/
def lseOps (s : FVec F S4x8x2048x2048 .f32) (t : FVec F S4x8x2048 .f32) : FVec F S4x8x2048 .f32 :=
  addf t (Host.log (Host.reduceAdd (Host.exp (subf s (broadcastInDim S4x8x2048x2048 ![0, 1, 2, 3] bcast_S4x8x2048x1_S4x8x2048x2048_0_1_2_3
    (broadcastInDim S4x8x2048x1 ![0, 1, 2] bcast_S4x8x2048_S4x8x2048x1_0_1_2 t)))) (constant S_ .f32 0x00000000#32) reducesTo_S4x8x2048x2048_S4x8x2048_d3 h_S_))

/-- The padding of an array of a row per position and a column per head to the 128 lanes. -/
def padLanes (x : FVec F S8192x8 .f32) : FVec F S8192x128 .f32 :=
  pad S8192x128 ![0, 0] ![0, 120] ![0, 0] x (sitofp .f32 (constantI S_ 32 0#32)) pads_S8192x8_S8192x128_000_01200 h_S_

theorem host_lse : (V m c main_v46 : FVec F S8192x128 .f32)
    = padLanes (shapeCast _ (transpose S4x2048x8 [0, 2, 1] (lseOps (val_main_v26_0 (F := F) (arg0 m c) (arg1 m c)) (val_main_v27 (F := F) (arg0 m c) (arg1 m c))) transposes_S4x8x2048_S4x2048x8_0_2_1) shapeCasts_S4x2048x8_S8192x8) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]

  after_reads_simp
  rfl

theorem host_gates : (V m c main_v7 : FVec F S8192x128 .f32) = padLanes (shapeCast _ (val_main_v0 (F := F) (arg1 m c)) shapeCasts_S4x2048x8_S8192x8) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  rfl

/-- The padding of an array of pairs of rows to eight rows. -/
def padRows (x : FVec F S4x4x2x2048 .f32) : FVec F S4x4x8x2048 .f32 :=
  pad S4x4x8x2048 ![0, 0, 0, 0] ![0, 0, 6, 0] ![0, 0, 0, 0] x (sitofp .f32 (constantI S_ 32 0#32)) pads_S4x4x2x2048_S4x4x8x2048_000_000_060_000 h_S_

theorem host_rows : (V m c main_v11 : FVec F S4x4x8x2048 .f32)
    = padRows (transpose S4x4x2x2048 [0, 2, 3, 1] (shapeCast S4x2048x4x2 (extractStridedSlice S8192x8 ![0, 0]
        (padLanes (shapeCast _ (val_main_v0 (F := F) (arg1 m c)) shapeCasts_S4x2048x8_S8192x8)) slices_S8192x128_S8192x8_0_0) shapeCasts_S8192x8_S4x2048x4x2) transposes_S4x2048x4x2_S4x4x2x2048_0_2_3_1) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  rfl

end Host

variable (m : (ℓ : Loc nD τ sig) → Buf (Elt Ideal) ℓ) (c : Dev nD)

/-- The integer zero, converted, is the real zero. -/
theorem zero_word : FloatOps.sitofp (F := Ideal) FTy.f32 (0#32) = (((0 : ℝ)) : EReal) := by
  show (((0#32 : BitVec 32).toInt : ℝ) : EReal) = _
  norm_num

theorem padLanes_at (x : FVec Ideal S8192x8 .f32) (r : Fin 8192) (l : Fin 128) :
    padLanes x (ix2 r l) = if h : (l : ℕ) < 8 then x (ix2 r ⟨l, h⟩) else ((0 : ℝ) : EReal) := by
  rw [← zero_word]
  pointwise [padLanes]

theorem padRows_at (x : FVec Ideal S4x4x2x2048 .f32) (b n : Fin 4) (e : Fin 8) (j : Fin 2048) :
    padRows x (ix4 b n e j) = if h : (e : ℕ) < 2 then x (ix4 b n ⟨e, h⟩ j) else ((0 : ℝ) : EReal) := by
  rw [← zero_word]
  pointwise [padRows]

theorem lseOps_at (s : FVec Ideal S4x8x2048x2048 .f32) (t : FVec Ideal S4x8x2048 .f32) (b : Fin 4) (h : Fin 8) (i : Fin 2048) :
    lseOps s t (ix3 b h i) = t (ix3 b h i) + Ideal.log (∑ j : Fin 2048, Ideal.exp (s (ix4 b h i j) - t (ix3 b h i))) := by
  have z : Ideal.ofBits .f32 0x00000000#32 = (0 : EReal) := zero_const
  pointwise [lseOps]

/-- The rows of a sequence, one after another. -/
theorem flat_at (x : FVec Ideal S4x2048x8 .f32) (b : Fin 4) (i : Fin 2048) (l : Fin 8) (r : Fin 8192) (hr : (r : ℕ) = 2048 * b + i) :
    (shapeCast S8192x8 x shapeCasts_S4x2048x8_S8192x8 : FVec Ideal S8192x8 .f32) (ix2 r l) = x (ix3 b i l) := by
  have hb := b.isLt; have hi := i.isLt; have hl := l.isLt
  refine shapeCast_apply x _ _ _ ?_
  rw [Shape.rowMajor_val_three, Shape.rowMajor_val_two]
  show ((b : ℕ) * 2048 + i) * 8 + l = (r : ℕ) * 8 + l
  omega

/-! ## The operands at an entry -/

section Host
variable {F : FTy → Type} [FloatOps F] (m : (ℓ : Loc nD τ sig) → Buf (Elt F) ℓ) (c : Dev nD)

/-- The projection without the gates, a row per position. -/
def projRows (x : FVec F S4x2048x5128 .f32) : FVec F S8192x5120 .bf16 :=
  truncf .bf16 (shapeCast _ (concatenate S4x2048x5120 2 [⟨S4x2048x3072, extractStridedSlice S4x2048x3072 ![0, 0, 0] x slices_S4x2048x5128_S4x2048x3072_0_0_0⟩,
    ⟨S4x2048x2048, extractStridedSlice S4x2048x2048 ![0, 0, 3080] x slices_S4x2048x5128_S4x2048x2048_0_0_3080⟩] concatenates_S4x2048x3072_S4x2048x2048_S4x2048x5120_d2) shapeCasts_S4x2048x5120_S8192x5120 : FVec F S8192x5120 .f32) bitsLt_bf16_f32

theorem host_proj : (V m c main_v4 : FVec F S8192x5120 .bf16) = projRows (arg0 m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  rfl

end Host

variable {m}

theorem projRows_at (x : FVec Ideal S4x2048x5128 .f32) (b : Fin 4) (i : Fin 2048) (r : Fin 8192) (hr : (r : ℕ) = 2048 * b + i) (l : Fin 5120) (hl : (l : ℕ) < 3072) :
    (projRows x : FVec Ideal S8192x5120 .bf16) (ix2 r l) = x (ix3 b i ⟨l, by omega⟩) := by
  have hb := b.isLt; have hi := i.isLt
  change (shapeCast S8192x5120 (concatenate S4x2048x5120 2 [⟨S4x2048x3072, extractStridedSlice S4x2048x3072 ![0, 0, 0] x slices_S4x2048x5128_S4x2048x3072_0_0_0⟩,
    ⟨S4x2048x2048, extractStridedSlice S4x2048x2048 ![0, 0, 3080] x slices_S4x2048x5128_S4x2048x2048_0_0_3080⟩] concatenates_S4x2048x3072_S4x2048x2048_S4x2048x5120_d2) shapeCasts_S4x2048x5120_S8192x5120 : FVec Ideal S8192x5120 .f32) (ix2 r l) = _
  refine (shapeCast_apply (s := S4x2048x5120) (t := S8192x5120) _ shapeCasts_S4x2048x5120_S8192x5120 (ix2 r l) (ix3 b i l) ?_).trans ?_
  · rw [Shape.rowMajor_val_three, Shape.rowMajor_val_two]
    show ((b : ℕ) * 2048 + i) * 5120 + l = (r : ℕ) * 5120 + l
    omega
  refine (concatenate_pair_apply_left (s₁ := S4x2048x3072) (s₂ := S4x2048x2048) 2 _ _ _ (ix3 b i l) rfl (show S4x2048x3072.Idx from ix3 b i ⟨l, hl⟩) (fun a => match a with | ⟨0, _⟩ => rfl | ⟨1, _⟩ => rfl | ⟨2, _⟩ => rfl)).trans ?_
  exact extractStridedSlice_apply (s := S4x2048x5128) (t := S4x2048x3072) ![0, 0, 0] x slices_S4x2048x5128_S4x2048x3072_0_0_0 _ (ix3 b i ⟨l, by omega⟩) (fun a => match a with
    | ⟨0, _⟩ => (Nat.zero_add _).symm
    | ⟨1, _⟩ => (Nat.zero_add _).symm
    | ⟨2, _⟩ => (Nat.zero_add _).symm)

/-- The rows of an array of reals. -/
theorem projRows_real {x : FVec Ideal S4x2048x5128 .f32} (h : AllReal x) (r : Fin 8192) (l : Fin 5120) (hl : (l : ℕ) < 3072) :
    (projRows x : FVec Ideal S8192x5120 .bf16) (ix2 r l) = ((rd3 x (r / 2048) (r % 2048) l : ℝ) : EReal) := by
  have hr := r.isLt
  rw [projRows_at _ ⟨r / 2048, by omega⟩ ⟨r % 2048, by omega⟩ r (by show (r : ℕ) = 2048 * (r / 2048) + r % 2048; omega) l hl]
  exact rd3_at h _ _ _ _ rfl rfl rfl

theorem read4 (h0 : AllReal (arg0 m c)) (r : Fin 8192) (l : Fin 5120) (hl : (l : ℕ) < 3072) :
    (V m c main_v4 : FVec Ideal S8192x5120 .bf16) (ix2 r l) = ((rd3 (arg0 m c) (r / 2048) (r % 2048) l : ℝ) : EReal) := by
  rw [host_proj]; exact projRows_real h0 r l hl

theorem read48 (h2 : AllReal (arg2 m c)) (r : Fin 8192) (l : Fin 512) :
    (V m c main_v48 : FVec Ideal S8192x512 .bf16) (ix2 r l) = ((rd3 (arg2 m c) (r / 2048) (r % 2048) l : ℝ) : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  exact rd3_at h2 _ _ _ _ rfl rfl rfl

/-- The cumulative gates, padded to the lanes. -/
theorem gateLanes {x : FVec Ideal S4x2048x8 .f32} (h : AllReal x) (b : Fin 4) (i : Fin 2048) (r : Fin 8192) (hr : (r : ℕ) = 2048 * b + i) (l : Fin 128) :
    (padLanes (shapeCast _ (val_main_v0 (F := Ideal) x) shapeCasts_S4x2048x8_S8192x8) : FVec Ideal S8192x128 .f32) (ix2 r l) = ((rd3 (gates x) b i l : ℝ) : EReal) := by
  rw [padLanes_at]
  by_cases hl : (l : ℕ) < 8
  · rw [dif_pos hl, flat_at _ b i ⟨l, hl⟩ r hr]
    exact rd3_at (gates_real h) _ _ _ _ rfl rfl rfl
  · rw [dif_neg hl, rd3_out _ _ _ _ (by omega)]

theorem read7 (h1 : AllReal (arg1 m c)) (b : Fin 4) (i : Fin 2048) (r : Fin 8192) (hr : (r : ℕ) = 2048 * b + i) (l : Fin 128) :
    (V m c main_v7 : FVec Ideal S8192x128 .f32) (ix2 r l) = ((rd3 (gates (arg1 m c)) b i l : ℝ) : EReal) := by
  rw [host_gates]; exact gateLanes h1 b i r hr l

/-- The cumulative gates of a pair of heads as rows, padded to eight. -/
theorem gateRows {x : FVec Ideal S4x2048x8 .f32} (h : AllReal x) (b n : Fin 4) (e : Fin 8) (j : Fin 2048) :
    (padRows (transpose S4x4x2x2048 [0, 2, 3, 1] (shapeCast S4x2048x4x2 (extractStridedSlice S8192x8 ![0, 0]
        (padLanes (shapeCast _ (val_main_v0 (F := Ideal) x) shapeCasts_S4x2048x8_S8192x8)) slices_S8192x128_S8192x8_0_0) shapeCasts_S8192x8_S4x2048x4x2)
        transposes_S4x2048x4x2_S4x4x2x2048_0_2_3_1) : FVec Ideal S4x4x8x2048 .f32) (ix4 b n e j)
      = (((if (e : ℕ) < 2 then rd3 (gates x) b j (2 * n + e) else 0 : ℝ)) : EReal) := by
  have hb := b.isLt; have hj := j.isLt; have hn := n.isLt
  rw [padRows_at]
  by_cases he : (e : ℕ) < 2
  · rw [dif_pos he, if_pos he]
    refine Eq.trans (b := padLanes (shapeCast _ (gates x) shapeCasts_S4x2048x8_S8192x8) (ix2 ⟨2048 * b + j, by omega⟩ ⟨2 * n + e, by omega⟩)) ?_ ?_
    · refine (transpose_apply [0, 2, 3, 1] _ _ (ix4 b n ⟨e, he⟩ j) (ix4 b j n ⟨e, he⟩) (fun a => match a with | ⟨0, _⟩ => rfl | ⟨1, _⟩ => rfl | ⟨2, _⟩ => rfl | ⟨3, _⟩ => rfl)).trans ?_
      refine (shapeCast_apply _ _ _ (ix2 ⟨2048 * b + j, by omega⟩ ⟨2 * n + e, by omega⟩) ?_).trans ?_
      · rw [Shape.rowMajor_val_four, Shape.rowMajor_val_two]
        show (2048 * (b : ℕ) + j) * 8 + (2 * n + e) = (((b : ℕ) * 2048 + j) * 4 + n) * 2 + e
        omega
      · exact extractStridedSlice_apply ![0, 0] _ _ _ (ix2 ⟨2048 * b + j, by omega⟩ ⟨2 * n + e, by omega⟩) (fun a => match a with
          | ⟨0, _⟩ => (Nat.zero_add _).symm
          | ⟨1, _⟩ => (Nat.zero_add _).symm)
    · exact gateLanes h b j _ rfl ⟨2 * n + e, by omega⟩
  · rw [dif_neg he, if_neg he]

theorem read11 (h1 : AllReal (arg1 m c)) (b n : Fin 4) (e : Fin 8) (j : Fin 2048) :
    (V m c main_v11 : FVec Ideal S4x4x8x2048 .f32) (ix4 b n e j) = (((if (e : ℕ) < 2 then rd3 (gates (arg1 m c)) b j (2 * n + e) else 0 : ℝ)) : EReal) := by
  rw [host_rows]; exact gateRows h1 b n e j

theorem lse_at (h0 : AllReal (arg0 m c)) (h1 : AllReal (arg1 m c)) (b : Fin 4) (h : Fin 8) (i : Fin 2048) :
    (lseOps (val_main_v26_0 (F := Ideal) (arg0 m c) (arg1 m c)) (val_main_v27 (F := Ideal) (arg0 m c) (arg1 m c)) : FVec Ideal S4x8x2048 .f32) (ix3 b h i)
      = ((logsum (arg0 m c) (arg1 m c) b i h : ℝ) : EReal) := by
  have hp := total_pos (x0 := arg0 m c) (x1 := arg1 m c) b h i.isLt
  rw [lseOps_at, coe_tot _ (fun j => expo (arg0 m c) (arg1 m c) b h i j) (fun j => exp_masked h0 h1 b h i j), ref_top h0 h1,
    show ∑ k ∈ Finset.range 2048, expo (arg0 m c) (arg1 m c) b h i k = total (arg0 m c) (arg1 m c) b h i from rfl, Ideal.log_coe,
    if_neg (not_le.mpr hp), ← EReal.coe_add]
  unfold logsum
  rw [if_pos h.isLt]

theorem read46 (h0 : AllReal (arg0 m c)) (h1 : AllReal (arg1 m c)) (b : Fin 4) (i : Fin 2048) (r : Fin 8192) (hr : (r : ℕ) = 2048 * b + i) (l : Fin 128) :
    (V m c main_v46 : FVec Ideal S8192x128 .f32) (ix2 r l) = ((logsum (arg0 m c) (arg1 m c) b i l : ℝ) : EReal) := by
  rw [host_lse, padLanes_at]
  by_cases hl : (l : ℕ) < 8
  · rw [dif_pos hl, flat_at _ b i ⟨l, hl⟩ r hr]
    refine (transpose_apply [0, 2, 1] _ _ (ix3 b i ⟨l, hl⟩) (ix3 b ⟨l, hl⟩ i) (fun a => match a with | ⟨0, _⟩ => rfl | ⟨1, _⟩ => rfl | ⟨2, _⟩ => rfl)).trans ?_
    exact lse_at c h0 h1 b ⟨l, hl⟩ i
  · rw [dif_neg hl]
    unfold logsum
    rw [if_neg hl]

/-! ## The blocks of a grid point -/

theorem coord1 : ∀ t : Fin cfg0.N, ((grid0.coords t) 1 : ℕ) = t.val % 4 := (by decide +kernel : ∀ t : Fin grid0.N, ((grid0.coords t) 1 : ℕ) = t.val % 4)
theorem idx0 : ∀ t : Fin cfg0.N, win0_0.index t = ![t.val / 4, 12 + t.val % 4] := (by decide +kernel : ∀ t : Fin grid0.N, win0_0.index t = ![t.val / 4, 12 + t.val % 4])
theorem idx1 : ∀ t : Fin cfg0.N, win0_1.index t = ![t.val / 4, 16 + t.val % 4] := (by decide +kernel : ∀ t : Fin grid0.N, win0_1.index t = ![t.val / 4, 16 + t.val % 4])
theorem idx2 : ∀ t : Fin cfg0.N, win0_2.index t = ![t.val / 4, 20 + t.val % 4] := (by decide +kernel : ∀ t : Fin grid0.N, win0_2.index t = ![t.val / 4, 20 + t.val % 4])
theorem idx3 : ∀ t : Fin cfg0.N, win0_3.index t = ![t.val / 4, t.val % 4] := (by decide +kernel : ∀ t : Fin grid0.N, win0_3.index t = ![t.val / 4, t.val % 4])
theorem idx4 : ∀ t : Fin cfg0.N, win0_4.index t = ![t.val / 4, 0] := (by decide +kernel : ∀ t : Fin grid0.N, win0_4.index t = ![t.val / 4, 0])
theorem idx5 : ∀ t : Fin cfg0.N, win0_5.index t = ![t.val / 4, t.val % 4, 0, 0] := (by decide +kernel : ∀ t : Fin grid0.N, win0_5.index t = ![t.val / 4, t.val % 4, 0, 0])
theorem idx6 : ∀ t : Fin cfg0.N, win0_6.index t = ![t.val / 4, 0] := (by decide +kernel : ∀ t : Fin grid0.N, win0_6.index t = ![t.val / 4, 0])
theorem idx7 : ∀ t : Fin cfg0.N, win0_7.index t = ![t.val / 4, t.val % 4] := (by decide +kernel : ∀ t : Fin grid0.N, win0_7.index t = ![t.val / 4, t.val % 4])
theorem idx8 : ∀ t : Fin cfg0.N, win0_8.index t = ![t.val / 4, t.val % 4] := (by decide +kernel : ∀ t : Fin grid0.N, win0_8.index t = ![t.val / 4, t.val % 4])
theorem idx9 : ∀ t : Fin cfg0.N, win0_9.index t = ![t.val / 4, t.val % 4] := (by decide +kernel : ∀ t : Fin grid0.N, win0_9.index t = ![t.val / 4, t.val % 4])
theorem idx10 : ∀ t : Fin cfg0.N, win0_10.index t = ![t.val / 4, t.val % 4, 0, 0] := (by decide +kernel : ∀ t : Fin grid0.N, win0_10.index t = ![t.val / 4, t.val % 4, 0, 0])

section Blk
variable (t : Fin cfg0.N)

theorem lt16 : t.val < 16 := t.isLt

/-- The numbers of grid point `t`. -/
abbrev nums : Nums := numsOf (arg0 m c) (arg1 m c) (arg2 m c) (t.val / 4) (t.val % 4)

theorem blk0 (h0 : AllReal (arg0 m c)) : IsMat (nums (m := m) c t).q (iblk m c 0 t) := by
  intro i l
  have ht := lt16 t; have hi := i.isLt; have hl := l.isLt
  refine Eq.trans ?_ ((read4 c h0 ⟨2048 * (t.val / 4) + i, by omega⟩ ⟨128 * (12 + t.val % 4) + l, by omega⟩ (by show 128 * (12 + t.val % 4) + (l : ℕ) < 3072; omega)).trans ?_)
  · blk_simp [iblk]
    blk_ext
    · show win0_0.index t 0 * 2048 + (i : ℕ) = 2048 * (t.val / 4) + i
      rw [show win0_0.index t 0 = t.val / 4 from congrFun (idx0 t) 0]; omega
    · show win0_0.index t 1 * 128 + (l : ℕ) = 128 * (12 + t.val % 4) + l
      rw [show win0_0.index t 1 = 12 + t.val % 4 from congrFun (idx0 t) 1]; omega
  · refine congrArg _ ?_
    show rd3 _ ((2048 * (t.val / 4) + (i : ℕ)) / 2048) ((2048 * (t.val / 4) + (i : ℕ)) % 2048) (128 * (12 + t.val % 4) + (l : ℕ)) = rd3 _ (t.val / 4) i (1536 + 128 * (t.val % 4) + l)
    rw [show (2048 * (t.val / 4) + (i : ℕ)) / 2048 = t.val / 4 by omega, show (2048 * (t.val / 4) + (i : ℕ)) % 2048 = i by omega,
      show 128 * (12 + t.val % 4) + (l : ℕ) = 1536 + 128 * (t.val % 4) + l by omega]

theorem blk1 (h0 : AllReal (arg0 m c)) : IsMat (nums (m := m) c t).k (iblk m c 1 t) := by
  intro i l
  have ht := lt16 t; have hi := i.isLt; have hl := l.isLt
  refine Eq.trans ?_ ((read4 c h0 ⟨2048 * (t.val / 4) + i, by omega⟩ ⟨128 * (16 + t.val % 4) + l, by omega⟩ (by show 128 * (16 + t.val % 4) + (l : ℕ) < 3072; omega)).trans ?_)
  · blk_simp [iblk]
    blk_ext
    · show win0_1.index t 0 * 2048 + (i : ℕ) = 2048 * (t.val / 4) + i
      rw [show win0_1.index t 0 = t.val / 4 from congrFun (idx1 t) 0]; omega
    · show win0_1.index t 1 * 128 + (l : ℕ) = 128 * (16 + t.val % 4) + l
      rw [show win0_1.index t 1 = 16 + t.val % 4 from congrFun (idx1 t) 1]; omega
  · refine congrArg _ ?_
    show rd3 _ ((2048 * (t.val / 4) + (i : ℕ)) / 2048) ((2048 * (t.val / 4) + (i : ℕ)) % 2048) (128 * (16 + t.val % 4) + (l : ℕ)) = rd3 _ (t.val / 4) i (2048 + 128 * (t.val % 4) + l)
    rw [show (2048 * (t.val / 4) + (i : ℕ)) / 2048 = t.val / 4 by omega, show (2048 * (t.val / 4) + (i : ℕ)) % 2048 = i by omega,
      show 128 * (16 + t.val % 4) + (l : ℕ) = 2048 + 128 * (t.val % 4) + l by omega]

theorem blk2 (h0 : AllReal (arg0 m c)) : IsMat (nums (m := m) c t).v (iblk m c 2 t) := by
  intro i l
  have ht := lt16 t; have hi := i.isLt; have hl := l.isLt
  refine Eq.trans ?_ ((read4 c h0 ⟨2048 * (t.val / 4) + i, by omega⟩ ⟨128 * (20 + t.val % 4) + l, by omega⟩ (by show 128 * (20 + t.val % 4) + (l : ℕ) < 3072; omega)).trans ?_)
  · blk_simp [iblk]
    blk_ext
    · show win0_2.index t 0 * 2048 + (i : ℕ) = 2048 * (t.val / 4) + i
      rw [show win0_2.index t 0 = t.val / 4 from congrFun (idx2 t) 0]; omega
    · show win0_2.index t 1 * 128 + (l : ℕ) = 128 * (20 + t.val % 4) + l
      rw [show win0_2.index t 1 = 20 + t.val % 4 from congrFun (idx2 t) 1]; omega
  · refine congrArg _ ?_
    show rd3 _ ((2048 * (t.val / 4) + (i : ℕ)) / 2048) ((2048 * (t.val / 4) + (i : ℕ)) % 2048) (128 * (20 + t.val % 4) + (l : ℕ)) = rd3 _ (t.val / 4) i (2560 + 128 * (t.val % 4) + l)
    rw [show (2048 * (t.val / 4) + (i : ℕ)) / 2048 = t.val / 4 by omega, show (2048 * (t.val / 4) + (i : ℕ)) % 2048 = i by omega,
      show 128 * (20 + t.val % 4) + (l : ℕ) = 2560 + 128 * (t.val % 4) + l by omega]

theorem blk3 (h2 : AllReal (arg2 m c)) : IsMat (nums (m := m) c t).d (iblk m c 3 t) := by
  intro i l
  have ht := lt16 t; have hi := i.isLt; have hl := l.isLt
  refine Eq.trans ?_ ((read48 c h2 ⟨2048 * (t.val / 4) + i, by omega⟩ ⟨128 * (t.val % 4) + l, by omega⟩).trans ?_)
  · blk_simp [iblk]
    blk_ext
    · show win0_3.index t 0 * 2048 + (i : ℕ) = 2048 * (t.val / 4) + i
      rw [show win0_3.index t 0 = t.val / 4 from congrFun (idx3 t) 0]; omega
    · show win0_3.index t 1 * 128 + (l : ℕ) = 128 * (t.val % 4) + l
      rw [show win0_3.index t 1 = t.val % 4 from congrFun (idx3 t) 1]; omega
  · refine congrArg _ ?_
    show rd3 _ ((2048 * (t.val / 4) + (i : ℕ)) / 2048) ((2048 * (t.val / 4) + (i : ℕ)) % 2048) (128 * (t.val % 4) + (l : ℕ)) = rd3 _ (t.val / 4) i (128 * (t.val % 4) + l)
    rw [show (2048 * (t.val / 4) + (i : ℕ)) / 2048 = t.val / 4 by omega, show (2048 * (t.val / 4) + (i : ℕ)) % 2048 = i by omega,
      show 128 * (t.val % 4) + (l : ℕ) = 128 * (t.val % 4) + l by omega]

theorem blk4 (h1 : AllReal (arg1 m c)) : IsMat (nums (m := m) c t).fc (iblk m c 4 t) := by
  intro i l
  have ht := lt16 t; have hi := i.isLt
  refine Eq.trans ?_ (read7 c h1 ⟨t.val / 4, by omega⟩ i ⟨2048 * (t.val / 4) + i, by omega⟩ rfl l)
  blk_simp [iblk]
  blk_ext
  · show win0_4.index t 0 * 2048 + (i : ℕ) = 2048 * (t.val / 4) + i
    rw [show win0_4.index t 0 = t.val / 4 from congrFun (idx4 t) 0]; omega
  · rw [show win0_4.index t 1 = 0 from congrFun (idx4 t) 1]; omega

theorem blk6 (h0 : AllReal (arg0 m c)) (h1 : AllReal (arg1 m c)) : IsMat (nums (m := m) c t).lse (iblk m c 6 t) := by
  intro i l
  have ht := lt16 t; have hi := i.isLt
  refine Eq.trans ?_ (read46 c h0 h1 ⟨t.val / 4, by omega⟩ i ⟨2048 * (t.val / 4) + i, by omega⟩ rfl l)
  blk_simp [iblk]
  blk_ext
  · show win0_6.index t 0 * 2048 + (i : ℕ) = 2048 * (t.val / 4) + i
    rw [show win0_6.index t 0 = t.val / 4 from congrFun (idx6 t) 0]; omega
  · rw [show win0_6.index t 1 = 0 from congrFun (idx6 t) 1]; omega

theorem blk5 (h1 : AllReal (arg1 m c)) (e : Fin 8) (j : Fin 2048) : (iblk m c 5 t : Vec Ideal S1x1x8x2048 .f32) (ix4 0 0 e j) = (((nums (m := m) c t).fr e j : ℝ) : EReal) := by
  have ht := lt16 t; have hj := j.isLt
  refine Eq.trans ?_ (read11 c h1 ⟨t.val / 4, by omega⟩ ⟨t.val % 4, by omega⟩ e j)
  blk_simp [iblk]
  blk_ext
  · rw [show win0_5.index t 0 = t.val / 4 from congrFun (idx5 t) 0]; omega
  · rw [show win0_5.index t 1 = t.val % 4 from congrFun (idx5 t) 1]; omega
  · rw [show win0_5.index t 2 = 0 from congrFun (idx5 t) 2]; omega
  · rw [show win0_5.index t 3 = 0 from congrFun (idx5 t) 3]; omega

set_option maxHeartbeats 2000000 in
/-- The blocks of grid point `t` hold its numbers. -/
theorem holds (h0 : AllReal (arg0 m c)) (h1 : AllReal (arg1 m c)) (h2 : AllReal (arg2 m c)) : Holds (blks m c t) (nums (m := m) c t) := by
  constructor
  · show IsMat (nums (m := m) c t).q (iblk m c 0 t)
    exact blk0 c t h0
  · show IsMat (nums (m := m) c t).k (iblk m c 1 t)
    exact blk1 c t h0
  · show IsMat (nums (m := m) c t).v (iblk m c 2 t)
    exact blk2 c t h0
  · show IsMat (nums (m := m) c t).d (iblk m c 3 t)
    exact blk3 c t h2
  · show IsMat (nums (m := m) c t).fc (iblk m c 4 t)
    exact blk4 c t h1
  · show IsMat (nums (m := m) c t).lse (iblk m c 6 t)
    exact blk6 c t h0 h1
  · exact blk5 c t h1
  · show BitVec.ofNat 32 ((grid0.coords t) 1 : ℕ) = BitVec.ofNat 32 (t.val % 4)
    rw [coord1]
  · show t.val % 4 < 4
    omega

end Blk

/-- The kernel's result: the gradient of the queries. -/
def outQ (x0 : FVec Ideal S4x2048x5128 .f32) (x1 : FVec Ideal S4x2048x8 .f32) (x2 : FVec Ideal S4x2048x512 .f32) : FVec Ideal S8192x512 .f32 :=
  fun y => (((numsOf x0 x1 x2 ((y 0 : ℕ) / 2048) ((y 1 : ℕ) / 128)).dq ((y 0 : ℕ) % 2048) ((y 1 : ℕ) % 128) : ℝ) : EReal)

theorem final7 (h0 : AllReal (arg0 m c)) (h1 : AllReal (arg1 m c)) (h2 : AllReal (arg2 m c)) :
    (dats m 0 c).arrAt 7 cfg0.N = outQ (arg0 m c) (arg1 m c) (arg2 m c) := by
  refine (dats m 0 c).arrAt_eq_of_covers 7 _ (by decide +kernel) fun t hf y => ?_
  blk_simp
  rw [after0_7]
  obtain ⟨n, l, rfl⟩ : ∃ (n : Fin 2048) (l : Fin 128), y = ix2 n l := ⟨y 0, y 1, funext fun a => match a with | 0 => rfl | 1 => rfl⟩
  have ht := lt16 t; have hn := n.isLt; have hl := l.isLt
  have e0 : ((win0_7.blk t).view.emb (ix2 n l) 0 : ℕ) = 2048 * (t.val / 4) + n := by
    blk_simp
    rw [show win0_7.index t 0 = t.val / 4 from congrFun (idx7 t) 0]; omega
  have e1 : ((win0_7.blk t).view.emb (ix2 n l) 1 : ℕ) = 128 * (t.val % 4) + l := by
    blk_simp
    rw [show win0_7.index t 1 = t.val % 4 from congrFun (idx7 t) 1]; omega
  have q := at_q m c t (holds c t h0 h1 h2) n l
  refine q.trans ?_
  show _ = (((numsOf (arg0 m c) (arg1 m c) (arg2 m c) (((win0_7.blk t).view.emb (ix2 n l) 0 : ℕ) / 2048) (((win0_7.blk t).view.emb (ix2 n l) 1 : ℕ) / 128)).dq
    (((win0_7.blk t).view.emb (ix2 n l) 0 : ℕ) % 2048) (((win0_7.blk t).view.emb (ix2 n l) 1 : ℕ) % 128) : ℝ) : EReal)
  rw [e0, e1, show (2048 * (t.val / 4) + (n : ℕ)) / 2048 = t.val / 4 by omega, show (2048 * (t.val / 4) + (n : ℕ)) % 2048 = n by omega,
    show (128 * (t.val % 4) + (l : ℕ)) / 128 = t.val % 4 by omega, show (128 * (t.val % 4) + (l : ℕ)) % 128 = l by omega]

/-- The kernel's result: the gradient of the keys. -/
def outK (x0 : FVec Ideal S4x2048x5128 .f32) (x1 : FVec Ideal S4x2048x8 .f32) (x2 : FVec Ideal S4x2048x512 .f32) : FVec Ideal S8192x512 .f32 :=
  fun y => (((numsOf x0 x1 x2 ((y 0 : ℕ) / 2048) ((y 1 : ℕ) / 128)).dk 2048 ((y 0 : ℕ) % 2048) ((y 1 : ℕ) % 128) : ℝ) : EReal)

theorem final8 (h0 : AllReal (arg0 m c)) (h1 : AllReal (arg1 m c)) (h2 : AllReal (arg2 m c)) :
    (dats m 0 c).arrAt 8 cfg0.N = outK (arg0 m c) (arg1 m c) (arg2 m c) := by
  refine (dats m 0 c).arrAt_eq_of_covers 8 _ (by decide +kernel) fun t hf y => ?_
  blk_simp
  rw [after0_8]
  obtain ⟨n, l, rfl⟩ : ∃ (n : Fin 2048) (l : Fin 128), y = ix2 n l := ⟨y 0, y 1, funext fun a => match a with | 0 => rfl | 1 => rfl⟩
  have ht := lt16 t; have hn := n.isLt; have hl := l.isLt
  have e0 : ((win0_8.blk t).view.emb (ix2 n l) 0 : ℕ) = 2048 * (t.val / 4) + n := by
    blk_simp
    rw [show win0_8.index t 0 = t.val / 4 from congrFun (idx8 t) 0]; omega
  have e1 : ((win0_8.blk t).view.emb (ix2 n l) 1 : ℕ) = 128 * (t.val % 4) + l := by
    blk_simp
    rw [show win0_8.index t 1 = t.val % 4 from congrFun (idx8 t) 1]; omega
  have q := at_k m c t (holds c t h0 h1 h2) n l
  refine q.trans ?_
  show _ = (((numsOf (arg0 m c) (arg1 m c) (arg2 m c) (((win0_8.blk t).view.emb (ix2 n l) 0 : ℕ) / 2048) (((win0_8.blk t).view.emb (ix2 n l) 1 : ℕ) / 128)).dk 2048
    (((win0_8.blk t).view.emb (ix2 n l) 0 : ℕ) % 2048) (((win0_8.blk t).view.emb (ix2 n l) 1 : ℕ) % 128) : ℝ) : EReal)
  rw [e0, e1, show (2048 * (t.val / 4) + (n : ℕ)) / 2048 = t.val / 4 by omega, show (2048 * (t.val / 4) + (n : ℕ)) % 2048 = n by omega,
    show (128 * (t.val % 4) + (l : ℕ)) / 128 = t.val % 4 by omega, show (128 * (t.val % 4) + (l : ℕ)) % 128 = l by omega]

/-- The kernel's result: the gradient of the values. -/
def outV (x0 : FVec Ideal S4x2048x5128 .f32) (x1 : FVec Ideal S4x2048x8 .f32) (x2 : FVec Ideal S4x2048x512 .f32) : FVec Ideal S8192x512 .f32 :=
  fun y => (((numsOf x0 x1 x2 ((y 0 : ℕ) / 2048) ((y 1 : ℕ) / 128)).dv 2048 ((y 0 : ℕ) % 2048) ((y 1 : ℕ) % 128) : ℝ) : EReal)

theorem final9 (h0 : AllReal (arg0 m c)) (h1 : AllReal (arg1 m c)) (h2 : AllReal (arg2 m c)) :
    (dats m 0 c).arrAt 9 cfg0.N = outV (arg0 m c) (arg1 m c) (arg2 m c) := by
  refine (dats m 0 c).arrAt_eq_of_covers 9 _ (by decide +kernel) fun t hf y => ?_
  blk_simp
  rw [after0_9]
  obtain ⟨n, l, rfl⟩ : ∃ (n : Fin 2048) (l : Fin 128), y = ix2 n l := ⟨y 0, y 1, funext fun a => match a with | 0 => rfl | 1 => rfl⟩
  have ht := lt16 t; have hn := n.isLt; have hl := l.isLt
  have e0 : ((win0_9.blk t).view.emb (ix2 n l) 0 : ℕ) = 2048 * (t.val / 4) + n := by
    blk_simp
    rw [show win0_9.index t 0 = t.val / 4 from congrFun (idx9 t) 0]; omega
  have e1 : ((win0_9.blk t).view.emb (ix2 n l) 1 : ℕ) = 128 * (t.val % 4) + l := by
    blk_simp
    rw [show win0_9.index t 1 = t.val % 4 from congrFun (idx9 t) 1]; omega
  have q := at_v m c t (holds c t h0 h1 h2) n l
  refine q.trans ?_
  show _ = (((numsOf (arg0 m c) (arg1 m c) (arg2 m c) (((win0_9.blk t).view.emb (ix2 n l) 0 : ℕ) / 2048) (((win0_9.blk t).view.emb (ix2 n l) 1 : ℕ) / 128)).dv 2048
    (((win0_9.blk t).view.emb (ix2 n l) 0 : ℕ) % 2048) (((win0_9.blk t).view.emb (ix2 n l) 1 : ℕ) % 128) : ℝ) : EReal)
  rw [e0, e1, show (2048 * (t.val / 4) + (n : ℕ)) / 2048 = t.val / 4 by omega, show (2048 * (t.val / 4) + (n : ℕ)) % 2048 = n by omega,
    show (128 * (t.val % 4) + (l : ℕ)) / 128 = t.val % 4 by omega, show (128 * (t.val % 4) + (l : ℕ)) % 128 = l by omega]

/-- The kernel's result: the gradient of the gates, eight rows for each pair of heads. -/
def outF (x0 : FVec Ideal S4x2048x5128 .f32) (x1 : FVec Ideal S4x2048x8 .f32) (x2 : FVec Ideal S4x2048x512 .f32) : FVec Ideal S4x4x8x2048 .f32 :=
  fun y => (((numsOf x0 x1 x2 (y 0 : ℕ) (y 1 : ℕ)).df 2048 (y 2 : ℕ) (y 3 : ℕ) : ℝ) : EReal)

theorem final10 (h0 : AllReal (arg0 m c)) (h1 : AllReal (arg1 m c)) (h2 : AllReal (arg2 m c)) :
    (dats m 0 c).arrAt 10 cfg0.N = outF (arg0 m c) (arg1 m c) (arg2 m c) := by
  refine (dats m 0 c).arrAt_eq_of_covers 10 _ (by decide +kernel) fun t hf y => ?_
  blk_simp
  rw [after0_10]
  obtain ⟨e, j, rfl⟩ : ∃ (e : Fin 8) (j : Fin 2048), y = ix4 0 0 e j := ⟨y 2, y 3, funext fun a => match a with
    | 0 => Fin.ext (Nat.lt_one_iff.mp (show (y 0 : ℕ) < 1 from (y 0).isLt))
    | 1 => Fin.ext (Nat.lt_one_iff.mp (show (y 1 : ℕ) < 1 from (y 1).isLt))
    | 2 => rfl
    | 3 => rfl⟩
  have ht := lt16 t; have he := e.isLt; have hj := j.isLt
  have e0 : ((win0_10.blk t).view.emb (ix4 0 0 e j) 0 : ℕ) = t.val / 4 := by
    blk_simp
    rw [show win0_10.index t 0 = t.val / 4 from congrFun (idx10 t) 0]; omega
  have e1 : ((win0_10.blk t).view.emb (ix4 0 0 e j) 1 : ℕ) = t.val % 4 := by
    blk_simp
    rw [show win0_10.index t 1 = t.val % 4 from congrFun (idx10 t) 1]; omega
  have e2 : ((win0_10.blk t).view.emb (ix4 0 0 e j) 2 : ℕ) = e := by
    blk_simp
    rw [show win0_10.index t 2 = 0 from congrFun (idx10 t) 2]; omega
  have e3 : ((win0_10.blk t).view.emb (ix4 0 0 e j) 3 : ℕ) = j := by
    blk_simp
    rw [show win0_10.index t 3 = 0 from congrFun (idx10 t) 3]; omega
  have q := at_f m c t (holds c t h0 h1 h2) e j
  refine q.trans ?_
  show _ = (((numsOf (arg0 m c) (arg1 m c) (arg2 m c) ((win0_10.blk t).view.emb (ix4 0 0 e j) 0 : ℕ) ((win0_10.blk t).view.emb (ix4 0 0 e j) 1 : ℕ)).df 2048
    ((win0_10.blk t).view.emb (ix4 0 0 e j) 2 : ℕ) ((win0_10.blk t).view.emb (ix4 0 0 e j) 3 : ℕ) : ℝ) : EReal)
  rw [e0, e1, e2, e3]

end Cert.AttnProof

end
-- ==== Proof.Attn.Reference.lean ====
/- The reference's gradients over the reals, and that the kernel's numbers are the same ones. -/
module

public import proofs.«01_k».proof.Proof.Attn.Blocks

@[expose] public section

set_option maxRecDepth 16384

noncomputable section

namespace Cert.AttnProof

open Cert.AttnRefIdeal Cert.AttnRefIdeal.Gen Cert.AttnRefIdeal.Read Idealize.ShloMosaic Idealize.ShloMosaic.TcCoe
open Cert.Reals (AllReal rd3 rd3_eq rd3_at rd3_out)

variable (x0 : FVec Ideal S4x2048x5128 .f32) (x1 : FVec Ideal S4x2048x8 .f32) (x2 : FVec Ideal S4x2048x512 .f32)

/-- The softmax's probability. -/
def prob (b h i j : ℕ) : ℝ := expo x0 x1 b h i j / total x0 x1 b h i

/-- Its gradient. -/
def gradP (b h i j : ℕ) : ℝ := ∑ d ∈ Finset.range 64, rd3 x2 b i (64 * h + d) * rd3 x0 b j (2560 + 64 * h + d)

/-- The gradient of the score. -/
def gradS (b h i j : ℕ) : ℝ :=
  prob x0 x1 b h i j * (gradP x0 x2 b h i j - ∑ k ∈ Finset.range 2048, prob x0 x1 b h i k * gradP x0 x2 b h i k)

variable {x0 x1 x2}

/-! ## The kernel's numbers -/

/-- A sum over a pair's 128 lanes of the terms of one head is a sum over the head's 64. -/
theorem sum_msk {e : ℕ} (he : e < 2) (x : ℕ → ℕ → ℝ) (i : ℕ) (f : ℝ → ℕ → ℝ) (hf : ∀ l, f 0 l = 0) :
    ∑ l ∈ Finset.range 128, f (msk e x i l) l = ∑ d ∈ Finset.range 64, f (x i (64 * e + d)) (64 * e + d) := by
  rw [show (128 : ℕ) = 64 + 64 from rfl, Finset.sum_range_add]
  have a : ∀ d ∈ Finset.range 64, msk e x i d = if e = 0 then x i d else 0 := fun d hd => by
    have := Finset.mem_range.mp hd
    unfold msk
    rw [show d / 64 = 0 by omega]
    exact if_congr eq_comm rfl rfl
  have b : ∀ d ∈ Finset.range 64, msk e x i (64 + d) = if e = 1 then x i (64 + d) else 0 := fun d hd => by
    have := Finset.mem_range.mp hd
    unfold msk
    rw [show (64 + d) / 64 = 1 by omega]
    exact if_congr eq_comm rfl rfl
  obtain rfl | rfl : e = 0 ∨ e = 1 := by omega
  · have z : ∑ d ∈ Finset.range 64, f (msk 0 x i (64 + d)) (64 + d) = 0 := Finset.sum_eq_zero fun d hd => by rw [b d hd, if_neg (by decide), hf]
    rw [z, add_zero]
    exact Finset.sum_congr rfl fun d hd => by rw [a d hd, if_pos rfl, Nat.mul_zero, Nat.zero_add]
  · have z : ∑ d ∈ Finset.range 64, f (msk 1 x i d) d = 0 := Finset.sum_eq_zero fun d hd => by rw [a d hd, if_neg (by decide), hf]
    rw [z, zero_add]
    exact Finset.sum_congr rfl fun d hd => by rw [b d hd, if_pos rfl, Nat.mul_one]

theorem nums_P (b n : ℕ) {e i : ℕ} (he : e < 2) (hn : n < 4) (hi : i < 2048) (j : ℕ) : (numsOf x0 x1 x2 b n).P e i j = prob x0 x1 b (2 * n + e) i j := by
  unfold Nums.P prob expo
  by_cases hj : j ≤ i
  · rw [if_pos hj, if_pos hj, sum_msk he _ i (fun y l => y * (1 / 8) * (numsOf x0 x1 x2 b n).k j l) (fun l => by rw [zero_mul, zero_mul])]
    show Real.exp ((∑ d ∈ Finset.range 64, rd3 x0 b i (1536 + 128 * n + (64 * e + d)) * (1 / 8) * rd3 x0 b j (2048 + 128 * n + (64 * e + d)))
      + rd3 (gates x1) b i (n * 2 + e) - (if e < 2 then rd3 (gates x1) b j (2 * n + e) else 0) - (if n * 2 + e < 8 then top x0 x1 b (n * 2 + e) i + Real.log (total x0 x1 b (n * 2 + e) i) else 0)) = _
    rw [if_pos he, if_pos (by omega : n * 2 + e < 8), Nat.mul_comm n 2, sub_add_eq_sub_sub, Real.exp_sub, Real.exp_log (total_pos b _ hi)]
    unfold score
    rw [Finset.sum_congr rfl fun d _ => by
      rw [show 1536 + 128 * n + (64 * e + d) = 1536 + 64 * (2 * n + e) + d by ring, show 2048 + 128 * n + (64 * e + d) = 2048 + 64 * (2 * n + e) + d by ring]]
  · rw [if_neg hj, if_neg hj, zero_div]

theorem nums_dP (b n : ℕ) {e : ℕ} (he : e < 2) (i j : ℕ) : (numsOf x0 x1 x2 b n).dP e i j = gradP x0 x2 b (2 * n + e) i j := by
  unfold Nums.dP gradP
  rw [sum_msk he _ i (fun y l => y * (numsOf x0 x1 x2 b n).v j l) (fun l => zero_mul _)]
  refine Finset.sum_congr rfl fun d _ => ?_
  show rd3 x2 b i (128 * n + (64 * e + d)) * rd3 x0 b j (2560 + 128 * n + (64 * e + d)) = _
  rw [show 128 * n + (64 * e + d) = 64 * (2 * n + e) + d by ring, show 2560 + 128 * n + (64 * e + d) = 2560 + 64 * (2 * n + e) + d by ring]

theorem nums_dS (b n : ℕ) {e i : ℕ} (he : e < 2) (hn : n < 4) (hi : i < 2048) (j : ℕ) : (numsOf x0 x1 x2 b n).dS e i j = gradS x0 x1 x2 b (2 * n + e) i j := by
  unfold Nums.dS gradS
  rw [nums_P b n he hn hi, nums_dP b n he, Finset.sum_congr rfl fun k _ => by rw [nums_P b n he hn hi, nums_dP b n he]]

/-- Of the two heads' terms of a lane one is zero. -/
theorem msk_pair (f : ℕ → ℝ) (x : ℕ → ℕ → ℝ) (i : ℕ) {l : ℕ} (hl : l < 128) : f 0 * msk 0 x i l + f 1 * msk 1 x i l = f (l / 64) * x i l := by
  unfold msk
  obtain h | h : l / 64 = 0 ∨ l / 64 = 1 := by omega
  · rw [h, if_pos rfl, if_neg (by decide), mul_zero, add_zero]
  · rw [h, if_pos rfl, if_neg (by decide), mul_zero, zero_add]

/-- The pair, lane and head of a column. -/
theorem col {c : ℕ} : 2 * (c / 128) + c % 128 / 64 = c / 64 := by omega

theorem nums_dq (b : ℕ) {i c : ℕ} (hc : c < 512) (hi : i < 2048) : (numsOf x0 x1 x2 b (c / 128)).dq i (c % 128)
    = (∑ j ∈ Finset.range 2048, gradS x0 x1 x2 b (c / 64) i j * rd3 x0 b j (2048 + 64 * (c / 64) + c % 64)) * (1 / 8) := by
  unfold Nums.dq
  refine congrArg (· * (1 / 8 : ℝ)) (Finset.sum_congr rfl fun j _ => ?_)
  rw [nums_dS b _ (by omega) (by omega) hi, col]
  refine congrArg (gradS x0 x1 x2 b (c / 64) i j * ·) ?_
  show rd3 x0 b j (2048 + 128 * (c / 128) + c % 128) = _
  rw [show 2048 + 128 * (c / 128) + c % 128 = 2048 + 64 * (c / 64) + c % 64 by omega]

theorem nums_dk (b j : ℕ) {c : ℕ} (hc : c < 512) : (numsOf x0 x1 x2 b (c / 128)).dk 2048 j (c % 128)
    = ∑ i ∈ Finset.range 2048, gradS x0 x1 x2 b (c / 64) i j * (rd3 x0 b i (1536 + 64 * (c / 64) + c % 64) * (1 / 8)) := by
  unfold Nums.dk
  refine Finset.sum_congr rfl fun i hi => ?_
  have hi := Finset.mem_range.mp hi
  unfold Nums.tk
  rw [← mul_assoc, ← mul_assoc, ← add_mul, msk_pair (fun e => (numsOf x0 x1 x2 b (c / 128)).dS e i j) _ i (by omega), nums_dS b _ (by omega) (by omega) hi, col, mul_assoc]
  show _ * (rd3 x0 b i (1536 + 128 * (c / 128) + c % 128) * (1 / 8)) = _
  rw [show 1536 + 128 * (c / 128) + c % 128 = 1536 + 64 * (c / 64) + c % 64 by omega]

theorem nums_dv (b j : ℕ) {c : ℕ} (hc : c < 512) : (numsOf x0 x1 x2 b (c / 128)).dv 2048 j (c % 128)
    = ∑ i ∈ Finset.range 2048, rd3 x2 b i (64 * (c / 64) + c % 64) * prob x0 x1 b (c / 64) i j := by
  unfold Nums.dv
  refine Finset.sum_congr rfl fun i hi => ?_
  have hi := Finset.mem_range.mp hi
  unfold Nums.tv
  rw [msk_pair (fun e => (numsOf x0 x1 x2 b (c / 128)).P e i j) _ i (by omega), nums_P b _ (by omega) (by omega) hi, col, mul_comm]
  show rd3 x2 b i (128 * (c / 128) + c % 128) * _ = _
  rw [show 128 * (c / 128) + c % 128 = 64 * (c / 64) + c % 64 by omega]

/-! ## The reference's arrays -/

/-- The entries that the reference's reads, sums and products take. -/
theorem idx_main_v44' (b : Fin 4) (h : Fin 8) (i j : Fin 2048) : idx_main_v44 (idx_main_v45 (ix4 b h i j)) = ix3 b h i := funext fun a => match a with | ⟨0, _⟩ => rfl | ⟨1, _⟩ => rfl | ⟨2, _⟩ => rfl
theorem idx_main_v48' (b : Fin 4) (h : Fin 8) (i j : Fin 2048) : idx_main_v48 (ix3 b h i) j = ix4 b h i j := funext fun a => match a with | ⟨0, _⟩ => rfl | ⟨1, _⟩ => rfl | ⟨2, _⟩ => rfl | ⟨3, _⟩ => rfl
theorem idx_main_v49' (b : Fin 4) (h : Fin 8) (i : Fin 2048) (z : Fin 1) : idx_main_v49 (ix4 b h i z) = ix3 b h i := funext fun a => match a with | ⟨0, _⟩ => rfl | ⟨1, _⟩ => rfl | ⟨2, _⟩ => rfl
theorem idx_main_v50' (b : Fin 4) (h : Fin 8) (i j : Fin 2048) : idx_main_v50 (ix4 b h i j) = ix4 b h i 0 := funext fun a => match a with | ⟨0, _⟩ => rfl | ⟨1, _⟩ => rfl | ⟨2, _⟩ => rfl | ⟨3, _⟩ => rfl
theorem idx_main_v63' (b : Fin 4) (h : Fin 8) (i j : Fin 2048) : idx_main_v63 (ix4 b h i j) = ix4 b h i 0 := funext fun a => match a with | ⟨0, _⟩ => rfl | ⟨1, _⟩ => rfl | ⟨2, _⟩ => rfl | ⟨3, _⟩ => rfl
theorem idx_main_v69' (b : Fin 4) (h : Fin 8) (i j : Fin 2048) : idx_main_v69 (ix4 b h i j) = ix4 b h i 0 := funext fun a => match a with | ⟨0, _⟩ => rfl | ⟨1, _⟩ => rfl | ⟨2, _⟩ => rfl | ⟨3, _⟩ => rfl
theorem idx_main_v72' (b : Fin 4) (h : Fin 8) (i j : Fin 2048) : idx_main_v72 (ix4 b h i j) = ix3 b h i := funext fun a => match a with | ⟨0, _⟩ => rfl | ⟨1, _⟩ => rfl | ⟨2, _⟩ => rfl
theorem idx_main_v66' (b : Fin 4) (h : Fin 8) (i j : Fin 2048) : idx_main_v66 (ix3 b h i) j = ix4 b h i j := funext fun a => match a with | ⟨0, _⟩ => rfl | ⟨1, _⟩ => rfl | ⟨2, _⟩ => rfl | ⟨3, _⟩ => rfl
theorem idx_main_v77' (b : Fin 4) (h : Fin 8) (i j : Fin 2048) : idx_main_v77 (ix3 b h j) i = ix4 b h i j := funext fun a => match a with | ⟨0, _⟩ => rfl | ⟨1, _⟩ => rfl | ⟨2, _⟩ => rfl | ⟨3, _⟩ => rfl
theorem idx_main_v80' (b : Fin 4) (h : Fin 8) (i j : Fin 2048) : idx_main_v80 (ix3 b h i) j = ix4 b h i j := funext fun a => match a with | ⟨0, _⟩ => rfl | ⟨1, _⟩ => rfl | ⟨2, _⟩ => rfl | ⟨3, _⟩ => rfl
theorem idx_main_v79' (b : Fin 4) (h : Fin 8) (i : Fin 2048) (z : Fin 1) : idx_main_v78 (idx_main_v79 (ix3 b h i) z) = ix3 b h i := by
  have := b.isLt; have := h.isLt; have := i.isLt; have := z.isLt
  funext a
  apply Fin.ext
  match a with
  | ⟨0, _⟩ => show ((((b : ℕ) * 8 + h) * 1 + z) * 2048 + i) / 16384 = (b : ℕ); omega
  | ⟨1, _⟩ => show ((((b : ℕ) * 8 + h) * 1 + z) * 2048 + i) / 2048 % 8 = (h : ℕ); omega
  | ⟨2, _⟩ => show ((((b : ℕ) * 8 + h) * 1 + z) * 2048 + i) % 2048 = (i : ℕ); omega
theorem idx_main_v82' (b : Fin 4) (h : Fin 8) (i : Fin 2048) (z : Fin 1) : idx_main_v81 (idx_main_v82 (ix3 b h i) z) = ix3 b h i := by
  have := b.isLt; have := h.isLt; have := i.isLt; have := z.isLt
  funext a
  apply Fin.ext
  match a with
  | ⟨0, _⟩ => show ((((b : ℕ) * 8 + h) * 2048 + i) * 1 + z) / 16384 = (b : ℕ); omega
  | ⟨1, _⟩ => show ((((b : ℕ) * 8 + h) * 2048 + i) * 1 + z) / 2048 % 8 = (h : ℕ); omega
  | ⟨2, _⟩ => show ((((b : ℕ) * 8 + h) * 2048 + i) * 1 + z) % 2048 = (i : ℕ); omega
theorem idx_main_v71' (b : Fin 4) (h : Fin 8) (i : Fin 2048) (z : Fin 1) : idx_main_v67 (idx_main_v71 (ix3 b h i) z) = ix3 b h i := by
  have := b.isLt; have := h.isLt; have := i.isLt; have := z.isLt
  funext a
  apply Fin.ext
  match a with
  | ⟨0, _⟩ => show ((((b : ℕ) * 8 + h) * 2048 + i) * 1 + z) / 16384 = (b : ℕ); omega
  | ⟨1, _⟩ => show ((((b : ℕ) * 8 + h) * 2048 + i) * 1 + z) / 2048 % 8 = (h : ℕ); omega
  | ⟨2, _⟩ => show ((((b : ℕ) * 8 + h) * 2048 + i) * 1 + z) % 2048 = (i : ℕ); omega
theorem lidx_main_v84' (b : Fin 4) (h : Fin 8) (i : Fin 2048) (d : Fin 64) (k : Fin 2048) : lidx_main_v84 (ix4 b h i d) k = ix4 b h k i := funext fun a => match a with | ⟨0, _⟩ => rfl | ⟨1, _⟩ => rfl | ⟨2, _⟩ => rfl | ⟨3, _⟩ => rfl
theorem ridx_main_v84' (b : Fin 4) (h : Fin 8) (i : Fin 2048) (d : Fin 64) (k : Fin 2048) : ridx_main_v84 (ix4 b h i d) k = ix4 b h k d := funext fun a => match a with | ⟨0, _⟩ => rfl | ⟨1, _⟩ => rfl | ⟨2, _⟩ => rfl | ⟨3, _⟩ => rfl
theorem lidx_main_v85' (b : Fin 4) (h : Fin 8) (i : Fin 2048) (d : Fin 64) (k : Fin 2048) : lidx_main_v85 (ix4 b h i d) k = ix4 b h i k := funext fun a => match a with | ⟨0, _⟩ => rfl | ⟨1, _⟩ => rfl | ⟨2, _⟩ => rfl | ⟨3, _⟩ => rfl
theorem ridx_main_v85' (b : Fin 4) (h : Fin 8) (i : Fin 2048) (d : Fin 64) (k : Fin 2048) : ridx_main_v85 (ix4 b h i d) k = ix4 b h k d := funext fun a => match a with | ⟨0, _⟩ => rfl | ⟨1, _⟩ => rfl | ⟨2, _⟩ => rfl | ⟨3, _⟩ => rfl
theorem lidx_main_v60' (b : Fin 4) (h : Fin 8) (i : Fin 2048) (d : Fin 64) (k : Fin 2048) : lidx_main_v60 (idx_main_v61 (ix4 b h i d)) k = ix4 b h k d := funext fun a => match a with | ⟨0, _⟩ => rfl | ⟨1, _⟩ => rfl | ⟨2, _⟩ => rfl | ⟨3, _⟩ => rfl
theorem ridx_main_v60' (b : Fin 4) (h : Fin 8) (i : Fin 2048) (d : Fin 64) (k : Fin 2048) : ridx_main_v60 (idx_main_v61 (ix4 b h i d)) k = ix4 b h k i := funext fun a => match a with | ⟨0, _⟩ => rfl | ⟨1, _⟩ => rfl | ⟨2, _⟩ => rfl | ⟨3, _⟩ => rfl

theorem ref_expo (h0 : AllReal x0) (h1 : AllReal x1) (b : Fin 4) (h : Fin 8) (i j : Fin 2048) :
    val_main_v47 (F := Ideal) x0 x1 (ix4 b h i j) = ((expo x0 x1 b h i j : ℝ) : EReal) := by
  have e : val_main_v47 (F := Ideal) x0 x1 (ix4 b h i j)
      = Ideal.exp (val_main_v26_0 (F := Ideal) x0 x1 (ix4 b h i j) - max (Ideal.ofBits .f32 0xFF800000#32) (val_main_v27 (F := Ideal) x0 x1 (ix3 b h i))) := by
    rw [val_main_v47_apply, val_main_v46_apply, val_main_v45_apply, val_main_v44_apply, idx_main_v44', val_main_v34_apply, val_main_v33_apply]
    generalize val_main_v26_0 (F := Ideal) x0 x1 = s
    generalize val_main_v27 (F := Ideal) x0 x1 = t
    rfl
  rw [e, bot_const, max_eq_right bot_le, exp_masked h0 h1]

theorem ref_total (h0 : AllReal x0) (h1 : AllReal x1) (b : Fin 4) (h : Fin 8) (i : Fin 2048) :
    val_main_v48 (F := Ideal) x0 x1 (ix3 b h i) = ((total x0 x1 b h i : ℝ) : EReal) := by
  rw [val_main_v48_apply, show val_main_cst_9 (F := Ideal) (Shape.Idx.first h_S_) = (0 : EReal) from zero_const, zero_add]
  exact coe_tot _ (fun j => expo x0 x1 b h i j) fun k => by rw [idx_main_v48', ref_expo h0 h1]

theorem ref_total1 (h0 : AllReal x0) (h1 : AllReal x1) (b : Fin 4) (h : Fin 8) (i : Fin 2048) :
    val_main_v49 (F := Ideal) x0 x1 (ix4 b h i 0) = ((total x0 x1 b h i : ℝ) : EReal) := by
  rw [val_main_v49_apply, idx_main_v49', ref_total h0 h1]

theorem ref_prob (h0 : AllReal x0) (h1 : AllReal x1) (b : Fin 4) (h : Fin 8) (i j : Fin 2048) :
    val_main_v51 (F := Ideal) x0 x1 (ix4 b h i j) = ((prob x0 x1 b h i j : ℝ) : EReal) := by
  have e : val_main_v51 (F := Ideal) x0 x1 (ix4 b h i j)
      = Ideal.div (val_main_v47 (F := Ideal) x0 x1 (ix4 b h i j)) (val_main_v49 (F := Ideal) x0 x1 (ix4 b h i 0)) := by
    rw [val_main_v51_apply, val_main_v50_apply, idx_main_v50']
    rfl
  rw [e, ref_expo h0 h1, ref_total1 h0 h1, Ideal.div_coe (total_pos _ _ i.isLt).ne', ← EReal.coe_mul]
  unfold prob
  rw [mul_one_div]

theorem ref_gradP (h0 : AllReal x0) (h2 : AllReal x2) (b : Fin 4) (h : Fin 8) (i j : Fin 2048) :
    val_main_v62 (F := Ideal) x0 x2 (ix4 b h i j) = ((gradP x0 x2 b h i j : ℝ) : EReal) := by
  rw [val_main_v62_apply]
  exact coe_dot _ _ (fun d => rd3 x2 b i (64 * h + d)) (fun d => rd3 x0 b j (2560 + 64 * h + d)) (fun k => ref_do h2 b h i k) (fun k => ref_v h0 b h j k)

/-- The row's correction, as the reference adds it. -/
theorem ref_corr (h0 : AllReal x0) (h1 : AllReal x1) (h2 : AllReal x2) (b : Fin 4) (h : Fin 8) (i : Fin 2048) :
    val_main_v71 (F := Ideal) x0 x1 x2 (ix3 b h i)
      = ((-∑ k ∈ Finset.range 2048, gradP x0 x2 b h i k * (1 / (total x0 x1 b h i * total x0 x1 b h i)) * expo x0 x1 b h i k : ℝ) : EReal) := by
  have hz := (total_pos (x0 := x0) (x1 := x1) b h i.isLt).ne'
  have sq : val_main_v54 (F := Ideal) x0 x1 (ix4 b h i 0) = ((1 / (total x0 x1 b h i * total x0 x1 b h i) : ℝ) : EReal) := by
    have e : val_main_v54 (F := Ideal) x0 x1 (ix4 b h i 0)
        = Ideal.div (Ideal.ofBits .f32 0x3F800000#32) (val_main_v49 (F := Ideal) x0 x1 (ix4 b h i 0) * val_main_v49 (F := Ideal) x0 x1 (ix4 b h i 0)) := by
      rw [val_main_v54_apply, val_main_v53_apply]
      rfl
    rw [e, ref_total1 h0 h1, one_const, ← EReal.coe_mul, Ideal.div_coe (mul_ne_zero hz hz), ← EReal.coe_mul, one_mul]
  have term : ∀ k : Fin 2048, val_main_v65 (F := Ideal) x0 x1 x2 (ix4 b h i k)
      = ((gradP x0 x2 b h i k * (1 / (total x0 x1 b h i * total x0 x1 b h i)) * expo x0 x1 b h i k : ℝ) : EReal) := fun k => by
    have e : val_main_v65 (F := Ideal) x0 x1 x2 (ix4 b h i k)
        = val_main_v62 (F := Ideal) x0 x2 (ix4 b h i k) * val_main_v54 (F := Ideal) x0 x1 (ix4 b h i 0) * val_main_v47 (F := Ideal) x0 x1 (ix4 b h i k) := by
      rw [val_main_v65_apply, val_main_v64_apply, val_main_v63_apply, idx_main_v63']
      rfl
    rw [e, ref_gradP h0 h2, sq, ref_expo h0 h1, ← EReal.coe_mul, ← EReal.coe_mul]
  have row : val_main_v66 (F := Ideal) x0 x1 x2 (ix3 b h i)
      = ((∑ k ∈ Finset.range 2048, gradP x0 x2 b h i k * (1 / (total x0 x1 b h i * total x0 x1 b h i)) * expo x0 x1 b h i k : ℝ) : EReal) := by
    rw [val_main_v66_apply, show val_main_cst_11 (F := Ideal) (Shape.Idx.first h_S_) = (0 : EReal) from zero_const, zero_add]
    exact coe_tot _ (fun k => gradP x0 x2 b h i k * (1 / (total x0 x1 b h i * total x0 x1 b h i)) * expo x0 x1 b h i k) fun k => by rw [idx_main_v66', term]
  rw [val_main_v71_apply, show val_main_cst_12 (F := Ideal) (Shape.Idx.first h_S_) = (0 : EReal) from zero_const, zero_add, Fin.sum_univ_one,
    val_main_v68_apply, val_main_v67_apply, idx_main_v71']
  exact (congrArg (fun y : EReal => -y) row).trans (EReal.coe_neg _).symm

theorem ref_mask (b : Fin 4) (h : Fin 8) (i j : Fin 2048) : val_main_v26_1 (F := Ideal) (ix4 b h i j) = if (j : ℕ) ≤ i then 1#1 else 0#1 := by
  rw [← cmp_le]
  pointwise [val_main_v26_1, val_main_v25, val_main_v24, val_main_v23, val_main_v22, val_main_v21, val_main_v20]

theorem ref_gradS (h0 : AllReal x0) (h1 : AllReal x1) (h2 : AllReal x2) (b : Fin 4) (h : Fin 8) (i j : Fin 2048) :
    val_main_v75 (F := Ideal) x0 x1 x2 (ix4 b h i j) = ((gradS x0 x1 x2 b h i j : ℝ) : EReal) := by
  have hz := (total_pos (x0 := x0) (x1 := x1) b h i.isLt).ne'
  have e : val_main_v74 (F := Ideal) x0 x1 x2 (ix4 b h i j)
      = (Ideal.div (val_main_v62 (F := Ideal) x0 x2 (ix4 b h i j)) (val_main_v49 (F := Ideal) x0 x1 (ix4 b h i 0)) + val_main_v71 (F := Ideal) x0 x1 x2 (ix3 b h i))
        * val_main_v47 (F := Ideal) x0 x1 (ix4 b h i j) := by
    rw [val_main_v74_apply, val_main_v73_apply, val_main_v70_apply, val_main_v69_apply, val_main_v72_apply, idx_main_v69', idx_main_v72']
    rfl
  have z : val_main_call2_v0 (F := Ideal) (ix4 b h i j) = ((0 : ℝ) : EReal) := by
    rw [val_main_call2_v0_apply]; exact zero_const
  rw [val_main_v75_apply, ref_mask, z, e, ref_gradP h0 h2, ref_total1 h0 h1, ref_corr h0 h1 h2, ref_expo h0 h1, Ideal.div_coe hz, ← EReal.coe_mul,
    ← EReal.coe_add, ← EReal.coe_mul]
  unfold gradS
  by_cases hj : (j : ℕ) ≤ i
  · rw [if_pos hj]
    refine (congrArg (Real.toEReal) ?_ : _)
    unfold prob
    rw [Finset.sum_congr rfl fun k _ => show gradP x0 x2 b h i k * (1 / (total x0 x1 b h i * total x0 x1 b h i)) * expo x0 x1 b h i k
      = expo x0 x1 b h i k / total x0 x1 b h i * gradP x0 x2 b h i k * (1 / total x0 x1 b h i) by field_simp, ← Finset.sum_mul]
    field_simp
    ring
  · rw [if_neg hj]
    refine (congrArg (Real.toEReal) ?_ : _)
    unfold prob expo
    rw [if_neg hj, zero_div, zero_mul]

/-- A row's probabilities sum to one, so the gradient of its scores sums to zero. -/
theorem row_zero (b h : ℕ) {i : ℕ} (hi : i < 2048) : ∑ j ∈ Finset.range 2048, gradS x0 x1 x2 b h i j = 0 := by
  have one : ∑ j ∈ Finset.range 2048, prob x0 x1 b h i j = 1 := by
    unfold prob
    rw [← Finset.sum_div]
    exact div_self (total_pos b h hi).ne'
  unfold gradS
  rw [Finset.sum_congr rfl fun j _ => mul_sub _ _ _, Finset.sum_sub_distrib, ← Finset.sum_mul, one, one_mul, sub_self]

theorem ref_dq (h0 : AllReal x0) (h1 : AllReal x1) (h2 : AllReal x2) (b : Fin 4) (h : Fin 8) (i : Fin 2048) (d : Fin 64) :
    val_main_v87 (F := Ideal) x0 x1 x2 (ix4 b h i d)
      = (((∑ j ∈ Finset.range 2048, gradS x0 x1 x2 b h i j * rd3 x0 b j (2048 + 64 * h + d)) * (1 / 8) : ℝ) : EReal) := by
  have e : val_main_v85 (F := Ideal) x0 x1 x2 (ix4 b h i d) = ((∑ j ∈ Finset.range 2048, gradS x0 x1 x2 b h i j * rd3 x0 b j (2048 + 64 * h + d) : ℝ) : EReal) := by
    rw [val_main_v85_apply]
    exact coe_dot _ _ (fun j => gradS x0 x1 x2 b h i j) (fun j => rd3 x0 b j (2048 + 64 * h + d)) (fun k => by rw [lidx_main_v85', ref_gradS h0 h1 h2]) (fun k => by rw [ridx_main_v85', ref_k h0])
  have g : val_main_v87 (F := Ideal) x0 x1 x2 (ix4 b h i d) = val_main_v85 (F := Ideal) x0 x1 x2 (ix4 b h i d) * Ideal.ofBits .f32 0x3E000000#32 := by
    rw [val_main_v87_apply, val_main_v86_apply]
    rfl
  rw [g, e, eighth_f32, ← EReal.coe_mul]

theorem ref_dk (h0 : AllReal x0) (h1 : AllReal x1) (h2 : AllReal x2) (b : Fin 4) (h : Fin 8) (j : Fin 2048) (d : Fin 64) :
    val_main_v84 (F := Ideal) x0 x1 x2 (ix4 b h j d)
      = ((∑ i ∈ Finset.range 2048, gradS x0 x1 x2 b h i j * (rd3 x0 b i (1536 + 64 * h + d) * (1 / 8)) : ℝ) : EReal) := by
  rw [val_main_v84_apply]
  exact coe_dot _ _ (fun i => gradS x0 x1 x2 b h i j) (fun i => rd3 x0 b i (1536 + 64 * h + d) * (1 / 8)) (fun k => by rw [lidx_main_v84', ref_gradS h0 h1 h2]) (fun k => by rw [ridx_main_v84', ref_qs h0])

theorem ref_dv (h0 : AllReal x0) (h1 : AllReal x1) (h2 : AllReal x2) (b : Fin 4) (h : Fin 8) (j : Fin 2048) (d : Fin 64) :
    val_main_v61 (F := Ideal) x0 x1 x2 (ix4 b h j d) = ((∑ i ∈ Finset.range 2048, rd3 x2 b i (64 * h + d) * prob x0 x1 b h i j : ℝ) : EReal) := by
  rw [val_main_v61_apply, val_main_v60_apply]
  exact coe_dot _ _ (fun i => rd3 x2 b i (64 * h + d)) (fun i => prob x0 x1 b h i j) (fun k => by rw [lidx_main_v60', ref_do h2]) (fun k => by rw [ridx_main_v60', ref_prob h0 h1])

theorem ref_df (h0 : AllReal x0) (h1 : AllReal x1) (h2 : AllReal x2) (b : Fin 4) (h : Fin 8) (j : Fin 2048) :
    val_main_v83 (F := Ideal) x0 x1 x2 (ix3 b h j) = ((-∑ i ∈ Finset.range 2048, gradS x0 x1 x2 b h i j : ℝ) : EReal) := by
  have a : val_main_v79 (F := Ideal) x0 x1 x2 (ix3 b h j) = ((-∑ i ∈ Finset.range 2048, gradS x0 x1 x2 b h i j : ℝ) : EReal) := by
    rw [val_main_v79_apply, show val_main_cst_14 (F := Ideal) (Shape.Idx.first h_S_) = (0 : EReal) from zero_const, zero_add, Fin.sum_univ_one, val_main_v78_apply, idx_main_v79', val_main_v77_apply,
      show val_main_cst_13 (F := Ideal) (Shape.Idx.first h_S_) = (0 : EReal) from zero_const, zero_add, ← Finset.sum_neg_distrib]
    exact coe_tot _ (fun i => -gradS x0 x1 x2 b h i j) fun k => by
      rw [idx_main_v77', val_main_v76_apply, ref_gradS h0 h1 h2, EReal.coe_neg]
      rfl
  have r : val_main_v82 (F := Ideal) x0 x1 x2 (ix3 b h j) = ((0 : ℝ) : EReal) := by
    rw [val_main_v82_apply, show val_main_cst_16 (F := Ideal) (Shape.Idx.first h_S_) = (0 : EReal) from zero_const, zero_add, Fin.sum_univ_one, val_main_v81_apply, idx_main_v82', val_main_v80_apply,
      show val_main_cst_15 (F := Ideal) (Shape.Idx.first h_S_) = (0 : EReal) from zero_const, zero_add, ← row_zero (x0 := x0) (x1 := x1) (x2 := x2) b h j.isLt]
    exact coe_tot _ (fun k => gradS x0 x1 x2 b h j k) fun k => by rw [idx_main_v80', ref_gradS h0 h1 h2]
  rw [val_main_v83_apply]
  refine (congrArg₂ (fun x y : EReal => x + y) a r).trans ?_
  rw [← EReal.coe_add, add_zero]

/-! ## The results -/

/-- A position and a column of the results, in the heads' arrays. -/
theorem out_idx (r : Fin 8192) (l : Fin 512) : idx_main_v90 (idx_main_v91 (idx_main_v94 (ix2 r l)))
    = ix4 ⟨r / 2048, by omega⟩ ⟨l / 64, by omega⟩ ⟨r % 2048, by omega⟩ ⟨l % 64, by omega⟩ := by
  have := r.isLt; have := l.isLt
  funext a
  apply Fin.ext
  match a with
  | ⟨0, _⟩ => show ((((r : ℕ) * 512 + l) / 1048576 * 2048 + ((r : ℕ) * 512 + l) / 512 % 2048) * 512 + ((r : ℕ) * 512 + l) % 512) / 1048576 = (r : ℕ) / 2048; omega
  | ⟨1, _⟩ => show ((((r : ℕ) * 512 + l) / 1048576 * 2048 + ((r : ℕ) * 512 + l) / 512 % 2048) * 512 + ((r : ℕ) * 512 + l) % 512) / 64 % 8 = (l : ℕ) / 64; omega
  | ⟨2, _⟩ => show ((((r : ℕ) * 512 + l) / 1048576 * 2048 + ((r : ℕ) * 512 + l) / 512 % 2048) * 512 + ((r : ℕ) * 512 + l) % 512) / 512 % 2048 = (r : ℕ) % 2048; omega
  | ⟨3, _⟩ => show ((((r : ℕ) * 512 + l) / 1048576 * 2048 + ((r : ℕ) * 512 + l) / 512 % 2048) * 512 + ((r : ℕ) * 512 + l) % 512) % 64 = (l : ℕ) % 64; omega

theorem ref_outQ (h0 : AllReal x0) (h1 : AllReal x1) (h2 : AllReal x2) : val_main_v95 (F := Ideal) x0 x1 x2 = outQ x0 x1 x2 := by
  funext y
  obtain ⟨r, l, rfl⟩ : ∃ (r : Fin 8192) (l : Fin 512), y = ix2 r l := ⟨y 0, y 1, funext fun a => match a with | 0 => rfl | 1 => rfl⟩
  have e : val_main_v95 (F := Ideal) x0 x1 x2 (ix2 r l) = val_main_v87 (F := Ideal) x0 x1 x2 (idx_main_v90 (idx_main_v91 (idx_main_v94 (ix2 r l)))) := by
    rw [val_main_v95_apply, val_main_v94_apply, val_main_v91_apply, val_main_v90_apply]
    rfl
  rw [e, out_idx, ref_dq h0 h1 h2]
  exact congrArg _ (nums_dq _ l.isLt (Nat.mod_lt _ (by decide))).symm

theorem ref_outK (h0 : AllReal x0) (h1 : AllReal x1) (h2 : AllReal x2) : val_main_v97 (F := Ideal) x0 x1 x2 = outK x0 x1 x2 := by
  funext y
  obtain ⟨r, l, rfl⟩ : ∃ (r : Fin 8192) (l : Fin 512), y = ix2 r l := ⟨y 0, y 1, funext fun a => match a with | 0 => rfl | 1 => rfl⟩
  have e : val_main_v97 (F := Ideal) x0 x1 x2 (ix2 r l) = val_main_v84 (F := Ideal) x0 x1 x2 (idx_main_v90 (idx_main_v91 (idx_main_v94 (ix2 r l)))) := by
    rw [val_main_v97_apply, val_main_v96_apply, val_main_v89_apply, val_main_v88_apply]
    rfl
  rw [e, out_idx, ref_dk h0 h1 h2]
  exact congrArg _ (nums_dk _ _ l.isLt).symm

theorem ref_outV (h0 : AllReal x0) (h1 : AllReal x1) (h2 : AllReal x2) : val_main_v99 (F := Ideal) x0 x1 x2 = outV x0 x1 x2 := by
  funext y
  obtain ⟨r, l, rfl⟩ : ∃ (r : Fin 8192) (l : Fin 512), y = ix2 r l := ⟨y 0, y 1, funext fun a => match a with | 0 => rfl | 1 => rfl⟩
  have e : val_main_v99 (F := Ideal) x0 x1 x2 (ix2 r l) = val_main_v61 (F := Ideal) x0 x1 x2 (idx_main_v90 (idx_main_v91 (idx_main_v94 (ix2 r l)))) := by
    rw [val_main_v99_apply, val_main_v98_apply, val_main_v93_apply, val_main_v92_apply]
    rfl
  rw [e, out_idx, ref_dv h0 h1 h2]
  exact congrArg _ (nums_dv _ _ l.isLt).symm

theorem pair_idx (b n : Fin 4) (e : Fin 2) (j : Fin 2048) : idx_main_v100 (ix4 b n e j) = ix3 b ⟨2 * n + e, by omega⟩ j := by
  have := b.isLt; have := n.isLt; have := e.isLt; have := j.isLt
  funext a
  apply Fin.ext
  match a with
  | ⟨0, _⟩ => show ((((b : ℕ) * 4 + n) * 2 + e) * 2048 + j) / 16384 = b; omega
  | ⟨1, _⟩ => show ((((b : ℕ) * 4 + n) * 2 + e) * 2048 + j) / 2048 % 8 = 2 * n + e; omega
  | ⟨2, _⟩ => show ((((b : ℕ) * 4 + n) * 2 + e) * 2048 + j) % 2048 = j; omega

theorem ref_outF (h0 : AllReal x0) (h1 : AllReal x1) (h2 : AllReal x2) : val_main_v101 (F := Ideal) x0 x1 x2 = outF x0 x1 x2 := by
  funext y
  obtain ⟨b, n, e, j, rfl⟩ : ∃ (b n : Fin 4) (e : Fin 8) (j : Fin 2048), y = ix4 b n e j :=
    ⟨y 0, y 1, y 2, y 3, funext fun a => match a with | 0 => rfl | 1 => rfl | 2 => rfl | 3 => rfl⟩
  refine (padRows_at (val_main_v100 (F := Ideal) x0 x1 x2) b n e j).trans ?_
  show _ = (((numsOf x0 x1 x2 b n).df 2048 e j : ℝ) : EReal)
  unfold Nums.df
  by_cases he : (e : ℕ) < 2
  · rw [dif_pos he, if_pos he, val_main_v100_apply]
    refine (congrArg (val_main_v83 (F := Ideal) x0 x1 x2) (pair_idx b n ⟨e, he⟩ j)).trans ((ref_df h0 h1 h2 b _ j).trans ?_)
    refine congrArg Real.toEReal (congrArg (- ·) (Finset.sum_congr rfl fun i hi => ?_))
    exact (nums_dS b n he n.isLt (Finset.mem_range.mp hi) j).symm
  · rw [dif_neg he, if_neg he]

end Cert.AttnProof

end
-- ==== Proof.Attn.Claim.lean ====
/- The attention's gradients: the kernel and the reference end with equal results. -/
module

public import proofs.«01_k».proof.Proof.Attn.Reference
public import proofs.«01_k».proof.Proof.Gen.AttnIdeal.Value
public import proofs.«01_k».proof.Proof.Gen.AttnRefIdeal.Run
public import proofs.«01_k».proof.Proof.Gen.Pre_finite_attn
public import proofs.«01_k».proof.Defs

@[expose] public section

set_option maxRecDepth 16384

noncomputable section

namespace Cert.AttnProof

open Idealize.ShloMosaic Idealize.ShloMosaic.TcCoe Idealize.SL.Sem
open Cert.Reals (AllReal allReal_of_finite)

/-- The precondition makes the three arguments arrays of reals. -/
theorem args_real (m : (ℓ : Loc Cert.AttnIdeal.nD Cert.AttnIdeal.τ Cert.AttnIdeal.sig) → Buf (Elt Ideal) ℓ)
    (h : Cert.Pre_AttnIdeal_finite_attn m) (c : Dev Cert.AttnIdeal.nD) :
    AllReal (arg0 m c) ∧ AllReal (arg1 m c) ∧ AllReal (arg2 m c) := by
  have q := h c
  exact ⟨allReal_of_finite _ _ q.1 fun i => rfl, allReal_of_finite _ _ q.2.1 fun i => rfl, allReal_of_finite _ _ q.2.2 fun i => rfl⟩

/-- The reference runs, keeps its arguments and ends with every counter at zero: it has no semaphore. -/
theorem frame_ref : Cert.quiescent_AttnRefIdeal := fun m g _ =>
  (θ_run Cert.AttnRefIdeal.defs _ _).mono
    (fun r h => ⟨fun c => (h c).2.2.2.2, sem_eq_zero_of_no_sems (by decide) r.2⟩)
    (Cert.AttnRefIdeal.Value.run (F := Ideal) m g)

/-- The value claim. -/
theorem algebraic : Cert.algebraic_AttnIdeal_AttnRefIdeal_pre_finite_attn := by
  intro m g m' g' hpre hargs
  refine ⟨fun c => outQ (arg0 m c) (arg1 m c) (arg2 m c), fun c => outK (arg0 m c) (arg1 m c) (arg2 m c),
    fun c => outV (arg0 m c) (arg1 m c) (arg2 m c), fun c => outF (arg0 m c) (arg1 m c) (arg2 m c), ?_, ?_⟩
  · refine (θ_run Cert.AttnIdeal.defs _ _).mono (fun r h c => ?_) (Cert.AttnIdeal.Value.run_blocks (F := Ideal) m g)
    obtain ⟨h0, h1, h2⟩ := args_real m hpre c
    exact ⟨(h c).1.trans (final7 c h0 h1 h2), (h c).2.1.trans (final8 c h0 h1 h2), (h c).2.2.1.trans (final9 c h0 h1 h2),
      (h c).2.2.2.1.trans (final10 c h0 h1 h2), (h c).2.2.2.2⟩
  · refine (θ_run Cert.AttnRefIdeal.defs _ _).mono (fun r h c => ?_) (Cert.AttnRefIdeal.Value.run (F := Ideal) m' g')
    obtain ⟨h0, h1, h2⟩ := args_real m hpre c
    obtain ⟨e0, e1, e2⟩ := hargs c
    refine ⟨(h c).1.trans ?_, (h c).2.1.trans ?_, (h c).2.2.1.trans ?_, (h c).2.2.2.1.trans ?_, (h c).2.2.2.2⟩
    · rw [Cert.AttnRefIdeal.Read.val_main_v95_eq, e0, e1, e2]
      exact ref_outQ h0 h1 h2
    · rw [Cert.AttnRefIdeal.Read.val_main_v97_eq, e0, e1, e2]
      exact ref_outK h0 h1 h2
    · rw [Cert.AttnRefIdeal.Read.val_main_v99_eq, e0, e1, e2]
      exact ref_outV h0 h1 h2
    · rw [Cert.AttnRefIdeal.Read.val_main_v101_eq, e0, e1, e2]
      exact ref_outF h0 h1 h2

end Cert.AttnProof

end
-- ==== Proof.Tables.lean ====
/- Tables of real numbers: what the operations of the kernels' bodies do to arrays of two axes whose entries are known reals.
   The row-wise norm, its derivative, and reading arguments of two and three axes at natural numbers. -/
module

public import proofs.«01_k».proof.Proof.Reals
public import Idealize.ShloMosaic.Lib.Pipeline.ValueKit
public import Idealize.ShloMosaic.Lib.MatmulPlain
public import Idealize.ShloMosaic.Lib.ValueLayout
public import Idealize.ShloMosaic.Lib.ValueLayoutCasts
public import Idealize.ShloMosaic.Lib.Pointwise
public import Idealize.ShloMosaic.Lib.WritesUnit

@[expose] public section

set_option maxRecDepth 16384

noncomputable section

namespace Cert.Tables

open Idealize.ShloMosaic Idealize.ShloMosaic.TcCoe
open Cert.Reals (AllReal rd3 rd3_eq rd3_at)

/-- A table of `a` rows and `b` columns. -/
abbrev S2 (a b : ℕ) : Shape := ⟨2, ![a, b]⟩

/-- A table holds `x`. -/
def IsMat {a b : ℕ} {φ : FTy} (x : ℕ → ℕ → ℝ) (X : FVec Ideal (S2 a b) φ) : Prop := ∀ (i : Fin a) (j : Fin b), (X (ix2 i j) : EReal) = ((x i j : ℝ) : EReal)

/-- The product of a transposed left operand: both contracted on their rows. -/
def tn (M K N : ℕ) : DotDims (S2 M K) (S2 M N) (S2 K N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap _ _ _,
    by simpa [List.finRange] using List.Perm.swap _ _ _, rfl, Nat.two_pos, fun b => by fin_cases b <;> rfl⟩

theorem zero_f32 : Ideal.ofBits .f32 0x00000000#32 = (0 : EReal) := by simp [Ideal.ofBits, Ideal.ieee]
theorem one_f32 : Ideal.ofBits .f32 0x3F800000#32 = ((1 : ℝ) : EReal) := by
  simp [Ideal.ofBits, Ideal.ieee]; norm_num; rw [← EReal.coe_mul]; norm_num
theorem width_f32 : Ideal.ofBits .f32 0x44800000#32 = ((1024 : ℝ) : EReal) := by
  simp [Ideal.ofBits, Ideal.ieee]; norm_num; rw [← EReal.coe_mul]; norm_num
theorem neg_half_f32 : Ideal.ofBits .f32 0xBF000000#32 = ((-(1 / 2) : ℝ) : EReal) := by
  simp [Ideal.ofBits, Ideal.ieee]; norm_num; rw [← EReal.coe_mul]; norm_num
theorem two_f32 : Ideal.ofBits .f32 0x40000000#32 = ((2 : ℝ) : EReal) := by
  simp [Ideal.ofBits, Ideal.ieee]; norm_num; rw [← EReal.coe_mul]; norm_num

/-- The norm's small constant. -/
def eps : ℝ := (Ideal.ofBits .f32 0x358637BD#32).toReal

theorem eps_spec : Ideal.ofBits .f32 0x358637BD#32 = ((eps : ℝ) : EReal) ∧ 0 < eps := by
  have h : ∃ r : ℝ, 0 < r ∧ Ideal.ofBits .f32 0x358637BD#32 = (r : EReal) :=
    ⟨8796093 * (2 ^ 43)⁻¹, by positivity, by simp [Ideal.ofBits, Ideal.ieee]⟩
  obtain ⟨r, hr, e⟩ := h
  have he : eps = r := by unfold eps; rw [e, EReal.toReal_coe]
  rw [he]; exact ⟨e, hr⟩

theorem sum_coe {n : ℕ} (f : ℕ → ℝ) : (∑ k : Fin n, ((f k : ℝ) : EReal)) = ((∑ k ∈ Finset.range n, f k : ℝ) : EReal) := by
  rw [← Cert.Reals.coe_sum, Fin.sum_univ_eq_sum_range]

/-- A sum of terms known one by one. -/
theorem sum_known {n : ℕ} {f : Fin n → EReal} (g : ℕ → ℝ) (h : ∀ k : Fin n, f k = ((g k : ℝ) : EReal)) :
    ∑ k : Fin n, f k = ((∑ k ∈ Finset.range n, g k : ℝ) : EReal) := (Finset.sum_congr rfl fun k _ => h k).trans (sum_coe g)

theorem cast_self {α : Type} {s : Shape} (X : s.Idx → α) (h : s.ShapeCasts s) : shapeCast s X h = X :=
  funext fun i => shapeCast_apply X h i i rfl

section Ops
variable {M N K : ℕ} {φ ψ : FTy} {x y : ℕ → ℕ → ℝ}

theorem IsMat.congr {X : FVec Ideal (S2 M N) φ} (h : IsMat x X) (e : ∀ i j, i < M → j < N → x i j = y i j) : IsMat y X :=
  fun i j => (h i j).trans (congrArg _ (e i j i.isLt j.isLt))

theorem IsMat.cast {X : FVec Ideal (S2 M N) φ} (hX : IsMat x X) (h : (S2 M N).ShapeCasts (S2 M N)) : IsMat x (shapeCast (S2 M N) X h) := by
  rw [cast_self]; exact hX

theorem IsMat.dotT {X : FVec Ideal (S2 M K) φ} {Y : FVec Ideal (S2 N K) ψ} (hX : IsMat x X) (hY : IsMat y Y) :
    IsMat (fun i j => ∑ l ∈ Finset.range K, x i l * y j l) (matmul (DotDims.transposedRhs M K N) none X Y (constant (S2 M N) .f32 0x00000000#32)) := by
  intro i j
  refine (Ideal.matmul_transposedRhs_apply none X Y _ i j).trans ?_
  show Ideal.ofBits .f32 0x00000000#32 + ∑ k : Fin K, X (ix2 i k) * Y (ix2 j k) = _
  rw [zero_f32, zero_add]
  exact sum_known (fun l => x i l * y j l) fun l => by rw [hX i l, hY j l, ← EReal.coe_mul]

theorem IsMat.dot {X : FVec Ideal (S2 M K) φ} {Y : FVec Ideal (S2 K N) ψ} (hX : IsMat x X) (hY : IsMat y Y) :
    IsMat (fun i j => ∑ l ∈ Finset.range K, x i l * y l j) (matmul (DotDims.plain M K N) none X Y (constant (S2 M N) .f32 0x00000000#32)) := by
  intro i j
  refine (Ideal.matmul_plain_apply none X Y _ i j).trans ?_
  show Ideal.ofBits .f32 0x00000000#32 + ∑ k : Fin K, X (ix2 i k) * Y (ix2 k j) = _
  rw [zero_f32, zero_add]
  exact sum_known (fun l => x i l * y l j) fun l => by rw [hX i l, hY l j, ← EReal.coe_mul]

theorem IsMat.tn {X : FVec Ideal (S2 M K) φ} {Y : FVec Ideal (S2 M N) ψ} (hX : IsMat x X) (hY : IsMat y Y) :
    IsMat (fun i j => ∑ l ∈ Finset.range M, x l i * y l j) (matmul (tn M K N) none X Y (constant (S2 K N) .f32 0x00000000#32)) := by
  intro i j
  refine (Ideal.matmul_apply₁_of (Tables.tn M K N) (a := 0) rfl (K := M) rfl X Y _ (ix2 i j) (fun k => ix2 k i) (fun k => ix2 k j)
    (fun k => funext fun a => match a with | ⟨0, _⟩ => rfl | ⟨1, _⟩ => rfl) (fun k => funext fun a => match a with | ⟨0, _⟩ => rfl | ⟨1, _⟩ => rfl)).trans ?_
  rw [show (constant (F := Ideal) (S2 K N) .f32 0x00000000#32) (ix2 i j) = 0 from zero_f32, zero_add]
  exact sum_known (fun l => x l i * y l j) fun l => by rw [hX l i, hY l j, ← EReal.coe_mul]

variable {X Y : FVec Ideal (S2 M N) φ}

theorem IsMat.mul (hX : IsMat x X) (hY : IsMat y Y) : IsMat (fun i j => x i j * y i j) (mulf X Y) := fun i j =>
  (congrArg₂ (· * ·) (hX i j) (hY i j)).trans (EReal.coe_mul _ _).symm

theorem IsMat.add (hX : IsMat x X) (hY : IsMat y Y) : IsMat (fun i j => x i j + y i j) (addf X Y) := fun i j =>
  (congrArg₂ (· + ·) (hX i j) (hY i j)).trans (EReal.coe_add _ _).symm

theorem IsMat.sub (hX : IsMat x X) (hY : IsMat y Y) : IsMat (fun i j => x i j - y i j) (subf X Y) := fun i j =>
  (congrArg₂ (· - ·) (hX i j) (hY i j)).trans (EReal.coe_sub _ _).symm

theorem IsMat.divc {c : Ideal φ} {k : ℝ} (hX : IsMat x X) (hc : c = ((k : ℝ) : EReal)) (hk : k ≠ 0) :
    IsMat (fun i j => x i j * (1 / k)) (divf X (broadcast (S2 M N) c)) := fun i j => by
  show Ideal.div (X (ix2 i j)) c = _
  rw [hc, Ideal.div_coe hk, hX i j, ← EReal.coe_mul]

theorem isMat_broadcast {c : Ideal φ} {k : ℝ} (hc : c = ((k : ℝ) : EReal)) : IsMat (fun _ _ => k) (broadcast (S2 M N) c) := fun _ _ => hc

theorem IsMat.rsqrt (hX : IsMat x X) (hp : ∀ i j, i < M → j < N → 0 < x i j) : IsMat (fun i j => (Real.sqrt (x i j))⁻¹) (rsqrt X) := fun i j => by
  show Ideal.rsqrt (X (ix2 i j)) = _
  have h := hp i j i.isLt j.isLt
  rw [hX i j, Ideal.rsqrt_coe, if_neg (not_lt.mpr h.le), if_neg h.ne']

/-- The sum of every row, as a column. -/
theorem IsMat.rowSum {X : FVec Ideal (S2 M N) .f32} (hX : IsMat x X) (h : (S2 M N).Reduces [1] ⟨1, ![M]⟩) (h' : (⟨1, ![M]⟩ : Shape).ShapeCasts (S2 M 1)) :
    IsMat (fun i _ => ∑ k ∈ Finset.range N, x i k) (shapeCast (S2 M 1) (multiReduction .add [1] ⟨1, ![M]⟩ X 0x00000000#32 h (.inl rfl) rfl) h') := by
  intro i j
  obtain rfl : j = 0 := Fin.ext (Nat.lt_one_iff.mp j.isLt)
  refine (shapeCast_apply _ h' _ (ix1 i) (by
    rw [Shape.rowMajor_val_two, Shape.rowMajor_val_one]
    show (i : ℕ) = i * 1 + 0
    omega)).trans ?_
  exact (Ideal.reduceAdd_r2_a1 h X (ix1 i)).trans (sum_known (fun k => x i k) fun k => hX i k)

/-- The sum of every column, as a row. -/
theorem IsMat.colSum {X : FVec Ideal (S2 M N) .f32} (hX : IsMat x X) (h : (S2 M N).Reduces [0] ⟨1, ![N]⟩) (h' : (⟨1, ![N]⟩ : Shape).ShapeCasts (S2 1 N)) :
    IsMat (fun _ j => ∑ k ∈ Finset.range M, x k j) (shapeCast (S2 1 N) (multiReduction .add [0] ⟨1, ![N]⟩ X 0x00000000#32 h (.inl rfl) rfl) h') := by
  intro i j
  obtain rfl : i = 0 := Fin.ext (Nat.lt_one_iff.mp i.isLt)
  refine (shapeCast_apply _ h' _ (ix1 j) (by
    rw [Shape.rowMajor_val_two, Shape.rowMajor_val_one]
    show (j : ℕ) = 0 * N + j
    omega)).trans ?_
  exact (Ideal.reduceAdd_r2_a0 h X (ix1 j)).trans (sum_known (fun k => x k j) fun k => hX k j)

/-- A column beside itself. -/
theorem IsMat.cols {X : FVec Ideal (S2 M 1) φ} (hX : IsMat x X) (h : (S2 M 1).Broadcasts (S2 M N)) : IsMat (fun i _ => x i 0) (broadcastTo (S2 M N) X h) := fun i j =>
  (broadcastTo_apply X h _ (ix2 i 0) fun a => match a with
    | ⟨0, _⟩ => by
      show (i : ℕ) = if M = 1 then 0 else (i : ℕ)
      split
      · have := i.isLt; omega
      · rfl
    | ⟨1, _⟩ => rfl).trans (hX i 0)

/-- A row below itself. -/
theorem IsMat.rows {X : FVec Ideal (S2 1 N) φ} (hX : IsMat x X) (h : (S2 1 N).Broadcasts (S2 M N)) : IsMat (fun _ j => x 0 j) (broadcastTo (S2 M N) X h) := fun i j =>
  (broadcastTo_apply X h _ (ix2 0 j) fun a => match a with
    | ⟨0, _⟩ => rfl
    | ⟨1, _⟩ => by
      show (j : ℕ) = if N = 1 then 0 else (j : ℕ)
      split
      · have := j.isLt; omega
      · rfl).trans (hX 0 j)

/-- A part of a table, loaded. -/
theorem IsMat.ld {A B : ℕ} {X : FVec Ideal (S2 M N) .f32} {o p : ℕ} (inb : ∀ a, (![o, p] : Fin 2 → ℕ) a + (![A, B] : Fin 2 → ℕ) a ≤ (S2 M N).size a) (hX : IsMat x X) :
    IsMat (a := A) (b := B) (φ := .f32) (fun i j => x (o + i) (p + j)) (View.ld (Val := Elt Ideal) (e' := .f32) X (Rect.unit (s := S2 M N) ![o, p] ![A, B] inb)) := fun i j => by
  have h0 : o + A ≤ M := inb 0
  have h1 : p + B ≤ N := inb 1
  have hi := i.isLt; have hj := j.isLt
  refine (View.ld_unit_apply_of (Val := Elt Ideal) (e := .f32) X _ _ inb (ix2 i j) (ix2 ⟨o + i, by omega⟩ ⟨p + j, by omega⟩) ?_).trans (hX _ _)
  intro a
  match a with
  | 0 => rfl
  | 1 => rfl

/-- The same of a table of the narrower type. -/
theorem IsMat.ld16 {A B : ℕ} {X : FVec Ideal (S2 M N) .bf16} {o p : ℕ} (inb : ∀ a, (![o, p] : Fin 2 → ℕ) a + (![A, B] : Fin 2 → ℕ) a ≤ (S2 M N).size a) (hX : IsMat x X) :
    IsMat (a := A) (b := B) (φ := .bf16) (fun i j => x (o + i) (p + j)) (View.ld (Val := Elt Ideal) (e' := .bf16) X (Rect.unit (s := S2 M N) ![o, p] ![A, B] inb)) := fun i j => by
  have h0 : o + A ≤ M := inb 0
  have h1 : p + B ≤ N := inb 1
  have hi := i.isLt; have hj := j.isLt
  refine (View.ld_unit_apply_of (Val := Elt Ideal) (e := .bf16) X _ _ inb (ix2 i j) (ix2 ⟨o + i, by omega⟩ ⟨p + j, by omega⟩) ?_).trans (hX _ _)
  intro a
  match a with
  | 0 => rfl
  | 1 => rfl

/-- A change of type changes no entry. -/
theorem IsMat.trunc {X : FVec Ideal (S2 M N) .f32} (hX : IsMat x X) (h : FTy.bits .bf16 < FTy.bits .f32) : IsMat x (truncf .bf16 X h) := hX

theorem IsMat.ext {X : FVec Ideal (S2 M N) .bf16} (hX : IsMat x X) (h : FTy.bits .bf16 < FTy.bits .f32) : IsMat x (extf .f32 X h) := hX

end Ops

/-- A table read at an index whose coordinates are known. -/
theorem IsMat.at {a b : ℕ} {φ : FTy} {x : ℕ → ℕ → ℝ} {X : FVec Ideal (S2 a b) φ} (h : IsMat x X) (z : (S2 a b).Idx) {i j : ℕ} (h0 : i = (z 0 : ℕ)) (h1 : j = (z 1 : ℕ)) :
    (X z : EReal) = ((x i j : ℝ) : EReal) := by
  subst h0 h1
  have e : z = ix2 (z 0) (z 1) := funext fun a => match a with | 0 => rfl | 1 => rfl
  exact (congrArg X e).trans (h (z 0) (z 1))

/-- An entry of an array of two axes, zero outside it. -/
def rd2 {a b : ℕ} (x : (S2 a b).Idx → EReal) (i j : ℕ) : ℝ :=
  if h : i < a ∧ j < b then (x (ix2 ⟨i, h.1⟩ ⟨j, h.2⟩)).toReal else 0

theorem isMat_rd2 {a b : ℕ} {x : FVec Ideal (S2 a b) .f32} (hx : AllReal x) : IsMat (rd2 x) x := fun i j => by
  have e : rd2 x i j = (x (ix2 i j)).toReal := dif_pos ⟨i.isLt, j.isLt⟩
  rw [e]
  exact hx _

theorem rd2_out {a b : ℕ} (x : (S2 a b).Idx → EReal) (i j : ℕ) (h : a ≤ i ∨ b ≤ j) : rd2 x i j = 0 :=
  dif_neg fun q => by omega

/-- The rows of the sequences of an array, one sequence after another. -/
def row3 {a c : ℕ} (x : (⟨3, ![a, 2048, c]⟩ : Shape).Idx → EReal) (r l : ℕ) : ℝ := rd3 x (r / 2048) (r % 2048) l

/-- The reciprocal root mean square of row `r`. -/
def inv (x : ℕ → ℕ → ℝ) (r : ℕ) : ℝ := (Real.sqrt ((∑ k ∈ Finset.range 1024, x r k * x r k) * (1 / 1024) + eps))⁻¹

theorem meansq_pos (x : ℕ → ℕ → ℝ) (r : ℕ) : 0 < (∑ k ∈ Finset.range 1024, x r k * x r k) * (1 / 1024) + eps := by
  have h1 : 0 ≤ ∑ k ∈ Finset.range 1024, x r k * x r k := Finset.sum_nonneg fun k _ => mul_self_nonneg _
  have := eps_spec.2
  positivity

/-- The gradient of the norm of row `r`, from the gradient `d` of the row divided by its root mean square. -/
def normGrad (x d : ℕ → ℕ → ℝ) (r l : ℕ) : ℝ :=
  inv x r * (d r l - x r l * inv x r * ((∑ k ∈ Finset.range 1024, d r k * (x r k * inv x r)) * (1 / 1024)))

/-- The same gradient as the derivatives of the reciprocal root and of the square give it. -/
theorem normGrad_eq (x d : ℕ → ℕ → ℝ) (r l : ℕ) :
    d r l * inv x r + (∑ k ∈ Finset.range 1024, x r k * d r k)
      * (-(1 / 2) * (inv x r * (1 / ((∑ k ∈ Finset.range 1024, x r k * x r k) * (1 / 1024) + eps)))) * (1 / 1024) * (2 * x r l) = normGrad x d r l := by
  have hp := meansq_pos x r
  unfold normGrad
  have e : ∑ k ∈ Finset.range 1024, d r k * (x r k * inv x r) = (∑ k ∈ Finset.range 1024, x r k * d r k) * inv x r := by
    rw [Finset.sum_mul]
    exact Finset.sum_congr rfl fun k _ => by ring
  have q : 1 / ((∑ k ∈ Finset.range 1024, x r k * x r k) * (1 / 1024) + eps) = inv x r * inv x r := by
    unfold inv
    rw [← mul_inv, Real.mul_self_sqrt hp.le, one_div]
  rw [e, q]
  ring

/-! ## An accumulator of which only the first row is written -/

section FirstRow
variable {M N : ℕ} {φ : FTy}

/-- A table whose first row is `y` and whose other rows are zero. -/
def firstRow (y : ℕ → ℝ) (i j : ℕ) : ℝ := if i = 0 then y j else 0

/-- Storing the first row over a table of zeros. -/
theorem isMat_store_zero [NeZero M] (inb : ∀ a, (![0, 0] : Fin 2 → ℕ) a + (![1, N] : Fin 2 → ℕ) a ≤ (S2 M N).size a)
    (inb' : ∀ a, (![0, 0] : Fin 2 → ℕ) a + (![M, N] : Fin 2 → ℕ) a ≤ (S2 M N).size a) {w : ℕ → ℕ → ℝ} {W : FVec Ideal (S2 1 N) .f32} {Z : FVec Ideal (S2 M N) .f32}
    (hW : IsMat w W) (hZ : IsMat (fun _ _ => 0) Z) :
    IsMat (φ := .f32) (firstRow (w 0)) (View.canon (Val := Elt Ideal) (s := S2 M N) (e := .f32) [⟨Rect.unit (s := S2 M N) ![0, 0] ![1, N] inb, W⟩, ⟨Rect.unit (s := S2 M N) ![0, 0] ![M, N] inb', Z⟩]) := by
  intro r l
  by_cases hr : (r : ℕ) = 0
  · have e : (ix2 r l : (S2 M N).Idx) = (Rect.unit (s := S2 M N) ![0, 0] ![1, N] inb).emb (ix2 0 l) := by
      funext a; apply Fin.ext; match a with
      | 0 => show (r : ℕ) = 0 + 1 * 0; omega
      | 1 => show (l : ℕ) = 0 + 1 * l; omega
    rw [e]
    have q := View.canon_cons_emb (Val := Elt Ideal) (e := .f32) (Rect.unit (s := S2 M N) ![0, 0] ![1, N] inb) W
      [⟨Rect.unit (s := S2 M N) ![0, 0] ![M, N] inb', Z⟩] (ix2 0 l)
    refine q.trans ?_
    rw [firstRow, if_pos hr]
    exact hW 0 l
  · refine (View.canon_cons_of_not_mem _ _ ?_).trans ?_
    · rw [Rect.mem_set_unit]
      intro h
      have h0 : (r : ℕ) < 0 + 1 := (h 0).2
      omega
    · rw [firstRow, if_neg hr, View.canon_cons_unit_lit']
      · exact hZ r l
      · intro a; match a with
        | 0 => rfl
        | 1 => rfl

/-- Storing the first row over what was there. -/
theorem isMat_store_over {sp : Space} {sig : RefSig} {κ : Kind} (V : View sig κ sp (S2 M N) .f32) (f : V.ref.ty.Contents (Elt Ideal))
    (inb : ∀ a, (![0, 0] : Fin 2 → ℕ) a + (![1, N] : Fin 2 → ℕ) a ≤ (S2 M N).size a) {w : ℕ → ℕ → ℝ} {y : ℕ → ℝ} {W : FVec Ideal (S2 1 N) .f32}
    (hW : IsMat w W) (hf : IsMat (φ := .f32) (firstRow y) (View.read (Elt Ideal) V f)) :
    IsMat (φ := .f32) (firstRow (w 0)) (View.read (Elt Ideal) V (V.writes (Elt Ideal) f [⟨Rect.unit (s := S2 M N) ![0, 0] ![1, N] inb, W⟩])) := by
  intro r l
  by_cases hr : (r : ℕ) = 0
  · refine (View.read_writes_cons_unit_of_mem _ _ inb _ _ _ (ix2 0 l) rfl ?_).trans ((hW 0 l).trans ?_)
    · intro a
      match a with
      | 0 => exact hr
      | 1 => exact (Nat.zero_add _).symm
    · rw [firstRow, if_pos hr]; rfl
  · refine (View.read_writes_cons_unit_of_not_mem _ _ inb _ _ _ rfl 0 (Or.inr (by show 0 + 1 ≤ (r : ℕ); omega))).trans ((hf r l).trans ?_)
    rw [firstRow, firstRow, if_neg hr, if_neg hr]

/-- The first row, loaded. -/
theorem IsMat.firstRow_ld [NeZero M] {X : FVec Ideal (S2 M N) .f32} {y : ℕ → ℝ} (inb : ∀ a, (![0, 0] : Fin 2 → ℕ) a + (![1, N] : Fin 2 → ℕ) a ≤ (S2 M N).size a)
    (hX : IsMat (firstRow y) X) : IsMat (φ := .f32) (fun _ j => y j) (View.ld (Val := Elt Ideal) (e' := .f32) X (Rect.unit (s := S2 M N) ![0, 0] ![1, N] inb)) :=
  (IsMat.ld (A := 1) (B := N) inb hX).congr fun i j hi _ => by
    obtain rfl : i = 0 := by omega
    show firstRow y (0 + 0) (0 + j) = y j
    rw [firstRow, if_pos rfl, Nat.zero_add]

end FirstRow

end Cert.Tables

end
-- ==== Proof.InProj.Point.lean ====
/- What a grid point of the input projection's backward pass leaves in its three output blocks, at the reals. -/
module

public import proofs.«01_k».proof.Proof.Tables
public import proofs.«01_k».proof.Proof.Gen.InProjIdeal.Frame

@[expose] public section

set_option maxRecDepth 16384

noncomputable section

namespace Cert.InProjProof

open Cert.InProjIdeal Cert.InProjIdeal.Gen Idealize.ShloMosaic Idealize.ShloMosaic.TcCoe Idealize.SL.Sem
open Cert.Tables

/-- The forget gates' columns, which come last among the weight's rows and are padded to 128. -/
def forgetCol (d : ℕ → ℕ → ℝ) (i k : ℕ) : ℝ := if k < 8 then d i (3072 + k) else 0

/-- The weight's rows in the order in which the kernel holds them. -/
def wRow (w : ℕ → ℕ → ℝ) (k l : ℕ) : ℝ :=
  if k < 3072 then w l k else if k < 5120 then w l (k + 8) else if k < 5128 then w l (k - 2048) else 0

/-- The gradient of the normed row. -/
def dh (d w : ℕ → ℕ → ℝ) (i l : ℕ) : ℝ := ∑ k ∈ Finset.range 5128, d i k * w l k

/-- The six products of the column parts sum up to the product over all columns. -/
theorem sum_parts (d w : ℕ → ℕ → ℝ) (i l : ℕ) :
    (∑ k ∈ Finset.range 1536, d i k * wRow w (0 + k) (0 + l)) + (∑ k ∈ Finset.range 512, d i (1536 + k) * wRow w (1536 + k) (0 + l))
      + (∑ k ∈ Finset.range 512, d i (2048 + k) * wRow w (2048 + k) (0 + l)) + (∑ k ∈ Finset.range 512, d i (2560 + k) * wRow w (2560 + k) (0 + l))
      + (∑ k ∈ Finset.range 2048, d i (3080 + k) * wRow w (3072 + k) (0 + l)) + (∑ k ∈ Finset.range 128, forgetCol d i k * wRow w (5120 + k) (0 + l))
      = dh d w i l := by
  have e : ∀ n o p : ℕ, (∀ k < n, wRow w (o + k) (0 + l) = w l (p + k)) →
      (∑ k ∈ Finset.range n, d i (p + k) * wRow w (o + k) (0 + l)) = ∑ k ∈ Finset.range n, d i (p + k) * w l (p + k) :=
    fun n o p h => Finset.sum_congr rfl fun k hk => by rw [h k (Finset.mem_range.mp hk)]
  have e0 := e 1536 0 0 fun k hk => by rw [wRow, if_pos (by omega), Nat.zero_add l]
  simp only [Nat.zero_add] at e0
  have e5 : (∑ k ∈ Finset.range 128, forgetCol d i k * wRow w (5120 + k) (0 + l)) = ∑ k ∈ Finset.range 8, d i (3072 + k) * w l (3072 + k) := by
    rw [show (128 : ℕ) = 8 + 120 from rfl, Finset.sum_range_add]
    have z : ∑ k ∈ Finset.range 120, forgetCol d i (8 + k) * wRow w (5120 + (8 + k)) (0 + l) = 0 :=
      Finset.sum_eq_zero fun k _ => by rw [forgetCol, if_neg (by omega), zero_mul]
    rw [z, add_zero]
    refine Finset.sum_congr rfl fun k hk => ?_
    have := Finset.mem_range.mp hk
    rw [forgetCol, if_pos this, wRow, if_neg (by omega), if_neg (by omega), if_pos (by omega), show 5120 + k - 2048 = 3072 + k by omega, Nat.zero_add]
  simp only [Nat.zero_add] at e0 e5 e ⊢
  rw [e0, e5, e 512 1536 1536 fun k hk => by rw [wRow, if_pos (by omega)], e 512 2048 2048 fun k hk => by rw [wRow, if_pos (by omega)],
    e 512 2560 2560 fun k hk => by rw [wRow, if_pos (by omega)],
    e 2048 3072 3080 fun k hk => by rw [wRow, if_neg (by omega), if_pos (by omega), show 3072 + k + 8 = 3080 + k by omega]]
  unfold dh
  rw [show (5128 : ℕ) = 1536 + 512 + 512 + 512 + 8 + 2048 from rfl]
  simp only [Finset.sum_range_add]
  ring

variable {d w x g z : ℕ → ℕ → ℝ}

section Pay
variable {b0 : FVec Ideal S512x1536 .bf16} {b1 b2 b3 : FVec Ideal S512x512 .bf16} {b4 : FVec Ideal S512x2048 .bf16} {b5 : FVec Ideal S512x128 .bf16}
  {b6 : FVec Ideal S5248x1024 .bf16} {b7 b9 : FVec Ideal S512x1024 .f32} {b8 : FVec Ideal S1x1024 .f32}

/-- The gradient of the normed rows, of a tile's blocks. -/
def dhOf (b0 : FVec Ideal S512x1536 .bf16) (b1 b2 b3 : FVec Ideal S512x512 .bf16) (b4 : FVec Ideal S512x2048 .bf16) (b5 : FVec Ideal S512x128 .bf16)
    (b6 : FVec Ideal S5248x1024 .bf16) : FVec Ideal S512x1024 .f32 :=
  k0_pay6
    (k0_pay4 b0 (View.ld (Val := Elt Ideal) (e' := .bf16) b6 (Rect.unit (s := S5248x1024) ![0, 0] ![1536, 1024] inb_S5248x1024_S1536x1024_0_0))
      b1 (View.ld (Val := Elt Ideal) (e' := .bf16) b6 (Rect.unit (s := S5248x1024) ![1536, 0] ![512, 1024] inb_S5248x1024_S512x1024_1536_0))
      b2 (View.ld (Val := Elt Ideal) (e' := .bf16) b6 (Rect.unit (s := S5248x1024) ![2048, 0] ![512, 1024] inb_S5248x1024_S512x1024_2048_0))
      b3 (View.ld (Val := Elt Ideal) (e' := .bf16) b6 (Rect.unit (s := S5248x1024) ![2560, 0] ![512, 1024] inb_S5248x1024_S512x1024_2560_0)))
    (k0_pay5 b4 (View.ld (Val := Elt Ideal) (e' := .bf16) b6 (Rect.unit (s := S5248x1024) ![3072, 0] ![2048, 1024] inb_S5248x1024_S2048x1024_3072_0)))
    b5 (View.ld (Val := Elt Ideal) (e' := .bf16) b6 (Rect.unit (s := S5248x1024) ![5120, 0] ![128, 1024] inb_S5248x1024_S128x1024_5120_0))

/-- The row gradient's update, of a tile's blocks. -/
def rowGrad (b0 : FVec Ideal S512x1536 .bf16) (b1 b2 b3 : FVec Ideal S512x512 .bf16) (b4 : FVec Ideal S512x2048 .bf16) (b5 : FVec Ideal S512x128 .bf16)
    (b6 : FVec Ideal S5248x1024 .bf16) (b7 : FVec Ideal S512x1024 .f32) (v : FVec Ideal S1x1024 .f32) : FVec Ideal S1x1024 .f32 :=
  k0_pay10
    (k0_pay4 b0 (View.ld (Val := Elt Ideal) (e' := .bf16) b6 (Rect.unit (s := S5248x1024) ![0, 0] ![1536, 1024] inb_S5248x1024_S1536x1024_0_0))
      b1 (View.ld (Val := Elt Ideal) (e' := .bf16) b6 (Rect.unit (s := S5248x1024) ![1536, 0] ![512, 1024] inb_S5248x1024_S512x1024_1536_0))
      b2 (View.ld (Val := Elt Ideal) (e' := .bf16) b6 (Rect.unit (s := S5248x1024) ![2048, 0] ![512, 1024] inb_S5248x1024_S512x1024_2048_0))
      b3 (View.ld (Val := Elt Ideal) (e' := .bf16) b6 (Rect.unit (s := S5248x1024) ![2560, 0] ![512, 1024] inb_S5248x1024_S512x1024_2560_0)))
    (k0_pay5 b4 (View.ld (Val := Elt Ideal) (e' := .bf16) b6 (Rect.unit (s := S5248x1024) ![3072, 0] ![2048, 1024] inb_S5248x1024_S2048x1024_3072_0)))
    b5 (View.ld (Val := Elt Ideal) (e' := .bf16) b6 (Rect.unit (s := S5248x1024) ![5120, 0] ![128, 1024] inb_S5248x1024_S128x1024_5120_0)) b7 v

theorem dhOf_mat (h0 : IsMat (fun i k => d i k) b0) (h1 : IsMat (fun i k => d i (1536 + k)) b1) (h2 : IsMat (fun i k => d i (2048 + k)) b2)
    (h3 : IsMat (fun i k => d i (2560 + k)) b3) (h4 : IsMat (fun i k => d i (3080 + k)) b4) (h5 : IsMat (forgetCol d) b5) (h6 : IsMat (wRow w) b6) :
    IsMat (dh d w) (dhOf b0 b1 b2 b3 b4 b5 b6) := by
  have l0 := h6.ld16 (A := 1536) (B := 1024) inb_S5248x1024_S1536x1024_0_0
  have l1 := h6.ld16 (A := 512) (B := 1024) inb_S5248x1024_S512x1024_1536_0
  have l2 := h6.ld16 (A := 512) (B := 1024) inb_S5248x1024_S512x1024_2048_0
  have l3 := h6.ld16 (A := 512) (B := 1024) inb_S5248x1024_S512x1024_2560_0
  have l4 := h6.ld16 (A := 2048) (B := 1024) inb_S5248x1024_S2048x1024_3072_0
  have l5 := h6.ld16 (A := 128) (B := 1024) inb_S5248x1024_S128x1024_5120_0
  have p := ((((((h0.cast shapeCasts_S512x1536_S512x1536).dot (l0.cast shapeCasts_S1536x1024_S1536x1024)).add
    ((h1.cast shapeCasts_S512x512_S512x512).dot (l1.cast shapeCasts_S512x1024_S512x1024))).add
    ((h2.cast shapeCasts_S512x512_S512x512).dot (l2.cast shapeCasts_S512x1024_S512x1024))).add
    ((h3.cast shapeCasts_S512x512_S512x512).dot (l3.cast shapeCasts_S512x1024_S512x1024))).add
    ((h4.cast shapeCasts_S512x2048_S512x2048).dot (l4.cast shapeCasts_S2048x1024_S2048x1024))).add
    ((h5.cast shapeCasts_S512x128_S512x128).dot (l5.cast shapeCasts_S128x1024_S128x1024))
  exact p.congr fun i l _ _ => sum_parts d w i l

theorem pay8_mat (h7 : IsMat x b7) : IsMat (fun i _ => inv x i) (k0_pay8 (F := Ideal) b7) := by
  have p := ((((h7.cast shapeCasts_S512x1024_S512x1024).mul (h7.cast shapeCasts_S512x1024_S512x1024)).rowSum reduces_S512x1024_S512 shapeCasts_S512_S512x1).divc
    (c := Ideal.ofBits .f32 0x44800000#32) (k := 1024) width_f32 (by norm_num)).add (isMat_broadcast eps_spec.1)
  exact p.rsqrt fun i j _ _ => meansq_pos x i

theorem pay9_mat (h7 : IsMat x b7) : IsMat (fun i l => x i l * inv x i) (k0_pay9 (F := Ideal) b7) :=
  (h7.cast shapeCasts_S512x1024_S512x1024).mul ((pay8_mat h7).cols broadcasts_S512x1_S512x1024)

/-- The gradient of the tile's rows. -/
theorem pay1_mat {D : FVec Ideal S512x1024 .f32} {q : ℕ → ℕ → ℝ} (hD : IsMat q D) (h7 : IsMat x b7) (h8 : IsMat (fun _ l => g 0 l) b8) (h9 : IsMat z b9) :
    IsMat (fun i l => z i l + normGrad x (fun i l => q i l * g 0 l) i l) (k0_pay1 (F := Ideal) D (k0_pay8 b7) (k0_pay9 b7) b8 b9) := by
  have p := hD.mul (h8.rows broadcasts_S1x1024_S512x1024)
  have s := ((p.mul (pay9_mat h7)).rowSum reduces_S512x1024_S512 shapeCasts_S512_S512x1).divc
    (c := Ideal.ofBits .f32 0x44800000#32) (k := 1024) width_f32 (by norm_num)
  exact (h9.cast shapeCasts_S512x1024_S512x1024).add (((pay8_mat h7).cols broadcasts_S512x1_S512x1024).mul
    (p.sub ((pay9_mat h7).mul (s.cols broadcasts_S512x1_S512x1024))))

/-- The row gradient's sum over the tile, added to what was there. -/
theorem pay10_mat {v : FVec Ideal S1x1024 .f32} {y : ℕ → ℝ} (h0 : IsMat (fun i k => d i k) b0) (h1 : IsMat (fun i k => d i (1536 + k)) b1) (h2 : IsMat (fun i k => d i (2048 + k)) b2)
    (h3 : IsMat (fun i k => d i (2560 + k)) b3) (h4 : IsMat (fun i k => d i (3080 + k)) b4) (h5 : IsMat (forgetCol d) b5) (h6 : IsMat (wRow w) b6)
    (h7 : IsMat x b7) (hv : IsMat (fun _ l => y l) v) :
    IsMat (fun _ l => y l + ∑ i ∈ Finset.range 512, dh d w i l * (x i l * inv x i)) (rowGrad b0 b1 b2 b3 b4 b5 b6 b7 v) :=
  (hv.cast shapeCasts_S1x1024_S1x1024).add
    (((dhOf_mat h0 h1 h2 h3 h4 h5 h6).mul (pay9_mat h7)).colSum reduces_S512x1024_S1024 shapeCasts_S1024_S1x1024)

/-- The forget gates' part of the weight's gradient over the tile, added to what was there. -/
theorem pay11_mat {v : FVec Ideal S128x1024 .f32} {y : ℕ → ℕ → ℝ} (h5 : IsMat (forgetCol d) b5) (h7 : IsMat x b7) (h8 : IsMat (fun _ l => g 0 l) b8) (hv : IsMat y v) :
    IsMat (fun k l => y k l + ∑ i ∈ Finset.range 512, forgetCol d i k * (x i l * inv x i * g 0 l)) (k0_pay11 (F := Ideal) b7 v b5 b8) :=
  (hv.cast shapeCasts_S128x1024_S128x1024).add ((h5.cast shapeCasts_S512x128_S512x128).tn
    (((pay9_mat h7).mul (h8.rows broadcasts_S1x1024_S512x1024)).trunc bitsLt_bf16_f32))

end Pay

/-! ## The three blocks of a grid point -/

variable {m : (ℓ : Loc nD τ sig) → Buf (Elt Ideal) ℓ} {c : Dev nD}

/-- The operands' blocks at a grid point. -/
structure Tile (m : (ℓ : Loc nD τ sig) → Buf (Elt Ideal) ℓ) (c : Dev nD) (t : Fin cfg0.N) (d w x g z : ℕ → ℕ → ℝ) : Prop where
  h0 : IsMat (a := 512) (b := 1536) (φ := .bf16) (fun i k => d i k) (iblk m c 0 t)
  h1 : IsMat (a := 512) (b := 512) (φ := .bf16) (fun i k => d i (1536 + k)) (iblk m c 1 t)
  h2 : IsMat (a := 512) (b := 512) (φ := .bf16) (fun i k => d i (2048 + k)) (iblk m c 2 t)
  h3 : IsMat (a := 512) (b := 512) (φ := .bf16) (fun i k => d i (2560 + k)) (iblk m c 3 t)
  h4 : IsMat (a := 512) (b := 2048) (φ := .bf16) (fun i k => d i (3080 + k)) (iblk m c 4 t)
  h5 : IsMat (a := 512) (b := 128) (φ := .bf16) (forgetCol d) (iblk m c 5 t)
  h6 : IsMat (a := 5248) (b := 1024) (φ := .bf16) (wRow w) (iblk m c 6 t)
  h7 : IsMat (a := 512) (b := 1024) (φ := .f32) x (iblk m c 7 t)
  h8 : IsMat (a := 1) (b := 1024) (φ := .f32) (fun _ l => g 0 l) (iblk m c 8 t)
  h9 : IsMat (a := 512) (b := 1024) (φ := .f32) z (iblk m c 9 t)

variable {t : Fin cfg0.N}

theorem block10 (T : Tile m c t d w x g z) : IsMat (a := 512) (b := 1024) (φ := .f32) (fun i l => z i l + normGrad x (fun i l => dh d w i l * g 0 l) i l) (outsAt0 m c t.val t.isLt).1 := by
  have q := pay1_mat (dhOf_mat T.h0 T.h1 T.h2 T.h3 T.h4 T.h5 T.h6) T.h7 T.h8 T.h9
  by_cases h0 : t.val % 16 = 0
  · rw [outsAt0_A m c t h0]; frame_out
    exact q
  · rw [outsAt0_B m c t h0]; frame_out
    exact q

theorem block11_first (T : Tile m c t d w x g z) (h0 : t.val % 16 = 0) :
    IsMat (a := 8) (b := 1024) (φ := .f32) (firstRow fun l => 0 + ∑ i ∈ Finset.range 512, dh d w i l * (x i l * inv x i)) (outsAt0 m c t.val t.isLt).2.1 := by
  rw [outsAt0_A m c t h0]; frame_out
  have hz : IsMat (a := 8) (b := 1024) (φ := .f32) (fun _ _ => 0) (k0_pay2 (F := Ideal)) := isMat_broadcast zero_f32
  refine isMat_store_zero (M := 8) (N := 1024) inb_S8x1024_S1x1024_0_0 inb_S8x1024_S8x1024_0_0 (pay10_mat T.h0 T.h1 T.h2 T.h3 T.h4 T.h5 T.h6 T.h7 (y := fun _ => 0) ?_) hz
  rw [View.readCov_eq_canon_ld]
  · refine IsMat.firstRow_ld (M := 8) (N := 1024) (y := fun _ => 0) inb_S8x1024_S1x1024_0_0 fun r l => ?_
    rw [View.canon_cons_unit_lit']
    · rw [firstRow, ite_self]; exact hz r l
    · intro a; match a with
      | 0 => rfl
      | 1 => rfl
  · exact View.cover_of_tiled_head _ _ _ (by rfl)

theorem block11_next (T : Tile m c t d w x g z) (h0 : ¬ t.val % 16 = 0) {y : ℕ → ℝ}
    (hy : IsMat (a := 8) (b := 1024) (φ := .f32) (firstRow y) (outsAt0 m c (t.val - 1) (Nat.lt_of_le_of_lt (Nat.sub_le t.val 1) t.isLt)).2.1) :
    IsMat (a := 8) (b := 1024) (φ := .f32) (firstRow fun l => y l + ∑ i ∈ Finset.range 512, dh d w i l * (x i l * inv x i)) (outsAt0 m c t.val t.isLt).2.1 := by
  rw [outsAt0_B m c t h0]; frame_out
  refine isMat_store_over (M := 8) (N := 1024) _ _ inb_S8x1024_S1x1024_0_0
    (pay10_mat T.h0 T.h1 T.h2 T.h3 T.h4 T.h5 T.h6 T.h7 (IsMat.firstRow_ld (M := 8) (N := 1024) inb_S8x1024_S1x1024_0_0 hy)) (y := y) ?_
  rw [Memref.IsWhole.read_unread]
  exact hy

theorem block12_first (T : Tile m c t d w x g z) (h0 : t.val % 16 = 0) :
    IsMat (a := 128) (b := 1024) (φ := .f32) (fun k l => 0 + ∑ i ∈ Finset.range 512, forgetCol d i k * (x i l * inv x i * g 0 l)) (outsAt0 m c t.val t.isLt).2.2 := by
  rw [outsAt0_A m c t h0]; frame_out
  exact pay11_mat T.h5 T.h7 T.h8 (y := fun _ _ => 0) (isMat_broadcast zero_f32)

theorem block12_next (T : Tile m c t d w x g z) (h0 : ¬ t.val % 16 = 0) {y : ℕ → ℕ → ℝ}
    (hy : IsMat (a := 128) (b := 1024) (φ := .f32) y (outsAt0 m c (t.val - 1) (Nat.lt_of_le_of_lt (Nat.sub_le t.val 1) t.isLt)).2.2) :
    IsMat (a := 128) (b := 1024) (φ := .f32) (fun k l => y k l + ∑ i ∈ Finset.range 512, forgetCol d i k * (x i l * inv x i * g 0 l)) (outsAt0 m c t.val t.isLt).2.2 := by
  rw [outsAt0_B m c t h0]; frame_out
  exact pay11_mat T.h5 T.h7 T.h8 hy

end Cert.InProjProof

end
-- ==== Proof.InProj.Blocks.lean ====
/- What the host's lines leave in the operands of the input projection's backward pass, the blocks of a grid point, and the three results. -/
module

public import proofs.«01_k».proof.Proof.InProj.Point
public import Idealize.ShloMosaic.Lib.StableHlo.ReadAt

@[expose] public section

set_option maxRecDepth 16384

noncomputable section

namespace Cert.InProjProof

open Cert.InProjIdeal Cert.InProjIdeal.Gen Idealize.ShloMosaic Idealize.ShloMosaic.TcCoe Idealize.SL.Sem
open Cert.Tables
open Cert.Reals (AllReal rd3 rd3_eq rd3_at)

section Host
variable {F : FTy → Type} [FloatOps F] (m : (ℓ : Loc nD τ sig) → Buf (Elt F) ℓ) (c : Dev nD)

abbrev arg0 : FVec F S4x2048x1024 .f32 := m ((c.tc : Thread nD τ).loc main_arg0)
abbrev arg1 : FVec F S4x2048x5128 .f32 := m ((c.tc : Thread nD τ).loc main_arg1)
abbrev arg2 : FVec F S4x2048x1024 .f32 := m ((c.tc : Thread nD τ).loc main_arg2)
abbrev arg3 : FVec F S1x1024 .f32 := m ((c.tc : Thread nD τ).loc main_arg3)
abbrev arg4 : FVec F S1024x5128 .f32 := m ((c.tc : Thread nD τ).loc main_arg4)

/-- The weight's rows as the host rearranges them. -/
def wRows (w : FVec F S1024x5128 .f32) : FVec F S5248x1024 .bf16 :=
  concatenate S5248x1024 0
    [⟨S3072x1024, extractStridedSlice S3072x1024 ![0, 0] (truncf .bf16 (transpose S5128x1024 [1, 0] w transposes_S1024x5128_S5128x1024_1_0) bitsLt_bf16_f32) slices_S5128x1024_S3072x1024_0_0⟩,
     ⟨S2048x1024, extractStridedSlice S2048x1024 ![3080, 0] (truncf .bf16 (transpose S5128x1024 [1, 0] w transposes_S1024x5128_S5128x1024_1_0) bitsLt_bf16_f32) slices_S5128x1024_S2048x1024_3080_0⟩,
     ⟨S8x1024, extractStridedSlice S8x1024 ![3072, 0] (truncf .bf16 (transpose S5128x1024 [1, 0] w transposes_S1024x5128_S5128x1024_1_0) bitsLt_bf16_f32) slices_S5128x1024_S8x1024_3072_0⟩,
     ⟨S120x1024, broadcastInDim S120x1024 ![] bcast_S_S120x1024 (constant S_ .bf16 0x0000#16)⟩] concatenates_S3072x1024_S2048x1024_S8x1024_S120x1024_S5248x1024_d0

theorem host_w : (V m c main_v6 : FVec F S5248x1024 .bf16) = wRows (arg4 m c) := by
  unfold V
  simp only [hostOps0, hostOps0_1, hostOps0_2, List.flatten_cons, List.flatten_nil, List.append_nil, List.cons_append, List.nil_append]
  after_reads_simp
  rfl

/-- The forget gates' columns, a row per position, padded to 128 lanes. -/
def padLanes (x : FVec F S8192x8 .f32) : FVec F S8192x128 .f32 :=
  pad S8192x128 ![0, 0] ![0, 120] ![0, 0] x (sitofp .f32 (constantI S_ 32 0#32)) pads_S8192x8_S8192x128_000_01200 h_S_

theorem host_forget : (V m c main_v10 : FVec F S8192x128 .bf16)
    = truncf .bf16 (padLanes (shapeCast _ (extractStridedSlice S4x2048x8 ![0, 0, 3072] (arg1 m c) slices_S4x2048x5128_S4x2048x8_0_0_3072) shapeCasts_S4x2048x8_S8192x8)) bitsLt_bf16_f32 := by
  unfold V
  simp only [hostOps0, hostOps0_1, hostOps0_2, List.flatten_cons, List.flatten_nil, List.append_nil, List.cons_append, List.nil_append]
  after_reads_simp
  rfl

end Host

theorem wRows_at (w : FVec Ideal S1024x5128 .f32) (k : Fin 5248) (l : Fin 1024) :
    (wRows w : FVec Ideal S5248x1024 .bf16) (ix2 k l) = if h : (k : ℕ) < 3072 then w (ix2 l ⟨k, by omega⟩) else if h' : (k : ℕ) - 3072 < 2048 then w (ix2 l ⟨3080 + (k - 3072), by omega⟩)
      else if h'' : (k : ℕ) - 3072 - 2048 < 8 then w (ix2 l ⟨3072 + (k - 3072 - 2048), by omega⟩) else (0 : EReal) := by
  have z : Ideal.ofBits .bf16 0x0000#16 = (0 : EReal) := by simp [Ideal.ofBits, Ideal.ieee]
  pointwise [wRows]

variable (m : (ℓ : Loc nD τ sig) → Buf (Elt Ideal) ℓ) (c : Dev nD)

/-- The integer zero, converted, is the real zero. -/
theorem zero_word : FloatOps.sitofp (F := Ideal) FTy.f32 (0#32) = (((0 : ℝ)) : EReal) := by
  show (((0#32 : BitVec 32).toInt : ℝ) : EReal) = _
  norm_num

/-! ## The operands -/

theorem read13 (h : AllReal (arg1 m c)) : IsMat (a := 8192) (b := 1536) (φ := .bf16) (fun r k => row3 (arg1 m c) r k) (V m c main_v13) := by
  intro r l
  unfold V
  simp only [hostOps0, hostOps0_1, hostOps0_2, List.flatten_cons, List.flatten_nil, List.append_nil, List.cons_append, List.nil_append]
  after_reads_at
  exact rd3_at h _ _ _ _ rfl rfl rfl

theorem read16 (h : AllReal (arg1 m c)) : IsMat (a := 8192) (b := 512) (φ := .bf16) (fun r k => row3 (arg1 m c) r (1536 + k)) (V m c main_v16) := by
  intro r l
  unfold V
  simp only [hostOps0, hostOps0_1, hostOps0_2, List.flatten_cons, List.flatten_nil, List.append_nil, List.cons_append, List.nil_append]
  after_reads_at
  exact rd3_at h _ _ _ _ rfl rfl rfl

theorem read19 (h : AllReal (arg1 m c)) : IsMat (a := 8192) (b := 512) (φ := .bf16) (fun r k => row3 (arg1 m c) r (2048 + k)) (V m c main_v19) := by
  intro r l
  unfold V
  simp only [hostOps0, hostOps0_1, hostOps0_2, List.flatten_cons, List.flatten_nil, List.append_nil, List.cons_append, List.nil_append]
  after_reads_at
  exact rd3_at h _ _ _ _ rfl rfl rfl

theorem read22 (h : AllReal (arg1 m c)) : IsMat (a := 8192) (b := 512) (φ := .bf16) (fun r k => row3 (arg1 m c) r (2560 + k)) (V m c main_v22) := by
  intro r l
  unfold V
  simp only [hostOps0, hostOps0_1, hostOps0_2, List.flatten_cons, List.flatten_nil, List.append_nil, List.cons_append, List.nil_append]
  after_reads_at
  exact rd3_at h _ _ _ _ rfl rfl rfl

theorem read25 (h : AllReal (arg1 m c)) : IsMat (a := 8192) (b := 2048) (φ := .bf16) (fun r k => row3 (arg1 m c) r (3080 + k)) (V m c main_v25) := by
  intro r l
  unfold V
  simp only [hostOps0, hostOps0_1, hostOps0_2, List.flatten_cons, List.flatten_nil, List.append_nil, List.cons_append, List.nil_append]
  after_reads_at
  exact rd3_at h _ _ _ _ rfl rfl rfl

theorem read26 (h : AllReal (arg0 m c)) : IsMat (a := 8192) (b := 1024) (φ := .f32) (row3 (arg0 m c)) (V m c main_v26) := by
  intro r l
  unfold V
  simp only [hostOps0, hostOps0_1, hostOps0_2, List.flatten_cons, List.flatten_nil, List.append_nil, List.cons_append, List.nil_append]
  after_reads_at
  exact rd3_at h _ _ _ _ rfl rfl rfl

theorem read27 (h : AllReal (arg2 m c)) : IsMat (a := 8192) (b := 1024) (φ := .f32) (row3 (arg2 m c)) (V m c main_v27) := by
  intro r l
  unfold V
  simp only [hostOps0, hostOps0_1, hostOps0_2, List.flatten_cons, List.flatten_nil, List.append_nil, List.cons_append, List.nil_append]
  after_reads_at
  exact rd3_at h _ _ _ _ rfl rfl rfl

theorem padLanes_at (x : FVec Ideal S8192x8 .f32) (r : Fin 8192) (l : Fin 128) :
    padLanes x (ix2 r l) = if h : (l : ℕ) < 8 then x (ix2 r ⟨l, h⟩) else ((0 : ℝ) : EReal) := by
  rw [← zero_word]
  pointwise [padLanes]

theorem read10 (h : AllReal (arg1 m c)) : IsMat (a := 8192) (b := 128) (φ := .bf16) (forgetCol (row3 (arg1 m c))) (V m c main_v10) := by
  intro r l
  have hr := r.isLt
  rw [host_forget]
  refine (padLanes_at _ r l).trans ?_
  unfold forgetCol
  by_cases hl : (l : ℕ) < 8
  · rw [dif_pos hl, if_pos hl]
    refine (shapeCast_apply (s := S4x2048x8) (t := S8192x8) _ shapeCasts_S4x2048x8_S8192x8 (ix2 r ⟨l, hl⟩) (ix3 ⟨r / 2048, by omega⟩ ⟨r % 2048, by omega⟩ ⟨l, hl⟩) ?_).trans ?_
    · rw [Shape.rowMajor_val_three, Shape.rowMajor_val_two]
      show ((r : ℕ) / 2048 * 2048 + r % 2048) * 8 + l = (r : ℕ) * 8 + l
      omega
    refine (extractStridedSlice_apply (s := S4x2048x5128) (t := S4x2048x8) ![0, 0, 3072] (arg1 m c) slices_S4x2048x5128_S4x2048x8_0_0_3072 _
      (ix3 ⟨r / 2048, by omega⟩ ⟨r % 2048, by omega⟩ ⟨3072 + l, by omega⟩) (fun a => match a with
      | ⟨0, _⟩ => (Nat.zero_add _).symm
      | ⟨1, _⟩ => (Nat.zero_add _).symm
      | ⟨2, _⟩ => rfl)).trans ?_
    exact rd3_at h _ _ _ _ rfl rfl rfl
  · rw [dif_neg hl, if_neg hl]

/-- The rearranged rows hold the weight's columns in the kernel's order. -/
theorem wRows_mat {w : FVec Ideal S1024x5128 .f32} (h : AllReal w) : IsMat (a := 5248) (b := 1024) (φ := .bf16) (wRow (rd2 w)) (wRows w) := by
  intro k l
  rw [wRows_at]
  unfold wRow
  have hw := isMat_rd2 (a := 1024) (b := 5128) h
  by_cases a : (k : ℕ) < 3072
  · rw [dif_pos a, if_pos a]
    exact hw.at _ rfl rfl
  by_cases b : (k : ℕ) - 3072 < 2048
  · rw [dif_neg a, dif_pos b, if_neg a, if_pos (by omega)]
    exact hw.at _ rfl (by show (k : ℕ) + 8 = 3080 + (k - 3072); omega)
  by_cases d : (k : ℕ) - 3072 - 2048 < 8
  · rw [dif_neg a, dif_neg b, dif_pos d, if_neg a, if_neg (by omega), if_pos (by omega)]
    exact hw.at _ rfl (by show (k : ℕ) - 2048 = 3072 + (k - 3072 - 2048); omega)
  · rw [dif_neg a, dif_neg b, dif_neg d, if_neg a, if_neg (by omega), if_neg (by omega)]
    rfl

theorem read6 (h : AllReal (arg4 m c)) : IsMat (a := 5248) (b := 1024) (φ := .bf16) (wRow (rd2 (arg4 m c))) (V m c main_v6) := by
  rw [host_w]
  exact wRows_mat h

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])

/-! ## The blocks of a grid point -/

theorem blk0 (t : Fin cfg0.N) (h : AllReal (arg1 m c)) : IsMat (a := 512) (b := 1536) (φ := .bf16) (fun i k => row3 (arg1 m c) (512 * t.val + i) k) (iblk m c 0 t) := by
  intro i l
  have ht : t.val < 16 := t.isLt
  have hi := i.isLt
  refine Eq.trans ?_ (read13 m c h ⟨512 * t.val + i, by omega⟩ l)
  blk_simp [iblk]
  blk_ext
  · rw [show win0_0.index t 0 = t.val from congrFun (idx0 t) 0]; omega
  · rw [show win0_0.index t 1 = 0 from congrFun (idx0 t) 1]; omega

theorem blk1 (t : Fin cfg0.N) (h : AllReal (arg1 m c)) : IsMat (a := 512) (b := 512) (φ := .bf16) (fun i k => row3 (arg1 m c) (512 * t.val + i) (1536 + k)) (iblk m c 1 t) := by
  intro i l
  have ht : t.val < 16 := t.isLt
  have hi := i.isLt
  refine Eq.trans ?_ (read16 m c h ⟨512 * t.val + i, by omega⟩ l)
  blk_simp [iblk]
  blk_ext
  · rw [show win0_1.index t 0 = t.val from congrFun (idx1 t) 0]; omega
  · rw [show win0_1.index t 1 = 0 from congrFun (idx1 t) 1]; omega

theorem blk2 (t : Fin cfg0.N) (h : AllReal (arg1 m c)) : IsMat (a := 512) (b := 512) (φ := .bf16) (fun i k => row3 (arg1 m c) (512 * t.val + i) (2048 + k)) (iblk m c 2 t) := by
  intro i l
  have ht : t.val < 16 := t.isLt
  have hi := i.isLt
  refine Eq.trans ?_ (read19 m c h ⟨512 * t.val + i, by omega⟩ l)
  blk_simp [iblk]
  blk_ext
  · rw [show win0_2.index t 0 = t.val from congrFun (idx2 t) 0]; omega
  · rw [show win0_2.index t 1 = 0 from congrFun (idx2 t) 1]; omega

theorem blk3 (t : Fin cfg0.N) (h : AllReal (arg1 m c)) : IsMat (a := 512) (b := 512) (φ := .bf16) (fun i k => row3 (arg1 m c) (512 * t.val + i) (2560 + k)) (iblk m c 3 t) := by
  intro i l
  have ht : t.val < 16 := t.isLt
  have hi := i.isLt
  refine Eq.trans ?_ (read22 m c h ⟨512 * t.val + i, by omega⟩ l)
  blk_simp [iblk]
  blk_ext
  · rw [show win0_3.index t 0 = t.val from congrFun (idx3 t) 0]; omega
  · rw [show win0_3.index t 1 = 0 from congrFun (idx3 t) 1]; omega

theorem blk4 (t : Fin cfg0.N) (h : AllReal (arg1 m c)) : IsMat (a := 512) (b := 2048) (φ := .bf16) (fun i k => row3 (arg1 m c) (512 * t.val + i) (3080 + k)) (iblk m c 4 t) := by
  intro i l
  have ht : t.val < 16 := t.isLt
  have hi := i.isLt
  refine Eq.trans ?_ (read25 m c h ⟨512 * t.val + i, by omega⟩ l)
  blk_simp [iblk]
  blk_ext
  · rw [show win0_4.index t 0 = t.val from congrFun (idx4 t) 0]; omega
  · rw [show win0_4.index t 1 = 0 from congrFun (idx4 t) 1]; omega

theorem blk5 (t : Fin cfg0.N) (h : AllReal (arg1 m c)) : IsMat (a := 512) (b := 128) (φ := .bf16) (forgetCol fun i k => row3 (arg1 m c) (512 * t.val + i) k) (iblk m c 5 t) := by
  intro i l
  have ht : t.val < 16 := t.isLt
  have hi := i.isLt
  refine Eq.trans ?_ (read10 m c h ⟨512 * t.val + i, by omega⟩ l)
  blk_simp [iblk]
  blk_ext
  · rw [show win0_5.index t 0 = t.val from congrFun (idx5 t) 0]; omega
  · rw [show win0_5.index t 1 = 0 from congrFun (idx5 t) 1]; omega

theorem blk6 (t : Fin cfg0.N) (h : AllReal (arg4 m c)) : IsMat (a := 5248) (b := 1024) (φ := .bf16) (wRow (rd2 (arg4 m c))) (iblk m c 6 t) := by
  intro i l
  have ht : t.val < 16 := t.isLt
  have hi := i.isLt
  refine Eq.trans ?_ (read6 m c h i l)
  blk_simp [iblk]
  blk_ext
  · rw [show win0_6.index t 0 = 0 from congrFun (idx6 t) 0]; omega
  · rw [show win0_6.index t 1 = 0 from congrFun (idx6 t) 1]; omega

theorem blk7 (t : Fin cfg0.N) (h : AllReal (arg0 m c)) : IsMat (a := 512) (b := 1024) (φ := .f32) (fun i l => row3 (arg0 m c) (512 * t.val + i) l) (iblk m c 7 t) := by
  intro i l
  have ht : t.val < 16 := t.isLt
  have hi := i.isLt
  refine Eq.trans ?_ (read26 m c h ⟨512 * t.val + i, by omega⟩ l)
  blk_simp [iblk]
  blk_ext
  · rw [show win0_7.index t 0 = t.val from congrFun (idx7 t) 0]; omega
  · rw [show win0_7.index t 1 = 0 from congrFun (idx7 t) 1]; omega

theorem read8 (h : AllReal (arg3 m c)) : IsMat (a := 1) (b := 1024) (φ := .f32) (fun _ l => rd2 (arg3 m c) 0 l) (V m c main_arg3) := by
  intro r l
  obtain rfl : r = 0 := Fin.ext (Nat.lt_one_iff.mp r.isLt)
  unfold V
  simp only [hostOps0, hostOps0_1, hostOps0_2, List.flatten_cons, List.flatten_nil, List.append_nil, List.cons_append, List.nil_append]
  after_reads_at
  exact isMat_rd2 (a := 1) (b := 1024) h 0 l

theorem blk8 (t : Fin cfg0.N) (h : AllReal (arg3 m c)) : IsMat (a := 1) (b := 1024) (φ := .f32) (fun _ l => rd2 (arg3 m c) 0 l) (iblk m c 8 t) := by
  intro i l
  have ht : t.val < 16 := t.isLt
  have hi := i.isLt
  refine Eq.trans ?_ (read8 m c h i l)
  blk_simp [iblk]
  blk_ext
  · rw [show win0_8.index t 0 = 0 from congrFun (idx8 t) 0]
  · rw [show win0_8.index t 1 = 0 from congrFun (idx8 t) 1]; omega

theorem blk9 (t : Fin cfg0.N) (h : AllReal (arg2 m c)) : IsMat (a := 512) (b := 1024) (φ := .f32) (fun i l => row3 (arg2 m c) (512 * t.val + i) l) (iblk m c 9 t) := by
  intro i l
  have ht : t.val < 16 := t.isLt
  have hi := i.isLt
  refine Eq.trans ?_ (read27 m c h ⟨512 * t.val + i, by omega⟩ l)
  blk_simp [iblk]
  blk_ext
  · rw [show win0_9.index t 0 = t.val from congrFun (idx9 t) 0]; omega
  · rw [show win0_9.index t 1 = 0 from congrFun (idx9 t) 1]; omega

/-- All arguments are arrays of reals. -/
structure Finite : Prop where
  h0 : AllReal (arg0 m c)
  h1 : AllReal (arg1 m c)
  h2 : AllReal (arg2 m c)
  h3 : AllReal (arg3 m c)
  h4 : AllReal (arg4 m c)

variable {m c}

theorem tile (h : Finite m c) (t : Fin cfg0.N) : Tile m c t (fun i k => row3 (arg1 m c) (512 * t.val + i) k) (rd2 (arg4 m c))
    (fun i l => row3 (arg0 m c) (512 * t.val + i) l) (rd2 (arg3 m c)) (fun i l => row3 (arg2 m c) (512 * t.val + i) l) where
  h0 := blk0 m c t h.h1
  h1 := blk1 m c t h.h1
  h2 := blk2 m c t h.h1
  h3 := blk3 m c t h.h1
  h4 := blk4 m c t h.h1
  h5 := blk5 m c t h.h1
  h6 := blk6 m c t h.h4
  h7 := blk7 m c t h.h0
  h8 := blk8 m c t h.h3
  h9 := blk9 m c t h.h2

/-! ## The three results -/

section Results
variable (x0 : FVec Ideal S4x2048x1024 .f32) (x1 : FVec Ideal S4x2048x5128 .f32) (x2 : FVec Ideal S4x2048x1024 .f32) (x3 : FVec Ideal S1x1024 .f32)
  (x4 : FVec Ideal S1024x5128 .f32)

/-- The gradient of the normed row before its scale's gradient is formed. -/
def dnorm (r l : ℕ) : ℝ := dh (row3 x1) (rd2 x4) r l

/-- The normed row. -/
def xn (r l : ℕ) : ℝ := row3 x0 r l * inv (row3 x0) r

/-- The gradient of the input, added to the gradient that comes past the projection. -/
def gradX (r l : ℕ) : ℝ := row3 x2 r l + normGrad (row3 x0) (fun r l => dnorm x1 x4 r l * rd2 x3 0 l) r l

/-- The gradient of the scale, rows up to `n`. -/
def gradG (n l : ℕ) : ℝ := ∑ r ∈ Finset.range n, dnorm x1 x4 r l * xn x0 r l

/-- The gradient of the forget gates' weight, rows up to `n`. -/
def gradW (n k l : ℕ) : ℝ := ∑ r ∈ Finset.range n, forgetCol (row3 x1) r k * (xn x0 r l * rd2 x3 0 l)

def outX : FVec Ideal S8192x1024 .f32 := fun i => ((gradX x0 x1 x2 x3 x4 (i 0 : ℕ) (i 1 : ℕ) : ℝ) : EReal)
def outG : FVec Ideal S8x1024 .f32 := fun i => ((firstRow (gradG x0 x1 x4 8192) (i 0 : ℕ) (i 1 : ℕ) : ℝ) : EReal)
def outW : FVec Ideal S128x1024 .f32 := fun i => ((gradW x0 x1 x3 8192 (i 0 : ℕ) (i 1 : ℕ) : ℝ) : EReal)

end Results

/-- The sum over the tiles up to `n + 1`. -/
theorem sum_tile (f : ℕ → ℝ) (n : ℕ) : ∑ r ∈ Finset.range (512 * n), f r + ∑ i ∈ Finset.range 512, f (512 * n + i) = ∑ r ∈ Finset.range (512 * (n + 1)), f r := by
  rw [show 512 * (n + 1) = 512 * n + 512 by ring, Finset.sum_range_add]

theorem upto11 (h : Finite m c) : ∀ (n : ℕ) (hn : n < cfg0.N),
    IsMat (a := 8) (b := 1024) (φ := .f32) (firstRow (gradG (arg0 m c) (arg1 m c) (arg4 m c) (512 * (n + 1)))) (outsAt0 m c n hn).2.1 := by
  intro n
  induction n with
  | zero =>
    intro hn
    refine (block11_first (tile h ⟨0, hn⟩) rfl).congr fun i j _ _ => ?_
    refine congrArg (fun y => firstRow y i j) (funext fun l => ?_)
    exact sum_tile (fun r => dnorm (arg1 m c) (arg4 m c) r l * xn (arg0 m c) r l) 0
  | succ n ih =>
    intro hn
    have hn16 : n + 1 < 16 := hn
    have prior : ∀ (k : ℕ) (hk : k < cfg0.N), k = n →
        IsMat (a := 8) (b := 1024) (φ := .f32) (firstRow (gradG (arg0 m c) (arg1 m c) (arg4 m c) (512 * (n + 1)))) (outsAt0 m c k hk).2.1 := by
      intro k hk e; subst e; exact ih hk
    refine (block11_next (tile h ⟨n + 1, hn⟩) (by show ¬ (n + 1) % 16 = 0; omega) (prior _ _ (Nat.add_sub_cancel n 1))).congr fun i j _ _ => ?_
    refine congrArg (fun y => firstRow y i j) (funext fun l => ?_)
    exact sum_tile (fun r => dnorm (arg1 m c) (arg4 m c) r l * xn (arg0 m c) r l) (n + 1)

theorem upto12 (h : Finite m c) : ∀ (n : ℕ) (hn : n < cfg0.N),
    IsMat (a := 128) (b := 1024) (φ := .f32) (gradW (arg0 m c) (arg1 m c) (arg3 m c) (512 * (n + 1))) (outsAt0 m c n hn).2.2 := by
  intro n
  induction n with
  | zero =>
    intro hn
    refine (block12_first (tile h ⟨0, hn⟩) rfl).congr fun k l _ _ => ?_
    exact sum_tile (fun r => forgetCol (row3 (arg1 m c)) r k * (xn (arg0 m c) r l * rd2 (arg3 m c) 0 l)) 0
  | succ n ih =>
    intro hn
    have hn16 : n + 1 < 16 := hn
    have prior : ∀ (k : ℕ) (hk : k < cfg0.N), k = n →
        IsMat (a := 128) (b := 1024) (φ := .f32) (gradW (arg0 m c) (arg1 m c) (arg3 m c) (512 * (n + 1))) (outsAt0 m c k hk).2.2 := by
      intro k hk e; subst e; exact ih hk
    refine (block12_next (tile h ⟨n + 1, hn⟩) (by show ¬ (n + 1) % 16 = 0; omega) (prior _ _ (Nat.add_sub_cancel n 1))).congr fun k l _ _ => ?_
    exact sum_tile (fun r => forgetCol (row3 (arg1 m c)) r k * (xn (arg0 m c) r l * rd2 (arg3 m c) 0 l)) (n + 1)

theorem final10 (h : Finite m c) : (dats m 0 c).arrAt 10 cfg0.N = outX (arg0 m c) (arg1 m c) (arg2 m c) (arg3 m c) (arg4 m c) := by
  refine (dats m 0 c).arrAt_eq_of_covers 10 _ (by decide +kernel) fun t hf y => ?_
  blk_simp
  rw [after0_10]
  obtain ⟨n, l, rfl⟩ : ∃ (n : Fin 512) (l : Fin 1024), y = ix2 n l := ⟨y 0, y 1, funext fun a => match a with | 0 => rfl | 1 => rfl⟩
  have ht : t.val < 16 := t.isLt
  have e0 : ((win0_10.blk t).view.emb (ix2 n l) 0 : ℕ) = 512 * t.val + n := by
    blk_simp
    rw [show win0_10.index t 0 = t.val from congrFun (idx10 t) 0]; omega
  have e1 : ((win0_10.blk t).view.emb (ix2 n l) 1 : ℕ) = l := by
    blk_simp
    rw [show win0_10.index t 1 = 0 from congrFun (idx10 t) 1]; omega
  refine (block10 (tile h t) n l).trans ?_
  show _ = ((gradX (arg0 m c) (arg1 m c) (arg2 m c) (arg3 m c) (arg4 m c) ((win0_10.blk t).view.emb (ix2 n l) 0 : ℕ) ((win0_10.blk t).view.emb (ix2 n l) 1 : ℕ) : ℝ) : EReal)
  rw [e0, e1]
  rfl

theorem last11 : ∀ t : Fin cfg0.N, (cfg0.win 11).flush t = true → t.val = 15 :=
  (by decide +kernel : ∀ t : Fin grid0.N, (cfg0.win 11).flush t = true → t.val = 15)

theorem final11 (h : Finite m c) : (dats m 0 c).arrAt 11 cfg0.N = outG (arg0 m c) (arg1 m c) (arg4 m c) := by
  refine (dats m 0 c).arrAt_eq_of_covers 11 _ (by decide +kernel) fun t hf y => ?_
  blk_simp
  rw [after0_11]
  obtain ⟨r, l, rfl⟩ : ∃ (r : Fin 8) (l : Fin 1024), y = ix2 r l := ⟨y 0, y 1, funext fun a => match a with | 0 => rfl | 1 => rfl⟩
  have ht : t.val = 15 := last11 t hf
  have e0 : ((win0_11.blk t).view.emb (ix2 r l) 0 : ℕ) = r := by
    blk_simp
    rw [show win0_11.index t 0 = 0 from congrFun (idx11 t) 0]; omega
  have e1 : ((win0_11.blk t).view.emb (ix2 r l) 1 : ℕ) = l := by
    blk_simp
    rw [show win0_11.index t 1 = 0 from congrFun (idx11 t) 1]; omega
  refine (upto11 h t.val t.isLt r l).trans ?_
  show _ = ((firstRow (gradG (arg0 m c) (arg1 m c) (arg4 m c) 8192) ((win0_11.blk t).view.emb (ix2 r l) 0 : ℕ) ((win0_11.blk t).view.emb (ix2 r l) 1 : ℕ) : ℝ) : EReal)
  rw [e0, e1, ht]

theorem last12 : ∀ t : Fin cfg0.N, (cfg0.win 12).flush t = true → t.val = 15 :=
  (by decide +kernel : ∀ t : Fin grid0.N, (cfg0.win 12).flush t = true → t.val = 15)

theorem final12 (h : Finite m c) : (dats m 0 c).arrAt 12 cfg0.N = outW (arg0 m c) (arg1 m c) (arg3 m c) := by
  refine (dats m 0 c).arrAt_eq_of_covers 12 _ (by decide +kernel) fun t hf y => ?_
  blk_simp
  rw [after0_12]
  obtain ⟨r, l, rfl⟩ : ∃ (r : Fin 128) (l : Fin 1024), y = ix2 r l := ⟨y 0, y 1, funext fun a => match a with | 0 => rfl | 1 => rfl⟩
  have ht : t.val = 15 := last12 t hf
  have e0 : ((win0_12.blk t).view.emb (ix2 r l) 0 : ℕ) = r := by
    blk_simp
    rw [show win0_12.index t 0 = 0 from congrFun (idx12 t) 0]; omega
  have e1 : ((win0_12.blk t).view.emb (ix2 r l) 1 : ℕ) = l := by
    blk_simp
    rw [show win0_12.index t 1 = 0 from congrFun (idx12 t) 1]; omega
  refine (upto12 h t.val t.isLt r l).trans ?_
  show _ = ((gradW (arg0 m c) (arg1 m c) (arg3 m c) 8192 ((win0_12.blk t).view.emb (ix2 r l) 0 : ℕ) ((win0_12.blk t).view.emb (ix2 r l) 1 : ℕ) : ℝ) : EReal)
  rw [e0, e1, ht]

end Cert.InProjProof

end
-- ==== Proof.Tokens.lean ====
/- Arrays of four sequences of 2048 positions whose entries are known reals, a row per position: what the operations of the references do to them. -/
module

public import proofs.«01_k».proof.Proof.Tables
public import Idealize.ShloMosaic.Lib.TwoAxisContraction

@[expose] public section

set_option maxRecDepth 16384

noncomputable section

namespace Cert.Tokens

open Idealize.ShloMosaic Idealize.ShloMosaic.TcCoe
open Cert.Tables
open Cert.Reals (AllReal rd3 rd3_eq rd3_at reduceAdd_first_two)

abbrev S3 (a b c : ℕ) : Shape := ⟨3, ![a, b, c]⟩
abbrev S1 (a : ℕ) : Shape := ⟨1, ![a]⟩
abbrev S0 : Shape := ⟨0, ![]⟩

/-- An array holds `x`, the row of position `n` of sequence `b` being row `2048 b + n`. -/
def IsTok {c : ℕ} {φ : FTy} (x : ℕ → ℕ → ℝ) (X : FVec Ideal (S3 4 2048 c) φ) : Prop :=
  ∀ (b : Fin 4) (n : Fin 2048) (l : Fin c), (X (ix3 b n l) : EReal) = ((x (2048 * b + n) l : ℝ) : EReal)

/-- An array of one number per position holds `x`. -/
def IsSeq {φ : FTy} (x : ℕ → ℝ) (X : FVec Ideal (S2 4 2048) φ) : Prop :=
  ∀ (b : Fin 4) (n : Fin 2048), (X (ix2 b n) : EReal) = ((x (2048 * b + n) : ℝ) : EReal)

/-- An array of one axis holds `x`. -/
def IsVec {c : ℕ} {φ : FTy} (x : ℕ → ℝ) (X : FVec Ideal (S1 c) φ) : Prop := ∀ l : Fin c, (X (ix1 l) : EReal) = ((x l : ℝ) : EReal)

theorem isTok_row3 {c : ℕ} {X : FVec Ideal (S3 4 2048 c) .f32} (hX : AllReal X) : IsTok (row3 X) X := fun b n l => by
  have hn := n.isLt
  rw [row3, show (2048 * (b : ℕ) + n) / 2048 = b by omega, show (2048 * (b : ℕ) + n) % 2048 = n by omega]
  exact rd3_eq hX b n l

/-- A sum over sequences and positions is one over the rows. -/
theorem sum_positions (f : ℕ → ℝ) : ∑ a ∈ Finset.range 4, ∑ n ∈ Finset.range 2048, f (2048 * a + n) = ∑ r ∈ Finset.range 8192, f r := by
  rw [show (8192 : ℕ) = 2048 + 2048 + 2048 + 2048 from rfl, Finset.sum_range_add, Finset.sum_range_add, Finset.sum_range_add]
  simp only [Finset.sum_range_succ _ 3, Finset.sum_range_succ _ 2, Finset.sum_range_succ _ 1, Finset.sum_range_one]
  simp

theorem sum_positions_known {f : Fin 4 → Fin 2048 → EReal} (g : ℕ → ℝ) (h : ∀ a n, f a n = ((g (2048 * a + n) : ℝ) : EReal)) :
    ∑ a, ∑ n, f a n = ((∑ r ∈ Finset.range 8192, g r : ℝ) : EReal) := by
  rw [← sum_positions]
  exact sum_known (fun a => ∑ n ∈ Finset.range 2048, g (2048 * a + n)) fun a => sum_known (fun n => g (2048 * a + n)) fun n => h a n

section Ops
variable {c K N : ℕ} {φ ψ : FTy} {x y : ℕ → ℕ → ℝ} {X Y : FVec Ideal (S3 4 2048 c) φ}

theorem IsTok.congr (h : IsTok x X) (e : ∀ r l, r < 8192 → l < c → x r l = y r l) : IsTok y X := fun b n l =>
  (h b n l).trans (congrArg _ (e _ l (by have := b.isLt; have := n.isLt; omega) l.isLt))

theorem IsTok.mul (hX : IsTok x X) (hY : IsTok y Y) : IsTok (fun r l => x r l * y r l) (mulf X Y) := fun b n l =>
  (congrArg₂ (· * ·) (hX b n l) (hY b n l)).trans (EReal.coe_mul _ _).symm

theorem IsTok.add (hX : IsTok x X) (hY : IsTok y Y) : IsTok (fun r l => x r l + y r l) (addf X Y) := fun b n l =>
  (congrArg₂ (· + ·) (hX b n l) (hY b n l)).trans (EReal.coe_add _ _).symm

theorem IsTok.sub (hX : IsTok x X) (hY : IsTok y Y) : IsTok (fun r l => x r l - y r l) (subf X Y) := fun b n l =>
  (congrArg₂ (· - ·) (hX b n l) (hY b n l)).trans (EReal.coe_sub _ _).symm

theorem IsTok.neg (hX : IsTok x X) : IsTok (fun r l => -x r l) (negf X) := fun b n l =>
  (congrArg (- ·) (hX b n l)).trans (EReal.coe_neg _).symm

theorem IsTok.div (hX : IsTok x X) (hY : IsTok y Y) (h0 : ∀ r l, r < 8192 → l < c → y r l ≠ 0) : IsTok (fun r l => x r l * (1 / y r l)) (Host.divf X Y) := fun b n l => by
  show Ideal.div (X (ix3 b n l)) (Y (ix3 b n l)) = _
  rw [hY b n l, Ideal.div_coe (h0 _ l (by have := b.isLt; have := n.isLt; omega) l.isLt), hX b n l, ← EReal.coe_mul]

theorem IsTok.rsqrt (hX : IsTok x X) (hp : ∀ r l, r < 8192 → l < c → 0 < x r l) : IsTok (fun r l => (Real.sqrt (x r l))⁻¹) (Host.rsqrt X) := fun b n l => by
  show Ideal.rsqrt (X (ix3 b n l)) = _
  have h := hp _ l (by have := b.isLt; have := n.isLt; omega : 2048 * (b : ℕ) + n < 8192) l.isLt
  rw [hX b n l, Ideal.rsqrt_coe, if_neg (not_lt.mpr h.le), if_neg h.ne']

theorem IsTok.exp (hX : IsTok x X) : IsTok (fun r l => Real.exp (x r l)) (Host.exp X) := fun b n l => by
  show Ideal.exp (X (ix3 b n l)) = _
  rw [hX b n l]; rfl

/-- A constant everywhere. -/
theorem isTok_const {Z : FVec Ideal S0 φ} {k : ℝ} (hZ : Z (fun a => a.elim0) = ((k : ℝ) : EReal)) (h : S0.BroadcastsInDim (S3 4 2048 c) ![]) :
    IsTok (fun _ _ => k) (broadcastInDim (S3 4 2048 c) ![] h Z) := fun b n l =>
  (broadcastInDim_apply _ h Z (ix3 b n l) (fun a => a.elim0) fun a => a.elim0).trans hZ

/-- The sum of every row. -/
theorem IsTok.sumLast {u : Shape} {Z : u.Idx → Ideal φ} (hX : IsTok x X) (h : (S3 4 2048 c).ReducesTo [2] (S2 4 2048)) (hu : 0 < u.numel)
    (hZ : Z (Shape.Idx.first hu) = (0 : EReal)) : IsSeq (fun r => ∑ l ∈ Finset.range c, x r l) (Host.reduceAdd X Z h hu) := fun b n => by
  obtain ⟨q, hq⟩ := h
  have h' : (S3 4 2048 c).Reduces [2] (S2 4 2048) := ⟨q, by show 0 < 2; decide, hq⟩
  show Ideal.hostReduceAdd ⟨q, hq⟩ X (Z (Shape.Idx.first hu)) (ix2 b n) = _
  rw [Ideal.hostReduceAdd_single ⟨q, hq⟩ h', hZ, zero_add]
  refine sum_known (fun l => x (2048 * b + n) l) fun l => (congrArg X (funext fun a => Fin.ext ?_)).trans (hX b n l)
  match a with | ⟨0, _⟩ => rfl | ⟨1, _⟩ => rfl | ⟨2, _⟩ => rfl

/-- A number per position as a column. -/
theorem IsSeq.col {x : ℕ → ℝ} {X : FVec Ideal (S2 4 2048) φ} (hX : IsSeq x X) (h : (S2 4 2048).BroadcastsInDim (S3 4 2048 1) ![0, 1]) :
    IsTok (fun r _ => x r) (broadcastInDim (S3 4 2048 1) ![0, 1] h X) := fun b n l =>
  (broadcastInDim_apply _ h X (ix3 b n l) (ix2 b n) fun a => match a with
    | ⟨0, _⟩ => rfl
    | ⟨1, _⟩ => rfl).trans (hX b n)

/-- The same by a reshape. -/
theorem IsSeq.reshape {x : ℕ → ℝ} {X : FVec Ideal (S2 4 2048) φ} (hX : IsSeq x X) (h : (S2 4 2048).ShapeCasts (S3 4 2048 1)) :
    IsTok (fun r _ => x r) (shapeCast (S3 4 2048 1) X h) := fun b n l =>
  (shapeCast_apply X h (ix3 b n l) (ix2 b n) (by
    rw [Shape.rowMajor_val_two, Shape.rowMajor_val_three]
    show (b : ℕ) * 2048 + n = (b * 2048 + n) * 1 + l
    have := l.isLt; omega)).trans (hX b n)

/-- A number per position, repeated over the row. -/
theorem IsSeq.spread {x : ℕ → ℝ} {X : FVec Ideal (S2 4 2048) φ} (hX : IsSeq x X) (h : (S2 4 2048).BroadcastsInDim (S3 4 2048 c) ![0, 1]) :
    IsTok (fun r _ => x r) (broadcastInDim (S3 4 2048 c) ![0, 1] h X) := fun b n l =>
  (broadcastInDim_apply _ h X (ix3 b n l) (ix2 b n) fun a => match a with
    | ⟨0, _⟩ => rfl
    | ⟨1, _⟩ => rfl).trans (hX b n)

/-- A column repeated over the row. -/
theorem IsTok.spread {X : FVec Ideal (S3 4 2048 1) φ} (hX : IsTok x X) (h : (S3 4 2048 1).BroadcastsInDim (S3 4 2048 c) ![0, 1, 2]) :
    IsTok (fun r _ => x r 0) (broadcastInDim (S3 4 2048 c) ![0, 1, 2] h X) := fun b n l =>
  (broadcastInDim_apply _ h X (ix3 b n l) (ix3 b n 0) fun a => match a with
    | ⟨0, _⟩ => rfl
    | ⟨1, _⟩ => rfl
    | ⟨2, _⟩ => rfl).trans (hX b n 0)

/-- A vector repeated at every position. -/
theorem IsVec.everywhere {x : ℕ → ℝ} {X : FVec Ideal (S1 c) φ} (hX : IsVec x X) (h : (S1 c).BroadcastsInDim (S3 1 1 c) ![2])
    (h' : (S3 1 1 c).BroadcastsInDim (S3 4 2048 c) ![0, 1, 2]) :
    IsTok (fun _ l => x l) (broadcastInDim (S3 4 2048 c) ![0, 1, 2] h' (broadcastInDim (S3 1 1 c) ![2] h X)) := fun b n l =>
  (broadcastInDim_apply _ h' _ (ix3 b n l) (ix3 0 0 l) fun a => match a with
    | ⟨0, _⟩ => rfl
    | ⟨1, _⟩ => rfl
    | ⟨2, _⟩ => by
      show (l : ℕ) = if c = 1 then 0 else (l : ℕ)
      split
      · have := l.isLt; omega
      · rfl).trans ((broadcastInDim_apply _ h X (ix3 0 0 l) (ix1 l) fun a => match a with
    | ⟨0, _⟩ => by
      show (l : ℕ) = if c = 1 then 0 else (l : ℕ)
      split
      · have := l.isLt; omega
      · rfl).trans (hX l))

/-- A row as a vector. -/
theorem isVec_row {X : FVec Ideal (S2 1 c) .f32} (hX : AllReal X) (h : (S2 1 c).ShapeCasts (S1 c)) : IsVec (rd2 X 0) (shapeCast (S1 c) X h) := fun l =>
  (shapeCast_apply X h (ix1 l) (ix2 0 l) (by
    rw [Shape.rowMajor_val_two, Shape.rowMajor_val_one]
    show 0 * c + (l : ℕ) = l
    omega)).trans (isMat_rd2 hX 0 l)

/-- The sum over all positions. -/
theorem IsTok.sumAll {u : Shape} {Z : u.Idx → Ideal φ} (hX : IsTok x X) (h : (S3 4 2048 c).ReducesTo [0, 1] (S1 c)) (hu : 0 < u.numel)
    (hZ : Z (Shape.Idx.first hu) = (0 : EReal)) : IsVec (fun l => ∑ r ∈ Finset.range 8192, x r l) (Host.reduceAdd X Z h hu) := fun l => by
  show Ideal.hostReduceAdd h X (Z (Shape.Idx.first hu)) (ix1 l) = _
  rw [reduceAdd_first_two, hZ, zero_add]
  exact sum_positions_known (fun r => x r l) fun a n => hX a n l

end Ops

/-! ## Products -/

/-- Rows by a matrix. -/
def rowDot (K N : ℕ) : DotDims (S3 4 2048 K) (S2 K N) (S3 4 2048 N) where
  lhsContracting := [2]
  rhsContracting := [0]
  lhsNonContracting := [0, 1]
  rhsNonContracting := [1]
  lhsBatch := []
  rhsBatch := []
  wf := ⟨rfl, by simp, rfl, by simp, by simp, by simp, (by decide : (([] ++ [0, 1] ++ [2] : List (Fin 3))).Perm (List.finRange 3)),
    (by decide : (([] ++ [1] ++ [0] : List (Fin 2))).Perm (List.finRange 2)), rfl, by show 0 < 3; decide, fun a => by fin_cases a <;> rfl⟩

/-- Rows by a transposed matrix. -/
def rowDotT (K N : ℕ) : DotDims (S3 4 2048 K) (S2 N K) (S3 4 2048 N) where
  lhsContracting := [2]
  rhsContracting := [1]
  lhsNonContracting := [0, 1]
  rhsNonContracting := [0]
  lhsBatch := []
  rhsBatch := []
  wf := ⟨rfl, by simp, rfl, by simp, by simp, by simp, (by decide : (([] ++ [0, 1] ++ [2] : List (Fin 3))).Perm (List.finRange 3)),
    (by decide : (([] ++ [0] ++ [1] : List (Fin 2))).Perm (List.finRange 2)), rfl, by show 0 < 3; decide, fun a => by fin_cases a <;> rfl⟩

/-- The product of two arrays over all positions. -/
def posDot (K N : ℕ) : DotDims (S3 4 2048 K) (S3 4 2048 N) (S2 K N) where
  lhsContracting := [0, 1]
  rhsContracting := [0, 1]
  lhsNonContracting := [2]
  rhsNonContracting := [2]
  lhsBatch := []
  rhsBatch := []
  wf := ⟨rfl, by simp, rfl, by simp, by simp, by simp, (by decide : (([] ++ [2] ++ [0, 1] : List (Fin 3))).Perm (List.finRange 3)),
    (by decide : (([] ++ [2] ++ [0, 1] : List (Fin 3))).Perm (List.finRange 3)), rfl, by show 0 < 2; decide, fun a => by fin_cases a <;> rfl⟩

section Products
variable {K N : ℕ} {φ ψ : FTy} {x y : ℕ → ℕ → ℝ}

theorem IsTok.dot {X : FVec Ideal (S3 4 2048 K) φ} {Y : FVec Ideal (S2 K N) ψ} (hX : IsTok x X) (hY : IsMat y Y) :
    IsTok (φ := .f32) (fun r j => ∑ l ∈ Finset.range K, x r l * y l j) (Host.dotGeneral (rowDot K N) none X Y) := fun b n j => by
  show FloatOps.dotGeneral (rowDot K N) none _ X Y (ix3 b n j) = _
  rw [Ideal.dotGeneral_apply, ← Equiv.sum_comp (ValueIdx.contrEquiv1 (rowDot K N) K rfl rfl).symm]
  refine sum_known (fun l => x (2048 * b + n) l * y l j) fun k => ?_
  have hk := ValueIdx.contrEquiv1_symm_val (rowDot K N) K rfl rfl k
  have el : (rowDot K N).lhsIdx (ix3 b n j) ((ValueIdx.contrEquiv1 (rowDot K N) K rfl rfl).symm k) = ix3 b n k := by
    funext a; apply Fin.ext
    match a with
    | ⟨0, _⟩ => rfl
    | ⟨1, _⟩ => rfl
    | ⟨2, _⟩ => exact hk
  have er : (rowDot K N).rhsIdx (ix3 b n j) ((ValueIdx.contrEquiv1 (rowDot K N) K rfl rfl).symm k) = ix2 k j := by
    funext a; apply Fin.ext
    match a with
    | ⟨0, _⟩ => exact hk
    | ⟨1, _⟩ => rfl
  rw [el, er, hX b n k, hY k j, ← EReal.coe_mul]

theorem IsTok.dotT {X : FVec Ideal (S3 4 2048 K) φ} {Y : FVec Ideal (S2 N K) ψ} (hX : IsTok x X) (hY : IsMat y Y) :
    IsTok (φ := .f32) (fun r j => ∑ l ∈ Finset.range K, x r l * y j l) (Host.dotGeneral (rowDotT K N) none X Y) := fun b n j => by
  show FloatOps.dotGeneral (rowDotT K N) none _ X Y (ix3 b n j) = _
  rw [Ideal.dotGeneral_apply, ← Equiv.sum_comp (ValueIdx.contrEquiv1 (rowDotT K N) K rfl rfl).symm]
  refine sum_known (fun l => x (2048 * b + n) l * y j l) fun k => ?_
  have hk := ValueIdx.contrEquiv1_symm_val (rowDotT K N) K rfl rfl k
  have el : (rowDotT K N).lhsIdx (ix3 b n j) ((ValueIdx.contrEquiv1 (rowDotT K N) K rfl rfl).symm k) = ix3 b n k := by
    funext a; apply Fin.ext
    match a with
    | ⟨0, _⟩ => rfl
    | ⟨1, _⟩ => rfl
    | ⟨2, _⟩ => exact hk
  have er : (rowDotT K N).rhsIdx (ix3 b n j) ((ValueIdx.contrEquiv1 (rowDotT K N) K rfl rfl).symm k) = ix2 j k := by
    funext a; apply Fin.ext
    match a with
    | ⟨0, _⟩ => rfl
    | ⟨1, _⟩ => exact hk
  rw [el, er, hX b n k, hY j k, ← EReal.coe_mul]

theorem IsTok.dotPos {X : FVec Ideal (S3 4 2048 K) φ} {Y : FVec Ideal (S3 4 2048 N) ψ} (hX : IsTok x X) (hY : IsTok y Y) :
    IsMat (φ := .f32) (fun i j => ∑ r ∈ Finset.range 8192, x r i * y r j) (Host.dotGeneral (posDot K N) none X Y) := fun i j => by
  show FloatOps.dotGeneral (posDot K N) none _ X Y (ix2 i j) = _
  rw [Ideal.dotGeneral_apply, ValueIdx.sum_contr2 (posDot K N) 4 2048 rfl rfl rfl]
  refine sum_positions_known (fun r => x r i * y r j) fun a n => ?_
  have h0 := ValueIdx.contrEquiv2_symm_val0 (posDot K N) 4 2048 rfl rfl rfl (a, n)
  have h1 := ValueIdx.contrEquiv2_symm_val1 (posDot K N) 4 2048 rfl rfl rfl (a, n)
  have el : (posDot K N).lhsIdx (ix2 i j) ((ValueIdx.contrEquiv2 (posDot K N) 4 2048 rfl rfl rfl).symm (a, n)) = ix3 a n i := by
    funext d; apply Fin.ext
    match d with
    | ⟨0, _⟩ => exact h0
    | ⟨1, _⟩ => exact h1
    | ⟨2, _⟩ => rfl
  have er : (posDot K N).rhsIdx (ix2 i j) ((ValueIdx.contrEquiv2 (posDot K N) 4 2048 rfl rfl rfl).symm (a, n)) = ix3 a n j := by
    funext d; apply Fin.ext
    match d with
    | ⟨0, _⟩ => exact h0
    | ⟨1, _⟩ => exact h1
    | ⟨2, _⟩ => rfl
  rw [el, er, hX a n i, hY a n j, ← EReal.coe_mul]

end Products

end Cert.Tokens

end
-- ==== Proof.InProj.Reference.lean ====
/- The reference's gradients of the input projection over the reals. -/
module

public import proofs.«01_k».proof.Proof.InProj.Blocks
public import proofs.«01_k».proof.Proof.Tokens
public import proofs.«01_k».proof.Proof.Gen.InProjRefIdeal.Read

@[expose] public section

set_option maxRecDepth 16384

noncomputable section

namespace Cert.InProjProof

open Cert.InProjRefIdeal Cert.InProjRefIdeal.Gen Cert.InProjRefIdeal.Read Idealize.ShloMosaic Idealize.ShloMosaic.TcCoe
open Cert.Tables Cert.Tokens
open Cert.Reals (AllReal rd3 rd3_eq rd3_at)

variable {x0 x2 : FVec Ideal S4x2048x1024 .f32} {x1 : FVec Ideal S4x2048x5128 .f32} {x3 : FVec Ideal S1x1024 .f32} {x4 : FVec Ideal S1024x5128 .f32}

/-- The mean square of a row and the small constant. -/
def ms (x : ℕ → ℕ → ℝ) (r : ℕ) : ℝ := (∑ k ∈ Finset.range 1024, x r k * x r k) * (1 / 1024) + eps

theorem ref_ms (h0 : AllReal x0) : IsTok (c := 1) (φ := .f32) (fun r _ => ms (row3 x0) r) (val_main_v6 (F := Ideal) x0) :=
  (((((isTok_row3 h0).mul (isTok_row3 h0)).sumLast reducesTo_S4x2048x1024_S4x2048_d2 h_S_ zero_f32).col bcast_S4x2048_S4x2048x1_0_1).div
    (isTok_const width_f32 bcast_S_S4x2048x1) fun _ _ _ _ => by norm_num).add (isTok_const eps_spec.1 bcast_S_S4x2048x1)

theorem ref_inv (h0 : AllReal x0) : IsTok (c := 1) (φ := .f32) (fun r _ => inv (row3 x0) r) (val_main_v7 (F := Ideal) x0) :=
  (ref_ms h0).rsqrt fun r _ _ _ => meansq_pos _ r

theorem ref_slope (h0 : AllReal x0) : IsTok (c := 1) (φ := .f32) (fun r _ => -(1 / 2) * (inv (row3 x0) r * (1 / ms (row3 x0) r))) (val_main_v10 (F := Ideal) x0) :=
  (isTok_const neg_half_f32 bcast_S_S4x2048x1).mul ((ref_inv h0).div (ref_ms h0) fun r _ _ _ => (meansq_pos _ r).ne')

theorem ref_xn (h0 : AllReal x0) : IsTok (c := 1024) (φ := .f32) (xn x0) (val_main_v12 (F := Ideal) x0) :=
  (isTok_row3 h0).mul ((ref_inv h0).spread bcast_S4x2048x1_S4x2048x1024_0_1_2)

theorem ref_gain (h3 : AllReal x3) : IsTok (c := 1024) (φ := .f32) (fun _ l => rd2 x3 0 l) (val_main_v15 (F := Ideal) x3) :=
  (isVec_row h3 shapeCasts_S1x1024_S1024).everywhere bcast_S1024_S1x1x1024_2 bcast_S1x1x1024_S4x2048x1024_0_1_2

theorem ref_dnorm (h1 : AllReal x1) (h4 : AllReal x4) : IsTok (c := 1024) (φ := .f32) (dnorm x1 x4) (val_main_v20 (F := Ideal) x1 x4) :=
  (isTok_row3 h1).dotT (isMat_rd2 h4)

/-- The gradient of the row divided by its root mean square. -/
def dy (x1 : FVec Ideal S4x2048x5128 .f32) (x3 : FVec Ideal S1x1024 .f32) (x4 : FVec Ideal S1024x5128 .f32) (r l : ℕ) : ℝ := dnorm x1 x4 r l * rd2 x3 0 l

theorem ref_dy (h1 : AllReal x1) (h3 : AllReal x3) (h4 : AllReal x4) : IsTok (c := 1024) (φ := .f32) (dy x1 x3 x4) (val_main_v25 (F := Ideal) x1 x3 x4) :=
  (ref_dnorm h1 h4).mul (ref_gain h3)

/-- The part of the gradient that comes through the mean square. -/
def through (x0 : FVec Ideal S4x2048x1024 .f32) (x1 : FVec Ideal S4x2048x5128 .f32) (x3 : FVec Ideal S1x1024 .f32) (x4 : FVec Ideal S1024x5128 .f32) (r : ℕ) : ℝ :=
  (∑ k ∈ Finset.range 1024, row3 x0 r k * dy x1 x3 x4 r k) * (-(1 / 2) * (inv (row3 x0) r * (1 / ms (row3 x0) r))) * (1 / 1024)

theorem ref_through (h0 : AllReal x0) (h1 : AllReal x1) (h3 : AllReal x3) (h4 : AllReal x4) :
    IsTok (c := 1) (φ := .f32) (fun r _ => through x0 x1 x3 x4 r) (val_main_v35 (F := Ideal) x0 x1 x3 x4) :=
  (((((isTok_row3 h0).mul (ref_dy h1 h3 h4)).sumLast reducesTo_S4x2048x1024_S4x2048_d2 h_S_ zero_f32).reshape shapeCasts_S4x2048_S4x2048x1).mul (ref_slope h0)).div
    (isTok_const width_f32 bcast_S_S4x2048x1) fun _ _ _ _ => by norm_num

theorem ref_spread (h0 : AllReal x0) (h1 : AllReal x1) (h3 : AllReal x3) (h4 : AllReal x4) :
    IsTok (c := 1024) (φ := .f32) (fun r _ => ∑ _k ∈ Finset.range 1, through x0 x1 x3 x4 r) (val_main_v37 (F := Ideal) x0 x1 x3 x4) :=
  ((ref_through h0 h1 h3 h4).sumLast reducesTo_S4x2048x1_S4x2048_d2 h_S_ zero_f32).spread bcast_S4x2048_S4x2048x1024_0_1

theorem ref_x (h0 : AllReal x0) (h1 : AllReal x1) (h2 : AllReal x2) (h3 : AllReal x3) (h4 : AllReal x4) :
    IsTok (c := 1024) (φ := .f32) (gradX x0 x1 x2 x3 x4) (val_main_v42 (F := Ideal) x0 x1 x2 x3 x4) := by
  have a : IsTok (c := 1024) (φ := .f32) _ (val_main_v42 (F := Ideal) x0 x1 x2 x3 x4) :=
    (isTok_row3 h2).add ((((ref_dy h1 h3 h4).mul ((ref_inv h0).spread bcast_S4x2048x1_S4x2048x1024_0_1_2)).add
      ((isTok_row3 h0).mul (ref_spread h0 h1 h3 h4))).add ((ref_spread h0 h1 h3 h4).mul (isTok_row3 h0)))
  refine a.congr fun r l _ _ => ?_
  have e := normGrad_eq (row3 x0) (dy x1 x3 x4) r l
  show _ = row3 x2 r l + normGrad (row3 x0) (dy x1 x3 x4) r l
  rw [← e]
  simp only [Finset.sum_range_one]
  unfold through ms
  ring

/-- The first result. -/
theorem ref_outX (h0 : AllReal x0) (h1 : AllReal x1) (h2 : AllReal x2) (h3 : AllReal x3) (h4 : AllReal x4) :
    val_main_v43 (F := Ideal) x0 x1 x2 x3 x4 = outX x0 x1 x2 x3 x4 := by
  funext i
  have hi : (i 0 : ℕ) < 8192 := (i 0).isLt
  have hj : (i 1 : ℕ) < 1024 := (i 1).isLt
  refine (shapeCast_apply _ shapeCasts_S4x2048x1024_S8192x1024 i (ix3 ⟨(i 0 : ℕ) / 2048, by omega⟩ ⟨(i 0 : ℕ) % 2048, by omega⟩ ⟨i 1, hj⟩) ?_).trans
    ((ref_x h0 h1 h2 h3 h4 _ _ _).trans ?_)
  · rw [Shape.rowMajor_val_two, Shape.rowMajor_val_three]
    show (((i 0 : ℕ) / 2048) * 2048 + (i 0 : ℕ) % 2048) * 1024 + (i 1 : ℕ) = (i 0 : ℕ) * 1024 + (i 1 : ℕ)
    omega
  · show ((gradX x0 x1 x2 x3 x4 (2048 * ((i 0 : ℕ) / 2048) + (i 0 : ℕ) % 2048) (i 1 : ℕ) : ℝ) : EReal) = _
    rw [Nat.div_add_mod]
    rfl

theorem ref_gvec (h0 : AllReal x0) (h1 : AllReal x1) (h4 : AllReal x4) :
    IsVec (c := 1024) (φ := .f32) (fun l => ∑ r ∈ Finset.range 8192, xn x0 r l * dnorm x1 x4 r l) (val_main_v22 (F := Ideal) x0 x1 x4) :=
  ((ref_xn h0).mul (ref_dnorm h1 h4)).sumAll reducesTo_S4x2048x1024_S1024_d0_1 h_S_ zero_f32

theorem ref_grow (h0 : AllReal x0) (h1 : AllReal x1) (h4 : AllReal x4) :
    IsMat (a := 1) (b := 1024) (φ := .f32) (fun _ l => gradG x0 x1 x4 8192 l) (val_main_v27 (F := Ideal) x0 x1 x4) := fun i l => by
  rw [val_main_v27_apply, show idx_main_v27 (ix2 i l) = ix1 l from funext fun a => match a with | ⟨0, _⟩ => rfl]
  show Ideal.hostReduceAdd reducesTo_S1x1x1024_S1024_d0_1 (val_main_v23 (F := Ideal) x0 x1 x4) (Ideal.ofBits .f32 0x00000000#32) (ix1 l) = _
  rw [Cert.Reals.reduceAdd_first_two, zero_f32, zero_add, Fin.sum_univ_one, Fin.sum_univ_one, val_main_v23_apply]
  refine (congrArg (val_main_v22 (F := Ideal) x0 x1 x4) (funext fun a => Fin.ext ?_)).trans ((ref_gvec h0 h1 h4 l).trans ?_)
  · match a with
    | ⟨0, _⟩ => show ((0 : ℕ) * 1 + 0) * 1024 + l = l; omega
  · exact congrArg _ (Finset.sum_congr rfl fun r _ => mul_comm _ _)

theorem pad_gain (X : FVec Ideal S1x1024 .f32) (r : Fin 8) (l : Fin 1024) :
    (pad S8x1024 ![0, 0] ![7, 0] ![0, 0] X (val_main_call0_v0 (F := Ideal)) pads_S1x1024_S8x1024_070_000 h_S_ : FVec Ideal S8x1024 .f32) (ix2 r l)
      = if (r : ℕ) < 1 then X (ix2 0 l) else ((0 : ℝ) : EReal) := by
  rw [← zero_word]
  pointwise [val_main_call0_v0]
  by_cases h : (r : ℕ) < 1
  · rw [dif_pos h, if_pos h]
    exact congrArg X (congrArg (fun z : Fin 1 => (ix2 z l : S1x1024.Idx)) (Subsingleton.elim _ _))
  · rw [dif_neg h, if_neg h]; rfl

/-- The second result. -/
theorem ref_outG (h0 : AllReal x0) (h1 : AllReal x1) (h4 : AllReal x4) : val_main_v44 (F := Ideal) x0 x1 x4 = outG x0 x1 x4 := by
  funext i
  rw [ValueIdx.eq_ix2 i]
  refine (pad_gain (val_main_v27 (F := Ideal) x0 x1 x4) (i 0) (i 1)).trans ?_
  show _ = ((firstRow (gradG x0 x1 x4 8192) (i 0 : ℕ) (i 1 : ℕ) : ℝ) : EReal)
  rw [firstRow]
  by_cases h : (i 0 : ℕ) = 0
  · rw [if_pos h, if_pos (by omega)]
    exact ref_grow h0 h1 h4 0 (i 1)
  · rw [if_neg h, if_neg (by omega)]

theorem ref_w (h0 : AllReal x0) (h1 : AllReal x1) (h3 : AllReal x3) :
    IsMat (a := 5128) (b := 1024) (φ := .f32) (fun k l => ∑ r ∈ Finset.range 8192, row3 x1 r k * (xn x0 r l * rd2 x3 0 l)) (val_main_v18 (F := Ideal) x0 x1 x3) :=
  (isTok_row3 h1).dotPos ((ref_xn h0).mul (ref_gain h3))

theorem pad_weight (X : FVec Ideal S8x1024 .f32) (r : Fin 128) (l : Fin 1024) :
    (pad S128x1024 ![0, 0] ![120, 0] ![0, 0] X (val_main_call1_v0 (F := Ideal)) pads_S8x1024_S128x1024_01200_000 h_S_ : FVec Ideal S128x1024 .f32) (ix2 r l)
      = if h : (r : ℕ) < 8 then X (ix2 ⟨r, h⟩ l) else ((0 : ℝ) : EReal) := by
  rw [← zero_word]
  pointwise [val_main_call1_v0]
  rfl

/-- The third result. -/
theorem ref_outW (h0 : AllReal x0) (h1 : AllReal x1) (h3 : AllReal x3) : val_main_v47 (F := Ideal) x0 x1 x3 = outW x0 x1 x3 := by
  funext i
  rw [ValueIdx.eq_ix2 i]
  refine (pad_weight (val_main_v46 (F := Ideal) x0 x1 x3) (i 0) (i 1)).trans ?_
  show _ = ((gradW x0 x1 x3 8192 (i 0 : ℕ) (i 1 : ℕ) : ℝ) : EReal)
  by_cases h : (i 0 : ℕ) < 8
  · rw [dif_pos h, val_main_v46_apply, val_main_v45_apply, val_main_v19_apply]
    refine ((ref_w h0 h1 h3).at _ (i := 3072 + (i 0 : ℕ)) (j := (i 1 : ℕ)) rfl rfl).trans (congrArg _ (Finset.sum_congr rfl fun r _ => ?_))
    rw [forgetCol, if_pos h]
  · rw [dif_neg h]
    refine (show ((0 : ℝ) : EReal) = _ from congrArg _ (Finset.sum_eq_zero fun r _ => ?_).symm)
    rw [forgetCol, if_neg h, zero_mul]

end Cert.InProjProof

end
-- ==== Proof.InProj.Claim.lean ====
/- The input projection's gradients: the kernel and the reference end with equal results. -/
module

public import proofs.«01_k».proof.Proof.InProj.Reference
public import proofs.«01_k».proof.Proof.Gen.InProjIdeal.Value
public import proofs.«01_k».proof.Proof.Gen.InProjRefIdeal.Run
public import proofs.«01_k».proof.Proof.Gen.Pre_finite_inb
public import proofs.«01_k».proof.Defs

@[expose] public section

set_option maxRecDepth 16384

noncomputable section

namespace Cert.InProjProof

open Idealize.ShloMosaic Idealize.ShloMosaic.TcCoe Idealize.SL.Sem
open Cert.Reals (AllReal allReal_of_finite)

/-- The precondition makes the five arguments arrays of reals. -/
theorem args_real (m : (ℓ : Loc Cert.InProjIdeal.nD Cert.InProjIdeal.τ Cert.InProjIdeal.sig) → Buf (Elt Ideal) ℓ)
    (h : Cert.Pre_InProjIdeal_finite_inb m) (c : Dev Cert.InProjIdeal.nD) : Finite m c := by
  have q := h c
  exact ⟨allReal_of_finite _ _ q.1 fun i => rfl, allReal_of_finite _ _ q.2.1 fun i => rfl, allReal_of_finite _ _ q.2.2.1 fun i => rfl,
    allReal_of_finite _ _ q.2.2.2.1 fun i => rfl, allReal_of_finite _ _ q.2.2.2.2 fun i => rfl⟩

/-- The reference runs, keeps its arguments and ends with every counter at zero: it has no semaphore. -/
theorem frame_ref : Cert.quiescent_InProjRefIdeal := fun m g _ =>
  (θ_run Cert.InProjRefIdeal.defs _ _).mono
    (fun r h => ⟨fun c => (h c).2.2.2, sem_eq_zero_of_no_sems (by decide) r.2⟩)
    (Cert.InProjRefIdeal.Value.run (F := Ideal) m g)

/-- The value claim. -/
theorem algebraic : Cert.algebraic_InProjIdeal_InProjRefIdeal_pre_finite_inb := by
  intro m g m' g' hpre hargs
  refine ⟨fun c => outX (arg0 m c) (arg1 m c) (arg2 m c) (arg3 m c) (arg4 m c), fun c => outG (arg0 m c) (arg1 m c) (arg4 m c),
    fun c => outW (arg0 m c) (arg1 m c) (arg3 m c), ?_, ?_⟩
  · refine (θ_run Cert.InProjIdeal.defs _ _).mono (fun r h c => ?_) (Cert.InProjIdeal.Value.run_blocks (F := Ideal) m g)
    have q := args_real m hpre c
    exact ⟨(h c).1.trans (final10 q), (h c).2.1.trans (final11 q), (h c).2.2.1.trans (final12 q), (h c).2.2.2⟩
  · refine (θ_run Cert.InProjRefIdeal.defs _ _).mono (fun r h c => ?_) (Cert.InProjRefIdeal.Value.run (F := Ideal) m' g')
    obtain ⟨h0, h1, h2, h3, h4⟩ := args_real m hpre c
    obtain ⟨e0, e1, e2, e3, e4⟩ := hargs c
    refine ⟨(h c).1.trans ?_, (h c).2.1.trans ?_, (h c).2.2.1.trans ?_, (h c).2.2.2⟩
    · rw [Cert.InProjRefIdeal.Read.val_main_v43_eq, e0, e1, e2, e3, e4]
      exact ref_outX h0 h1 h2 h3 h4
    · rw [Cert.InProjRefIdeal.Read.val_main_v44_eq, e0, e1, e4]
      exact ref_outG h0 h1 h4
    · rw [Cert.InProjRefIdeal.Read.val_main_v47_eq, e0, e1, e3]
      exact ref_outW h0 h1 h3

end Cert.InProjProof

end
-- ==== Proof.Taps.lean ====
/- Tables of real numbers stored piece by piece, rows turned along the first axis, and the logistic gate: what the
   kernels' bodies do with three-tap convolutions along the sequence. -/
module

public import proofs.«01_k».proof.Proof.Tables
public import Idealize.ShloMosaic.Lib.KernelVsHost
public import Idealize.ShloMosaic.Lib.WordCmp

@[expose] public section

set_option maxRecDepth 16384

noncomputable section

namespace Cert.Tables

open Idealize.ShloMosaic Idealize.ShloMosaic.TcCoe

/-- The logistic function. -/
def sg (a : ℝ) : ℝ := (1 + Real.exp (-a))⁻¹

theorem half_f32 : Ideal.ofBits .f32 0x3F000000#32 = ((1 / 2 : ℝ) : EReal) := by
  simp [Ideal.ofBits, Ideal.ieee]; norm_num; rw [← EReal.coe_mul]; norm_num

section Ops
variable {M N : ℕ} {φ : FTy} {x y : ℕ → ℕ → ℝ} {X Y : FVec Ideal (S2 M N) φ}

/-- The logistic function, which the kernel writes with the hyperbolic tangent. -/
theorem IsMat.logistic {X : FVec Ideal (S2 M N) .f32} (hX : IsMat x X) :
    IsMat (fun i j => sg (x i j)) (addf (mulf (broadcast (S2 M N) (Scalar.ofBits (F := Ideal) .f32 0x3F000000#32))
      (tanh (mulf (broadcast (S2 M N) (Scalar.ofBits (F := Ideal) .f32 0x3F000000#32)) X))) (broadcast (S2 M N) (Scalar.ofBits (F := Ideal) .f32 0x3F000000#32))) := fun i j => by
  show Ideal.ofBits .f32 0x3F000000#32 * Ideal.tanh (Ideal.ofBits .f32 0x3F000000#32 * X (ix2 i j)) + Ideal.ofBits .f32 0x3F000000#32 = _
  rw [hX i j, half_f32, ← EReal.coe_mul, Ideal.tanh_coe, ← EReal.coe_mul, ← EReal.coe_add, Cert.Reals.half_tanh]
  rfl

/-- A part of a table. -/
theorem IsMat.slice {A B o p : ℕ} (hX : IsMat x X) (h : (S2 M N).Slices ![o, p] (S2 A B)) :
    IsMat (fun i j => x (o + i) (p + j)) (extractStridedSlice (S2 A B) ![o, p] X h) := fun i j => by
  have h0 : o + A ≤ M := h.2 0
  have h1 : p + B ≤ N := h.2 1
  have hi := i.isLt; have hj := j.isLt
  refine (extractStridedSlice_apply ![o, p] X h (ix2 i j) (ix2 ⟨o + i, by omega⟩ ⟨p + j, by omega⟩) ?_).trans (hX _ _)
  intro a
  match a with
  | ⟨0, _⟩ => rfl
  | ⟨1, _⟩ => rfl

/-- The rows turned back by `k`. -/
theorem IsMat.turn {s : BitVec 32} {k : ℕ} (hX : IsMat x X) (h : (S2 M N).Rotates 0 none) (hs : s.toNat + k = M) (hk : 0 < k) :
    IsMat (fun i j => x ((i + k) % M) j) (dynamicRotate 0 s none X h) := fun i j => by
  have hi := i.isLt
  refine (dynamicRotate_apply 0 s X h (ix2 i j) (ix2 ⟨((i : ℕ) + k) % M, Nat.mod_lt _ (by omega)⟩ j) ?_).trans (hX _ _)
  intro b
  match b with
  | ⟨0, _⟩ =>
    show ((i : ℕ) + k) % M = ((i : ℕ) + M - s.toNat % M) % M
    rw [Nat.mod_eq_of_lt (show s.toNat < M by omega), show (i : ℕ) + M - s.toNat = i + k by omega]
  | ⟨1, _⟩ => rfl

/-- A table below another. -/
theorem IsMat.below {A B : ℕ} {X : FVec Ideal (S2 A N) φ} {Y : FVec Ideal (S2 B N) φ} (hX : IsMat x X) (hY : IsMat y Y) (hM : A + B = M)
    (h : Shape.Concatenates [(S2 A N), (S2 B N)] (S2 M N) 0) :
    IsMat (fun i j => if i < A then x i j else y (i - A) j) (concatenate (S2 M N) 0 [⟨S2 A N, X⟩, ⟨S2 B N, Y⟩] h) := fun i j => by
  have hi := i.isLt
  show _ = (((if (i : ℕ) < A then x i j else y (i - A) j : ℝ)) : EReal)
  by_cases hA : (i : ℕ) < A
  · rw [if_pos hA]
    refine (concatenate_pair_apply_left (0 : Fin 2) X Y h (ix2 i j) rfl (ix2 ⟨i, hA⟩ j) fun b => ?_).trans (hX _ _)
    match b with
    | ⟨0, _⟩ => rfl
    | ⟨1, _⟩ => rfl
  · rw [if_neg hA]
    refine (concatenate_pair_apply_right (0 : Fin 2) X Y h (ix2 i j) rfl rfl (ix2 ⟨i - A, by omega⟩ j) (fun b hb => ?_) ?_).trans (hY _ _)
    · match b with
      | ⟨0, _⟩ => exact absurd rfl hb
      | ⟨1, _⟩ => rfl
    · show (i : ℕ) - A + A = i
      omega

/-- Row `n` of one table in place of that of another. -/
theorem IsMat.selRow {n : ℕ} {X Y : FVec Ideal (S2 8 N) φ} (hX : IsMat x X) (hY : IsMat y Y) (hn : n < 8) (hi : (S2 8 1).Iotas .tc 32 [0])
    (hc : (S2 8 1).ShapeCasts (S2 8 1)) (hb : (S2 8 1).Broadcasts (S2 8 N)) :
    IsMat (fun i j => if i = n then x i j else y i j)
      (select (broadcastTo (S2 8 N) (shapeCast (S2 8 1) (cmpi .eq (iota .tc (S2 8 1) 32 [0] hi) (broadcast (S2 8 1) (BitVec.ofNat 32 n))) hc) hb) X Y) := fun i j => by
  have e : broadcastTo (S2 8 N) (shapeCast (S2 8 1) (cmpi .eq (iota .tc (S2 8 1) 32 [0] hi) (broadcast (S2 8 1) (BitVec.ofNat 32 n))) hc) hb (ix2 i j)
      = IntOp.cmpi .eq (BitVec.ofNat 32 (0 * 8 + i)) (BitVec.ofNat 32 n) := by
    rw [cast_self]
    refine (broadcastTo_apply _ hb (ix2 i j) (ix2 i 0) fun a => match a with
      | ⟨0, _⟩ => rfl
      | ⟨1, _⟩ => rfl).trans rfl
  show Scalar.select _ (X (ix2 i j)) (Y (ix2 i j)) = (((if (i : ℕ) = n then x i j else y i j : ℝ)) : EReal)
  have hi8 := i.isLt
  rw [e, WordCmp.cmpi_eq_ofNat (by omega) (by omega)]
  by_cases q : (i : ℕ) = n
  · rw [if_pos q, decide_eq_true (show 0 * 8 + (i : ℕ) = n by omega)]
    exact hX i j
  · rw [if_neg q, decide_eq_false (show ¬ 0 * 8 + (i : ℕ) = n by omega)]
    exact hY i j

/-- The rows `k` further on, the rows past the end being those of `h`. -/
def ah (M k : ℕ) (d h : ℕ → ℕ → ℝ) (i j : ℕ) : ℝ := if i + k < M then d (i + k) j else h (i + k - M) j

theorem ah_zero {M : ℕ} {d h : ℕ → ℕ → ℝ} {i j : ℕ} (hi : i < M) : ah M 0 d h i j = d i j := if_pos hi

/-- The rows one further on: turned back by one, the last row replaced. -/
theorem IsMat.ahead1 {s : BitVec 32} {G : ℕ} {d h : ℕ → ℕ → ℝ} {D : FVec Ideal (S2 M N) φ} {H : FVec Ideal (S2 1 N) φ} (hD : IsMat d D) (hH : IsMat (fun _ j => h 0 j) H)
    (hs : s.toNat + 1 = M) (hG : G + 8 = M) (hr : (S2 M N).Rotates 0 none) (h1 : (S2 M N).Slices ![0, 0] (S2 G N)) (h2 : (S2 M N).Slices ![G, 0] (S2 8 N))
    (hi : (S2 8 1).Iotas .tc 32 [0]) (hc : (S2 8 1).ShapeCasts (S2 8 1)) (hb : (S2 8 1).Broadcasts (S2 8 N)) (hc' : (S2 1 N).ShapeCasts (S2 1 N))
    (hb' : (S2 1 N).Broadcasts (S2 8 N)) (hcc : Shape.Concatenates [(S2 G N), (S2 8 N)] (S2 M N) 0) :
    IsMat (ah M 1 d h) (concatenate (S2 M N) 0 [⟨S2 G N, extractStridedSlice (S2 G N) ![0, 0] (dynamicRotate 0 s none D hr) h1⟩,
      ⟨S2 8 N, select (broadcastTo (S2 8 N) (shapeCast (S2 8 1) (cmpi .eq (iota .tc (S2 8 1) 32 [0] hi) (broadcast (S2 8 1) 7#32)) hc) hb)
        (broadcastTo (S2 8 N) (shapeCast (S2 1 N) H hc') hb') (extractStridedSlice (S2 8 N) ![G, 0] (dynamicRotate 0 s none D hr) h2)⟩] hcc) := by
  have t := hD.turn (k := 1) hr hs (by omega)
  refine ((t.slice h1).below (((hH.cast hc').rows hb').selRow (n := 7) (t.slice h2) (by omega) hi hc hb) hG hcc).congr fun i j hi hj => ?_
  unfold ah
  by_cases q : i + 1 < M
  · rw [if_pos q]
    by_cases r : i < G
    · rw [if_pos r, Nat.mod_eq_of_lt (by omega), Nat.zero_add, Nat.zero_add]
    · rw [if_neg r, if_neg (by omega), Nat.mod_eq_of_lt (by omega), Nat.zero_add, show G + (i - G) = i by omega]
  · rw [if_neg q, if_neg (by omega), if_pos (by omega), show i + 1 - M = 0 by omega]

/-- The rows two further on: turned back by two, the last two rows replaced. -/
theorem IsMat.ahead2 {s : BitVec 32} {G : ℕ} {d h : ℕ → ℕ → ℝ} {D : FVec Ideal (S2 M N) φ} {H H' : FVec Ideal (S2 1 N) φ} (hD : IsMat d D) (hH : IsMat (fun _ j => h 0 j) H)
    (hH' : IsMat (fun _ j => h 1 j) H')
    (hs : s.toNat + 2 = M) (hG : G + 8 = M) (hr : (S2 M N).Rotates 0 none) (h1 : (S2 M N).Slices ![0, 0] (S2 G N)) (h2 : (S2 M N).Slices ![G, 0] (S2 8 N))
    (hi : (S2 8 1).Iotas .tc 32 [0]) (hc : (S2 8 1).ShapeCasts (S2 8 1)) (hb : (S2 8 1).Broadcasts (S2 8 N)) (hc' : (S2 1 N).ShapeCasts (S2 1 N))
    (hb' : (S2 1 N).Broadcasts (S2 8 N)) (hcc : Shape.Concatenates [(S2 G N), (S2 8 N)] (S2 M N) 0) :
    IsMat (ah M 2 d h) (concatenate (S2 M N) 0 [⟨S2 G N, extractStridedSlice (S2 G N) ![0, 0] (dynamicRotate 0 s none D hr) h1⟩,
      ⟨S2 8 N, select (broadcastTo (S2 8 N) (shapeCast (S2 8 1) (cmpi .eq (iota .tc (S2 8 1) 32 [0] hi) (broadcast (S2 8 1) 6#32)) hc) hb)
        (broadcastTo (S2 8 N) (shapeCast (S2 1 N) H hc') hb')
        (select (broadcastTo (S2 8 N) (shapeCast (S2 8 1) (cmpi .eq (iota .tc (S2 8 1) 32 [0] hi) (broadcast (S2 8 1) 7#32)) hc) hb)
          (broadcastTo (S2 8 N) (shapeCast (S2 1 N) H' hc') hb') (extractStridedSlice (S2 8 N) ![G, 0] (dynamicRotate 0 s none D hr) h2))⟩] hcc) := by
  have t := hD.turn (k := 2) hr hs (by omega)
  refine ((t.slice h1).below (((hH.cast hc').rows hb').selRow (n := 6) (((hH'.cast hc').rows hb').selRow (n := 7) (t.slice h2) (by omega) hi hc hb) (by omega) hi hc hb)
    hG hcc).congr fun i j hi hj => ?_
  unfold ah
  by_cases q : i + 2 < M
  · rw [if_pos q]
    by_cases r : i < G
    · rw [if_pos r, Nat.mod_eq_of_lt (by omega), Nat.zero_add, Nat.zero_add]
    · rw [if_neg r, if_neg (by omega), if_neg (by omega), Nat.mod_eq_of_lt (by omega), Nat.zero_add, show G + (i - G) = i by omega]
  · rw [if_neg q, if_neg (by omega)]
    by_cases r : i + 2 = M
    · rw [if_pos (by omega), show i + 2 - M = 0 by omega]
    · rw [if_neg (by omega), if_pos (by omega), show i + 2 - M = 1 by omega]

end Ops

/-! ## Tables stored piece by piece -/

section Pieces
variable {M N A B o p : ℕ} {x w : ℕ → ℕ → ℝ}

/-- `w` in place of a part of `x`. -/
def patch (o p A B : ℕ) (w x : ℕ → ℕ → ℝ) (i j : ℕ) : ℝ := if o ≤ i ∧ i < o + A ∧ p ≤ j ∧ j < p + B then w (i - o) (j - p) else x i j

theorem isMat_canon_patch {L : List (View.Piece (Elt Ideal) (S2 M N) .f32)} (inb : ∀ a, (![o, p] : Fin 2 → ℕ) a + (![A, B] : Fin 2 → ℕ) a ≤ (S2 M N).size a)
    {W : FVec Ideal (S2 A B) .f32} (hW : IsMat w W) (hL : IsMat (φ := .f32) x (View.canon (Val := Elt Ideal) (s := S2 M N) (e := .f32) L)) :
    IsMat (φ := .f32) (patch o p A B w x) (View.canon (Val := Elt Ideal) (s := S2 M N) (e := .f32) (⟨Rect.unit (s := S2 M N) ![o, p] ![A, B] inb, W⟩ :: L)) := fun i j => by
  unfold patch
  by_cases q : o ≤ (i : ℕ) ∧ (i : ℕ) < o + A ∧ p ≤ (j : ℕ) ∧ (j : ℕ) < p + B
  · rw [if_pos q]
    have e : (ix2 i j : (S2 M N).Idx) = (Rect.unit (s := S2 M N) ![o, p] ![A, B] inb).emb (ix2 ⟨i - o, by omega⟩ ⟨j - p, by omega⟩) := by
      funext a; apply Fin.ext; match a with
      | 0 => show (i : ℕ) = o + 1 * (i - o); omega
      | 1 => show (j : ℕ) = p + 1 * (j - p); omega
    rw [e]
    exact (View.canon_cons_emb (Val := Elt Ideal) (e := .f32) (Rect.unit (s := S2 M N) ![o, p] ![A, B] inb) W L _).trans (hW _ _)
  · rw [if_neg q]
    refine (View.canon_cons_of_not_mem _ _ ?_).trans (hL i j)
    rw [Rect.mem_set_unit]
    intro h
    exact q ⟨(h 0).1, (h 0).2, (h 1).1, (h 1).2⟩

theorem isMat_writes_patch {sp : Space} {sig : RefSig} {κ : Kind} (V : View sig κ sp (S2 M N) .f32) (f : V.ref.ty.Contents (Elt Ideal))
    {L : List (View.Piece (Elt Ideal) (S2 M N) .f32)} (inb : ∀ a, (![o, p] : Fin 2 → ℕ) a + (![A, B] : Fin 2 → ℕ) a ≤ (S2 M N).size a)
    {W : FVec Ideal (S2 A B) .f32} (hW : IsMat w W) (hL : IsMat (φ := .f32) x (View.read (Elt Ideal) V (V.writes (Elt Ideal) f L))) :
    IsMat (φ := .f32) (patch o p A B w x) (View.read (Elt Ideal) V (V.writes (Elt Ideal) f (⟨Rect.unit (s := S2 M N) ![o, p] ![A, B] inb, W⟩ :: L))) := fun i j => by
  unfold patch
  by_cases q : o ≤ (i : ℕ) ∧ (i : ℕ) < o + A ∧ p ≤ (j : ℕ) ∧ (j : ℕ) < p + B
  · rw [if_pos q]
    refine (View.read_writes_cons_unit_of_mem _ _ inb _ _ _ (ix2 ⟨i - o, by omega⟩ ⟨j - p, by omega⟩) rfl ?_).trans (hW _ _)
    intro a
    match a with
    | 0 => show (i : ℕ) = o + (i - o); omega
    | 1 => show (j : ℕ) = p + (j - p); omega
  · rw [if_neg q]
    by_cases r : (i : ℕ) < o ∨ o + A ≤ (i : ℕ)
    · exact (View.read_writes_cons_unit_of_not_mem _ _ inb _ _ _ rfl 0 r).trans (hL i j)
    · exact (View.read_writes_cons_unit_of_not_mem _ _ inb _ _ _ rfl 1 (show (j : ℕ) < p ∨ p + B ≤ (j : ℕ) by omega)).trans (hL i j)

/-- The pieces stored so far leave no gap, and hold `x`. -/
structure Held (x : ℕ → ℕ → ℝ) (L : List (View.Piece (Elt Ideal) (S2 M N) .f32)) : Prop where
  cover : ∀ y : (S2 M N).Idx, ∃ q ∈ L, y ∈ q.1.set
  holds : IsMat (φ := .f32) x (View.canon (Val := Elt Ideal) (s := S2 M N) (e := .f32) L)

theorem Held.whole (inb : ∀ a, (![0, 0] : Fin 2 → ℕ) a + (![M, N] : Fin 2 → ℕ) a ≤ (S2 M N).size a) {W : FVec Ideal (S2 M N) .f32} (hW : IsMat w W) :
    Held (M := M) (N := N) w [⟨Rect.unit (s := S2 M N) ![0, 0] ![M, N] inb, W⟩] where
  cover y := ⟨_, List.mem_cons_self, by
    show y ∈ (Rect.unit (s := S2 M N) ![0, 0] ![M, N] inb).set
    rw [Rect.mem_set_unit]
    intro a
    match a with
    | 0 => exact ⟨Nat.zero_le _, by show (y 0 : ℕ) < 0 + M; have := (y 0).isLt; rw [Nat.zero_add]; exact this⟩
    | 1 => exact ⟨Nat.zero_le _, by show (y 1 : ℕ) < 0 + N; have := (y 1).isLt; rw [Nat.zero_add]; exact this⟩⟩
  holds := by
    rw [View.canon_cons_unit_lit']
    · exact hW
    · intro a; match a with
      | 0 => rfl
      | 1 => rfl

theorem Held.patch {L : List (View.Piece (Elt Ideal) (S2 M N) .f32)} (hL : Held x L) (inb : ∀ a, (![o, p] : Fin 2 → ℕ) a + (![A, B] : Fin 2 → ℕ) a ≤ (S2 M N).size a)
    {W : FVec Ideal (S2 A B) .f32} (hW : IsMat w W) :
    Held (M := M) (N := N) (patch o p A B w x) (⟨Rect.unit (s := S2 M N) ![o, p] ![A, B] inb, W⟩ :: L) where
  cover y := let ⟨q, h, h'⟩ := hL.cover y; ⟨q, List.mem_cons_of_mem _ h, h'⟩
  holds := isMat_canon_patch inb hW hL.holds

/-- A part read back. -/
theorem Held.read {L : List (View.Piece (Elt Ideal) (S2 M N) .f32)} (hL : Held x L) {sp : Space} {sig : RefSig} {κ : Kind} (V : View sig κ sp (S2 M N) .f32)
    (inb : ∀ a, (![o, p] : Fin 2 → ℕ) a + (![A, B] : Fin 2 → ℕ) a ≤ (S2 M N).size a) :
    IsMat (a := A) (b := B) (φ := .f32) (fun i j => x (o + i) (p + j)) (V.readCov (Val := Elt Ideal) L (Rect.unit (s := S2 M N) ![o, p] ![A, B] inb).toLoadRect) := by
  rw [View.readCov_eq_canon_ld V L _ hL.cover]
  exact hL.holds.ld inb

/-- A part of a table updated from what it holds. -/
theorem Held.update {L : List (View.Piece (Elt Ideal) (S2 M N) .f32)} (hL : Held x L) {sp : Space} {sig : RefSig} {κ : Kind} (V : View sig κ sp (S2 M N) .f32)
    (inb : ∀ a, (![o, p] : Fin 2 → ℕ) a + (![A, B] : Fin 2 → ℕ) a ≤ (S2 M N).size a) {W : FVec Ideal (S2 A B) .f32 → FVec Ideal (S2 A B) .f32}
    (hW : ∀ v, IsMat (fun i j => x (o + i) (p + j)) v → IsMat w (W v)) :
    Held (M := M) (N := N) (Tables.patch o p A B w x)
      (⟨Rect.unit (s := S2 M N) ![o, p] ![A, B] inb, W (V.readCov (Val := Elt Ideal) L (Rect.unit (s := S2 M N) ![o, p] ![A, B] inb).toLoadRect)⟩ :: L) :=
  hL.patch inb (hW _ (hL.read V inb))

/-- Two halves side by side, read. -/
theorem halves_apply {e : EltTy} {n : ℕ} {L : List (View.Piece (Elt Ideal) (S2 M N) e)} (hn : n + n = N) (inb : ∀ a, (![0, 0] : Fin 2 → ℕ) a + (![M, n] : Fin 2 → ℕ) a ≤ (S2 M N).size a)
    (inb' : ∀ a, (![0, n] : Fin 2 → ℕ) a + (![M, n] : Fin 2 → ℕ) a ≤ (S2 M N).size a) (W W' : (S2 M n).Idx → Elt Ideal e) (i : Fin M) (j : Fin N) :
    View.canon (Val := Elt Ideal) (s := S2 M N) (e := e)
      (⟨Rect.unit (s := S2 M N) ![0, n] ![M, n] inb', W'⟩ :: ⟨Rect.unit (s := S2 M N) ![0, 0] ![M, n] inb, W⟩ :: L) (ix2 i j)
      = if h : (j : ℕ) < n then W (ix2 i ⟨j, h⟩) else W' (ix2 i ⟨j - n, by have := j.isLt; omega⟩) := by
  by_cases q : (j : ℕ) < n
  · rw [dif_pos q]
    refine (View.canon_cons_of_not_mem _ _ ?_).trans ?_
    · rw [Rect.mem_set_unit]
      intro h
      have h1 : n ≤ (j : ℕ) := (h 1).1
      omega
    · have e' : (ix2 i j : (S2 M N).Idx) = (Rect.unit (s := S2 M N) ![0, 0] ![M, n] inb).emb (ix2 i ⟨j, q⟩) := by
        funext a; apply Fin.ext; match a with
        | 0 => show (i : ℕ) = 0 + 1 * i; omega
        | 1 => show (j : ℕ) = 0 + 1 * j; omega
      rw [e']
      exact View.canon_cons_emb (Val := Elt Ideal) (e := e) (Rect.unit (s := S2 M N) ![0, 0] ![M, n] inb) W L _
  · rw [dif_neg q]
    have hj := j.isLt
    have e' : (ix2 i j : (S2 M N).Idx) = (Rect.unit (s := S2 M N) ![0, n] ![M, n] inb').emb (ix2 i ⟨j - n, by omega⟩) := by
      funext a; apply Fin.ext; match a with
      | 0 => show (i : ℕ) = 0 + 1 * i; omega
      | 1 => show (j : ℕ) = n + 1 * (j - n); omega
    rw [e']
    exact View.canon_cons_emb (Val := Elt Ideal) (e := e) (Rect.unit (s := S2 M N) ![0, n] ![M, n] inb') W' _ _

/-- Two halves side by side. -/
theorem isMat_halves {n : ℕ} {L : List (View.Piece (Elt Ideal) (S2 M N) .f32)} (hn : n + n = N) (inb : ∀ a, (![0, 0] : Fin 2 → ℕ) a + (![M, n] : Fin 2 → ℕ) a ≤ (S2 M N).size a)
    (inb' : ∀ a, (![0, n] : Fin 2 → ℕ) a + (![M, n] : Fin 2 → ℕ) a ≤ (S2 M N).size a) {W W' : FVec Ideal (S2 M n) .f32}
    (hW : IsMat x W) (hW' : IsMat (fun i j => x i (n + j)) W') :
    IsMat (φ := .f32) x (View.canon (Val := Elt Ideal) (s := S2 M N) (e := .f32)
      (⟨Rect.unit (s := S2 M N) ![0, n] ![M, n] inb', W'⟩ :: ⟨Rect.unit (s := S2 M N) ![0, 0] ![M, n] inb, W⟩ :: L)) := fun i j => by
  refine (halves_apply (e := .f32) hn inb inb' W W' i j).trans ?_
  split
  · exact hW _ _
  · refine (hW' _ _).trans ?_
    show ((x i (n + (j - n)) : ℝ) : EReal) = ((x i j : ℝ) : EReal)
    rw [show n + ((j : ℕ) - n) = j by omega]

/-- The same of the narrower type. -/
theorem isMat_halves16 {n : ℕ} {L : List (View.Piece (Elt Ideal) (S2 M N) .bf16)} (hn : n + n = N) (inb : ∀ a, (![0, 0] : Fin 2 → ℕ) a + (![M, n] : Fin 2 → ℕ) a ≤ (S2 M N).size a)
    (inb' : ∀ a, (![0, n] : Fin 2 → ℕ) a + (![M, n] : Fin 2 → ℕ) a ≤ (S2 M N).size a) {W W' : FVec Ideal (S2 M n) .bf16}
    (hW : IsMat x W) (hW' : IsMat (fun i j => x i (n + j)) W') :
    IsMat (φ := .bf16) x (View.canon (Val := Elt Ideal) (s := S2 M N) (e := .bf16)
      (⟨Rect.unit (s := S2 M N) ![0, n] ![M, n] inb', W'⟩ :: ⟨Rect.unit (s := S2 M N) ![0, 0] ![M, n] inb, W⟩ :: L)) := fun i j => by
  refine (halves_apply (e := .bf16) hn inb inb' W W' i j).trans ?_
  split
  · exact hW _ _
  · refine (hW' _ _).trans ?_
    show ((x i (n + (j - n)) : ℝ) : EReal) = ((x i j : ℝ) : EReal)
    rw [show n + ((j : ℕ) - n) = j by omega]

end Pieces

end Cert.Tables

end
-- ==== Proof.FfnBwd.Point.lean ====
/- What a grid point of the feed-forward block's backward pass leaves in its output blocks and in its scratch, at the reals. -/
module

public import proofs.«01_k».proof.Proof.Taps
public import proofs.«01_k».proof.Proof.Gen.FfnBwdIdeal.Frame

@[expose] public section

set_option maxRecDepth 16384

noncomputable section

namespace Cert.FfnBwdProof

open Cert.FfnBwdIdeal Cert.FfnBwdIdeal.Gen Idealize.ShloMosaic Idealize.ShloMosaic.TcCoe Idealize.SL.Sem
open Cert.Tables

/-- The gradient of the activations. -/
def da (z wd : ℕ → ℕ → ℝ) (i j : ℕ) : ℝ := ∑ l ∈ Finset.range 1024, z i l * wd j l

/-- The gradient of the convolution's result: of the gate's columns, then of the values' columns. -/
def gd (z wd u : ℕ → ℕ → ℝ) (i j : ℕ) : ℝ :=
  if j < 2816 then da z wd i j * u i (2816 + j) * (sg (u i j) * (1 + u i j * (1 - sg (u i j))))
  else da z wd i (j - 2816) * (u i (j - 2816) * sg (u i (j - 2816)))

/-- The gradient of the convolution's argument, of its result's gradient `d` in the tile and `h` in the tile after. -/
def pre (d h w : ℕ → ℕ → ℝ) (i j : ℕ) : ℝ := d i j * w 2 j + ah 256 1 d h i j * w 1 j + ah 256 2 d h i j * w 0 j

/-- The gradient of the normed rows. -/
def dh (p wu : ℕ → ℕ → ℝ) (i l : ℕ) : ℝ := ∑ k ∈ Finset.range 5632, p i k * wu k l

theorem sum_halves (p wu : ℕ → ℕ → ℝ) (i l : ℕ) :
    0 + (∑ k ∈ Finset.range 2816, p i k * wu (0 + k) (0 + l)) + (∑ k ∈ Finset.range 2816, p i (2816 + k) * wu (2816 + k) (0 + l)) = dh p wu i l := by
  unfold dh
  rw [show (5632 : ℕ) = 2816 + 2816 from rfl, Finset.sum_range_add]
  simp only [Nat.zero_add, zero_add]

variable {z x g u0 u w wd wu hd y : ℕ → ℕ → ℝ}

section Pay
variable {b0 b1 : FVec Ideal S256x1024 .f32} {b2 : FVec Ideal S1x1024 .f32} {b3 b4 : FVec Ideal S256x5632 .bf16} {b5 : FVec Ideal S8x5632 .f32}
  {b6 : FVec Ideal S2816x1024 .bf16} {b7 : FVec Ideal S5632x1024 .bf16} {p0 p1 q0 q1 : FVec Ideal S1x2816 .f32}

abbrev left (b : FVec Ideal S256x5632 .bf16) : FVec Ideal S256x2816 .bf16 :=
  View.ld (Val := Elt Ideal) (e' := .bf16) b (Rect.unit (s := S256x5632) ![0, 0] ![256, 2816] inb_S256x5632_S256x2816_0_0)
abbrev right (b : FVec Ideal S256x5632 .bf16) : FVec Ideal S256x2816 .bf16 :=
  View.ld (Val := Elt Ideal) (e' := .bf16) b (Rect.unit (s := S256x5632) ![0, 2816] ![256, 2816] inb_S256x5632_S256x2816_0_2816)

abbrev dA (b0 : FVec Ideal S256x1024 .f32) (b4 : FVec Ideal S256x5632 .bf16) (b6 : FVec Ideal S2816x1024 .bf16) : FVec Ideal S256x2816 .f32 :=
  k0_pay14 (k0_pay6 b0) (k0_pay11 (left b4)) (right b4) b6
abbrev dB (b0 : FVec Ideal S256x1024 .f32) (b4 : FVec Ideal S256x5632 .bf16) (b6 : FVec Ideal S2816x1024 .bf16) : FVec Ideal S256x2816 .f32 :=
  k0_pay15 (k0_pay6 b0) (k0_pay11 (left b4)) b6
abbrev dA1 (b0 : FVec Ideal S256x1024 .f32) (b4 : FVec Ideal S256x5632 .bf16) (b6 : FVec Ideal S2816x1024 .bf16) (p0 : FVec Ideal S1x2816 .f32) : FVec Ideal S256x2816 .f32 :=
  k0_pay18 (k0_pay6 b0) (k0_pay11 (left b4)) (right b4) b6 p0
abbrev dA2 (b0 : FVec Ideal S256x1024 .f32) (b4 : FVec Ideal S256x5632 .bf16) (b6 : FVec Ideal S2816x1024 .bf16) (p0 p1 : FVec Ideal S1x2816 .f32) : FVec Ideal S256x2816 .f32 :=
  k0_pay19 p0 p1 (iota .tc S8x1 32 [0] iota_S8x1_d0_w32) (k0_pay17 (k0_pay6 b0) (k0_pay11 (left b4)) (right b4) b6)
abbrev dB1 (d : FVec Ideal S256x2816 .f32) (q0 : FVec Ideal S1x2816 .f32) : FVec Ideal S256x2816 .f32 := k0_pay34 q0 (k0_pay31 d) (k0_pay32 d) k0_pay33
abbrev dB2 (d : FVec Ideal S256x2816 .f32) (q0 q1 : FVec Ideal S1x2816 .f32) : FVec Ideal S256x2816 .f32 :=
  k0_pay35 q0 q1 (iota .tc S8x1 32 [0] iota_S8x1_d0_w32) (k0_pay30 d)

theorem pay11_mat (h4 : IsMat u b4) : IsMat (fun i j => u i j) (k0_pay11 (F := Ideal) (left b4)) :=
  ((h4.ld16 (A := 256) (B := 2816) inb_S256x5632_S256x2816_0_0).cast shapeCasts_S256x2816_S256x2816).congr fun i j _ _ => by rw [Nat.zero_add, Nat.zero_add]

theorem right_mat (h4 : IsMat u b4) : IsMat (fun i j => u i (2816 + j)) (right b4) :=
  (h4.ld16 (A := 256) (B := 2816) inb_S256x5632_S256x2816_0_2816).congr fun i j _ _ => by rw [Nat.zero_add]

theorem pay13_mat (h0 : IsMat z b0) (h6 : IsMat wd b6) : IsMat (da z wd) (k0_pay13 (F := Ideal) (k0_pay6 b0) b6) :=
  (h0.cast shapeCasts_S256x1024_S256x1024).dotT (h6.cast shapeCasts_S2816x1024_S2816x1024)

theorem pay12_mat (h4 : IsMat u b4) : IsMat (fun i j => sg (u i j)) (k0_pay12 (F := Ideal) (k0_pay11 (left b4))) := (pay11_mat h4).logistic

theorem dA_mat (h0 : IsMat z b0) (h4 : IsMat u b4) (h6 : IsMat wd b6) : IsMat (fun i j => gd z wd u i j) (dA b0 b4 b6) := by
  have one := isMat_broadcast (M := 256) (N := 2816) (φ := .f32) one_f32
  exact ((((pay13_mat h0 h6).mul ((right_mat h4).cast shapeCasts_S256x2816_S256x2816)).mul
    ((pay12_mat h4).mul (one.add ((pay11_mat h4).mul (one.sub (pay12_mat h4)))))).congr fun i j _ hj => by rw [gd, if_pos hj])

theorem dB_mat (h0 : IsMat z b0) (h4 : IsMat u b4) (h6 : IsMat wd b6) : IsMat (fun i j => gd z wd u i (2816 + j)) (dB b0 b4 b6) :=
  ((pay13_mat h0 h6).mul ((pay11_mat h4).mul (pay12_mat h4))).congr fun i j _ hj => by
    rw [gd, if_neg (by omega), show 2816 + j - 2816 = j by omega]

/-- The first two rows of the tile after. -/
structure Heads (hd : ℕ → ℕ → ℝ) (p0 p1 q0 q1 : FVec Ideal S1x2816 .f32) : Prop where
  p0 : IsMat (fun _ j => hd 0 j) p0
  p1 : IsMat (fun _ j => hd 1 j) p1
  q0 : IsMat (fun _ j => hd 0 (2816 + j)) q0
  q1 : IsMat (fun _ j => hd 1 (2816 + j)) q1

theorem dA1_mat (h0 : IsMat z b0) (h4 : IsMat u b4) (h6 : IsMat wd b6) (hp : IsMat (fun _ j => hd 0 j) p0) :
    IsMat (fun i j => ah 256 1 (gd z wd u) hd i j) (dA1 b0 b4 b6 p0) :=
  (dA_mat h0 h4 h6).ahead1 (h := hd) hp (s := 255#32) (G := 248) rfl rfl rotates_S256x2816_d0 slices_S256x2816_o0_0_S248x2816 slices_S256x2816_o248_0_S8x2816
    iota_S8x1_d0_w32 shapeCasts_S8x1_S8x1 broadcasts_S8x1_S8x2816 shapeCasts_S1x2816_S1x2816 broadcasts_S1x2816_S8x2816 concatenates_S248x2816_S8x2816_S256x2816_d0

theorem dA2_mat (h0 : IsMat z b0) (h4 : IsMat u b4) (h6 : IsMat wd b6) (hp : IsMat (fun _ j => hd 0 j) p0) (hp' : IsMat (fun _ j => hd 1 j) p1) :
    IsMat (fun i j => ah 256 2 (gd z wd u) hd i j) (dA2 b0 b4 b6 p0 p1) :=
  (dA_mat h0 h4 h6).ahead2 (h := hd) hp hp' (s := 254#32) (G := 248) rfl rfl rotates_S256x2816_d0 slices_S256x2816_o0_0_S248x2816 slices_S256x2816_o248_0_S8x2816
    iota_S8x1_d0_w32 shapeCasts_S8x1_S8x1 broadcasts_S8x1_S8x2816 shapeCasts_S1x2816_S1x2816 broadcasts_S1x2816_S8x2816 concatenates_S248x2816_S8x2816_S256x2816_d0

theorem dB1_mat (h0 : IsMat z b0) (h4 : IsMat u b4) (h6 : IsMat wd b6) (hp : IsMat (fun _ j => hd 0 (2816 + j)) q0) :
    IsMat (fun i j => ah 256 1 (gd z wd u) hd i (2816 + j)) (dB1 (dB b0 b4 b6) q0) :=
  (dB_mat h0 h4 h6).ahead1 (h := fun i j => hd i (2816 + j)) hp (s := 255#32) (G := 248) rfl rfl rotates_S256x2816_d0 slices_S256x2816_o0_0_S248x2816 slices_S256x2816_o248_0_S8x2816
    iota_S8x1_d0_w32 shapeCasts_S8x1_S8x1 broadcasts_S8x1_S8x2816 shapeCasts_S1x2816_S1x2816 broadcasts_S1x2816_S8x2816 concatenates_S248x2816_S8x2816_S256x2816_d0

theorem dB2_mat (h0 : IsMat z b0) (h4 : IsMat u b4) (h6 : IsMat wd b6) (hp : IsMat (fun _ j => hd 0 (2816 + j)) q0) (hp' : IsMat (fun _ j => hd 1 (2816 + j)) q1) :
    IsMat (fun i j => ah 256 2 (gd z wd u) hd i (2816 + j)) (dB2 (dB b0 b4 b6) q0 q1) :=
  (dB_mat h0 h4 h6).ahead2 (h := fun i j => hd i (2816 + j)) hp hp' (s := 254#32) (G := 248) rfl rfl rotates_S256x2816_d0 slices_S256x2816_o0_0_S248x2816 slices_S256x2816_o248_0_S8x2816
    iota_S8x1_d0_w32 shapeCasts_S8x1_S8x1 broadcasts_S8x1_S8x2816 shapeCasts_S1x2816_S1x2816 broadcasts_S1x2816_S8x2816 concatenates_S248x2816_S8x2816_S256x2816_d0

/-! ### The gradient of the convolution's argument -/

abbrev tap (b5 : FVec Ideal S8x5632 .f32) (k p : ℕ) (inb : ∀ a, (![k, p] : Fin 2 → ℕ) a + (![1, 2816] : Fin 2 → ℕ) a ≤ S8x5632.size a) : FVec Ideal S1x2816 .f32 :=
  View.ld (Val := Elt Ideal) (e' := .f32) b5 (Rect.unit (s := S8x5632) ![k, p] ![1, 2816] inb)

abbrev preA (b0 : FVec Ideal S256x1024 .f32) (b4 : FVec Ideal S256x5632 .bf16) (b5 : FVec Ideal S8x5632 .f32) (b6 : FVec Ideal S2816x1024 .bf16) (p0 p1 : FVec Ideal S1x2816 .f32) : FVec Ideal S256x2816 .bf16 :=
  k0_pay26 (dA b0 b4 b6) (dA1 b0 b4 b6 p0) (dA2 b0 b4 b6 p0 p1) (tap b5 2 0 inb_S8x5632_S1x2816_2_0) (tap b5 1 0 inb_S8x5632_S1x2816_1_0) (tap b5 0 0 inb_S8x5632_S1x2816_0_0)
abbrev preB (b0 : FVec Ideal S256x1024 .f32) (b4 : FVec Ideal S256x5632 .bf16) (b5 : FVec Ideal S8x5632 .f32) (b6 : FVec Ideal S2816x1024 .bf16) (q0 q1 : FVec Ideal S1x2816 .f32) : FVec Ideal S256x2816 .bf16 :=
  k0_pay41 (dB b0 b4 b6) (dB1 (dB b0 b4 b6) q0) (dB2 (dB b0 b4 b6) q0 q1) (tap b5 2 2816 inb_S8x5632_S1x2816_2_2816) (tap b5 1 2816 inb_S8x5632_S1x2816_1_2816)
    (tap b5 0 2816 inb_S8x5632_S1x2816_0_2816)
abbrev dhOf (b0 : FVec Ideal S256x1024 .f32) (b4 : FVec Ideal S256x5632 .bf16) (b5 : FVec Ideal S8x5632 .f32) (b6 : FVec Ideal S2816x1024 .bf16) (b7 : FVec Ideal S5632x1024 .bf16)
    (p0 p1 q0 q1 : FVec Ideal S1x2816 .f32) : FVec Ideal S256x1024 .f32 :=
  k0_pay42 (dB b0 b4 b6)
    (k0_pay27 k0_pay10 (dA b0 b4 b6) (dA1 b0 b4 b6 p0) (dA2 b0 b4 b6 p0 p1) (tap b5 2 0 inb_S8x5632_S1x2816_2_0) (tap b5 1 0 inb_S8x5632_S1x2816_1_0)
      (tap b5 0 0 inb_S8x5632_S1x2816_0_0)
      (View.ld (Val := Elt Ideal) (e' := .bf16) b7 (Rect.unit (s := S5632x1024) ![0, 0] ![2816, 1024] inb_S5632x1024_S2816x1024_0_0)))
    (dB1 (dB b0 b4 b6) q0) (dB2 (dB b0 b4 b6) q0 q1) (tap b5 2 2816 inb_S8x5632_S1x2816_2_2816) (tap b5 1 2816 inb_S8x5632_S1x2816_1_2816)
    (tap b5 0 2816 inb_S8x5632_S1x2816_0_2816)
    (View.ld (Val := Elt Ideal) (e' := .bf16) b7 (Rect.unit (s := S5632x1024) ![2816, 0] ![2816, 1024] inb_S5632x1024_S2816x1024_2816_0))

theorem preA_mat (h0 : IsMat z b0) (h4 : IsMat u b4) (h5 : IsMat w b5) (h6 : IsMat wd b6) (H : Heads hd p0 p1 q0 q1) :
    IsMat (fun i j => pre (gd z wd u) hd w i j) (preA b0 b4 b5 b6 p0 p1) := by
  have l := fun (k : ℕ) inb => ((h5.ld (A := 1) (B := 2816) (o := k) (p := 0) inb).cast shapeCasts_S1x2816_S1x2816).rows broadcasts_S1x2816_S256x2816
  have q := (((dA_mat h0 h4 h6).mul (l 2 inb_S8x5632_S1x2816_2_0)).add ((dA1_mat h0 h4 h6 H.p0).mul (l 1 inb_S8x5632_S1x2816_1_0))).add
    ((dA2_mat h0 h4 h6 H.p0 H.p1).mul (l 0 inb_S8x5632_S1x2816_0_0))
  exact (q.trunc bitsLt_bf16_f32).congr fun i j _ _ => by simp only [pre, Nat.add_zero, Nat.zero_add]

theorem preB_mat (h0 : IsMat z b0) (h4 : IsMat u b4) (h5 : IsMat w b5) (h6 : IsMat wd b6) (H : Heads hd p0 p1 q0 q1) :
    IsMat (fun i j => pre (gd z wd u) hd w i (2816 + j)) (preB b0 b4 b5 b6 q0 q1) := by
  have l := fun (k : ℕ) inb => ((h5.ld (A := 1) (B := 2816) (o := k) (p := 2816) inb).cast shapeCasts_S1x2816_S1x2816).rows broadcasts_S1x2816_S256x2816
  have q := (((dB_mat h0 h4 h6).mul (l 2 inb_S8x5632_S1x2816_2_2816)).add ((dB1_mat h0 h4 h6 H.q0).mul (l 1 inb_S8x5632_S1x2816_1_2816))).add
    ((dB2_mat h0 h4 h6 H.q0 H.q1).mul (l 0 inb_S8x5632_S1x2816_0_2816))
  exact (q.trunc bitsLt_bf16_f32).congr fun i j _ _ => by simp only [pre, Nat.add_zero]

theorem dhOf_mat (h0 : IsMat z b0) (h4 : IsMat u b4) (h5 : IsMat w b5) (h6 : IsMat wd b6) (h7 : IsMat wu b7) (H : Heads hd p0 p1 q0 q1) :
    IsMat (dh (pre (gd z wd u) hd w) wu) (dhOf b0 b4 b5 b6 b7 p0 p1 q0 q1) := by
  have l0 := h7.ld16 (A := 2816) (B := 1024) inb_S5632x1024_S2816x1024_0_0
  have l1 := h7.ld16 (A := 2816) (B := 1024) inb_S5632x1024_S2816x1024_2816_0
  have zero := isMat_broadcast (M := 256) (N := 1024) (φ := .f32) (k := 0) zero_f32
  have q := (zero.add ((preA_mat h0 h4 h5 h6 H).dot (l0.cast shapeCasts_S2816x1024_S2816x1024))).add
    ((preB_mat h0 h4 h5 h6 H).dot (l1.cast shapeCasts_S2816x1024_S2816x1024))
  exact q.congr fun i l _ _ => sum_halves _ _ i l

/-! ### The norm -/

theorem pay8_mat (h1 : IsMat x b1) : IsMat (fun i _ => inv x i) (k0_pay8 (F := Ideal) b1) := by
  have p := ((((h1.cast shapeCasts_S256x1024_S256x1024).mul (h1.cast shapeCasts_S256x1024_S256x1024)).rowSum reduces_S256x1024_S256 shapeCasts_S256_S256x1).divc
    (c := Ideal.ofBits .f32 0x44800000#32) (k := 1024) width_f32 (by norm_num)).add (isMat_broadcast eps_spec.1)
  exact p.rsqrt fun i j _ _ => meansq_pos x i

theorem pay9_mat (h1 : IsMat x b1) : IsMat (fun i l => x i l * inv x i) (k0_pay9 (F := Ideal) b1) :=
  (h1.cast shapeCasts_S256x1024_S256x1024).mul ((pay8_mat h1).cols broadcasts_S256x1_S256x1024)

/-- The gradient of the tile's rows. -/
theorem pay1_mat {D : FVec Ideal S256x1024 .f32} {q : ℕ → ℕ → ℝ} (hD : IsMat q D) (h1 : IsMat x b1) (h2 : IsMat (fun _ l => g 0 l) b2) (h0 : IsMat z b0) :
    IsMat (fun i l => z i l + normGrad x (fun i l => q i l * g 0 l) i l)
      (k0_pay1 (F := Ideal) (k0_pay5 b0) (k0_pay8 b1) (k0_pay9 b1) (mulf D (broadcastTo S256x1024 b2 broadcasts_S1x1024_S256x1024))
        (mulf (mulf D (broadcastTo S256x1024 b2 broadcasts_S1x1024_S256x1024)) (k0_pay9 b1))) := by
  have p := hD.mul (h2.rows broadcasts_S1x1024_S256x1024)
  have s := ((p.mul (pay9_mat h1)).rowSum reduces_S256x1024_S256 shapeCasts_S256_S256x1).divc
    (c := Ideal.ofBits .f32 0x44800000#32) (k := 1024) width_f32 (by norm_num)
  exact (h0.cast shapeCasts_S256x1024_S256x1024).add (((pay8_mat h1).cols broadcasts_S256x1_S256x1024).mul
    (p.sub ((pay9_mat h1).mul (s.cols broadcasts_S256x1_S256x1024))))

/-- A sum over the tile's rows, added to what was there. -/
theorem pay22_mat {U V : FVec Ideal S256x2816 .f32} {v : FVec Ideal S1x2816 .f32} {p q : ℕ → ℕ → ℝ} {r : ℕ → ℝ} (hU : IsMat p U) (hV : IsMat q V) (hv : IsMat (fun _ j => r j) v) :
    IsMat (fun _ j => r j + ∑ i ∈ Finset.range 256, p i j * q i j) (k0_pay22 (F := Ideal) U V v) :=
  (hv.cast shapeCasts_S1x2816_S1x2816).add ((hU.mul hV).colSum reduces_S256x2816_S2816 shapeCasts_S2816_S1x2816)

theorem pay43_mat {D X : FVec Ideal S256x1024 .f32} {v : FVec Ideal S1x1024 .f32} {p q : ℕ → ℕ → ℝ} {r : ℕ → ℝ} (hD : IsMat p D) (hX : IsMat q X) (hv : IsMat (fun _ j => r j) v) :
    IsMat (fun _ j => r j + ∑ i ∈ Finset.range 256, p i j * q i j)
      (addf (shapeCast S1x1024 v shapeCasts_S1x1024_S1x1024)
        (shapeCast S1x1024 (multiReduction (F := Ideal) .add [0] S1024 (mulf D X) 0x00000000#32 reduces_S256x1024_S1024 (.inl rfl) rfl) shapeCasts_S1024_S1x1024)) :=
  (hv.cast shapeCasts_S1x1024_S1x1024).add ((hD.mul hX).colSum reduces_S256x1024_S1024 shapeCasts_S1024_S1x1024)

end Pay

end Cert.FfnBwdProof

end
-- ==== Proof.FfnBwd.Tile.lean ====
/- The blocks that a grid point of the feed-forward block's backward pass leaves, in its three cases: the first grid point,
   the first of a sequence, and any other. -/
module

public import proofs.«01_k».proof.Proof.FfnBwd.Point
public import Idealize.ShloMosaic.Lib.Pipeline.ReadBack

@[expose] public section

set_option maxRecDepth 16384

noncomputable section

namespace Cert.FfnBwdProof

open Cert.FfnBwdIdeal Cert.FfnBwdIdeal.Gen Idealize.ShloMosaic Idealize.ShloMosaic.TcCoe Idealize.SL.Sem
open Cert.Tables

variable {m : (ℓ : Loc nD τ sig) → Buf (Elt Ideal) ℓ} {c : Dev nD}

/-- The operands' blocks at a grid point: the gradient `z`, the rows `x`, the gain `g`, the convolution's argument `u0` and
    result `u`, the taps `w`, and the two weights. -/
structure Tile (m : (ℓ : Loc nD τ sig) → Buf (Elt Ideal) ℓ) (c : Dev nD) (t : Fin cfg0.N) (z x g u0 u w wd wu : ℕ → ℕ → ℝ) : Prop where
  h0 : IsMat (a := 256) (b := 1024) (φ := .f32) z (iblk m c 0 t)
  h1 : IsMat (a := 256) (b := 1024) (φ := .f32) x (iblk m c 1 t)
  h2 : IsMat (a := 1) (b := 1024) (φ := .f32) (fun _ l => g 0 l) (iblk m c 2 t)
  h3 : IsMat (a := 256) (b := 5632) (φ := .bf16) u0 (iblk m c 3 t)
  h4 : IsMat (a := 256) (b := 5632) (φ := .bf16) u (iblk m c 4 t)
  h5 : IsMat (a := 8) (b := 5632) (φ := .f32) w (iblk m c 5 t)
  h6 : IsMat (a := 2816) (b := 1024) (φ := .bf16) wd (iblk m c 6 t)
  h7 : IsMat (a := 5632) (b := 1024) (φ := .bf16) wu (iblk m c 7 t)

variable {t : Fin cfg0.N} {z x g u0 u w wd wu hd y : ℕ → ℕ → ℝ}

/-- What the grid point before left. -/
abbrev before (m : (ℓ : Loc nD τ sig) → Buf (Elt Ideal) ℓ) (c : Dev nD) (t : Fin cfg0.N) := outsAt0 m c (t.val - 1) (Nat.lt_of_le_of_lt (Nat.sub_le t.val 1) t.isLt)

/-- The rows of the tile after, as the scratch holds them when the tile begins: none at a sequence's end. -/
def Held0 (m : (ℓ : Loc nD τ sig) → Buf (Elt Ideal) ℓ) (c : Dev nD) (t : Fin cfg0.N) (hd : ℕ → ℕ → ℝ) : Prop :=
  if t.val % 8 = 0 then hd = fun _ _ => 0 else IsMat (a := 8) (b := 5632) (φ := .f32) hd (before m c t).2.2.2.2

theorem zero_scratch : Held (M := 8) (N := 5632) (fun _ _ => 0) [⟨Rect.unit (s := S8x5632) ![0, 0] ![8, 5632] inb_S8x5632_S8x5632_0_0, k0_pay4 (F := Ideal)⟩] :=
  Held.whole (M := 8) (N := 5632) inb_S8x5632_S8x5632_0_0 ((isMat_broadcast zero_f32).cast shapeCasts_S8x5632_S8x5632)

theorem pay20_mat {D : FVec Ideal S256x2816 .f32} {d : ℕ → ℕ → ℝ} (hD : IsMat d D) : IsMat d (k0_pay20 (F := Ideal) D) :=
  ((hD.slice slices_S256x2816_o0_0_S8x2816).cast shapeCasts_S8x2816_S8x2816).congr fun i j _ _ => by rw [Nat.zero_add, Nat.zero_add]

/-- At a sequence's end the two rows after are zero. -/
theorem heads_zero {W : FVec Ideal S8x2816 .f32} {d : ℕ → ℕ → ℝ} (hW : IsMat d W) :
    Heads (fun _ _ => 0)
      ((View.whole cc0_scratch0).readCov (Val := Elt Ideal) [⟨Rect.unit (s := S8x5632) ![0, 0] ![8, 5632] inb_S8x5632_S8x5632_0_0, k0_pay4 (F := Ideal)⟩]
        (Rect.unit (s := S8x5632) ![0, 0] ![1, 2816] inb_S8x5632_S1x2816_0_0).toLoadRect)
      ((View.whole cc0_scratch0).readCov (Val := Elt Ideal) [⟨Rect.unit (s := S8x5632) ![0, 0] ![8, 5632] inb_S8x5632_S8x5632_0_0, k0_pay4 (F := Ideal)⟩]
        (Rect.unit (s := S8x5632) ![1, 0] ![1, 2816] inb_S8x5632_S1x2816_1_0).toLoadRect)
      ((View.whole cc0_scratch0).readCov (Val := Elt Ideal) [⟨Rect.unit (s := S8x5632) ![0, 0] ![8, 2816] inb_S8x5632_S8x2816_0_0, W⟩,
        ⟨Rect.unit (s := S8x5632) ![0, 0] ![8, 5632] inb_S8x5632_S8x5632_0_0, k0_pay4 (F := Ideal)⟩]
        (Rect.unit (s := S8x5632) ![0, 2816] ![1, 2816] inb_S8x5632_S1x2816_0_2816).toLoadRect)
      ((View.whole cc0_scratch0).readCov (Val := Elt Ideal) [⟨Rect.unit (s := S8x5632) ![0, 0] ![8, 2816] inb_S8x5632_S8x2816_0_0, W⟩,
        ⟨Rect.unit (s := S8x5632) ![0, 0] ![8, 5632] inb_S8x5632_S8x5632_0_0, k0_pay4 (F := Ideal)⟩]
        (Rect.unit (s := S8x5632) ![1, 2816] ![1, 2816] inb_S8x5632_S1x2816_1_2816).toLoadRect) := by
  have hL := zero_scratch.patch (o := 0) (p := 0) (A := 8) (B := 2816) inb_S8x5632_S8x2816_0_0 hW
  have e : ∀ k i j : ℕ, patch 0 0 8 2816 d (fun _ _ => 0) (k + i) (2816 + j) = 0 := fun k i j => if_neg (by omega)
  exact ⟨zero_scratch.read (A := 1) (B := 2816) _ inb_S8x5632_S1x2816_0_0, zero_scratch.read (A := 1) (B := 2816) _ inb_S8x5632_S1x2816_1_0,
    (hL.read (A := 1) (B := 2816) _ inb_S8x5632_S1x2816_0_2816).congr fun i j _ _ => e 0 i j,
    (hL.read (A := 1) (B := 2816) _ inb_S8x5632_S1x2816_1_2816).congr fun i j _ _ => e 1 i j⟩

/-- In a sequence the two rows after are those that the scratch holds. -/
theorem heads_next {X : FVec Ideal S8x5632 .f32} (hX : IsMat hd X) :
    Heads hd (View.ld (Val := Elt Ideal) (e' := .f32) X (Rect.unit (s := S8x5632) ![0, 0] ![1, 2816] inb_S8x5632_S1x2816_0_0))
      (View.ld (Val := Elt Ideal) (e' := .f32) X (Rect.unit (s := S8x5632) ![1, 0] ![1, 2816] inb_S8x5632_S1x2816_1_0))
      (View.ld (Val := Elt Ideal) (e' := .f32) X (Rect.unit (s := S8x5632) ![0, 2816] ![1, 2816] inb_S8x5632_S1x2816_0_2816))
      (View.ld (Val := Elt Ideal) (e' := .f32) X (Rect.unit (s := S8x5632) ![1, 2816] ![1, 2816] inb_S8x5632_S1x2816_1_2816)) := by
  have l := fun (k p : ℕ) inb => hX.ld (A := 1) (B := 2816) (o := k) (p := p) inb
  exact ⟨(l 0 0 inb_S8x5632_S1x2816_0_0).congr fun i j hi _ => by rw [show 0 + i = 0 by omega, Nat.zero_add],
    (l 1 0 inb_S8x5632_S1x2816_1_0).congr fun i j hi _ => by rw [show 1 + i = 1 by omega, Nat.zero_add],
    (l 0 2816 inb_S8x5632_S1x2816_0_2816).congr fun i j hi _ => by rw [show 0 + i = 0 by omega],
    (l 1 2816 inb_S8x5632_S1x2816_1_2816).congr fun i j hi _ => by rw [show 1 + i = 1 by omega]⟩

/-- The gradient of the tile's rows. -/
theorem block8 (T : Tile m c t z x g u0 u w wd wu) (hh : Held0 m c t hd) :
    IsMat (a := 256) (b := 1024) (φ := .f32) (fun i l => z i l + normGrad x (fun i l => dh (pre (gd z wd u) hd w) wu i l * g 0 l) i l) (outsAt0 m c t.val t.isLt).1 := by
  have hz := heads_zero (pay20_mat (dA_mat T.h0 T.h4 T.h6))
  unfold Held0 at hh
  by_cases h1 : t.val % 8 = 0
  · rw [if_pos h1] at hh; subst hh
    by_cases h0 : t.val % 32 = 0
    · rw [outsAt0_A m c t h0 h1]; frame_out
      exact pay1_mat (dhOf_mat T.h0 T.h4 T.h5 T.h6 T.h7 hz) T.h1 T.h2 T.h0
    · rw [outsAt0_C m c t h0 h1]; frame_out
      exact pay1_mat (dhOf_mat T.h0 T.h4 T.h5 T.h6 T.h7 hz) T.h1 T.h2 T.h0
  · rw [if_neg h1] at hh
    rw [outsAt0_B m c t (by omega) h1]; frame_out
    refine pay1_mat (dhOf_mat T.h0 T.h4 T.h5 T.h6 T.h7 (heads_next ?_)) T.h1 T.h2 T.h0
    rw [read_unread_whole]; exact hh

/-- The gradient of the convolution's argument. -/
theorem block9 (T : Tile m c t z x g u0 u w wd wu) (hh : Held0 m c t hd) :
    IsMat (a := 256) (b := 5632) (φ := .bf16) (pre (gd z wd u) hd w) (outsAt0 m c t.val t.isLt).2.1 := by
  have hz := heads_zero (pay20_mat (dA_mat T.h0 T.h4 T.h6))
  unfold Held0 at hh
  by_cases h1 : t.val % 8 = 0
  · rw [if_pos h1] at hh; subst hh
    by_cases h0 : t.val % 32 = 0
    · rw [outsAt0_A m c t h0 h1]; frame_out
      exact isMat_halves16 rfl inb_S256x5632_S256x2816_0_0 inb_S256x5632_S256x2816_0_2816 (preA_mat T.h0 T.h4 T.h5 T.h6 hz) (preB_mat T.h0 T.h4 T.h5 T.h6 hz)
    · rw [outsAt0_C m c t h0 h1]; frame_out
      exact isMat_halves16 rfl inb_S256x5632_S256x2816_0_0 inb_S256x5632_S256x2816_0_2816 (preA_mat T.h0 T.h4 T.h5 T.h6 hz) (preB_mat T.h0 T.h4 T.h5 T.h6 hz)
  · rw [if_neg h1] at hh
    rw [outsAt0_B m c t (by omega) h1]; frame_out
    refine isMat_halves16 rfl inb_S256x5632_S256x2816_0_0 inb_S256x5632_S256x2816_0_2816 (preA_mat T.h0 T.h4 T.h5 T.h6 (heads_next ?_))
      (preB_mat T.h0 T.h4 T.h5 T.h6 (heads_next ?_)) <;> (rw [read_unread_whole]; exact hh)

/-- The scratch: the first eight rows of the tile's gradient. -/
theorem scratch (T : Tile m c t z x g u0 u w wd wu) : IsMat (a := 8) (b := 5632) (φ := .f32) (gd z wd u) (outsAt0 m c t.val t.isLt).2.2.2.2 := by
  have q := fun L => isMat_halves (M := 8) (N := 5632) (L := L) rfl inb_S8x5632_S8x2816_0_0 inb_S8x5632_S8x2816_0_2816 (pay20_mat (dA_mat T.h0 T.h4 T.h6)) (pay20_mat (dB_mat T.h0 T.h4 T.h6))
  by_cases h1 : t.val % 8 = 0
  · by_cases h0 : t.val % 32 = 0
    · rw [outsAt0_A m c t h0 h1]; frame_out
      exact q _
    · rw [outsAt0_C m c t h0 h1]; frame_out
      exact q _
  · rw [outsAt0_B m c t (by omega) h1]; frame_out
    exact q _

end Cert.FfnBwdProof

end
-- ==== Proof.FfnBwd.Strips.lean ====
/- The convolution weight's gradient and the norm gain's, as a grid point of the feed-forward block's backward pass adds to them. -/
module

public import proofs.«01_k».proof.Proof.FfnBwd.Tile

@[expose] public section

set_option maxRecDepth 16384

noncomputable section

namespace Cert.FfnBwdProof

open Cert.FfnBwdIdeal Cert.FfnBwdIdeal.Gen Idealize.ShloMosaic Idealize.ShloMosaic.TcCoe Idealize.SL.Sem
open Cert.Tables

/-- The first `n` of the six strips of `y` with `s` added: the strips are rows 2, 1 and 0 of the left half, then of the right. -/
def upd (y s : ℕ → ℕ → ℝ) (n i j : ℕ) : ℝ := if i < 3 ∧ 2 - i + 3 * (j / 2816) < n then y i j + s i j else y i j

theorem upd_zero (y s : ℕ → ℕ → ℝ) (i j : ℕ) : upd y s 0 i j = y i j := if_neg (by omega)

theorem upd_at {y s : ℕ → ℕ → ℝ} {n o q : ℕ} (hn : n = 2 - o + 3 * q) (j : ℕ) (hj : j < 2816) : upd y s n o (2816 * q + j) = y o (2816 * q + j) :=
  if_neg (by omega)

theorem upd_strip {y s : ℕ → ℕ → ℝ} {n o q : ℕ} (hn : n = 2 - o + 3 * q) (ho : o < 3) (i j : ℕ) :
    patch o (2816 * q) 1 2816 (fun _ j => y o (2816 * q + j) + s o (2816 * q + j)) (upd y s n) i j = upd y s (n + 1) i j := by
  unfold patch
  by_cases h : o ≤ i ∧ i < o + 1 ∧ 2816 * q ≤ j ∧ j < 2816 * q + 2816
  · obtain rfl : i = o := by omega
    rw [if_pos h]
    show y i (2816 * q + (j - 2816 * q)) + s i (2816 * q + (j - 2816 * q)) = _
    rw [show 2816 * q + (j - 2816 * q) = j by omega, upd, if_pos (by omega)]
  · rw [if_neg h]
    unfold upd
    by_cases a : i < 3 ∧ 2 - i + 3 * (j / 2816) < n
    · rw [if_pos a, if_pos (by omega)]
    · rw [if_neg a, if_neg (by omega)]

theorem held_strip {y s : ℕ → ℕ → ℝ} {n o p : ℕ} (q : ℕ) {L : List (View.Piece (Elt Ideal) S8x5632 .f32)} (hL : Held (M := 8) (N := 5632) (upd y s n) L)
    {sp : Space} {sig : RefSig} {κ : Kind} (V : View sig κ sp S8x5632 .f32) (hn : n = 2 - o + 3 * q) (ho : o < 3) (hp : p = 2816 * q)
    (inb : ∀ a, (![o, p] : Fin 2 → ℕ) a + (![1, 2816] : Fin 2 → ℕ) a ≤ S8x5632.size a) {W : FVec Ideal S1x2816 .f32 → FVec Ideal S1x2816 .f32}
    (hW : ∀ (v : FVec Ideal S1x2816 .f32) (r : ℕ → ℝ), IsMat (fun _ j => r j) v → IsMat (fun _ j => r j + s o (p + j)) (W v)) :
    Held (M := 8) (N := 5632) (upd y s (n + 1))
      (⟨Rect.unit (s := S8x5632) ![o, p] ![1, 2816] inb, W (V.readCov (Val := Elt Ideal) L (Rect.unit (s := S8x5632) ![o, p] ![1, 2816] inb).toLoadRect)⟩ :: L) := by
  subst hp
  have h := hL.update (A := 1) (B := 2816) V inb (W := W) (w := fun _ j => y o (2816 * q + j) + s o (2816 * q + j)) fun v hv =>
    hW v (fun j => y o (2816 * q + j)) (hv.congr fun i j hi hj => by rw [show o + i = o by omega, upd_at hn j hj])
  exact ⟨h.cover, h.holds.congr fun i j _ _ => upd_strip hn ho i j⟩

theorem writes_strip {y s : ℕ → ℕ → ℝ} {n o p : ℕ} (q : ℕ) {sp : Space} {sig : RefSig} {κ : Kind} {V : View sig κ sp S8x5632 .f32} {f : V.ref.ty.Contents (Elt Ideal)}
    {L : List (View.Piece (Elt Ideal) S8x5632 .f32)} (hL : IsMat (a := 8) (b := 5632) (φ := .f32) (upd y s n) (View.read (Elt Ideal) V (V.writes (Elt Ideal) f L)))
    {Y : FVec Ideal S8x5632 .f32} (hY : IsMat y Y) (hn : n = 2 - o + 3 * q) (ho : o < 3) (hp : p = 2816 * q)
    (inb : ∀ a, (![o, p] : Fin 2 → ℕ) a + (![1, 2816] : Fin 2 → ℕ) a ≤ S8x5632.size a) {W : FVec Ideal S1x2816 .f32 → FVec Ideal S1x2816 .f32}
    (hW : ∀ (v : FVec Ideal S1x2816 .f32) (r : ℕ → ℝ), IsMat (fun _ j => r j) v → IsMat (fun _ j => r j + s o (p + j)) (W v)) :
    IsMat (a := 8) (b := 5632) (φ := .f32) (upd y s (n + 1)) (View.read (Elt Ideal) V (V.writes (Elt Ideal) f
      (⟨Rect.unit (s := S8x5632) ![o, p] ![1, 2816] inb, W (View.ld (Val := Elt Ideal) (e' := .f32) Y (Rect.unit (s := S8x5632) ![o, p] ![1, 2816] inb))⟩ :: L))) := by
  subst hp
  have h := isMat_writes_patch V f (L := L) inb (hW _ (fun j => y o (2816 * q + j)) ((hY.ld (A := 1) (B := 2816) inb).congr fun i j hi hj => by rw [show o + i = o by omega])) hL
  exact h.congr fun i j _ _ => upd_strip hn ho i j

variable {z x g u0 u w wd wu hd y : ℕ → ℕ → ℝ}

/-- What a tile adds to the taps' gradient: the products of the convolution's argument with the result's gradient, the latter further on by the tap's distance. -/
def tapSum (u0 d hd : ℕ → ℕ → ℝ) (i j : ℕ) : ℝ := ∑ r ∈ Finset.range 256, u0 r j * ah 256 (2 - i) d hd r j

section Pay
variable {b0 b1 : FVec Ideal S256x1024 .f32} {b3 b4 : FVec Ideal S256x5632 .bf16} {b6 : FVec Ideal S2816x1024 .bf16} {p0 p1 q0 q1 : FVec Ideal S1x2816 .f32}

theorem strip_left2 (h0 : IsMat z b0) (h3 : IsMat u0 b3) (h4 : IsMat u b4) (h6 : IsMat wd b6) (v : FVec Ideal S1x2816 .f32) (r : ℕ → ℝ) (hv : IsMat (fun _ j => r j) v) :
    IsMat (fun _ j => r j + tapSum u0 (gd z wd u) hd 2 (0 + j)) (k0_pay21 (F := Ideal) (dA b0 b4 b6) (k0_pay16 (left b3)) v) :=
  (pay22_mat (pay11_mat h3) (dA_mat h0 h4 h6) hv).congr fun i j _ _ => by
    rw [Nat.zero_add]
    exact congrArg (r j + ·) (Finset.sum_congr rfl fun k hk => by rw [show 2 - 2 = 0 from rfl, ah_zero (Finset.mem_range.mp hk)])

theorem strip_left1 (h0 : IsMat z b0) (h3 : IsMat u0 b3) (h4 : IsMat u b4) (h6 : IsMat wd b6) (H : Heads hd p0 p1 q0 q1) (v : FVec Ideal S1x2816 .f32) (r : ℕ → ℝ) (hv : IsMat (fun _ j => r j) v) :
    IsMat (fun _ j => r j + tapSum u0 (gd z wd u) hd 1 (0 + j)) (k0_pay22 (F := Ideal) (k0_pay16 (left b3)) (dA1 b0 b4 b6 p0) v) :=
  (pay22_mat (pay11_mat h3) (dA1_mat h0 h4 h6 H.p0) hv).congr fun i j _ _ => by rw [Nat.zero_add]; rfl

theorem strip_left0 (h0 : IsMat z b0) (h3 : IsMat u0 b3) (h4 : IsMat u b4) (h6 : IsMat wd b6) (H : Heads hd p0 p1 q0 q1) (v : FVec Ideal S1x2816 .f32) (r : ℕ → ℝ) (hv : IsMat (fun _ j => r j) v) :
    IsMat (fun _ j => r j + tapSum u0 (gd z wd u) hd 0 (0 + j))
      (k0_pay25 (F := Ideal) (k0_pay23 v) (k0_pay24 (k0_pay16 (left b3)) p0 p1 (iota .tc S8x1 32 [0] iota_S8x1_d0_w32) (k0_pay17 (k0_pay6 b0) (k0_pay11 (left b4)) (right b4) b6))) :=
  (pay22_mat (pay11_mat h3) (dA2_mat h0 h4 h6 H.p0 H.p1) hv).congr fun i j _ _ => by rw [Nat.zero_add]; rfl

theorem strip_right2 (h0 : IsMat z b0) (h3 : IsMat u0 b3) (h4 : IsMat u b4) (h6 : IsMat wd b6) (v : FVec Ideal S1x2816 .f32) (r : ℕ → ℝ) (hv : IsMat (fun _ j => r j) v) :
    IsMat (fun _ j => r j + tapSum u0 (gd z wd u) hd 2 (2816 + j)) (k0_pay37 (F := Ideal) (dB b0 b4 b6) (k0_pay28 (right b3)) v) :=
  (pay22_mat ((right_mat h3).cast shapeCasts_S256x2816_S256x2816) (dB_mat h0 h4 h6) hv).congr fun i j _ _ =>
    congrArg (r j + ·) (Finset.sum_congr rfl fun k hk => by rw [show 2 - 2 = 0 from rfl, ah_zero (Finset.mem_range.mp hk)])

theorem strip_right1 (h0 : IsMat z b0) (h3 : IsMat u0 b3) (h4 : IsMat u b4) (h6 : IsMat wd b6) (H : Heads hd p0 p1 q0 q1) (v : FVec Ideal S1x2816 .f32) (r : ℕ → ℝ) (hv : IsMat (fun _ j => r j) v) :
    IsMat (fun _ j => r j + tapSum u0 (gd z wd u) hd 1 (2816 + j))
      (k0_pay38 (F := Ideal) (k0_pay28 (right b3)) q0 (k0_pay31 (dB b0 b4 b6)) (k0_pay32 (dB b0 b4 b6)) k0_pay33 v) :=
  pay22_mat ((right_mat h3).cast shapeCasts_S256x2816_S256x2816) (dB1_mat h0 h4 h6 H.q0) hv

theorem strip_right0 (h0 : IsMat z b0) (h3 : IsMat u0 b3) (h4 : IsMat u b4) (h6 : IsMat wd b6) (H : Heads hd p0 p1 q0 q1) (v : FVec Ideal S1x2816 .f32) (r : ℕ → ℝ) (hv : IsMat (fun _ j => r j) v) :
    IsMat (fun _ j => r j + tapSum u0 (gd z wd u) hd 0 (2816 + j)) (k0_pay40 (F := Ideal) (k0_pay28 (right b3)) (dB2 (dB b0 b4 b6) q0 q1) (k0_pay39 v)) :=
  pay22_mat ((right_mat h3).cast shapeCasts_S256x2816_S256x2816) (dB2_mat h0 h4 h6 H.q0 H.q1) hv

end Pay

variable {m : (ℓ : Loc nD τ sig) → Buf (Elt Ideal) ℓ} {c : Dev nD} {t : Fin cfg0.N}

theorem zero_taps (s : ℕ → ℕ → ℝ) : Held (M := 8) (N := 5632) (upd (fun _ _ => 0) s 0)
    [⟨Rect.unit (s := S8x5632) ![0, 0] ![8, 5632] inb_S8x5632_S8x5632_0_0, k0_pay2 (F := Ideal)⟩] := by
  have h := Held.whole (M := 8) (N := 5632) inb_S8x5632_S8x5632_0_0 (w := fun _ _ => 0) (W := k0_pay2 (F := Ideal)) (isMat_broadcast zero_f32)
  exact ⟨h.cover, h.holds.congr fun i j _ _ => (upd_zero (fun _ _ => 0) s i j).symm⟩

/-- The taps' gradient after the first grid point. -/
theorem block10_first (T : Tile m c t z x g u0 u w wd wu) (h0 : t.val % 32 = 0) (h1 : t.val % 8 = 0) :
    IsMat (a := 8) (b := 5632) (φ := .f32) (upd (fun _ _ => 0) (tapSum u0 (gd z wd u) fun _ _ => 0) 6) (outsAt0 m c t.val t.isLt).2.2.1 := by
  have H := heads_zero (pay20_mat (dA_mat T.h0 T.h4 T.h6))
  rw [outsAt0_A m c t h0 h1]; frame_out
  have k0 := zero_taps (tapSum u0 (gd z wd u) fun _ _ => 0)
  have k1 := held_strip 0 k0 (ms0_10 t).view rfl (by omega) rfl inb_S8x5632_S1x2816_2_0 (strip_left2 T.h0 T.h3 T.h4 T.h6)
  have k2 := held_strip 0 k1 (ms0_10 t).view rfl (by omega) rfl inb_S8x5632_S1x2816_1_0 (strip_left1 T.h0 T.h3 T.h4 T.h6 H)
  have k3 := held_strip 0 k2 (ms0_10 t).view rfl (by omega) rfl inb_S8x5632_S1x2816_0_0 (strip_left0 T.h0 T.h3 T.h4 T.h6 H)
  have k4 := held_strip 1 k3 (ms0_10 t).view rfl (by omega) rfl inb_S8x5632_S1x2816_2_2816 (strip_right2 T.h0 T.h3 T.h4 T.h6)
  have k5 := held_strip 1 k4 (ms0_10 t).view rfl (by omega) rfl inb_S8x5632_S1x2816_1_2816 (strip_right1 T.h0 T.h3 T.h4 T.h6 H)
  have k6 := held_strip 1 k5 (ms0_10 t).view rfl (by omega) rfl inb_S8x5632_S1x2816_0_2816 (strip_right0 T.h0 T.h3 T.h4 T.h6 H)
  exact k6.holds

/-- The taps' gradient after any other grid point. -/
theorem block10_next (T : Tile m c t z x g u0 u w wd wu) (h0 : ¬ t.val % 32 = 0) (hh : Held0 m c t hd) (hy : IsMat (a := 8) (b := 5632) (φ := .f32) y (before m c t).2.2.1) :
    IsMat (a := 8) (b := 5632) (φ := .f32) (upd y (tapSum u0 (gd z wd u) hd) 6) (outsAt0 m c t.val t.isLt).2.2.1 := by
  unfold Held0 at hh
  have chain := fun {p0 p1 q0 q1 : FVec Ideal S1x2816 .f32} (H : Heads hd p0 p1 q0 q1) (f : (ms0_10 t).view.ref.ty.Contents (Elt Ideal))
    (hf : IsMat (a := 8) (b := 5632) (φ := .f32) (upd y (tapSum u0 (gd z wd u) hd) 0) (View.read (Elt Ideal) (ms0_10 t).view ((ms0_10 t).view.writes (Elt Ideal) f []))) =>
    writes_strip 1 (writes_strip 1 (writes_strip 1 (writes_strip 0 (writes_strip 0 (writes_strip 0 hf
      hy rfl (by omega) rfl inb_S8x5632_S1x2816_2_0 (strip_left2 T.h0 T.h3 T.h4 T.h6))
      hy rfl (by omega) rfl inb_S8x5632_S1x2816_1_0 (strip_left1 T.h0 T.h3 T.h4 T.h6 H))
      hy rfl (by omega) rfl inb_S8x5632_S1x2816_0_0 (strip_left0 T.h0 T.h3 T.h4 T.h6 H))
      hy rfl (by omega) rfl inb_S8x5632_S1x2816_2_2816 (strip_right2 T.h0 T.h3 T.h4 T.h6))
      hy rfl (by omega) rfl inb_S8x5632_S1x2816_1_2816 (strip_right1 T.h0 T.h3 T.h4 T.h6 H))
      hy rfl (by omega) rfl inb_S8x5632_S1x2816_0_2816 (strip_right0 T.h0 T.h3 T.h4 T.h6 H)
  have k0 : IsMat (a := 8) (b := 5632) (φ := .f32) (upd y (tapSum u0 (gd z wd u) hd) 0) (before m c t).2.2.1 := hy.congr fun i j _ _ => (upd_zero _ _ i j).symm
  by_cases h1 : t.val % 8 = 0
  · rw [if_pos h1] at hh; subst hh
    rw [outsAt0_C m c t h0 h1]; frame_out
    refine chain (heads_zero (pay20_mat (dA_mat T.h0 T.h4 T.h6))) _ ?_
    rw [View.writes_nil, Memref.IsWhole.read_unread]; exact k0
  · rw [if_neg h1] at hh
    rw [outsAt0_B m c t h0 h1]; frame_out
    simp only [read_unread_whole]
    refine chain (heads_next hh) _ ?_
    rw [View.writes_nil, Memref.IsWhole.read_unread]; exact k0

/-- The gradient of the norm's gain after the first grid point. -/
theorem block11_first (T : Tile m c t z x g u0 u w wd wu) (h0 : t.val % 32 = 0) (h1 : t.val % 8 = 0) :
    IsMat (a := 8) (b := 1024) (φ := .f32) (firstRow fun l => 0 + ∑ i ∈ Finset.range 256, dh (pre (gd z wd u) (fun _ _ => 0) w) wu i l * (x i l * inv x i)) (outsAt0 m c t.val t.isLt).2.2.2.1 := by
  have H := heads_zero (pay20_mat (dA_mat T.h0 T.h4 T.h6))
  rw [outsAt0_A m c t h0 h1]; frame_out
  have hz : IsMat (a := 8) (b := 1024) (φ := .f32) (fun _ _ => 0) (k0_pay3 (F := Ideal)) := isMat_broadcast zero_f32
  refine isMat_store_zero (M := 8) (N := 1024) inb_S8x1024_S1x1024_0_0 inb_S8x1024_S8x1024_0_0
    (pay43_mat (dhOf_mat T.h0 T.h4 T.h5 T.h6 T.h7 H) (pay9_mat T.h1) (r := fun _ => 0) ?_) hz
  exact ((Held.whole (M := 8) (N := 1024) inb_S8x1024_S8x1024_0_0 hz).read (A := 1) (B := 1024) _ inb_S8x1024_S1x1024_0_0)

/-- The gradient of the norm's gain after any other grid point. -/
theorem block11_next (T : Tile m c t z x g u0 u w wd wu) (h0 : ¬ t.val % 32 = 0) (hh : Held0 m c t hd) {y : ℕ → ℝ}
    (hy : IsMat (a := 8) (b := 1024) (φ := .f32) (firstRow y) (before m c t).2.2.2.1) :
    IsMat (a := 8) (b := 1024) (φ := .f32) (firstRow fun l => y l + ∑ i ∈ Finset.range 256, dh (pre (gd z wd u) hd w) wu i l * (x i l * inv x i)) (outsAt0 m c t.val t.isLt).2.2.2.1 := by
  unfold Held0 at hh
  by_cases h1 : t.val % 8 = 0
  · rw [if_pos h1] at hh; subst hh
    have H := heads_zero (pay20_mat (dA_mat T.h0 T.h4 T.h6))
    rw [outsAt0_C m c t h0 h1]; frame_out
    refine isMat_store_over (M := 8) (N := 1024) _ _ inb_S8x1024_S1x1024_0_0
      (pay43_mat (dhOf_mat T.h0 T.h4 T.h5 T.h6 T.h7 H) (pay9_mat T.h1) (IsMat.firstRow_ld (M := 8) (N := 1024) inb_S8x1024_S1x1024_0_0 hy)) (y := y) ?_
    rw [Memref.IsWhole.read_unread]; exact hy
  · rw [if_neg h1] at hh
    have H := heads_next hh
    rw [outsAt0_B m c t h0 h1]; frame_out
    simp only [read_unread_whole]
    refine isMat_store_over (M := 8) (N := 1024) _ _ inb_S8x1024_S1x1024_0_0
      (pay43_mat (dhOf_mat T.h0 T.h4 T.h5 T.h6 T.h7 H) (pay9_mat T.h1) (IsMat.firstRow_ld (M := 8) (N := 1024) inb_S8x1024_S1x1024_0_0 hy)) (y := y) ?_
    rw [Memref.IsWhole.read_unread]; exact hy

end Cert.FfnBwdProof

end
-- ==== Proof.Shifts.lean ====
/- Rows moved along their sequences, taps of a short filter, and the gradients of both, on arrays whose entries are known reals. -/
module

public import proofs.«01_k».proof.Proof.Tokens
public import Idealize.ShloMosaic.Lib.KernelVsHost
public import Idealize.ShloMosaic.Lib.Pipeline.Value

@[expose] public section

set_option maxRecDepth 16384

noncomputable section

namespace Cert.Tokens

open Idealize.ShloMosaic Idealize.ShloMosaic.TcCoe
open Cert.Tables
open Cert.Reals (reduceAdd_first_two)

/-- The row `k` positions earlier in the same sequence, zero before its start. -/
def back (k : ℕ) (x : ℕ → ℕ → ℝ) (r j : ℕ) : ℝ := if k ≤ r % 2048 then x (r - k) j else 0

/-- The row `k` positions later in the same sequence, zero past its end. -/
def ahead (k : ℕ) (x : ℕ → ℕ → ℝ) (r j : ℕ) : ℝ := if r % 2048 + k < 2048 then x (r + k) j else 0

theorem back_zero (x : ℕ → ℕ → ℝ) (r j : ℕ) : back 0 x r j = x r j := if_pos (Nat.zero_le _)

theorem ahead_zero (x : ℕ → ℕ → ℝ) (r j : ℕ) : ahead 0 x r j = x r j := if_pos (Nat.mod_lt r (by norm_num))

/-- Moving one factor of a sum back is moving the other ahead. -/
theorem sum_back (k : ℕ) (hk : k ≤ 2048) (x y : ℕ → ℕ → ℝ) (i j : ℕ) :
    ∑ r ∈ Finset.range 8192, back k x r i * y r j = ∑ r ∈ Finset.range 8192, x r i * ahead k y r j := by
  rw [← sum_positions, ← sum_positions]
  refine Finset.sum_congr rfl fun s _ => ?_
  have hl : ∑ n ∈ Finset.range 2048, back k x (2048 * s + n) i * y (2048 * s + n) j
      = ∑ n ∈ Finset.range (2048 - k), x (2048 * s + n) i * y (2048 * s + (n + k)) j := by
    rw [show 2048 = k + (2048 - k) by omega, Finset.sum_range_add, show k + (2048 - k) = 2048 by omega]
    refine (congrArg₂ (· + ·) (Finset.sum_eq_zero fun n hn => ?_) (Finset.sum_congr rfl fun n hn => ?_)).trans (zero_add _)
    · have := Finset.mem_range.mp hn
      rw [back, if_neg (by omega), zero_mul]
    · have := Finset.mem_range.mp hn
      rw [back, if_pos (by omega), show 2048 * s + (k + n) - k = 2048 * s + n by omega, Nat.add_comm k n]
  have hr : ∑ n ∈ Finset.range 2048, x (2048 * s + n) i * ahead k y (2048 * s + n) j
      = ∑ n ∈ Finset.range (2048 - k), x (2048 * s + n) i * y (2048 * s + (n + k)) j := by
    conv_lhs => rw [show 2048 = (2048 - k) + k by omega, Finset.sum_range_add, show (2048 - k) + k = 2048 by omega]
    refine (congrArg₂ (· + ·) (Finset.sum_congr rfl fun n hn => ?_) (Finset.sum_eq_zero fun n hn => ?_)).trans (add_zero _)
    · have := Finset.mem_range.mp hn
      rw [ahead, if_pos (by omega), Nat.add_assoc]
    · have := Finset.mem_range.mp hn
      rw [ahead, if_neg (by omega), mul_zero]
  exact hl.trans hr.symm

section Ops
variable {c N : ℕ} {φ : FTy} {x y : ℕ → ℕ → ℝ} {X Y : FVec Ideal (S3 4 2048 c) φ}

/-- Two rows of zeros put before every sequence, and 2048 rows taken from row `o` on. -/
theorem IsTok.behind {o k : ℕ} {Z : FVec Ideal (S3 4 2 c) φ} (hok : o + k = 2) (hX : IsTok x X) (hZ : ∀ i, Z i = (0 : EReal))
    (hc : Shape.Concatenates [S3 4 2 c, S3 4 2048 c] (S3 4 2050 c) 1) (hs : (S3 4 2050 c).Slices ![0, o, 0] (S3 4 2048 c)) :
    IsTok (back k x) (extractStridedSlice (S3 4 2048 c) ![0, o, 0] (concatenate (S3 4 2050 c) 1 [⟨S3 4 2 c, Z⟩, ⟨S3 4 2048 c, X⟩] hc) hs) := fun b n l => by
  have hn := n.isLt
  refine (extractStridedSlice_apply ![0, o, 0] _ hs (ix3 b n l) (ix3 b ⟨o + n, by omega⟩ l) (fun a => match a with
    | ⟨0, _⟩ => (Nat.zero_add _).symm
    | ⟨1, _⟩ => rfl
    | ⟨2, _⟩ => (Nat.zero_add _).symm)).trans ?_
  rw [back, show (2048 * (b : ℕ) + n) % 2048 = n by omega]
  by_cases h : k ≤ n
  · rw [if_pos h, show 2048 * (b : ℕ) + n - k = 2048 * b + (n - k) by omega]
    refine (concatenate_pair_apply_right 1 Z X hc (ix3 b ⟨o + n, by omega⟩ l) rfl rfl (ix3 b ⟨n - k, by omega⟩ l) (fun a ha => ?_) ?_).trans (hX b ⟨n - k, by omega⟩ l)
    · match a with
      | ⟨0, _⟩ => rfl
      | ⟨1, _⟩ => exact absurd rfl ha
      | ⟨2, _⟩ => rfl
    · show (n : ℕ) - k + 2 = o + n
      omega
  · rw [if_neg h]
    refine (concatenate_pair_apply_left 1 Z X hc (ix3 b ⟨o + n, by omega⟩ l) rfl (ix3 b ⟨o + n, by omega⟩ l) (fun a => ?_)).trans (hZ _)
    match a with
    | ⟨0, _⟩ => rfl
    | ⟨1, _⟩ => rfl
    | ⟨2, _⟩ => rfl

/-- The sequences put `e` rows down into sequences of 2050 rows of zeros, and 2048 rows taken from row 2 on. -/
theorem IsTok.forward {e f k : ℕ} {u : Shape} {Z : u.Idx → Ideal φ} (hek : e + k = 2) (hX : IsTok x X) (hp : (S3 4 2048 c).Pads ![0, e, 0] ![0, f, 0] ![0, 0, 0] (S3 4 2050 c))
    (hu : 0 < u.numel) (hZ : Z (Shape.Idx.first hu) = (0 : EReal)) (hs : (S3 4 2050 c).Slices ![0, 2, 0] (S3 4 2048 c)) :
    IsTok (ahead k x) (extractStridedSlice (S3 4 2048 c) ![0, 2, 0] (pad (S3 4 2050 c) ![0, e, 0] ![0, f, 0] ![0, 0, 0] X Z hp hu) hs) := fun b n l => by
  have hn := n.isLt
  refine (extractStridedSlice_apply ![0, 2, 0] _ hs (ix3 b n l) (ix3 b ⟨2 + n, by omega⟩ l) (fun a => match a with
    | ⟨0, _⟩ => (Nat.zero_add _).symm
    | ⟨1, _⟩ => rfl
    | ⟨2, _⟩ => (Nat.zero_add _).symm)).trans ?_
  rw [ahead, show (2048 * (b : ℕ) + n) % 2048 = n by omega]
  by_cases h : (n : ℕ) + k < 2048
  · rw [if_pos h, Nat.add_assoc]
    refine (pad_apply_of_inside ![0, e, 0] ![0, f, 0] ![0, 0, 0] X Z hp hu (ix3 b ⟨2 + n, by omega⟩ l) (ix3 b ⟨n + k, h⟩ l) (fun a => ?_)).trans (hX b ⟨n + k, h⟩ l)
    match a with
    | ⟨0, _⟩ => show (b : ℕ) = 0 + b * (0 + 1); omega
    | ⟨1, _⟩ => show 2 + (n : ℕ) = e + (n + k) * (0 + 1); omega
    | ⟨2, _⟩ => show (l : ℕ) = 0 + l * (0 + 1); omega
  · rw [if_neg h]
    refine (pad_apply_of_not_inside ![0, e, 0] ![0, f, 0] ![0, 0, 0] X Z hp hu (ix3 b ⟨2 + n, by omega⟩ l) 1 (fun hin => ?_)).trans hZ
    have h2 := hin.2.2
    have h3 : (2 + (n : ℕ) - e) / (0 + 1) < 2048 := h2
    omega

/-- Columns from `p` on. -/
theorem IsTok.cols {p : ℕ} {X : FVec Ideal (S3 4 2048 N) φ} (hX : IsTok x X) (hs : (S3 4 2048 N).Slices ![0, 0, p] (S3 4 2048 c)) :
    IsTok (fun r j => x r (p + j)) (extractStridedSlice (S3 4 2048 c) ![0, 0, p] X hs) := fun b n l => by
  have hp : p + c ≤ N := hs.2 2
  have hl := l.isLt
  exact (extractStridedSlice_apply ![0, 0, p] X hs (ix3 b n l) (ix3 b n ⟨p + l, by omega⟩) (fun a => match a with
    | ⟨0, _⟩ => (Nat.zero_add _).symm
    | ⟨1, _⟩ => (Nat.zero_add _).symm
    | ⟨2, _⟩ => rfl)).trans (hX b n ⟨p + l, by omega⟩)

/-- Two arrays beside each other. -/
theorem IsTok.beside {m n : ℕ} (hmn : m + n = N) {X : FVec Ideal (S3 4 2048 m) φ} {Y : FVec Ideal (S3 4 2048 n) φ} (hX : IsTok x X) (hY : IsTok y Y)
    (hc : Shape.Concatenates [S3 4 2048 m, S3 4 2048 n] (S3 4 2048 N) 2) :
    IsTok (fun r j => if j < m then x r j else y r (j - m)) (concatenate (S3 4 2048 N) 2 [⟨S3 4 2048 m, X⟩, ⟨S3 4 2048 n, Y⟩] hc) := fun b q l => by
  have hl := l.isLt
  show _ = ((if (l : ℕ) < m then x (2048 * b + q) l else y (2048 * b + q) (l - m) : ℝ) : EReal)
  by_cases h : (l : ℕ) < m
  · rw [if_pos h]
    refine (concatenate_pair_apply_left 2 X Y hc (ix3 b q l) rfl (ix3 b q ⟨l, h⟩) (fun a => ?_)).trans (hX b q ⟨l, h⟩)
    match a with
    | ⟨0, _⟩ => rfl
    | ⟨1, _⟩ => rfl
    | ⟨2, _⟩ => rfl
  · rw [if_neg h]
    refine (concatenate_pair_apply_right 2 X Y hc (ix3 b q l) rfl rfl (ix3 b q ⟨(l : ℕ) - m, by omega⟩) (fun a ha => ?_) ?_).trans (hY b q ⟨(l : ℕ) - m, by omega⟩)
    · match a with
      | ⟨0, _⟩ => rfl
      | ⟨1, _⟩ => rfl
      | ⟨2, _⟩ => exact absurd rfl ha
    · show (l : ℕ) - m + m = l
      omega

/-- A row of a table as a vector. -/
theorem isVec_tap {M k : ℕ} {X : FVec Ideal (S2 M c) φ} (hX : IsMat x X) (hs : (S2 M c).Slices ![k, 0] (S2 1 c)) (h : (S2 1 c).ShapeCasts (S1 c)) :
    IsVec (x k) (shapeCast (S1 c) (extractStridedSlice (S2 1 c) ![k, 0] X hs) h) := fun l => by
  have hk : k + 1 ≤ M := hs.2 0
  refine (shapeCast_apply _ h (ix1 l) (ix2 0 l) (by
    rw [Shape.rowMajor_val_two, Shape.rowMajor_val_one]
    show 0 * c + (l : ℕ) = l
    omega)).trans ?_
  exact (extractStridedSlice_apply ![k, 0] X hs (ix2 0 l) (ix2 ⟨k, by omega⟩ l) (fun a => match a with
    | ⟨0, _⟩ => rfl
    | ⟨1, _⟩ => (Nat.zero_add _).symm)).trans (hX ⟨k, by omega⟩ l)

/-- A vector summed over two axes of one element and laid out as a row. -/
theorem IsVec.row {x : ℕ → ℝ} {u : Shape} {Z : u.Idx → Ideal .f32} {X : FVec Ideal (S1 c) .f32} (hX : IsVec x X) (h : (S1 c).ShapeCasts (S3 1 1 c))
    (hr : (S3 1 1 c).ReducesTo [0, 1] (S1 c)) (hu : 0 < u.numel) (hZ : Z (Shape.Idx.first hu) = (0 : EReal)) (hb : (S1 c).BroadcastsInDim (S2 1 c) ![1]) :
    IsMat (fun _ l => x l) (broadcastInDim (S2 1 c) ![1] hb (Host.reduceAdd (shapeCast (S3 1 1 c) X h) Z hr hu)) := fun i l => by
  refine (broadcastInDim_apply _ hb _ (ix2 i l) (ix1 l) fun a => match a with
    | ⟨0, _⟩ => by
      show (l : ℕ) = if c = 1 then 0 else (l : ℕ)
      split
      · have := l.isLt; omega
      · rfl).trans ?_
  show Ideal.hostReduceAdd hr _ (Z (Shape.Idx.first hu)) (ix1 l) = _
  rw [reduceAdd_first_two, hZ, zero_add, Fin.sum_univ_one, Fin.sum_univ_one]
  refine (shapeCast_apply X h (ix3 0 0 l) (ix1 l) ?_).trans (hX l)
  rw [Shape.rowMajor_val_one, Shape.rowMajor_val_three]
  show (l : ℕ) = (0 * 1 + 0) * c + l
  omega

/-- A table put `o` rows down into a taller table of zeros. -/
theorem _root_.Cert.Tables.IsMat.padRows {M A o q : ℕ} {u : Shape} {Z : u.Idx → Ideal φ} {X : FVec Ideal (S2 M c) φ} (hX : IsMat x X) (hp : (S2 M c).Pads ![o, 0] ![q, 0] ![0, 0] (S2 A c))
    (hu : 0 < u.numel) (hZ : Z (Shape.Idx.first hu) = ((0 : ℝ) : EReal)) :
    IsMat (fun i j => if o ≤ i ∧ i < o + M then x (i - o) j else 0) (pad (S2 A c) ![o, 0] ![q, 0] ![0, 0] X Z hp hu) := fun i j => by
  show _ = ((if o ≤ (i : ℕ) ∧ (i : ℕ) < o + M then x ((i : ℕ) - o) j else 0 : ℝ) : EReal)
  by_cases h : o ≤ (i : ℕ) ∧ (i : ℕ) < o + M
  · rw [if_pos h]
    refine (pad_apply_of_inside ![o, 0] ![q, 0] ![0, 0] X Z hp hu (ix2 i j) (ix2 ⟨(i : ℕ) - o, by omega⟩ j) (fun a => ?_)).trans (hX ⟨(i : ℕ) - o, by omega⟩ j)
    match a with
    | ⟨0, _⟩ => show (i : ℕ) = o + (i - o) * (0 + 1); omega
    | ⟨1, _⟩ => show (j : ℕ) = 0 + j * (0 + 1); omega
  · rw [if_neg h]
    refine (pad_apply_of_not_inside ![o, 0] ![q, 0] ![0, 0] X Z hp hu (ix2 i j) 0 (fun hin => h ?_)).trans hZ
    have h1 : o ≤ (i : ℕ) := hin.1
    have h3 : ((i : ℕ) - o) / (0 + 1) < M := hin.2.2
    omega

/-- The rows of the sequences one below the other. -/
theorem IsTok.flat {X : FVec Ideal (S3 4 2048 c) φ} (hX : IsTok x X) (h : (S3 4 2048 c).ShapeCasts (S2 8192 c)) : IsMat x (shapeCast (S2 8192 c) X h) := fun i j => by
  have hi := i.isLt
  refine (shapeCast_apply X h (ix2 i j) (ix3 ⟨(i : ℕ) / 2048, by omega⟩ ⟨(i : ℕ) % 2048, by omega⟩ j) ?_).trans ((hX _ _ j).trans ?_)
  · rw [Shape.rowMajor_val_two, Shape.rowMajor_val_three]
    show (((i : ℕ) / 2048) * 2048 + (i : ℕ) % 2048) * c + (j : ℕ) = (i : ℕ) * c + (j : ℕ)
    rw [show (i : ℕ) / 2048 * 2048 + (i : ℕ) % 2048 = i by omega]
  · show ((x (2048 * ((i : ℕ) / 2048) + (i : ℕ) % 2048) (j : ℕ) : ℝ) : EReal) = _
    rw [Nat.div_add_mod]

end Ops

end Cert.Tokens

end
-- ==== Proof.FfnBwd.Reference.lean ====
/- The reference's gradients of the feed-forward layer over the reals. -/
module

public import proofs.«01_k».proof.Proof.FfnBwd.Point
public import proofs.«01_k».proof.Proof.Shifts
public import proofs.«01_k».proof.Proof.Gen.FfnBwdRefIdeal.Read

@[expose] public section

set_option maxRecDepth 16384

noncomputable section

namespace Cert.FfnBwdProof

open Cert.FfnBwdRefIdeal Cert.FfnBwdRefIdeal.Gen Cert.FfnBwdRefIdeal.Read Idealize.ShloMosaic Idealize.ShloMosaic.TcCoe
open Cert.Tables Cert.Tokens
open Cert.Reals (AllReal)

/-! ## The layer and its gradients -/

section Formulas
variable (x0 x1 : FVec Ideal S4x2048x1024 .f32) (x2 : FVec Ideal S1x1024 .f32) (x3 : FVec Ideal S1024x5632 .f32)
  (x4 : FVec Ideal S3x5632 .f32) (x5 : FVec Ideal S2816x1024 .f32)

/-- The mean square of a row and the small constant. -/
def ms (x : ℕ → ℕ → ℝ) (r : ℕ) : ℝ := (∑ k ∈ Finset.range 1024, x r k * x r k) * (1 / 1024) + eps

/-- The row divided by its root mean square. -/
def xn (r l : ℕ) : ℝ := row3 x0 r l * inv (row3 x0) r

/-- The up projection before the filter. -/
def upp (r j : ℕ) : ℝ := ∑ l ∈ Finset.range 1024, (xn x0 r l * rd2 x2 0 l) * rd2 x3 l j

/-- The filtered up projection: three taps over the last three positions. -/
def up (r j : ℕ) : ℝ := upp x0 x2 x3 r j * rd2 x4 2 j + back 2 (upp x0 x2 x3) r j * rd2 x4 0 j + back 1 (upp x0 x2 x3) r j * rd2 x4 1 j

/-- The gradient of the filtered up projection. -/
def gup (r j : ℕ) : ℝ := gd (row3 x1) (rd2 x5) (up x0 x2 x3 x4) r j

/-- The gradient of the up projection before the filter. -/
def gupp (r j : ℕ) : ℝ := gup x0 x1 x2 x3 x4 x5 r j * rd2 x4 2 j + ahead 1 (gup x0 x1 x2 x3 x4 x5) r j * rd2 x4 1 j + ahead 2 (gup x0 x1 x2 x3 x4 x5) r j * rd2 x4 0 j

/-- The gradient of the scaled row. -/
def dnorm (r l : ℕ) : ℝ := dh (gupp x0 x1 x2 x3 x4 x5) (fun k l => rd2 x3 l k) r l

/-- The gradient of the layer's input, added to the gradient that comes past the layer. -/
def gradX (r l : ℕ) : ℝ := row3 x1 r l + normGrad (row3 x0) (fun r l => dnorm x0 x1 x2 x3 x4 x5 r l * rd2 x2 0 l) r l

/-- A term of a tap's gradient. -/
def tapTerm (i j r : ℕ) : ℝ := upp x0 x2 x3 r j * ahead (2 - i) (gup x0 x1 x2 x3 x4 x5) r j

/-- A term of the scale's gradient. -/
def scaleTerm (l r : ℕ) : ℝ := dnorm x0 x1 x2 x3 x4 x5 r l * xn x0 r l

def outX : FVec Ideal S8192x1024 .f32 := fun i => ((gradX x0 x1 x2 x3 x4 x5 (i 0 : ℕ) (i 1 : ℕ) : ℝ) : EReal)
def outU : FVec Ideal S8192x5632 .bf16 := fun i => ((gupp x0 x1 x2 x3 x4 x5 (i 0 : ℕ) (i 1 : ℕ) : ℝ) : EReal)
def outW : FVec Ideal S8x5632 .f32 := fun i =>
  ((if (i 0 : ℕ) < 3 then ∑ r ∈ Finset.range 8192, tapTerm x0 x1 x2 x3 x4 x5 (i 0 : ℕ) (i 1 : ℕ) r else 0 : ℝ) : EReal)
def outG : FVec Ideal S8x1024 .f32 := fun i =>
  ((firstRow (fun l => ∑ r ∈ Finset.range 8192, scaleTerm x0 x1 x2 x3 x4 x5 l r) (i 0 : ℕ) (i 1 : ℕ) : ℝ) : EReal)

end Formulas

/-! ## The forward lines -/

variable {x0 x1 : FVec Ideal S4x2048x1024 .f32} {x2 : FVec Ideal S1x1024 .f32} {x3 : FVec Ideal S1024x5632 .f32}
  {x4 : FVec Ideal S3x5632 .f32} {x5 : FVec Ideal S2816x1024 .f32}

theorem ref_ms (h0 : AllReal x0) : IsTok (c := 1) (φ := .f32) (fun r _ => ms (row3 x0) r) (val_main_v6 (F := Ideal) x0) :=
  (((((isTok_row3 h0).mul (isTok_row3 h0)).sumLast reducesTo_S4x2048x1024_S4x2048_d2 h_S_ zero_f32).col bcast_S4x2048_S4x2048x1_0_1).div
    (isTok_const width_f32 bcast_S_S4x2048x1) fun _ _ _ _ => by norm_num).add (isTok_const eps_spec.1 bcast_S_S4x2048x1)

theorem ref_inv (h0 : AllReal x0) : IsTok (c := 1) (φ := .f32) (fun r _ => inv (row3 x0) r) (val_main_v7 (F := Ideal) x0) :=
  (ref_ms h0).rsqrt fun r _ _ _ => meansq_pos _ r

theorem ref_slope (h0 : AllReal x0) : IsTok (c := 1) (φ := .f32) (fun r _ => -(1 / 2) * (inv (row3 x0) r * (1 / ms (row3 x0) r))) (val_main_v10 (F := Ideal) x0) :=
  (isTok_const neg_half_f32 bcast_S_S4x2048x1).mul ((ref_inv h0).div (ref_ms h0) fun r _ _ _ => (meansq_pos _ r).ne')

theorem ref_xn (h0 : AllReal x0) : IsTok (c := 1024) (φ := .f32) (xn x0) (val_main_v12 (F := Ideal) x0) :=
  (isTok_row3 h0).mul ((ref_inv h0).spread bcast_S4x2048x1_S4x2048x1024_0_1_2)

theorem ref_gain (h2 : AllReal x2) : IsTok (c := 1024) (φ := .f32) (fun _ l => rd2 x2 0 l) (val_main_v15 (F := Ideal) x2) :=
  (isVec_row h2 shapeCasts_S1x1024_S1024).everywhere bcast_S1024_S1x1x1024_2 bcast_S1x1x1024_S4x2048x1024_0_1_2

theorem ref_upp (h0 : AllReal x0) (h2 : AllReal x2) (h3 : AllReal x3) : IsTok (c := 5632) (φ := .f32) (upp x0 x2 x3) (val_main_v17 (F := Ideal) x0 x2 x3) :=
  ((ref_xn h0).mul (ref_gain h2)).dot (isMat_rd2 h3)

theorem zero_word : (val_main_call2_v0 (F := Ideal)) (Shape.Idx.first h_S_) = ((0 : ℝ) : EReal) := by
  show (((0#32 : BitVec 32).toInt : ℝ) : EReal) = _
  norm_num

theorem zeros (i : S4x2x5632.Idx) : val_main_v18 (F := Ideal) i = (0 : EReal) := zero_f32

theorem ref_behind0 (h0 : AllReal x0) (h2 : AllReal x2) (h3 : AllReal x3) : IsTok (c := 5632) (φ := .f32) (back 0 (upp x0 x2 x3)) (val_main_v21 (F := Ideal) x0 x2 x3) :=
  (ref_upp h0 h2 h3).behind rfl zeros concatenates_S4x2x5632_S4x2048x5632_S4x2050x5632_d1 slices_S4x2050x5632_S4x2048x5632_0_2_0

theorem ref_behind1 (h0 : AllReal x0) (h2 : AllReal x2) (h3 : AllReal x3) : IsTok (c := 5632) (φ := .f32) (back 1 (upp x0 x2 x3)) (val_main_v34 (F := Ideal) x0 x2 x3) :=
  (ref_upp h0 h2 h3).behind rfl zeros concatenates_S4x2x5632_S4x2048x5632_S4x2050x5632_d1 slices_S4x2050x5632_S4x2048x5632_0_1_0

theorem ref_behind2 (h0 : AllReal x0) (h2 : AllReal x2) (h3 : AllReal x3) : IsTok (c := 5632) (φ := .f32) (back 2 (upp x0 x2 x3)) (val_main_v27 (F := Ideal) x0 x2 x3) :=
  (ref_upp h0 h2 h3).behind rfl zeros concatenates_S4x2x5632_S4x2048x5632_S4x2050x5632_d1 slices_S4x2050x5632_S4x2048x5632_0_0_0

theorem ref_tap2 (h4 : AllReal x4) : IsTok (c := 5632) (φ := .f32) (fun _ j => rd2 x4 2 j) (val_main_v25 (F := Ideal) x4) :=
  (isVec_tap (isMat_rd2 h4) slices_S3x5632_S1x5632_2_0 shapeCasts_S1x5632_S5632).everywhere bcast_S5632_S1x1x5632_2 bcast_S1x1x5632_S4x2048x5632_0_1_2

theorem ref_tap0 (h4 : AllReal x4) : IsTok (c := 5632) (φ := .f32) (fun _ j => rd2 x4 0 j) (val_main_v31 (F := Ideal) x4) :=
  (isVec_tap (isMat_rd2 h4) slices_S3x5632_S1x5632_0_0 shapeCasts_S1x5632_S5632).everywhere bcast_S5632_S1x1x5632_2 bcast_S1x1x5632_S4x2048x5632_0_1_2

theorem ref_tap1 (h4 : AllReal x4) : IsTok (c := 5632) (φ := .f32) (fun _ j => rd2 x4 1 j) (val_main_v38 (F := Ideal) x4) :=
  (isVec_tap (isMat_rd2 h4) slices_S3x5632_S1x5632_1_0 shapeCasts_S1x5632_S5632).everywhere bcast_S5632_S1x1x5632_2 bcast_S1x1x5632_S4x2048x5632_0_1_2

theorem ref_up (h0 : AllReal x0) (h2 : AllReal x2) (h3 : AllReal x3) (h4 : AllReal x4) : IsTok (c := 5632) (φ := .f32) (up x0 x2 x3 x4) (val_main_v40 (F := Ideal) x0 x2 x3 x4) := by
  have a : IsTok (c := 5632) (φ := .f32) _ (val_main_v40 (F := Ideal) x0 x2 x3 x4) :=
    (((ref_behind0 h0 h2 h3).mul (ref_tap2 h4)).add ((ref_behind2 h0 h2 h3).mul (ref_tap0 h4))).add ((ref_behind1 h0 h2 h3).mul (ref_tap1 h4))
  refine a.congr fun r j _ _ => ?_
  show back 0 (upp x0 x2 x3) r j * rd2 x4 2 j + back 2 (upp x0 x2 x3) r j * rd2 x4 0 j + back 1 (upp x0 x2 x3) r j * rd2 x4 1 j = _
  rw [back_zero]
  rfl

/-! ## The gate's gradient -/

theorem ref_left (h0 : AllReal x0) (h2 : AllReal x2) (h3 : AllReal x3) (h4 : AllReal x4) :
    IsTok (c := 2816) (φ := .f32) (fun r j => up x0 x2 x3 x4 r j) (val_main_v41 (F := Ideal) x0 x2 x3 x4) :=
  ((ref_up h0 h2 h3 h4).cols slices_S4x2048x5632_S4x2048x2816_0_0_0).congr fun r j _ _ => congrArg (up x0 x2 x3 x4 r) (Nat.zero_add j)

theorem ref_right (h0 : AllReal x0) (h2 : AllReal x2) (h3 : AllReal x3) (h4 : AllReal x4) :
    IsTok (c := 2816) (φ := .f32) (fun r j => up x0 x2 x3 x4 r (2816 + j)) (val_main_v42 (F := Ideal) x0 x2 x3 x4) :=
  (ref_up h0 h2 h3 h4).cols slices_S4x2048x5632_S4x2048x2816_0_0_2816

theorem ref_sg (h0 : AllReal x0) (h2 : AllReal x2) (h3 : AllReal x3) (h4 : AllReal x4) :
    IsTok (c := 2816) (φ := .f32) (fun r j => sg (up x0 x2 x3 x4 r j)) (val_main_v43_2 (F := Ideal) x0 x2 x3 x4) :=
  ((isTok_const one_f32 bcast_S_S4x2048x2816).div ((isTok_const one_f32 bcast_S_S4x2048x2816).add (ref_left h0 h2 h3 h4).neg.exp)
    fun r j _ _ => (by positivity)).congr fun r j _ _ => by rw [sg, one_mul, one_div]

theorem ref_da (h1 : AllReal x1) (h5 : AllReal x5) : IsTok (c := 2816) (φ := .f32) (da (row3 x1) (rd2 x5)) (val_main_v46 (F := Ideal) x1 x5) :=
  (isTok_row3 h1).dotT (isMat_rd2 h5)

theorem ref_gup (h0 : AllReal x0) (h1 : AllReal x1) (h2 : AllReal x2) (h3 : AllReal x3) (h4 : AllReal x4) (h5 : AllReal x5) :
    IsTok (c := 5632) (φ := .f32) (gup x0 x1 x2 x3 x4 x5) (val_main_v50 (F := Ideal) x0 x1 x2 x3 x4 x5) := by
  have u := ref_left h0 h2 h3 h4
  have s := ref_sg h0 h2 h3 h4
  have d := (ref_da h1 h5).mul (ref_right h0 h2 h3 h4)
  have a : IsTok (c := 5632) (φ := .f32) _ (val_main_v50 (F := Ideal) x0 x1 x2 x3 x4 x5) :=
    ((d.mul s).add ((u.mul d).mul (s.mul ((isTok_const one_f32 bcast_S_S4x2048x2816).sub s)))).beside (by norm_num) ((u.mul s).mul (ref_da h1 h5))
      concatenates_S4x2048x2816_S4x2048x2816_S4x2048x5632_d2
  refine a.congr fun r j _ _ => ?_
  unfold gup gd
  split <;> ring

/-! ## The filter's gradient -/

section Filter
variable (h0 : AllReal x0) (h1 : AllReal x1) (h2 : AllReal x2) (h3 : AllReal x3) (h4 : AllReal x4) (h5 : AllReal x5)
include h0 h1 h2 h3 h4 h5

theorem ref_gupp : IsTok (c := 5632) (φ := .f32) (gupp x0 x1 x2 x3 x4 x5) (val_main_v83 (F := Ideal) x0 x1 x2 x3 x4 x5) := by
  have G := ref_gup h0 h1 h2 h3 h4 h5
  have a : IsTok (c := 5632) (φ := .f32) _ (val_main_v83 (F := Ideal) x0 x1 x2 x3 x4 x5) :=
    (((G.mul (ref_tap1 h4)).forward (k := 1) rfl pads_S4x2048x5632_S4x2050x5632_000_110_000 h_S_ zero_f32 slices_S4x2050x5632_S4x2048x5632_0_2_0).add
      ((G.mul (ref_tap0 h4)).forward (k := 2) rfl pads_S4x2048x5632_S4x2050x5632_000_020_000 h_S_ zero_f32 slices_S4x2050x5632_S4x2048x5632_0_2_0)).add
      ((G.mul (ref_tap2 h4)).forward (k := 0) rfl pads_S4x2048x5632_S4x2050x5632_000_200_000 h_S_ zero_f32 slices_S4x2050x5632_S4x2048x5632_0_2_0)
  refine a.congr fun r j _ _ => ?_
  unfold gupp
  have e (k i : ℕ) : ahead k (fun r j => gup x0 x1 x2 x3 x4 x5 r j * rd2 x4 i j) r j = ahead k (gup x0 x1 x2 x3 x4 x5) r j * rd2 x4 i j := by
    unfold ahead; split
    · rfl
    · rw [zero_mul]
  show ahead 1 (fun r j => gup x0 x1 x2 x3 x4 x5 r j * rd2 x4 1 j) r j + ahead 2 (fun r j => gup x0 x1 x2 x3 x4 x5 r j * rd2 x4 0 j) r j
    + ahead 0 (fun r j => gup x0 x1 x2 x3 x4 x5 r j * rd2 x4 2 j) r j = _
  rw [e, e, e, ahead_zero]
  ring

theorem ref_tapRow {k : ℕ} {T : FVec Ideal S4x2048x5632 .f32} (hT : IsTok (c := 5632) (φ := .f32) (back k (upp x0 x2 x3)) T) (hk : k ≤ 2048) :
    IsMat (a := 1) (b := 5632) (φ := .f32) (fun _ j => ∑ r ∈ Finset.range 8192, upp x0 x2 x3 r j * ahead k (gup x0 x1 x2 x3 x4 x5) r j)
      (broadcastInDim S1x5632 ![1] bcast_S5632_S1x5632_1 (Host.reduceAdd (shapeCast S1x1x5632 (Host.reduceAdd (mulf T (val_main_v50 (F := Ideal) x0 x1 x2 x3 x4 x5))
        (constant S_ .f32 0x00000000#32) reducesTo_S4x2048x5632_S5632_d0_1 h_S_) shapeCasts_S5632_S1x1x5632) (constant S_ .f32 0x00000000#32) reducesTo_S1x1x5632_S5632_d0_1 h_S_)) :=
  (((hT.mul (ref_gup h0 h1 h2 h3 h4 h5)).sumAll reducesTo_S4x2048x5632_S5632_d0_1 h_S_ zero_f32).row shapeCasts_S5632_S1x1x5632 reducesTo_S1x1x5632_S5632_d0_1 h_S_ zero_f32
    bcast_S5632_S1x5632_1).congr fun _ j _ _ => sum_back k hk (upp x0 x2 x3) (gup x0 x1 x2 x3 x4 x5) j j

theorem ref_taps : IsMat (a := 3) (b := 5632) (φ := .f32) (fun i j => if i < 3 then ∑ r ∈ Finset.range 8192, tapTerm x0 x1 x2 x3 x4 x5 i j r else 0)
    (val_main_v79 (F := Ideal) x0 x1 x2 x3 x4 x5) := by
  have z : Ideal.ofBits .f32 0x00000000#32 = ((0 : ℝ) : EReal) := zero_f32
  have a : IsMat (a := 3) (b := 5632) (φ := .f32) _ (val_main_v79 (F := Ideal) x0 x1 x2 x3 x4 x5) :=
    (((ref_tapRow h0 h1 h2 h3 h4 h5 (ref_behind1 h0 h2 h3) (by norm_num)).padRows pads_S1x5632_S3x5632_110_000 h_S_ z).add
      ((ref_tapRow h0 h1 h2 h3 h4 h5 (ref_behind2 h0 h2 h3) (by norm_num)).padRows pads_S1x5632_S3x5632_020_000 h_S_ z)).add
      ((ref_tapRow h0 h1 h2 h3 h4 h5 (ref_behind0 h0 h2 h3) (by norm_num)).padRows pads_S1x5632_S3x5632_200_000 h_S_ z)
  refine a.congr fun i j hi _ => ?_
  unfold tapTerm
  interval_cases i <;> simp

theorem ref_outW : val_main_v110 (F := Ideal) x0 x1 x2 x3 x4 x5 = outW x0 x1 x2 x3 x4 x5 := by
  have a : IsMat (a := 8) (b := 5632) (φ := .f32) _ (val_main_v110 (F := Ideal) x0 x1 x2 x3 x4 x5) :=
    (ref_taps h0 h1 h2 h3 h4 h5).padRows pads_S3x5632_S8x5632_050_000 h_S_ zero_word
  have b := a.congr (y := fun i j => if i < 3 then ∑ r ∈ Finset.range 8192, tapTerm x0 x1 x2 x3 x4 x5 i j r else 0) fun i j _ _ => by
    by_cases h : i < 3
    · rw [if_pos ⟨Nat.zero_le _, by omega⟩, Nat.sub_zero]
    · rw [if_neg (by omega), if_neg h]
  exact funext fun i => b.at i rfl rfl

/-! ## The norm's gradient -/

theorem ref_outU : val_main_v109 (F := Ideal) x0 x1 x2 x3 x4 x5 = outU x0 x1 x2 x3 x4 x5 :=
  funext fun i => ((ref_gupp h0 h1 h2 h3 h4 h5).flat shapeCasts_S4x2048x5632_S8192x5632).at i rfl rfl

theorem ref_dnorm : IsTok (c := 1024) (φ := .f32) (dnorm x0 x1 x2 x3 x4 x5) (val_main_v84 (F := Ideal) x0 x1 x2 x3 x4 x5) :=
  (ref_gupp h0 h1 h2 h3 h4 h5).dotT (isMat_rd2 h3)

/-- The gradient of the row divided by its root mean square. -/
def dy (x0 x1 : FVec Ideal S4x2048x1024 .f32) (x2 : FVec Ideal S1x1024 .f32) (x3 : FVec Ideal S1024x5632 .f32) (x4 : FVec Ideal S3x5632 .f32) (x5 : FVec Ideal S2816x1024 .f32)
    (r l : ℕ) : ℝ := dnorm x0 x1 x2 x3 x4 x5 r l * rd2 x2 0 l

theorem ref_dy : IsTok (c := 1024) (φ := .f32) (dy x0 x1 x2 x3 x4 x5) (val_main_v89 (F := Ideal) x0 x1 x2 x3 x4 x5) :=
  (ref_dnorm h0 h1 h2 h3 h4 h5).mul (ref_gain h2)

/-- The part of the gradient that comes through the mean square. -/
def through (x0 x1 : FVec Ideal S4x2048x1024 .f32) (x2 : FVec Ideal S1x1024 .f32) (x3 : FVec Ideal S1024x5632 .f32) (x4 : FVec Ideal S3x5632 .f32) (x5 : FVec Ideal S2816x1024 .f32)
    (r : ℕ) : ℝ :=
  (∑ k ∈ Finset.range 1024, row3 x0 r k * dy x0 x1 x2 x3 x4 x5 r k) * (-(1 / 2) * (inv (row3 x0) r * (1 / ms (row3 x0) r))) * (1 / 1024)

theorem ref_through : IsTok (c := 1) (φ := .f32) (fun r _ => through x0 x1 x2 x3 x4 x5 r) (val_main_v99 (F := Ideal) x0 x1 x2 x3 x4 x5) :=
  (((((isTok_row3 h0).mul (ref_dy h0 h1 h2 h3 h4 h5)).sumLast reducesTo_S4x2048x1024_S4x2048_d2 h_S_ zero_f32).reshape shapeCasts_S4x2048_S4x2048x1).mul (ref_slope h0)).div
    (isTok_const width_f32 bcast_S_S4x2048x1) fun _ _ _ _ => by norm_num

theorem ref_spread : IsTok (c := 1024) (φ := .f32) (fun r _ => ∑ _k ∈ Finset.range 1, through x0 x1 x2 x3 x4 x5 r) (val_main_v101 (F := Ideal) x0 x1 x2 x3 x4 x5) :=
  ((ref_through h0 h1 h2 h3 h4 h5).sumLast reducesTo_S4x2048x1_S4x2048_d2 h_S_ zero_f32).spread bcast_S4x2048_S4x2048x1024_0_1

theorem ref_x : IsTok (c := 1024) (φ := .f32) (gradX x0 x1 x2 x3 x4 x5) (val_main_v106 (F := Ideal) x0 x1 x2 x3 x4 x5) := by
  have a : IsTok (c := 1024) (φ := .f32) _ (val_main_v106 (F := Ideal) x0 x1 x2 x3 x4 x5) :=
    (isTok_row3 h1).add ((((ref_dy h0 h1 h2 h3 h4 h5).mul ((ref_inv h0).spread bcast_S4x2048x1_S4x2048x1024_0_1_2)).add
      ((isTok_row3 h0).mul (ref_spread h0 h1 h2 h3 h4 h5))).add ((ref_spread h0 h1 h2 h3 h4 h5).mul (isTok_row3 h0)))
  refine a.congr fun r l _ _ => ?_
  have e := normGrad_eq (row3 x0) (dy x0 x1 x2 x3 x4 x5) r l
  show _ = row3 x1 r l + normGrad (row3 x0) (dy x0 x1 x2 x3 x4 x5) r l
  rw [← e]
  simp only [Finset.sum_range_one]
  unfold through ms
  ring

theorem ref_outX : val_main_v107 (F := Ideal) x0 x1 x2 x3 x4 x5 = outX x0 x1 x2 x3 x4 x5 :=
  funext fun i => ((ref_x h0 h1 h2 h3 h4 h5).flat shapeCasts_S4x2048x1024_S8192x1024).at i rfl rfl

theorem ref_grow : IsMat (a := 1) (b := 1024) (φ := .f32) (fun _ l => ∑ r ∈ Finset.range 8192, xn x0 r l * dnorm x0 x1 x2 x3 x4 x5 r l) (val_main_v91 (F := Ideal) x0 x1 x2 x3 x4 x5) :=
  (((ref_xn h0).mul (ref_dnorm h0 h1 h2 h3 h4 h5)).sumAll reducesTo_S4x2048x1024_S1024_d0_1 h_S_ zero_f32).row shapeCasts_S1024_S1x1x1024 reducesTo_S1x1x1024_S1024_d0_1 h_S_ zero_f32
    bcast_S1024_S1x1024_1

theorem ref_outG : val_main_v111 (F := Ideal) x0 x1 x2 x3 x4 x5 = outG x0 x1 x2 x3 x4 x5 := by
  have a : IsMat (a := 8) (b := 1024) (φ := .f32) _ (val_main_v111 (F := Ideal) x0 x1 x2 x3 x4 x5) :=
    (ref_grow h0 h1 h2 h3 h4 h5).padRows pads_S1x1024_S8x1024_070_000 h_S_ zero_word
  have b := a.congr (y := firstRow fun l => ∑ r ∈ Finset.range 8192, scaleTerm x0 x1 x2 x3 x4 x5 l r) fun i j _ _ => by
    unfold firstRow
    by_cases h : i = 0
    · rw [if_pos h, if_pos (by omega)]
      exact Finset.sum_congr rfl fun r _ => mul_comm _ _
    · rw [if_neg (by omega), if_neg h]
  exact funext fun i => b.at i rfl rfl

end Filter

end Cert.FfnBwdProof

end
-- ==== Proof.FfnBwd.Blocks.lean ====
/- What the host's lines leave in the operands of the feed-forward layer's backward pass, the blocks of a grid point, and the four results. -/
module

public import proofs.«01_k».proof.Proof.FfnBwd.Strips
public import proofs.«01_k».proof.Proof.FfnBwd.Reference
public import Idealize.ShloMosaic.Lib.StableHlo.ReadAt

@[expose] public section

set_option maxRecDepth 16384

noncomputable section

namespace Cert.FfnBwdProof

open Cert.FfnBwdIdeal Cert.FfnBwdIdeal.Gen Idealize.ShloMosaic Idealize.ShloMosaic.TcCoe Idealize.SL.Sem
open Cert.Tables Cert.Tokens
open Cert.Reals (AllReal rd3 rd3_eq rd3_at)

section Host
variable {F : FTy → Type} [FloatOps F] (m : (ℓ : Loc nD τ sig) → Buf (Elt F) ℓ) (c : Dev nD)

abbrev arg0 : FVec F S4x2048x1024 .f32 := m ((c.tc : Thread nD τ).loc main_arg0)
abbrev arg1 : FVec F S4x2048x1024 .f32 := m ((c.tc : Thread nD τ).loc main_arg1)
abbrev arg2 : FVec F S1x1024 .f32 := m ((c.tc : Thread nD τ).loc main_arg2)
abbrev arg3 : FVec F S1024x5632 .f32 := m ((c.tc : Thread nD τ).loc main_arg3)
abbrev arg4 : FVec F S3x5632 .f32 := m ((c.tc : Thread nD τ).loc main_arg4)
abbrev arg5 : FVec F S2816x1024 .f32 := m ((c.tc : Thread nD τ).loc main_arg5)

/-- The saved up projection before the filter is the reference's. -/
theorem host_upp : (V m c main_v41 : FVec F S8192x5632 .bf16)
    = truncf .bf16 (shapeCast S8192x5632 (Cert.FfnBwdRefIdeal.Read.val_main_v17 (F := F) (arg0 m c) (arg2 m c) (arg3 m c) : FVec F S4x2048x5632 .f32) shapeCasts_S4x2048x5632_S8192x5632) bitsLt_bf16_f32 := by
  unfold V
  simp only [hostOps0, hostOps0_1, hostOps0_2, List.flatten_cons, List.flatten_nil, List.append_nil, List.cons_append, List.nil_append]
  after_reads_simp
  rfl

/-- The saved filtered up projection is the reference's. -/
theorem host_up : (V m c main_v43 : FVec F S8192x5632 .bf16)
    = truncf .bf16 (shapeCast S8192x5632 (Cert.FfnBwdRefIdeal.Read.val_main_v40 (F := F) (arg0 m c) (arg2 m c) (arg3 m c) (arg4 m c) : FVec F S4x2048x5632 .f32) shapeCasts_S4x2048x5632_S8192x5632) bitsLt_bf16_f32 := by
  unfold V
  simp only [hostOps0, hostOps0_1, hostOps0_2, List.flatten_cons, List.flatten_nil, List.append_nil, List.cons_append, List.nil_append]
  after_reads_simp
  rfl

/-- The filter's taps, padded to eight rows. -/
theorem host_taps : (V m c main_v37 : FVec F S8x5632 .f32)
    = pad S8x5632 ![0, 0] ![5, 0] ![0, 0] (arg4 m c) (sitofp .f32 (constantI S_ 32 0#32)) pads_S3x5632_S8x5632_050_000 h_S_ := by
  unfold V
  simp only [hostOps0, hostOps0_1, hostOps0_2, List.flatten_cons, List.flatten_nil, List.append_nil, List.cons_append, List.nil_append]
  after_reads_simp
  rfl

end Host

variable (m : (ℓ : Loc nD τ sig) → Buf (Elt Ideal) ℓ) (c : Dev nD)

/-! ## The operands -/

theorem read38 (h : AllReal (arg1 m c)) : IsMat (a := 8192) (b := 1024) (φ := .f32) (row3 (arg1 m c)) (V m c main_v38) := by
  intro r l
  unfold V
  simp only [hostOps0, hostOps0_1, hostOps0_2, List.flatten_cons, List.flatten_nil, List.append_nil, List.cons_append, List.nil_append]
  after_reads_at
  exact rd3_at h _ _ _ _ rfl rfl rfl

theorem read39 (h : AllReal (arg0 m c)) : IsMat (a := 8192) (b := 1024) (φ := .f32) (row3 (arg0 m c)) (V m c main_v39) := by
  intro r l
  unfold V
  simp only [hostOps0, hostOps0_1, hostOps0_2, List.flatten_cons, List.flatten_nil, List.append_nil, List.cons_append, List.nil_append]
  after_reads_at
  exact rd3_at h _ _ _ _ rfl rfl rfl

theorem read2 (h : AllReal (arg2 m c)) : IsMat (a := 1) (b := 1024) (φ := .f32) (fun _ l => rd2 (arg2 m c) 0 l) (V m c main_arg2) := by
  intro r l
  obtain rfl : r = 0 := Fin.ext (Nat.lt_one_iff.mp r.isLt)
  unfold V
  simp only [hostOps0, hostOps0_1, hostOps0_2, List.flatten_cons, List.flatten_nil, List.append_nil, List.cons_append, List.nil_append]
  after_reads_at
  exact isMat_rd2 (a := 1) (b := 1024) h 0 l

theorem read44 (h : AllReal (arg5 m c)) : IsMat (a := 2816) (b := 1024) (φ := .bf16) (rd2 (arg5 m c)) (V m c main_v44) := by
  intro r l
  unfold V
  simp only [hostOps0, hostOps0_1, hostOps0_2, List.flatten_cons, List.flatten_nil, List.append_nil, List.cons_append, List.nil_append]
  after_reads_at
  exact (isMat_rd2 (a := 2816) (b := 1024) h).at _ rfl rfl

theorem read46 (h : AllReal (arg3 m c)) : IsMat (a := 5632) (b := 1024) (φ := .bf16) (fun k l => rd2 (arg3 m c) l k) (V m c main_v46) := by
  intro r l
  unfold V
  simp only [hostOps0, hostOps0_1, hostOps0_2, List.flatten_cons, List.flatten_nil, List.append_nil, List.cons_append, List.nil_append]
  after_reads_at
  exact (isMat_rd2 (a := 1024) (b := 5632) h).at _ rfl rfl

theorem read41 (h0 : AllReal (arg0 m c)) (h2 : AllReal (arg2 m c)) (h3 : AllReal (arg3 m c)) :
    IsMat (a := 8192) (b := 5632) (φ := .bf16) (upp (arg0 m c) (arg2 m c) (arg3 m c)) (V m c main_v41) := by
  rw [host_upp]
  exact ((ref_upp h0 h2 h3).flat shapeCasts_S4x2048x5632_S8192x5632).trunc bitsLt_bf16_f32

theorem read43 (h0 : AllReal (arg0 m c)) (h2 : AllReal (arg2 m c)) (h3 : AllReal (arg3 m c)) (h4 : AllReal (arg4 m c)) :
    IsMat (a := 8192) (b := 5632) (φ := .bf16) (up (arg0 m c) (arg2 m c) (arg3 m c) (arg4 m c)) (V m c main_v43) := by
  rw [host_up]
  exact ((ref_up h0 h2 h3 h4).flat shapeCasts_S4x2048x5632_S8192x5632).trunc bitsLt_bf16_f32

theorem read37 (h : AllReal (arg4 m c)) : IsMat (a := 8) (b := 5632) (φ := .f32) (rd2 (arg4 m c)) (V m c main_v37) := by
  rw [host_taps]
  have p : IsMat (a := 8) (b := 5632) (φ := .f32) _ (pad S8x5632 ![0, 0] ![5, 0] ![0, 0] (arg4 m c) (sitofp (F := Ideal) .f32 (constantI S_ 32 0#32)) pads_S3x5632_S8x5632_050_000 h_S_) :=
    (isMat_rd2 (a := 3) (b := 5632) h).padRows pads_S3x5632_S8x5632_050_000 h_S_ zero_word
  refine p.congr fun i j _ _ => ?_
  by_cases hi : i < 3
  · rw [if_pos ⟨Nat.zero_le _, by omega⟩, Nat.sub_zero]
  · rw [if_neg (by omega), rd2_out _ _ _ (Or.inl (by omega))]

theorem idx0 : ∀ t : Fin cfg0.N, win0_0.index t = ![31 - t.val, 0] := (by decide +kernel : ∀ t : Fin grid0.N, win0_0.index t = ![31 - t.val, 0])
theorem idx1 : ∀ t : Fin cfg0.N, win0_1.index t = ![31 - t.val, 0] := (by decide +kernel : ∀ t : Fin grid0.N, win0_1.index t = ![31 - t.val, 0])
theorem idx2 : ∀ t : Fin cfg0.N, win0_2.index t = ![0, 0] := (by decide +kernel : ∀ t : Fin grid0.N, win0_2.index t = ![0, 0])
theorem idx3 : ∀ t : Fin cfg0.N, win0_3.index t = ![31 - t.val, 0] := (by decide +kernel : ∀ t : Fin grid0.N, win0_3.index t = ![31 - t.val, 0])
theorem idx4 : ∀ t : Fin cfg0.N, win0_4.index t = ![31 - t.val, 0] := (by decide +kernel : ∀ t : Fin grid0.N, win0_4.index t = ![31 - t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![31 - t.val, 0] := (by decide +kernel : ∀ t : Fin grid0.N, win0_8.index t = ![31 - t.val, 0])
theorem idx9 : ∀ t : Fin cfg0.N, win0_9.index t = ![31 - t.val, 0] := (by decide +kernel : ∀ t : Fin grid0.N, win0_9.index t = ![31 - t.val, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])

/-! ## The blocks of a grid point -/

theorem blk0 (t : Fin cfg0.N) (h : AllReal (arg1 m c)) : IsMat (a := 256) (b := 1024) (φ := .f32) (fun i l => row3 (arg1 m c) (256 * (31 - t.val) + i) l) (iblk m c 0 t) := by
  intro i l
  have ht : t.val < 32 := t.isLt
  have hi := i.isLt
  refine Eq.trans ?_ (read38 m c h ⟨256 * (31 - t.val) + i, by omega⟩ l)
  blk_simp [iblk]
  blk_ext
  · rw [show win0_0.index t 0 = 31 - t.val from congrFun (idx0 t) 0]; omega
  · rw [show win0_0.index t 1 = 0 from congrFun (idx0 t) 1]; omega

theorem blk1 (t : Fin cfg0.N) (h : AllReal (arg0 m c)) : IsMat (a := 256) (b := 1024) (φ := .f32) (fun i l => row3 (arg0 m c) (256 * (31 - t.val) + i) l) (iblk m c 1 t) := by
  intro i l
  have ht : t.val < 32 := t.isLt
  have hi := i.isLt
  refine Eq.trans ?_ (read39 m c h ⟨256 * (31 - t.val) + i, by omega⟩ l)
  blk_simp [iblk]
  blk_ext
  · rw [show win0_1.index t 0 = 31 - t.val from congrFun (idx1 t) 0]; omega
  · rw [show win0_1.index t 1 = 0 from congrFun (idx1 t) 1]; omega

theorem blk2 (t : Fin cfg0.N) (h : AllReal (arg2 m c)) : IsMat (a := 1) (b := 1024) (φ := .f32) (fun _ l => rd2 (arg2 m c) 0 l) (iblk m c 2 t) := by
  intro i l
  have ht : t.val < 32 := t.isLt
  have hi := i.isLt
  refine Eq.trans ?_ (read2 m c h i l)
  blk_simp [iblk]
  blk_ext
  · rw [show win0_2.index t 0 = 0 from congrFun (idx2 t) 0]
  · rw [show win0_2.index t 1 = 0 from congrFun (idx2 t) 1]; omega

theorem blk3 (t : Fin cfg0.N) (h0 : AllReal (arg0 m c)) (h2 : AllReal (arg2 m c)) (h3 : AllReal (arg3 m c)) : IsMat (a := 256) (b := 5632) (φ := .bf16) (fun i j => upp (arg0 m c) (arg2 m c) (arg3 m c) (256 * (31 - t.val) + i) j) (iblk m c 3 t) := by
  intro i l
  have ht : t.val < 32 := t.isLt
  have hi := i.isLt
  refine Eq.trans ?_ (read41 m c h0 h2 h3 ⟨256 * (31 - t.val) + i, by omega⟩ l)
  blk_simp [iblk]
  blk_ext
  · rw [show win0_3.index t 0 = 31 - t.val from congrFun (idx3 t) 0]; omega
  · rw [show win0_3.index t 1 = 0 from congrFun (idx3 t) 1]; omega

theorem blk4 (t : Fin cfg0.N) (h0 : AllReal (arg0 m c)) (h2 : AllReal (arg2 m c)) (h3 : AllReal (arg3 m c)) (h4 : AllReal (arg4 m c)) : IsMat (a := 256) (b := 5632) (φ := .bf16) (fun i j => up (arg0 m c) (arg2 m c) (arg3 m c) (arg4 m c) (256 * (31 - t.val) + i) j) (iblk m c 4 t) := by
  intro i l
  have ht : t.val < 32 := t.isLt
  have hi := i.isLt
  refine Eq.trans ?_ (read43 m c h0 h2 h3 h4 ⟨256 * (31 - t.val) + i, by omega⟩ l)
  blk_simp [iblk]
  blk_ext
  · rw [show win0_4.index t 0 = 31 - t.val from congrFun (idx4 t) 0]; omega
  · rw [show win0_4.index t 1 = 0 from congrFun (idx4 t) 1]; omega

theorem blk5 (t : Fin cfg0.N) (h : AllReal (arg4 m c)) : IsMat (a := 8) (b := 5632) (φ := .f32) (rd2 (arg4 m c)) (iblk m c 5 t) := by
  intro i l
  have ht : t.val < 32 := t.isLt
  have hi := i.isLt
  refine Eq.trans ?_ (read37 m c h i l)
  blk_simp [iblk]
  blk_ext
  · rw [show win0_5.index t 0 = 0 from congrFun (idx5 t) 0]; omega
  · rw [show win0_5.index t 1 = 0 from congrFun (idx5 t) 1]; omega

theorem blk6 (t : Fin cfg0.N) (h : AllReal (arg5 m c)) : IsMat (a := 2816) (b := 1024) (φ := .bf16) (rd2 (arg5 m c)) (iblk m c 6 t) := by
  intro i l
  have ht : t.val < 32 := t.isLt
  have hi := i.isLt
  refine Eq.trans ?_ (read44 m c h i l)
  blk_simp [iblk]
  blk_ext
  · rw [show win0_6.index t 0 = 0 from congrFun (idx6 t) 0]; omega
  · rw [show win0_6.index t 1 = 0 from congrFun (idx6 t) 1]; omega

theorem blk7 (t : Fin cfg0.N) (h : AllReal (arg3 m c)) : IsMat (a := 5632) (b := 1024) (φ := .bf16) (fun k l => rd2 (arg3 m c) l k) (iblk m c 7 t) := by
  intro i l
  have ht : t.val < 32 := t.isLt
  have hi := i.isLt
  refine Eq.trans ?_ (read46 m c h i l)
  blk_simp [iblk]
  blk_ext
  · rw [show win0_7.index t 0 = 0 from congrFun (idx7 t) 0]; omega
  · rw [show win0_7.index t 1 = 0 from congrFun (idx7 t) 1]; omega

/-- All arguments are arrays of reals. -/
structure Finite : Prop where
  h0 : AllReal (arg0 m c)
  h1 : AllReal (arg1 m c)
  h2 : AllReal (arg2 m c)
  h3 : AllReal (arg3 m c)
  h4 : AllReal (arg4 m c)
  h5 : AllReal (arg5 m c)

variable {m c}

theorem tile (h : Finite m c) (t : Fin cfg0.N) : Tile m c t (fun i l => row3 (arg1 m c) (256 * (31 - t.val) + i) l) (fun i l => row3 (arg0 m c) (256 * (31 - t.val) + i) l)
    (rd2 (arg2 m c)) (fun i j => upp (arg0 m c) (arg2 m c) (arg3 m c) (256 * (31 - t.val) + i) j)
    (fun i j => up (arg0 m c) (arg2 m c) (arg3 m c) (arg4 m c) (256 * (31 - t.val) + i) j) (rd2 (arg4 m c)) (rd2 (arg5 m c)) (fun k l => rd2 (arg3 m c) l k) where
  h0 := blk0 m c t h.h1
  h1 := blk1 m c t h.h0
  h2 := blk2 m c t h.h2
  h3 := blk3 m c t h.h0 h.h2 h.h3
  h4 := blk4 m c t h.h0 h.h2 h.h3 h.h4
  h5 := blk5 m c t h.h4
  h6 := blk6 m c t h.h5
  h7 := blk7 m c t h.h3

/-! ## The rows of the tile after -/

section Rows
variable (m c)

/-- The gradient of the filtered up projection, of this kernel's arguments. -/
abbrev gupA (r j : ℕ) : ℝ := gup (arg0 m c) (arg1 m c) (arg2 m c) (arg3 m c) (arg4 m c) (arg5 m c) r j
abbrev guppA (r j : ℕ) : ℝ := gupp (arg0 m c) (arg1 m c) (arg2 m c) (arg3 m c) (arg4 m c) (arg5 m c) r j
abbrev dnormA (r l : ℕ) : ℝ := dnorm (arg0 m c) (arg1 m c) (arg2 m c) (arg3 m c) (arg4 m c) (arg5 m c) r l
abbrev tapA (i j r : ℕ) : ℝ := tapTerm (arg0 m c) (arg1 m c) (arg2 m c) (arg3 m c) (arg4 m c) (arg5 m c) i j r
abbrev scaleA (l r : ℕ) : ℝ := scaleTerm (arg0 m c) (arg1 m c) (arg2 m c) (arg3 m c) (arg4 m c) (arg5 m c) l r

/-- The first rows of the tile after, in the order of the positions; none after a sequence's last tile. -/
def after (n i j : ℕ) : ℝ := if n % 8 = 0 then 0 else gupA m c (256 * (31 - n) + 256 + i) j

end Rows

theorem held (h : Finite m c) (t : Fin cfg0.N) : Held0 m c t (after m c t.val) := by
  unfold Held0
  split
  · next e => funext i j; exact if_pos e
  · next e =>
    have ht : t.val < 32 := t.isLt
    refine (scratch (tile h ⟨t.val - 1, by omega⟩)).congr fun i j _ _ => ?_
    unfold after
    rw [if_neg e]
    show gupA m c (256 * (31 - (t.val - 1)) + i) j = _
    rw [show 256 * (31 - (t.val - 1)) + i = 256 * (31 - t.val) + 256 + i by omega]

theorem ahead_tile (n : ℕ) (hn : n < 32) (k i j : ℕ) (hi : i < 256) (hk : k ≤ 2) :
    ah 256 k (fun i j => gupA m c (256 * (31 - n) + i) j) (after m c n) i j = ahead k (gupA m c) (256 * (31 - n) + i) j := by
  unfold ah ahead after
  by_cases e : n % 8 = 0
  · by_cases a : i + k < 256
    · rw [if_pos a, if_pos (by omega), Nat.add_assoc]
    · rw [if_neg a, if_pos e, if_neg (by omega)]
  · rw [if_pos (show (256 * (31 - n) + i) % 2048 + k < 2048 by omega)]
    by_cases a : i + k < 256
    · rw [if_pos a, Nat.add_assoc]
    · rw [if_neg a, if_neg e, show 256 * (31 - n) + 256 + (i + k - 256) = 256 * (31 - n) + i + k by omega]

theorem pre_tile (n : ℕ) (hn : n < 32) (i j : ℕ) (hi : i < 256) :
    pre (fun i j => gupA m c (256 * (31 - n) + i) j) (after m c n) (rd2 (arg4 m c)) i j = guppA m c (256 * (31 - n) + i) j := by
  unfold pre
  rw [ahead_tile n hn 1 i j hi (by norm_num), ahead_tile n hn 2 i j hi (by norm_num)]
  rfl

theorem dh_tile (n : ℕ) (hn : n < 32) (i l : ℕ) (hi : i < 256) :
    dh (pre (fun i j => gupA m c (256 * (31 - n) + i) j) (after m c n) (rd2 (arg4 m c))) (fun k l => rd2 (arg3 m c) l k) i l = dnormA m c (256 * (31 - n) + i) l :=
  Finset.sum_congr rfl fun k _ => congrArg (· * rd2 (arg3 m c) l k) (pre_tile n hn i k hi)

/-! ## The four results -/

/-- The sum over the rows of the tiles `0 … n - 1`, which go through the positions from the last. -/
def tail (f : ℕ → ℝ) (n : ℕ) : ℝ := ∑ i ∈ Finset.range (256 * n), f (256 * (32 - n) + i)

theorem tail_zero (f : ℕ → ℝ) : tail f 0 = 0 := Finset.sum_range_zero _

theorem tail_succ (f : ℕ → ℝ) (n : ℕ) (hn : n < 32) : tail f n + ∑ i ∈ Finset.range 256, f (256 * (31 - n) + i) = tail f (n + 1) := by
  unfold tail
  rw [show 256 * (n + 1) = 256 + 256 * n by ring, Finset.sum_range_add, show 32 - (n + 1) = 31 - n by omega, add_comm]
  refine congrArg (_ + ·) (Finset.sum_congr rfl fun i _ => congrArg f ?_)
  omega

theorem tail_all (f : ℕ → ℝ) : tail f 32 = ∑ r ∈ Finset.range 8192, f r :=
  Finset.sum_congr rfl fun r _ => congrArg f (by omega)

theorem taps_tile (n : ℕ) (hn : n < 32) (i j : ℕ) :
    tapSum (fun i j => upp (arg0 m c) (arg2 m c) (arg3 m c) (256 * (31 - n) + i) j) (fun i j => gupA m c (256 * (31 - n) + i) j) (after m c n) i j
      = ∑ r ∈ Finset.range 256, tapA m c i j (256 * (31 - n) + r) :=
  Finset.sum_congr rfl fun r hr => by
    rw [ahead_tile n hn (2 - i) r j (Finset.mem_range.mp hr) (by omega)]
    rfl

theorem scale_tile (n : ℕ) (hn : n < 32) (l : ℕ) :
    ∑ i ∈ Finset.range 256, dh (pre (fun i j => gupA m c (256 * (31 - n) + i) j) (after m c n) (rd2 (arg4 m c))) (fun k l => rd2 (arg3 m c) l k) i l
      * (row3 (arg0 m c) (256 * (31 - n) + i) l * inv (fun i l => row3 (arg0 m c) (256 * (31 - n) + i) l) i)
      = ∑ i ∈ Finset.range 256, scaleA m c l (256 * (31 - n) + i) :=
  Finset.sum_congr rfl fun i hi => by
    rw [dh_tile n hn i l (Finset.mem_range.mp hi)]
    rfl

theorem upd_six (y s : ℕ → ℕ → ℝ) (i j : ℕ) (hj : j < 5632) : upd y s 6 i j = if i < 3 then y i j + s i j else y i j := by
  unfold upd
  have hd : j / 2816 ≤ 1 := by omega
  by_cases hi : i < 3
  · rw [if_pos ⟨hi, by omega⟩, if_pos hi]
  · rw [if_neg (fun q => hi q.1), if_neg hi]

theorem upto10 (h : Finite m c) : ∀ (n : ℕ) (hn : n < cfg0.N),
    IsMat (a := 8) (b := 5632) (φ := .f32) (fun i j => if i < 3 then tail (tapA m c i j) (n + 1) else 0) (outsAt0 m c n hn).2.2.1 := by
  intro n
  induction n with
  | zero =>
    intro hn
    have z : (fun _ _ => (0 : ℝ)) = after m c 0 := funext fun i => funext fun j => (if_pos rfl).symm
    have b := block10_first (tile h ⟨0, hn⟩) rfl rfl
    rw [z] at b
    refine b.congr fun i j _ hj => ?_
    rw [upd_six _ _ i j hj]
    by_cases hi : i < 3
    · rw [if_pos hi, if_pos hi, ← tail_succ _ 0 (by norm_num), tail_zero]
      exact congrArg₂ (· + ·) (if_pos rfl) (taps_tile 0 (by norm_num) i j)
    · rw [if_neg hi, if_neg hi]; exact if_pos rfl
  | succ n ih =>
    intro hn
    have hn32 : n + 1 < 32 := hn
    have prior : ∀ (k : ℕ) (hk : k < cfg0.N), k = n →
        IsMat (a := 8) (b := 5632) (φ := .f32) (fun i j => if i < 3 then tail (tapA m c i j) (n + 1) else 0) (outsAt0 m c k hk).2.2.1 := by
      intro k hk e; subst e; exact ih hk
    refine (block10_next (tile h ⟨n + 1, hn⟩) (by show ¬ (n + 1) % 32 = 0; omega) (held h ⟨n + 1, hn⟩) (prior _ _ (Nat.add_sub_cancel n 1))).congr fun i j _ hj => ?_
    rw [upd_six _ _ i j hj]
    by_cases hi : i < 3
    · rw [if_pos hi, if_pos hi, if_pos hi, ← tail_succ _ (n + 1) hn32]
      exact congrArg (_ + ·) (taps_tile (n + 1) hn32 i j)
    · rw [if_neg hi, if_neg hi, if_neg hi]

theorem upto11 (h : Finite m c) : ∀ (n : ℕ) (hn : n < cfg0.N),
    IsMat (a := 8) (b := 1024) (φ := .f32) (firstRow fun l => tail (scaleA m c l) (n + 1)) (outsAt0 m c n hn).2.2.2.1 := by
  intro n
  induction n with
  | zero =>
    intro hn
    have z : (fun _ _ => (0 : ℝ)) = after m c 0 := funext fun i => funext fun j => (if_pos rfl).symm
    have b := block11_first (tile h ⟨0, hn⟩) rfl rfl
    rw [z] at b
    refine b.congr fun i j _ _ => ?_
    refine congrArg (fun y => firstRow y i j) (funext fun l => ?_)
    rw [← tail_succ _ 0 (by norm_num), tail_zero]
    exact congrArg (_ + ·) (scale_tile 0 (by norm_num) l)
  | succ n ih =>
    intro hn
    have hn32 : n + 1 < 32 := hn
    have prior : ∀ (k : ℕ) (hk : k < cfg0.N), k = n →
        IsMat (a := 8) (b := 1024) (φ := .f32) (firstRow fun l => tail (scaleA m c l) (n + 1)) (outsAt0 m c k hk).2.2.2.1 := by
      intro k hk e; subst e; exact ih hk
    refine (block11_next (tile h ⟨n + 1, hn⟩) (by show ¬ (n + 1) % 32 = 0; omega) (held h ⟨n + 1, hn⟩) (prior _ _ (Nat.add_sub_cancel n 1))).congr fun i j _ _ => ?_
    refine congrArg (fun y => firstRow y i j) (funext fun l => ?_)
    rw [← tail_succ _ (n + 1) hn32]
    exact congrArg (_ + ·) (scale_tile (n + 1) hn32 l)

theorem normGrad_row {x x' d d' : ℕ → ℕ → ℝ} {r r' : ℕ} (hx : ∀ l, x r l = x' r' l) (hd : ∀ l, d r l = d' r' l) (l : ℕ) : normGrad x d r l = normGrad x' d' r' l := by
  unfold normGrad Cert.Tables.inv
  simp only [hx, hd]

theorem rows8 (h : Finite m c) (t : Fin cfg0.N) :
    IsMat (a := 256) (b := 1024) (φ := .f32) (fun i l => gradX (arg0 m c) (arg1 m c) (arg2 m c) (arg3 m c) (arg4 m c) (arg5 m c) (256 * (31 - t.val) + i) l) (outsAt0 m c t.val t.isLt).1 :=
  (block8 (tile h t) (held h t)).congr fun i l hi _ =>
    congrArg (_ + ·) (normGrad_row (r := i) (r' := 256 * (31 - t.val) + i) (x' := row3 (arg0 m c)) (d' := fun r l => dnormA m c r l * rd2 (arg2 m c) 0 l) (fun _ => rfl)
      (fun l => congrArg (· * rd2 (arg2 m c) 0 l) (dh_tile t.val t.isLt i l hi)) l)

theorem rows9 (h : Finite m c) (t : Fin cfg0.N) : IsMat (a := 256) (b := 5632) (φ := .bf16) (fun i j => guppA m c (256 * (31 - t.val) + i) j) (outsAt0 m c t.val t.isLt).2.1 :=
  (block9 (tile h t) (held h t)).congr fun i j hi _ => pre_tile t.val t.isLt i j hi

theorem final8 (h : Finite m c) : (dats m 0 c).arrAt 8 cfg0.N = outX (arg0 m c) (arg1 m c) (arg2 m c) (arg3 m c) (arg4 m c) (arg5 m c) := by
  refine (dats m 0 c).arrAt_eq_of_covers 8 _ (by decide +kernel) fun t hf y => ?_
  blk_simp
  rw [after0_8]
  obtain ⟨n, l, rfl⟩ : ∃ (n : Fin 256) (l : Fin 1024), y = ix2 n l := ⟨y 0, y 1, funext fun a => match a with | 0 => rfl | 1 => rfl⟩
  have ht : t.val < 32 := t.isLt
  have e0 : ((win0_8.blk t).view.emb (ix2 n l) 0 : ℕ) = 256 * (31 - t.val) + n := by
    blk_simp
    rw [show win0_8.index t 0 = 31 - t.val from congrFun (idx8 t) 0]; omega
  have e1 : ((win0_8.blk t).view.emb (ix2 n l) 1 : ℕ) = l := by
    blk_simp
    rw [show win0_8.index t 1 = 0 from congrFun (idx8 t) 1]; omega
  refine (rows8 h t n l).trans ?_
  show _ = ((gradX (arg0 m c) (arg1 m c) (arg2 m c) (arg3 m c) (arg4 m c) (arg5 m c) ((win0_8.blk t).view.emb (ix2 n l) 0 : ℕ) ((win0_8.blk t).view.emb (ix2 n l) 1 : ℕ) : ℝ) : EReal)
  rw [e0, e1]

theorem final9 (h : Finite m c) : (dats m 0 c).arrAt 9 cfg0.N = outU (arg0 m c) (arg1 m c) (arg2 m c) (arg3 m c) (arg4 m c) (arg5 m c) := by
  refine (dats m 0 c).arrAt_eq_of_covers 9 _ (by decide +kernel) fun t hf y => ?_
  blk_simp
  rw [after0_9]
  obtain ⟨n, l, rfl⟩ : ∃ (n : Fin 256) (l : Fin 5632), y = ix2 n l := ⟨y 0, y 1, funext fun a => match a with | 0 => rfl | 1 => rfl⟩
  have ht : t.val < 32 := t.isLt
  have e0 : ((win0_9.blk t).view.emb (ix2 n l) 0 : ℕ) = 256 * (31 - t.val) + n := by
    blk_simp
    rw [show win0_9.index t 0 = 31 - t.val from congrFun (idx9 t) 0]; omega
  have e1 : ((win0_9.blk t).view.emb (ix2 n l) 1 : ℕ) = l := by
    blk_simp
    rw [show win0_9.index t 1 = 0 from congrFun (idx9 t) 1]; omega
  refine (rows9 h t n l).trans ?_
  show _ = ((gupp (arg0 m c) (arg1 m c) (arg2 m c) (arg3 m c) (arg4 m c) (arg5 m c) ((win0_9.blk t).view.emb (ix2 n l) 0 : ℕ) ((win0_9.blk t).view.emb (ix2 n l) 1 : ℕ) : ℝ) : EReal)
  rw [e0, e1]

theorem last10 : ∀ t : Fin cfg0.N, (cfg0.win 10).flush t = true → t.val = 31 :=
  (by decide +kernel : ∀ t : Fin grid0.N, (cfg0.win 10).flush t = true → t.val = 31)

theorem final10 (h : Finite m c) : (dats m 0 c).arrAt 10 cfg0.N = outW (arg0 m c) (arg1 m c) (arg2 m c) (arg3 m c) (arg4 m c) (arg5 m c) := by
  refine (dats m 0 c).arrAt_eq_of_covers 10 _ (by decide +kernel) fun t hf y => ?_
  blk_simp
  rw [after0_10]
  obtain ⟨n, l, rfl⟩ : ∃ (n : Fin 8) (l : Fin 5632), y = ix2 n l := ⟨y 0, y 1, funext fun a => match a with | 0 => rfl | 1 => rfl⟩
  have ht : t.val = 31 := last10 t hf
  have e0 : ((win0_10.blk t).view.emb (ix2 n l) 0 : ℕ) = n := by
    blk_simp
    rw [show win0_10.index t 0 = 0 from congrFun (idx10 t) 0]; omega
  have e1 : ((win0_10.blk t).view.emb (ix2 n l) 1 : ℕ) = l := by
    blk_simp
    rw [show win0_10.index t 1 = 0 from congrFun (idx10 t) 1]; omega
  refine (upto10 h t.val t.isLt n l).trans ?_
  show _ = ((if ((win0_10.blk t).view.emb (ix2 n l) 0 : ℕ) < 3 then ∑ r ∈ Finset.range 8192, tapA m c ((win0_10.blk t).view.emb (ix2 n l) 0 : ℕ) ((win0_10.blk t).view.emb (ix2 n l) 1 : ℕ) r else 0 : ℝ) : EReal)
  rw [e0, e1]
  simp only [ht, Nat.reduceAdd, tail_all]

theorem last11 : ∀ t : Fin cfg0.N, (cfg0.win 11).flush t = true → t.val = 31 :=
  (by decide +kernel : ∀ t : Fin grid0.N, (cfg0.win 11).flush t = true → t.val = 31)

theorem final11 (h : Finite m c) : (dats m 0 c).arrAt 11 cfg0.N = outG (arg0 m c) (arg1 m c) (arg2 m c) (arg3 m c) (arg4 m c) (arg5 m c) := by
  refine (dats m 0 c).arrAt_eq_of_covers 11 _ (by decide +kernel) fun t hf y => ?_
  blk_simp
  rw [after0_11]
  obtain ⟨n, l, rfl⟩ : ∃ (n : Fin 8) (l : Fin 1024), y = ix2 n l := ⟨y 0, y 1, funext fun a => match a with | 0 => rfl | 1 => rfl⟩
  have ht : t.val = 31 := last11 t hf
  have e0 : ((win0_11.blk t).view.emb (ix2 n l) 0 : ℕ) = n := by
    blk_simp
    rw [show win0_11.index t 0 = 0 from congrFun (idx11 t) 0]; omega
  have e1 : ((win0_11.blk t).view.emb (ix2 n l) 1 : ℕ) = l := by
    blk_simp
    rw [show win0_11.index t 1 = 0 from congrFun (idx11 t) 1]; omega
  refine (upto11 h t.val t.isLt n l).trans ?_
  show _ = ((firstRow (fun l => ∑ r ∈ Finset.range 8192, scaleA m c l r) ((win0_11.blk t).view.emb (ix2 n l) 0 : ℕ) ((win0_11.blk t).view.emb (ix2 n l) 1 : ℕ) : ℝ) : EReal)
  rw [e0, e1]
  simp only [ht, Nat.reduceAdd, tail_all]

end Cert.FfnBwdProof

end
-- ==== Proof.FfnBwd.Claim.lean ====
/- The feed-forward layer's gradients: the kernel and the reference end with equal results. -/
module

public import proofs.«01_k».proof.Proof.FfnBwd.Blocks
public import proofs.«01_k».proof.Proof.Gen.FfnBwdIdeal.Value
public import proofs.«01_k».proof.Proof.Gen.FfnBwdRefIdeal.Run
public import proofs.«01_k».proof.Proof.Gen.Pre_finite_ffnb
public import proofs.«01_k».proof.Defs

@[expose] public section

set_option maxRecDepth 16384

noncomputable section

namespace Cert.FfnBwdProof

open Idealize.ShloMosaic Idealize.ShloMosaic.TcCoe Idealize.SL.Sem
open Cert.Reals (AllReal allReal_of_finite)

/-- The precondition makes the six arguments arrays of reals. -/
theorem args_real (m : (ℓ : Loc Cert.FfnBwdIdeal.nD Cert.FfnBwdIdeal.τ Cert.FfnBwdIdeal.sig) → Buf (Elt Ideal) ℓ)
    (h : Cert.Pre_FfnBwdIdeal_finite_ffnb m) (c : Dev Cert.FfnBwdIdeal.nD) : Finite m c := by
  have q := h c
  exact ⟨allReal_of_finite _ _ q.1 fun i => rfl, allReal_of_finite _ _ q.2.1 fun i => rfl, allReal_of_finite _ _ q.2.2.1 fun i => rfl,
    allReal_of_finite _ _ q.2.2.2.1 fun i => rfl, allReal_of_finite _ _ q.2.2.2.2.1 fun i => rfl, allReal_of_finite _ _ q.2.2.2.2.2 fun i => rfl⟩

/-- The reference runs, keeps its arguments and ends with every counter at zero: it has no semaphore. -/
theorem frame_ref : Cert.quiescent_FfnBwdRefIdeal := fun m g _ =>
  (θ_run Cert.FfnBwdRefIdeal.defs _ _).mono
    (fun r h => ⟨fun c => (h c).2.2.2.2, sem_eq_zero_of_no_sems (by decide) r.2⟩)
    (Cert.FfnBwdRefIdeal.Value.run (F := Ideal) m g)

/-- The value claim. -/
theorem algebraic : Cert.algebraic_FfnBwdIdeal_FfnBwdRefIdeal_pre_finite_ffnb := by
  intro m g m' g' hpre hargs
  refine ⟨fun c => outX (arg0 m c) (arg1 m c) (arg2 m c) (arg3 m c) (arg4 m c) (arg5 m c), fun c => outU (arg0 m c) (arg1 m c) (arg2 m c) (arg3 m c) (arg4 m c) (arg5 m c),
    fun c => outW (arg0 m c) (arg1 m c) (arg2 m c) (arg3 m c) (arg4 m c) (arg5 m c), fun c => outG (arg0 m c) (arg1 m c) (arg2 m c) (arg3 m c) (arg4 m c) (arg5 m c), ?_, ?_⟩
  · refine (θ_run Cert.FfnBwdIdeal.defs _ _).mono (fun r h c => ?_) (Cert.FfnBwdIdeal.Value.run_blocks (F := Ideal) m g)
    have q := args_real m hpre c
    exact ⟨(h c).1.trans (final8 q), (h c).2.1.trans (final9 q), (h c).2.2.1.trans (final10 q), (h c).2.2.2.1.trans (final11 q), (h c).2.2.2.2⟩
  · refine (θ_run Cert.FfnBwdRefIdeal.defs _ _).mono (fun r h c => ?_) (Cert.FfnBwdRefIdeal.Value.run (F := Ideal) m' g')
    obtain ⟨h0, h1, h2, h3, h4, h5⟩ := args_real m hpre c
    obtain ⟨e0, e1, e2, e3, e4, e5⟩ := hargs c
    have e0 : StableHlo.launchContents m' c (Proc.tc.devRef Cert.FfnBwdRefIdeal.main_arg0) = arg0 m c := e0
    have e1 : StableHlo.launchContents m' c (Proc.tc.devRef Cert.FfnBwdRefIdeal.main_arg1) = arg1 m c := e1
    have e2 : StableHlo.launchContents m' c (Proc.tc.devRef Cert.FfnBwdRefIdeal.main_arg2) = arg2 m c := e2
    have e3 : StableHlo.launchContents m' c (Proc.tc.devRef Cert.FfnBwdRefIdeal.main_arg3) = arg3 m c := e3
    have e4 : StableHlo.launchContents m' c (Proc.tc.devRef Cert.FfnBwdRefIdeal.main_arg4) = arg4 m c := e4
    have e5 : StableHlo.launchContents m' c (Proc.tc.devRef Cert.FfnBwdRefIdeal.main_arg5) = arg5 m c := e5
    refine ⟨(h c).1.trans ?_, (h c).2.1.trans ?_, (h c).2.2.1.trans ?_, (h c).2.2.2.1.trans ?_, (h c).2.2.2.2⟩
    · rw [Cert.FfnBwdRefIdeal.Read.val_main_v107_eq, e0, e1, e2, e3, e4, e5]
      exact ref_outX h0 h1 h2 h3 h4 h5
    · rw [Cert.FfnBwdRefIdeal.Read.val_main_v109_eq, e0, e1, e2, e3, e4, e5]
      exact ref_outU h0 h1 h2 h3 h4 h5
    · rw [Cert.FfnBwdRefIdeal.Read.val_main_v110_eq, e0, e1, e2, e3, e4, e5]
      exact ref_outW h0 h1 h2 h3 h4 h5
    · rw [Cert.FfnBwdRefIdeal.Read.val_main_v111_eq, e0, e1, e2, e3, e4, e5]
      exact ref_outG h0 h1 h2 h3 h4 h5

end Cert.FfnBwdProof

end
-- ==== Proof.FfnFwd.Point.lean ====
/- What a grid point of the feed-forward block's forward pass computes, at the reals: the filtered up projection, the gate,
   the last norm, the loss and the gradients of the last norm. -/
module

public import proofs.«01_k».proof.Proof.Taps
public import proofs.«01_k».proof.Proof.Gen.FfnFwdIdeal.Frame

@[expose] public section

set_option maxRecDepth 16384

noncomputable section

namespace Cert.FfnFwdProof

open Cert.FfnFwdIdeal Cert.FfnFwdIdeal.Gen Idealize.ShloMosaic Idealize.ShloMosaic.TcCoe Idealize.SL.Sem
open Cert.Tables

/-! ## Rows of the tile before -/

/-- The rows `k` back, the rows before the first being the last of the eight rows `h`. -/
def bk (k : ℕ) (d h : ℕ → ℕ → ℝ) (i j : ℕ) : ℝ := if k ≤ i then d (i - k) j else h (8 + i - k) j

section Back
variable {M N G : ℕ} {φ : FTy} {d h : ℕ → ℕ → ℝ} {D : FVec Ideal (S2 M N) φ} {H H' : FVec Ideal (S2 1 N) φ}

/-- The rows one back: turned on by one, the first row replaced. -/
theorem back1 (hD : IsMat d D) (hH : IsMat (fun _ j => h 7 j) H) (hG : 8 + G = M) (hM : M ≤ 1024) (hr : (S2 M N).Rotates 0 none)
    (h1 : (S2 M N).Slices ![0, 0] (S2 8 N)) (h2 : (S2 M N).Slices ![8, 0] (S2 G N))
    (hi : (S2 8 1).Iotas .tc 32 [0]) (hc : (S2 8 1).ShapeCasts (S2 8 1)) (hb : (S2 8 1).Broadcasts (S2 8 N)) (hc' : (S2 1 N).ShapeCasts (S2 1 N))
    (hb' : (S2 1 N).Broadcasts (S2 8 N)) (hcc : Shape.Concatenates [(S2 8 N), (S2 G N)] (S2 M N) 0) :
    IsMat (bk 1 d h) (concatenate (S2 M N) 0 [⟨S2 8 N, select (broadcastTo (S2 8 N) (shapeCast (S2 8 1) (cmpi .eq (iota .tc (S2 8 1) 32 [0] hi) (broadcast (S2 8 1) 0#32)) hc) hb)
        (broadcastTo (S2 8 N) (shapeCast (S2 1 N) H hc') hb') (extractStridedSlice (S2 8 N) ![0, 0] (dynamicRotate 0 1#32 none D hr) h1)⟩,
      ⟨S2 G N, extractStridedSlice (S2 G N) ![8, 0] (dynamicRotate 0 1#32 none D hr) h2⟩] hcc) := by
  have hs : (1#32 : BitVec 32).toNat = 1 := rfl
  have t := hD.turn (s := 1#32) (k := M - 1) hr (by omega) (by omega)
  refine ((((hH.cast hc').rows hb').selRow (n := 0) (t.slice h1) (by omega) hi hc hb).below (t.slice h2) hG hcc).congr fun i j hi hj => ?_
  unfold bk
  have e : ∀ n, 1 ≤ n → n < M → (n + (M - 1)) % M = n - 1 := fun n hn hn' => by
    rw [show n + (M - 1) = (n - 1) + M by omega, Nat.add_mod_right, Nat.mod_eq_of_lt (by omega)]
  by_cases q : i = 0
  · rw [if_pos (by omega), if_pos q, if_neg (by omega), show 8 + i - 1 = 7 by omega]
  · rw [if_pos (show 1 ≤ i by omega)]
    by_cases r : i < 8
    · rw [if_pos r, if_neg q, Nat.zero_add, Nat.zero_add, e i (by omega) hi]
    · rw [if_neg r, Nat.zero_add, show 8 + (i - 8) = i by omega, e i (by omega) hi]

/-- The rows two back: turned on by two, the first two rows replaced. -/
theorem back2 (hD : IsMat d D) (hH : IsMat (fun _ j => h 6 j) H) (hH' : IsMat (fun _ j => h 7 j) H') (hG : 8 + G = M) (hM : M ≤ 1024) (hr : (S2 M N).Rotates 0 none)
    (h1 : (S2 M N).Slices ![0, 0] (S2 8 N)) (h2 : (S2 M N).Slices ![8, 0] (S2 G N))
    (hi : (S2 8 1).Iotas .tc 32 [0]) (hc : (S2 8 1).ShapeCasts (S2 8 1)) (hb : (S2 8 1).Broadcasts (S2 8 N)) (hc' : (S2 1 N).ShapeCasts (S2 1 N))
    (hb' : (S2 1 N).Broadcasts (S2 8 N)) (hcc : Shape.Concatenates [(S2 8 N), (S2 G N)] (S2 M N) 0) :
    IsMat (bk 2 d h) (concatenate (S2 M N) 0 [⟨S2 8 N, select (broadcastTo (S2 8 N) (shapeCast (S2 8 1) (cmpi .eq (iota .tc (S2 8 1) 32 [0] hi) (broadcast (S2 8 1) 0#32)) hc) hb)
        (broadcastTo (S2 8 N) (shapeCast (S2 1 N) H hc') hb')
        (select (broadcastTo (S2 8 N) (shapeCast (S2 8 1) (cmpi .eq (iota .tc (S2 8 1) 32 [0] hi) (broadcast (S2 8 1) 1#32)) hc) hb)
          (broadcastTo (S2 8 N) (shapeCast (S2 1 N) H' hc') hb') (extractStridedSlice (S2 8 N) ![0, 0] (dynamicRotate 0 2#32 none D hr) h1))⟩,
      ⟨S2 G N, extractStridedSlice (S2 G N) ![8, 0] (dynamicRotate 0 2#32 none D hr) h2⟩] hcc) := by
  have hs : (2#32 : BitVec 32).toNat = 2 := rfl
  have t := hD.turn (s := 2#32) (k := M - 2) hr (by omega) (by omega)
  refine ((((hH.cast hc').rows hb').selRow (n := 0) (((hH'.cast hc').rows hb').selRow (n := 1) (t.slice h1) (by omega) hi hc hb) (by omega) hi hc hb).below (t.slice h2)
    hG hcc).congr fun i j hi hj => ?_
  unfold bk
  have e : ∀ n, 2 ≤ n → n < M → (n + (M - 2)) % M = n - 2 := fun n hn hn' => by
    rw [show n + (M - 2) = (n - 2) + M by omega, Nat.add_mod_right, Nat.mod_eq_of_lt (by omega)]
  by_cases q : i = 0
  · rw [if_pos (by omega), if_pos q, if_neg (by omega), show 8 + i - 2 = 6 by omega]
  · by_cases q' : i = 1
    · rw [if_pos (by omega), if_neg q, if_pos q', if_neg (by omega), show 8 + i - 2 = 7 by omega]
    · rw [if_pos (show 2 ≤ i by omega)]
      by_cases r : i < 8
      · rw [if_pos r, if_neg q, if_neg q', Nat.zero_add, Nat.zero_add, e i (by omega) hi]
      · rw [if_neg r, Nat.zero_add, show 8 + (i - 8) = i by omega, e i (by omega) hi]

end Back

/-- A number everywhere. -/
theorem spread1 {M N : ℕ} {φ : FTy} {x : ℕ → ℕ → ℝ} {X : FVec Ideal (S2 1 1) φ} (hX : IsMat x X) (h : (S2 1 1).Broadcasts (S2 M N)) :
    IsMat (fun _ _ => x 0 0) (broadcastTo (S2 M N) X h) := fun i j =>
  (broadcastTo_apply X h _ (ix2 0 0) fun a => match a with
    | ⟨0, _⟩ => rfl
    | ⟨1, _⟩ => rfl).trans (hX 0 0)

/-! ## A tile's rows -/

/-- The normed rows with the gain. -/
def nh (x g : ℕ → ℕ → ℝ) (i l : ℕ) : ℝ := x i l * inv x i * g 0 l

/-- The up projection. -/
def pj (x g wu : ℕ → ℕ → ℝ) (i j : ℕ) : ℝ := ∑ l ∈ Finset.range 1024, nh x g i l * wu j l

/-- The filtered up projection. -/
def filt (d h w : ℕ → ℕ → ℝ) (i j : ℕ) : ℝ := d i j * w 2 j + bk 2 d h i j * w 0 j + bk 1 d h i j * w 1 j

/-- The gated values. -/
def gate (u : ℕ → ℕ → ℝ) (i j : ℕ) : ℝ := u i j * sg (u i j) * u i (2816 + j)

/-- The layer's result, with its argument added. -/
def outr (x a wd : ℕ → ℕ → ℝ) (i l : ℕ) : ℝ := x i l + ∑ k ∈ Finset.range 2816, a i k * wd k l

/-- The difference of the last norm from the target. -/
def err (y gf tg : ℕ → ℕ → ℝ) (i l : ℕ) : ℝ := y i l * inv y i * gf 0 l - tg i l

/-- What a row adds to the loss. -/
def lossRow (e : ℕ → ℕ → ℝ) (i : ℕ) : ℝ := (∑ l ∈ Finset.range 1024, e i l * e i l) * (1 / 1024)

variable {x g wu w wd gf tg hd : ℕ → ℕ → ℝ}

section Pay
variable {b0 b6 : FVec Ideal S256x1024 .f32} {b1 b5 : FVec Ideal S1x1024 .f32} {b2 : FVec Ideal S5632x1024 .bf16} {b3 : FVec Ideal S8x5632 .f32}
  {b4 : FVec Ideal S2816x1024 .bf16} {p6 p7 q6 q7 : FVec Ideal S1x2816 .f32}

theorem pay6_mat (h0 : IsMat x b0) : IsMat x (k0_pay6 (F := Ideal) b0) := h0.cast shapeCasts_S256x1024_S256x1024

theorem pay7_mat (h0 : IsMat x b0) (h1 : IsMat (fun _ l => g 0 l) b1) : IsMat (nh x g) (k0_pay7 (F := Ideal) b0 b1) := by
  have p := ((((pay6_mat h0).mul (pay6_mat h0)).rowSum reduces_S256x1024_S256 shapeCasts_S256_S256x1).divc
    (c := Ideal.ofBits .f32 0x44800000#32) (k := 1024) width_f32 (by norm_num)).add (isMat_broadcast eps_spec.1)
  exact (((pay6_mat h0).mul ((p.rsqrt fun i j _ _ => meansq_pos x i).cols broadcasts_S256x1_S256x1024)).mul (h1.rows broadcasts_S1x1024_S256x1024)).trunc bitsLt_bf16_f32

abbrev lo (b2 : FVec Ideal S5632x1024 .bf16) : FVec Ideal S2816x1024 .bf16 :=
  View.ld (Val := Elt Ideal) (e' := .bf16) b2 (Rect.unit (s := S5632x1024) ![0, 0] ![2816, 1024] inb_S5632x1024_S2816x1024_0_0)
abbrev hi (b2 : FVec Ideal S5632x1024 .bf16) : FVec Ideal S2816x1024 .bf16 :=
  View.ld (Val := Elt Ideal) (e' := .bf16) b2 (Rect.unit (s := S5632x1024) ![2816, 0] ![2816, 1024] inb_S5632x1024_S2816x1024_2816_0)
abbrev tap (b3 : FVec Ideal S8x5632 .f32) (k p : ℕ) (inb : ∀ a, (![k, p] : Fin 2 → ℕ) a + (![1, 2816] : Fin 2 → ℕ) a ≤ S8x5632.size a) : FVec Ideal S1x2816 .f32 :=
  View.ld (Val := Elt Ideal) (e' := .f32) b3 (Rect.unit (s := S8x5632) ![k, p] ![1, 2816] inb)

abbrev pjA (b0 : FVec Ideal S256x1024 .f32) (b1 : FVec Ideal S1x1024 .f32) (b2 : FVec Ideal S5632x1024 .bf16) : FVec Ideal S256x2816 .f32 := k0_pay9 (k0_pay7 b0 b1) (k0_pay8 (lo b2))
abbrev pjB (b0 : FVec Ideal S256x1024 .f32) (b1 : FVec Ideal S1x1024 .f32) (b2 : FVec Ideal S5632x1024 .bf16) : FVec Ideal S256x2816 .f32 := k0_pay17 (k0_pay7 b0 b1) (hi b2)
abbrev upA (b0 : FVec Ideal S256x1024 .f32) (b1 : FVec Ideal S1x1024 .f32) (b2 : FVec Ideal S5632x1024 .bf16) (b3 : FVec Ideal S8x5632 .f32) (p6 p7 : FVec Ideal S1x2816 .f32) : FVec Ideal S256x2816 .f32 :=
  k0_pay15 (pjA b0 b1 b2) (k0_pay11 (k0_pay7 b0 b1) (k0_pay8 (lo b2)) p7) (k0_pay12 (k0_pay7 b0 b1) (k0_pay8 (lo b2)) p6 p7)
    (k0_pay14 (tap b3 2 0 inb_S8x5632_S1x2816_2_0)) (tap b3 0 0 inb_S8x5632_S1x2816_0_0) (tap b3 1 0 inb_S8x5632_S1x2816_1_0)
abbrev upB (b0 : FVec Ideal S256x1024 .f32) (b1 : FVec Ideal S1x1024 .f32) (b2 : FVec Ideal S5632x1024 .bf16) (b3 : FVec Ideal S8x5632 .f32) (q6 q7 : FVec Ideal S1x2816 .f32) : FVec Ideal S256x2816 .f32 :=
  k0_pay25 (pjB b0 b1 b2) q6 q7 (k0_pay19 (k0_pay7 b0 b1) (hi b2)) (k0_pay20 (k0_pay7 b0 b1) (hi b2) q7) k0_pay21 k0_pay22 (k0_pay23 (k0_pay7 b0 b1) (hi b2))
    (tap b3 2 2816 inb_S8x5632_S1x2816_2_2816) (tap b3 0 2816 inb_S8x5632_S1x2816_0_2816) (tap b3 1 2816 inb_S8x5632_S1x2816_1_2816)
abbrev gateOf (b0 : FVec Ideal S256x1024 .f32) (b1 : FVec Ideal S1x1024 .f32) (b2 : FVec Ideal S5632x1024 .bf16) (b3 : FVec Ideal S8x5632 .f32) (p6 p7 q6 q7 : FVec Ideal S1x2816 .f32) : FVec Ideal S256x2816 .bf16 :=
  k0_pay27 (upA b0 b1 b2 b3 p6 p7) (pjB b0 b1 b2) q6 q7 (k0_pay19 (k0_pay7 b0 b1) (hi b2)) (k0_pay20 (k0_pay7 b0 b1) (hi b2) q7) k0_pay21 k0_pay22 (k0_pay23 (k0_pay7 b0 b1) (hi b2))
    (tap b3 2 2816 inb_S8x5632_S1x2816_2_2816) (tap b3 0 2816 inb_S8x5632_S1x2816_0_2816) (tap b3 1 2816 inb_S8x5632_S1x2816_1_2816)

theorem pjA_mat (h0 : IsMat x b0) (h1 : IsMat (fun _ l => g 0 l) b1) (h2 : IsMat wu b2) : IsMat (fun i j => pj x g wu i j) (pjA b0 b1 b2) :=
  ((pay7_mat h0 h1).dotT ((h2.ld16 (A := 2816) (B := 1024) inb_S5632x1024_S2816x1024_0_0).cast shapeCasts_S2816x1024_S2816x1024)).congr fun i j _ _ => by
    unfold pj; simp only [Nat.zero_add]

theorem pjB_mat (h0 : IsMat x b0) (h1 : IsMat (fun _ l => g 0 l) b1) (h2 : IsMat wu b2) : IsMat (fun i j => pj x g wu i (2816 + j)) (pjB b0 b1 b2) :=
  ((pay7_mat h0 h1).dotT ((h2.ld16 (A := 2816) (B := 1024) inb_S5632x1024_S2816x1024_2816_0).cast shapeCasts_S2816x1024_S2816x1024)).congr fun i j _ _ => by
    unfold pj; simp only [Nat.zero_add]

/-- The last two rows of the tile before. -/
structure Tails (hd : ℕ → ℕ → ℝ) (p6 p7 q6 q7 : FVec Ideal S1x2816 .f32) : Prop where
  p6 : IsMat (fun _ j => hd 6 j) p6
  p7 : IsMat (fun _ j => hd 7 j) p7
  q6 : IsMat (fun _ j => hd 6 (2816 + j)) q6
  q7 : IsMat (fun _ j => hd 7 (2816 + j)) q7

theorem upA_mat (h0 : IsMat x b0) (h1 : IsMat (fun _ l => g 0 l) b1) (h2 : IsMat wu b2) (h3 : IsMat w b3) (T : Tails hd p6 p7 q6 q7) :
    IsMat (fun i j => filt (pj x g wu) hd w i j) (upA b0 b1 b2 b3 p6 p7) := by
  have D := pjA_mat h0 h1 h2
  have l := fun (k : ℕ) inb => ((h3.ld (A := 1) (B := 2816) (o := k) (p := 0) inb).cast shapeCasts_S1x2816_S1x2816).rows broadcasts_S1x2816_S256x2816
  have r1 := back1 (h := hd) D T.p7 (G := 248) rfl (by norm_num) rotates_S256x2816_d0 slices_S256x2816_o0_0_S8x2816 slices_S256x2816_o8_0_S248x2816
    iota_S8x1_d0_w32 shapeCasts_S8x1_S8x1 broadcasts_S8x1_S8x2816 shapeCasts_S1x2816_S1x2816 broadcasts_S1x2816_S8x2816 concatenates_S8x2816_S248x2816_S256x2816_d0
  have r2 := back2 (h := hd) D T.p6 T.p7 (G := 248) rfl (by norm_num) rotates_S256x2816_d0 slices_S256x2816_o0_0_S8x2816 slices_S256x2816_o8_0_S248x2816
    iota_S8x1_d0_w32 shapeCasts_S8x1_S8x1 broadcasts_S8x1_S8x2816 shapeCasts_S1x2816_S1x2816 broadcasts_S1x2816_S8x2816 concatenates_S8x2816_S248x2816_S256x2816_d0
  have q := ((D.mul (l 2 inb_S8x5632_S1x2816_2_0)).add (r2.mul (l 0 inb_S8x5632_S1x2816_0_0))).add (r1.mul (l 1 inb_S8x5632_S1x2816_1_0))
  have q' : IsMat _ (upA b0 b1 b2 b3 p6 p7) := q
  exact q'.congr fun i j _ _ => by simp only [filt, Nat.add_zero, Nat.zero_add]

theorem upB_mat (h0 : IsMat x b0) (h1 : IsMat (fun _ l => g 0 l) b1) (h2 : IsMat wu b2) (h3 : IsMat w b3) (T : Tails hd p6 p7 q6 q7) :
    IsMat (fun i j => filt (pj x g wu) hd w i (2816 + j)) (upB b0 b1 b2 b3 q6 q7) := by
  have D := pjB_mat h0 h1 h2
  have l := fun (k : ℕ) inb => ((h3.ld (A := 1) (B := 2816) (o := k) (p := 2816) inb).cast shapeCasts_S1x2816_S1x2816).rows broadcasts_S1x2816_S256x2816
  have r1 := back1 (h := fun i j => hd i (2816 + j)) D T.q7 (G := 248) rfl (by norm_num) rotates_S256x2816_d0 slices_S256x2816_o0_0_S8x2816 slices_S256x2816_o8_0_S248x2816
    iota_S8x1_d0_w32 shapeCasts_S8x1_S8x1 broadcasts_S8x1_S8x2816 shapeCasts_S1x2816_S1x2816 broadcasts_S1x2816_S8x2816 concatenates_S8x2816_S248x2816_S256x2816_d0
  have r2 := back2 (h := fun i j => hd i (2816 + j)) D T.q6 T.q7 (G := 248) rfl (by norm_num) rotates_S256x2816_d0 slices_S256x2816_o0_0_S8x2816 slices_S256x2816_o8_0_S248x2816
    iota_S8x1_d0_w32 shapeCasts_S8x1_S8x1 broadcasts_S8x1_S8x2816 shapeCasts_S1x2816_S1x2816 broadcasts_S1x2816_S8x2816 concatenates_S8x2816_S248x2816_S256x2816_d0
  have q := ((D.mul (l 2 inb_S8x5632_S1x2816_2_2816)).add (r2.mul (l 0 inb_S8x5632_S1x2816_0_2816))).add (r1.mul (l 1 inb_S8x5632_S1x2816_1_2816))
  have q' : IsMat _ (upB b0 b1 b2 b3 q6 q7) := q
  exact q'.congr fun i j _ _ => by simp only [filt, bk, Nat.add_zero]

theorem gate_mat (h0 : IsMat x b0) (h1 : IsMat (fun _ l => g 0 l) b1) (h2 : IsMat wu b2) (h3 : IsMat w b3) (T : Tails hd p6 p7 q6 q7) :
    IsMat (gate (filt (pj x g wu) hd w)) (gateOf b0 b1 b2 b3 p6 p7 q6 q7) :=
  (((upA_mat h0 h1 h2 h3 T).mul (upA_mat h0 h1 h2 h3 T).logistic).mul (upB_mat h0 h1 h2 h3 T)).trunc bitsLt_bf16_f32

/-! ### The layer's result, the last norm and the loss -/

section Last
variable {a y : ℕ → ℕ → ℝ} {A : FVec Ideal S256x2816 .bf16}

theorem pay28_mat (h0 : IsMat x b0) (hA : IsMat a A) (h4 : IsMat wd b4) : IsMat (outr x a wd) (k0_pay28 (F := Ideal) (k0_pay6 b0) A b4) :=
  (pay6_mat h0).add (hA.dot (h4.cast shapeCasts_S2816x1024_S2816x1024))

theorem pay29_mat (h0 : IsMat x b0) (hA : IsMat a A) (h4 : IsMat wd b4) : IsMat (fun i _ => inv (outr x a wd) i) (k0_pay29 (F := Ideal) (k0_pay6 b0) A b4) := by
  have Y := pay28_mat h0 hA h4
  have p := (((Y.mul Y).rowSum reduces_S256x1024_S256 shapeCasts_S256_S256x1).divc
    (c := Ideal.ofBits .f32 0x44800000#32) (k := 1024) width_f32 (by norm_num)).add (isMat_broadcast eps_spec.1)
  exact p.rsqrt fun i j _ _ => meansq_pos (outr x a wd) i

theorem pay30_mat (h0 : IsMat x b0) (hA : IsMat a A) (h4 : IsMat wd b4) :
    IsMat (fun i l => outr x a wd i l * inv (outr x a wd) i) (k0_pay30 (F := Ideal) (k0_pay6 b0) A b4) :=
  (pay28_mat h0 hA h4).mul ((pay29_mat h0 hA h4).cols broadcasts_S256x1_S256x1024)

theorem pay31_mat (h0 : IsMat x b0) (hA : IsMat a A) (h4 : IsMat wd b4) (h5 : IsMat (fun _ l => gf 0 l) b5) (h6 : IsMat tg b6) :
    IsMat (err (outr x a wd) gf tg) (k0_pay31 (F := Ideal) (k0_pay6 b0) A b4 b5 b6) :=
  ((pay30_mat h0 hA h4).mul ((h5.cast shapeCasts_S1x1024_S1x1024).rows broadcasts_S1x1024_S256x1024)).sub (h6.cast shapeCasts_S256x1024_S256x1024)

/-- The loss so far, with the tile's part added. -/
theorem pay32_mat (h0 : IsMat x b0) (hA : IsMat a A) (h4 : IsMat wd b4) (h5 : IsMat (fun _ l => gf 0 l) b5) (h6 : IsMat tg b6) {s : ℝ} {v : FVec Ideal S8x128 .f32} (hv : IsMat (fun _ _ => s) v) :
    IsMat (fun _ _ => s + 1 / 2 * ∑ i ∈ Finset.range 256, lossRow (err (outr x a wd) gf tg) i) (k0_pay32 (F := Ideal) (k0_pay6 b0) A b4 b5 b6 v) := by
  have E := pay31_mat h0 hA h4 h5 h6
  have r := ((E.mul E).rowSum reduces_S256x1024_S256 shapeCasts_S256_S256x1).divc (c := Ideal.ofBits .f32 0x44800000#32) (k := 1024) width_f32 (by norm_num)
  have half := isMat_broadcast (M := 1) (N := 1) (φ := .f32) half_f32
  exact (hv.cast shapeCasts_S8x128_S8x128).add (spread1 (half.mul (r.colSum reduces_S256x1_S1 shapeCasts_S1_S1x1)) broadcasts_S1x1_S8x128)

theorem pay33_mat (h0 : IsMat x b0) (hA : IsMat a A) (h4 : IsMat wd b4) (h5 : IsMat (fun _ l => gf 0 l) b5) (h6 : IsMat tg b6) :
    IsMat (fun i l => err (outr x a wd) gf tg i l * (1 / 1024)) (k0_pay33 (F := Ideal) (k0_pay6 b0) A b4 b5 b6) :=
  (pay31_mat h0 hA h4 h5 h6).divc (c := Ideal.ofBits .f32 0x44800000#32) (k := 1024) width_f32 (by norm_num)

/-- The gradient of the last norm's gain, added to what was there. -/
theorem pay1_mat {X D : FVec Ideal S256x1024 .f32} {v : FVec Ideal S1x1024 .f32} {p q : ℕ → ℕ → ℝ} {r : ℕ → ℝ} (hX : IsMat q X) (hD : IsMat p D) (hv : IsMat (fun _ j => r j) v) :
    IsMat (fun _ j => r j + ∑ i ∈ Finset.range 256, p i j * q i j) (k0_pay1 (F := Ideal) X D v) :=
  (hv.cast shapeCasts_S1x1024_S1x1024).add ((hD.mul hX).colSum reduces_S256x1024_S1024 shapeCasts_S1024_S1x1024)

/-- The gradient of the layer's result. -/
theorem pay2_mat {R : FVec Ideal S256x1 .f32} {X D : FVec Ideal S256x1024 .f32} {p : ℕ → ℕ → ℝ} (hR : IsMat (fun i _ => inv y i) R) (hX : IsMat (fun i l => y i l * inv y i) X)
    (hD : IsMat p D) (h5 : IsMat (fun _ l => gf 0 l) b5) : IsMat (normGrad y fun i l => p i l * gf 0 l) (k0_pay2 (F := Ideal) R X D b5) := by
  have q := hD.mul ((h5.cast shapeCasts_S1x1024_S1x1024).rows broadcasts_S1x1024_S256x1024)
  have s := ((q.mul hX).rowSum reduces_S256x1024_S256 shapeCasts_S256_S256x1).divc (c := Ideal.ofBits .f32 0x44800000#32) (k := 1024) width_f32 (by norm_num)
  exact (hR.cols broadcasts_S256x1_S256x1024).mul (q.sub (hX.mul (s.cols broadcasts_S256x1_S256x1024)))

end Last

end Pay

end Cert.FfnFwdProof

end
-- ==== Proof.FfnFwd.Tile.lean ====
/- The blocks that a grid point of the feed-forward block's forward pass leaves, in its three cases: the first grid point,
   the first of a sequence, and any other. -/
module

public import proofs.«01_k».proof.Proof.FfnFwd.Point
public import Idealize.ShloMosaic.Lib.Pipeline.ReadBack

@[expose] public section

set_option maxRecDepth 16384

noncomputable section

namespace Cert.FfnFwdProof

open Cert.FfnFwdIdeal Cert.FfnFwdIdeal.Gen Idealize.ShloMosaic Idealize.ShloMosaic.TcCoe Idealize.SL.Sem
open Cert.Tables

variable {m : (ℓ : Loc nD τ sig) → Buf (Elt Ideal) ℓ} {c : Dev nD}

/-- The operands' blocks at a grid point: the rows `x`, the gain `g`, the up projection's weight `wu`, the taps `w`, the down
    projection's weight `wd`, the last norm's gain `gf` and the target `tg`. -/
structure Tile (m : (ℓ : Loc nD τ sig) → Buf (Elt Ideal) ℓ) (c : Dev nD) (t : Fin cfg0.N) (x g wu w wd gf tg : ℕ → ℕ → ℝ) : Prop where
  h0 : IsMat (a := 256) (b := 1024) (φ := .f32) x (iblk m c 0 t)
  h1 : IsMat (a := 1) (b := 1024) (φ := .f32) (fun _ l => g 0 l) (iblk m c 1 t)
  h2 : IsMat (a := 5632) (b := 1024) (φ := .bf16) wu (iblk m c 2 t)
  h3 : IsMat (a := 8) (b := 5632) (φ := .f32) w (iblk m c 3 t)
  h4 : IsMat (a := 2816) (b := 1024) (φ := .bf16) wd (iblk m c 4 t)
  h5 : IsMat (a := 1) (b := 1024) (φ := .f32) (fun _ l => gf 0 l) (iblk m c 5 t)
  h6 : IsMat (a := 256) (b := 1024) (φ := .f32) tg (iblk m c 6 t)

variable {t : Fin cfg0.N} {x g wu w wd gf tg hd : ℕ → ℕ → ℝ}

/-- What the grid point before left. -/
abbrev before (m : (ℓ : Loc nD τ sig) → Buf (Elt Ideal) ℓ) (c : Dev nD) (t : Fin cfg0.N) := outsAt0 m c (t.val - 1) (Nat.lt_of_le_of_lt (Nat.sub_le t.val 1) t.isLt)

/-- The rows of the tile before, as the scratch holds them when the tile begins: none at a sequence's start. -/
def Held0 (m : (ℓ : Loc nD τ sig) → Buf (Elt Ideal) ℓ) (c : Dev nD) (t : Fin cfg0.N) (hd : ℕ → ℕ → ℝ) : Prop :=
  if t.val % 8 = 0 then hd = fun _ _ => 0 else IsMat (a := 8) (b := 5632) (φ := .f32) hd (before m c t).2.2.2.2.2.2.2

theorem zero_scratch : Held (M := 8) (N := 5632) (fun _ _ => 0) [⟨Rect.unit (s := S8x5632) ![0, 0] ![8, 5632] inb_S8x5632_S8x5632_0_0, k0_pay3 (F := Ideal)⟩] :=
  Held.whole (M := 8) (N := 5632) inb_S8x5632_S8x5632_0_0 ((isMat_broadcast zero_f32).cast shapeCasts_S8x5632_S8x5632)

/-- The last eight rows of a tile. -/
theorem pay24_mat {D : FVec Ideal S256x2816 .f32} {d : ℕ → ℕ → ℝ} (hD : IsMat d D) : IsMat (fun i j => d (248 + i) j) (k0_pay24 (F := Ideal) D) :=
  ((hD.slice slices_S256x2816_o248_0_S8x2816).cast shapeCasts_S8x2816_S8x2816).congr fun i j _ _ => by rw [Nat.zero_add]

/-- At a sequence's start the two rows before are zero. -/
theorem tails_zero {W : FVec Ideal S8x2816 .f32} {d : ℕ → ℕ → ℝ} (hW : IsMat d W) :
    Tails (fun _ _ => 0)
      ((View.whole cc0_scratch0).readCov (Val := Elt Ideal) [⟨Rect.unit (s := S8x5632) ![0, 0] ![8, 5632] inb_S8x5632_S8x5632_0_0, k0_pay3 (F := Ideal)⟩]
        (Rect.unit (s := S8x5632) ![6, 0] ![1, 2816] inb_S8x5632_S1x2816_6_0).toLoadRect)
      ((View.whole cc0_scratch0).readCov (Val := Elt Ideal) [⟨Rect.unit (s := S8x5632) ![0, 0] ![8, 5632] inb_S8x5632_S8x5632_0_0, k0_pay3 (F := Ideal)⟩]
        (Rect.unit (s := S8x5632) ![7, 0] ![1, 2816] inb_S8x5632_S1x2816_7_0).toLoadRect)
      ((View.whole cc0_scratch0).readCov (Val := Elt Ideal) [⟨Rect.unit (s := S8x5632) ![0, 0] ![8, 2816] inb_S8x5632_S8x2816_0_0, W⟩,
        ⟨Rect.unit (s := S8x5632) ![0, 0] ![8, 5632] inb_S8x5632_S8x5632_0_0, k0_pay3 (F := Ideal)⟩]
        (Rect.unit (s := S8x5632) ![6, 2816] ![1, 2816] inb_S8x5632_S1x2816_6_2816).toLoadRect)
      ((View.whole cc0_scratch0).readCov (Val := Elt Ideal) [⟨Rect.unit (s := S8x5632) ![0, 0] ![8, 2816] inb_S8x5632_S8x2816_0_0, W⟩,
        ⟨Rect.unit (s := S8x5632) ![0, 0] ![8, 5632] inb_S8x5632_S8x5632_0_0, k0_pay3 (F := Ideal)⟩]
        (Rect.unit (s := S8x5632) ![7, 2816] ![1, 2816] inb_S8x5632_S1x2816_7_2816).toLoadRect) := by
  have hL := zero_scratch.patch (o := 0) (p := 0) (A := 8) (B := 2816) inb_S8x5632_S8x2816_0_0 hW
  have e : ∀ k i j : ℕ, patch 0 0 8 2816 d (fun _ _ => 0) (k + i) (2816 + j) = 0 := fun k i j => if_neg (by omega)
  exact ⟨zero_scratch.read (A := 1) (B := 2816) _ inb_S8x5632_S1x2816_6_0, zero_scratch.read (A := 1) (B := 2816) _ inb_S8x5632_S1x2816_7_0,
    (hL.read (A := 1) (B := 2816) _ inb_S8x5632_S1x2816_6_2816).congr fun i j _ _ => e 6 i j,
    (hL.read (A := 1) (B := 2816) _ inb_S8x5632_S1x2816_7_2816).congr fun i j _ _ => e 7 i j⟩

/-- In a sequence the two rows before are those that the scratch holds. -/
theorem tails_next {X : FVec Ideal S8x5632 .f32} (hX : IsMat hd X) :
    Tails hd (View.ld (Val := Elt Ideal) (e' := .f32) X (Rect.unit (s := S8x5632) ![6, 0] ![1, 2816] inb_S8x5632_S1x2816_6_0))
      (View.ld (Val := Elt Ideal) (e' := .f32) X (Rect.unit (s := S8x5632) ![7, 0] ![1, 2816] inb_S8x5632_S1x2816_7_0))
      (View.ld (Val := Elt Ideal) (e' := .f32) X (Rect.unit (s := S8x5632) ![6, 2816] ![1, 2816] inb_S8x5632_S1x2816_6_2816))
      (View.ld (Val := Elt Ideal) (e' := .f32) X (Rect.unit (s := S8x5632) ![7, 2816] ![1, 2816] inb_S8x5632_S1x2816_7_2816)) := by
  have l := fun (k p : ℕ) inb => hX.ld (A := 1) (B := 2816) (o := k) (p := p) inb
  exact ⟨(l 6 0 inb_S8x5632_S1x2816_6_0).congr fun i j hi _ => by rw [show 6 + i = 6 by omega, Nat.zero_add],
    (l 7 0 inb_S8x5632_S1x2816_7_0).congr fun i j hi _ => by rw [show 7 + i = 7 by omega, Nat.zero_add],
    (l 6 2816 inb_S8x5632_S1x2816_6_2816).congr fun i j hi _ => by rw [show 6 + i = 6 by omega],
    (l 7 2816 inb_S8x5632_S1x2816_7_2816).congr fun i j hi _ => by rw [show 7 + i = 7 by omega]⟩

/-- The layer's result in a tile. -/
abbrev rows (x g wu w wd hd : ℕ → ℕ → ℝ) : ℕ → ℕ → ℝ := outr x (gate (filt (pj x g wu) hd w)) wd

/-- The difference from the target in a tile. -/
abbrev errs (x g wu w wd gf tg hd : ℕ → ℕ → ℝ) : ℕ → ℕ → ℝ := err (rows x g wu w wd hd) gf tg

/-- The up projection before the filter. -/
theorem block7 (T : Tile m c t x g wu w wd gf tg) :
    IsMat (a := 256) (b := 5632) (φ := .bf16) (pj x g wu) (outsAt0 m c t.val t.isLt).1 := by
  have q := isMat_halves16 (M := 256) (N := 5632) (L := []) rfl inb_S256x5632_S256x2816_0_0 inb_S256x5632_S256x2816_0_2816 ((pjA_mat T.h0 T.h1 T.h2).trunc bitsLt_bf16_f32) ((pjB_mat T.h0 T.h1 T.h2).trunc bitsLt_bf16_f32)
  by_cases h1 : t.val % 8 = 0
  · by_cases h0 : t.val % 32 = 0
    · rw [outsAt0_A m c t h1 h0]; frame_out
      exact q
    · rw [outsAt0_C m c t h1 h0]; frame_out
      exact q
  · rw [outsAt0_B m c t h1 (by omega)]; frame_out
    exact q

/-- The filtered up projection. -/
theorem block8 (T : Tile m c t x g wu w wd gf tg) (hh : Held0 m c t hd) :
    IsMat (a := 256) (b := 5632) (φ := .bf16) (filt (pj x g wu) hd w) (outsAt0 m c t.val t.isLt).2.1 := by
  have hz := tails_zero (pay24_mat (pjA_mat T.h0 T.h1 T.h2))
  have q := fun {p6 p7 q6 q7 : FVec Ideal S1x2816 .f32} {hd : ℕ → ℕ → ℝ} (H : Tails hd p6 p7 q6 q7) => isMat_halves16 (M := 256) (N := 5632) (L := []) rfl inb_S256x5632_S256x2816_0_0 inb_S256x5632_S256x2816_0_2816 ((upA_mat T.h0 T.h1 T.h2 T.h3 H).trunc bitsLt_bf16_f32) ((upB_mat T.h0 T.h1 T.h2 T.h3 H).trunc bitsLt_bf16_f32)
  unfold Held0 at hh
  by_cases h1 : t.val % 8 = 0
  · rw [if_pos h1] at hh; subst hh
    by_cases h0 : t.val % 32 = 0
    · rw [outsAt0_A m c t h1 h0]; frame_out
      exact q hz
    · rw [outsAt0_C m c t h1 h0]; frame_out
      exact q hz
  · rw [if_neg h1] at hh
    rw [outsAt0_B m c t h1 (by omega)]; frame_out
    simp only [read_unread_whole]
    exact q (tails_next hh)

/-- The gated values. -/
theorem block9 (T : Tile m c t x g wu w wd gf tg) (hh : Held0 m c t hd) :
    IsMat (a := 256) (b := 2816) (φ := .bf16) (gate (filt (pj x g wu) hd w)) (outsAt0 m c t.val t.isLt).2.2.1 := by
  have hz := tails_zero (pay24_mat (pjA_mat T.h0 T.h1 T.h2))
  have q := fun {p6 p7 q6 q7 : FVec Ideal S1x2816 .f32} {hd : ℕ → ℕ → ℝ} (H : Tails hd p6 p7 q6 q7) => gate_mat T.h0 T.h1 T.h2 T.h3 H
  unfold Held0 at hh
  by_cases h1 : t.val % 8 = 0
  · rw [if_pos h1] at hh; subst hh
    by_cases h0 : t.val % 32 = 0
    · rw [outsAt0_A m c t h1 h0]; frame_out
      exact q hz
    · rw [outsAt0_C m c t h1 h0]; frame_out
      exact q hz
  · rw [if_neg h1] at hh
    rw [outsAt0_B m c t h1 (by omega)]; frame_out
    simp only [read_unread_whole]
    exact q (tails_next hh)

/-- The normed rows. -/
theorem block10 (T : Tile m c t x g wu w wd gf tg) :
    IsMat (a := 256) (b := 1024) (φ := .bf16) (nh x g) (outsAt0 m c t.val t.isLt).2.2.2.1 := by
  have q := pay7_mat T.h0 T.h1
  by_cases h1 : t.val % 8 = 0
  · by_cases h0 : t.val % 32 = 0
    · rw [outsAt0_A m c t h1 h0]; frame_out
      exact q
    · rw [outsAt0_C m c t h1 h0]; frame_out
      exact q
  · rw [outsAt0_B m c t h1 (by omega)]; frame_out
    exact q

/-- The gradient of the layer's result. -/
theorem block11 (T : Tile m c t x g wu w wd gf tg) (hh : Held0 m c t hd) :
    IsMat (a := 256) (b := 1024) (φ := .f32) (normGrad (rows x g wu w wd hd) fun i l => errs x g wu w wd gf tg hd i l * (1 / 1024) * gf 0 l) (outsAt0 m c t.val t.isLt).2.2.2.2.1 := by
  have hz := tails_zero (pay24_mat (pjA_mat T.h0 T.h1 T.h2))
  have q := fun {p6 p7 q6 q7 : FVec Ideal S1x2816 .f32} {hd : ℕ → ℕ → ℝ} (H : Tails hd p6 p7 q6 q7) => pay2_mat (pay29_mat T.h0 (gate_mat T.h0 T.h1 T.h2 T.h3 H) T.h4) (pay30_mat T.h0 (gate_mat T.h0 T.h1 T.h2 T.h3 H) T.h4) (pay33_mat T.h0 (gate_mat T.h0 T.h1 T.h2 T.h3 H) T.h4 T.h5 T.h6) T.h5
  unfold Held0 at hh
  by_cases h1 : t.val % 8 = 0
  · rw [if_pos h1] at hh; subst hh
    by_cases h0 : t.val % 32 = 0
    · rw [outsAt0_A m c t h1 h0]; frame_out
      exact q hz
    · rw [outsAt0_C m c t h1 h0]; frame_out
      exact q hz
  · rw [if_neg h1] at hh
    rw [outsAt0_B m c t h1 (by omega)]; frame_out
    simp only [read_unread_whole]
    exact q (tails_next hh)

/-- The scratch: the last eight rows of the tile's up projection. -/
theorem scratch (T : Tile m c t x g wu w wd gf tg) :
    IsMat (a := 8) (b := 5632) (φ := .f32) (fun i j => pj x g wu (248 + i) j) (outsAt0 m c t.val t.isLt).2.2.2.2.2.2.2 := by
  have q := fun L => isMat_halves (M := 8) (N := 5632) (L := L) rfl inb_S8x5632_S8x2816_0_0 inb_S8x5632_S8x2816_0_2816 (pay24_mat (pjA_mat T.h0 T.h1 T.h2)) (pay24_mat (pjB_mat T.h0 T.h1 T.h2))
  by_cases h1 : t.val % 8 = 0
  · by_cases h0 : t.val % 32 = 0
    · rw [outsAt0_A m c t h1 h0]; frame_out
      exact q _
    · rw [outsAt0_C m c t h1 h0]; frame_out
      exact q _
  · rw [outsAt0_B m c t h1 (by omega)]; frame_out
    exact q _

/-- The loss after the first grid point. -/
theorem block12_first (T : Tile m c t x g wu w wd gf tg) (h0 : t.val % 32 = 0) (h1 : t.val % 8 = 0) :
    IsMat (a := 8) (b := 128) (φ := .f32) (fun _ _ => 0 + 1 / 2 * ∑ i ∈ Finset.range 256, lossRow (errs x g wu w wd gf tg fun _ _ => 0) i) (outsAt0 m c t.val t.isLt).2.2.2.2.2.1 := by
  have H := tails_zero (pay24_mat (pjA_mat T.h0 T.h1 T.h2))
  rw [outsAt0_A m c t h1 h0]; frame_out
  have hz : IsMat (a := 8) (b := 128) (φ := .f32) (fun _ _ => 0) (k0_pay4 (F := Ideal)) := isMat_broadcast zero_f32
  exact pay32_mat T.h0 (gate_mat T.h0 T.h1 T.h2 T.h3 H) T.h4 T.h5 T.h6 hz

/-- The loss after any other grid point. -/
theorem block12_next (T : Tile m c t x g wu w wd gf tg) (h0 : ¬ t.val % 32 = 0) (hh : Held0 m c t hd) {s : ℝ}
    (hy : IsMat (a := 8) (b := 128) (φ := .f32) (fun _ _ => s) (before m c t).2.2.2.2.2.1) :
    IsMat (a := 8) (b := 128) (φ := .f32) (fun _ _ => s + 1 / 2 * ∑ i ∈ Finset.range 256, lossRow (errs x g wu w wd gf tg hd) i) (outsAt0 m c t.val t.isLt).2.2.2.2.2.1 := by
  unfold Held0 at hh
  by_cases h1 : t.val % 8 = 0
  · rw [if_pos h1] at hh; subst hh
    have H := tails_zero (pay24_mat (pjA_mat T.h0 T.h1 T.h2))
    rw [outsAt0_C m c t h1 h0]; frame_out
    exact pay32_mat T.h0 (gate_mat T.h0 T.h1 T.h2 T.h3 H) T.h4 T.h5 T.h6 hy
  · rw [if_neg h1] at hh
    have H := tails_next hh
    rw [outsAt0_B m c t h1 h0]; frame_out
    simp only [read_unread_whole]
    exact pay32_mat T.h0 (gate_mat T.h0 T.h1 T.h2 T.h3 H) T.h4 T.h5 T.h6 hy

/-- The gradient of the last norm's gain after the first grid point. -/
theorem block13_first (T : Tile m c t x g wu w wd gf tg) (h0 : t.val % 32 = 0) (h1 : t.val % 8 = 0) :
    IsMat (a := 8) (b := 1024) (φ := .f32) (firstRow fun l => 0 + ∑ i ∈ Finset.range 256, errs x g wu w wd gf tg (fun _ _ => 0) i l * (1 / 1024)
      * (rows x g wu w wd (fun _ _ => 0) i l * inv (rows x g wu w wd fun _ _ => 0) i)) (outsAt0 m c t.val t.isLt).2.2.2.2.2.2.1 := by
  have H := tails_zero (pay24_mat (pjA_mat T.h0 T.h1 T.h2))
  have A := gate_mat T.h0 T.h1 T.h2 T.h3 H
  rw [outsAt0_A m c t h1 h0]; frame_out
  have hz : IsMat (a := 8) (b := 1024) (φ := .f32) (fun _ _ => 0) (k0_pay5 (F := Ideal)) := isMat_broadcast zero_f32
  refine isMat_store_zero (M := 8) (N := 1024) inb_S8x1024_S1x1024_0_0 inb_S8x1024_S8x1024_0_0
    (pay1_mat (pay30_mat T.h0 A T.h4) (pay33_mat T.h0 A T.h4 T.h5 T.h6) (r := fun _ => 0) ?_) hz
  exact ((Held.whole (M := 8) (N := 1024) inb_S8x1024_S8x1024_0_0 hz).read (A := 1) (B := 1024) _ inb_S8x1024_S1x1024_0_0)

/-- The gradient of the last norm's gain after any other grid point. -/
theorem block13_next (T : Tile m c t x g wu w wd gf tg) (h0 : ¬ t.val % 32 = 0) (hh : Held0 m c t hd) {y : ℕ → ℝ}
    (hy : IsMat (a := 8) (b := 1024) (φ := .f32) (firstRow y) (before m c t).2.2.2.2.2.2.1) :
    IsMat (a := 8) (b := 1024) (φ := .f32) (firstRow fun l => y l + ∑ i ∈ Finset.range 256, errs x g wu w wd gf tg hd i l * (1 / 1024)
      * (rows x g wu w wd hd i l * inv (rows x g wu w wd hd) i)) (outsAt0 m c t.val t.isLt).2.2.2.2.2.2.1 := by
  unfold Held0 at hh
  have q := fun {p6 p7 q6 q7 : FVec Ideal S1x2816 .f32} {hd : ℕ → ℕ → ℝ} (H : Tails hd p6 p7 q6 q7) =>
    pay1_mat (pay30_mat T.h0 (gate_mat T.h0 T.h1 T.h2 T.h3 H) T.h4) (pay33_mat T.h0 (gate_mat T.h0 T.h1 T.h2 T.h3 H) T.h4 T.h5 T.h6)
      (IsMat.firstRow_ld (M := 8) (N := 1024) inb_S8x1024_S1x1024_0_0 hy)
  by_cases h1 : t.val % 8 = 0
  · rw [if_pos h1] at hh; subst hh
    have H := tails_zero (pay24_mat (pjA_mat T.h0 T.h1 T.h2))
    rw [outsAt0_C m c t h1 h0]; frame_out
    refine isMat_store_over (M := 8) (N := 1024) _ _ inb_S8x1024_S1x1024_0_0 (q H) (y := y) ?_
    rw [Memref.IsWhole.read_unread]; exact hy
  · rw [if_neg h1] at hh
    have H := tails_next hh
    rw [outsAt0_B m c t h1 h0]; frame_out
    simp only [read_unread_whole]
    refine isMat_store_over (M := 8) (N := 1024) _ _ inb_S8x1024_S1x1024_0_0 (q H) (y := y) ?_
    rw [Memref.IsWhole.read_unread]; exact hy

end Cert.FfnFwdProof

end
-- ==== Proof.FfnFwd.Reference.lean ====
/- The feed-forward layer, the last norm, the loss and the gradients as the reference's program has them, at the reals: the
   derivatives of the lines that norm a row and compare it with the target, by the rules of differentiation. -/
module

public import proofs.«01_k».proof.Proof.FfnFwd.Point
public import proofs.«01_k».proof.Proof.Shifts
public import proofs.«01_k».proof.Proof.Gen.FfnFwdRefIdeal.Read

@[expose] public section

set_option maxRecDepth 16384

noncomputable section

namespace Cert.FfnFwdProof

open Cert.FfnFwdRefIdeal Cert.FfnFwdRefIdeal.Gen Cert.FfnFwdRefIdeal.Read Idealize.ShloMosaic Idealize.ShloMosaic.TcCoe
open Cert.Tables Cert.Tokens
open Cert.Reals (AllReal)

/-! ## Numbers per position, and one number -/

section Numbers
variable {φ : FTy} {x y : ℕ → ℝ} {X Y : FVec Ideal (S2 4 2048) φ}

theorem isSeq_const {Z : FVec Ideal S0 φ} {k : ℝ} (hZ : Z (fun a => a.elim0) = ((k : ℝ) : EReal)) (h : S0.BroadcastsInDim (S2 4 2048) ![]) :
    IsSeq (fun _ => k) (broadcastInDim (S2 4 2048) ![] h Z) := fun b n =>
  (broadcastInDim_apply _ h Z (ix2 b n) (fun a => a.elim0) fun a => a.elim0).trans hZ

theorem IsSeq.divc {k : ℝ} (hX : IsSeq x X) (hY : IsSeq (fun _ => k) Y) (hk : k ≠ 0) : IsSeq (fun r => x r * (1 / k)) (Host.divf X Y) := fun b n => by
  show Ideal.div (X (ix2 b n)) (Y (ix2 b n)) = _
  rw [hX b n, hY b n, Ideal.div_coe hk, ← EReal.coe_mul]

/-- The sum over all positions, one number. -/
theorem IsSeq.total {u : Shape} {Z : u.Idx → Ideal φ} (hX : IsSeq x X) (h : (S2 4 2048).ReducesTo [0, 1] S0) (hu : 0 < u.numel)
    (hZ : Z (Shape.Idx.first hu) = (0 : EReal)) (i : S0.Idx) : Host.reduceAdd X Z h hu i = ((∑ r ∈ Finset.range 8192, x r : ℝ) : EReal) := by
  show Ideal.hostReduceAdd h X (Z (Shape.Idx.first hu)) i = _
  rw [Ideal.hostReduceAdd_total h (fun b => b.elim0), hZ, zero_add, ValueIdx.sum_idx2]
  exact sum_positions_known x fun a n => hX a n

theorem isMat_number {M N : ℕ} {Z : FVec Ideal S0 φ} {k : ℝ} (hZ : Z (fun a => a.elim0) = ((k : ℝ) : EReal)) (h : S0.BroadcastsInDim (S2 M N) ![]) :
    IsMat (fun _ _ => k) (broadcastInDim (S2 M N) ![] h Z) := fun i j =>
  (broadcastInDim_apply _ h Z (ix2 i j) (fun a => a.elim0) fun a => a.elim0).trans hZ

end Numbers

/-! ## The layer and its gradients -/

/-- An array of one axis at a position, as a real number. -/
def rd1 {c : ℕ} (X : FVec Ideal (S1 c) .f32) (l : ℕ) : ℝ := if h : l < c then (X (ix1 ⟨l, h⟩) : EReal).toReal else 0

theorem isVec_rd1 {c : ℕ} {X : FVec Ideal (S1 c) .f32} (hX : AllReal X) : IsVec (rd1 X) X := fun l => by
  rw [rd1, dif_pos l.isLt]
  exact hX (ix1 l)

section Formulas
variable (x0 x1 : FVec Ideal S4x2048x1024 .f32) (x2 : FVec Ideal S1x1024 .f32) (x3 : FVec Ideal S1024x5632 .f32)
  (x4 : FVec Ideal S3x5632 .f32) (x5 : FVec Ideal S2816x1024 .f32) (x6 : FVec Ideal S1024 .f32)

/-- The up projection before the filter. -/
def upp (r j : ℕ) : ℝ := pj (row3 x0) (rd2 x2) (fun k l => rd2 x3 l k) r j

/-- The filtered up projection: three taps over the last three positions. -/
def up (r j : ℕ) : ℝ := upp x0 x2 x3 r j * rd2 x4 2 j + back 2 (upp x0 x2 x3) r j * rd2 x4 0 j + back 1 (upp x0 x2 x3) r j * rd2 x4 1 j

/-- The layer's result, with its argument added. -/
def res (r l : ℕ) : ℝ := outr (row3 x0) (gate (up x0 x2 x3 x4)) (rd2 x5) r l

/-- The difference of the last norm from the target. -/
def dif (r l : ℕ) : ℝ := err (res x0 x2 x3 x4 x5) (fun _ l => rd1 x6 l) (row3 x1) r l

/-- The gradient of the layer's result. -/
def gradX (r l : ℕ) : ℝ := normGrad (res x0 x2 x3 x4 x5) (fun r l => dif x0 x1 x2 x3 x4 x5 x6 r l * (1 / 1024) * rd1 x6 l) r l

/-- A term of the last gain's gradient. -/
def scaleTerm (l r : ℕ) : ℝ := dif x0 x1 x2 x3 x4 x5 x6 r l * (1 / 1024) * (res x0 x2 x3 x4 x5 r l * inv (res x0 x2 x3 x4 x5) r)

/-- A position's part of the loss. -/
def lossTerm (r : ℕ) : ℝ := lossRow (dif x0 x1 x2 x3 x4 x5 x6) r

def outP : FVec Ideal S8192x5632 .bf16 := fun i => ((upp x0 x2 x3 (i 0 : ℕ) (i 1 : ℕ) : ℝ) : EReal)
def outU : FVec Ideal S8192x5632 .bf16 := fun i => ((up x0 x2 x3 x4 (i 0 : ℕ) (i 1 : ℕ) : ℝ) : EReal)
def outA : FVec Ideal S8192x2816 .bf16 := fun i => ((gate (up x0 x2 x3 x4) (i 0 : ℕ) (i 1 : ℕ) : ℝ) : EReal)
def outH : FVec Ideal S8192x1024 .bf16 := fun i => ((nh (row3 x0) (rd2 x2) (i 0 : ℕ) (i 1 : ℕ) : ℝ) : EReal)
def outX : FVec Ideal S8192x1024 .f32 := fun i => ((gradX x0 x1 x2 x3 x4 x5 x6 (i 0 : ℕ) (i 1 : ℕ) : ℝ) : EReal)
def outL : FVec Ideal S8x128 .f32 := fun _ => ((1 / 2 * ∑ r ∈ Finset.range 8192, lossTerm x0 x1 x2 x3 x4 x5 x6 r : ℝ) : EReal)
def outG : FVec Ideal S8x1024 .f32 := fun i =>
  ((firstRow (fun l => ∑ r ∈ Finset.range 8192, scaleTerm x0 x1 x2 x3 x4 x5 x6 l r) (i 0 : ℕ) (i 1 : ℕ) : ℝ) : EReal)

end Formulas

/-! ## The forward lines -/

variable {x0 x1 : FVec Ideal S4x2048x1024 .f32} {x2 : FVec Ideal S1x1024 .f32} {x3 : FVec Ideal S1024x5632 .f32}
  {x4 : FVec Ideal S3x5632 .f32} {x5 : FVec Ideal S2816x1024 .f32} {x6 : FVec Ideal S1024 .f32}

theorem ref_inv (h0 : AllReal x0) : IsTok (c := 1) (φ := .f32) (fun r _ => inv (row3 x0) r) (val_main_v8 (F := Ideal) x0) :=
  ((((((isTok_row3 h0).mul (isTok_row3 h0)).sumLast reducesTo_S4x2048x1024_S4x2048_d2 h_S_ zero_f32).col bcast_S4x2048_S4x2048x1_0_1).div
    (isTok_const width_f32 bcast_S_S4x2048x1) fun _ _ _ _ => by norm_num).add (isTok_const eps_spec.1 bcast_S_S4x2048x1)).rsqrt fun r _ _ _ => meansq_pos _ r

theorem ref_nh (h0 : AllReal x0) (h2 : AllReal x2) : IsTok (c := 1024) (φ := .f32) (nh (row3 x0) (rd2 x2)) (val_main_v13 (F := Ideal) x0 x2) :=
  ((isTok_row3 h0).mul ((ref_inv h0).spread bcast_S4x2048x1_S4x2048x1024_0_1_2)).mul
    ((isVec_row h2 shapeCasts_S1x1024_S1024).everywhere bcast_S1024_S1x1x1024_2 bcast_S1x1x1024_S4x2048x1024_0_1_2)

theorem ref_upp (h0 : AllReal x0) (h2 : AllReal x2) (h3 : AllReal x3) : IsTok (c := 5632) (φ := .f32) (upp x0 x2 x3) (val_main_v14 (F := Ideal) x0 x2 x3) :=
  (ref_nh h0 h2).dot (isMat_rd2 h3)

theorem zero_word : (val_main_call1_v0 (F := Ideal)) (Shape.Idx.first h_S_) = ((0 : ℝ) : EReal) := by
  show (((0#32 : BitVec 32).toInt : ℝ) : EReal) = _
  norm_num

theorem zeros (i : S4x2x5632.Idx) : val_main_v15 (F := Ideal) i = (0 : EReal) := zero_f32

theorem ref_behind0 (h0 : AllReal x0) (h2 : AllReal x2) (h3 : AllReal x3) : IsTok (c := 5632) (φ := .f32) (back 0 (upp x0 x2 x3)) (val_main_v17 (F := Ideal) x0 x2 x3) :=
  (ref_upp h0 h2 h3).behind rfl zeros concatenates_S4x2x5632_S4x2048x5632_S4x2050x5632_d1 slices_S4x2050x5632_S4x2048x5632_0_2_0

theorem ref_behind1 (h0 : AllReal x0) (h2 : AllReal x2) (h3 : AllReal x3) : IsTok (c := 5632) (φ := .f32) (back 1 (upp x0 x2 x3)) (val_main_v30 (F := Ideal) x0 x2 x3) :=
  (ref_upp h0 h2 h3).behind rfl zeros concatenates_S4x2x5632_S4x2048x5632_S4x2050x5632_d1 slices_S4x2050x5632_S4x2048x5632_0_1_0

theorem ref_behind2 (h0 : AllReal x0) (h2 : AllReal x2) (h3 : AllReal x3) : IsTok (c := 5632) (φ := .f32) (back 2 (upp x0 x2 x3)) (val_main_v23 (F := Ideal) x0 x2 x3) :=
  (ref_upp h0 h2 h3).behind rfl zeros concatenates_S4x2x5632_S4x2048x5632_S4x2050x5632_d1 slices_S4x2050x5632_S4x2048x5632_0_0_0

theorem ref_tap2 (h4 : AllReal x4) : IsTok (c := 5632) (φ := .f32) (fun _ j => rd2 x4 2 j) (val_main_v21 (F := Ideal) x4) :=
  (isVec_tap (isMat_rd2 h4) slices_S3x5632_S1x5632_2_0 shapeCasts_S1x5632_S5632).everywhere bcast_S5632_S1x1x5632_2 bcast_S1x1x5632_S4x2048x5632_0_1_2

theorem ref_tap0 (h4 : AllReal x4) : IsTok (c := 5632) (φ := .f32) (fun _ j => rd2 x4 0 j) (val_main_v27 (F := Ideal) x4) :=
  (isVec_tap (isMat_rd2 h4) slices_S3x5632_S1x5632_0_0 shapeCasts_S1x5632_S5632).everywhere bcast_S5632_S1x1x5632_2 bcast_S1x1x5632_S4x2048x5632_0_1_2

theorem ref_tap1 (h4 : AllReal x4) : IsTok (c := 5632) (φ := .f32) (fun _ j => rd2 x4 1 j) (val_main_v34 (F := Ideal) x4) :=
  (isVec_tap (isMat_rd2 h4) slices_S3x5632_S1x5632_1_0 shapeCasts_S1x5632_S5632).everywhere bcast_S5632_S1x1x5632_2 bcast_S1x1x5632_S4x2048x5632_0_1_2

theorem ref_up (h0 : AllReal x0) (h2 : AllReal x2) (h3 : AllReal x3) (h4 : AllReal x4) : IsTok (c := 5632) (φ := .f32) (up x0 x2 x3 x4) (val_main_v36 (F := Ideal) x0 x2 x3 x4) := by
  have a : IsTok (c := 5632) (φ := .f32) _ (val_main_v36 (F := Ideal) x0 x2 x3 x4) :=
    (((ref_behind0 h0 h2 h3).mul (ref_tap2 h4)).add ((ref_behind2 h0 h2 h3).mul (ref_tap0 h4))).add ((ref_behind1 h0 h2 h3).mul (ref_tap1 h4))
  refine a.congr fun r j _ _ => ?_
  show back 0 (upp x0 x2 x3) r j * rd2 x4 2 j + back 2 (upp x0 x2 x3) r j * rd2 x4 0 j + back 1 (upp x0 x2 x3) r j * rd2 x4 1 j = _
  rw [back_zero]
  rfl

theorem ref_left (h0 : AllReal x0) (h2 : AllReal x2) (h3 : AllReal x3) (h4 : AllReal x4) :
    IsTok (c := 2816) (φ := .f32) (fun r j => up x0 x2 x3 x4 r j) (val_main_v37 (F := Ideal) x0 x2 x3 x4) :=
  ((ref_up h0 h2 h3 h4).cols slices_S4x2048x5632_S4x2048x2816_0_0_0).congr fun r j _ _ => congrArg (up x0 x2 x3 x4 r) (Nat.zero_add j)

theorem ref_sg (h0 : AllReal x0) (h2 : AllReal x2) (h3 : AllReal x3) (h4 : AllReal x4) :
    IsTok (c := 2816) (φ := .f32) (fun r j => sg (up x0 x2 x3 x4 r j)) (val_main_call0_v5 (F := Ideal) x0 x2 x3 x4) :=
  ((isTok_const one_f32 bcast_S_S4x2048x2816).div ((isTok_const one_f32 bcast_S_S4x2048x2816).add (ref_left h0 h2 h3 h4).neg.exp)
    fun r j _ _ => (by positivity)).congr fun r j _ _ => by rw [sg, one_mul, one_div]

theorem ref_gate (h0 : AllReal x0) (h2 : AllReal x2) (h3 : AllReal x3) (h4 : AllReal x4) :
    IsTok (c := 2816) (φ := .f32) (gate (up x0 x2 x3 x4)) (val_main_v40 (F := Ideal) x0 x2 x3 x4) :=
  ((ref_left h0 h2 h3 h4).mul (ref_sg h0 h2 h3 h4)).mul ((ref_up h0 h2 h3 h4).cols slices_S4x2048x5632_S4x2048x2816_0_0_2816)

theorem ref_res (h0 : AllReal x0) (h2 : AllReal x2) (h3 : AllReal x3) (h4 : AllReal x4) (h5 : AllReal x5) :
    IsTok (c := 1024) (φ := .f32) (res x0 x2 x3 x4 x5) (val_main_v42 (F := Ideal) x0 x2 x3 x4 x5) :=
  (isTok_row3 h0).add ((ref_gate h0 h2 h3 h4).dot (isMat_rd2 h5))

/-! ## The results that the forward pass saves -/

theorem ref_outP (h0 : AllReal x0) (h2 : AllReal x2) (h3 : AllReal x3) : val_main_v95 (F := Ideal) x0 x2 x3 = outP x0 x2 x3 :=
  funext fun i => ((ref_upp h0 h2 h3).flat shapeCasts_S4x2048x5632_S8192x5632).at i rfl rfl

theorem ref_outU (h0 : AllReal x0) (h2 : AllReal x2) (h3 : AllReal x3) (h4 : AllReal x4) : val_main_v97 (F := Ideal) x0 x2 x3 x4 = outU x0 x2 x3 x4 :=
  funext fun i => ((ref_up h0 h2 h3 h4).flat shapeCasts_S4x2048x5632_S8192x5632).at i rfl rfl

theorem ref_outA (h0 : AllReal x0) (h2 : AllReal x2) (h3 : AllReal x3) (h4 : AllReal x4) : val_main_v99 (F := Ideal) x0 x2 x3 x4 = outA x0 x2 x3 x4 :=
  funext fun i => ((ref_gate h0 h2 h3 h4).flat shapeCasts_S4x2048x2816_S8192x2816).at i rfl rfl

theorem ref_outH (h0 : AllReal x0) (h2 : AllReal x2) : val_main_v101 (F := Ideal) x0 x2 = outH x0 x2 :=
  funext fun i => ((ref_nh h0 h2).flat shapeCasts_S4x2048x1024_S8192x1024).at i rfl rfl

/-! ## The last norm, the loss and the gradients -/

section Last
variable (h0 : AllReal x0) (h1 : AllReal x1) (h2 : AllReal x2) (h3 : AllReal x3) (h4 : AllReal x4) (h5 : AllReal x5) (h6 : AllReal x6)
include h0 h2 h3 h4 h5

theorem ref_ms3 : IsTok (c := 1) (φ := .f32) (fun r _ => (∑ k ∈ Finset.range 1024, res x0 x2 x3 x4 x5 r k * res x0 x2 x3 x4 x5 r k) * (1 / 1024) + eps)
    (val_main_v49 (F := Ideal) x0 x2 x3 x4 x5) :=
  have Y := ref_res h0 h2 h3 h4 h5
  ((((Y.mul Y).sumLast reducesTo_S4x2048x1024_S4x2048_d2 h_S_ zero_f32).col bcast_S4x2048_S4x2048x1_0_1).div
    (isTok_const width_f32 bcast_S_S4x2048x1) fun _ _ _ _ => by norm_num).add (isTok_const eps_spec.1 bcast_S_S4x2048x1)

theorem ref_inv3 : IsTok (c := 1) (φ := .f32) (fun r _ => inv (res x0 x2 x3 x4 x5) r) (val_main_v50 (F := Ideal) x0 x2 x3 x4 x5) :=
  (ref_ms3 h0 h2 h3 h4 h5).rsqrt fun r _ _ _ => meansq_pos _ r

theorem ref_slope : IsTok (c := 1) (φ := .f32)
    (fun r _ => -(1 / 2) * (inv (res x0 x2 x3 x4 x5) r * (1 / ((∑ k ∈ Finset.range 1024, res x0 x2 x3 x4 x5 r k * res x0 x2 x3 x4 x5 r k) * (1 / 1024) + eps))))
    (val_main_v53 (F := Ideal) x0 x2 x3 x4 x5) :=
  (isTok_const neg_half_f32 bcast_S_S4x2048x1).mul ((ref_inv3 h0 h2 h3 h4 h5).div (ref_ms3 h0 h2 h3 h4 h5) fun r _ _ _ => (meansq_pos _ r).ne')

theorem ref_xn3 : IsTok (c := 1024) (φ := .f32) (fun r l => res x0 x2 x3 x4 x5 r l * inv (res x0 x2 x3 x4 x5) r) (val_main_v55 (F := Ideal) x0 x2 x3 x4 x5) :=
  (ref_res h0 h2 h3 h4 h5).mul ((ref_inv3 h0 h2 h3 h4 h5).spread bcast_S4x2048x1_S4x2048x1024_0_1_2)

omit h0 h2 h3 h4 h5 in
include h6 in
theorem ref_gain3 : IsTok (c := 1024) (φ := .f32) (fun _ l => rd1 x6 l) (val_main_v57 (F := Ideal) x6) :=
  (isVec_rd1 h6).everywhere bcast_S1024_S1x1x1024_2 bcast_S1x1x1024_S4x2048x1024_0_1_2

include h1 h6

theorem ref_dif : IsTok (c := 1024) (φ := .f32) (dif x0 x1 x2 x3 x4 x5 x6) (val_main_v59 (F := Ideal) x0 x1 x2 x3 x4 x5 x6) :=
  ((ref_xn3 h0 h2 h3 h4 h5).mul (ref_gain3 h6)).sub (isTok_row3 h1)

theorem ref_lossSeq : IsSeq (φ := .f32) (lossTerm x0 x1 x2 x3 x4 x5 x6) (val_main_v65 (F := Ideal) x0 x1 x2 x3 x4 x5 x6) :=
  have E := ref_dif h0 h1 h2 h3 h4 h5 h6
  IsSeq.divc ((E.mul E).sumLast reducesTo_S4x2048x1024_S4x2048_d2 h_S_ zero_f32) (isSeq_const width_f32 bcast_S_S4x2048) (by norm_num)

theorem ref_outL : val_main_v103 (F := Ideal) x0 x1 x2 x3 x4 x5 x6 = outL x0 x1 x2 x3 x4 x5 x6 := by
  have t : val_main_v67 (F := Ideal) x0 x1 x2 x3 x4 x5 x6 (fun a => a.elim0) = ((1 / 2 * ∑ r ∈ Finset.range 8192, lossTerm x0 x1 x2 x3 x4 x5 x6 r : ℝ) : EReal) := by
    refine Eq.trans (congrArg₂ (· * ·) half_f32 (IsSeq.total (ref_lossSeq h0 h1 h2 h3 h4 h5 h6) reducesTo_S4x2048_S_d0_1 h_S_ zero_f32 _)) ?_
    exact (EReal.coe_mul _ _).symm
  exact funext fun i => (isMat_number (M := 8) (N := 128) (φ := .f32) t bcast_S_S8x128).at (x := fun _ _ => 1 / 2 * ∑ r ∈ Finset.range 8192, lossTerm x0 x1 x2 x3 x4 x5 x6 r) i rfl rfl

/-- The gradient of the scaled row. -/
theorem ref_dy : IsTok (c := 1024) (φ := .f32) (fun r l => dif x0 x1 x2 x3 x4 x5 x6 r l * (1 / 1024)) (val_main_v73 (F := Ideal) x0 x1 x2 x3 x4 x5 x6) := by
  have k : (val_main_v68 (F := Ideal)) (fun a => a.elim0) = ((1 / 2 * 1 : ℝ) : EReal) :=
    (congrArg₂ (· * ·) half_f32 one_f32).trans (EReal.coe_mul _ _).symm
  have q : IsSeq (φ := .f32) (fun _ => 1 / 2 * 1 * (1 / 1024)) (val_main_v71 (F := Ideal)) :=
    IsSeq.divc (isSeq_const k bcast_S_S4x2048) (isSeq_const width_f32 bcast_S_S4x2048) (by norm_num)
  have s : IsTok (c := 1024) (φ := .f32) (fun _ _ => 1 / 2 * 1 * (1 / 1024)) (val_main_v72 (F := Ideal)) := q.spread bcast_S4x2048_S4x2048x1024_0_1
  have a : IsTok (c := 1024) (φ := .f32) _ (val_main_v73 (F := Ideal) x0 x1 x2 x3 x4 x5 x6) :=
    s.mul ((isTok_const two_f32 bcast_S_S4x2048x1024).mul (ref_dif h0 h1 h2 h3 h4 h5 h6))
  refine a.congr fun r l _ _ => ?_
  ring

theorem ref_outG : val_main_v105 (F := Ideal) x0 x1 x2 x3 x4 x5 x6 = outG x0 x1 x2 x3 x4 x5 x6 := by
  have g : IsMat (a := 1) (b := 1024) (φ := .f32) _ (val_main_v104 (F := Ideal) x0 x1 x2 x3 x4 x5 x6) :=
    (((ref_xn3 h0 h2 h3 h4 h5).mul (ref_dy h0 h1 h2 h3 h4 h5 h6)).sumAll reducesTo_S4x2048x1024_S1024_d0_1 h_S_ zero_f32).row shapeCasts_S1024_S1x1x1024
      reducesTo_S1x1x1024_S1024_d0_1 h_S_ zero_f32 bcast_S1024_S1x1024_1
  have a : IsMat (a := 8) (b := 1024) (φ := .f32) _ (val_main_v105 (F := Ideal) x0 x1 x2 x3 x4 x5 x6) := g.padRows pads_S1x1024_S8x1024_070_000 h_S_ zero_word
  have b := a.congr (y := firstRow fun l => ∑ r ∈ Finset.range 8192, scaleTerm x0 x1 x2 x3 x4 x5 x6 l r) fun i j _ _ => by
    unfold firstRow
    by_cases h : i = 0
    · rw [if_pos h, if_pos (by omega)]
      exact Finset.sum_congr rfl fun r _ => mul_comm _ _
    · rw [if_neg (by omega), if_neg h]
  exact funext fun i => b.at i rfl rfl

/-- The gradient of the row divided by its root mean square. -/
theorem ref_dn : IsTok (c := 1024) (φ := .f32) (fun r l => dif x0 x1 x2 x3 x4 x5 x6 r l * (1 / 1024) * rd1 x6 l) (val_main_v78 (F := Ideal) x0 x1 x2 x3 x4 x5 x6) :=
  (ref_dy h0 h1 h2 h3 h4 h5 h6).mul (ref_gain3 h6)

/-- The part of the gradient that comes through the mean square. -/
theorem ref_through : IsTok (c := 1024) (φ := .f32) (fun r _ => ∑ _k ∈ Finset.range 1,
      (∑ k ∈ Finset.range 1024, res x0 x2 x3 x4 x5 r k * (dif x0 x1 x2 x3 x4 x5 x6 r k * (1 / 1024) * rd1 x6 k))
        * (-(1 / 2) * (inv (res x0 x2 x3 x4 x5) r * (1 / ((∑ k ∈ Finset.range 1024, res x0 x2 x3 x4 x5 r k * res x0 x2 x3 x4 x5 r k) * (1 / 1024) + eps)))) * (1 / 1024))
    (val_main_v89 (F := Ideal) x0 x1 x2 x3 x4 x5 x6) :=
  (((((((ref_res h0 h2 h3 h4 h5).mul (ref_dn h0 h1 h2 h3 h4 h5 h6)).sumLast reducesTo_S4x2048x1024_S4x2048_d2 h_S_ zero_f32).reshape shapeCasts_S4x2048_S4x2048x1).mul
    (ref_slope h0 h2 h3 h4 h5)).div (isTok_const width_f32 bcast_S_S4x2048x1) fun _ _ _ _ => by norm_num).sumLast reducesTo_S4x2048x1_S4x2048_d2 h_S_ zero_f32).spread
    bcast_S4x2048_S4x2048x1024_0_1

theorem ref_x : IsTok (c := 1024) (φ := .f32) (gradX x0 x1 x2 x3 x4 x5 x6) (val_main_v93 (F := Ideal) x0 x1 x2 x3 x4 x5 x6) := by
  have Y := ref_res h0 h2 h3 h4 h5
  have t := ref_through h0 h1 h2 h3 h4 h5 h6
  have a : IsTok (c := 1024) (φ := .f32) _ (val_main_v93 (F := Ideal) x0 x1 x2 x3 x4 x5 x6) :=
    (((ref_dn h0 h1 h2 h3 h4 h5 h6).mul ((ref_inv3 h0 h2 h3 h4 h5).spread bcast_S4x2048x1_S4x2048x1024_0_1_2)).add (Y.mul t)).add (t.mul Y)
  refine a.congr fun r l _ _ => ?_
  have e := normGrad_eq (res x0 x2 x3 x4 x5) (fun r l => dif x0 x1 x2 x3 x4 x5 x6 r l * (1 / 1024) * rd1 x6 l) r l
  show _ = normGrad (res x0 x2 x3 x4 x5) (fun r l => dif x0 x1 x2 x3 x4 x5 x6 r l * (1 / 1024) * rd1 x6 l) r l
  rw [← e]
  simp only [Finset.sum_range_one]
  ring

theorem ref_outX : val_main_v102 (F := Ideal) x0 x1 x2 x3 x4 x5 x6 = outX x0 x1 x2 x3 x4 x5 x6 :=
  funext fun i => ((ref_x h0 h1 h2 h3 h4 h5 h6).flat shapeCasts_S4x2048x1024_S8192x1024).at i rfl rfl

end Last

end Cert.FfnFwdProof

end
-- ==== Proof.FfnFwd.Blocks.lean ====
/- What the host's lines leave in the operands of the feed-forward layer's forward pass, the blocks of a grid point, and the seven results. -/
module

public import proofs.«01_k».proof.Proof.FfnFwd.Tile
public import proofs.«01_k».proof.Proof.FfnFwd.Reference
public import Idealize.ShloMosaic.Lib.StableHlo.ReadAt

@[expose] public section

set_option maxRecDepth 16384

noncomputable section

namespace Cert.FfnFwdProof

open Cert.FfnFwdIdeal Cert.FfnFwdIdeal.Gen Idealize.ShloMosaic Idealize.ShloMosaic.TcCoe Idealize.SL.Sem
open Cert.Tables Cert.Tokens
open Cert.Reals (AllReal rd3 rd3_eq rd3_at)

section Host
variable {F : FTy → Type} [FloatOps F] (m : (ℓ : Loc nD τ sig) → Buf (Elt F) ℓ) (c : Dev nD)

abbrev arg0 : FVec F S4x2048x1024 .f32 := m ((c.tc : Thread nD τ).loc main_arg0)
abbrev arg1 : FVec F S4x2048x1024 .f32 := m ((c.tc : Thread nD τ).loc main_arg1)
abbrev arg2 : FVec F S1x1024 .f32 := m ((c.tc : Thread nD τ).loc main_arg2)
abbrev arg3 : FVec F S1024x5632 .f32 := m ((c.tc : Thread nD τ).loc main_arg3)
abbrev arg4 : FVec F S3x5632 .f32 := m ((c.tc : Thread nD τ).loc main_arg4)
abbrev arg5 : FVec F S2816x1024 .f32 := m ((c.tc : Thread nD τ).loc main_arg5)
abbrev arg6 : FVec F S1024 .f32 := m ((c.tc : Thread nD τ).loc main_arg6)

/-- The filter's taps, padded to eight rows. -/
theorem host_taps : (V m c main_v0 : FVec F S8x5632 .f32)
    = pad S8x5632 ![0, 0] ![5, 0] ![0, 0] (arg4 m c) (sitofp .f32 (constantI S_ 32 0#32)) pads_S3x5632_S8x5632_050_000 h_S_ := by
  unfold V
  simp only [hostOps0, hostOps0_1, hostOps0_2, List.flatten_cons, List.flatten_nil, List.append_nil, List.cons_append, List.nil_append]
  after_reads_simp
  rfl

end Host

variable (m : (ℓ : Loc nD τ sig) → Buf (Elt Ideal) ℓ) (c : Dev nD)

/-! ## The operands -/

theorem readX (h : AllReal (arg0 m c)) : IsMat (a := 8192) (b := 1024) (φ := .f32) (row3 (arg0 m c)) (V m c main_v1) := by
  intro r l
  unfold V
  simp only [hostOps0, hostOps0_1, hostOps0_2, List.flatten_cons, List.flatten_nil, List.append_nil, List.cons_append, List.nil_append]
  after_reads_at
  exact rd3_at h _ _ _ _ rfl rfl rfl

theorem readG (h : AllReal (arg2 m c)) : IsMat (a := 1) (b := 1024) (φ := .f32) (fun _ l => rd2 (arg2 m c) 0 l) (V m c main_arg2) := by
  intro r l
  obtain rfl : r = 0 := Fin.ext (Nat.lt_one_iff.mp r.isLt)
  unfold V
  simp only [hostOps0, hostOps0_1, hostOps0_2, List.flatten_cons, List.flatten_nil, List.append_nil, List.cons_append, List.nil_append]
  after_reads_at
  exact isMat_rd2 (a := 1) (b := 1024) h 0 l

theorem readU (h : AllReal (arg3 m c)) : IsMat (a := 5632) (b := 1024) (φ := .bf16) (fun k l => rd2 (arg3 m c) l k) (V m c main_v3) := by
  intro r l
  unfold V
  simp only [hostOps0, hostOps0_1, hostOps0_2, List.flatten_cons, List.flatten_nil, List.append_nil, List.cons_append, List.nil_append]
  after_reads_at
  exact (isMat_rd2 (a := 1024) (b := 5632) h).at _ rfl rfl

theorem readD (h : AllReal (arg5 m c)) : IsMat (a := 2816) (b := 1024) (φ := .bf16) (rd2 (arg5 m c)) (V m c main_v4) := by
  intro r l
  unfold V
  simp only [hostOps0, hostOps0_1, hostOps0_2, List.flatten_cons, List.flatten_nil, List.append_nil, List.cons_append, List.nil_append]
  after_reads_at
  exact (isMat_rd2 (a := 2816) (b := 1024) h).at _ rfl rfl

theorem readF (h : AllReal (arg6 m c)) : IsMat (a := 1) (b := 1024) (φ := .f32) (fun _ l => rd1 (arg6 m c) l) (V m c main_v5) := by
  intro r l
  obtain rfl : r = 0 := Fin.ext (Nat.lt_one_iff.mp r.isLt)
  unfold V
  simp only [hostOps0, hostOps0_1, hostOps0_2, List.flatten_cons, List.flatten_nil, List.append_nil, List.cons_append, List.nil_append]
  after_reads_at
  refine Eq.trans (congrArg (arg6 m c) ?_) (isVec_rd1 h l)
  funext a
  match a with
  | 0 => rfl

theorem readT (h : AllReal (arg1 m c)) : IsMat (a := 8192) (b := 1024) (φ := .f32) (row3 (arg1 m c)) (V m c main_v6) := by
  intro r l
  unfold V
  simp only [hostOps0, hostOps0_1, hostOps0_2, List.flatten_cons, List.flatten_nil, List.append_nil, List.cons_append, List.nil_append]
  after_reads_at
  exact rd3_at h _ _ _ _ rfl rfl rfl

theorem readW (h : AllReal (arg4 m c)) : IsMat (a := 8) (b := 5632) (φ := .f32) (rd2 (arg4 m c)) (V m c main_v0) := by
  rw [host_taps]
  have p : IsMat (a := 8) (b := 5632) (φ := .f32) _ (pad S8x5632 ![0, 0] ![5, 0] ![0, 0] (arg4 m c) (sitofp (F := Ideal) .f32 (constantI S_ 32 0#32)) pads_S3x5632_S8x5632_050_000 h_S_) :=
    (isMat_rd2 (a := 3) (b := 5632) h).padRows pads_S3x5632_S8x5632_050_000 h_S_ zero_word
  refine p.congr fun i j _ _ => ?_
  by_cases hi : i < 3
  · rw [if_pos ⟨Nat.zero_le _, by omega⟩, Nat.sub_zero]
  · rw [if_neg (by omega), rd2_out _ _ _ (Or.inl (by omega))]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![0, 0] := (by decide +kernel : ∀ t : Fin grid0.N, win0_12.index t = ![0, 0])
theorem idx13 : ∀ t : Fin cfg0.N, win0_13.index t = ![0, 0] := (by decide +kernel : ∀ t : Fin grid0.N, win0_13.index t = ![0, 0])

/-! ## The blocks of a grid point -/

theorem blk0 (t : Fin cfg0.N) (h : AllReal (arg0 m c)) : IsMat (a := 256) (b := 1024) (φ := .f32) (fun i l => row3 (arg0 m c) (256 * t.val + i) l) (iblk m c 0 t) := by
  intro i l
  have ht : t.val < 32 := t.isLt
  have hi := i.isLt
  refine Eq.trans ?_ (readX m c h ⟨256 * t.val + i, by omega⟩ l)
  blk_simp [iblk]
  blk_ext
  · rw [show win0_0.index t 0 = t.val from congrFun (idx0 t) 0]; omega
  · rw [show win0_0.index t 1 = 0 from congrFun (idx0 t) 1]; omega

theorem blk1 (t : Fin cfg0.N) (h : AllReal (arg2 m c)) : IsMat (a := 1) (b := 1024) (φ := .f32) (fun _ l => rd2 (arg2 m c) 0 l) (iblk m c 1 t) := by
  intro i l
  have ht : t.val < 32 := t.isLt
  have hi := i.isLt
  refine Eq.trans ?_ (readG m c h i l)
  blk_simp [iblk]
  blk_ext
  · rw [show win0_1.index t 0 = 0 from congrFun (idx1 t) 0]
  · rw [show win0_1.index t 1 = 0 from congrFun (idx1 t) 1]; omega

theorem blk2 (t : Fin cfg0.N) (h : AllReal (arg3 m c)) : IsMat (a := 5632) (b := 1024) (φ := .bf16) (fun k l => rd2 (arg3 m c) l k) (iblk m c 2 t) := by
  intro i l
  have ht : t.val < 32 := t.isLt
  have hi := i.isLt
  refine Eq.trans ?_ (readU m c h i l)
  blk_simp [iblk]
  blk_ext
  · rw [show win0_2.index t 0 = 0 from congrFun (idx2 t) 0]; omega
  · rw [show win0_2.index t 1 = 0 from congrFun (idx2 t) 1]; omega

theorem blk3 (t : Fin cfg0.N) (h : AllReal (arg4 m c)) : IsMat (a := 8) (b := 5632) (φ := .f32) (rd2 (arg4 m c)) (iblk m c 3 t) := by
  intro i l
  have ht : t.val < 32 := t.isLt
  have hi := i.isLt
  refine Eq.trans ?_ (readW m c h i l)
  blk_simp [iblk]
  blk_ext
  · rw [show win0_3.index t 0 = 0 from congrFun (idx3 t) 0]; omega
  · rw [show win0_3.index t 1 = 0 from congrFun (idx3 t) 1]; omega

theorem blk4 (t : Fin cfg0.N) (h : AllReal (arg5 m c)) : IsMat (a := 2816) (b := 1024) (φ := .bf16) (rd2 (arg5 m c)) (iblk m c 4 t) := by
  intro i l
  have ht : t.val < 32 := t.isLt
  have hi := i.isLt
  refine Eq.trans ?_ (readD m c h i l)
  blk_simp [iblk]
  blk_ext
  · rw [show win0_4.index t 0 = 0 from congrFun (idx4 t) 0]; omega
  · rw [show win0_4.index t 1 = 0 from congrFun (idx4 t) 1]; omega

theorem blk5 (t : Fin cfg0.N) (h : AllReal (arg6 m c)) : IsMat (a := 1) (b := 1024) (φ := .f32) (fun _ l => rd1 (arg6 m c) l) (iblk m c 5 t) := by
  intro i l
  have ht : t.val < 32 := t.isLt
  have hi := i.isLt
  refine Eq.trans ?_ (readF m c h i l)
  blk_simp [iblk]
  blk_ext
  · rw [show win0_5.index t 0 = 0 from congrFun (idx5 t) 0]
  · rw [show win0_5.index t 1 = 0 from congrFun (idx5 t) 1]; omega

theorem blk6 (t : Fin cfg0.N) (h : AllReal (arg1 m c)) : IsMat (a := 256) (b := 1024) (φ := .f32) (fun i l => row3 (arg1 m c) (256 * t.val + i) l) (iblk m c 6 t) := by
  intro i l
  have ht : t.val < 32 := t.isLt
  have hi := i.isLt
  refine Eq.trans ?_ (readT m c h ⟨256 * t.val + i, by omega⟩ l)
  blk_simp [iblk]
  blk_ext
  · rw [show win0_6.index t 0 = t.val from congrFun (idx6 t) 0]; omega
  · rw [show win0_6.index t 1 = 0 from congrFun (idx6 t) 1]; omega

/-- All arguments are arrays of reals. -/
structure Finite : Prop where
  h0 : AllReal (arg0 m c)
  h1 : AllReal (arg1 m c)
  h2 : AllReal (arg2 m c)
  h3 : AllReal (arg3 m c)
  h4 : AllReal (arg4 m c)
  h5 : AllReal (arg5 m c)
  h6 : AllReal (arg6 m c)

variable {m c}

theorem tile (h : Finite m c) (t : Fin cfg0.N) : Tile m c t (fun i l => row3 (arg0 m c) (256 * t.val + i) l) (rd2 (arg2 m c)) (fun k l => rd2 (arg3 m c) l k)
    (rd2 (arg4 m c)) (rd2 (arg5 m c)) (fun _ l => rd1 (arg6 m c) l) (fun i l => row3 (arg1 m c) (256 * t.val + i) l) where
  h0 := blk0 m c t h.h0
  h1 := blk1 m c t h.h2
  h2 := blk2 m c t h.h3
  h3 := blk3 m c t h.h4
  h4 := blk4 m c t h.h5
  h5 := blk5 m c t h.h6
  h6 := blk6 m c t h.h1

/-! ## The rows of the tile before -/

section Rows
variable (m c)

/-- The formulas of the reference, of this kernel's arguments. -/
abbrev uppA (r j : ℕ) : ℝ := upp (arg0 m c) (arg2 m c) (arg3 m c) r j
abbrev filtA (r j : ℕ) : ℝ := up (arg0 m c) (arg2 m c) (arg3 m c) (arg4 m c) r j
abbrev resA (r l : ℕ) : ℝ := res (arg0 m c) (arg2 m c) (arg3 m c) (arg4 m c) (arg5 m c) r l
abbrev difA (r l : ℕ) : ℝ := dif (arg0 m c) (arg1 m c) (arg2 m c) (arg3 m c) (arg4 m c) (arg5 m c) (arg6 m c) r l
abbrev lossA (r : ℕ) : ℝ := lossTerm (arg0 m c) (arg1 m c) (arg2 m c) (arg3 m c) (arg4 m c) (arg5 m c) (arg6 m c) r
abbrev scaleA (l r : ℕ) : ℝ := scaleTerm (arg0 m c) (arg1 m c) (arg2 m c) (arg3 m c) (arg4 m c) (arg5 m c) (arg6 m c) l r

/-- The last eight rows of the tile before; none before a sequence's first tile. -/
def prev (n i j : ℕ) : ℝ := if n % 8 = 0 then 0 else uppA m c (256 * n - 8 + i) j

end Rows

theorem held (h : Finite m c) (t : Fin cfg0.N) : Held0 m c t (prev m c t.val) := by
  unfold Held0
  split
  · next e => funext i j; exact if_pos e
  · next e =>
    have ht : t.val < 32 := t.isLt
    refine (scratch (tile h ⟨t.val - 1, by omega⟩)).congr fun i j _ _ => ?_
    unfold prev
    rw [if_neg e]
    show uppA m c (256 * (t.val - 1) + (248 + i)) j = _
    rw [show 256 * (t.val - 1) + (248 + i) = 256 * t.val - 8 + i by omega]

theorem bk_tile (N k i j : ℕ) (hi : i < 256) (hk : k ≤ 2) :
    bk k (fun i j => uppA m c (256 * N + i) j) (prev m c N) i j = back k (uppA m c) (256 * N + i) j := by
  unfold bk back prev
  by_cases e : N % 8 = 0
  · by_cases a : k ≤ i
    · rw [if_pos a, if_pos (by omega)]
      exact congrArg (uppA m c · j) (by omega)
    · rw [if_neg a, if_pos e, if_neg (by omega)]
  · rw [if_pos (show k ≤ (256 * N + i) % 2048 by omega)]
    by_cases a : k ≤ i
    · rw [if_pos a]
      exact congrArg (uppA m c · j) (by omega)
    · rw [if_neg a, if_neg e, show 256 * N - 8 + (8 + i - k) = 256 * N + i - k by omega]

theorem filt_tile (N i j : ℕ) (hi : i < 256) :
    filt (pj (fun i l => row3 (arg0 m c) (256 * N + i) l) (rd2 (arg2 m c)) (fun k l => rd2 (arg3 m c) l k)) (prev m c N) (rd2 (arg4 m c)) i j = filtA m c (256 * N + i) j := by
  show filt (fun i j => uppA m c (256 * N + i) j) (prev m c N) (rd2 (arg4 m c)) i j = _
  unfold filt
  rw [bk_tile N 2 i j hi (by norm_num), bk_tile N 1 i j hi (by norm_num)]
  rfl

theorem gate_tile (N i j : ℕ) (hi : i < 256) :
    gate (filt (pj (fun i l => row3 (arg0 m c) (256 * N + i) l) (rd2 (arg2 m c)) (fun k l => rd2 (arg3 m c) l k)) (prev m c N) (rd2 (arg4 m c))) i j = gate (filtA m c) (256 * N + i) j := by
  unfold gate
  rw [filt_tile N i j hi, filt_tile N i (2816 + j) hi]

theorem rows_tile (N i l : ℕ) (hi : i < 256) : rows (fun i l => row3 (arg0 m c) (256 * N + i) l) (rd2 (arg2 m c)) (fun k l => rd2 (arg3 m c) l k) (rd2 (arg4 m c)) (rd2 (arg5 m c)) (prev m c N) i l = resA m c (256 * N + i) l :=
  congrArg (row3 (arg0 m c) (256 * N + i) l + ·) (Finset.sum_congr rfl fun k _ => congrArg (· * rd2 (arg5 m c) k l) (gate_tile N i k hi))

theorem inv_row {x x' : ℕ → ℕ → ℝ} {r r' : ℕ} (hx : ∀ l, x r l = x' r' l) : Cert.Tables.inv x r = Cert.Tables.inv x' r' := by
  unfold Cert.Tables.inv
  simp only [hx]

theorem errs_tile (N i l : ℕ) (hi : i < 256) :
    errs (fun i l => row3 (arg0 m c) (256 * N + i) l) (rd2 (arg2 m c)) (fun k l => rd2 (arg3 m c) l k) (rd2 (arg4 m c)) (rd2 (arg5 m c)) (fun _ l => rd1 (arg6 m c) l) (fun i l => row3 (arg1 m c) (256 * N + i) l) (prev m c N) i l = difA m c (256 * N + i) l := by
  show rows (fun i l => row3 (arg0 m c) (256 * N + i) l) (rd2 (arg2 m c)) (fun k l => rd2 (arg3 m c) l k) (rd2 (arg4 m c)) (rd2 (arg5 m c)) (prev m c N) i l * inv (rows (fun i l => row3 (arg0 m c) (256 * N + i) l) (rd2 (arg2 m c)) (fun k l => rd2 (arg3 m c) l k) (rd2 (arg4 m c)) (rd2 (arg5 m c)) (prev m c N)) i * rd1 (arg6 m c) l - row3 (arg1 m c) (256 * N + i) l = _
  rw [inv_row (r := i) (r' := 256 * N + i) (x' := resA m c) (fun l => rows_tile N i l hi), rows_tile N i l hi]
  rfl

theorem loss_tile (N : ℕ) :
    ∑ i ∈ Finset.range 256, lossRow (errs (fun i l => row3 (arg0 m c) (256 * N + i) l) (rd2 (arg2 m c)) (fun k l => rd2 (arg3 m c) l k) (rd2 (arg4 m c)) (rd2 (arg5 m c)) (fun _ l => rd1 (arg6 m c) l) (fun i l => row3 (arg1 m c) (256 * N + i) l) (prev m c N)) i = ∑ i ∈ Finset.range 256, lossA m c (256 * N + i) :=
  Finset.sum_congr rfl fun i hi => by
    unfold lossRow
    simp only [errs_tile N i _ (Finset.mem_range.mp hi)]
    rfl

theorem scale_tile (N l : ℕ) :
    ∑ i ∈ Finset.range 256, errs (fun i l => row3 (arg0 m c) (256 * N + i) l) (rd2 (arg2 m c)) (fun k l => rd2 (arg3 m c) l k) (rd2 (arg4 m c)) (rd2 (arg5 m c)) (fun _ l => rd1 (arg6 m c) l) (fun i l => row3 (arg1 m c) (256 * N + i) l) (prev m c N) i l * (1 / 1024)
      * (rows (fun i l => row3 (arg0 m c) (256 * N + i) l) (rd2 (arg2 m c)) (fun k l => rd2 (arg3 m c) l k) (rd2 (arg4 m c)) (rd2 (arg5 m c)) (prev m c N) i l * inv (rows (fun i l => row3 (arg0 m c) (256 * N + i) l) (rd2 (arg2 m c)) (fun k l => rd2 (arg3 m c) l k) (rd2 (arg4 m c)) (rd2 (arg5 m c)) (prev m c N)) i)
      = ∑ i ∈ Finset.range 256, scaleA m c l (256 * N + i) :=
  Finset.sum_congr rfl fun i hi => by
    have hi := Finset.mem_range.mp hi
    rw [errs_tile N i l hi, inv_row (r := i) (r' := 256 * N + i) (x' := resA m c) (fun l => rows_tile N i l hi), rows_tile N i l hi]
    rfl

/-! ## The seven results -/

/-- The sum over the rows of the tiles `0 … n - 1`. -/
def upTo (f : ℕ → ℝ) (n : ℕ) : ℝ := ∑ r ∈ Finset.range (256 * n), f r

theorem upTo_zero (f : ℕ → ℝ) : upTo f 0 = 0 := Finset.sum_range_zero _

theorem upTo_succ (f : ℕ → ℝ) (n : ℕ) : upTo f n + ∑ i ∈ Finset.range 256, f (256 * n + i) = upTo f (n + 1) := by
  unfold upTo
  rw [show 256 * (n + 1) = 256 * n + 256 by ring, Finset.sum_range_add]

theorem upTo_all (f : ℕ → ℝ) : upTo f 32 = ∑ r ∈ Finset.range 8192, f r := rfl

theorem upto12 (h : Finite m c) : ∀ (n : ℕ) (hn : n < cfg0.N),
    IsMat (a := 8) (b := 128) (φ := .f32) (fun _ _ => 1 / 2 * upTo (lossA m c) (n + 1)) (outsAt0 m c n hn).2.2.2.2.2.1 := by
  intro n
  induction n with
  | zero =>
    intro hn
    have z : (fun _ _ => (0 : ℝ)) = prev m c 0 := funext fun i => funext fun j => (if_pos rfl).symm
    have b := block12_first (tile h ⟨0, hn⟩) rfl rfl
    rw [z] at b
    refine b.congr fun i j _ _ => ?_
    rw [← upTo_succ _ 0, upTo_zero, zero_add, zero_add]
    rw [loss_tile 0]
  | succ n ih =>
    intro hn
    have hn32 : n + 1 < 32 := hn
    have prior : ∀ (k : ℕ) (hk : k < cfg0.N), k = n →
        IsMat (a := 8) (b := 128) (φ := .f32) (fun _ _ => 1 / 2 * upTo (lossA m c) (n + 1)) (outsAt0 m c k hk).2.2.2.2.2.1 := by
      intro k hk e; subst e; exact ih hk
    refine (block12_next (tile h ⟨n + 1, hn⟩) (by show ¬ (n + 1) % 32 = 0; omega) (held h ⟨n + 1, hn⟩) (prior _ _ (Nat.add_sub_cancel n 1))).congr fun i j _ _ => ?_
    refine (congrArg (1 / 2 * upTo (lossA m c) (n + 1) + 1 / 2 * ·) (loss_tile (n + 1))).trans ?_
    rw [← upTo_succ _ (n + 1), left_distrib (1 / 2 : ℝ)]

theorem upto13 (h : Finite m c) : ∀ (n : ℕ) (hn : n < cfg0.N),
    IsMat (a := 8) (b := 1024) (φ := .f32) (firstRow fun l => upTo (scaleA m c l) (n + 1)) (outsAt0 m c n hn).2.2.2.2.2.2.1 := by
  intro n
  induction n with
  | zero =>
    intro hn
    have z : (fun _ _ => (0 : ℝ)) = prev m c 0 := funext fun i => funext fun j => (if_pos rfl).symm
    have b := block13_first (tile h ⟨0, hn⟩) rfl rfl
    rw [z] at b
    refine b.congr fun i j _ _ => ?_
    refine congrArg (fun y => firstRow y i j) (funext fun l => ?_)
    rw [← upTo_succ _ 0, upTo_zero]
    exact congrArg (0 + ·) (scale_tile 0 l)
  | succ n ih =>
    intro hn
    have hn32 : n + 1 < 32 := hn
    have prior : ∀ (k : ℕ) (hk : k < cfg0.N), k = n →
        IsMat (a := 8) (b := 1024) (φ := .f32) (firstRow fun l => upTo (scaleA m c l) (n + 1)) (outsAt0 m c k hk).2.2.2.2.2.2.1 := by
      intro k hk e; subst e; exact ih hk
    refine (block13_next (tile h ⟨n + 1, hn⟩) (by show ¬ (n + 1) % 32 = 0; omega) (held h ⟨n + 1, hn⟩) (prior _ _ (Nat.add_sub_cancel n 1))).congr fun i j _ _ => ?_
    refine congrArg (fun y => firstRow y i j) (funext fun l => ?_)
    rw [← upTo_succ _ (n + 1)]
    exact congrArg (_ + ·) (scale_tile (n + 1) l)

theorem normGrad_row {x x' d d' : ℕ → ℕ → ℝ} {r r' : ℕ} (hx : ∀ l, x r l = x' r' l) (hd : ∀ l, d r l = d' r' l) (l : ℕ) : normGrad x d r l = normGrad x' d' r' l := by
  unfold normGrad Cert.Tables.inv
  simp only [hx, hd]

theorem rows11 (h : Finite m c) (t : Fin cfg0.N) :
    IsMat (a := 256) (b := 1024) (φ := .f32) (fun i l => gradX (arg0 m c) (arg1 m c) (arg2 m c) (arg3 m c) (arg4 m c) (arg5 m c) (arg6 m c) (256 * t.val + i) l) (outsAt0 m c t.val t.isLt).2.2.2.2.1 :=
  (block11 (tile h t) (held h t)).congr fun i l hi _ =>
    normGrad_row (r := i) (r' := 256 * t.val + i) (x' := resA m c) (d' := fun r l => difA m c r l * (1 / 1024) * rd1 (arg6 m c) l) (fun l => rows_tile t.val i l hi)
      (fun l => congrArg (· * (1 / 1024) * rd1 (arg6 m c) l) (errs_tile t.val i l hi)) l

theorem final7 (h : Finite m c) : (dats m 0 c).arrAt 7 cfg0.N = outP (arg0 m c) (arg2 m c) (arg3 m c) := by
  refine (dats m 0 c).arrAt_eq_of_covers 7 _ (by decide +kernel) fun t hf y => ?_
  blk_simp
  rw [after0_7]
  obtain ⟨n, l, rfl⟩ : ∃ (n : Fin 256) (l : Fin 5632), y = ix2 n l := ⟨y 0, y 1, funext fun a => match a with | 0 => rfl | 1 => rfl⟩
  have ht : t.val < 32 := t.isLt
  have e0 : ((win0_7.blk t).view.emb (ix2 n l) 0 : ℕ) = 256 * t.val + n := by
    blk_simp
    rw [show win0_7.index t 0 = t.val from congrFun (idx7 t) 0]; omega
  have e1 : ((win0_7.blk t).view.emb (ix2 n l) 1 : ℕ) = l := by
    blk_simp
    rw [show win0_7.index t 1 = 0 from congrFun (idx7 t) 1]; omega
  refine (block7 (tile h t) n l).trans ?_
  show _ = ((uppA m c ((win0_7.blk t).view.emb (ix2 n l) 0 : ℕ) ((win0_7.blk t).view.emb (ix2 n l) 1 : ℕ) : ℝ) : EReal)
  rw [e0, e1]
  rfl

theorem final8 (h : Finite m c) : (dats m 0 c).arrAt 8 cfg0.N = outU (arg0 m c) (arg2 m c) (arg3 m c) (arg4 m c) := by
  refine (dats m 0 c).arrAt_eq_of_covers 8 _ (by decide +kernel) fun t hf y => ?_
  blk_simp
  rw [after0_8]
  obtain ⟨n, l, rfl⟩ : ∃ (n : Fin 256) (l : Fin 5632), y = ix2 n l := ⟨y 0, y 1, funext fun a => match a with | 0 => rfl | 1 => rfl⟩
  have ht : t.val < 32 := t.isLt
  have e0 : ((win0_8.blk t).view.emb (ix2 n l) 0 : ℕ) = 256 * t.val + n := by
    blk_simp
    rw [show win0_8.index t 0 = t.val from congrFun (idx8 t) 0]; omega
  have e1 : ((win0_8.blk t).view.emb (ix2 n l) 1 : ℕ) = l := by
    blk_simp
    rw [show win0_8.index t 1 = 0 from congrFun (idx8 t) 1]; omega
  refine (((block8 (tile h t) (held h t)).congr fun i j hi _ => filt_tile t.val i j hi) n l).trans ?_
  show _ = ((filtA m c ((win0_8.blk t).view.emb (ix2 n l) 0 : ℕ) ((win0_8.blk t).view.emb (ix2 n l) 1 : ℕ) : ℝ) : EReal)
  rw [e0, e1]

theorem final9 (h : Finite m c) : (dats m 0 c).arrAt 9 cfg0.N = outA (arg0 m c) (arg2 m c) (arg3 m c) (arg4 m c) := by
  refine (dats m 0 c).arrAt_eq_of_covers 9 _ (by decide +kernel) fun t hf y => ?_
  blk_simp
  rw [after0_9]
  obtain ⟨n, l, rfl⟩ : ∃ (n : Fin 256) (l : Fin 2816), y = ix2 n l := ⟨y 0, y 1, funext fun a => match a with | 0 => rfl | 1 => rfl⟩
  have ht : t.val < 32 := t.isLt
  have e0 : ((win0_9.blk t).view.emb (ix2 n l) 0 : ℕ) = 256 * t.val + n := by
    blk_simp
    rw [show win0_9.index t 0 = t.val from congrFun (idx9 t) 0]; omega
  have e1 : ((win0_9.blk t).view.emb (ix2 n l) 1 : ℕ) = l := by
    blk_simp
    rw [show win0_9.index t 1 = 0 from congrFun (idx9 t) 1]; omega
  refine (((block9 (tile h t) (held h t)).congr fun i j hi _ => gate_tile t.val i j hi) n l).trans ?_
  show _ = ((gate (filtA m c) ((win0_9.blk t).view.emb (ix2 n l) 0 : ℕ) ((win0_9.blk t).view.emb (ix2 n l) 1 : ℕ) : ℝ) : EReal)
  rw [e0, e1]

theorem final10 (h : Finite m c) : (dats m 0 c).arrAt 10 cfg0.N = outH (arg0 m c) (arg2 m c) := by
  refine (dats m 0 c).arrAt_eq_of_covers 10 _ (by decide +kernel) fun t hf y => ?_
  blk_simp
  rw [after0_10]
  obtain ⟨n, l, rfl⟩ : ∃ (n : Fin 256) (l : Fin 1024), y = ix2 n l := ⟨y 0, y 1, funext fun a => match a with | 0 => rfl | 1 => rfl⟩
  have ht : t.val < 32 := t.isLt
  have e0 : ((win0_10.blk t).view.emb (ix2 n l) 0 : ℕ) = 256 * t.val + n := by
    blk_simp
    rw [show win0_10.index t 0 = t.val from congrFun (idx10 t) 0]; omega
  have e1 : ((win0_10.blk t).view.emb (ix2 n l) 1 : ℕ) = l := by
    blk_simp
    rw [show win0_10.index t 1 = 0 from congrFun (idx10 t) 1]; omega
  refine (block10 (tile h t) n l).trans ?_
  show _ = ((nh (row3 (arg0 m c)) (rd2 (arg2 m c)) ((win0_10.blk t).view.emb (ix2 n l) 0 : ℕ) ((win0_10.blk t).view.emb (ix2 n l) 1 : ℕ) : ℝ) : EReal)
  rw [e0, e1]
  rfl

theorem final11 (h : Finite m c) : (dats m 0 c).arrAt 11 cfg0.N = outX (arg0 m c) (arg1 m c) (arg2 m c) (arg3 m c) (arg4 m c) (arg5 m c) (arg6 m c) := by
  refine (dats m 0 c).arrAt_eq_of_covers 11 _ (by decide +kernel) fun t hf y => ?_
  blk_simp
  rw [after0_11]
  obtain ⟨n, l, rfl⟩ : ∃ (n : Fin 256) (l : Fin 1024), y = ix2 n l := ⟨y 0, y 1, funext fun a => match a with | 0 => rfl | 1 => rfl⟩
  have ht : t.val < 32 := t.isLt
  have e0 : ((win0_11.blk t).view.emb (ix2 n l) 0 : ℕ) = 256 * t.val + n := by
    blk_simp
    rw [show win0_11.index t 0 = t.val from congrFun (idx11 t) 0]; omega
  have e1 : ((win0_11.blk t).view.emb (ix2 n l) 1 : ℕ) = l := by
    blk_simp
    rw [show win0_11.index t 1 = 0 from congrFun (idx11 t) 1]; omega
  refine (rows11 h t n l).trans ?_
  show _ = ((gradX (arg0 m c) (arg1 m c) (arg2 m c) (arg3 m c) (arg4 m c) (arg5 m c) (arg6 m c) ((win0_11.blk t).view.emb (ix2 n l) 0 : ℕ) ((win0_11.blk t).view.emb (ix2 n l) 1 : ℕ) : ℝ) : EReal)
  rw [e0, e1]

theorem last12 : ∀ t : Fin cfg0.N, (cfg0.win 12).flush t = true → t.val = 31 :=
  (by decide +kernel : ∀ t : Fin grid0.N, (cfg0.win 12).flush t = true → t.val = 31)

theorem final12 (h : Finite m c) : (dats m 0 c).arrAt 12 cfg0.N = outL (arg0 m c) (arg1 m c) (arg2 m c) (arg3 m c) (arg4 m c) (arg5 m c) (arg6 m c) := by
  refine (dats m 0 c).arrAt_eq_of_covers 12 _ (by decide +kernel) fun t hf y => ?_
  blk_simp
  rw [after0_12]
  obtain ⟨n, l, rfl⟩ : ∃ (n : Fin 8) (l : Fin 128), y = ix2 n l := ⟨y 0, y 1, funext fun a => match a with | 0 => rfl | 1 => rfl⟩
  have ht : t.val = 31 := last12 t hf
  refine (upto12 h t.val t.isLt n l).trans ?_
  show _ = ((1 / 2 * ∑ r ∈ Finset.range 8192, lossA m c r : ℝ) : EReal)
  simp only [ht, Nat.reduceAdd, upTo_all]

theorem last13 : ∀ t : Fin cfg0.N, (cfg0.win 13).flush t = true → t.val = 31 :=
  (by decide +kernel : ∀ t : Fin grid0.N, (cfg0.win 13).flush t = true → t.val = 31)

theorem final13 (h : Finite m c) : (dats m 0 c).arrAt 13 cfg0.N = outG (arg0 m c) (arg1 m c) (arg2 m c) (arg3 m c) (arg4 m c) (arg5 m c) (arg6 m c) := by
  refine (dats m 0 c).arrAt_eq_of_covers 13 _ (by decide +kernel) fun t hf y => ?_
  blk_simp
  rw [after0_13]
  obtain ⟨n, l, rfl⟩ : ∃ (n : Fin 8) (l : Fin 1024), y = ix2 n l := ⟨y 0, y 1, funext fun a => match a with | 0 => rfl | 1 => rfl⟩
  have ht : t.val = 31 := last13 t hf
  have e0 : ((win0_13.blk t).view.emb (ix2 n l) 0 : ℕ) = n := by
    blk_simp
    rw [show win0_13.index t 0 = 0 from congrFun (idx13 t) 0]; omega
  have e1 : ((win0_13.blk t).view.emb (ix2 n l) 1 : ℕ) = l := by
    blk_simp
    rw [show win0_13.index t 1 = 0 from congrFun (idx13 t) 1]; omega
  refine (upto13 h t.val t.isLt n l).trans ?_
  show _ = ((firstRow (fun l => ∑ r ∈ Finset.range 8192, scaleA m c l r) ((win0_13.blk t).view.emb (ix2 n l) 0 : ℕ) ((win0_13.blk t).view.emb (ix2 n l) 1 : ℕ) : ℝ) : EReal)
  rw [e0, e1]
  simp only [ht, Nat.reduceAdd, upTo_all]

end Cert.FfnFwdProof

end
-- ==== Proof.FfnFwd.Claim.lean ====
/- The feed-forward layer's forward pass with the loss and its gradients: the kernel and the reference end with equal results. -/
module

public import proofs.«01_k».proof.Proof.FfnFwd.Blocks
public import proofs.«01_k».proof.Proof.Gen.FfnFwdIdeal.Value
public import proofs.«01_k».proof.Proof.Gen.FfnFwdRefIdeal.Run
public import proofs.«01_k».proof.Proof.Gen.Pre_finite_ffnf
public import proofs.«01_k».proof.Defs

@[expose] public section

set_option maxRecDepth 16384

noncomputable section

namespace Cert.FfnFwdProof

open Idealize.ShloMosaic Idealize.ShloMosaic.TcCoe Idealize.SL.Sem
open Cert.Reals (AllReal allReal_of_finite)

/-- The precondition makes the seven arguments arrays of reals. -/
theorem args_real (m : (ℓ : Loc Cert.FfnFwdIdeal.nD Cert.FfnFwdIdeal.τ Cert.FfnFwdIdeal.sig) → Buf (Elt Ideal) ℓ)
    (h : Cert.Pre_FfnFwdIdeal_finite_ffnf m) (c : Dev Cert.FfnFwdIdeal.nD) : Finite m c := by
  have q := h c
  exact ⟨allReal_of_finite _ _ q.1 fun i => rfl, allReal_of_finite _ _ q.2.1 fun i => rfl, allReal_of_finite _ _ q.2.2.1 fun i => rfl,
    allReal_of_finite _ _ q.2.2.2.1 fun i => rfl, allReal_of_finite _ _ q.2.2.2.2.1 fun i => rfl, allReal_of_finite _ _ q.2.2.2.2.2.1 fun i => rfl,
    allReal_of_finite _ _ q.2.2.2.2.2.2 fun i => rfl⟩

/-- The reference runs, keeps its arguments and ends with every counter at zero: it has no semaphore. -/
theorem frame_ref : Cert.quiescent_FfnFwdRefIdeal := fun m g _ =>
  (θ_run Cert.FfnFwdRefIdeal.defs _ _).mono
    (fun r h => ⟨fun c => (h c).2.2.2.2.2.2.2, sem_eq_zero_of_no_sems (by decide) r.2⟩)
    (Cert.FfnFwdRefIdeal.Value.run (F := Ideal) m g)

/-- The value claim. -/
theorem algebraic : Cert.algebraic_FfnFwdIdeal_FfnFwdRefIdeal_pre_finite_ffnf := by
  intro m g m' g' hpre hargs
  refine ⟨fun c => outP (arg0 m c) (arg2 m c) (arg3 m c),
    fun c => outU (arg0 m c) (arg2 m c) (arg3 m c) (arg4 m c),
    fun c => outA (arg0 m c) (arg2 m c) (arg3 m c) (arg4 m c),
    fun c => outH (arg0 m c) (arg2 m c),
    fun c => outX (arg0 m c) (arg1 m c) (arg2 m c) (arg3 m c) (arg4 m c) (arg5 m c) (arg6 m c),
    fun c => outL (arg0 m c) (arg1 m c) (arg2 m c) (arg3 m c) (arg4 m c) (arg5 m c) (arg6 m c),
    fun c => outG (arg0 m c) (arg1 m c) (arg2 m c) (arg3 m c) (arg4 m c) (arg5 m c) (arg6 m c), ?_, ?_⟩
  · refine (θ_run Cert.FfnFwdIdeal.defs _ _).mono (fun r h c => ?_) (Cert.FfnFwdIdeal.Value.run_blocks (F := Ideal) m g)
    have q := args_real m hpre c
    exact ⟨(h c).1.trans (final7 q),
      (h c).2.1.trans (final8 q),
      (h c).2.2.1.trans (final9 q),
      (h c).2.2.2.1.trans (final10 q),
      (h c).2.2.2.2.1.trans (final11 q),
      (h c).2.2.2.2.2.1.trans (final12 q),
      (h c).2.2.2.2.2.2.1.trans (final13 q), (h c).2.2.2.2.2.2.2⟩
  · refine (θ_run Cert.FfnFwdRefIdeal.defs _ _).mono (fun r h c => ?_) (Cert.FfnFwdRefIdeal.Value.run (F := Ideal) m' g')
    obtain ⟨h0, h1, h2, h3, h4, h5, h6⟩ := args_real m hpre c
    obtain ⟨e0, e1, e2, e3, e4, e5, e6⟩ := hargs c
    have e0 : StableHlo.launchContents m' c (Proc.tc.devRef Cert.FfnFwdRefIdeal.main_arg0) = arg0 m c := e0
    have e1 : StableHlo.launchContents m' c (Proc.tc.devRef Cert.FfnFwdRefIdeal.main_arg1) = arg1 m c := e1
    have e2 : StableHlo.launchContents m' c (Proc.tc.devRef Cert.FfnFwdRefIdeal.main_arg2) = arg2 m c := e2
    have e3 : StableHlo.launchContents m' c (Proc.tc.devRef Cert.FfnFwdRefIdeal.main_arg3) = arg3 m c := e3
    have e4 : StableHlo.launchContents m' c (Proc.tc.devRef Cert.FfnFwdRefIdeal.main_arg4) = arg4 m c := e4
    have e5 : StableHlo.launchContents m' c (Proc.tc.devRef Cert.FfnFwdRefIdeal.main_arg5) = arg5 m c := e5
    have e6 : StableHlo.launchContents m' c (Proc.tc.devRef Cert.FfnFwdRefIdeal.main_arg6) = arg6 m c := e6
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · rw [Cert.FfnFwdRefIdeal.Read.val_main_v95_eq, e0, e2, e3]
      exact ref_outP h0 h2 h3
    · rw [Cert.FfnFwdRefIdeal.Read.val_main_v97_eq, e0, e2, e3, e4]
      exact ref_outU h0 h2 h3 h4
    · rw [Cert.FfnFwdRefIdeal.Read.val_main_v99_eq, e0, e2, e3, e4]
      exact ref_outA h0 h2 h3 h4
    · rw [Cert.FfnFwdRefIdeal.Read.val_main_v101_eq, e0, e2]
      exact ref_outH h0 h2
    · rw [Cert.FfnFwdRefIdeal.Read.val_main_v102_eq, e0, e1, e2, e3, e4, e5, e6]
      exact ref_outX h0 h1 h2 h3 h4 h5 h6
    · rw [Cert.FfnFwdRefIdeal.Read.val_main_v103_eq, e0, e1, e2, e3, e4, e5, e6]
      exact ref_outL h0 h1 h2 h3 h4 h5 h6
    · rw [Cert.FfnFwdRefIdeal.Read.val_main_v105_eq, e0, e1, e2, e3, e4, e5, e6]
      exact ref_outG h0 h1 h2 h3 h4 h5 h6

end Cert.FfnFwdProof

end
-- ==== Proof.AttnFwd.Ops.lean ====
/- One query tile of the attention's forward kernel, as a function of the key prefix's length. -/
module

public import proofs.«01_k».proof.Proof.Gen.AttnFwdIdeal.Value
public import proofs.«01_k».proof.Proof.Attn.Ops
public import Idealize.ShloMosaic.Lib.Pipeline.ValueKit

@[expose] public section

set_option maxRecDepth 16384

noncomputable section

namespace Cert.AttnFwdProof

open Cert.AttnFwdIdeal Cert.AttnFwdIdeal.Gen Idealize.ShloMosaic Idealize.ShloMosaic.TcCoe Idealize.SL.Sem
open Cert.AttnProof (S2)

/-- What the tile's operations ask of the shapes when the tile starts at row `o` and sees `K` keys. -/
structure Sides (o K : ℕ) : Prop where
  iota0 : (S2 512 K).Iotas .tc 32 [0]
  iota1 : (S2 512 K).Iotas .tc 32 [1]
  col : S512x1.Broadcasts (S2 512 K)
  row : (S2 1 K).Broadcasts (S2 512 K)
  red : (S2 512 K).Reduces [1] S512
  cast4 : (⟨4, ![1, 1, 1, K]⟩ : Shape).ShapeCasts (S2 1 K)
  keys : (S2 K 128).ShapeCasts (S2 K 128)
  inbQ : ∀ a, (![o, 0] : Fin 2 → ℕ) a + S512x128.size a ≤ S2048x128.size a
  inbK : ∀ a, (![0, 0] : Fin 2 → ℕ) a + (S2 K 128).size a ≤ S2048x128.size a
  inbF0 : ∀ a, (![0, 0, 0, 0] : Fin 4 → ℕ) a + (⟨4, ![1, 1, 1, K]⟩ : Shape).size a ≤ S1x1x8x2048.size a
  inbF1 : ∀ a, (![0, 0, 1, 0] : Fin 4 → ℕ) a + (⟨4, ![1, 1, 1, K]⟩ : Shape).size a ≤ S1x1x8x2048.size a

theorem sides0 : Sides 0 512 := ⟨iota_S512x512_d0_w32, iota_S512x512_d1_w32, broadcasts_S512x1_S512x512, broadcasts_S1x512_S512x512, reduces_S512x512_S512, shapeCasts_S1x1x1x512_S1x512, shapeCasts_S512x128_S512x128, inb_S2048x128_S512x128_0_0, inb_S2048x128_S512x128_0_0, inb_S1x1x8x2048_S1x1x1x512_0_0_0_0, inb_S1x1x8x2048_S1x1x1x512_0_0_1_0⟩
theorem sides1 : Sides 512 1024 := ⟨iota_S512x1024_d0_w32, iota_S512x1024_d1_w32, broadcasts_S512x1_S512x1024, broadcasts_S1x1024_S512x1024, reduces_S512x1024_S512, shapeCasts_S1x1x1x1024_S1x1024, shapeCasts_S1024x128_S1024x128, inb_S2048x128_S512x128_512_0, inb_S2048x128_S1024x128_0_0, inb_S1x1x8x2048_S1x1x1x1024_0_0_0_0, inb_S1x1x8x2048_S1x1x1x1024_0_0_1_0⟩
theorem sides2 : Sides 1024 1536 := ⟨iota_S512x1536_d0_w32, iota_S512x1536_d1_w32, broadcasts_S512x1_S512x1536, broadcasts_S1x1536_S512x1536, reduces_S512x1536_S512, shapeCasts_S1x1x1x1536_S1x1536, shapeCasts_S1536x128_S1536x128, inb_S2048x128_S512x128_1024_0, inb_S2048x128_S1536x128_0_0, inb_S1x1x8x2048_S1x1x1x1536_0_0_0_0, inb_S1x1x8x2048_S1x1x1x1536_0_0_1_0⟩
theorem sides3 : Sides 1536 2048 := ⟨iota_S512x2048_d0_w32, iota_S512x2048_d1_w32, broadcasts_S512x1_S512x2048, broadcasts_S1x2048_S512x2048, reduces_S512x2048_S512, shapeCasts_S1x1x1x2048_S1x2048, shapeCasts_S2048x128_S2048x128, inb_S2048x128_S512x128_1536_0, inb_S2048x128_S2048x128_0_0, inb_S1x1x8x2048_S1x1x1x2048_0_0_0_0, inb_S1x1x8x2048_S1x1x1x2048_0_0_1_0⟩

section Def
variable {F : FTy → Type} [FloatOps F]

/-- The lanes from `lo` up to `hi`, in every row. -/
def lanes (lo hi : BitVec 32) : IVec S512x128 1 :=
  broadcastTo S512x128 (shapeCast S1x128 (andi (cmpi .sge (iota .tc S1x128 32 [1] iota_S1x128_d1_w32) (broadcast S1x128 lo))
    (cmpi .slt (iota .tc S1x128 32 [1] iota_S1x128_d1_w32) (broadcast S1x128 hi))) shapeCasts_S1x128_S1x128) broadcasts_S1x128_S512x128

/-- Lane `g`, in every row. -/
def lane (g : BitVec 32) : IVec S512x128 1 :=
  broadcastTo S512x128 (shapeCast S1x128 (cmpi .eq (iota .tc S1x128 32 [1] iota_S1x128_d1_w32) (broadcast S1x128 g)) shapeCasts_S1x128_S1x128) broadcasts_S1x128_S512x128

/-- A head's queries, scaled: the other head's lanes are zero. -/
def headQ (lo hi : BitVec 32) (X : FVec F S512x128 .bf16) : FVec F S512x128 .bf16 :=
  mulf (select (lanes lo hi) (shapeCast S512x128 X shapeCasts_S512x128_S512x128) (broadcast S512x128 (Scalar.sitofp .bf16 0#32)))
    (broadcast S512x128 (Scalar.ofBits .bf16 0x3E00#16))

/-- Lane `g` of every row, as a column. -/
def pick (g : BitVec 32) (X : FVec F S512x128 .f32) : FVec F S512x1 .f32 :=
  shapeCast S512x1 (multiReduction .add [1] S512
    (select (lane g) (shapeCast S512x128 X shapeCasts_S512x128_S512x128) (broadcast S512x128 (Scalar.ofBits .f32 0x00000000#32)))
    0x00000000#32 reduces_S512x128_S512 (.inl rfl) rfl) shapeCasts_S512_S512x1

/-- A column, set into lane `g`. -/
def setL (g : BitVec 32) (x : FVec F S512x1 .f32) (z : FVec F S512x128 .f32) : FVec F S512x128 .f32 :=
  select (lane g) (broadcastTo S512x128 (shapeCast S512x1 x shapeCasts_S512x1_S512x1) broadcasts_S512x1_S512x128) z

variable {o K : ℕ} (h : Sides o K)

/-- The rows from `o` on of a block of 2048. -/
def rowsQ {e : EltTy} (X : Vec F S2048x128 e) : Vec F S512x128 e := View.ld (Val := Elt F) X (Rect.unit (s := S2048x128) ![o, 0] S512x128.size h.inbQ)

/-- The first `K` rows of a block of 2048. -/
def rowsK {e : EltTy} (X : Vec F S2048x128 e) : Vec F (S2 K 128) e := View.ld (Val := Elt F) X (Rect.unit (s := S2048x128) ![0, 0] (S2 K 128).size h.inbK)

/-- The tile's scores, masked. -/
def scores [Named F] (o32 lo hi g : BitVec 32) (q : FVec F S512x128 .bf16) (k : FVec F (S2 K 128) .bf16) (fc : FVec F S512x128 .f32)
    (fr : FVec F ⟨4, ![1, 1, 1, K]⟩ .f32) : FVec F (S2 512 K) .f32 :=
  select (cmpi .sle (iota .tc (S2 512 K) 32 [1] h.iota1) (addi (broadcast (S2 512 K) o32) (iota .tc (S2 512 K) 32 [0] h.iota0)))
    (subf (addf (matmul (DotDims.transposedRhs 512 128 K) none (headQ lo hi q) (shapeCast (S2 K 128) k h.keys) (constant (S2 512 K) .f32 0x00000000#32))
        (broadcastTo (S2 512 K) (pick g fc) h.col)) (broadcastTo (S2 512 K) (shapeCast (S2 1 K) fr h.cast4) h.row))
    (broadcast (S2 512 K) (Named.named κ "mask" 0xF149F2CA#32))

/-- The largest score of each row. -/
def tops (s : FVec F (S2 512 K) .f32) : FVec F S512x1 .f32 :=
  shapeCast S512x1 (multiReduction .maximumf [1] S512 s 0xFF800000#32 h.red (.inl rfl) rfl) shapeCasts_S512_S512x1

/-- The exponentials of the scores less the row's largest. -/
def expos (s : FVec F (S2 512 K) .f32) : FVec F (S2 512 K) .f32 := exp (subf s (broadcastTo (S2 512 K) (tops h s) h.col))

/-- The sum of each row's exponentials. -/
def sums (p : FVec F (S2 512 K) .f32) : FVec F S512x1 .f32 :=
  shapeCast S512x1 (multiReduction .add [1] S512 p 0x00000000#32 h.red (.inl rfl) rfl) shapeCasts_S512_S512x1

/-- One head's weighted values, set into the head's lanes. -/
def setO (lo hi : BitVec 32) (p : FVec F (S2 512 K) .f32) (v : FVec F (S2 K 128) .bf16) (z : FVec F S512x128 .f32) : FVec F S512x128 .f32 :=
  select (lanes lo hi) (divf (matmul (DotDims.plain 512 K 128) none (truncf .bf16 p bitsLt_bf16_f32) (shapeCast (S2 K 128) v h.keys) (constant S512x128 .f32 0x00000000#32))
    (broadcastTo S512x128 (sums h p) broadcasts_S512x1_S512x128)) z

/-- A row's log-sum-exp. -/
def logs (s : FVec F (S2 512 K) .f32) : FVec F S512x1 .f32 := addf (tops h s) (log (sums h (expos h s)))

end Def

/-- The blocks that a grid point reads, and its group of heads. -/
structure Blocks (F : FTy → Type) where
  q : Vec F S2048x128 .bf16
  k : Vec F S2048x128 .bf16
  v : Vec F S2048x128 .bf16
  fc : Vec F S2048x128 .f32
  fr : Vec F S1x1x8x2048 .f32
  g : BitVec 32

section Blocks
variable {F : FTy → Type} [FloatOps F] [Named F] {o K : ℕ} (h : Sides o K) (b : Blocks F) (o32 : BitVec 32) (k v : FVec F (S2 K 128) .bf16)

/-- The lane of head `e` of the point's group. -/
def Blocks.lane (e : BitVec 32) : BitVec 32 := Scalar.addi (Scalar.muli b.g 2#32) e

def Blocks.s0 : FVec F (S2 512 K) .f32 := scores h o32 0#32 64#32 (b.lane 0#32) (rowsQ h b.q) k (rowsQ h b.fc)
  (View.ld (Val := Elt F) b.fr (Rect.unit (s := S1x1x8x2048) ![0, 0, 0, 0] (⟨4, ![1, 1, 1, K]⟩ : Shape).size h.inbF0))
def Blocks.s1 : FVec F (S2 512 K) .f32 := scores h o32 64#32 128#32 (b.lane 1#32) (rowsQ h b.q) k (rowsQ h b.fc)
  (View.ld (Val := Elt F) b.fr (Rect.unit (s := S1x1x8x2048) ![0, 0, 1, 0] (⟨4, ![1, 1, 1, K]⟩ : Shape).size h.inbF1))
/-- The tile of the attention's output. -/
def Blocks.out : FVec F S512x128 .bf16 :=
  truncf .bf16 (setO h 64#32 128#32 (expos h (b.s1 h o32 k)) v (setO h 0#32 64#32 (expos h (b.s0 h o32 k)) v (broadcast S512x128 (Scalar.ofBits .f32 0x00000000#32)))) bitsLt_bf16_f32
/-- The tile of the log-sum-exp, over what was there. -/
def Blocks.lse (z : FVec F S512x128 .f32) : FVec F S512x128 .f32 :=
  setL (b.lane 1#32) (logs h (b.s1 h o32 k)) (setL (b.lane 0#32) (logs h (b.s0 h o32 k)) (shapeCast S512x128 z shapeCasts_S512x128_S512x128))

end Blocks

end Cert.AttnFwdProof

end
-- ==== Proof.AttnFwd.Run.lean ====
/- What the body leaves in its two output blocks, as a chain of tiles. -/
module

public import proofs.«01_k».proof.Proof.AttnFwd.Ops

@[expose] public section

set_option maxRecDepth 16384

noncomputable section

namespace Cert.AttnFwdProof

open Cert.AttnFwdIdeal Cert.AttnFwdIdeal.Gen Idealize.ShloMosaic Idealize.ShloMosaic.TcCoe Idealize.SL.Sem
open Cert.AttnProof (S2)

variable {F : FTy → Type} [FloatOps F] [Named F]

/-- The pieces written to a table of 2048 rows. -/
abbrev Pieces (F : FTy → Type) (e : EltTy) := List (View.Piece (Elt F) S2048x128 e)

variable {o K : ℕ} (h : Sides o K) (b : Blocks F) (o32 : BitVec 32)

/-- The tile's rows as a rectangle. -/
abbrev Sides.rect (h : Sides o K) : Rect S2048x128 := Rect.unit (s := S2048x128) ![o, 0] S512x128.size h.inbQ

/-- A tile's rows, as they are stored. -/
def piece {e : EltTy} (h : Sides o K) (x : Vec F S512x128 e) : View.Piece (Elt F) S2048x128 e := ⟨h.rect, x⟩

/-- The four tiles of the attention's output. -/
def Blocks.chainO : Pieces F .bf16 :=
  [piece sides3 (b.out sides3 1536#32 b.k b.v), piece sides2 (b.out sides2 1024#32 (rowsK sides2 b.k) (rowsK sides2 b.v)),
   piece sides1 (b.out sides1 512#32 (rowsK sides1 b.k) (rowsK sides1 b.v)), piece sides0 (b.out sides0 0#32 (rowsK sides0 b.k) (rowsK sides0 b.v))]

/-- The first piece of the log-sum-exp at a sequence's first group: zeros. -/
def zeros : Pieces F .f32 := [⟨Rect.unit (s := S2048x128) ![0, 0] S2048x128.size inb_S2048x128_S2048x128_0_0, k0_pay1⟩]

/-- One tile of the log-sum-exp at a sequence's first group, over what it reads of the pieces before. -/
def Blocks.over {sp : Space} (V : View sig .tc sp S2048x128 .f32) (k : FVec F (S2 K 128) .bf16) (L : Pieces F .f32) : Pieces F .f32 :=
  piece h (b.lse h o32 k (V.readCov L h.rect.toLoadRect)) :: L

/-- The log-sum-exp at a sequence's first group. -/
def Blocks.chainA {sp : Space} (V : View sig .tc sp S2048x128 .f32) : Pieces F .f32 :=
  b.over sides3 1536#32 V b.k (b.over sides2 1024#32 V (rowsK sides2 b.k) (b.over sides1 512#32 V (rowsK sides1 b.k) (b.over sides0 0#32 V (rowsK sides0 b.k) zeros)))

/-- The log-sum-exp at a later group, over the block of the group before. -/
def Blocks.chainB (z : Vec F S2048x128 .f32) : Pieces F .f32 :=
  [piece sides3 (b.lse sides3 1536#32 b.k (rowsQ sides3 z)), piece sides2 (b.lse sides2 1024#32 (rowsK sides2 b.k) (rowsQ sides2 z)),
   piece sides1 (b.lse sides1 512#32 (rowsK sides1 b.k) (rowsQ sides1 z)), piece sides0 (b.lse sides0 0#32 (rowsK sides0 b.k) (rowsQ sides0 z))]

/-! ## The generated terms are these chains -/

variable (m : (ℓ : Loc nD τ sig) → Buf (Elt F) ℓ) (c : Dev nD) (t : Fin cfg0.N)

/-- The blocks of grid point `t`. -/
@[reducible] def blks : Blocks F := ⟨iblk m c 0 t, iblk m c 1 t, iblk m c 2 t, iblk m c 3 t, iblk m c 4 t, BitVec.ofNat 32 ((grid0.coords t) 1)⟩

theorem over_step {sp : Space} {V : View sig .tc sp S2048x128 .f32} {k : FVec F (S2 K 128) .bf16} {L L' : Pieces F .f32} {x : h.rect.shape.Idx → Elt F .f32}
    (hx : x = b.lse h o32 k (V.readCov L h.rect.toLoadRect)) (hL : L = L') : (⟨h.rect, x⟩ :: L : Pieces F .f32) = b.over h o32 V k L' := by
  subst hL hx; rfl

set_option maxHeartbeats 1000000 in
theorem out_o : (outsAt0 m c t.val t.isLt).1 = View.canon (blks m c t).chainO := by
  by_cases h0 : t.val % 4 = 0
  · rw [outsAt0_A m c t h0]; frame_out; delta blks
    generalize iblk m c 0 t = q; generalize iblk m c 1 t = k; generalize iblk m c 2 t = v; generalize iblk m c 3 t = fc; generalize iblk m c 4 t = fr
    generalize grid0.coords t = g; rfl
  · rw [outsAt0_B m c t h0]; frame_out; delta blks
    generalize iblk m c 0 t = q; generalize iblk m c 1 t = k; generalize iblk m c 2 t = v; generalize iblk m c 3 t = fc; generalize iblk m c 4 t = fr
    generalize grid0.coords t = g; rfl

set_option maxHeartbeats 1000000 in
theorem out_B (h0 : ¬ t.val % 4 = 0) : (outsAt0 m c t.val t.isLt).2
    = View.canon ((blks m c t).chainB (outsAt0 m c (t.val - 1) (Nat.lt_of_le_of_lt (Nat.sub_le _ _) t.isLt)).2) := by
  rw [outsAt0_B m c t h0]; frame_out; delta blks
  generalize (outsAt0 m c (t.val - 1) _).2 = z
  generalize iblk m c 0 t = q; generalize iblk m c 1 t = k; generalize iblk m c 2 t = v; generalize iblk m c 3 t = fc; generalize iblk m c 4 t = fr
  generalize grid0.coords t = g; rfl

set_option maxHeartbeats 1000000 in
theorem out_A (h0 : t.val % 4 = 0) : (outsAt0 m c t.val t.isLt).2 = View.canon ((blks m c t).chainA (ms0_6 t).view) := by
  rw [outsAt0_A m c t h0]; frame_out; delta blks Blocks.chainA
  refine congrArg View.canon ?_
  iterate 4 refine over_step _ _ _ (by
    generalize View.readCov (Val := Elt F) _ _ _ = z
    generalize iblk m c 0 t = q; generalize iblk m c 1 t = k; generalize iblk m c 2 t = v; generalize iblk m c 3 t = fc; generalize iblk m c 4 t = fr
    generalize grid0.coords t = g; rfl) ?_
  rfl

end Cert.AttnFwdProof

end
-- ==== Proof.AttnFwd.Tile.lean ====
/- One query tile over the reals: the masked scores, the softmax's row sums, the weighted values and the log-sum-exp. -/
module

public import proofs.«01_k».proof.Proof.AttnFwd.Ops
public import proofs.«01_k».proof.Proof.Attn.Tile

@[expose] public section

set_option maxRecDepth 16384

noncomputable section

namespace Cert.AttnFwdProof

open Cert.AttnFwdIdeal Cert.AttnFwdIdeal.Gen Idealize.ShloMosaic Idealize.ShloMosaic.TcCoe
open Cert.AttnProof (S2 IsMat IsRow msk eighth_bf16 zero_f32 sum_coe cast_self isMat_dotT sle_apply row_apply)

/-- `lanes lo hi` are the lanes of head `e` of the two. -/
def IsHead (lo hi : BitVec 32) (e : ℕ) : Prop := ∀ (r : Fin 512) (l : Fin 128), lanes lo hi (ix2 r l) = if (l : ℕ) / 64 = e then 1#1 else 0#1

theorem isHead0 : IsHead 0#32 64#32 0 := by
  intro r l
  have h : lanes 0#32 64#32 (ix2 r l) = IntOp.andi (IntOp.cmpi .sge (BitVec.ofNat 32 (l : ℕ)) 0#32) (IntOp.cmpi .slt (BitVec.ofNat 32 (l : ℕ)) 64#32) := by
    pointwise [lanes]
  rw [h]; clear h; revert l; decide +kernel

theorem isHead1 : IsHead 64#32 128#32 1 := by
  intro r l
  have h : lanes 64#32 128#32 (ix2 r l) = IntOp.andi (IntOp.cmpi .sge (BitVec.ofNat 32 (l : ℕ)) 64#32) (IntOp.cmpi .slt (BitVec.ofNat 32 (l : ℕ)) 128#32) := by
    pointwise [lanes]
  rw [h]; clear h; revert l; decide +kernel

theorem lane_apply {g : ℕ} (hg : g < 128) (r : Fin 512) (l : Fin 128) : lane (BitVec.ofNat 32 g) (ix2 r l) = if (l : ℕ) = g then 1#1 else 0#1 := by
  have h : lane (BitVec.ofNat 32 g) (ix2 r l) = IntOp.cmpi .eq (BitVec.ofNat 32 (l : ℕ)) (BitVec.ofNat 32 g) := by
    pointwise [lane]
  rw [h]
  by_cases c : (l : ℕ) = g
  · rw [c, if_pos rfl]; simp [IntOp.cmpi]
  · have : BitVec.ofNat 32 (l : ℕ) ≠ BitVec.ofNat 32 g := by
      intro e
      have := congrArg BitVec.toNat e
      simp only [BitVec.toNat_ofNat] at this
      have := l.isLt
      omega
    rw [if_neg c]; simp [IntOp.cmpi, beq_eq_false_iff_ne.mpr this]

variable {lo hi : BitVec 32} {e K o : ℕ} {x : ℕ → ℕ → ℝ}

theorem isMat_headQ (hl : IsHead lo hi e) {X : FVec Ideal S512x128 .bf16} (hX : IsMat x X) : IsMat (fun i l => msk e x i l * (1 / 8)) (headQ lo hi X) := by
  intro r l
  have h : headQ lo hi X (ix2 r l) = (if lanes lo hi (ix2 r l) = 1#1 then X (ix2 r l) else 0) * Ideal.ofBits .bf16 0x3E00#16 := by
    pointwise [headQ]
    rw [show (((0#32 : BitVec 32).toInt : ℝ) : EReal) = 0 by simp]
    rfl
  rw [h, hl r l, hX r l, eighth_bf16]
  beta_reduce; unfold msk
  by_cases c : (l : ℕ) / 64 = e
  · rw [if_pos c, if_pos rfl, if_pos c, ← EReal.coe_mul]
  · rw [if_neg c, if_neg (by decide), if_neg c, zero_mul, zero_mul, EReal.coe_zero]

theorem pick_apply {X : FVec Ideal S512x128 .f32} (hX : IsMat x X) {g : ℕ} (hg : g < 128) (r : Fin 512) :
    pick (BitVec.ofNat 32 g) X (ix2 r 0) = ((x r g : ℝ) : EReal) := by
  have h : pick (BitVec.ofNat 32 g) X (ix2 r 0) = ∑ l : Fin 128, if lane (BitVec.ofNat 32 g) (ix2 r l) = 1#1 then X (ix2 r l) else 0 := by
    pointwise [pick]
    rfl
  rw [h, Finset.sum_eq_single (⟨g, hg⟩ : Fin 128)]
  · rw [lane_apply hg, if_pos rfl, if_pos rfl]; exact hX r _
  · intro l _ hl
    rw [lane_apply hg, if_neg (fun e => hl (Fin.ext e)), if_neg (by decide)]
  · intro hn; exact absurd (Finset.mem_univ _) hn

theorem col_apply {X : FVec Ideal S512x1 .f32} (h : S512x1.Broadcasts (S2 512 K)) (i : Fin 512) (j : Fin K) :
    broadcastTo (S2 512 K) X h (ix2 i j) = X (ix2 i 0) :=
  broadcastTo_apply X h _ _ fun a => match a with | ⟨0, _⟩ => rfl | ⟨1, _⟩ => rfl

theorem rowb_apply {X : FVec Ideal (S2 1 K) .f32} (h : (S2 1 K).Broadcasts (S2 512 K)) (i : Fin 512) (j : Fin K) :
    broadcastTo (S2 512 K) X h (ix2 i j) = X (ix2 0 j) :=
  broadcastTo_apply X h _ _ fun a => match a with
    | ⟨0, _⟩ => rfl
    | ⟨1, _⟩ => by
      show (j : ℕ) = if K = 1 then 0 else (j : ℕ)
      split
      · have := j.isLt; omega
      · rfl

theorem unit_apply {X : FVec Ideal S512 .f32} (h : S512.ShapeCasts S512x1) (i : Fin 512) : shapeCast S512x1 X h (ix2 i 0) = X (ix1 i) :=
  shapeCast_apply X h _ _ (by
    rw [Shape.rowMajor_val_two, Shape.rowMajor_val_one]
    show (i : ℕ) = i * 1 + 0
    omega)

variable (h : Sides o K)

/-- The score of a tile's row and a key. -/
def tileS (e g : ℕ) (q k fc : ℕ → ℕ → ℝ) (fr : ℕ → ℝ) (i j : ℕ) : ℝ := (∑ l ∈ Finset.range 128, msk e q i l * (1 / 8) * k j l) + fc i g - fr j

/-- A table holds the scores `s` where the key lies at or before the row, and −∞ elsewhere; the rows start at `o`. -/
def Masked (o : ℕ) (s : ℕ → ℕ → ℝ) (X : (S2 512 K).Idx → EReal) : Prop :=
  ∀ (i : Fin 512) (j : Fin K), X (ix2 i j) = if (j : ℕ) ≤ o + i then ((s i j : ℝ) : EReal) else ⊥

theorem masked_scores (hl : IsHead lo hi e) {g : ℕ} (hg : g < 128) (hK : K ≤ 2048) (ho : o ≤ 1536) {q k fc : ℕ → ℕ → ℝ} {fr : ℕ → ℝ}
    {Q : FVec Ideal S512x128 .bf16} {X : FVec Ideal (S2 K 128) .bf16} {C : FVec Ideal S512x128 .f32} {R : FVec Ideal ⟨4, ![1, 1, 1, K]⟩ .f32}
    (hQ : IsMat q Q) (hX : IsMat k X) (hC : IsMat fc C) (hR : IsRow fr R) :
    Masked o (tileS e g q k fc fr) (scores h (BitVec.ofNat 32 o) lo hi (BitVec.ofNat 32 g) Q X C R) := by
  intro i j
  have hh : scores h (BitVec.ofNat 32 o) lo hi (BitVec.ofNat 32 g) Q X C R (ix2 i j)
      = if IntOp.cmpi .sle (BitVec.ofNat 32 (j : ℕ)) (IntOp.addi (BitVec.ofNat 32 o) (BitVec.ofNat 32 (i : ℕ))) = 1#1
        then matmul (DotDims.transposedRhs 512 128 K) none (headQ lo hi Q) (shapeCast (S2 K 128) X h.keys) (constant (S2 512 K) .f32 0x00000000#32) (ix2 i j)
          + broadcastTo (S2 512 K) (pick (BitVec.ofNat 32 g) C) h.col (ix2 i j) - broadcastTo (S2 512 K) (shapeCast (S2 1 K) R h.cast4) h.row (ix2 i j)
        else (Named.named (F := Ideal) κ "mask" (φ := .f32) 0xF149F2CA#32 : EReal) := by
    unfold scores
    generalize matmul (F := Ideal) (DotDims.transposedRhs 512 128 K) none _ _ _ = a
    generalize broadcastTo (S2 512 K) (pick (F := Ideal) _ _) _ = b
    generalize broadcastTo (S2 512 K) (shapeCast _ _ _) _ = c
    generalize (Named.named (F := Ideal) κ "mask" (φ := .f32) 0xF149F2CA#32) = d
    pointwise
    rfl
  have nm : (Named.named (F := Ideal) κ "mask" (φ := .f32) 0xF149F2CA#32 : EReal) = ⊥ := IdealRules.named_const.ideal_named_scalar _ _ _ _ rfl
  rw [hh, nm, sle_apply (by omega) (by omega), col_apply, rowb_apply, row_apply, pick_apply hC hg, hR j, cast_self X h.keys, isMat_dotT (isMat_headQ hl hQ) hX i j]
  by_cases c : (j : ℕ) ≤ o + i
  · rw [if_pos c, if_pos rfl, if_pos c, ← EReal.coe_add, ← EReal.coe_sub]; rfl
  · rw [if_neg c, if_neg (by decide), if_neg c]

/-- The exponential of a score, where the mask lets it through. -/
def tileW (o : ℕ) (s : ℕ → ℕ → ℝ) (i j : ℕ) : ℝ := if j ≤ o + i then Real.exp (s i j) else 0

theorem tileW_nonneg (s : ℕ → ℕ → ℝ) (i j : ℕ) : 0 ≤ tileW o s i j := by
  unfold tileW; split
  · exact (Real.exp_pos _).le
  · exact le_rfl

theorem tileW_pos (s : ℕ → ℕ → ℝ) (hK : 0 < K) (i : ℕ) : 0 < ∑ j ∈ Finset.range K, tileW o s i j := by
  refine lt_of_lt_of_le (b := tileW o s i 0) ?_ (Finset.single_le_sum (f := fun j => tileW o s i j) (fun j _ => tileW_nonneg s i j) (Finset.mem_range.mpr hK))
  unfold tileW
  rw [if_pos (Nat.zero_le _)]
  exact Real.exp_pos _

theorem bot_f32 : Ideal.ofBits .f32 0xFF800000#32 = (⊥ : EReal) := by simp [Ideal.ofBits, Ideal.ieee]

variable {s : ℕ → ℕ → ℝ} {X : FVec Ideal (S2 512 K) .f32}

/-- A row's largest score is real. -/
theorem tops_apply (hX : Masked o s X) (hK : 0 < K) (i : Fin 512) : ∃ m : ℝ, tops h X (ix2 i 0) = (m : EReal) := by
  have e : tops h X (ix2 i 0) = (Finset.univ : Finset (Fin K)).fold max ⊥ fun j => X (ix2 i j) := by
    unfold tops
    rw [unit_apply]
    refine (multiReduction_maximumf_eq_fold _ _ h.red _ rfl (ix1 i)).trans ((Shape.Reduces.fold_fiber_r2_a1 h.red (ix1 i) _ _ _).trans ?_)
    show (Finset.univ : Finset (Fin K)).fold max (Ideal.ofBits .f32 0xFF800000#32) (fun j => X (ix2 i j)) = _
    rw [bot_f32]
  have ht : ∀ j ∈ (Finset.univ : Finset (Fin K)), X (ix2 i j) ≠ ⊤ := fun j _ => by
    rw [hX]; split
    · exact EReal.coe_ne_top _
    · exact bot_ne_top
  have hb : X (ix2 i ⟨0, hK⟩) ≠ ⊥ := by rw [hX, if_pos (Nat.zero_le _)]; exact EReal.coe_ne_bot _
  rw [e, Cert.Reals.fold_max_real _ _ ht ⟨0, hK⟩ (Finset.mem_univ _) hb]
  exact ⟨_, rfl⟩

/-- A row's exponentials and their sum, over the exponential of the row's largest score. -/
theorem row_facts (hX : Masked o s X) (hK : 0 < K) (i : Fin 512) : ∃ m : ℝ, tops h X (ix2 i 0) = (m : EReal)
    ∧ (∀ j : Fin K, expos h X (ix2 i j) = ((tileW o s i j * Real.exp (-m) : ℝ) : EReal))
    ∧ sums h (expos h X) (ix2 i 0) = (((∑ j ∈ Finset.range K, tileW o s i j) * Real.exp (-m) : ℝ) : EReal) := by
  obtain ⟨m, hm⟩ := tops_apply h hX hK i
  have he : ∀ j : Fin K, expos h X (ix2 i j) = ((tileW o s i j * Real.exp (-m) : ℝ) : EReal) := fun j => by
    have e : expos h X (ix2 i j) = Ideal.exp (X (ix2 i j) - broadcastTo (S2 512 K) (tops h X) h.col (ix2 i j)) := rfl
    rw [e, col_apply, hm, hX i j, tileW]
    by_cases c : (j : ℕ) ≤ o + i
    · rw [if_pos c, if_pos c, ← EReal.coe_sub, Ideal.exp_coe, ← Real.exp_add, sub_eq_add_neg]
    · rw [if_neg c, if_neg c, EReal.bot_sub, Ideal.exp_bot, zero_mul, EReal.coe_zero]
  refine ⟨m, hm, he, ?_⟩
  unfold sums
  generalize expos h X = Y at he
  rw [unit_apply, Finset.sum_mul, ← sum_coe]
  refine (Ideal.reduceAdd_r2_a1 h.red Y (ix1 i)).trans ?_
  exact Finset.sum_congr rfl fun j _ => he j

/-- A row's log-sum-exp. -/
theorem logs_apply (hX : Masked o s X) (hK : 0 < K) (i : Fin 512) :
    logs h X (ix2 i 0) = ((Real.log (∑ j ∈ Finset.range K, tileW o s i j) : ℝ) : EReal) := by
  obtain ⟨m, hm, he, hs⟩ := row_facts h hX hK i
  have e : logs h X (ix2 i 0) = tops h X (ix2 i 0) + Ideal.log (sums h (expos h X) (ix2 i 0)) := rfl
  have p := tileW_pos (o := o) s hK i
  rw [e, hm, hs, Ideal.log_coe, if_neg (not_le.mpr (mul_pos p (Real.exp_pos _))), ← EReal.coe_add, Real.log_mul p.ne' (Real.exp_pos _).ne', Real.log_exp]
  refine congrArg _ ?_
  ring

/-- One head's weighted values: their own lanes are the softmax's, the others stay. -/
theorem isMat_setO (hl : IsHead lo hi e) (hX : Masked o s X) (hK : 0 < K) {v z : ℕ → ℕ → ℝ} {V : FVec Ideal (S2 K 128) .bf16} {Z : FVec Ideal S512x128 .f32}
    (hV : IsMat v V) (hZ : IsMat z Z) :
    IsMat (fun i l => if l / 64 = e then (∑ j ∈ Finset.range K, tileW o s i j * v j l) / (∑ j ∈ Finset.range K, tileW o s i j) else z i l)
      (setO h lo hi (expos h X) V Z) := by
  intro i l
  obtain ⟨m, hm, he, hs⟩ := row_facts h hX hK i
  have hh : setO h lo hi (expos h X) V Z (ix2 i l) = if lanes lo hi (ix2 i l) = 1#1
      then Ideal.div (matmul (DotDims.plain 512 K 128) none (truncf .bf16 (expos h X) bitsLt_bf16_f32) (shapeCast (S2 K 128) V h.keys) (constant S512x128 .f32 0x00000000#32) (ix2 i l))
        (broadcastTo (S2 512 128) (sums h (expos h X)) broadcasts_S512x1_S512x128 (ix2 i l))
      else Z (ix2 i l) := by
    unfold setO
    generalize matmul (F := Ideal) (DotDims.plain 512 K 128) none _ _ _ = a
    generalize broadcastTo _ (sums (F := Ideal) _ _) _ = b
    rfl
  have hd : matmul (DotDims.plain 512 K 128) none (truncf .bf16 (expos h X) bitsLt_bf16_f32) (shapeCast (S2 K 128) V h.keys) (constant S512x128 .f32 0x00000000#32) (ix2 i l)
      = (((∑ j ∈ Finset.range K, tileW o s i j * v j l) * Real.exp (-m) : ℝ) : EReal) := by
    rw [cast_self V h.keys]
    refine (Ideal.matmul_plain_apply none _ V _ i l).trans ?_
    show Ideal.ofBits .f32 0x00000000#32 + ∑ k : Fin K, expos h X (ix2 i k) * V (ix2 k l) = _
    rw [zero_f32, zero_add, Finset.sum_mul, ← sum_coe]
    exact Finset.sum_congr rfl fun j _ => by rw [he j, hV j l, ← EReal.coe_mul, mul_right_comm]
  rw [hh, hd, col_apply, hs, hl i l, hZ i l]
  beta_reduce
  by_cases c : (l : ℕ) / 64 = e
  · have p := tileW_pos (o := o) s hK i
    rw [if_pos c, if_pos rfl, if_pos c, Ideal.div_coe (mul_pos p (Real.exp_pos _)).ne', ← EReal.coe_mul]
    refine congrArg _ ?_
    rw [mul_one_div, mul_div_mul_right _ _ (Real.exp_pos _).ne']
  · rw [if_neg c, if_neg (by decide), if_neg c]

/-- A column set into one lane. -/
theorem isMat_setL {g : ℕ} (hg : g < 128) {y : ℕ → ℝ} {z : ℕ → ℕ → ℝ} {Y : FVec Ideal S512x1 .f32} {Z : FVec Ideal S512x128 .f32}
    (hY : ∀ i : Fin 512, Y (ix2 i 0) = ((y i : ℝ) : EReal)) (hZ : IsMat z Z) :
    IsMat (fun i l => if l = g then y i else z i l) (setL (BitVec.ofNat 32 g) Y Z) := by
  intro i l
  have hh : setL (BitVec.ofNat 32 g) Y Z (ix2 i l) = if lane (BitVec.ofNat 32 g) (ix2 i l) = 1#1
      then broadcastTo (S2 512 128) (shapeCast S512x1 Y shapeCasts_S512x1_S512x1) broadcasts_S512x1_S512x128 (ix2 i l) else Z (ix2 i l) := by
    unfold setL
    generalize broadcastTo _ (shapeCast _ _ _) _ = b
    rfl
  rw [hh, lane_apply hg, col_apply, cast_self Y, hY i, hZ i l]
  beta_reduce
  by_cases c : (l : ℕ) = g
  · rw [if_pos c, if_pos rfl, if_pos c]
  · rw [if_neg c, if_neg (by decide), if_neg c]

end Cert.AttnFwdProof

end
-- ==== Proof.AttnFwd.Point.lean ====
/- What one grid point leaves in its two output blocks, over the reals: a pair of heads' attention and log-sum-exps. -/
module

public import proofs.«01_k».proof.Proof.AttnFwd.Run
public import proofs.«01_k».proof.Proof.AttnFwd.Tile
public import proofs.«01_k».proof.Proof.Attn.Point

@[expose] public section

set_option maxRecDepth 16384

noncomputable section

namespace Cert.AttnFwdProof

open Cert.AttnFwdIdeal Cert.AttnFwdIdeal.Gen Idealize.ShloMosaic Idealize.ShloMosaic.TcCoe
open Cert.AttnProof (S2 IsMat IsRow msk zero_f32 cast_self sum_prefix)

/-- The numbers that a grid point's blocks hold; `n` is the pair of heads. -/
structure Nums where
  q : ℕ → ℕ → ℝ
  k : ℕ → ℕ → ℝ
  v : ℕ → ℕ → ℝ
  fc : ℕ → ℕ → ℝ
  fr : ℕ → ℕ → ℝ
  n : ℕ

/-- The score of row `i` and key `j`, of head `e` of the pair. -/
def Nums.S (r : Nums) (e i j : ℕ) : ℝ := (∑ l ∈ Finset.range 128, msk e r.q i l * (1 / 8) * r.k j l) + r.fc i (r.n * 2 + e) - r.fr e j

/-- Its exponential, zero for the keys after the row. -/
def Nums.W (r : Nums) (e i j : ℕ) : ℝ := if j ≤ i then Real.exp (r.S e i j) else 0

/-- The row's sum of exponentials. -/
def Nums.T (r : Nums) (e i : ℕ) : ℝ := ∑ j ∈ Finset.range 2048, r.W e i j

/-- The attention of the pair. -/
def Nums.o (r : Nums) (i l : ℕ) : ℝ := (∑ j ∈ Finset.range 2048, r.W (l / 64) i j * r.v j l) / r.T (l / 64) i

/-- The pair's log-sum-exps set into their two lanes of `z`. -/
def Nums.row (r : Nums) (z : ℕ → ℕ → ℝ) (i l : ℕ) : ℝ :=
  if l = r.n * 2 + 1 then Real.log (r.T 1 i) else if l = r.n * 2 + 0 then Real.log (r.T 0 i) else z i l

theorem Nums.W_zero (r : Nums) {e i j : ℕ} (h : i < j) : r.W e i j = 0 := if_neg (by omega)

/-- The blocks hold the numbers. -/
structure Holds (b : Blocks Ideal) (r : Nums) : Prop where
  q : IsMat r.q b.q
  k : IsMat r.k b.k
  v : IsMat r.v b.v
  fc : IsMat r.fc b.fc
  fr : ∀ (e : Fin 8) (j : Fin 2048), b.fr (ix4 0 0 e j) = ((r.fr e j : ℝ) : EReal)
  g : b.g = BitVec.ofNat 32 r.n
  n : r.n < 4

variable {o K : ℕ} (h : Sides o K)

include h in
theorem ofs : o ≤ 1536 := by
  have : o + 512 ≤ 2048 := h.inbQ 0
  omega

include h in
theorem len : K ≤ 2048 := by
  have : 0 + K ≤ 2048 := h.inbK 0
  omega

theorem rows_apply {e : EltTy} (X : Vec Ideal S2048x128 e) (i : Fin 512) (l : Fin 128) :
    rowsQ h X (ix2 i l) = X (ix2 ⟨o + i, by have := ofs h; have := i.isLt; omega⟩ l) :=
  View.ld_unit_apply_of (Val := Elt Ideal) X _ _ h.inbQ (ix2 i l) _ fun a => match a with
    | 0 => rfl
    | 1 => (Nat.zero_add _).symm

variable {x : ℕ → ℕ → ℝ}

theorem isMat_rowsQ {X : Vec Ideal S2048x128 .bf16} (hX : IsMat x X) : IsMat (fun i l => x (o + i) l) (rowsQ h X) :=
  fun i l => (rows_apply h X i l).trans (hX _ _)

theorem isMat_rowsF {X : Vec Ideal S2048x128 .f32} (hX : IsMat x X) : IsMat (fun i l => x (o + i) l) (rowsQ h X) :=
  fun i l => (rows_apply h X i l).trans (hX _ _)

theorem isMat_rowsK {X : Vec Ideal S2048x128 .bf16} (hX : IsMat x X) : IsMat x (rowsK h X) := fun i l =>
  (View.ld_unit_apply_of (Val := Elt Ideal) X _ _ h.inbK (ix2 i l) (ix2 ⟨i, by have := len h; have := i.isLt; omega⟩ l) fun a => match a with
    | 0 => (Nat.zero_add _).symm
    | 1 => (Nat.zero_add _).symm).trans (hX _ _)

theorem isRow_ld {e : ℕ} (he : e < 8) (inb : ∀ a, (![0, 0, e, 0] : Fin 4 → ℕ) a + (⟨4, ![1, 1, 1, K]⟩ : Shape).size a ≤ S1x1x8x2048.size a)
    {X : Vec Ideal S1x1x8x2048 .f32} {z : ℕ → ℝ} (hX : ∀ j : Fin 2048, X (ix4 0 0 ⟨e, he⟩ j) = ((z j : ℝ) : EReal)) :
    IsRow (K := K) z (View.ld (Val := Elt Ideal) X (Rect.unit (s := S1x1x8x2048) ![0, 0, e, 0] (⟨4, ![1, 1, 1, K]⟩ : Shape).size inb)) :=
  Cert.AttnProof.isRow_ld he inb hX

/-! ## One tile -/

section Tile
variable {b : Blocks Ideal} {r : Nums} (hb : Holds b r) {k v : FVec Ideal (S2 K 128) .bf16} (hk : IsMat r.k k) (hv : IsMat r.v v) (hK : o + 512 = K)
include hb

theorem lane_eq (e : ℕ) : b.lane (BitVec.ofNat 32 e) = BitVec.ofNat 32 (r.n * 2 + e) := by
  unfold Blocks.lane
  rw [hb.g]
  simp [Scalar.addi, Scalar.muli, IntOp.addi, IntOp.muli, BitVec.ofNat_add, BitVec.ofNat_mul]

include hk

theorem masked0 : Masked o (fun i j => r.S 0 (o + i) j) (b.s0 h (BitVec.ofNat 32 o) k) := by
  have := hb.n
  unfold Blocks.s0
  rw [show (0#32 : BitVec 32) = BitVec.ofNat 32 0 from rfl, lane_eq hb 0]
  exact masked_scores h isHead0 (by omega) (len h) (ofs h) (isMat_rowsQ h hb.q) hk (isMat_rowsF h hb.fc) (isRow_ld (by norm_num) h.inbF0 fun j => hb.fr 0 j)

theorem masked1 : Masked o (fun i j => r.S 1 (o + i) j) (b.s1 h (BitVec.ofNat 32 o) k) := by
  have := hb.n
  unfold Blocks.s1
  rw [show (1#32 : BitVec 32) = BitVec.ofNat 32 1 from rfl, lane_eq hb 1]
  exact masked_scores h isHead1 (by omega) (len h) (ofs h) (isMat_rowsQ h hb.q) hk (isMat_rowsF h hb.fc) (isRow_ld (by norm_num) h.inbF1 fun j => hb.fr 1 j)

omit hb hk in
include hK h in
/-- The tile's row sum is the whole row's: the keys past the prefix lie after the row. -/
theorem sum_T (e : ℕ) (i : Fin 512) : ∑ j ∈ Finset.range K, tileW o (fun i j => r.S e (o + i) j) i j = r.T e (o + i) :=
  sum_prefix (f := fun j => r.W e (o + i) j) (len h) fun j hj => r.W_zero (by have := i.isLt; omega)

omit hb hk in
include hK h in
theorem sum_Wv (e l : ℕ) (i : Fin 512) :
    ∑ j ∈ Finset.range K, tileW o (fun i j => r.S e (o + i) j) i j * r.v j l = ∑ j ∈ Finset.range 2048, r.W e (o + i) j * r.v j l :=
  sum_prefix (f := fun j => r.W e (o + i) j * r.v j l) (len h) fun j hj => by rw [r.W_zero (by have := i.isLt; omega), zero_mul]

include hv hK in
theorem isMat_out : IsMat (fun i l => r.o (o + i) l) (b.out h (BitVec.ofNat 32 o) k v) := by
  intro i l
  have hl := l.isLt
  have z : IsMat (fun _ _ => 0) (broadcast S512x128 (Scalar.ofBits (F := Ideal) .f32 0x00000000#32)) := fun _ _ => zero_f32.trans EReal.coe_zero.symm
  have p := isMat_setO h isHead1 (masked1 h hb hk) (by omega) hv (isMat_setO h isHead0 (masked0 h hb hk) (by omega) hv z) i l
  refine Eq.trans ?_ (p.trans ?_)
  · rfl
  · beta_reduce
    unfold Nums.o
    obtain c | c : (l : ℕ) / 64 = 0 ∨ (l : ℕ) / 64 = 1 := by omega
    · rw [c, if_neg (by decide), if_pos rfl, sum_T h hK, sum_Wv h hK]
    · rw [c, if_pos rfl, sum_T h hK, sum_Wv h hK]

include hK in
theorem isMat_lse {z : ℕ → ℕ → ℝ} {Z : FVec Ideal S512x128 .f32} (hZ : IsMat (fun i l => z (o + i) l) Z) :
    IsMat (fun i l => r.row z (o + i) l) (b.lse h (BitVec.ofNat 32 o) k Z) := by
  have := hb.n
  unfold Blocks.lse
  rw [show (0#32 : BitVec 32) = BitVec.ofNat 32 0 from rfl, show (1#32 : BitVec 32) = BitVec.ofNat 32 1 from rfl, lane_eq hb 0, lane_eq hb 1, cast_self Z]
  refine isMat_setL (y := fun i => Real.log (r.T 1 (o + i))) (by omega) (fun i => ?_) (isMat_setL (y := fun i => Real.log (r.T 0 (o + i))) (by omega) (fun i => ?_) hZ)
  · rw [logs_apply h (masked1 h hb hk) (by omega) i, sum_T h hK]
  · rw [logs_apply h (masked0 h hb hk) (by omega) i, sum_T h hK]

end Tile

/-! ## The pieces of a block -/

/-- A block whose last piece is a tile's rows: that tile's value there, what was there before in the rows above. -/
theorem canon_step {e : EltTy} {L : Pieces Ideal e} {f : ℕ → ℕ → Elt Ideal e} {X : Vec Ideal S512x128 e}
    (hX : ∀ (i : Fin 512) (l : Fin 128), X (ix2 i l) = f (o + i) l) (i : Fin 2048) (l : Fin 128) (hL : (i : ℕ) < o → View.canon L (ix2 i l) = f i l) (hi : (i : ℕ) < o + 512) :
    View.canon (piece h X :: L) (ix2 i l) = f i l := by
  by_cases hj : (i : ℕ) < o
  · rw [View.canon_cons_of_not_mem]
    · exact hL hj
    · unfold piece
      rw [Rect.mem_set_unit]
      intro hm
      have h0 : o ≤ (i : ℕ) := (hm 0).1
      omega
  · have e : (ix2 i l : S2048x128.Idx) = h.rect.emb (ix2 ⟨i - o, by omega⟩ l) := by
      funext a; apply Fin.ext; match a with
      | 0 => show (i : ℕ) = o + 1 * (i - o); omega
      | 1 => show (l : ℕ) = 0 + 1 * l; omega
    rw [e]
    refine (View.canon_cons_emb _ _ L _).trans ((hX _ _).trans ?_)
    show f (o + (i - o)) l = _
    rw [Nat.add_sub_cancel' (by omega)]

/-- The rows below stay as they were. -/
theorem canon_below {e : EltTy} {L : Pieces Ideal e} {X : Vec Ideal S512x128 e} (i : Fin 2048) (l : Fin 128) (hi : o + 512 ≤ (i : ℕ)) :
    View.canon (piece h X :: L) (ix2 i l) = View.canon L (ix2 i l) := by
  rw [View.canon_cons_of_not_mem]
  unfold piece
  rw [Rect.mem_set_unit]
  intro hm
  have h0 : (i : ℕ) < o + 512 := (hm 0).2
  omega

/-- Pieces that cover the block and leave `f` in the rows before `o`, zeros in the others. -/
def Part (f : ℕ → ℕ → ℝ) (o : ℕ) (L : Pieces Ideal .f32) : Prop :=
  (∀ y, ∃ p ∈ L, y ∈ p.1.set) ∧ ∀ (i : Fin 2048) (l : Fin 128), View.canon L (ix2 i l) = (((if (i : ℕ) < o then f i l else 0 : ℝ)) : EReal)

theorem part_zeros (f : ℕ → ℕ → ℝ) : Part f 0 zeros := by
  refine ⟨fun y => ⟨_, List.mem_singleton.mpr rfl, (Rect.mem_set_unit (inb := inb_S2048x128_S2048x128_0_0)).mpr fun a => ?_⟩, fun i l => ?_⟩
  · match a with
    | 0 => exact ⟨Nat.zero_le _, by simpa using (y 0).isLt⟩
    | 1 => exact ⟨Nat.zero_le _, by simpa using (y 1).isLt⟩
  · unfold zeros
    rw [View.canon_cons_unit_lit', if_neg (Nat.not_lt_zero _)]
    · exact zero_f32.trans EReal.coe_zero.symm
    · intro a; match a with
      | 0 => rfl
      | 1 => rfl

/-! ## The two blocks -/

section Out
variable {b : Blocks Ideal} {r : Nums} (hb : Holds b r)
include hb

theorem canon_o : IsMat (a := 2048) (b := 128) r.o (View.canon b.chainO) := by
  intro i l
  exact canon_step (e := .bf16) sides3 (f := fun i l => ((r.o i l : ℝ) : EReal)) (isMat_out sides3 hb hb.k hb.v rfl) i l (fun h3 =>
    canon_step (e := .bf16) sides2 (f := fun i l => ((r.o i l : ℝ) : EReal)) (isMat_out sides2 hb (isMat_rowsK sides2 hb.k) (isMat_rowsK sides2 hb.v) rfl) i l (fun h2 =>
    canon_step (e := .bf16) sides1 (f := fun i l => ((r.o i l : ℝ) : EReal)) (isMat_out sides1 hb (isMat_rowsK sides1 hb.k) (isMat_rowsK sides1 hb.v) rfl) i l (fun h1 =>
    canon_step (e := .bf16) sides0 (f := fun i l => ((r.o i l : ℝ) : EReal)) (isMat_out sides0 hb (isMat_rowsK sides0 hb.k) (isMat_rowsK sides0 hb.v) rfl) i l
      (fun h0 => absurd h0 (Nat.not_lt_zero _)) h1) h2) h3) i.isLt

theorem canon_B {z : ℕ → ℕ → ℝ} {Z : Vec Ideal S2048x128 .f32} (hZ : IsMat z Z) : IsMat (a := 2048) (b := 128) (r.row z) (View.canon (b.chainB Z)) := by
  intro i l
  exact canon_step (e := .f32) sides3 (f := fun i l => ((r.row z i l : ℝ) : EReal)) (isMat_lse sides3 hb hb.k rfl (isMat_rowsF sides3 hZ)) i l (fun h3 =>
    canon_step (e := .f32) sides2 (f := fun i l => ((r.row z i l : ℝ) : EReal)) (isMat_lse sides2 hb (isMat_rowsK sides2 hb.k) rfl (isMat_rowsF sides2 hZ)) i l (fun h2 =>
    canon_step (e := .f32) sides1 (f := fun i l => ((r.row z i l : ℝ) : EReal)) (isMat_lse sides1 hb (isMat_rowsK sides1 hb.k) rfl (isMat_rowsF sides1 hZ)) i l (fun h1 =>
    canon_step (e := .f32) sides0 (f := fun i l => ((r.row z i l : ℝ) : EReal)) (isMat_lse sides0 hb (isMat_rowsK sides0 hb.k) rfl (isMat_rowsF sides0 hZ)) i l
      (fun h0 => absurd h0 (Nat.not_lt_zero _)) h1) h2) h3) i.isLt

/-- One tile over zeros. -/
theorem Part.over {sp : Space} (V : View sig .tc sp S2048x128 .f32) {k : FVec Ideal (S2 K 128) .bf16} (hk : IsMat r.k k) {L : Pieces Ideal .f32} (hK : o + 512 = K)
    (hL : Part (r.row fun _ _ => 0) o L) : Part (r.row fun _ _ => 0) K (b.over h (BitVec.ofNat 32 o) V k L) := by
  refine ⟨fun y => ?_, fun i l => ?_⟩
  · obtain ⟨p, hp, hy⟩ := hL.1 y
    exact ⟨p, List.mem_cons_of_mem _ hp, hy⟩
  · have hr : V.readCov L h.rect.toLoadRect = View.ld (Val := Elt Ideal) (View.canon L) h.rect := View.readCov_eq_canon_ld V L h.rect hL.1
    have hz : IsMat (fun _ _ => 0) (rowsQ h (View.canon L)) := fun i l => by
      refine (rows_apply h _ i l).trans ((hL.2 _ _).trans ?_)
      rw [if_neg (by show ¬ o + (i : ℕ) < o; omega)]
    have hx := isMat_lse h hb hk hK (z := fun _ _ => 0) hz
    unfold Blocks.over
    rw [hr]
    by_cases hi : (i : ℕ) < K
    · rw [if_pos hi]
      refine canon_step (e := .f32) h (f := fun i l => ((r.row (fun _ _ => 0) i l : ℝ) : EReal)) hx i l (fun ho => ?_) (by omega)
      rw [hL.2, if_pos ho]
    · rw [if_neg hi, canon_below h i l (by omega), hL.2, if_neg (by omega)]

theorem canon_A {sp : Space} (V : View sig .tc sp S2048x128 .f32) : IsMat (a := 2048) (b := 128) (r.row fun _ _ => 0) (View.canon (b.chainA V)) := by
  have p : Part (r.row fun _ _ => 0) 2048 (b.chainA V) :=
    Part.over sides3 hb V hb.k rfl (Part.over sides2 hb V (isMat_rowsK sides2 hb.k) rfl (Part.over sides1 hb V (isMat_rowsK sides1 hb.k) rfl
      (Part.over sides0 hb V (isMat_rowsK sides0 hb.k) rfl (part_zeros _))))
  intro i l
  rw [p.2, if_pos i.isLt]

end Out

section At
variable (m : (ℓ : Loc nD τ sig) → Buf (Elt Ideal) ℓ) (c : Dev nD) (t : Fin cfg0.N) {r : Nums} (hb : Holds (blks m c t) r)
include hb

theorem at_o : IsMat (a := 2048) (b := 128) r.o (outsAt0 m c t.val t.isLt).1 := by
  rw [out_o]; exact canon_o hb

theorem at_A (h0 : t.val % 4 = 0) : IsMat (a := 2048) (b := 128) (r.row fun _ _ => 0) (outsAt0 m c t.val t.isLt).2 := by
  rw [out_A m c t h0]; exact canon_A hb _

theorem at_B (h0 : ¬ t.val % 4 = 0) {z : ℕ → ℕ → ℝ} (hz : IsMat (a := 2048) (b := 128) z (outsAt0 m c (t.val - 1) (Nat.lt_of_le_of_lt (Nat.sub_le _ _) t.isLt)).2) :
    IsMat (a := 2048) (b := 128) (r.row z) (outsAt0 m c t.val t.isLt).2 := by
  rw [out_B m c t h0]; exact canon_B hb hz

end At

end Cert.AttnFwdProof

end
-- ==== Proof.AttnFwd.Blocks.lean ====
/- What the host's lines leave in the kernel's five operands, what the kernel reads of them at a grid point, and the two arrays it ends with. -/
module

public import proofs.«01_k».proof.Proof.AttnFwd.Point
public import proofs.«01_k».proof.Proof.Attn.Reference
public import Idealize.ShloMosaic.Lib.StableHlo.ReadAt

@[expose] public section

set_option maxRecDepth 16384

noncomputable section

namespace Cert.AttnFwdProof

open Cert.AttnFwdIdeal Cert.AttnFwdIdeal.Gen Idealize.ShloMosaic Idealize.ShloMosaic.TcCoe Idealize.SL.Sem
open Cert.AttnProof (IsMat gates padLanes padRows projRows projRows_real gateLanes gateRows)
open Cert.AttnRefIdeal.Read (val_main_v0)
open Cert.Reals (AllReal rd3)

section Host
variable {F : FTy → Type} [FloatOps F] [Named F] (m : (ℓ : Loc nD τ sig) → Buf (Elt F) ℓ) (c : Dev nD)

abbrev arg0 : FVec F S4x2048x5128 .f32 := m ((c.tc : Thread nD τ).loc main_arg0)
abbrev arg1 : FVec F S4x2048x8 .f32 := m ((c.tc : Thread nD τ).loc main_arg1)

theorem host_proj : (V m c main_v4 : FVec F S8192x5120 .bf16) = projRows (arg0 m c) := by
  unfold V
  simp only [hostOps0, hostOps0_1, hostOps0_2, hostOps0_3, hostOps0_4, hostOps0_5, List.flatten_cons, List.flatten_nil, List.append_nil, List.cons_append, List.nil_append]
  after_reads_simp
  rfl

theorem host_gates : (V m c main_v7 : FVec F S8192x128 .f32) = padLanes (shapeCast _ (val_main_v0 (F := F) (arg1 m c)) shapeCasts_S4x2048x8_S8192x8) := by
  unfold V
  simp only [hostOps0, hostOps0_1, hostOps0_2, hostOps0_3, hostOps0_4, hostOps0_5, List.flatten_cons, List.flatten_nil, List.append_nil, List.cons_append, List.nil_append]
  after_reads_simp
  rfl

theorem host_rows : (V m c main_v11 : FVec F S4x4x8x2048 .f32)
    = padRows (transpose S4x4x2x2048 [0, 2, 3, 1] (shapeCast S4x2048x4x2 (extractStridedSlice S8192x8 ![0, 0]
        (padLanes (shapeCast _ (val_main_v0 (F := F) (arg1 m c)) shapeCasts_S4x2048x8_S8192x8)) slices_S8192x128_S8192x8_0_0) shapeCasts_S8192x8_S4x2048x4x2) transposes_S4x2048x4x2_S4x4x2x2048_0_2_3_1) := by
  unfold V
  simp only [hostOps0, hostOps0_1, hostOps0_2, hostOps0_3, hostOps0_4, hostOps0_5, List.flatten_cons, List.flatten_nil, List.append_nil, List.cons_append, List.nil_append]
  after_reads_simp
  rfl

end Host

variable {m : (ℓ : Loc nD τ sig) → Buf (Elt Ideal) ℓ} (c : Dev nD)

/-- The numbers that the pair `n` of heads of sequence `b` has. -/
def numsOf (x0 : FVec Ideal S4x2048x5128 .f32) (x1 : FVec Ideal S4x2048x8 .f32) (b n : ℕ) : Nums where
  q i l := rd3 x0 b i (1536 + 128 * n + l)
  k i l := rd3 x0 b i (2048 + 128 * n + l)
  v i l := rd3 x0 b i (2560 + 128 * n + l)
  fc i h := rd3 (gates x1) b i h
  fr e j := if e < 2 then rd3 (gates x1) b j (2 * n + e) else 0
  n := n

/-! ## The operands at an entry -/

theorem read4 (h0 : AllReal (arg0 m c)) (b i : ℕ) (hi : i < 2048) (r : Fin 8192) (hr : (r : ℕ) = 2048 * b + i) (l : Fin 5120) (hl : (l : ℕ) < 3072) :
    (V m c main_v4 : FVec Ideal S8192x5120 .bf16) (ix2 r l) = ((rd3 (arg0 m c) b i l : ℝ) : EReal) := by
  rw [host_proj]
  refine (projRows_real h0 r l hl).trans ?_
  rw [show (r : ℕ) / 2048 = b by omega, show (r : ℕ) % 2048 = i by omega]

theorem read7 (h1 : AllReal (arg1 m c)) (b : Fin 4) (i : Fin 2048) (r : Fin 8192) (hr : (r : ℕ) = 2048 * b + i) (l : Fin 128) :
    (V m c main_v7 : FVec Ideal S8192x128 .f32) (ix2 r l) = ((rd3 (gates (arg1 m c)) b i l : ℝ) : EReal) := by
  rw [host_gates]; exact gateLanes h1 b i r hr l

theorem read11 (h1 : AllReal (arg1 m c)) (b n : Fin 4) (e : Fin 8) (j : Fin 2048) :
    (V m c main_v11 : FVec Ideal S4x4x8x2048 .f32) (ix4 b n e j) = (((if (e : ℕ) < 2 then rd3 (gates (arg1 m c)) b j (2 * n + e) else 0 : ℝ)) : EReal) := by
  rw [host_rows]; exact gateRows h1 b n e j

/-! ## The blocks of a grid point -/

theorem coord1 : ∀ t : Fin cfg0.N, ((grid0.coords t) 1 : ℕ) = t.val % 4 := (by decide +kernel : ∀ t : Fin grid0.N, ((grid0.coords t) 1 : ℕ) = t.val % 4)
theorem idx0 : ∀ t : Fin cfg0.N, win0_0.index t = ![t.val / 4, 12 + t.val % 4] := (by decide +kernel : ∀ t : Fin grid0.N, win0_0.index t = ![t.val / 4, 12 + t.val % 4])
theorem idx1 : ∀ t : Fin cfg0.N, win0_1.index t = ![t.val / 4, 16 + t.val % 4] := (by decide +kernel : ∀ t : Fin grid0.N, win0_1.index t = ![t.val / 4, 16 + t.val % 4])
theorem idx2 : ∀ t : Fin cfg0.N, win0_2.index t = ![t.val / 4, 20 + t.val % 4] := (by decide +kernel : ∀ t : Fin grid0.N, win0_2.index t = ![t.val / 4, 20 + t.val % 4])
theorem idx3 : ∀ t : Fin cfg0.N, win0_3.index t = ![t.val / 4, 0] := (by decide +kernel : ∀ t : Fin grid0.N, win0_3.index t = ![t.val / 4, 0])
theorem idx4 : ∀ t : Fin cfg0.N, win0_4.index t = ![t.val / 4, t.val % 4, 0, 0] := (by decide +kernel : ∀ t : Fin grid0.N, win0_4.index t = ![t.val / 4, t.val % 4, 0, 0])
theorem idx5 : ∀ t : Fin cfg0.N, win0_5.index t = ![t.val / 4, t.val % 4] := (by decide +kernel : ∀ t : Fin grid0.N, win0_5.index t = ![t.val / 4, t.val % 4])
theorem idx6 : ∀ t : Fin cfg0.N, win0_6.index t = ![t.val / 4, 0] := (by decide +kernel : ∀ t : Fin grid0.N, win0_6.index t = ![t.val / 4, 0])

section Blk
variable (t : Fin cfg0.N)

theorem lt16 : t.val < 16 := t.isLt

/-- The numbers of grid point `t`. -/
abbrev nums : Nums := numsOf (arg0 m c) (arg1 m c) (t.val / 4) (t.val % 4)

theorem blk0 (h0 : AllReal (arg0 m c)) : IsMat (nums (m := m) c t).q (iblk m c 0 t) := by
  intro i l
  have ht := lt16 t; have hi := i.isLt; have hl := l.isLt
  refine Eq.trans ?_ ((read4 c h0 (t.val / 4) i hi ⟨2048 * (t.val / 4) + i, by omega⟩ rfl ⟨128 * (12 + t.val % 4) + l, by omega⟩ (by show 128 * (12 + t.val % 4) + (l : ℕ) < 3072; omega)).trans ?_)
  · blk_simp [iblk]
    blk_ext
    · show win0_0.index t 0 * 2048 + (i : ℕ) = 2048 * (t.val / 4) + i
      rw [show win0_0.index t 0 = t.val / 4 from congrFun (idx0 t) 0]; omega
    · show win0_0.index t 1 * 128 + (l : ℕ) = 128 * (12 + t.val % 4) + l
      rw [show win0_0.index t 1 = 12 + t.val % 4 from congrFun (idx0 t) 1]; omega
  · show ((rd3 _ _ _ (128 * (12 + t.val % 4) + (l : ℕ)) : ℝ) : EReal) = ((rd3 _ _ _ (1536 + 128 * (t.val % 4) + (l : ℕ)) : ℝ) : EReal)
    rw [show 128 * (12 + t.val % 4) + (l : ℕ) = 1536 + 128 * (t.val % 4) + l by omega]

theorem blk1 (h0 : AllReal (arg0 m c)) : IsMat (nums (m := m) c t).k (iblk m c 1 t) := by
  intro i l
  have ht := lt16 t; have hi := i.isLt; have hl := l.isLt
  refine Eq.trans ?_ ((read4 c h0 (t.val / 4) i hi ⟨2048 * (t.val / 4) + i, by omega⟩ rfl ⟨128 * (16 + t.val % 4) + l, by omega⟩ (by show 128 * (16 + t.val % 4) + (l : ℕ) < 3072; omega)).trans ?_)
  · blk_simp [iblk]
    blk_ext
    · show win0_1.index t 0 * 2048 + (i : ℕ) = 2048 * (t.val / 4) + i
      rw [show win0_1.index t 0 = t.val / 4 from congrFun (idx1 t) 0]; omega
    · show win0_1.index t 1 * 128 + (l : ℕ) = 128 * (16 + t.val % 4) + l
      rw [show win0_1.index t 1 = 16 + t.val % 4 from congrFun (idx1 t) 1]; omega
  · show ((rd3 _ _ _ (128 * (16 + t.val % 4) + (l : ℕ)) : ℝ) : EReal) = ((rd3 _ _ _ (2048 + 128 * (t.val % 4) + (l : ℕ)) : ℝ) : EReal)
    rw [show 128 * (16 + t.val % 4) + (l : ℕ) = 2048 + 128 * (t.val % 4) + l by omega]

theorem blk2 (h0 : AllReal (arg0 m c)) : IsMat (nums (m := m) c t).v (iblk m c 2 t) := by
  intro i l
  have ht := lt16 t; have hi := i.isLt; have hl := l.isLt
  refine Eq.trans ?_ ((read4 c h0 (t.val / 4) i hi ⟨2048 * (t.val / 4) + i, by omega⟩ rfl ⟨128 * (20 + t.val % 4) + l, by omega⟩ (by show 128 * (20 + t.val % 4) + (l : ℕ) < 3072; omega)).trans ?_)
  · blk_simp [iblk]
    blk_ext
    · show win0_2.index t 0 * 2048 + (i : ℕ) = 2048 * (t.val / 4) + i
      rw [show win0_2.index t 0 = t.val / 4 from congrFun (idx2 t) 0]; omega
    · show win0_2.index t 1 * 128 + (l : ℕ) = 128 * (20 + t.val % 4) + l
      rw [show win0_2.index t 1 = 20 + t.val % 4 from congrFun (idx2 t) 1]; omega
  · show ((rd3 _ _ _ (128 * (20 + t.val % 4) + (l : ℕ)) : ℝ) : EReal) = ((rd3 _ _ _ (2560 + 128 * (t.val % 4) + (l : ℕ)) : ℝ) : EReal)
    rw [show 128 * (20 + t.val % 4) + (l : ℕ) = 2560 + 128 * (t.val % 4) + l by omega]

theorem blk3 (h1 : AllReal (arg1 m c)) : IsMat (nums (m := m) c t).fc (iblk m c 3 t) := by
  intro i l
  have ht := lt16 t; have hi := i.isLt
  refine Eq.trans ?_ (read7 c h1 ⟨t.val / 4, by omega⟩ i ⟨2048 * (t.val / 4) + i, by omega⟩ rfl l)
  blk_simp [iblk]
  blk_ext
  · show win0_3.index t 0 * 2048 + (i : ℕ) = 2048 * (t.val / 4) + i
    rw [show win0_3.index t 0 = t.val / 4 from congrFun (idx3 t) 0]; omega
  · rw [show win0_3.index t 1 = 0 from congrFun (idx3 t) 1]; omega

theorem blk4 (h1 : AllReal (arg1 m c)) (e : Fin 8) (j : Fin 2048) : (iblk m c 4 t : Vec Ideal S1x1x8x2048 .f32) (ix4 0 0 e j) = (((nums (m := m) c t).fr e j : ℝ) : EReal) := by
  have ht := lt16 t; have hj := j.isLt
  refine Eq.trans ?_ (read11 c h1 ⟨t.val / 4, by omega⟩ ⟨t.val % 4, by omega⟩ e j)
  blk_simp [iblk]
  blk_ext
  · rw [show win0_4.index t 0 = t.val / 4 from congrFun (idx4 t) 0]; omega
  · rw [show win0_4.index t 1 = t.val % 4 from congrFun (idx4 t) 1]; omega
  · rw [show win0_4.index t 2 = 0 from congrFun (idx4 t) 2]; omega
  · rw [show win0_4.index t 3 = 0 from congrFun (idx4 t) 3]; omega

set_option maxHeartbeats 2000000 in
/-- The blocks of grid point `t` hold its numbers. -/
theorem holds (h0 : AllReal (arg0 m c)) (h1 : AllReal (arg1 m c)) : Holds (blks m c t) (nums (m := m) c t) := by
  constructor
  · show IsMat (nums (m := m) c t).q (iblk m c 0 t)
    exact blk0 c t h0
  · show IsMat (nums (m := m) c t).k (iblk m c 1 t)
    exact blk1 c t h0
  · show IsMat (nums (m := m) c t).v (iblk m c 2 t)
    exact blk2 c t h0
  · show IsMat (nums (m := m) c t).fc (iblk m c 3 t)
    exact blk3 c t h1
  · exact blk4 c t h1
  · show BitVec.ofNat 32 ((grid0.coords t) 1 : ℕ) = BitVec.ofNat 32 (t.val % 4)
    rw [coord1]
  · show t.val % 4 < 4
    omega

end Blk

/-! ## The two results -/

/-- The kernel's result: the attention's output. -/
def outO (x0 : FVec Ideal S4x2048x5128 .f32) (x1 : FVec Ideal S4x2048x8 .f32) : FVec Ideal S8192x512 .bf16 :=
  fun y => (((numsOf x0 x1 ((y 0 : ℕ) / 2048) ((y 1 : ℕ) / 128)).o ((y 0 : ℕ) % 2048) ((y 1 : ℕ) % 128) : ℝ) : EReal)

theorem final5 (h0 : AllReal (arg0 m c)) (h1 : AllReal (arg1 m c)) : (dats m 0 c).arrAt 5 cfg0.N = outO (arg0 m c) (arg1 m c) := by
  refine (dats m 0 c).arrAt_eq_of_covers 5 _ (by decide +kernel) fun t hf y => ?_
  blk_simp
  rw [after0_5]
  obtain ⟨n, l, rfl⟩ : ∃ (n : Fin 2048) (l : Fin 128), y = ix2 n l := ⟨y 0, y 1, funext fun a => match a with | 0 => rfl | 1 => rfl⟩
  have ht := lt16 t; have hn := n.isLt; have hl := l.isLt
  have e0 : ((win0_5.blk t).view.emb (ix2 n l) 0 : ℕ) = 2048 * (t.val / 4) + n := by
    blk_simp
    rw [show win0_5.index t 0 = t.val / 4 from congrFun (idx5 t) 0]; omega
  have e1 : ((win0_5.blk t).view.emb (ix2 n l) 1 : ℕ) = 128 * (t.val % 4) + l := by
    blk_simp
    rw [show win0_5.index t 1 = t.val % 4 from congrFun (idx5 t) 1]; omega
  have q := at_o m c t (holds c t h0 h1) n l
  refine q.trans ?_
  show _ = (((numsOf (arg0 m c) (arg1 m c) (((win0_5.blk t).view.emb (ix2 n l) 0 : ℕ) / 2048) (((win0_5.blk t).view.emb (ix2 n l) 1 : ℕ) / 128)).o
    (((win0_5.blk t).view.emb (ix2 n l) 0 : ℕ) % 2048) (((win0_5.blk t).view.emb (ix2 n l) 1 : ℕ) % 128) : ℝ) : EReal)
  rw [e0, e1, show (2048 * (t.val / 4) + (n : ℕ)) / 2048 = t.val / 4 by omega, show (2048 * (t.val / 4) + (n : ℕ)) % 2048 = n by omega,
    show (128 * (t.val % 4) + (l : ℕ)) / 128 = t.val % 4 by omega, show (128 * (t.val % 4) + (l : ℕ)) % 128 = l by omega]

/-- The log-sum-exps of a sequence's first `p` pairs of heads, a lane each; zero in the other lanes. -/
def filled (x0 : FVec Ideal S4x2048x5128 .f32) (x1 : FVec Ideal S4x2048x8 .f32) (b p i l : ℕ) : ℝ :=
  if l < 2 * p then Real.log ((numsOf x0 x1 b (l / 2)).T (l % 2) i) else 0

theorem row_filled (x0 : FVec Ideal S4x2048x5128 .f32) (x1 : FVec Ideal S4x2048x8 .f32) (b p : ℕ) :
    (numsOf x0 x1 b p).row (filled x0 x1 b p) = filled x0 x1 b (p + 1) := by
  funext i l
  show (if l = p * 2 + 1 then Real.log ((numsOf x0 x1 b p).T 1 i) else if l = p * 2 + 0 then Real.log ((numsOf x0 x1 b p).T 0 i) else filled x0 x1 b p i l) = _
  unfold filled
  by_cases a : l = p * 2 + 1
  · rw [if_pos a, if_pos (by omega), show l / 2 = p by omega, show l % 2 = 1 by omega]
  by_cases a' : l = p * 2 + 0
  · rw [if_neg a, if_pos a', if_pos (by omega), show l / 2 = p by omega, show l % 2 = 0 by omega]
  · rw [if_neg a, if_neg a']
    exact if_congr (by omega) rfl rfl

/-- The block of the log-sum-exps after a sequence's first grid point. -/
theorem lse_first (h0 : AllReal (arg0 m c)) (h1 : AllReal (arg1 m c)) (t : Fin cfg0.N) (h : t.val % 4 = 0) :
    IsMat (a := 2048) (b := 128) (filled (arg0 m c) (arg1 m c) (t.val / 4) (t.val % 4 + 1)) (outsAt0 m c t.val t.isLt).2 := by
  have z : filled (arg0 m c) (arg1 m c) (t.val / 4) (t.val % 4) = fun _ _ => 0 := funext fun i => funext fun l => if_neg (by omega)
  rw [← row_filled, z]
  exact at_A m c t (holds c t h0 h1) h

/-- The block of the log-sum-exps after each grid point. -/
theorem lse_block (h0 : AllReal (arg0 m c)) (h1 : AllReal (arg1 m c)) : ∀ (n : ℕ) (hn : n < cfg0.N),
    IsMat (a := 2048) (b := 128) (filled (arg0 m c) (arg1 m c) (n / 4) (n % 4 + 1)) (outsAt0 m c n hn).2
  | 0, hn => lse_first c h0 h1 ⟨0, hn⟩ rfl
  | n + 1, hn => by
    by_cases h : (n + 1) % 4 = 0
    · exact lse_first c h0 h1 ⟨n + 1, hn⟩ h
    · have q := lse_block h0 h1 n (by omega)
      rw [show n / 4 = (n + 1) / 4 by omega, show n % 4 + 1 = (n + 1) % 4 by omega] at q
      rw [← row_filled]
      exact at_B m c ⟨n + 1, hn⟩ (holds c ⟨n + 1, hn⟩ h0 h1) h q

/-- The kernel's result: the log-sum-exps, a head's in a lane. -/
def outL (x0 : FVec Ideal S4x2048x5128 .f32) (x1 : FVec Ideal S4x2048x8 .f32) : FVec Ideal S8192x128 .f32 :=
  fun y => ((filled x0 x1 ((y 0 : ℕ) / 2048) 4 ((y 0 : ℕ) % 2048) (y 1 : ℕ) : ℝ) : EReal)

/-- The block is written out after a sequence's last pair of heads. -/
theorem flush6 : ∀ t : Fin cfg0.N, (cfg0.win 6).flush t = true → t.val % 4 = 3 :=
  (by decide +kernel : ∀ t : Fin grid0.N, (cfg0.win 6).flush t = true → t.val % 4 = 3)

theorem final6 (h0 : AllReal (arg0 m c)) (h1 : AllReal (arg1 m c)) : (dats m 0 c).arrAt 6 cfg0.N = outL (arg0 m c) (arg1 m c) := by
  refine (dats m 0 c).arrAt_eq_of_covers 6 _ (by decide +kernel) fun t hf y => ?_
  have h3 := flush6 t hf
  blk_simp
  rw [after0_6]
  obtain ⟨n, l, rfl⟩ : ∃ (n : Fin 2048) (l : Fin 128), y = ix2 n l := ⟨y 0, y 1, funext fun a => match a with | 0 => rfl | 1 => rfl⟩
  have ht := lt16 t; have hn := n.isLt; have hl := l.isLt
  have e0 : ((win0_6.blk t).view.emb (ix2 n l) 0 : ℕ) = 2048 * (t.val / 4) + n := by
    blk_simp
    rw [show win0_6.index t 0 = t.val / 4 from congrFun (idx6 t) 0]; omega
  have e1 : ((win0_6.blk t).view.emb (ix2 n l) 1 : ℕ) = l := by
    blk_simp
    rw [show win0_6.index t 1 = 0 from congrFun (idx6 t) 1]; omega
  have q := lse_block c h0 h1 t.val t.isLt n l
  rw [h3] at q
  refine q.trans ?_
  show _ = ((filled (arg0 m c) (arg1 m c) (((win0_6.blk t).view.emb (ix2 n l) 0 : ℕ) / 2048) 4 (((win0_6.blk t).view.emb (ix2 n l) 0 : ℕ) % 2048) ((win0_6.blk t).view.emb (ix2 n l) 1 : ℕ) : ℝ) : EReal)
  rw [e0, e1, show (2048 * (t.val / 4) + (n : ℕ)) / 2048 = t.val / 4 by omega, show (2048 * (t.val / 4) + (n : ℕ)) % 2048 = n by omega]

end Cert.AttnFwdProof

end
-- ==== Proof.AttnFwd.Reference.lean ====
/- The reference's attention and log-sum-exps over the reals, and that the kernel's numbers are the same ones. -/
module

public import proofs.«01_k».proof.Proof.AttnFwd.Blocks
public import proofs.«01_k».proof.Proof.Gen.AttnFwdRefIdeal.Read

@[expose] public section

set_option maxRecDepth 16384

noncomputable section

namespace Cert.AttnFwdProof

open Cert.AttnFwdRefIdeal Cert.AttnFwdRefIdeal.Gen Cert.AttnFwdRefIdeal.Read Idealize.ShloMosaic Idealize.ShloMosaic.TcCoe
open Cert.AttnProof (gates score expo top total prob sum_msk col coe_dot coe_tot zero_const ref_masked ref_prob ref_v padLanes_at)
open Cert.Reals (AllReal rd3)

variable (x0 : FVec Ideal S4x2048x5128 .f32) (x1 : FVec Ideal S4x2048x8 .f32)

/-- The exponential of a masked score. -/
def wt (b h i j : ℕ) : ℝ := if j ≤ i then Real.exp (score x0 x1 b h i j) else 0

/-- The row's sum of exponentials. -/
def mass (b h i : ℕ) : ℝ := ∑ j ∈ Finset.range 2048, wt x0 x1 b h i j

variable {x0 x1}

/-! ## The kernel's numbers -/

theorem nums_W (b n : ℕ) {e : ℕ} (he : e < 2) (i j : ℕ) : (numsOf x0 x1 b n).W e i j = wt x0 x1 b (2 * n + e) i j := by
  unfold Nums.W wt
  refine if_congr Iff.rfl (congrArg Real.exp ?_) rfl
  unfold Nums.S
  rw [sum_msk he _ i (fun y l => y * (1 / 8) * (numsOf x0 x1 b n).k j l) (fun l => by rw [zero_mul, zero_mul])]
  show (∑ d ∈ Finset.range 64, rd3 x0 b i (1536 + 128 * n + (64 * e + d)) * (1 / 8) * rd3 x0 b j (2048 + 128 * n + (64 * e + d)))
      + rd3 (gates x1) b i (n * 2 + e) - (if e < 2 then rd3 (gates x1) b j (2 * n + e) else 0) = _
  rw [if_pos he, Nat.mul_comm n 2]
  unfold score
  rw [Finset.sum_congr rfl fun d _ => by
    rw [show 1536 + 128 * n + (64 * e + d) = 1536 + 64 * (2 * n + e) + d by ring, show 2048 + 128 * n + (64 * e + d) = 2048 + 64 * (2 * n + e) + d by ring]]

theorem nums_T (b n : ℕ) {e : ℕ} (he : e < 2) (i : ℕ) : (numsOf x0 x1 b n).T e i = mass x0 x1 b (2 * n + e) i :=
  Finset.sum_congr rfl fun j _ => nums_W b n he i j

theorem expo_eq (b h i j : ℕ) : expo x0 x1 b h i j = wt x0 x1 b h i j * Real.exp (-top x0 x1 b h i) := by
  unfold expo wt
  split
  · rw [← Real.exp_add, sub_eq_add_neg]
  · rw [zero_mul]

theorem total_eq (b h i : ℕ) : total x0 x1 b h i = mass x0 x1 b h i * Real.exp (-top x0 x1 b h i) := by
  unfold total mass
  rw [Finset.sum_mul]
  exact Finset.sum_congr rfl fun j _ => expo_eq b h i j

/-- The probabilities do not depend on the row's maximum. -/
theorem prob_eq (b h i j : ℕ) : prob x0 x1 b h i j = wt x0 x1 b h i j / mass x0 x1 b h i := by
  unfold prob
  rw [expo_eq, total_eq, mul_div_mul_right _ _ (Real.exp_pos _).ne']

theorem mass_pos (b h : ℕ) {i : ℕ} (hi : i < 2048) : 0 < mass x0 x1 b h i := by
  have := Cert.AttnProof.total_pos (x0 := x0) (x1 := x1) b h hi
  rw [total_eq] at this
  exact pos_of_mul_pos_left this (Real.exp_pos _).le

theorem nums_o (b i : ℕ) {c : ℕ} (hc : c < 512) : (numsOf x0 x1 b (c / 128)).o i (c % 128)
    = ∑ j ∈ Finset.range 2048, prob x0 x1 b (c / 64) i j * rd3 x0 b j (2560 + 64 * (c / 64) + c % 64) := by
  unfold Nums.o
  rw [nums_T b _ (by omega), col, Finset.sum_div]
  refine Finset.sum_congr rfl fun j _ => ?_
  rw [nums_W b _ (by omega), col, prob_eq, div_mul_eq_mul_div]
  show _ * rd3 x0 b j (2560 + 128 * (c / 128) + c % 128) / _ = _
  rw [show 2560 + 128 * (c / 128) + c % 128 = 2560 + 64 * (c / 64) + c % 64 by omega]

/-! ## The reference's arrays -/

theorem idx_main_v26' (b : Fin 4) (h : Fin 8) (i j : Fin 2048) : idx_main_v26 (ix3 b h i) j = ix4 b h i j := funext fun a => match a with | ⟨0, _⟩ => rfl | ⟨1, _⟩ => rfl | ⟨2, _⟩ => rfl | ⟨3, _⟩ => rfl
theorem lidx_main_v63' (b : Fin 4) (h : Fin 8) (i : Fin 2048) (d : Fin 64) (k : Fin 2048) : lidx_main_v63 (ix4 b h i d) k = ix4 b h i k := funext fun a => match a with | ⟨0, _⟩ => rfl | ⟨1, _⟩ => rfl | ⟨2, _⟩ => rfl | ⟨3, _⟩ => rfl
theorem ridx_main_v63' (b : Fin 4) (h : Fin 8) (i : Fin 2048) (d : Fin 64) (k : Fin 2048) : ridx_main_v63 (ix4 b h i d) k = ix4 b h k d := funext fun a => match a with | ⟨0, _⟩ => rfl | ⟨1, _⟩ => rfl | ⟨2, _⟩ => rfl | ⟨3, _⟩ => rfl

/-- The lines that both references begin with. -/
theorem same_masked : val_main_v24 (F := Ideal) x0 x1 = Cert.AttnRefIdeal.Read.val_main_v26_0 (F := Ideal) x0 x1 := rfl
theorem same_prob : val_main_v62 (F := Ideal) x0 x1 = Cert.AttnRefIdeal.Read.val_main_v51 (F := Ideal) x0 x1 := rfl
theorem same_v : val_main_v31 (F := Ideal) x0 = Cert.AttnRefIdeal.Read.val_main_v6 (F := Ideal) x0 := rfl

theorem ref_wt (h0 : AllReal x0) (h1 : AllReal x1) (b : Fin 4) (h : Fin 8) (i j : Fin 2048) :
    val_main_v25 (F := Ideal) x0 x1 (ix4 b h i j) = ((wt x0 x1 b h i j : ℝ) : EReal) := by
  have e : val_main_v25 (F := Ideal) x0 x1 (ix4 b h i j) = Ideal.exp (val_main_v24 (F := Ideal) x0 x1 (ix4 b h i j)) := by
    rw [val_main_v25_apply]
    rfl
  rw [e, same_masked, ref_masked h0 h1]
  unfold wt
  by_cases hj : (j : ℕ) ≤ i
  · rw [if_pos hj, if_pos hj, Ideal.exp_coe]
  · rw [if_neg hj, if_neg hj, Ideal.exp_bot, EReal.coe_zero]

theorem ref_mass (h0 : AllReal x0) (h1 : AllReal x1) (b : Fin 4) (h : Fin 8) (i : Fin 2048) :
    val_main_v26 (F := Ideal) x0 x1 (ix3 b h i) = ((mass x0 x1 b h i : ℝ) : EReal) := by
  rw [val_main_v26_apply, show val_main_cst_1 (F := Ideal) (Shape.Idx.first h_S_) = (0 : EReal) from zero_const, zero_add]
  exact coe_tot _ (fun j => wt x0 x1 b h i j) fun k => by rw [idx_main_v26', ref_wt h0 h1]

theorem ref_log (h0 : AllReal x0) (h1 : AllReal x1) (b : Fin 4) (h : Fin 8) (i : Fin 2048) :
    val_main_v27 (F := Ideal) x0 x1 (ix3 b h i) = ((Real.log (mass x0 x1 b h i) : ℝ) : EReal) := by
  have e : val_main_v27 (F := Ideal) x0 x1 (ix3 b h i) = Ideal.log (val_main_v26 (F := Ideal) x0 x1 (ix3 b h i)) := by
    rw [val_main_v27_apply]
    rfl
  rw [e, ref_mass h0 h1, Ideal.log_coe, if_neg (not_le.mpr (mass_pos _ _ i.isLt))]

theorem ref_o (h0 : AllReal x0) (h1 : AllReal x1) (b : Fin 4) (h : Fin 8) (i : Fin 2048) (d : Fin 64) :
    val_main_v63 (F := Ideal) x0 x1 (ix4 b h i d) = ((∑ j ∈ Finset.range 2048, prob x0 x1 b h i j * rd3 x0 b j (2560 + 64 * h + d) : ℝ) : EReal) := by
  rw [val_main_v63_apply, same_prob, same_v]
  exact coe_dot _ _ (fun j => prob x0 x1 b h i j) (fun j => rd3 x0 b j (2560 + 64 * h + d)) (fun k => by rw [lidx_main_v63', ref_prob h0 h1]) (fun k => by rw [ridx_main_v63', ref_v h0])

/-! ## The two results -/

theorem out_idx (r : Fin 8192) (l : Fin 512) : idx_main_v64 (idx_main_v65 (idx_main_v66 (ix2 r l)))
    = ix4 ⟨r / 2048, by omega⟩ ⟨l / 64, by omega⟩ ⟨r % 2048, by omega⟩ ⟨l % 64, by omega⟩ := by
  have := r.isLt; have := l.isLt
  funext a
  apply Fin.ext
  match a with
  | ⟨0, _⟩ => show ((((r : ℕ) * 512 + l) / 1048576 * 2048 + ((r : ℕ) * 512 + l) / 512 % 2048) * 512 + ((r : ℕ) * 512 + l) % 512) / 1048576 = (r : ℕ) / 2048; omega
  | ⟨1, _⟩ => show ((((r : ℕ) * 512 + l) / 1048576 * 2048 + ((r : ℕ) * 512 + l) / 512 % 2048) * 512 + ((r : ℕ) * 512 + l) % 512) / 64 % 8 = (l : ℕ) / 64; omega
  | ⟨2, _⟩ => show ((((r : ℕ) * 512 + l) / 1048576 * 2048 + ((r : ℕ) * 512 + l) / 512 % 2048) * 512 + ((r : ℕ) * 512 + l) % 512) / 512 % 2048 = (r : ℕ) % 2048; omega
  | ⟨3, _⟩ => show ((((r : ℕ) * 512 + l) / 1048576 * 2048 + ((r : ℕ) * 512 + l) / 512 % 2048) * 512 + ((r : ℕ) * 512 + l) % 512) % 64 = (l : ℕ) % 64; omega

theorem lse_idx (r : Fin 8192) (l : Fin 8) : idx_main_v28 (idx_main_v29 (ix2 r l)) = ix3 ⟨r / 2048, by omega⟩ l ⟨r % 2048, by omega⟩ := by
  have := r.isLt; have := l.isLt
  funext a
  apply Fin.ext
  match a with
  | ⟨0, _⟩ => show ((r : ℕ) * 8 + l) / 16384 = (r : ℕ) / 2048; omega
  | ⟨1, _⟩ => show ((r : ℕ) * 8 + l) % 8 = (l : ℕ); omega
  | ⟨2, _⟩ => show ((r : ℕ) * 8 + l) / 8 % 2048 = (r : ℕ) % 2048; omega

theorem ref_outO (h0 : AllReal x0) (h1 : AllReal x1) : val_main_v67 (F := Ideal) x0 x1 = outO x0 x1 := by
  funext y
  obtain ⟨r, l, rfl⟩ : ∃ (r : Fin 8192) (l : Fin 512), y = ix2 r l := ⟨y 0, y 1, funext fun a => match a with | 0 => rfl | 1 => rfl⟩
  have e : val_main_v67 (F := Ideal) x0 x1 (ix2 r l) = val_main_v63 (F := Ideal) x0 x1 (idx_main_v64 (idx_main_v65 (idx_main_v66 (ix2 r l)))) := by
    rw [val_main_v67_apply, val_main_v66_apply, val_main_v65_apply, val_main_v64_apply]
    rfl
  rw [e, out_idx, ref_o h0 h1]
  exact congrArg _ (nums_o _ _ l.isLt).symm

theorem ref_outL (h0 : AllReal x0) (h1 : AllReal x1) : val_main_v68 (F := Ideal) x0 x1 = outL x0 x1 := by
  funext y
  obtain ⟨r, l, rfl⟩ : ∃ (r : Fin 8192) (l : Fin 128), y = ix2 r l := ⟨y 0, y 1, funext fun a => match a with | 0 => rfl | 1 => rfl⟩
  refine (padLanes_at (val_main_v29 (F := Ideal) x0 x1) r l).trans ?_
  show _ = ((filled x0 x1 ((r : ℕ) / 2048) 4 ((r : ℕ) % 2048) (l : ℕ) : ℝ) : EReal)
  unfold filled
  by_cases hl : (l : ℕ) < 8
  · rw [dif_pos hl, if_pos (by omega), val_main_v29_apply, val_main_v28_apply, lse_idx, ref_log h0 h1, nums_T _ _ (by omega),
      show 2 * ((l : ℕ) / 2) + (l : ℕ) % 2 = l by omega]
  · rw [dif_neg hl, if_neg (by omega)]

end Cert.AttnFwdProof

end
-- ==== Proof.AttnFwd.Claim.lean ====
/- The forward attention: the kernel and the reference end with equal results. -/
module

public import proofs.«01_k».proof.Proof.AttnFwd.Reference
public import proofs.«01_k».proof.Proof.Gen.AttnFwdIdeal.Value
public import proofs.«01_k».proof.Proof.Gen.AttnFwdRefIdeal.Run
public import proofs.«01_k».proof.Proof.Gen.Pre_finite_attnf
public import proofs.«01_k».proof.Defs

@[expose] public section

set_option maxRecDepth 16384

noncomputable section

namespace Cert.AttnFwdProof

open Idealize.ShloMosaic Idealize.ShloMosaic.TcCoe Idealize.SL.Sem
open Cert.Reals (AllReal allReal_of_finite)

/-- The precondition makes the two arguments arrays of reals. -/
theorem args_real (m : (ℓ : Loc Cert.AttnFwdIdeal.nD Cert.AttnFwdIdeal.τ Cert.AttnFwdIdeal.sig) → Buf (Elt Ideal) ℓ)
    (h : Cert.Pre_AttnFwdIdeal_finite_attnf m) (c : Dev Cert.AttnFwdIdeal.nD) : AllReal (arg0 m c) ∧ AllReal (arg1 m c) := by
  have q := h c
  exact ⟨allReal_of_finite _ _ q.1 fun i => rfl, allReal_of_finite _ _ q.2 fun i => rfl⟩

/-- The reference runs, keeps its arguments and ends with every counter at zero: it has no semaphore. -/
theorem frame_ref : Cert.quiescent_AttnFwdRefIdeal := fun m g _ =>
  (θ_run Cert.AttnFwdRefIdeal.defs _ _).mono
    (fun r h => ⟨fun c => (h c).2.2, sem_eq_zero_of_no_sems (by decide) r.2⟩)
    (Cert.AttnFwdRefIdeal.Value.run (F := Ideal) m g)

/-- The mask's stand-in for minus infinity is the only constant that the idealized program replaces. -/
theorem preserves : Cert.preserves_AttnFwd_AttnFwdIdeal :=
  IdealRules.named_const.statement Cert.AttnFwdIdeal.κ "mask" .f32 0xF149F2CA#32 ⊥ rfl

/-- The value claim. -/
theorem algebraic : Cert.algebraic_AttnFwdIdeal_AttnFwdRefIdeal_pre_finite_attnf := by
  intro m g m' g' hpre hargs
  refine ⟨fun c => outO (arg0 m c) (arg1 m c), fun c => outL (arg0 m c) (arg1 m c), ?_, ?_⟩
  · refine (θ_run Cert.AttnFwdIdeal.defs _ _).mono (fun r h c => ?_) (Cert.AttnFwdIdeal.Value.run_blocks (F := Ideal) m g)
    obtain ⟨h0, h1⟩ := args_real m hpre c
    exact ⟨(h c).1.trans (final5 c h0 h1), (h c).2.1.trans (final6 c h0 h1), (h c).2.2⟩
  · refine (θ_run Cert.AttnFwdRefIdeal.defs _ _).mono (fun r h c => ?_) (Cert.AttnFwdRefIdeal.Value.run (F := Ideal) m' g')
    obtain ⟨h0, h1⟩ := args_real m hpre c
    obtain ⟨e0, e1⟩ := hargs c
    refine ⟨(h c).1.trans ?_, (h c).2.1.trans ?_, (h c).2.2⟩
    · rw [Cert.AttnFwdRefIdeal.Read.val_main_v67_eq, e0, e1]
      exact ref_outO h0 h1
    · rw [e0, e1]
      exact ref_outL h0 h1

end Cert.AttnFwdProof

end
-- ==== Proof.Cumul.Chunk.lean ====
/- What a grid point of the cumulative forget gates leaves in its output block, over the reals: the kernel's unrolled
   stretches are one function of a chunk of 256 rows, and it extends a prefix sum of logarithms of gates. -/
module

public import proofs.«01_k».proof.Proof.Gen.CumulIdeal.Frame
public import proofs.«01_k».proof.Proof.Forget.Blocks
public import proofs.«01_k».proof.Proof.Tables
public import Idealize.ShloMosaic.Lib.Pipeline.ValueKit

@[expose] public section

set_option maxRecDepth 16384

noncomputable section

namespace Cert.CumulProof

open Cert.CumulIdeal Cert.CumulIdeal.Gen Idealize.ShloMosaic Idealize.ShloMosaic.TcCoe
open Cert.ForgetProof (IsRows IsLane IsBlock)

section Same
variable {F : FTy → Type} [FloatOps F]
variable (t : FVec F S256x256 .bf16) (c bf : FVec F S1x128 .f32) (v w : FVec F S256x128 .f32)

/-! The unrolled stretches of the body, each written as `k0_pay8` (prefix sums of a chunk) and `k0_pay9` (the carry). -/

theorem out0 : k0_pay5 v bf = k0_pay8 k0_pay2 k0_pay3 v bf := rfl
theorem carry0 : k0_pay6 v bf = k0_pay9 k0_pay3 v bf := rfl
theorem out2 : k0_pay14 t c (k0_pay11 v bf) (k0_pay12 v bf) (Scalar.ofBits .f32 0x00000000#32) = k0_pay8 t c v bf := rfl
theorem carry2 : k0_pay15 c (k0_pay11 v bf) (k0_pay12 v bf) (Scalar.ofBits .f32 0x00000000#32) = k0_pay9 c v bf := rfl
theorem out3 : k0_pay20 t c (k0_pay17 v bf) (k0_pay18 v bf) (k0_pay19 v bf) = k0_pay8 t c v bf := rfl
theorem carry3 : k0_pay21 c (k0_pay16 v bf) = k0_pay9 c v bf := rfl
theorem out4 : k0_pay25 (k0_pay23 t v bf) (k0_pay24 c (k0_pay16 w bf)) = k0_pay8 t (k0_pay9 c w bf) v bf := rfl
theorem out5 : k0_pay28 t c (k0_pay22 w bf) v bf = k0_pay8 t (k0_pay9 c w bf) v bf := rfl
theorem carry5 : k0_pay29 c (k0_pay22 w bf) v bf = k0_pay9 (k0_pay9 c w bf) v bf := rfl
theorem out6 : k0_pay31 t c v bf = k0_pay8 t c v bf := rfl
theorem carry6 : k0_pay32 c v bf = k0_pay9 c v bf := rfl
theorem out7 : k0_pay1 t c (k0_pay34 v bf) (k0_pay35 v bf) (Scalar.ofBits .f32 0x00000000#32) = k0_pay8 t c v bf := rfl

end Same

/-! ## Over the reals -/

/-- The logarithm of the logistic function. -/
def ls (z : ℝ) : ℝ := -Real.log (1 + Real.exp (-z))

/-- The same written with a smaller of two and an absolute value. -/
theorem ls_eq (z : ℝ) : min z 0 - Real.log (1 + Real.exp (0 - |z|)) = ls z := by
  have h := Cert.Reals.softplus (-z)
  rw [abs_neg] at h
  have e : min z 0 = -max (-z) 0 := by
    rcases le_total z 0 with q | q
    · rw [min_eq_left q, max_eq_left (by linarith), neg_neg]
    · rw [min_eq_right q, max_eq_right (by linarith), neg_zero]
  unfold ls
  rw [e, ← h, zero_sub]
  ring

/-- The logarithm of the gate of row `n`, lane `l`. -/
def lg (f : ℕ → ℕ → ℝ) (b : ℕ → ℝ) (n l : ℕ) : ℝ := ls (f n l + b l)

/-- The sum of the rows below `n`. -/
def pfx (x : ℕ → ℕ → ℝ) (n l : ℕ) : ℝ := ∑ i ∈ Finset.range n, x i l

variable {x f : ℕ → ℕ → ℝ} {b : ℕ → ℝ} {o : ℕ}
variable {c bf : FVec Ideal S1x128 .f32} {v : FVec Ideal S256x128 .f32}

/-- The logarithms of a chunk's gates. -/
theorem lg_rows (hf : IsRows f o v) (hb : IsLane b bf) : IsRows (lg f b) o (k0_pay7 (F := Ideal) v bf) := by
  intro r l
  have e : k0_pay7 (F := Ideal) v bf (ix2 r l) = min (v (ix2 r l) + bf (ix2 0 l)) 0
      - Ideal.log (Ideal.ofBits .f32 0x3F800000#32 + Ideal.exp (0 - FloatOps.absf (F := Ideal) (φ := .f32) (v (ix2 r l) + bf (ix2 0 l)))) := by
    pointwise [k0_pay7]
  have hv : v (ix2 r l) = ((f (o + r) l : ℝ) : EReal) := hf r l
  have hb' : bf (ix2 0 l) = ((b l : ℝ) : EReal) := hb l
  have m : ∀ z : ℝ, min (z : EReal) 0 = ((min z 0 : ℝ) : EReal) := fun z => (EReal.coe_strictMono.monotone.map_min (a := z) (b := 0)).symm
  rw [e, hv, hb', Cert.Tables.one_f32, ← EReal.coe_add, Cert.Reals.absf_coe, m, ← EReal.coe_zero, ← EReal.coe_sub, Ideal.exp_coe, ← EReal.coe_add, Ideal.log_coe,
    if_neg (not_le.mpr (by positivity)), ← EReal.coe_sub, ls_eq]
  rfl

/-- The triangle of ones at row `r`, column `k`. -/
theorem tri_apply (r k : Fin 256) : k0_pay2 (F := Ideal) (ix2 r k) = if k ≤ r then (1 : EReal) else 0 := by
  pointwise [k0_pay2]
  rw [show IntOp.cmpi .sle (BitVec.ofNat 32 (k : ℕ)) (BitVec.ofNat 32 (r : ℕ)) = BitVec.ofBool (decide (k ≤ r)) from ?_]
  · refine (Cert.Reals.sitofp_bit _).trans ?_
    simp only [decide_eq_true_eq]
  · revert r k; decide +kernel

/-- A sum against the triangle keeps the rows up to `r`. -/
theorem tri_sum (g : ℕ → ℝ) (r : Fin 256) :
    ∑ k : Fin 256, k0_pay2 (F := Ideal) (ix2 r k) * (g k : EReal) = ((∑ i ∈ Finset.range (r + 1), g i : ℝ) : EReal) := by
  have e : ∑ i ∈ Finset.range ((r : ℕ) + 1), g i = ∑ k : Fin 256, if (k : ℕ) ≤ r then g k else 0 := by
    rw [Fin.sum_univ_eq_sum_range (fun k => if k ≤ (r : ℕ) then g k else 0) 256, ← Finset.sum_filter]
    refine Finset.sum_congr (Finset.ext fun i => ?_) fun _ _ => rfl
    have := r.isLt
    simp only [Finset.mem_range, Finset.mem_filter]
    omega
  rw [e, Cert.Reals.coe_sum]
  refine Finset.sum_congr rfl fun k _ => ?_
  rw [tri_apply]
  by_cases h : k ≤ r
  · rw [if_pos h, if_pos (show (k : ℕ) ≤ r from h), one_mul]
  · rw [if_neg h, if_neg (show ¬ (k : ℕ) ≤ r from h), zero_mul, EReal.coe_zero]

theorem pfx_step (x : ℕ → ℕ → ℝ) (n k l : ℕ) : pfx x n l + ∑ i ∈ Finset.range k, x (n + i) l = pfx x (n + k) l :=
  (Finset.sum_range_add (fun i => x i l) n k).symm

/-- The prefix sums within a chunk, given the carry of the rows before it. -/
theorem out_rows (hf : IsRows f o v) (hb : IsLane b bf) (hc : IsLane (pfx (lg f b) o) c) :
    IsRows (fun n l => pfx (lg f b) (n + 1) l) o (k0_pay8 (F := Ideal) k0_pay2 c v bf) := by
  intro r l
  have hd' : ∀ k : Fin 256, k0_pay7 (F := Ideal) v bf (ix2 k l) = ((lg f b (o + k) l : ℝ) : EReal) := fun k => lg_rows hf hb k l
  generalize ed : k0_pay7 (F := Ideal) v bf = d at hd'
  have h : k0_pay8 (F := Ideal) k0_pay2 c v bf (ix2 r l)
      = (∑ k : Fin 256, k0_pay2 (F := Ideal) (ix2 r k) * (d (ix2 k l) - d (ix2 k l) - (d (ix2 k l) - d (ix2 k l)))
        + ∑ k : Fin 256, k0_pay2 (F := Ideal) (ix2 r k) * (d (ix2 k l) - d (ix2 k l))
        + ∑ k : Fin 256, k0_pay2 (F := Ideal) (ix2 r k) * d (ix2 k l)) + c (ix2 0 l) := by
    rw [← ed]
    pointwise [k0_pay8]
  have hc' : c (ix2 0 l) = ((pfx (lg f b) o l : ℝ) : EReal) := hc l
  rw [h, hc']
  simp only [hd', ← EReal.coe_sub, sub_self]
  rw [tri_sum (fun _ => 0), tri_sum (fun i => lg f b (o + i) l)]
  simp only [Finset.sum_const_zero, EReal.coe_zero, zero_add]
  rw [← EReal.coe_add, add_comm, pfx_step]
  rfl

/-- The carry after a chunk. -/
theorem carry_row (hf : IsRows f o v) (hb : IsLane b bf) (hc : IsLane (pfx (lg f b) o) c) {o' : ℕ} (ho : o' = o + 256) :
    IsLane (pfx (lg f b) o') (k0_pay9 (F := Ideal) c v bf) := by
  subst ho
  intro l
  have hd' : ∀ k : Fin 256, k0_pay7 (F := Ideal) v bf (ix2 k l) = ((lg f b (o + k) l : ℝ) : EReal) := fun k => lg_rows hf hb k l
  have h : k0_pay9 (F := Ideal) c v bf (ix2 0 l) = c (ix2 0 l) + ∑ k : Fin 256, k0_pay7 (F := Ideal) v bf (ix2 k l) := by
    pointwise [k0_pay9]
  have hc' : c (ix2 0 l) = ((pfx (lg f b) o l : ℝ) : EReal) := hc l
  rw [h, hc']
  simp only [hd']
  rw [← Cert.Reals.coe_sum, ← EReal.coe_add, Fin.sum_univ_eq_sum_range (fun i => lg f b (o + i) l) 256, pfx_step]

/-- No rows lie before the first chunk. -/
theorem zero_carry : IsLane (pfx x 0) (k0_pay3 (F := Ideal)) := by
  intro l
  have h : k0_pay3 (F := Ideal) (ix2 0 l) = 0 := by pointwise [k0_pay3]
  rw [pfx, Finset.sum_range_zero]
  exact h.trans EReal.coe_zero.symm

/-- A piece known row by row, read at an index of the block it is stored in. -/
theorem at_row {P : FVec Ideal S256x128 .f32} {g : ℕ → ℕ → ℝ} {o : ℕ} (p : IsRows g o P) (z : S256x128.Idx) {n l : ℕ}
    (h0 : n = o + (z 0 : ℕ)) (h1 : l = (z 1 : ℕ)) : P z = ((g n l : ℝ) : EReal) := by
  subst h0 h1
  have e : z = ix2 (z 0) (z 1) := funext fun a => match a with | 0 => rfl | 1 => rfl
  exact (congrArg P e).trans (p (z 0) (z 1))

theorem whole_bias {X : FVec Ideal S1x128 .f32} : View.ld (Val := Elt Ideal) (e' := .f32) X r0_1 = X := by
  funext z
  refine View.ld_unit_apply_of (Val := Elt Ideal) (e := .f32) X _ _ inb_S1x128_S1x128_0_0 z z fun a => ?_
  match a with
  | 0 => exact (Nat.zero_add _).symm
  | 1 => exact (Nat.zero_add _).symm

/-- The output block: the prefix sums of the logarithms of the gates, row by row. -/
theorem block2 {X : FVec Ideal S2048x128 .f32} (hf : IsBlock f X) (hb : IsLane b bf) :
    IsBlock (fun n l => pfx (lg f b) (n + 1) l) (out0_2 (F := Ideal) X bf) := by
  intro n l
  have c1 := carry_row (hf.rows 0 inb_S2048x128_S256x128_0_0) hb zero_carry (o' := 256) rfl
  have c2 := carry_row (hf.rows 256 inb_S2048x128_S256x128_256_0) hb c1 (o' := 512) rfl
  have c3 := carry_row (hf.rows 512 inb_S2048x128_S256x128_512_0) hb c2 (o' := 768) rfl
  have c4 := carry_row (hf.rows 768 inb_S2048x128_S256x128_768_0) hb c3 (o' := 1024) rfl
  have c5 := carry_row (hf.rows 1024 inb_S2048x128_S256x128_1024_0) hb c4 (o' := 1280) rfl
  have c6 := carry_row (hf.rows 1280 inb_S2048x128_S256x128_1280_0) hb c5 (o' := 1536) rfl
  have c7 := carry_row (hf.rows 1536 inb_S2048x128_S256x128_1536_0) hb c6 (o' := 1792) rfl
  have p0 := out_rows (hf.rows 0 inb_S2048x128_S256x128_0_0) hb zero_carry
  have p1 := out_rows (hf.rows 256 inb_S2048x128_S256x128_256_0) hb c1
  have p2 := out_rows (hf.rows 512 inb_S2048x128_S256x128_512_0) hb c2
  have p3 := out_rows (hf.rows 768 inb_S2048x128_S256x128_768_0) hb c3
  have p4 := out_rows (hf.rows 1024 inb_S2048x128_S256x128_1024_0) hb c4
  have p5 := out_rows (hf.rows 1280 inb_S2048x128_S256x128_1280_0) hb c5
  have p6 := out_rows (hf.rows 1536 inb_S2048x128_S256x128_1536_0) hb c6
  have p7 := out_rows (hf.rows 1792 inb_S2048x128_S256x128_1792_0) hb c7
  unfold_out out0_2
  simp only [whole_bias, out0, carry0, out2, carry2, out3, carry3, out4, out5, carry5, out6, carry6, out7]
  canon_tiles z hz
  · exact at_row p7 z hz0 hz1
  · exact at_row p6 z hz0 hz1
  · exact at_row p5 z hz0 hz1
  · exact at_row p4 z hz0 hz1
  · exact at_row p3 z hz0 hz1
  · exact at_row p2 z hz0 hz1
  · exact at_row p1 z hz0 hz1
  · exact at_row p0 z (hz0.trans (Nat.zero_add _).symm) hz1

end Cert.CumulProof

end
-- ==== Proof.Cumul.Blocks.lean ====
/- The blocks that the cumulative forget gates' kernel reads, and its result. -/
module

public import proofs.«01_k».proof.Proof.Cumul.Chunk
public import Idealize.ShloMosaic.Lib.StableHlo.ReadAt

@[expose] public section

set_option maxRecDepth 16384

noncomputable section

namespace Cert.CumulProof

open Cert.CumulIdeal Cert.CumulIdeal.Gen Idealize.ShloMosaic Idealize.ShloMosaic.TcCoe Idealize.SL.Sem
open Cert.ForgetProof (IsLane IsBlock seqL biasL zero_word)
open Cert.Reals (AllReal)

variable (m : (ℓ : Loc nD τ sig) → Buf (Elt Ideal) ℓ) (c : Dev nD)

abbrev arg0 : FVec Ideal S4x2048x8 .f32 := m ((c.tc : Thread nD τ).loc main_arg0)
abbrev arg1 : FVec Ideal S1x8 .f32 := m ((c.tc : Thread nD τ).loc main_arg1)

theorem read0 (r : Fin 8192) (l : Fin 128) (h0 : AllReal (arg0 m c)) :
    (V m c main_v1 : FVec Ideal S8192x128 .f32) (ix2 r l) = ((seqL (arg0 m c) (r / 2048) (r % 2048) l : ℝ) : EReal) := by
  unfold V
  simp only [hostOps0, hostOps0_1, hostOps0_2, hostOps0_3, List.flatten_cons, List.flatten_nil, List.append_nil, List.cons_append, List.nil_append]
  after_reads_at
  have hr : (r : ℕ) / 2048 < 4 := by have := r.isLt; omega
  have hm : (r : ℕ) % 2048 < 2048 := Nat.mod_lt _ (by norm_num)
  unfold seqL
  by_cases hl : (l : ℕ) < 8
  · rw [dif_pos hl, dif_pos ⟨hr, hm, hl⟩]
    exact h0 _
  · rw [dif_neg hl, dif_neg fun h => hl h.2.2]
    exact zero_word

theorem read1 (l : Fin 128) (h1 : AllReal (arg1 m c)) :
    (V m c main_v2 : FVec Ideal S1x128 .f32) (ix2 0 l) = ((biasL (arg1 m c) l : ℝ) : EReal) := by
  unfold V
  simp only [hostOps0, hostOps0_1, hostOps0_2, hostOps0_3, List.flatten_cons, List.flatten_nil, List.append_nil, List.cons_append, List.nil_append]
  after_reads_at
  unfold biasL
  by_cases hl : (l : ℕ) < 8
  · rw [dif_pos hl, dif_pos hl]
    exact h1 _
  · rw [dif_neg hl, dif_neg hl]
    exact zero_word

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem blk0 (t : Fin cfg0.N) (h0 : AllReal (arg0 m c)) : IsBlock (seqL (arg0 m c) t.val) (iblk m c 0 t) := by
  intro n l
  have ht : t.val < 4 := t.isLt
  have hn := n.isLt
  refine Eq.trans ?_ ((read0 m c ⟨2048 * t.val + n, by omega⟩ l h0).trans ?_)
  · blk_simp [iblk]
    blk_ext
    · show win0_0.index t 0 * 2048 + (n : ℕ) = 2048 * t.val + n
      rw [show win0_0.index t 0 = t.val from congrFun (idx0 t) 0]; omega
    · rw [show win0_0.index t 1 = 0 from congrFun (idx0 t) 1]; omega
  · show ((seqL (arg0 m c) ((2048 * t.val + n) / 2048) ((2048 * t.val + n) % 2048) l : ℝ) : EReal) = _
    rw [show (2048 * t.val + (n : ℕ)) / 2048 = t.val by omega, show (2048 * t.val + (n : ℕ)) % 2048 = n by omega]

theorem blk1 (t : Fin cfg0.N) (h1 : AllReal (arg1 m c)) : IsLane (biasL (arg1 m c)) (iblk m c 1 t) := by
  intro l
  refine Eq.trans ?_ (read1 m c l h1)
  blk_simp [iblk]
  blk_ext
  · show win0_1.index t 0 * 1 + 0 = 0
    rw [show win0_1.index t 0 = 0 from congrFun (idx1 t) 0]
  · rw [show win0_1.index t 1 = 0 from congrFun (idx1 t) 1]; omega

/-- The cumulative forget gates, sequences one after another. -/
def outC (x0 : FVec Ideal S4x2048x8 .f32) (x1 : FVec Ideal S1x8 .f32) : FVec Ideal S8192x128 .f32 :=
  fun i => ((pfx (lg (seqL x0 ((i 0 : ℕ) / 2048)) (biasL x1)) ((i 0 : ℕ) % 2048 + 1) (i 1 : ℕ) : ℝ) : EReal)

variable {m}

/-- The result array after the run. -/
theorem final2 (h0 : AllReal (arg0 m c)) (h1 : AllReal (arg1 m c)) : (dats m 0 c).arrAt 2 cfg0.N = outC (arg0 m c) (arg1 m c) := by
  refine (dats m 0 c).arrAt_eq_of_covers 2 _ (by decide +kernel) fun t hf y => ?_
  blk_simp
  rw [after0_2]
  obtain ⟨n, l, rfl⟩ : ∃ (n : Fin 2048) (l : Fin 128), y = ix2 n l := ⟨y 0, y 1, funext fun a => match a with | 0 => rfl | 1 => rfl⟩
  have ht : t.val < 4 := t.isLt
  have hn := n.isLt
  have e0 : ((win0_2.blk t).view.emb (ix2 n l) 0 : ℕ) = 2048 * t.val + n := by
    blk_simp
    rw [show win0_2.index t 0 = t.val from congrFun (idx2 t) 0]; omega
  have e1 : ((win0_2.blk t).view.emb (ix2 n l) 1 : ℕ) = l := by
    blk_simp
    rw [show win0_2.index t 1 = 0 from congrFun (idx2 t) 1]; omega
  refine (block2 (blk0 m c t h0) (blk1 m c t h1) n l).trans ?_
  show _ = ((pfx (lg (seqL (arg0 m c) (((win0_2.blk t).view.emb (ix2 n l) 0 : ℕ) / 2048)) (biasL (arg1 m c)))
    (((win0_2.blk t).view.emb (ix2 n l) 0 : ℕ) % 2048 + 1) ((win0_2.blk t).view.emb (ix2 n l) 1 : ℕ) : ℝ) : EReal)
  rw [e0, e1, show (2048 * t.val + (n : ℕ)) / 2048 = t.val by omega, show (2048 * t.val + (n : ℕ)) % 2048 = n by omega]

end Cert.CumulProof

end
-- ==== Proof.Cumul.Reference.lean ====
/- What the reference of the cumulative forget gates computes, read at one index. -/
module

public import proofs.«01_k».proof.Proof.Gen.CumulRefIdeal.Read
public import proofs.«01_k».proof.Proof.Cumul.Blocks

@[expose] public section

set_option maxRecDepth 16384

noncomputable section

namespace Cert.CumulProof

open Cert.CumulRefIdeal Cert.CumulRefIdeal.Read Idealize.ShloMosaic Idealize.ShloMosaic.TcCoe
open Cert.ForgetProof (seqL biasL zero_word)
open Cert.Reals (AllReal)

variable {x0 : FVec Ideal S4x2048x8 .f32} {x1 : FVec Ideal S1x8 .f32}

/-- The pre-activation with its bias, padded. -/
theorem ref_pre (h0 : AllReal x0) (h1 : AllReal x1) (b : Fin 4) (r : Fin 2048) (l : Fin 128) :
    val_main_v5 (F := Ideal) x0 x1 (ix3 b r l) = ((seqL x0 b r l + biasL x1 l : ℝ) : EReal) := by
  have e : val_main_v5 (F := Ideal) x0 x1 (ix3 b r l) = (if h : (l : ℕ) < 8 then x0 (ix3 b r ⟨l, h⟩) else FloatOps.sitofp (F := Ideal) FTy.f32 (0#32))
      + (if h : (l : ℕ) < 8 then x1 (ix2 0 ⟨l, h⟩) else FloatOps.sitofp (F := Ideal) FTy.f32 (0#32)) := by
    pointwise [val_main_v5, val_main_v4, val_main_v3, val_main_v2, val_main_v1, val_main_v0, val_main_call0_v0, val_main_call1_v0, val_main_c, val_main_c_0]
  rw [e, EReal.coe_add]
  unfold seqL biasL
  by_cases hl : (l : ℕ) < 8
  · rw [dif_pos hl, dif_pos hl, dif_pos ⟨b.isLt, r.isLt, hl⟩, dif_pos hl]
    exact congrArg₂ (· + ·) (h0 _) (h1 _)
  · rw [dif_neg hl, dif_neg hl, dif_neg fun h => hl h.2.2, dif_neg hl]
    exact congrArg₂ (· + ·) zero_word zero_word

/-- The logarithm of the logistic function in the reference. -/
theorem ref_ls (b : Fin 4) (r : Fin 2048) (l : Fin 128) (z : ℝ) (hz : val_main_v5 (F := Ideal) x0 x1 (ix3 b r l) = (z : EReal)) :
    val_main_v6 (F := Ideal) x0 x1 (ix3 b r l) = ((ls z : ℝ) : EReal) := by
  have e : val_main_v6 (F := Ideal) x0 x1 (ix3 b r l) = -(if -val_main_v5 (F := Ideal) x0 x1 (ix3 b r l) ≠ -val_main_v5 (F := Ideal) x0 x1 (ix3 b r l) then -val_main_v5 (F := Ideal) x0 x1 (ix3 b r l)
    else max (-val_main_v5 (F := Ideal) x0 x1 (ix3 b r l)) 0 +
        Ideal.log1p (Ideal.exp (-FloatOps.absf (F := Ideal) (φ := .f32) (-val_main_v5 (F := Ideal) x0 x1 (ix3 b r l))))) := by
    pointwise [val_main_v6, val_main_call2_v1, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_call0_cst, val_main_call2_v0]
  rw [e, if_neg (not_not.mpr rfl), hz, ← EReal.coe_neg, Cert.Reals.absf_coe, ← EReal.coe_neg, Ideal.exp_coe, Cert.Reals.log1p_coe _ (Real.exp_pos _),
    ← EReal.coe_zero, ← Cert.Reals.coe_max, ← EReal.coe_add, Cert.Reals.softplus, ← EReal.coe_neg]
  rfl

/-- A window as long as the middle axis, padded only in front, sums the rows up to `r`. -/
theorem sum_to_row {n0 n1 n2 p : ℕ} (hp : p + 1 = n1)
    (h : (⟨3, ![n0, n1, n2]⟩ : Shape).ReduceWindows ![1, n1, 1] ![1, 1, 1] ![0, p, 0] ![0, 0, 0] ⟨3, ![n0, n1, n2]⟩)
    (x : (⟨3, ![n0, n1, n2]⟩ : Shape).Idx → EReal) (i : EReal) (hi : i = 0) (b : Fin n0) (r : Fin n1) (l : Fin n2) :
    Ideal.hostReduceWindowAdd ![1, n1, 1] ![1, 1, 1] ![0, p, 0] ![0, 0, 0] h x i (ix3 b r l)
      = ∑ w : Fin n1, if hw : p ≤ r.val + w.val then x (ix3 b ⟨r.val + w.val - p, by have := r.isLt; have := w.isLt; omega⟩ l) else 0 := by
  subst hi
  have hb := b.isLt
  have hr := r.isLt
  have hl := l.isLt
  refine (Cert.Reals.reduceWindow_zero _ _ _ _ h x (ix3 b r l)).trans ((sum_idx3 (n0 := 1) (n1 := n1) (n2 := 1) _).trans ?_)
  simp only [Fin.sum_univ_one]
  refine Finset.sum_congr rfl fun w _ => ?_
  have hw' := w.isLt
  by_cases hw : p ≤ r.val + w.val
  · rw [dif_pos hw, dif_pos]
    · refine congrArg x ?_
      funext a
      apply Fin.ext
      match a with
      | ⟨0, _⟩ => simp
      | ⟨1, _⟩ => simp
      | ⟨2, _⟩ => simp
    · intro a
      match a with
      | ⟨0, _⟩ => exact ⟨Nat.zero_le _, by show b.val * 1 + 0 - 0 < n0; omega⟩
      | ⟨1, _⟩ => exact ⟨by show p ≤ r.val * 1 + w.val; omega, by show r.val * 1 + w.val - p < n1; omega⟩
      | ⟨2, _⟩ => exact ⟨Nat.zero_le _, by show l.val * 1 + 0 - 0 < n2; omega⟩
  · rw [dif_neg hw, dif_neg]
    intro hin
    have q : p ≤ r.val * 1 + w.val := (hin 1).1
    omega

/-- A sum over a window that ends at row `r`, zero in front of the first row, is the sum of the rows up to `r`. -/
theorem sum_back (g : ℕ → ℝ) (r : Fin 2048) :
    (∑ w : Fin 2048, if 2047 ≤ (r : ℕ) + w then g ((r : ℕ) + w - 2047) else 0) = ∑ i ∈ Finset.range ((r : ℕ) + 1), g i := by
  have hr := r.isLt
  rw [Fin.sum_univ_eq_sum_range (fun w => if 2047 ≤ (r : ℕ) + w then g ((r : ℕ) + w - 2047) else 0) 2048, ← Finset.sum_filter]
  refine Finset.sum_nbij' (fun w => (r : ℕ) + w - 2047) (fun i => i + 2047 - r) ?_ ?_ ?_ ?_ ?_
  · intro w hw; simp only [Finset.mem_filter, Finset.mem_range] at hw ⊢; omega
  · intro i hi; simp only [Finset.mem_filter, Finset.mem_range] at hi ⊢; omega
  · intro w hw; simp only [Finset.mem_filter, Finset.mem_range] at hw; omega
  · intro i hi; simp only [Finset.mem_range] at hi; omega
  · intro w _; rfl

/-- The running sum of the reference is a sum over a window reaching to the front. -/
theorem v7_window (j) :
   val_main_v7 (F := Ideal) x0 x1 j = Ideal.hostReduceWindowAdd ![1, 2048, 1] ![1, 1, 1] ![0, 2047, 0] ![0, 0, 0]
      Gen.reduceWindows_S4x2048x128_S4x2048x128_w1s1p0_0_w2048s1p2047_0_w1s1p0_0 (val_main_v6 (F := Ideal) x0 x1) (val_main_call3_call0_v0 (F := Ideal) (Shape.Idx.first Gen.h_S_)) j := by
  unfold val_main_v7
  unfold Host.reduceWindowAdd
  generalize val_main_v6 (F := Ideal) x0 x1 = y
  generalize (val_main_call3_call0_v0 (F := Ideal) (Shape.Idx.first Gen.h_S_)) = z
  rfl

/-- The running sum of the reference is the prefix sum. -/
theorem ref_pfx (h0 : AllReal x0) (h1 : AllReal x1) (b : Fin 4) (r : Fin 2048) (l : Fin 128) :
    val_main_v7 (F := Ideal) x0 x1 (ix3 b r l) = ((pfx (lg (seqL x0 b) (biasL x1)) (r + 1) l : ℝ) : EReal) := by
  have z : val_main_call3_call0_v0 (F := Ideal) (Shape.Idx.first Gen.h_S_) = (0 : EReal) := by
    rw [val_main_call3_call0_v0_apply, val_main_call3_call0_cst_apply]; simp [Ideal.ofBits, Ideal.ieee]
  refine (v7_window _).trans ((sum_to_row (n0 := 4) (n1 := 2048) (n2 := 128) (p := 2047) rfl _ _ _ z b r l).trans ?_)
  rw [pfx, ← sum_back (fun i => lg (seqL x0 b) (biasL x1) i l), Cert.Reals.coe_sum]
  refine Finset.sum_congr rfl fun w _ => ?_
  by_cases hw : 2047 ≤ r.val + w.val
  · rw [dif_pos hw, if_pos hw]
    exact ref_ls b _ l _ (ref_pre h0 h1 b _ l)
  · rw [dif_neg hw, if_neg hw, EReal.coe_zero]

/-- The result of the reference. -/
theorem ref_out (h0 : AllReal x0) (h1 : AllReal x1) : val_main_v8 (F := Ideal) x0 x1 = outC x0 x1 := by
  funext i
  have hi : (i 0 : ℕ) < 8192 := (i 0).isLt
  have hj : (i 1 : ℕ) < 128 := (i 1).isLt
  refine (shapeCast_apply _ Gen.shapeCasts_S4x2048x128_S8192x128 i (ix3 ⟨(i 0 : ℕ) / 2048, by omega⟩ ⟨(i 0 : ℕ) % 2048, by omega⟩ ⟨i 1, hj⟩) ?_).trans
    (ref_pfx h0 h1 _ _ _)
  rw [Shape.rowMajor_val_two, Shape.rowMajor_val_three]
  show (((i 0 : ℕ) / 2048) * 2048 + (i 0 : ℕ) % 2048) * 128 + (i 1 : ℕ) = (i 0 : ℕ) * 128 + (i 1 : ℕ)
  omega

end Cert.CumulProof

end
-- ==== Proof.Cumul.Claim.lean ====
/- The cumulative forget gates: the kernel and the reference end with equal results. -/
module

public import proofs.«01_k».proof.Proof.Cumul.Reference
public import proofs.«01_k».proof.Proof.Gen.CumulIdeal.Value
public import proofs.«01_k».proof.Proof.Gen.CumulRefIdeal.Run
public import proofs.«01_k».proof.Proof.Gen.Pre_finite_cum
public import proofs.«01_k».proof.Defs

@[expose] public section

set_option maxRecDepth 16384

noncomputable section

namespace Cert.CumulProof

open Idealize.ShloMosaic Idealize.ShloMosaic.TcCoe Idealize.SL.Sem
open Cert.Reals (AllReal allReal_of_finite)

/-- The precondition makes the two arguments arrays of reals. -/
theorem args_real (m : (ℓ : Loc Cert.CumulIdeal.nD Cert.CumulIdeal.τ Cert.CumulIdeal.sig) → Buf (Elt Ideal) ℓ)
    (h : Cert.Pre_CumulIdeal_finite_cum m) (c : Dev Cert.CumulIdeal.nD) : AllReal (arg0 m c) ∧ AllReal (arg1 m c) := by
  have q := h c
  exact ⟨allReal_of_finite _ _ q.1 fun i => rfl, allReal_of_finite _ _ q.2 fun i => rfl⟩

/-- The reference runs, keeps its arguments and ends with every counter at zero: it has no semaphore. -/
theorem frame_ref : Cert.quiescent_CumulRefIdeal := fun m g _ =>
  (θ_run Cert.CumulRefIdeal.defs _ _).mono
    (fun r h => ⟨fun c => (h c).2, sem_eq_zero_of_no_sems (by decide) r.2⟩)
    (Cert.CumulRefIdeal.Value.run (F := Ideal) m g)

/-- The value claim. -/
theorem algebraic : Cert.algebraic_CumulIdeal_CumulRefIdeal_pre_finite_cum := by
  intro m g m' g' hpre hargs
  refine ⟨fun c => outC (arg0 m c) (arg1 m c), ?_, ?_⟩
  · refine (θ_run Cert.CumulIdeal.defs _ _).mono (fun r h c => ?_) (Cert.CumulIdeal.Value.run_blocks (F := Ideal) m g)
    obtain ⟨h0, h1⟩ := args_real m hpre c
    exact ⟨(h c).1.trans (final2 c h0 h1), (h c).2⟩
  · refine (θ_run Cert.CumulRefIdeal.defs _ _).mono (fun r h c => ?_) (Cert.CumulRefIdeal.Value.run (F := Ideal) m' g')
    obtain ⟨h0, h1⟩ := args_real m hpre c
    obtain ⟨e0, e1⟩ := hargs c
    refine ⟨(h c).1.trans ?_, (h c).2⟩
    rw [Cert.CumulRefIdeal.Read.val_main_v8_eq, e0, e1]
    exact ref_out h0 h1

end Cert.CumulProof

end
-- ==== Proof.InFwd.Point.lean ====
/- What a grid point of the input projection's forward pass leaves in its three output blocks, over the reals. -/
module

public import proofs.«01_k».proof.Proof.InProj.Point
public import proofs.«01_k».proof.Proof.Gen.InFwdIdeal.Frame
public import Idealize.ShloMosaic.Lib.Pipeline.ValueKit

@[expose] public section

set_option maxRecDepth 16384

noncomputable section

namespace Cert.InFwdProof

open Cert.InFwdIdeal Cert.InFwdIdeal.Gen Idealize.ShloMosaic Idealize.ShloMosaic.TcCoe Idealize.SL.Sem
open Cert.Tables
open Cert.InProjProof (wRow)

/-- The normed row with its gain. -/
def normed (x g : ℕ → ℕ → ℝ) (i l : ℕ) : ℝ := x i l * inv x i * g 0 l

/-- The normed row against row `k` of the weight as the kernel holds it. -/
def proj (x g w : ℕ → ℕ → ℝ) (i k : ℕ) : ℝ := ∑ l ∈ Finset.range 1024, normed x g i l * wRow w k l

variable {x g w : ℕ → ℕ → ℝ}
variable {b0 : FVec Ideal S512x1024 .f32} {b1 : FVec Ideal S1x1024 .f32} {b2 : FVec Ideal S5248x1024 .bf16}

/-- The normed rows of a tile. -/
theorem normed_mat (h0 : IsMat x b0) (h1 : IsMat (fun _ l => g 0 l) b1) : IsMat (normed x g) (k0_pay4 (F := Ideal) b0 b1) := by
  have c := h0.cast shapeCasts_S512x1024_S512x1024
  have p := (((c.mul c).rowSum reduces_S512x1024_S512 shapeCasts_S512_S512x1).divc
    (c := Ideal.ofBits .f32 0x44800000#32) (k := 1024) width_f32 (by norm_num)).add (isMat_broadcast eps_spec.1)
  have q := p.rsqrt fun i j _ _ => meansq_pos x i
  exact ((c.mul (q.cols broadcasts_S512x1_S512x1024)).mul (h1.rows broadcasts_S1x1024_S512x1024)).trunc bitsLt_bf16_f32

/-- A product of the normed rows with 1024 rows of the weight from row `o` on. -/
theorem pay1_mat {H : FVec Ideal S512x1024 .bf16} (hH : IsMat (normed x g) H) (h2 : IsMat (wRow w) b2) {o : ℕ}
    (inb : ∀ a, (![o, 0] : Fin 2 → ℕ) a + (![1024, 1024] : Fin 2 → ℕ) a ≤ S5248x1024.size a) :
    IsMat (fun i k => proj x g w i (o + k)) (k0_pay1 (F := Ideal) H (View.ld (Val := Elt Ideal) (e' := .bf16) b2 (Rect.unit (s := S5248x1024) ![o, 0] ![1024, 1024] inb))) := by
  have p := (hH.dotT ((h2.ld16 (A := 1024) (B := 1024) inb).cast shapeCasts_S1024x1024_S1024x1024)).trunc bitsLt_bf16_f32
  refine IsMat.congr (φ := .bf16) p fun i k _ _ => ?_
  simp only [Nat.zero_add]
  rfl

/-- The product with the last 128 rows of the weight, the forget gates' and the padding. -/
theorem pay3_mat {H : FVec Ideal S512x1024 .bf16} (hH : IsMat (normed x g) H) (h2 : IsMat (wRow w) b2) :
    IsMat (fun i k => proj x g w i (5120 + k))
      (k0_pay3 (F := Ideal) H (View.ld (Val := Elt Ideal) (e' := .bf16) b2 (Rect.unit (s := S5248x1024) ![5120, 0] ![128, 1024] inb_S5248x1024_S128x1024_5120_0))) := by
  have p := hH.dotT ((h2.ld16 (A := 128) (B := 1024) inb_S5248x1024_S128x1024_5120_0).cast shapeCasts_S128x1024_S128x1024)
  refine IsMat.congr (φ := .f32) p fun i k _ _ => ?_
  simp only [Nat.zero_add]
  rfl

/-- A piece of 1024 columns from column `o` on, read at an index of the block it is stored in. -/
theorem at_col {P : FVec Ideal S512x1024 .bf16} {q : ℕ → ℕ → ℝ} {o : ℕ} (p : IsMat (fun i k => q i (o + k)) P) (z : S512x1024.Idx) {i k : ℕ}
    (h0 : i = (z 0 : ℕ)) (h1 : k = o + (z 1 : ℕ)) : (P z : EReal) = ((q i k : ℝ) : EReal) := by
  subst h0 h1
  exact p.at z rfl rfl

theorem whole_x : View.ld (Val := Elt Ideal) (e' := .f32) b0 r0_0 = b0 := by
  funext z
  refine View.ld_unit_apply_of (Val := Elt Ideal) (e := .f32) b0 _ _ inb_S512x1024_S512x1024_0_0 z z fun a => ?_
  match a with
  | 0 => exact (Nat.zero_add _).symm
  | 1 => exact (Nat.zero_add _).symm

theorem whole_g : View.ld (Val := Elt Ideal) (e' := .f32) b1 r0_1 = b1 := by
  funext z
  refine View.ld_unit_apply_of (Val := Elt Ideal) (e := .f32) b1 _ _ inb_S1x1024_S1x1024_0_0 z z fun a => ?_
  match a with
  | 0 => exact (Nat.zero_add _).symm
  | 1 => exact (Nat.zero_add _).symm

/-- The block of normed rows. -/
theorem block5 (h0 : IsMat x b0) (h1 : IsMat (fun _ l => g 0 l) b1) : IsMat (a := 512) (b := 1024) (φ := .bf16) (normed x g) (out0_5 (F := Ideal) b0 b1 b2) := by
  intro i l
  have p := normed_mat h0 h1
  unfold out0_5
  rw [whole_x, whole_g]
  canon_tiles z hz
  exact p.at z hz0 hz1

/-- The block of forget gates' columns. -/
theorem block4 (h0 : IsMat x b0) (h1 : IsMat (fun _ l => g 0 l) b1) (h2 : IsMat (wRow w) b2) :
    IsMat (a := 512) (b := 128) (φ := .f32) (fun i k => proj x g w i (5120 + k)) (out0_4 (F := Ideal) b0 b1 b2) := by
  intro i k
  have p := pay3_mat (normed_mat h0 h1) h2
  unfold_out out0_4
  rw [whole_x, whole_g]
  canon_tiles z hz
  exact p.at z hz0 hz1

/-- The block of the other columns: five stores of 1024 columns. -/
theorem block3 (h0 : IsMat x b0) (h1 : IsMat (fun _ l => g 0 l) b1) (h2 : IsMat (wRow w) b2) :
    IsMat (a := 512) (b := 5120) (φ := .bf16) (proj x g w) (out0_3 (F := Ideal) b0 b1 b2) := by
  intro i k
  have n := normed_mat h0 h1
  have p0 := pay1_mat n h2 inb_S5248x1024_S1024x1024_0_0
  have p1 := pay1_mat n h2 inb_S5248x1024_S1024x1024_1024_0
  have p2 := pay1_mat n h2 inb_S5248x1024_S1024x1024_2048_0
  have p3 := pay1_mat n h2 inb_S5248x1024_S1024x1024_3072_0
  have p4 := pay1_mat n h2 inb_S5248x1024_S1024x1024_4096_0
  unfold_out out0_3
  rw [whole_x, whole_g]
  canon_tiles z hz
  · exact at_col p4 z hz0 hz1
  · exact at_col p3 z hz0 hz1
  · exact at_col p2 z hz0 hz1
  · exact at_col p1 z hz0 hz1
  · exact at_col p0 z hz0 (hz1.trans (Nat.zero_add _).symm)

end Cert.InFwdProof

end
-- ==== Proof.InFwd.Blocks.lean ====
/- What the host's lines leave in the operands of the input projection's forward pass, the blocks of a grid point, and the three results. -/
module

public import proofs.«01_k».proof.Proof.InFwd.Point
public import proofs.«01_k».proof.Proof.InProj.Blocks

@[expose] public section

set_option maxRecDepth 16384

noncomputable section

namespace Cert.InFwdProof

open Cert.InFwdIdeal Cert.InFwdIdeal.Gen Idealize.ShloMosaic Idealize.ShloMosaic.TcCoe Idealize.SL.Sem
open Cert.Tables
open Cert.InProjProof (wRow wRows wRows_mat)
open Cert.Reals (AllReal rd3 rd3_eq rd3_at)

section Host
variable {F : FTy → Type} [FloatOps F] (m : (ℓ : Loc nD τ sig) → Buf (Elt F) ℓ) (c : Dev nD)

abbrev arg0 : FVec F S4x2048x1024 .f32 := m ((c.tc : Thread nD τ).loc main_arg0)
abbrev arg1 : FVec F S1x1024 .f32 := m ((c.tc : Thread nD τ).loc main_arg1)
abbrev arg2 : FVec F S1024x5128 .f32 := m ((c.tc : Thread nD τ).loc main_arg2)

theorem host_w : (V m c main_v6 : FVec F S5248x1024 .bf16) = wRows (arg2 m c) := by
  unfold V
  simp only [hostOps0, List.flatten_cons, List.flatten_nil, List.append_nil, List.cons_append, List.nil_append]
  after_reads_simp
  rfl

end Host

variable (m : (ℓ : Loc nD τ sig) → Buf (Elt Ideal) ℓ) (c : Dev nD)

theorem read7 (h : AllReal (arg0 m c)) : IsMat (a := 8192) (b := 1024) (φ := .f32) (row3 (arg0 m c)) (V m c main_v7) := by
  intro r l
  unfold V
  simp only [hostOps0, List.flatten_cons, List.flatten_nil, List.append_nil, List.cons_append, List.nil_append]
  after_reads_at
  exact rd3_at h _ _ _ _ rfl rfl rfl

theorem read1 (h : AllReal (arg1 m c)) : IsMat (a := 1) (b := 1024) (φ := .f32) (fun _ l => rd2 (arg1 m c) 0 l) (V m c main_arg1) := by
  intro r l
  obtain rfl : r = 0 := Fin.ext (Nat.lt_one_iff.mp r.isLt)
  unfold V
  simp only [hostOps0, List.flatten_cons, List.flatten_nil, List.append_nil, List.cons_append, List.nil_append]
  after_reads_at
  exact isMat_rd2 (a := 1) (b := 1024) h 0 l

theorem read6 (h : AllReal (arg2 m c)) : IsMat (a := 5248) (b := 1024) (φ := .bf16) (wRow (rd2 (arg2 m c))) (V m c main_v6) := by
  rw [host_w]
  exact wRows_mat h

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

theorem blk0 (t : Fin cfg0.N) (h : AllReal (arg0 m c)) : IsMat (a := 512) (b := 1024) (φ := .f32) (fun i l => row3 (arg0 m c) (512 * t.val + i) l) (iblk m c 0 t) := by
  intro i l
  have ht : t.val < 16 := t.isLt
  have hi := i.isLt
  refine Eq.trans ?_ (read7 m c h ⟨512 * t.val + i, by omega⟩ l)
  blk_simp [iblk]
  blk_ext
  · rw [show win0_0.index t 0 = t.val from congrFun (idx0 t) 0]; omega
  · rw [show win0_0.index t 1 = 0 from congrFun (idx0 t) 1]; omega

theorem blk1 (t : Fin cfg0.N) (h : AllReal (arg1 m c)) : IsMat (a := 1) (b := 1024) (φ := .f32) (fun _ l => rd2 (arg1 m c) 0 l) (iblk m c 1 t) := by
  intro i l
  refine Eq.trans ?_ (read1 m c h i l)
  blk_simp [iblk]
  blk_ext
  · rw [show win0_1.index t 0 = 0 from congrFun (idx1 t) 0]
  · rw [show win0_1.index t 1 = 0 from congrFun (idx1 t) 1]; omega

theorem blk2 (t : Fin cfg0.N) (h : AllReal (arg2 m c)) : IsMat (a := 5248) (b := 1024) (φ := .bf16) (wRow (rd2 (arg2 m c))) (iblk m c 2 t) := by
  intro i l
  refine Eq.trans ?_ (read6 m c h i l)
  blk_simp [iblk]
  blk_ext
  · rw [show win0_2.index t 0 = 0 from congrFun (idx2 t) 0]; omega
  · rw [show win0_2.index t 1 = 0 from congrFun (idx2 t) 1]; omega

/-- All arguments are arrays of reals. -/
structure Finite : Prop where
  h0 : AllReal (arg0 m c)
  h1 : AllReal (arg1 m c)
  h2 : AllReal (arg2 m c)

/-! ## The three results -/

section Results
variable (x0 : FVec Ideal S4x2048x1024 .f32) (x1 : FVec Ideal S1x1024 .f32) (x2 : FVec Ideal S1024x5128 .f32)

/-- The projections of the queries, keys, values and gates, a row per position. -/
def outP : FVec Ideal S8192x5120 .bf16 := fun i => ((proj (row3 x0) (rd2 x1) (rd2 x2) (i 0 : ℕ) (i 1 : ℕ) : ℝ) : EReal)

/-- The projection of the forget gates, padded to 128 lanes. -/
def outF : FVec Ideal S8192x128 .f32 := fun i => ((proj (row3 x0) (rd2 x1) (rd2 x2) (i 0 : ℕ) (5120 + (i 1 : ℕ)) : ℝ) : EReal)

/-- The normed rows. -/
def outH : FVec Ideal S8192x1024 .bf16 := fun i => ((normed (row3 x0) (rd2 x1) (i 0 : ℕ) (i 1 : ℕ) : ℝ) : EReal)

end Results

variable {m c}

theorem final3 (h : Finite m c) : (dats m 0 c).arrAt 3 cfg0.N = outP (arg0 m c) (arg1 m c) (arg2 m c) := by
  refine (dats m 0 c).arrAt_eq_of_covers 3 _ (by decide +kernel) fun t hf y => ?_
  blk_simp
  rw [after0_3]
  obtain ⟨n, l, rfl⟩ : ∃ (n : Fin 512) (l : Fin 5120), y = ix2 n l := ⟨y 0, y 1, funext fun a => match a with | 0 => rfl | 1 => rfl⟩
  have ht : t.val < 16 := t.isLt
  have e0 : ((win0_3.blk t).view.emb (ix2 n l) 0 : ℕ) = 512 * t.val + n := by
    blk_simp
    rw [show win0_3.index t 0 = t.val from congrFun (idx3 t) 0]; omega
  have e1 : ((win0_3.blk t).view.emb (ix2 n l) 1 : ℕ) = l := by
    blk_simp
    rw [show win0_3.index t 1 = 0 from congrFun (idx3 t) 1]; omega
  refine (block3 (w := rd2 (arg2 m c)) (blk0 m c t h.h0) (blk1 m c t h.h1) (blk2 m c t h.h2) n l).trans ?_
  show _ = ((proj (row3 (arg0 m c)) (rd2 (arg1 m c)) (rd2 (arg2 m c)) ((win0_3.blk t).view.emb (ix2 n l) 0 : ℕ) ((win0_3.blk t).view.emb (ix2 n l) 1 : ℕ) : ℝ) : EReal)
  rw [e0, e1]
  rfl

theorem final4 (h : Finite m c) : (dats m 0 c).arrAt 4 cfg0.N = outF (arg0 m c) (arg1 m c) (arg2 m c) := by
  refine (dats m 0 c).arrAt_eq_of_covers 4 _ (by decide +kernel) fun t hf y => ?_
  blk_simp
  rw [after0_4]
  obtain ⟨n, l, rfl⟩ : ∃ (n : Fin 512) (l : Fin 128), y = ix2 n l := ⟨y 0, y 1, funext fun a => match a with | 0 => rfl | 1 => rfl⟩
  have ht : t.val < 16 := t.isLt
  have e0 : ((win0_4.blk t).view.emb (ix2 n l) 0 : ℕ) = 512 * t.val + n := by
    blk_simp
    rw [show win0_4.index t 0 = t.val from congrFun (idx4 t) 0]; omega
  have e1 : ((win0_4.blk t).view.emb (ix2 n l) 1 : ℕ) = l := by
    blk_simp
    rw [show win0_4.index t 1 = 0 from congrFun (idx4 t) 1]; omega
  refine (block4 (w := rd2 (arg2 m c)) (blk0 m c t h.h0) (blk1 m c t h.h1) (blk2 m c t h.h2) n l).trans ?_
  show _ = ((proj (row3 (arg0 m c)) (rd2 (arg1 m c)) (rd2 (arg2 m c)) ((win0_4.blk t).view.emb (ix2 n l) 0 : ℕ) (5120 + ((win0_4.blk t).view.emb (ix2 n l) 1 : ℕ)) : ℝ) : EReal)
  rw [e0, e1]
  rfl

theorem final5 (h : Finite m c) : (dats m 0 c).arrAt 5 cfg0.N = outH (arg0 m c) (arg1 m c) := by
  refine (dats m 0 c).arrAt_eq_of_covers 5 _ (by decide +kernel) fun t hf y => ?_
  blk_simp
  rw [after0_5]
  obtain ⟨n, l, rfl⟩ : ∃ (n : Fin 512) (l : Fin 1024), y = ix2 n l := ⟨y 0, y 1, funext fun a => match a with | 0 => rfl | 1 => rfl⟩
  have ht : t.val < 16 := t.isLt
  have e0 : ((win0_5.blk t).view.emb (ix2 n l) 0 : ℕ) = 512 * t.val + n := by
    blk_simp
    rw [show win0_5.index t 0 = t.val from congrFun (idx5 t) 0]; omega
  have e1 : ((win0_5.blk t).view.emb (ix2 n l) 1 : ℕ) = l := by
    blk_simp
    rw [show win0_5.index t 1 = 0 from congrFun (idx5 t) 1]; omega
  refine (block5 (blk0 m c t h.h0) (blk1 m c t h.h1) n l).trans ?_
  show _ = ((normed (row3 (arg0 m c)) (rd2 (arg1 m c)) ((win0_5.blk t).view.emb (ix2 n l) 0 : ℕ) ((win0_5.blk t).view.emb (ix2 n l) 1 : ℕ) : ℝ) : EReal)
  rw [e0, e1]
  rfl

end Cert.InFwdProof

end
-- ==== Proof.InFwd.Reference.lean ====
/- The reference's forward input projection over the reals. -/
module

public import proofs.«01_k».proof.Proof.InFwd.Blocks
public import proofs.«01_k».proof.Proof.Tokens
public import proofs.«01_k».proof.Proof.Gen.InFwdRefIdeal.Read

@[expose] public section

set_option maxRecDepth 16384

noncomputable section

namespace Cert.InFwdProof

open Cert.InFwdRefIdeal Cert.InFwdRefIdeal.Gen Cert.InFwdRefIdeal.Read Idealize.ShloMosaic Idealize.ShloMosaic.TcCoe
open Cert.Tables Cert.Tokens
open Cert.InProjProof (wRow zero_word)
open Cert.Reals (AllReal rd3 rd3_eq rd3_at)

variable {x0 : FVec Ideal S4x2048x1024 .f32} {x1 : FVec Ideal S1x1024 .f32} {x2 : FVec Ideal S1024x5128 .f32}

theorem ref_inv (h0 : AllReal x0) : IsTok (c := 1) (φ := .f32) (fun r _ => inv (row3 x0) r) (val_main_v7 (F := Ideal) x0) :=
  IsTok.rsqrt ((((((isTok_row3 h0).mul (isTok_row3 h0)).sumLast reducesTo_S4x2048x1024_S4x2048_d2 h_S_ zero_f32).col bcast_S4x2048_S4x2048x1_0_1).div
    (isTok_const width_f32 bcast_S_S4x2048x1) fun _ _ _ _ => by norm_num).add (isTok_const eps_spec.1 bcast_S_S4x2048x1)) fun r _ _ _ => meansq_pos _ r

theorem ref_normed (h0 : AllReal x0) (h1 : AllReal x1) : IsTok (c := 1024) (φ := .f32) (normed (row3 x0) (rd2 x1)) (val_main_v13 (F := Ideal) x0 x1) :=
  ((isTok_row3 h0).mul ((ref_inv h0).spread bcast_S4x2048x1_S4x2048x1024_0_1_2)).mul
    ((isVec_row h1 shapeCasts_S1x1024_S1024).everywhere bcast_S1024_S1x1x1024_2 bcast_S1x1x1024_S4x2048x1024_0_1_2)

/-- The normed rows against a column of the weight. -/
def column (x0 : FVec Ideal S4x2048x1024 .f32) (x1 : FVec Ideal S1x1024 .f32) (x2 : FVec Ideal S1024x5128 .f32) (r k : ℕ) : ℝ :=
  ∑ l ∈ Finset.range 1024, normed (row3 x0) (rd2 x1) r l * rd2 x2 l k

/-- An array of four sequences, reshaped to a row per position. -/
theorem flat {φ : FTy} {n : ℕ} {x : ℕ → ℕ → ℝ} {X : FVec Ideal (S3 4 2048 n) φ} (hX : IsTok x X) (h : (S3 4 2048 n).ShapeCasts (S2 8192 n)) :
    IsMat (a := 8192) (b := n) (φ := φ) x (shapeCast (s := S3 4 2048 n) (S2 8192 n) X h) := fun r l => by
  have hr := r.isLt
  refine (shapeCast_apply (s := S3 4 2048 n) (t := S2 8192 n) _ h (ix2 r l) (ix3 ⟨(r : ℕ) / 2048, by omega⟩ ⟨(r : ℕ) % 2048, by omega⟩ l) ?_).trans ((hX _ _ _).trans ?_)
  · rw [Shape.rowMajor_val_two, Shape.rowMajor_val_three]
    show ((r : ℕ) / 2048 * 2048 + (r : ℕ) % 2048) * n + (l : ℕ) = (r : ℕ) * n + (l : ℕ)
    rw [Nat.div_add_mod']
  · show ((x (2048 * ((r : ℕ) / 2048) + (r : ℕ) % 2048) (l : ℕ) : ℝ) : EReal) = _
    rw [Nat.div_add_mod]

theorem ref_all (h0 : AllReal x0) (h1 : AllReal x1) (h2 : AllReal x2) :
    IsMat (a := 8192) (b := 5128) (φ := .f32) (column x0 x1 x2) (val_main_v15 (F := Ideal) x0 x1 x2) :=
  flat (IsTok.congr ((ref_normed h0 h1).dot (isMat_rd2 h2)) fun _ _ _ _ => rfl) shapeCasts_S4x2048x5128_S8192x5128

theorem concat_at (X : FVec Ideal S8192x3072 .f32) (Y : FVec Ideal S8192x2048 .f32) (r : Fin 8192) (k : Fin 5120) :
    (concatenate S8192x5120 1 [⟨S8192x3072, X⟩, ⟨S8192x2048, Y⟩] concatenates_S8192x3072_S8192x2048_S8192x5120_d1 : FVec Ideal S8192x5120 .f32) (ix2 r k)
      = if h : (k : ℕ) < 3072 then X (ix2 r ⟨k, h⟩) else Y (ix2 r ⟨(k : ℕ) - 3072, by have := k.isLt; omega⟩) := by
  pointwise []

/-- The first result. -/
theorem ref_outP (h0 : AllReal x0) (h1 : AllReal x1) (h2 : AllReal x2) : val_main_v19 (F := Ideal) x0 x1 x2 = outP x0 x1 x2 := by
  funext i
  rw [ValueIdx.eq_ix2 i]
  have hk : (i 1 : ℕ) < 5120 := (i 1).isLt
  refine (concat_at (val_main_v16 (F := Ideal) x0 x1 x2) (val_main_v17 (F := Ideal) x0 x1 x2) (i 0) (i 1)).trans ?_
  show _ = ((proj (row3 x0) (rd2 x1) (rd2 x2) (i 0 : ℕ) (i 1 : ℕ) : ℝ) : EReal)
  by_cases h : (i 1 : ℕ) < 3072
  · rw [dif_pos h, val_main_v16_apply]
    refine ((ref_all h0 h1 h2).at _ (i := (i 0 : ℕ)) (j := (i 1 : ℕ)) rfl rfl).trans (congrArg _ (Finset.sum_congr rfl fun l _ => ?_))
    rw [wRow, if_pos h]
  · rw [dif_neg h, val_main_v17_apply]
    refine ((ref_all h0 h1 h2).at _ (i := (i 0 : ℕ)) (j := (i 1 : ℕ) + 8) rfl (show (i 1 : ℕ) + 8 = 3080 + ((i 1 : ℕ) - 3072) by omega)).trans (congrArg _ (Finset.sum_congr rfl fun l _ => ?_))
    rw [wRow, if_neg h, if_pos (by omega)]

theorem pad_at (X : FVec Ideal S8192x8 .f32) (r : Fin 8192) (l : Fin 128) :
    (pad S8192x128 ![0, 0] ![0, 120] ![0, 0] X (val_main_call0_v0 (F := Ideal)) pads_S8192x8_S8192x128_000_01200 h_S_ : FVec Ideal S8192x128 .f32) (ix2 r l)
      = if h : (l : ℕ) < 8 then X (ix2 r ⟨l, h⟩) else ((0 : ℝ) : EReal) := by
  rw [← zero_word]
  pointwise [val_main_call0_v0]
  rfl

/-- The second result. -/
theorem ref_outF (h0 : AllReal x0) (h1 : AllReal x1) (h2 : AllReal x2) : val_main_v21 (F := Ideal) x0 x1 x2 = outF x0 x1 x2 := by
  funext i
  rw [ValueIdx.eq_ix2 i]
  refine (pad_at (val_main_v20 (F := Ideal) x0 x1 x2) (i 0) (i 1)).trans ?_
  show _ = ((proj (row3 x0) (rd2 x1) (rd2 x2) (i 0 : ℕ) (5120 + (i 1 : ℕ)) : ℝ) : EReal)
  by_cases h : (i 1 : ℕ) < 8
  · rw [dif_pos h, val_main_v20_apply]
    refine ((ref_all h0 h1 h2).at _ (i := (i 0 : ℕ)) (j := 3072 + (i 1 : ℕ)) rfl rfl).trans (congrArg _ (Finset.sum_congr rfl fun l _ => ?_))
    rw [wRow, if_neg (by omega), if_neg (by omega), if_pos (by omega), show 5120 + (i 1 : ℕ) - 2048 = 3072 + (i 1 : ℕ) by omega]
  · rw [dif_neg h]
    refine (show ((0 : ℝ) : EReal) = _ from congrArg _ (Finset.sum_eq_zero fun l _ => ?_).symm)
    rw [wRow, if_neg (by omega), if_neg (by omega), if_neg (by omega), mul_zero]

/-- The third result. -/
theorem ref_outH (h0 : AllReal x0) (h1 : AllReal x1) : val_main_v23 (F := Ideal) x0 x1 = outH x0 x1 := by
  funext i
  rw [ValueIdx.eq_ix2 i]
  exact flat (ref_normed h0 h1) shapeCasts_S4x2048x1024_S8192x1024 (i 0) (i 1)

end Cert.InFwdProof

end
-- ==== Proof.InFwd.Claim.lean ====
/- The input projection's forward pass: the kernel and the reference end with equal results. -/
module

public import proofs.«01_k».proof.Proof.InFwd.Reference
public import proofs.«01_k».proof.Proof.Gen.InFwdIdeal.Value
public import proofs.«01_k».proof.Proof.Gen.InFwdRefIdeal.Run
public import proofs.«01_k».proof.Proof.Gen.Pre_finite_inf
public import proofs.«01_k».proof.Defs

@[expose] public section

set_option maxRecDepth 16384

noncomputable section

namespace Cert.InFwdProof

open Idealize.ShloMosaic Idealize.ShloMosaic.TcCoe Idealize.SL.Sem
open Cert.Reals (AllReal allReal_of_finite)

/-- The precondition makes the three arguments arrays of reals. -/
theorem args_real (m : (ℓ : Loc Cert.InFwdIdeal.nD Cert.InFwdIdeal.τ Cert.InFwdIdeal.sig) → Buf (Elt Ideal) ℓ)
    (h : Cert.Pre_InFwdIdeal_finite_inf m) (c : Dev Cert.InFwdIdeal.nD) : Finite m c := by
  have q := h c
  exact ⟨allReal_of_finite _ _ q.1 fun i => rfl, allReal_of_finite _ _ q.2.1 fun i => rfl, allReal_of_finite _ _ q.2.2 fun i => rfl⟩

/-- The reference runs, keeps its arguments and ends with every counter at zero: it has no semaphore. -/
theorem frame_ref : Cert.quiescent_InFwdRefIdeal := fun m g _ =>
  (θ_run Cert.InFwdRefIdeal.defs _ _).mono
    (fun r h => ⟨fun c => (h c).2.2.2, sem_eq_zero_of_no_sems (by decide) r.2⟩)
    (Cert.InFwdRefIdeal.Value.run (F := Ideal) m g)

/-- The value claim. -/
theorem algebraic : Cert.algebraic_InFwdIdeal_InFwdRefIdeal_pre_finite_inf := by
  intro m g m' g' hpre hargs
  refine ⟨fun c => outP (arg0 m c) (arg1 m c) (arg2 m c), fun c => outF (arg0 m c) (arg1 m c) (arg2 m c), fun c => outH (arg0 m c) (arg1 m c), ?_, ?_⟩
  · refine (θ_run Cert.InFwdIdeal.defs _ _).mono (fun r h c => ?_) (Cert.InFwdIdeal.Value.run_blocks (F := Ideal) m g)
    have q := args_real m hpre c
    exact ⟨(h c).1.trans (final3 q), (h c).2.1.trans (final4 q), (h c).2.2.1.trans (final5 q), (h c).2.2.2⟩
  · refine (θ_run Cert.InFwdRefIdeal.defs _ _).mono (fun r h c => ?_) (Cert.InFwdRefIdeal.Value.run (F := Ideal) m' g')
    obtain ⟨h0, h1, h2⟩ := args_real m hpre c
    obtain ⟨e0, e1, e2⟩ := hargs c
    refine ⟨(h c).1.trans ?_, (h c).2.1.trans ?_, (h c).2.2.1.trans ?_, (h c).2.2.2⟩
    · rw [Cert.InFwdRefIdeal.Read.val_main_v19_eq, e0, e1, e2]
      exact ref_outP h0 h1 h2
    · rw [Cert.InFwdRefIdeal.Read.val_main_v21_eq, e0, e1, e2]
      exact ref_outF h0 h1 h2
    · rw [Cert.InFwdRefIdeal.Read.val_main_v23_eq, e0, e1]
      exact ref_outH h0 h1

end Cert.InFwdProof

end
-- ==== Proof.lean ====
module

public import proofs.«01_k».proof.Proof.Gen.ForgetIdeal.Value
public import proofs.«01_k».proof.Proof.Gen.ForgetRefIdeal.Run
public import proofs.«01_k».proof.Proof.Gen.ForgetRefIdeal.Read
public import proofs.«01_k».proof.Proof.Forget.Claim
public import proofs.«01_k».proof.Proof.Gen.AttnIdeal.Value
public import proofs.«01_k».proof.Proof.Gen.AttnRefIdeal.Run
public import proofs.«01_k».proof.Proof.Gen.AttnRefIdeal.Read
public import proofs.«01_k».proof.Proof.Attn.Claim
public import proofs.«01_k».proof.Proof.Gen.InProjIdeal.Value
public import proofs.«01_k».proof.Proof.Gen.InProjRefIdeal.Run
public import proofs.«01_k».proof.Proof.Gen.InProjRefIdeal.Read
public import proofs.«01_k».proof.Proof.InProj.Claim
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.FfnBwd.Claim
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.FfnFwd.Claim
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.AttnFwd.Claim
public import proofs.«01_k».proof.Proof.Gen.CumulIdeal.Value
public import proofs.«01_k».proof.Proof.Gen.CumulRefIdeal.Run
public import proofs.«01_k».proof.Proof.Gen.CumulRefIdeal.Read
public import proofs.«01_k».proof.Proof.Cumul.Claim
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.InFwd.Claim
public import proofs.«01_k».proof.Defs
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetRefIdeal
public import proofs.«01_k».proof.Proof.Gen.Pre_finite_forget
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_attn
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_finite_inb
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdRefIdeal
public import proofs.«01_k».proof.Proof.Gen.Pre_finite_ffnb
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.Pre_finite_ffnf
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.Pre_finite_attnf
public import proofs.«01_k».proof.Proof.Gen.Cumul
public import proofs.«01_k».proof.Proof.Gen.Cumul.Skeleton
public import proofs.«01_k».proof.Proof.Gen.Cumul.Launch
public import proofs.«01_k».proof.Proof.Gen.Cumul.Points
public import proofs.«01_k».proof.Proof.Gen.Cumul.Frame
public import proofs.«01_k».proof.Proof.Gen.CumulIdeal
public import proofs.«01_k».proof.Proof.Gen.CumulIdeal.Skeleton
public import proofs.«01_k».proof.Proof.Gen.CumulIdeal.Launch
public import proofs.«01_k».proof.Proof.Gen.CumulIdeal.Points
public import proofs.«01_k».proof.Proof.Gen.CumulIdeal.Frame
public import proofs.«01_k».proof.Proof.Gen.CumulRefIdeal
public import proofs.«01_k».proof.Proof.Gen.Pre_finite_cum
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.Pre_finite_inf
public import Idealize.ShloMosaic.Adequacy
public import Idealize.ShloMosaic.Init

@[expose] public section

noncomputable section

namespace Cert.Proof

open Idealize.ShloMosaic Idealize.SL.Sem

theorem claim : Cert.Claim := ⟨Cert.Forget.Gen.facts, Cert.ForgetIdeal.Gen.facts, Cert.ForgetRefIdeal.Gen.facts, Cert.Attn.Gen.facts, Cert.AttnIdeal.Gen.facts, Cert.AttnRefIdeal.Gen.facts, Cert.InProj.Gen.facts, Cert.InProjIdeal.Gen.facts, Cert.InProjRefIdeal.Gen.facts, Cert.FfnBwd.Gen.facts, Cert.FfnBwdIdeal.Gen.facts, Cert.FfnBwdRefIdeal.Gen.facts, Cert.FfnFwd.Gen.facts, Cert.FfnFwdIdeal.Gen.facts, Cert.FfnFwdRefIdeal.Gen.facts, Cert.AttnFwd.Gen.facts, Cert.AttnFwdIdeal.Gen.facts, Cert.AttnFwdRefIdeal.Gen.facts, Cert.Cumul.Gen.facts, Cert.CumulIdeal.Gen.facts, Cert.CumulRefIdeal.Gen.facts, Cert.InFwd.Gen.facts, Cert.InFwdIdeal.Gen.facts, Cert.InFwdRefIdeal.Gen.facts, Cert.Pre_finite_forget.Gen.facts, Cert.Pre_finite_attn.Gen.facts, Cert.Pre_finite_inb.Gen.facts, Cert.Pre_finite_ffnb.Gen.facts, Cert.Pre_finite_ffnf.Gen.facts, Cert.Pre_finite_attnf.Gen.facts, Cert.Pre_finite_cum.Gen.facts, Cert.Pre_finite_inf.Gen.facts,
  fun m g _ => Cert.Forget.Gen.frame m g, fun m g _ => Cert.ForgetIdeal.Gen.frame m g, fun m g _ => Cert.ForgetIdeal.Gen.frame m g, Cert.ForgetProof.frame_ref, fun m g _ => Cert.ForgetProof.frame_ref m g trivial,
  fun m g _ => Cert.Attn.Gen.frame m g, fun m g _ => Cert.AttnIdeal.Gen.frame m g, fun m g _ => Cert.AttnIdeal.Gen.frame m g, Cert.AttnProof.frame_ref, fun m g _ => Cert.AttnProof.frame_ref m g trivial,
  fun m g _ => Cert.InProj.Gen.frame m g, fun m g _ => Cert.InProjIdeal.Gen.frame m g, fun m g _ => Cert.InProjIdeal.Gen.frame m g, Cert.InProjProof.frame_ref, fun m g _ => Cert.InProjProof.frame_ref m g trivial,
  fun m g _ => Cert.FfnBwd.Gen.frame m g, fun m g _ => Cert.FfnBwdIdeal.Gen.frame m g, fun m g _ => Cert.FfnBwdIdeal.Gen.frame m g, Cert.FfnBwdProof.frame_ref, fun m g _ => Cert.FfnBwdProof.frame_ref m g trivial,
  fun m g _ => Cert.FfnFwd.Gen.frame m g, fun m g _ => Cert.FfnFwdIdeal.Gen.frame m g, fun m g _ => Cert.FfnFwdIdeal.Gen.frame m g, Cert.FfnFwdProof.frame_ref, fun m g _ => Cert.FfnFwdProof.frame_ref m g trivial,
  fun m g _ => Cert.AttnFwd.Gen.frame m g, fun m g _ => Cert.AttnFwdIdeal.Gen.frame m g, fun m g _ => Cert.AttnFwdIdeal.Gen.frame m g, Cert.AttnFwdProof.frame_ref, fun m g _ => Cert.AttnFwdProof.frame_ref m g trivial,
  fun m g _ => Cert.Cumul.Gen.frame m g, fun m g _ => Cert.CumulIdeal.Gen.frame m g, fun m g _ => Cert.CumulIdeal.Gen.frame m g, Cert.CumulProof.frame_ref, fun m g _ => Cert.CumulProof.frame_ref m g trivial,
  fun m g _ => Cert.InFwd.Gen.frame m g, fun m g _ => Cert.InFwdIdeal.Gen.frame m g, fun m g _ => Cert.InFwdIdeal.Gen.frame m g, Cert.InFwdProof.frame_ref, fun m g _ => Cert.InFwdProof.frame_ref m g trivial,
  trivial, Cert.ForgetProof.algebraic,
  trivial, Cert.AttnProof.algebraic,
  trivial, Cert.InProjProof.algebraic,
  trivial, Cert.FfnBwdProof.algebraic,
  trivial, Cert.FfnFwdProof.algebraic,
  Cert.AttnFwdProof.preserves, Cert.AttnFwdProof.algebraic,
  trivial, Cert.CumulProof.algebraic,
  trivial, Cert.InFwdProof.algebraic⟩

end Cert.Proof

end
